-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite11 [hPre_finite11 : Cert.Pre_finite11.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3))).1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3))).2.1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3))).2.2 = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite11 [hPre_finite11 : Cert.Pre_finite11.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3))).1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3))).2.1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3))).2.2 = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite12 [hPre_finite12 : Cert.Pre_finite12.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4))).1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4))).2 = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite12 [hPre_finite12 : Cert.Pre_finite12.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4))).1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8)
      ∧ r.2.mem ((c.tc : Thread Cert.Kernel10.nD Cert.Kernel10.τ).loc Cert.Kernel10.main_arg9) = m ((c.tc : Thread Cert.Kernel10.nD Cert.Kernel10.τ).loc Cert.Kernel10.main_arg9)
      ∧ r.2.mem ((c.tc : Thread Cert.Kernel10.nD Cert.Kernel10.τ).loc Cert.Kernel10.main_arg10) = m ((c.tc : Thread Cert.Kernel10.nD Cert.Kernel10.τ).loc Cert.Kernel10.main_arg10)
      ∧ r.2.mem ((c.tc : Thread Cert.Kernel10.nD Cert.Kernel10.τ).loc Cert.Kernel10.main_arg11) = m ((c.tc : Thread Cert.Kernel10.nD Cert.Kernel10.τ).loc Cert.Kernel10.main_arg11)
      ∧ r.2.mem ((c.tc : Thread Cert.Kernel10.nD Cert.Kernel10.τ).loc Cert.Kernel10.main_arg12) = m ((c.tc : Thread Cert.Kernel10.nD Cert.Kernel10.τ).loc Cert.Kernel10.main_arg12)
      ∧ r.2.mem ((c.tc : Thread Cert.Kernel10.nD Cert.Kernel10.τ).loc Cert.Kernel10.main_arg13) = m ((c.tc : Thread Cert.Kernel10.nD Cert.Kernel10.τ).loc Cert.Kernel10.main_arg13)
      ∧ r.2.mem ((c.tc : Thread Cert.Kernel10.nD Cert.Kernel10.τ).loc Cert.Kernel10.main_arg14) = m ((c.tc : Thread Cert.Kernel10.nD Cert.Kernel10.τ).loc Cert.Kernel10.main_arg14)
      ∧ r.2.mem ((c.tc : Thread Cert.Kernel10.nD Cert.Kernel10.τ).loc Cert.Kernel10.main_arg15) = m ((c.tc : Thread Cert.Kernel10.nD Cert.Kernel10.τ).loc Cert.Kernel10.main_arg15)
      ∧ r.2.mem ((c.tc : Thread Cert.Kernel10.nD Cert.Kernel10.τ).loc Cert.Kernel10.main_arg16) = m ((c.tc : Thread Cert.Kernel10.nD Cert.Kernel10.τ).loc Cert.Kernel10.main_arg16)
      ∧ r.2.mem ((c.tc : Thread Cert.Kernel10.nD Cert.Kernel10.τ).loc Cert.Kernel10.main_arg17) = m ((c.tc : Thread Cert.Kernel10.nD Cert.Kernel10.τ).loc Cert.Kernel10.main_arg17)
      ∧ r.2.mem ((c.tc : Thread Cert.Kernel10.nD Cert.Kernel10.τ).loc Cert.Kernel10.main_arg18) = m ((c.tc : Thread Cert.Kernel10.nD Cert.Kernel10.τ).loc Cert.Kernel10.main_arg18)
      ∧ r.2.mem ((c.tc : Thread Cert.Kernel10.nD Cert.Kernel10.τ).loc Cert.Kernel10.main_arg19) = m ((c.tc : Thread Cert.Kernel10.nD Cert.Kernel10.τ).loc Cert.Kernel10.main_arg19)
      ∧ r.2.mem ((c.tc : Thread Cert.Kernel10.nD Cert.Kernel10.τ).loc Cert.Kernel10.main_arg20) = m ((c.tc : Thread Cert.Kernel10.nD Cert.Kernel10.τ).loc Cert.Kernel10.main_arg20)
      ∧ r.2.mem ((c.tc : Thread Cert.Kernel10.nD Cert.Kernel10.τ).loc Cert.Kernel10.main_arg21) = m ((c.tc : Thread Cert.Kernel10.nD Cert.Kernel10.τ).loc Cert.Kernel10.main_arg21)
      ∧ r.2.mem ((c.tc : Thread Cert.Kernel10.nD Cert.Kernel10.τ).loc Cert.Kernel10.main_arg22) = m ((c.tc : Thread Cert.Kernel10.nD Cert.Kernel10.τ).loc Cert.Kernel10.main_arg22)
      ∧ r.2.mem ((c.tc : Thread Cert.Kernel10.nD Cert.Kernel10.τ).loc Cert.Kernel10.main_arg23) = m ((c.tc : Thread Cert.Kernel10.nD Cert.Kernel10.τ).loc Cert.Kernel10.main_arg23)
      ∧ r.2.mem ((c.tc : Thread Cert.Kernel10.nD Cert.Kernel10.τ).loc Cert.Kernel10.main_arg24) = m ((c.tc : Thread Cert.Kernel10.nD Cert.Kernel10.τ).loc Cert.Kernel10.main_arg24)
      ∧ r.2.mem ((c.tc : Thread Cert.Kernel10.nD Cert.Kernel10.τ).loc Cert.Kernel10.main_arg25) = m ((c.tc : Thread Cert.Kernel10.nD Cert.Kernel10.τ).loc Cert.Kernel10.main_arg25)
      ∧ r.2.mem ((c.tc : Thread Cert.Kernel10.nD Cert.Kernel10.τ).loc Cert.Kernel10.main_arg26) = m ((c.tc : Thread Cert.Kernel10.nD Cert.Kernel10.τ).loc Cert.Kernel10.main_arg26)
      ∧ r.2.mem ((c.tc : Thread Cert.Kernel10.nD Cert.Kernel10.τ).loc Cert.Kernel10.main_arg27) = m ((c.tc : Thread Cert.Kernel10.nD Cert.Kernel10.τ).loc Cert.Kernel10.main_arg27)
      ∧ r.2.mem ((c.tc : Thread Cert.Kernel10.nD Cert.Kernel10.τ).loc Cert.Kernel10.main_arg28) = m ((c.tc : Thread Cert.Kernel10.nD Cert.Kernel10.τ).loc Cert.Kernel10.main_arg28)
      ∧ r.2.mem ((c.tc : Thread Cert.Kernel10.nD Cert.Kernel10.τ).loc Cert.Kernel10.main_arg29) = m ((c.tc : Thread Cert.Kernel10.nD Cert.Kernel10.τ).loc Cert.Kernel10.main_arg29)
      ∧ r.2.mem ((c.tc : Thread Cert.Kernel10.nD Cert.Kernel10.τ).loc Cert.Kernel10.main_arg30) = m ((c.tc : Thread Cert.Kernel10.nD Cert.Kernel10.τ).loc Cert.Kernel10.main_arg30)
      ∧ r.2.mem ((c.tc : Thread Cert.Kernel10.nD Cert.Kernel10.τ).loc Cert.Kernel10.main_arg31) = m ((c.tc : Thread Cert.Kernel10.nD Cert.Kernel10.τ).loc Cert.Kernel10.main_arg31)
      ∧ r.2.mem ((c.tc : Thread Cert.Kernel10.nD Cert.Kernel10.τ).loc Cert.Kernel10.main_arg32) = m ((c.tc : Thread Cert.Kernel10.nD Cert.Kernel10.τ).loc Cert.Kernel10.main_arg32)
      ∧ r.2.mem ((c.tc : Thread Cert.Kernel10.nD Cert.Kernel10.τ).loc Cert.Kernel10.main_arg33) = m ((c.tc : Thread Cert.Kernel10.nD Cert.Kernel10.τ).loc Cert.Kernel10.main_arg33)
      ∧ r.2.mem ((c.tc : Thread Cert.Kernel10.nD Cert.Kernel10.τ).loc Cert.Kernel10.main_arg34) = m ((c.tc : Thread Cert.Kernel10.nD Cert.Kernel10.τ).loc Cert.Kernel10.main_arg34)
      ∧ r.2.mem ((c.tc : Thread Cert.Kernel10.nD Cert.Kernel10.τ).loc Cert.Kernel10.main_arg35) = m ((c.tc : Thread Cert.Kernel10.nD Cert.Kernel10.τ).loc Cert.Kernel10.main_arg35)
      ∧ r.2.mem ((c.tc : Thread Cert.Kernel10.nD Cert.Kernel10.τ).loc Cert.Kernel10.main_arg36) = m ((c.tc : Thread Cert.Kernel10.nD Cert.Kernel10.τ).loc Cert.Kernel10.main_arg36)
      ∧ r.2.mem ((c.tc : Thread Cert.Kernel10.nD Cert.Kernel10.τ).loc Cert.Kernel10.main_arg37) = m ((c.tc : Thread Cert.Kernel10.nD Cert.Kernel10.τ).loc Cert.Kernel10.main_arg37)
      ∧ r.2.mem ((c.tc : Thread Cert.Kernel10.nD Cert.Kernel10.τ).loc Cert.Kernel10.main_arg38) = m ((c.tc : Thread Cert.Kernel10.nD Cert.Kernel10.τ).loc Cert.Kernel10.main_arg38)
      ∧ r.2.mem ((c.tc : Thread Cert.Kernel10.nD Cert.Kernel10.τ).loc Cert.Kernel10.main_arg39) = m ((c.tc : Thread Cert.Kernel10.nD Cert.Kernel10.τ).loc Cert.Kernel10.main_arg39)
      ∧ r.2.mem ((c.tc : Thread Cert.Kernel10.nD Cert.Kernel10.τ).loc Cert.Kernel10.main_arg40) = m ((c.tc : Thread Cert.Kernel10.nD Cert.Kernel10.τ).loc Cert.Kernel10.main_arg40)
      ∧ r.2.mem ((c.tc : Thread Cert.Kernel10.nD Cert.Kernel10.τ).loc Cert.Kernel10.main_arg41) = m ((c.tc : Thread Cert.Kernel10.nD Cert.Kernel10.τ).loc Cert.Kernel10.main_arg41)
      ∧ r.2.mem ((c.tc : Thread Cert.Kernel10.nD Cert.Kernel10.τ).loc Cert.Kernel10.main_arg42) = m ((c.tc : Thread Cert.Kernel10.nD Cert.Kernel10.τ).loc Cert.Kernel10.main_arg42)
      ∧ r.2.mem ((c.tc : Thread Cert.Kernel10.nD Cert.Kernel10.τ).loc Cert.Kernel10.main_arg43) = m ((c.tc : Thread Cert.Kernel10.nD Cert.Kernel10.τ).loc Cert.Kernel10.main_arg43)
      ∧ r.2.mem ((c.tc : Thread Cert.Kernel10.nD Cert.Kernel10.τ).loc Cert.Kernel10.main_arg44) = m ((c.tc : Thread Cert.Kernel10.nD Cert.Kernel10.τ).loc Cert.Kernel10.main_arg44)
      ∧ r.2.mem ((c.tc : Thread Cert.Kernel10.nD Cert.Kernel10.τ).loc Cert.Kernel10.main_arg45) = m ((c.tc : Thread Cert.Kernel10.nD Cert.Kernel10.τ).loc Cert.Kernel10.main_arg45)
      ∧ r.2.mem ((c.tc : Thread Cert.Kernel10.nD Cert.Kernel10.τ).loc Cert.Kernel10.main_arg46) = m ((c.tc : Thread Cert.Kernel10.nD Cert.Kernel10.τ).loc Cert.Kernel10.main_arg46)
      ∧ r.2.mem ((c.tc : Thread Cert.Kernel10.nD Cert.Kernel10.τ).loc Cert.Kernel10.main_arg47) = m ((c.tc : Thread Cert.Kernel10.nD Cert.Kernel10.τ).loc Cert.Kernel10.main_arg47))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
      ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10)
      ∧ r.2.mem ((c.tc : Thread Cert.Kernel10Ideal.nD Cert.Kernel10Ideal.τ).loc Cert.Kernel10Ideal.main_arg11) = m ((c.tc : Thread Cert.Kernel10Ideal.nD Cert.Kernel10Ideal.τ).loc Cert.Kernel10Ideal.main_arg11)
      ∧ r.2.mem ((c.tc : Thread Cert.Kernel10Ideal.nD Cert.Kernel10Ideal.τ).loc Cert.Kernel10Ideal.main_arg12) = m ((c.tc : Thread Cert.Kernel10Ideal.nD Cert.Kernel10Ideal.τ).loc Cert.Kernel10Ideal.main_arg12)
      ∧ r.2.mem ((c.tc : Thread Cert.Kernel10Ideal.nD Cert.Kernel10Ideal.τ).loc Cert.Kernel10Ideal.main_arg13) = m ((c.tc : Thread Cert.Kernel10Ideal.nD Cert.Kernel10Ideal.τ).loc Cert.Kernel10Ideal.main_arg13)
      ∧ r.2.mem ((c.tc : Thread Cert.Kernel10Ideal.nD Cert.Kernel10Ideal.τ).loc Cert.Kernel10Ideal.main_arg14) = m ((c.tc : Thread Cert.Kernel10Ideal.nD Cert.Kernel10Ideal.τ).loc Cert.Kernel10Ideal.main_arg14)
      ∧ r.2.mem ((c.tc : Thread Cert.Kernel10Ideal.nD Cert.Kernel10Ideal.τ).loc Cert.Kernel10Ideal.main_arg15) = m ((c.tc : Thread Cert.Kernel10Ideal.nD Cert.Kernel10Ideal.τ).loc Cert.Kernel10Ideal.main_arg15)
      ∧ r.2.mem ((c.tc : Thread Cert.Kernel10Ideal.nD Cert.Kernel10Ideal.τ).loc Cert.Kernel10Ideal.main_arg16) = m ((c.tc : Thread Cert.Kernel10Ideal.nD Cert.Kernel10Ideal.τ).loc Cert.Kernel10Ideal.main_arg16)
      ∧ r.2.mem ((c.tc : Thread Cert.Kernel10Ideal.nD Cert.Kernel10Ideal.τ).loc Cert.Kernel10Ideal.main_arg17) = m ((c.tc : Thread Cert.Kernel10Ideal.nD Cert.Kernel10Ideal.τ).loc Cert.Kernel10Ideal.main_arg17)
      ∧ r.2.mem ((c.tc : Thread Cert.Kernel10Ideal.nD Cert.Kernel10Ideal.τ).loc Cert.Kernel10Ideal.main_arg18) = m ((c.tc : Thread Cert.Kernel10Ideal.nD Cert.Kernel10Ideal.τ).loc Cert.Kernel10Ideal.main_arg18)
      ∧ r.2.mem ((c.tc : Thread Cert.Kernel10Ideal.nD Cert.Kernel10Ideal.τ).loc Cert.Kernel10Ideal.main_arg19) = m ((c.tc : Thread Cert.Kernel10Ideal.nD Cert.Kernel10Ideal.τ).loc Cert.Kernel10Ideal.main_arg19)
      ∧ r.2.mem ((c.tc : Thread Cert.Kernel10Ideal.nD Cert.Kernel10Ideal.τ).loc Cert.Kernel10Ideal.main_arg20) = m ((c.tc : Thread Cert.Kernel10Ideal.nD Cert.Kernel10Ideal.τ).loc Cert.Kernel10Ideal.main_arg20)
      ∧ r.2.mem ((c.tc : Thread Cert.Kernel10Ideal.nD Cert.Kernel10Ideal.τ).loc Cert.Kernel10Ideal.main_arg21) = m ((c.tc : Thread Cert.Kernel10Ideal.nD Cert.Kernel10Ideal.τ).loc Cert.Kernel10Ideal.main_arg21)
      ∧ r.2.mem ((c.tc : Thread Cert.Kernel10Ideal.nD Cert.Kernel10Ideal.τ).loc Cert.Kernel10Ideal.main_arg22) = m ((c.tc : Thread Cert.Kernel10Ideal.nD Cert.Kernel10Ideal.τ).loc Cert.Kernel10Ideal.main_arg22)
      ∧ r.2.mem ((c.tc : Thread Cert.Kernel10Ideal.nD Cert.Kernel10Ideal.τ).loc Cert.Kernel10Ideal.main_arg23) = m ((c.tc : Thread Cert.Kernel10Ideal.nD Cert.Kernel10Ideal.τ).loc Cert.Kernel10Ideal.main_arg23)
      ∧ r.2.mem ((c.tc : Thread Cert.Kernel10Ideal.nD Cert.Kernel10Ideal.τ).loc Cert.Kernel10Ideal.main_arg24) = m ((c.tc : Thread Cert.Kernel10Ideal.nD Cert.Kernel10Ideal.τ).loc Cert.Kernel10Ideal.main_arg24)
      ∧ r.2.mem ((c.tc : Thread Cert.Kernel10Ideal.nD Cert.Kernel10Ideal.τ).loc Cert.Kernel10Ideal.main_arg25) = m ((c.tc : Thread Cert.Kernel10Ideal.nD Cert.Kernel10Ideal.τ).loc Cert.Kernel10Ideal.main_arg25)
      ∧ r.2.mem ((c.tc : Thread Cert.Kernel10Ideal.nD Cert.Kernel10Ideal.τ).loc Cert.Kernel10Ideal.main_arg26) = m ((c.tc : Thread Cert.Kernel10Ideal.nD Cert.Kernel10Ideal.τ).loc Cert.Kernel10Ideal.main_arg26)
      ∧ r.2.mem ((c.tc : Thread Cert.Kernel10Ideal.nD Cert.Kernel10Ideal.τ).loc Cert.Kernel10Ideal.main_arg27) = m ((c.tc : Thread Cert.Kernel10Ideal.nD Cert.Kernel10Ideal.τ).loc Cert.Kernel10Ideal.main_arg27)
      ∧ r.2.mem ((c.tc : Thread Cert.Kernel10Ideal.nD Cert.Kernel10Ideal.τ).loc Cert.Kernel10Ideal.main_arg28) = m ((c.tc : Thread Cert.Kernel10Ideal.nD Cert.Kernel10Ideal.τ).loc Cert.Kernel10Ideal.main_arg28)
      ∧ r.2.mem ((c.tc : Thread Cert.Kernel10Ideal.nD Cert.Kernel10Ideal.τ).loc Cert.Kernel10Ideal.main_arg29) = m ((c.tc : Thread Cert.Kernel10Ideal.nD Cert.Kernel10Ideal.τ).loc Cert.Kernel10Ideal.main_arg29)
      ∧ r.2.mem ((c.tc : Thread Cert.Kernel10Ideal.nD Cert.Kernel10Ideal.τ).loc Cert.Kernel10Ideal.main_arg30) = m ((c.tc : Thread Cert.Kernel10Ideal.nD Cert.Kernel10Ideal.τ).loc Cert.Kernel10Ideal.main_arg30)
      ∧ r.2.mem ((c.tc : Thread Cert.Kernel10Ideal.nD Cert.Kernel10Ideal.τ).loc Cert.Kernel10Ideal.main_arg31) = m ((c.tc : Thread Cert.Kernel10Ideal.nD Cert.Kernel10Ideal.τ).loc Cert.Kernel10Ideal.main_arg31)
      ∧ r.2.mem ((c.tc : Thread Cert.Kernel10Ideal.nD Cert.Kernel10Ideal.τ).loc Cert.Kernel10Ideal.main_arg32) = m ((c.tc : Thread Cert.Kernel10Ideal.nD Cert.Kernel10Ideal.τ).loc Cert.Kernel10Ideal.main_arg32)
      ∧ r.2.mem ((c.tc : Thread Cert.Kernel10Ideal.nD Cert.Kernel10Ideal.τ).loc Cert.Kernel10Ideal.main_arg33) = m ((c.tc : Thread Cert.Kernel10Ideal.nD Cert.Kernel10Ideal.τ).loc Cert.Kernel10Ideal.main_arg33)
      ∧ r.2.mem ((c.tc : Thread Cert.Kernel10Ideal.nD Cert.Kernel10Ideal.τ).loc Cert.Kernel10Ideal.main_arg34) = m ((c.tc : Thread Cert.Kernel10Ideal.nD Cert.Kernel10Ideal.τ).loc Cert.Kernel10Ideal.main_arg34)
      ∧ r.2.mem ((c.tc : Thread Cert.Kernel10Ideal.nD Cert.Kernel10Ideal.τ).loc Cert.Kernel10Ideal.main_arg35) = m ((c.tc : Thread Cert.Kernel10Ideal.nD Cert.Kernel10Ideal.τ).loc Cert.Kernel10Ideal.main_arg35)
      ∧ r.2.mem ((c.tc : Thread Cert.Kernel10Ideal.nD Cert.Kernel10Ideal.τ).loc Cert.Kernel10Ideal.main_arg36) = m ((c.tc : Thread Cert.Kernel10Ideal.nD Cert.Kernel10Ideal.τ).loc Cert.Kernel10Ideal.main_arg36)
      ∧ r.2.mem ((c.tc : Thread Cert.Kernel10Ideal.nD Cert.Kernel10Ideal.τ).loc Cert.Kernel10Ideal.main_arg37) = m ((c.tc : Thread Cert.Kernel10Ideal.nD Cert.Kernel10Ideal.τ).loc Cert.Kernel10Ideal.main_arg37)
      ∧ r.2.mem ((c.tc : Thread Cert.Kernel10Ideal.nD Cert.Kernel10Ideal.τ).loc Cert.Kernel10Ideal.main_arg38) = m ((c.tc : Thread Cert.Kernel10Ideal.nD Cert.Kernel10Ideal.τ).loc Cert.Kernel10Ideal.main_arg38)
      ∧ r.2.mem ((c.tc : Thread Cert.Kernel10Ideal.nD Cert.Kernel10Ideal.τ).loc Cert.Kernel10Ideal.main_arg39) = m ((c.tc : Thread Cert.Kernel10Ideal.nD Cert.Kernel10Ideal.τ).loc Cert.Kernel10Ideal.main_arg39)
      ∧ r.2.mem ((c.tc : Thread Cert.Kernel10Ideal.nD Cert.Kernel10Ideal.τ).loc Cert.Kernel10Ideal.main_arg40) = m ((c.tc : Thread Cert.Kernel10Ideal.nD Cert.Kernel10Ideal.τ).loc Cert.Kernel10Ideal.main_arg40)
      ∧ r.2.mem ((c.tc : Thread Cert.Kernel10Ideal.nD Cert.Kernel10Ideal.τ).loc Cert.Kernel10Ideal.main_arg41) = m ((c.tc : Thread Cert.Kernel10Ideal.nD Cert.Kernel10Ideal.τ).loc Cert.Kernel10Ideal.main_arg41)
      ∧ r.2.mem ((c.tc : Thread Cert.Kernel10Ideal.nD Cert.Kernel10Ideal.τ).loc Cert.Kernel10Ideal.main_arg42) = m ((c.tc : Thread Cert.Kernel10Ideal.nD Cert.Kernel10Ideal.τ).loc Cert.Kernel10Ideal.main_arg42)
      ∧ r.2.mem ((c.tc : Thread Cert.Kernel10Ideal.nD Cert.Kernel10Ideal.τ).loc Cert.Kernel10Ideal.main_arg43) = m ((c.tc : Thread Cert.Kernel10Ideal.nD Cert.Kernel10Ideal.τ).loc Cert.Kernel10Ideal.main_arg43)
      ∧ r.2.mem ((c.tc : Thread Cert.Kernel10Ideal.nD Cert.Kernel10Ideal.τ).loc Cert.Kernel10Ideal.main_arg44) = m ((c.tc : Thread Cert.Kernel10Ideal.nD Cert.Kernel10Ideal.τ).loc Cert.Kernel10Ideal.main_arg44)
      ∧ r.2.mem ((c.tc : Thread Cert.Kernel10Ideal.nD Cert.Kernel10Ideal.τ).loc Cert.Kernel10Ideal.main_arg45) = m ((c.tc : Thread Cert.Kernel10Ideal.nD Cert.Kernel10Ideal.τ).loc Cert.Kernel10Ideal.main_arg45)
      ∧ r.2.mem ((c.tc : Thread Cert.Kernel10Ideal.nD Cert.Kernel10Ideal.τ).loc Cert.Kernel10Ideal.main_arg46) = m ((c.tc : Thread Cert.Kernel10Ideal.nD Cert.Kernel10Ideal.τ).loc Cert.Kernel10Ideal.main_arg46)
      ∧ r.2.mem ((c.tc : Thread Cert.Kernel10Ideal.nD Cert.Kernel10Ideal.τ).loc Cert.Kernel10Ideal.main_arg47) = m ((c.tc : Thread Cert.Kernel10Ideal.nD Cert.Kernel10Ideal.τ).loc Cert.Kernel10Ideal.main_arg47))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9)
      ∧ r.2.mem ((c.tc : Thread Cert.Reference10Ideal.nD Cert.Reference10Ideal.τ).loc Cert.Reference10Ideal.main_arg10) = m ((c.tc : Thread Cert.Reference10Ideal.nD Cert.Reference10Ideal.τ).loc Cert.Reference10Ideal.main_arg10)
      ∧ r.2.mem ((c.tc : Thread Cert.Reference10Ideal.nD Cert.Reference10Ideal.τ).loc Cert.Reference10Ideal.main_arg11) = m ((c.tc : Thread Cert.Reference10Ideal.nD Cert.Reference10Ideal.τ).loc Cert.Reference10Ideal.main_arg11)
      ∧ r.2.mem ((c.tc : Thread Cert.Reference10Ideal.nD Cert.Reference10Ideal.τ).loc Cert.Reference10Ideal.main_arg12) = m ((c.tc : Thread Cert.Reference10Ideal.nD Cert.Reference10Ideal.τ).loc Cert.Reference10Ideal.main_arg12)
      ∧ r.2.mem ((c.tc : Thread Cert.Reference10Ideal.nD Cert.Reference10Ideal.τ).loc Cert.Reference10Ideal.main_arg13) = m ((c.tc : Thread Cert.Reference10Ideal.nD Cert.Reference10Ideal.τ).loc Cert.Reference10Ideal.main_arg13)
      ∧ r.2.mem ((c.tc : Thread Cert.Reference10Ideal.nD Cert.Reference10Ideal.τ).loc Cert.Reference10Ideal.main_arg14) = m ((c.tc : Thread Cert.Reference10Ideal.nD Cert.Reference10Ideal.τ).loc Cert.Reference10Ideal.main_arg14)
      ∧ r.2.mem ((c.tc : Thread Cert.Reference10Ideal.nD Cert.Reference10Ideal.τ).loc Cert.Reference10Ideal.main_arg15) = m ((c.tc : Thread Cert.Reference10Ideal.nD Cert.Reference10Ideal.τ).loc Cert.Reference10Ideal.main_arg15)
      ∧ r.2.mem ((c.tc : Thread Cert.Reference10Ideal.nD Cert.Reference10Ideal.τ).loc Cert.Reference10Ideal.main_arg16) = m ((c.tc : Thread Cert.Reference10Ideal.nD Cert.Reference10Ideal.τ).loc Cert.Reference10Ideal.main_arg16)
      ∧ r.2.mem ((c.tc : Thread Cert.Reference10Ideal.nD Cert.Reference10Ideal.τ).loc Cert.Reference10Ideal.main_arg17) = m ((c.tc : Thread Cert.Reference10Ideal.nD Cert.Reference10Ideal.τ).loc Cert.Reference10Ideal.main_arg17)
      ∧ r.2.mem ((c.tc : Thread Cert.Reference10Ideal.nD Cert.Reference10Ideal.τ).loc Cert.Reference10Ideal.main_arg18) = m ((c.tc : Thread Cert.Reference10Ideal.nD Cert.Reference10Ideal.τ).loc Cert.Reference10Ideal.main_arg18)
      ∧ r.2.mem ((c.tc : Thread Cert.Reference10Ideal.nD Cert.Reference10Ideal.τ).loc Cert.Reference10Ideal.main_arg19) = m ((c.tc : Thread Cert.Reference10Ideal.nD Cert.Reference10Ideal.τ).loc Cert.Reference10Ideal.main_arg19)
      ∧ r.2.mem ((c.tc : Thread Cert.Reference10Ideal.nD Cert.Reference10Ideal.τ).loc Cert.Reference10Ideal.main_arg20) = m ((c.tc : Thread Cert.Reference10Ideal.nD Cert.Reference10Ideal.τ).loc Cert.Reference10Ideal.main_arg20)
      ∧ r.2.mem ((c.tc : Thread Cert.Reference10Ideal.nD Cert.Reference10Ideal.τ).loc Cert.Reference10Ideal.main_arg21) = m ((c.tc : Thread Cert.Reference10Ideal.nD Cert.Reference10Ideal.τ).loc Cert.Reference10Ideal.main_arg21)
      ∧ r.2.mem ((c.tc : Thread Cert.Reference10Ideal.nD Cert.Reference10Ideal.τ).loc Cert.Reference10Ideal.main_arg22) = m ((c.tc : Thread Cert.Reference10Ideal.nD Cert.Reference10Ideal.τ).loc Cert.Reference10Ideal.main_arg22)
      ∧ r.2.mem ((c.tc : Thread Cert.Reference10Ideal.nD Cert.Reference10Ideal.τ).loc Cert.Reference10Ideal.main_arg23) = m ((c.tc : Thread Cert.Reference10Ideal.nD Cert.Reference10Ideal.τ).loc Cert.Reference10Ideal.main_arg23)
      ∧ r.2.mem ((c.tc : Thread Cert.Reference10Ideal.nD Cert.Reference10Ideal.τ).loc Cert.Reference10Ideal.main_arg24) = m ((c.tc : Thread Cert.Reference10Ideal.nD Cert.Reference10Ideal.τ).loc Cert.Reference10Ideal.main_arg24)
      ∧ r.2.mem ((c.tc : Thread Cert.Reference10Ideal.nD Cert.Reference10Ideal.τ).loc Cert.Reference10Ideal.main_arg25) = m ((c.tc : Thread Cert.Reference10Ideal.nD Cert.Reference10Ideal.τ).loc Cert.Reference10Ideal.main_arg25)
      ∧ r.2.mem ((c.tc : Thread Cert.Reference10Ideal.nD Cert.Reference10Ideal.τ).loc Cert.Reference10Ideal.main_arg26) = m ((c.tc : Thread Cert.Reference10Ideal.nD Cert.Reference10Ideal.τ).loc Cert.Reference10Ideal.main_arg26)
      ∧ r.2.mem ((c.tc : Thread Cert.Reference10Ideal.nD Cert.Reference10Ideal.τ).loc Cert.Reference10Ideal.main_arg27) = m ((c.tc : Thread Cert.Reference10Ideal.nD Cert.Reference10Ideal.τ).loc Cert.Reference10Ideal.main_arg27)
      ∧ r.2.mem ((c.tc : Thread Cert.Reference10Ideal.nD Cert.Reference10Ideal.τ).loc Cert.Reference10Ideal.main_arg28) = m ((c.tc : Thread Cert.Reference10Ideal.nD Cert.Reference10Ideal.τ).loc Cert.Reference10Ideal.main_arg28)
      ∧ r.2.mem ((c.tc : Thread Cert.Reference10Ideal.nD Cert.Reference10Ideal.τ).loc Cert.Reference10Ideal.main_arg29) = m ((c.tc : Thread Cert.Reference10Ideal.nD Cert.Reference10Ideal.τ).loc Cert.Reference10Ideal.main_arg29)
      ∧ r.2.mem ((c.tc : Thread Cert.Reference10Ideal.nD Cert.Reference10Ideal.τ).loc Cert.Reference10Ideal.main_arg30) = m ((c.tc : Thread Cert.Reference10Ideal.nD Cert.Reference10Ideal.τ).loc Cert.Reference10Ideal.main_arg30)
      ∧ r.2.mem ((c.tc : Thread Cert.Reference10Ideal.nD Cert.Reference10Ideal.τ).loc Cert.Reference10Ideal.main_arg31) = m ((c.tc : Thread Cert.Reference10Ideal.nD Cert.Reference10Ideal.τ).loc Cert.Reference10Ideal.main_arg31)
      ∧ r.2.mem ((c.tc : Thread Cert.Reference10Ideal.nD Cert.Reference10Ideal.τ).loc Cert.Reference10Ideal.main_arg32) = m ((c.tc : Thread Cert.Reference10Ideal.nD Cert.Reference10Ideal.τ).loc Cert.Reference10Ideal.main_arg32)
      ∧ r.2.mem ((c.tc : Thread Cert.Reference10Ideal.nD Cert.Reference10Ideal.τ).loc Cert.Reference10Ideal.main_arg33) = m ((c.tc : Thread Cert.Reference10Ideal.nD Cert.Reference10Ideal.τ).loc Cert.Reference10Ideal.main_arg33)
      ∧ r.2.mem ((c.tc : Thread Cert.Reference10Ideal.nD Cert.Reference10Ideal.τ).loc Cert.Reference10Ideal.main_arg34) = m ((c.tc : Thread Cert.Reference10Ideal.nD Cert.Reference10Ideal.τ).loc Cert.Reference10Ideal.main_arg34)
      ∧ r.2.mem ((c.tc : Thread Cert.Reference10Ideal.nD Cert.Reference10Ideal.τ).loc Cert.Reference10Ideal.main_arg35) = m ((c.tc : Thread Cert.Reference10Ideal.nD Cert.Reference10Ideal.τ).loc Cert.Reference10Ideal.main_arg35)
      ∧ r.2.mem ((c.tc : Thread Cert.Reference10Ideal.nD Cert.Reference10Ideal.τ).loc Cert.Reference10Ideal.main_arg36) = m ((c.tc : Thread Cert.Reference10Ideal.nD Cert.Reference10Ideal.τ).loc Cert.Reference10Ideal.main_arg36)
      ∧ r.2.mem ((c.tc : Thread Cert.Reference10Ideal.nD Cert.Reference10Ideal.τ).loc Cert.Reference10Ideal.main_arg37) = m ((c.tc : Thread Cert.Reference10Ideal.nD Cert.Reference10Ideal.τ).loc Cert.Reference10Ideal.main_arg37)
      ∧ r.2.mem ((c.tc : Thread Cert.Reference10Ideal.nD Cert.Reference10Ideal.τ).loc Cert.Reference10Ideal.main_arg38) = m ((c.tc : Thread Cert.Reference10Ideal.nD Cert.Reference10Ideal.τ).loc Cert.Reference10Ideal.main_arg38)
      ∧ r.2.mem ((c.tc : Thread Cert.Reference10Ideal.nD Cert.Reference10Ideal.τ).loc Cert.Reference10Ideal.main_arg39) = m ((c.tc : Thread Cert.Reference10Ideal.nD Cert.Reference10Ideal.τ).loc Cert.Reference10Ideal.main_arg39)
      ∧ r.2.mem ((c.tc : Thread Cert.Reference10Ideal.nD Cert.Reference10Ideal.τ).loc Cert.Reference10Ideal.main_arg40) = m ((c.tc : Thread Cert.Reference10Ideal.nD Cert.Reference10Ideal.τ).loc Cert.Reference10Ideal.main_arg40)
      ∧ r.2.mem ((c.tc : Thread Cert.Reference10Ideal.nD Cert.Reference10Ideal.τ).loc Cert.Reference10Ideal.main_arg41) = m ((c.tc : Thread Cert.Reference10Ideal.nD Cert.Reference10Ideal.τ).loc Cert.Reference10Ideal.main_arg41)
      ∧ r.2.mem ((c.tc : Thread Cert.Reference10Ideal.nD Cert.Reference10Ideal.τ).loc Cert.Reference10Ideal.main_arg42) = m ((c.tc : Thread Cert.Reference10Ideal.nD Cert.Reference10Ideal.τ).loc Cert.Reference10Ideal.main_arg42)
      ∧ r.2.mem ((c.tc : Thread Cert.Reference10Ideal.nD Cert.Reference10Ideal.τ).loc Cert.Reference10Ideal.main_arg43) = m ((c.tc : Thread Cert.Reference10Ideal.nD Cert.Reference10Ideal.τ).loc Cert.Reference10Ideal.main_arg43)
      ∧ r.2.mem ((c.tc : Thread Cert.Reference10Ideal.nD Cert.Reference10Ideal.τ).loc Cert.Reference10Ideal.main_arg44) = m ((c.tc : Thread Cert.Reference10Ideal.nD Cert.Reference10Ideal.τ).loc Cert.Reference10Ideal.main_arg44)
      ∧ r.2.mem ((c.tc : Thread Cert.Reference10Ideal.nD Cert.Reference10Ideal.τ).loc Cert.Reference10Ideal.main_arg45) = m ((c.tc : Thread Cert.Reference10Ideal.nD Cert.Reference10Ideal.τ).loc Cert.Reference10Ideal.main_arg45)
      ∧ r.2.mem ((c.tc : Thread Cert.Reference10Ideal.nD Cert.Reference10Ideal.τ).loc Cert.Reference10Ideal.main_arg46) = m ((c.tc : Thread Cert.Reference10Ideal.nD Cert.Reference10Ideal.τ).loc Cert.Reference10Ideal.main_arg46)
      ∧ r.2.mem ((c.tc : Thread Cert.Reference10Ideal.nD Cert.Reference10Ideal.τ).loc Cert.Reference10Ideal.main_arg47) = m ((c.tc : Thread Cert.Reference10Ideal.nD Cert.Reference10Ideal.τ).loc Cert.Reference10Ideal.main_arg47))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Kernel11Ideal_pre_finite11 [hKernel11Ideal : Cert.Kernel11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite11 m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Reference11Ideal_pre_finite11 [hReference11Ideal : Cert.Reference11Ideal.Facts] [hPre_finite11 : Cert.Pre_finite11.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite11 m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Kernel12Ideal_pre_finite12 [hKernel12Ideal : Cert.Kernel12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite12 m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Reference12Ideal_pre_finite12 [hReference12Ideal : Cert.Reference12Ideal.Facts] [hPre_finite12 : Cert.Pre_finite12.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite12 m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v69_0)) (v1 : (c : Dev Cert.KernelIdeal.nD) → Buf (Elt Ideal) ((c.tc : Thread Cert.KernelIdeal.nD Cert.KernelIdeal.τ).loc Cert.KernelIdeal.main_v71)) (v2 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69_0) = v0 c
          ∧ r.2.mem ((c.tc : Thread Cert.KernelIdeal.nD Cert.KernelIdeal.τ).loc Cert.KernelIdeal.main_v71) = v1 c
          ∧ r.2.mem ((c.tc : Thread Cert.KernelIdeal.nD Cert.KernelIdeal.τ).loc Cert.KernelIdeal.main_v73) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_v43) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v33_0)) (v1 : (c : Dev Cert.Kernel2Ideal.nD) → Buf (Elt Ideal) ((c.tc : Thread Cert.Kernel2Ideal.nD Cert.Kernel2Ideal.τ).loc Cert.Kernel2Ideal.main_v33_1)) (v2 : (c : Dev Cert.Kernel2Ideal.nD) → Buf (Elt Ideal) ((c.tc : Thread Cert.Kernel2Ideal.nD Cert.Kernel2Ideal.τ).loc Cert.Kernel2Ideal.main_v40)) (v3 : (c : Dev Cert.Kernel2Ideal.nD) → Buf (Elt Ideal) ((c.tc : Thread Cert.Kernel2Ideal.nD Cert.Kernel2Ideal.τ).loc Cert.Kernel2Ideal.main_v41)) (v4 : (c : Dev Cert.Kernel2Ideal.nD) → Buf (Elt Ideal) ((c.tc : Thread Cert.Kernel2Ideal.nD Cert.Kernel2Ideal.τ).loc Cert.Kernel2Ideal.main_v42)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v33_0) = v0 c
          ∧ r.2.mem ((c.tc : Thread Cert.Kernel2Ideal.nD Cert.Kernel2Ideal.τ).loc Cert.Kernel2Ideal.main_v33_1) = v1 c
          ∧ r.2.mem ((c.tc : Thread Cert.Kernel2Ideal.nD Cert.Kernel2Ideal.τ).loc Cert.Kernel2Ideal.main_v40) = v2 c
          ∧ r.2.mem ((c.tc : Thread Cert.Kernel2Ideal.nD Cert.Kernel2Ideal.τ).loc Cert.Kernel2Ideal.main_v41) = v3 c
          ∧ r.2.mem ((c.tc : Thread Cert.Kernel2Ideal.nD Cert.Kernel2Ideal.τ).loc Cert.Kernel2Ideal.main_v42) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_v30) = v1 c
          ∧ r.2.mem ((c.tc : Thread Cert.Reference2Ideal.nD Cert.Reference2Ideal.τ).loc Cert.Reference2Ideal.main_v7) = v2 c
          ∧ r.2.mem ((c.tc : Thread Cert.Reference2Ideal.nD Cert.Reference2Ideal.τ).loc Cert.Reference2Ideal.main_v8) = v3 c
          ∧ r.2.mem ((c.tc : Thread Cert.Reference2Ideal.nD Cert.Reference2Ideal.τ).loc Cert.Reference2Ideal.main_v5) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v26)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v26) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v11)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v11) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v5)) (v1 : (c : Dev Cert.Kernel5Ideal.nD) → Buf (Elt Ideal) ((c.tc : Thread Cert.Kernel5Ideal.nD Cert.Kernel5Ideal.τ).loc Cert.Kernel5Ideal.main_v6)) (v2 : (c : Dev Cert.Kernel5Ideal.nD) → Buf (Elt Ideal) ((c.tc : Thread Cert.Kernel5Ideal.nD Cert.Kernel5Ideal.τ).loc Cert.Kernel5Ideal.main_v7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_v6) = v1 c
          ∧ r.2.mem ((c.tc : Thread Cert.Kernel5Ideal.nD Cert.Kernel5Ideal.τ).loc Cert.Kernel5Ideal.main_v7) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v23) = v0 c
          ∧ r.2.mem ((c.tc : Thread Cert.Reference5Ideal.nD Cert.Reference5Ideal.τ).loc Cert.Reference5Ideal.main_v4) = v1 c
          ∧ r.2.mem ((c.tc : Thread Cert.Reference5Ideal.nD Cert.Reference5Ideal.τ).loc Cert.Reference5Ideal.main_v10) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v5)) (v1 : (c : Dev Cert.Kernel6Ideal.nD) → Buf (Elt Ideal) ((c.tc : Thread Cert.Kernel6Ideal.nD Cert.Kernel6Ideal.τ).loc Cert.Kernel6Ideal.main_v6)) (v2 : (c : Dev Cert.Kernel6Ideal.nD) → Buf (Elt Ideal) ((c.tc : Thread Cert.Kernel6Ideal.nD Cert.Kernel6Ideal.τ).loc Cert.Kernel6Ideal.main_v7)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5) = v0 c
          ∧ r.2.mem ((c.tc : Thread Cert.Kernel6Ideal.nD Cert.Kernel6Ideal.τ).loc Cert.Kernel6Ideal.main_v6) = v1 c
          ∧ r.2.mem ((c.tc : Thread Cert.Kernel6Ideal.nD Cert.Kernel6Ideal.τ).loc Cert.Kernel6Ideal.main_v7) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v23) = v0 c
          ∧ r.2.mem ((c.tc : Thread Cert.Reference6Ideal.nD Cert.Reference6Ideal.τ).loc Cert.Reference6Ideal.main_v4) = v1 c
          ∧ r.2.mem ((c.tc : Thread Cert.Reference6Ideal.nD Cert.Reference6Ideal.τ).loc Cert.Reference6Ideal.main_v10) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v5)) (v1 : (c : Dev Cert.Kernel7Ideal.nD) → Buf (Elt Ideal) ((c.tc : Thread Cert.Kernel7Ideal.nD Cert.Kernel7Ideal.τ).loc Cert.Kernel7Ideal.main_v6)) (v2 : (c : Dev Cert.Kernel7Ideal.nD) → Buf (Elt Ideal) ((c.tc : Thread Cert.Kernel7Ideal.nD Cert.Kernel7Ideal.τ).loc Cert.Kernel7Ideal.main_v7)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5) = v0 c
          ∧ r.2.mem ((c.tc : Thread Cert.Kernel7Ideal.nD Cert.Kernel7Ideal.τ).loc Cert.Kernel7Ideal.main_v6) = v1 c
          ∧ r.2.mem ((c.tc : Thread Cert.Kernel7Ideal.nD Cert.Kernel7Ideal.τ).loc Cert.Kernel7Ideal.main_v7) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v23) = v0 c
          ∧ r.2.mem ((c.tc : Thread Cert.Reference7Ideal.nD Cert.Reference7Ideal.τ).loc Cert.Reference7Ideal.main_v4) = v1 c
          ∧ r.2.mem ((c.tc : Thread Cert.Reference7Ideal.nD Cert.Reference7Ideal.τ).loc Cert.Reference7Ideal.main_v10) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v5)) (v1 : (c : Dev Cert.Kernel8Ideal.nD) → Buf (Elt Ideal) ((c.tc : Thread Cert.Kernel8Ideal.nD Cert.Kernel8Ideal.τ).loc Cert.Kernel8Ideal.main_v6)) (v2 : (c : Dev Cert.Kernel8Ideal.nD) → Buf (Elt Ideal) ((c.tc : Thread Cert.Kernel8Ideal.nD Cert.Kernel8Ideal.τ).loc Cert.Kernel8Ideal.main_v7)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5) = v0 c
          ∧ r.2.mem ((c.tc : Thread Cert.Kernel8Ideal.nD Cert.Kernel8Ideal.τ).loc Cert.Kernel8Ideal.main_v6) = v1 c
          ∧ r.2.mem ((c.tc : Thread Cert.Kernel8Ideal.nD Cert.Kernel8Ideal.τ).loc Cert.Kernel8Ideal.main_v7) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v23) = v0 c
          ∧ r.2.mem ((c.tc : Thread Cert.Reference8Ideal.nD Cert.Reference8Ideal.τ).loc Cert.Reference8Ideal.main_v4) = v1 c
          ∧ r.2.mem ((c.tc : Thread Cert.Reference8Ideal.nD Cert.Reference8Ideal.τ).loc Cert.Reference8Ideal.main_v10) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v5)) (v1 : (c : Dev Cert.Kernel9Ideal.nD) → Buf (Elt Ideal) ((c.tc : Thread Cert.Kernel9Ideal.nD Cert.Kernel9Ideal.τ).loc Cert.Kernel9Ideal.main_v6)) (v2 : (c : Dev Cert.Kernel9Ideal.nD) → Buf (Elt Ideal) ((c.tc : Thread Cert.Kernel9Ideal.nD Cert.Kernel9Ideal.τ).loc Cert.Kernel9Ideal.main_v7)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v5) = v0 c
          ∧ r.2.mem ((c.tc : Thread Cert.Kernel9Ideal.nD Cert.Kernel9Ideal.τ).loc Cert.Kernel9Ideal.main_v6) = v1 c
          ∧ r.2.mem ((c.tc : Thread Cert.Kernel9Ideal.nD Cert.Kernel9Ideal.τ).loc Cert.Kernel9Ideal.main_v7) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v23) = v0 c
          ∧ r.2.mem ((c.tc : Thread Cert.Reference9Ideal.nD Cert.Reference9Ideal.τ).loc Cert.Reference9Ideal.main_v4) = v1 c
          ∧ r.2.mem ((c.tc : Thread Cert.Reference9Ideal.nD Cert.Reference9Ideal.τ).loc Cert.Reference9Ideal.main_v10) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)
      ∧ m' ((c.tc : Thread Cert.Reference10Ideal.nD Cert.Reference10Ideal.τ).loc Cert.Reference10Ideal.main_arg9) = m ((c.tc : Thread Cert.Kernel10Ideal.nD Cert.Kernel10Ideal.τ).loc Cert.Kernel10Ideal.main_arg9)
      ∧ m' ((c.tc : Thread Cert.Reference10Ideal.nD Cert.Reference10Ideal.τ).loc Cert.Reference10Ideal.main_arg10) = m ((c.tc : Thread Cert.Kernel10Ideal.nD Cert.Kernel10Ideal.τ).loc Cert.Kernel10Ideal.main_arg10)
      ∧ m' ((c.tc : Thread Cert.Reference10Ideal.nD Cert.Reference10Ideal.τ).loc Cert.Reference10Ideal.main_arg11) = m ((c.tc : Thread Cert.Kernel10Ideal.nD Cert.Kernel10Ideal.τ).loc Cert.Kernel10Ideal.main_arg11)
      ∧ m' ((c.tc : Thread Cert.Reference10Ideal.nD Cert.Reference10Ideal.τ).loc Cert.Reference10Ideal.main_arg12) = m ((c.tc : Thread Cert.Kernel10Ideal.nD Cert.Kernel10Ideal.τ).loc Cert.Kernel10Ideal.main_arg12)
      ∧ m' ((c.tc : Thread Cert.Reference10Ideal.nD Cert.Reference10Ideal.τ).loc Cert.Reference10Ideal.main_arg13) = m ((c.tc : Thread Cert.Kernel10Ideal.nD Cert.Kernel10Ideal.τ).loc Cert.Kernel10Ideal.main_arg13)
      ∧ m' ((c.tc : Thread Cert.Reference10Ideal.nD Cert.Reference10Ideal.τ).loc Cert.Reference10Ideal.main_arg14) = m ((c.tc : Thread Cert.Kernel10Ideal.nD Cert.Kernel10Ideal.τ).loc Cert.Kernel10Ideal.main_arg14)
      ∧ m' ((c.tc : Thread Cert.Reference10Ideal.nD Cert.Reference10Ideal.τ).loc Cert.Reference10Ideal.main_arg15) = m ((c.tc : Thread Cert.Kernel10Ideal.nD Cert.Kernel10Ideal.τ).loc Cert.Kernel10Ideal.main_arg15)
      ∧ m' ((c.tc : Thread Cert.Reference10Ideal.nD Cert.Reference10Ideal.τ).loc Cert.Reference10Ideal.main_arg16) = m ((c.tc : Thread Cert.Kernel10Ideal.nD Cert.Kernel10Ideal.τ).loc Cert.Kernel10Ideal.main_arg16)
      ∧ m' ((c.tc : Thread Cert.Reference10Ideal.nD Cert.Reference10Ideal.τ).loc Cert.Reference10Ideal.main_arg17) = m ((c.tc : Thread Cert.Kernel10Ideal.nD Cert.Kernel10Ideal.τ).loc Cert.Kernel10Ideal.main_arg17)
      ∧ m' ((c.tc : Thread Cert.Reference10Ideal.nD Cert.Reference10Ideal.τ).loc Cert.Reference10Ideal.main_arg18) = m ((c.tc : Thread Cert.Kernel10Ideal.nD Cert.Kernel10Ideal.τ).loc Cert.Kernel10Ideal.main_arg18)
      ∧ m' ((c.tc : Thread Cert.Reference10Ideal.nD Cert.Reference10Ideal.τ).loc Cert.Reference10Ideal.main_arg19) = m ((c.tc : Thread Cert.Kernel10Ideal.nD Cert.Kernel10Ideal.τ).loc Cert.Kernel10Ideal.main_arg19)
      ∧ m' ((c.tc : Thread Cert.Reference10Ideal.nD Cert.Reference10Ideal.τ).loc Cert.Reference10Ideal.main_arg20) = m ((c.tc : Thread Cert.Kernel10Ideal.nD Cert.Kernel10Ideal.τ).loc Cert.Kernel10Ideal.main_arg20)
      ∧ m' ((c.tc : Thread Cert.Reference10Ideal.nD Cert.Reference10Ideal.τ).loc Cert.Reference10Ideal.main_arg21) = m ((c.tc : Thread Cert.Kernel10Ideal.nD Cert.Kernel10Ideal.τ).loc Cert.Kernel10Ideal.main_arg21)
      ∧ m' ((c.tc : Thread Cert.Reference10Ideal.nD Cert.Reference10Ideal.τ).loc Cert.Reference10Ideal.main_arg22) = m ((c.tc : Thread Cert.Kernel10Ideal.nD Cert.Kernel10Ideal.τ).loc Cert.Kernel10Ideal.main_arg22)
      ∧ m' ((c.tc : Thread Cert.Reference10Ideal.nD Cert.Reference10Ideal.τ).loc Cert.Reference10Ideal.main_arg23) = m ((c.tc : Thread Cert.Kernel10Ideal.nD Cert.Kernel10Ideal.τ).loc Cert.Kernel10Ideal.main_arg23)
      ∧ m' ((c.tc : Thread Cert.Reference10Ideal.nD Cert.Reference10Ideal.τ).loc Cert.Reference10Ideal.main_arg24) = m ((c.tc : Thread Cert.Kernel10Ideal.nD Cert.Kernel10Ideal.τ).loc Cert.Kernel10Ideal.main_arg24)
      ∧ m' ((c.tc : Thread Cert.Reference10Ideal.nD Cert.Reference10Ideal.τ).loc Cert.Reference10Ideal.main_arg25) = m ((c.tc : Thread Cert.Kernel10Ideal.nD Cert.Kernel10Ideal.τ).loc Cert.Kernel10Ideal.main_arg25)
      ∧ m' ((c.tc : Thread Cert.Reference10Ideal.nD Cert.Reference10Ideal.τ).loc Cert.Reference10Ideal.main_arg26) = m ((c.tc : Thread Cert.Kernel10Ideal.nD Cert.Kernel10Ideal.τ).loc Cert.Kernel10Ideal.main_arg26)
      ∧ m' ((c.tc : Thread Cert.Reference10Ideal.nD Cert.Reference10Ideal.τ).loc Cert.Reference10Ideal.main_arg27) = m ((c.tc : Thread Cert.Kernel10Ideal.nD Cert.Kernel10Ideal.τ).loc Cert.Kernel10Ideal.main_arg27)
      ∧ m' ((c.tc : Thread Cert.Reference10Ideal.nD Cert.Reference10Ideal.τ).loc Cert.Reference10Ideal.main_arg28) = m ((c.tc : Thread Cert.Kernel10Ideal.nD Cert.Kernel10Ideal.τ).loc Cert.Kernel10Ideal.main_arg28)
      ∧ m' ((c.tc : Thread Cert.Reference10Ideal.nD Cert.Reference10Ideal.τ).loc Cert.Reference10Ideal.main_arg29) = m ((c.tc : Thread Cert.Kernel10Ideal.nD Cert.Kernel10Ideal.τ).loc Cert.Kernel10Ideal.main_arg29)
      ∧ m' ((c.tc : Thread Cert.Reference10Ideal.nD Cert.Reference10Ideal.τ).loc Cert.Reference10Ideal.main_arg30) = m ((c.tc : Thread Cert.Kernel10Ideal.nD Cert.Kernel10Ideal.τ).loc Cert.Kernel10Ideal.main_arg30)
      ∧ m' ((c.tc : Thread Cert.Reference10Ideal.nD Cert.Reference10Ideal.τ).loc Cert.Reference10Ideal.main_arg31) = m ((c.tc : Thread Cert.Kernel10Ideal.nD Cert.Kernel10Ideal.τ).loc Cert.Kernel10Ideal.main_arg31)
      ∧ m' ((c.tc : Thread Cert.Reference10Ideal.nD Cert.Reference10Ideal.τ).loc Cert.Reference10Ideal.main_arg32) = m ((c.tc : Thread Cert.Kernel10Ideal.nD Cert.Kernel10Ideal.τ).loc Cert.Kernel10Ideal.main_arg32)
      ∧ m' ((c.tc : Thread Cert.Reference10Ideal.nD Cert.Reference10Ideal.τ).loc Cert.Reference10Ideal.main_arg33) = m ((c.tc : Thread Cert.Kernel10Ideal.nD Cert.Kernel10Ideal.τ).loc Cert.Kernel10Ideal.main_arg33)
      ∧ m' ((c.tc : Thread Cert.Reference10Ideal.nD Cert.Reference10Ideal.τ).loc Cert.Reference10Ideal.main_arg34) = m ((c.tc : Thread Cert.Kernel10Ideal.nD Cert.Kernel10Ideal.τ).loc Cert.Kernel10Ideal.main_arg34)
      ∧ m' ((c.tc : Thread Cert.Reference10Ideal.nD Cert.Reference10Ideal.τ).loc Cert.Reference10Ideal.main_arg35) = m ((c.tc : Thread Cert.Kernel10Ideal.nD Cert.Kernel10Ideal.τ).loc Cert.Kernel10Ideal.main_arg35)
      ∧ m' ((c.tc : Thread Cert.Reference10Ideal.nD Cert.Reference10Ideal.τ).loc Cert.Reference10Ideal.main_arg36) = m ((c.tc : Thread Cert.Kernel10Ideal.nD Cert.Kernel10Ideal.τ).loc Cert.Kernel10Ideal.main_arg36)
      ∧ m' ((c.tc : Thread Cert.Reference10Ideal.nD Cert.Reference10Ideal.τ).loc Cert.Reference10Ideal.main_arg37) = m ((c.tc : Thread Cert.Kernel10Ideal.nD Cert.Kernel10Ideal.τ).loc Cert.Kernel10Ideal.main_arg37)
      ∧ m' ((c.tc : Thread Cert.Reference10Ideal.nD Cert.Reference10Ideal.τ).loc Cert.Reference10Ideal.main_arg38) = m ((c.tc : Thread Cert.Kernel10Ideal.nD Cert.Kernel10Ideal.τ).loc Cert.Kernel10Ideal.main_arg38)
      ∧ m' ((c.tc : Thread Cert.Reference10Ideal.nD Cert.Reference10Ideal.τ).loc Cert.Reference10Ideal.main_arg39) = m ((c.tc : Thread Cert.Kernel10Ideal.nD Cert.Kernel10Ideal.τ).loc Cert.Kernel10Ideal.main_arg39)
      ∧ m' ((c.tc : Thread Cert.Reference10Ideal.nD Cert.Reference10Ideal.τ).loc Cert.Reference10Ideal.main_arg40) = m ((c.tc : Thread Cert.Kernel10Ideal.nD Cert.Kernel10Ideal.τ).loc Cert.Kernel10Ideal.main_arg40)
      ∧ m' ((c.tc : Thread Cert.Reference10Ideal.nD Cert.Reference10Ideal.τ).loc Cert.Reference10Ideal.main_arg41) = m ((c.tc : Thread Cert.Kernel10Ideal.nD Cert.Kernel10Ideal.τ).loc Cert.Kernel10Ideal.main_arg41)
      ∧ m' ((c.tc : Thread Cert.Reference10Ideal.nD Cert.Reference10Ideal.τ).loc Cert.Reference10Ideal.main_arg42) = m ((c.tc : Thread Cert.Kernel10Ideal.nD Cert.Kernel10Ideal.τ).loc Cert.Kernel10Ideal.main_arg42)
      ∧ m' ((c.tc : Thread Cert.Reference10Ideal.nD Cert.Reference10Ideal.τ).loc Cert.Reference10Ideal.main_arg43) = m ((c.tc : Thread Cert.Kernel10Ideal.nD Cert.Kernel10Ideal.τ).loc Cert.Kernel10Ideal.main_arg43)
      ∧ m' ((c.tc : Thread Cert.Reference10Ideal.nD Cert.Reference10Ideal.τ).loc Cert.Reference10Ideal.main_arg44) = m ((c.tc : Thread Cert.Kernel10Ideal.nD Cert.Kernel10Ideal.τ).loc Cert.Kernel10Ideal.main_arg44)
      ∧ m' ((c.tc : Thread Cert.Reference10Ideal.nD Cert.Reference10Ideal.τ).loc Cert.Reference10Ideal.main_arg45) = m ((c.tc : Thread Cert.Kernel10Ideal.nD Cert.Kernel10Ideal.τ).loc Cert.Kernel10Ideal.main_arg45)
      ∧ m' ((c.tc : Thread Cert.Reference10Ideal.nD Cert.Reference10Ideal.τ).loc Cert.Reference10Ideal.main_arg46) = m ((c.tc : Thread Cert.Kernel10Ideal.nD Cert.Kernel10Ideal.τ).loc Cert.Kernel10Ideal.main_arg46)
      ∧ m' ((c.tc : Thread Cert.Reference10Ideal.nD Cert.Reference10Ideal.τ).loc Cert.Reference10Ideal.main_arg47) = m ((c.tc : Thread Cert.Kernel10Ideal.nD Cert.Kernel10Ideal.τ).loc Cert.Kernel10Ideal.main_arg47)) →
    ∃ (v0 : (c : Dev Cert.Kernel10Ideal.nD) → Buf (Elt Ideal) ((c.tc : Thread Cert.Kernel10Ideal.nD Cert.Kernel10Ideal.τ).loc Cert.Kernel10Ideal.main_v59)) (v1 : (c : Dev Cert.Kernel10Ideal.nD) → Buf (Elt Ideal) ((c.tc : Thread Cert.Kernel10Ideal.nD Cert.Kernel10Ideal.τ).loc Cert.Kernel10Ideal.main_v60)) (v2 : (c : Dev Cert.Kernel10Ideal.nD) → Buf (Elt Ideal) ((c.tc : Thread Cert.Kernel10Ideal.nD Cert.Kernel10Ideal.τ).loc Cert.Kernel10Ideal.main_v61)) (v3 : (c : Dev Cert.Kernel10Ideal.nD) → Buf (Elt Ideal) ((c.tc : Thread Cert.Kernel10Ideal.nD Cert.Kernel10Ideal.τ).loc Cert.Kernel10Ideal.main_v63)) (v4 : (c : Dev Cert.Kernel10Ideal.nD) → Buf (Elt Ideal) ((c.tc : Thread Cert.Kernel10Ideal.nD Cert.Kernel10Ideal.τ).loc Cert.Kernel10Ideal.main_v65)) (v5 : (c : Dev Cert.Kernel10Ideal.nD) → Buf (Elt Ideal) ((c.tc : Thread Cert.Kernel10Ideal.nD Cert.Kernel10Ideal.τ).loc Cert.Kernel10Ideal.main_v67)) (v6 : (c : Dev Cert.Kernel10Ideal.nD) → Buf (Elt Ideal) ((c.tc : Thread Cert.Kernel10Ideal.nD Cert.Kernel10Ideal.τ).loc Cert.Kernel10Ideal.main_v69)) (v7 : (c : Dev Cert.Kernel10Ideal.nD) → Buf (Elt Ideal) ((c.tc : Thread Cert.Kernel10Ideal.nD Cert.Kernel10Ideal.τ).loc Cert.Kernel10Ideal.main_v71)) (v8 : (c : Dev Cert.Kernel10Ideal.nD) → Buf (Elt Ideal) ((c.tc : Thread Cert.Kernel10Ideal.nD Cert.Kernel10Ideal.τ).loc Cert.Kernel10Ideal.main_v73)) (v9 : (c : Dev Cert.Kernel10Ideal.nD) → Buf (Elt Ideal) ((c.tc : Thread Cert.Kernel10Ideal.nD Cert.Kernel10Ideal.τ).loc Cert.Kernel10Ideal.main_v75)) (v10 : (c : Dev Cert.Kernel10Ideal.nD) → Buf (Elt Ideal) ((c.tc : Thread Cert.Kernel10Ideal.nD Cert.Kernel10Ideal.τ).loc Cert.Kernel10Ideal.main_v77)) (v11 : (c : Dev Cert.Kernel10Ideal.nD) → Buf (Elt Ideal) ((c.tc : Thread Cert.Kernel10Ideal.nD Cert.Kernel10Ideal.τ).loc Cert.Kernel10Ideal.main_v79)) (v12 : (c : Dev Cert.Kernel10Ideal.nD) → Buf (Elt Ideal) ((c.tc : Thread Cert.Kernel10Ideal.nD Cert.Kernel10Ideal.τ).loc Cert.Kernel10Ideal.main_v82)) (v13 : (c : Dev Cert.Kernel10Ideal.nD) → Buf (Elt Ideal) ((c.tc : Thread Cert.Kernel10Ideal.nD Cert.Kernel10Ideal.τ).loc Cert.Kernel10Ideal.main_v83)) (v14 : (c : Dev Cert.Kernel10Ideal.nD) → Buf (Elt Ideal) ((c.tc : Thread Cert.Kernel10Ideal.nD Cert.Kernel10Ideal.τ).loc Cert.Kernel10Ideal.main_v84)) (v15 : (c : Dev Cert.Kernel10Ideal.nD) → Buf (Elt Ideal) ((c.tc : Thread Cert.Kernel10Ideal.nD Cert.Kernel10Ideal.τ).loc Cert.Kernel10Ideal.main_v86)) (v16 : (c : Dev Cert.Kernel10Ideal.nD) → Buf (Elt Ideal) ((c.tc : Thread Cert.Kernel10Ideal.nD Cert.Kernel10Ideal.τ).loc Cert.Kernel10Ideal.main_v88)) (v17 : (c : Dev Cert.Kernel10Ideal.nD) → Buf (Elt Ideal) ((c.tc : Thread Cert.Kernel10Ideal.nD Cert.Kernel10Ideal.τ).loc Cert.Kernel10Ideal.main_v90)) (v18 : (c : Dev Cert.Kernel10Ideal.nD) → Buf (Elt Ideal) ((c.tc : Thread Cert.Kernel10Ideal.nD Cert.Kernel10Ideal.τ).loc Cert.Kernel10Ideal.main_v92)) (v19 : (c : Dev Cert.Kernel10Ideal.nD) → Buf (Elt Ideal) ((c.tc : Thread Cert.Kernel10Ideal.nD Cert.Kernel10Ideal.τ).loc Cert.Kernel10Ideal.main_v94)) (v20 : (c : Dev Cert.Kernel10Ideal.nD) → Buf (Elt Ideal) ((c.tc : Thread Cert.Kernel10Ideal.nD Cert.Kernel10Ideal.τ).loc Cert.Kernel10Ideal.main_v96)) (v21 : (c : Dev Cert.Kernel10Ideal.nD) → Buf (Elt Ideal) ((c.tc : Thread Cert.Kernel10Ideal.nD Cert.Kernel10Ideal.τ).loc Cert.Kernel10Ideal.main_v98)) (v22 : (c : Dev Cert.Kernel10Ideal.nD) → Buf (Elt Ideal) ((c.tc : Thread Cert.Kernel10Ideal.nD Cert.Kernel10Ideal.τ).loc Cert.Kernel10Ideal.main_v100)) (v23 : (c : Dev Cert.Kernel10Ideal.nD) → Buf (Elt Ideal) ((c.tc : Thread Cert.Kernel10Ideal.nD Cert.Kernel10Ideal.τ).loc Cert.Kernel10Ideal.main_v102)) (v24 : (c : Dev Cert.Kernel10Ideal.nD) → Buf (Elt Ideal) ((c.tc : Thread Cert.Kernel10Ideal.nD Cert.Kernel10Ideal.τ).loc Cert.Kernel10Ideal.main_v105)) (v25 : (c : Dev Cert.Kernel10Ideal.nD) → Buf (Elt Ideal) ((c.tc : Thread Cert.Kernel10Ideal.nD Cert.Kernel10Ideal.τ).loc Cert.Kernel10Ideal.main_v106)) (v26 : (c : Dev Cert.Kernel10Ideal.nD) → Buf (Elt Ideal) ((c.tc : Thread Cert.Kernel10Ideal.nD Cert.Kernel10Ideal.τ).loc Cert.Kernel10Ideal.main_v107)) (v27 : (c : Dev Cert.Kernel10Ideal.nD) → Buf (Elt Ideal) ((c.tc : Thread Cert.Kernel10Ideal.nD Cert.Kernel10Ideal.τ).loc Cert.Kernel10Ideal.main_v109)) (v28 : (c : Dev Cert.Kernel10Ideal.nD) → Buf (Elt Ideal) ((c.tc : Thread Cert.Kernel10Ideal.nD Cert.Kernel10Ideal.τ).loc Cert.Kernel10Ideal.main_v111)) (v29 : (c : Dev Cert.Kernel10Ideal.nD) → Buf (Elt Ideal) ((c.tc : Thread Cert.Kernel10Ideal.nD Cert.Kernel10Ideal.τ).loc Cert.Kernel10Ideal.main_v113)) (v30 : (c : Dev Cert.Kernel10Ideal.nD) → Buf (Elt Ideal) ((c.tc : Thread Cert.Kernel10Ideal.nD Cert.Kernel10Ideal.τ).loc Cert.Kernel10Ideal.main_v115)) (v31 : (c : Dev Cert.Kernel10Ideal.nD) → Buf (Elt Ideal) ((c.tc : Thread Cert.Kernel10Ideal.nD Cert.Kernel10Ideal.τ).loc Cert.Kernel10Ideal.main_v117)) (v32 : (c : Dev Cert.Kernel10Ideal.nD) → Buf (Elt Ideal) ((c.tc : Thread Cert.Kernel10Ideal.nD Cert.Kernel10Ideal.τ).loc Cert.Kernel10Ideal.main_v119)) (v33 : (c : Dev Cert.Kernel10Ideal.nD) → Buf (Elt Ideal) ((c.tc : Thread Cert.Kernel10Ideal.nD Cert.Kernel10Ideal.τ).loc Cert.Kernel10Ideal.main_v121)) (v34 : (c : Dev Cert.Kernel10Ideal.nD) → Buf (Elt Ideal) ((c.tc : Thread Cert.Kernel10Ideal.nD Cert.Kernel10Ideal.τ).loc Cert.Kernel10Ideal.main_v123)) (v35 : (c : Dev Cert.Kernel10Ideal.nD) → Buf (Elt Ideal) ((c.tc : Thread Cert.Kernel10Ideal.nD Cert.Kernel10Ideal.τ).loc Cert.Kernel10Ideal.main_v125)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v59) = v0 c
          ∧ r.2.mem ((c.tc : Thread Cert.Kernel10Ideal.nD Cert.Kernel10Ideal.τ).loc Cert.Kernel10Ideal.main_v60) = v1 c
          ∧ r.2.mem ((c.tc : Thread Cert.Kernel10Ideal.nD Cert.Kernel10Ideal.τ).loc Cert.Kernel10Ideal.main_v61) = v2 c
          ∧ r.2.mem ((c.tc : Thread Cert.Kernel10Ideal.nD Cert.Kernel10Ideal.τ).loc Cert.Kernel10Ideal.main_v63) = v3 c
          ∧ r.2.mem ((c.tc : Thread Cert.Kernel10Ideal.nD Cert.Kernel10Ideal.τ).loc Cert.Kernel10Ideal.main_v65) = v4 c
          ∧ r.2.mem ((c.tc : Thread Cert.Kernel10Ideal.nD Cert.Kernel10Ideal.τ).loc Cert.Kernel10Ideal.main_v67) = v5 c
          ∧ r.2.mem ((c.tc : Thread Cert.Kernel10Ideal.nD Cert.Kernel10Ideal.τ).loc Cert.Kernel10Ideal.main_v69) = v6 c
          ∧ r.2.mem ((c.tc : Thread Cert.Kernel10Ideal.nD Cert.Kernel10Ideal.τ).loc Cert.Kernel10Ideal.main_v71) = v7 c
          ∧ r.2.mem ((c.tc : Thread Cert.Kernel10Ideal.nD Cert.Kernel10Ideal.τ).loc Cert.Kernel10Ideal.main_v73) = v8 c
          ∧ r.2.mem ((c.tc : Thread Cert.Kernel10Ideal.nD Cert.Kernel10Ideal.τ).loc Cert.Kernel10Ideal.main_v75) = v9 c
          ∧ r.2.mem ((c.tc : Thread Cert.Kernel10Ideal.nD Cert.Kernel10Ideal.τ).loc Cert.Kernel10Ideal.main_v77) = v10 c
          ∧ r.2.mem ((c.tc : Thread Cert.Kernel10Ideal.nD Cert.Kernel10Ideal.τ).loc Cert.Kernel10Ideal.main_v79) = v11 c
          ∧ r.2.mem ((c.tc : Thread Cert.Kernel10Ideal.nD Cert.Kernel10Ideal.τ).loc Cert.Kernel10Ideal.main_v82) = v12 c
          ∧ r.2.mem ((c.tc : Thread Cert.Kernel10Ideal.nD Cert.Kernel10Ideal.τ).loc Cert.Kernel10Ideal.main_v83) = v13 c
          ∧ r.2.mem ((c.tc : Thread Cert.Kernel10Ideal.nD Cert.Kernel10Ideal.τ).loc Cert.Kernel10Ideal.main_v84) = v14 c
          ∧ r.2.mem ((c.tc : Thread Cert.Kernel10Ideal.nD Cert.Kernel10Ideal.τ).loc Cert.Kernel10Ideal.main_v86) = v15 c
          ∧ r.2.mem ((c.tc : Thread Cert.Kernel10Ideal.nD Cert.Kernel10Ideal.τ).loc Cert.Kernel10Ideal.main_v88) = v16 c
          ∧ r.2.mem ((c.tc : Thread Cert.Kernel10Ideal.nD Cert.Kernel10Ideal.τ).loc Cert.Kernel10Ideal.main_v90) = v17 c
          ∧ r.2.mem ((c.tc : Thread Cert.Kernel10Ideal.nD Cert.Kernel10Ideal.τ).loc Cert.Kernel10Ideal.main_v92) = v18 c
          ∧ r.2.mem ((c.tc : Thread Cert.Kernel10Ideal.nD Cert.Kernel10Ideal.τ).loc Cert.Kernel10Ideal.main_v94) = v19 c
          ∧ r.2.mem ((c.tc : Thread Cert.Kernel10Ideal.nD Cert.Kernel10Ideal.τ).loc Cert.Kernel10Ideal.main_v96) = v20 c
          ∧ r.2.mem ((c.tc : Thread Cert.Kernel10Ideal.nD Cert.Kernel10Ideal.τ).loc Cert.Kernel10Ideal.main_v98) = v21 c
          ∧ r.2.mem ((c.tc : Thread Cert.Kernel10Ideal.nD Cert.Kernel10Ideal.τ).loc Cert.Kernel10Ideal.main_v100) = v22 c
          ∧ r.2.mem ((c.tc : Thread Cert.Kernel10Ideal.nD Cert.Kernel10Ideal.τ).loc Cert.Kernel10Ideal.main_v102) = v23 c
          ∧ r.2.mem ((c.tc : Thread Cert.Kernel10Ideal.nD Cert.Kernel10Ideal.τ).loc Cert.Kernel10Ideal.main_v105) = v24 c
          ∧ r.2.mem ((c.tc : Thread Cert.Kernel10Ideal.nD Cert.Kernel10Ideal.τ).loc Cert.Kernel10Ideal.main_v106) = v25 c
          ∧ r.2.mem ((c.tc : Thread Cert.Kernel10Ideal.nD Cert.Kernel10Ideal.τ).loc Cert.Kernel10Ideal.main_v107) = v26 c
          ∧ r.2.mem ((c.tc : Thread Cert.Kernel10Ideal.nD Cert.Kernel10Ideal.τ).loc Cert.Kernel10Ideal.main_v109) = v27 c
          ∧ r.2.mem ((c.tc : Thread Cert.Kernel10Ideal.nD Cert.Kernel10Ideal.τ).loc Cert.Kernel10Ideal.main_v111) = v28 c
          ∧ r.2.mem ((c.tc : Thread Cert.Kernel10Ideal.nD Cert.Kernel10Ideal.τ).loc Cert.Kernel10Ideal.main_v113) = v29 c
          ∧ r.2.mem ((c.tc : Thread Cert.Kernel10Ideal.nD Cert.Kernel10Ideal.τ).loc Cert.Kernel10Ideal.main_v115) = v30 c
          ∧ r.2.mem ((c.tc : Thread Cert.Kernel10Ideal.nD Cert.Kernel10Ideal.τ).loc Cert.Kernel10Ideal.main_v117) = v31 c
          ∧ r.2.mem ((c.tc : Thread Cert.Kernel10Ideal.nD Cert.Kernel10Ideal.τ).loc Cert.Kernel10Ideal.main_v119) = v32 c
          ∧ r.2.mem ((c.tc : Thread Cert.Kernel10Ideal.nD Cert.Kernel10Ideal.τ).loc Cert.Kernel10Ideal.main_v121) = v33 c
          ∧ r.2.mem ((c.tc : Thread Cert.Kernel10Ideal.nD Cert.Kernel10Ideal.τ).loc Cert.Kernel10Ideal.main_v123) = v34 c
          ∧ r.2.mem ((c.tc : Thread Cert.Kernel10Ideal.nD Cert.Kernel10Ideal.τ).loc Cert.Kernel10Ideal.main_v125) = v35 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
          ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
          ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10)
          ∧ r.2.mem ((c.tc : Thread Cert.Kernel10Ideal.nD Cert.Kernel10Ideal.τ).loc Cert.Kernel10Ideal.main_arg11) = m ((c.tc : Thread Cert.Kernel10Ideal.nD Cert.Kernel10Ideal.τ).loc Cert.Kernel10Ideal.main_arg11)
          ∧ r.2.mem ((c.tc : Thread Cert.Kernel10Ideal.nD Cert.Kernel10Ideal.τ).loc Cert.Kernel10Ideal.main_arg12) = m ((c.tc : Thread Cert.Kernel10Ideal.nD Cert.Kernel10Ideal.τ).loc Cert.Kernel10Ideal.main_arg12)
          ∧ r.2.mem ((c.tc : Thread Cert.Kernel10Ideal.nD Cert.Kernel10Ideal.τ).loc Cert.Kernel10Ideal.main_arg13) = m ((c.tc : Thread Cert.Kernel10Ideal.nD Cert.Kernel10Ideal.τ).loc Cert.Kernel10Ideal.main_arg13)
          ∧ r.2.mem ((c.tc : Thread Cert.Kernel10Ideal.nD Cert.Kernel10Ideal.τ).loc Cert.Kernel10Ideal.main_arg14) = m ((c.tc : Thread Cert.Kernel10Ideal.nD Cert.Kernel10Ideal.τ).loc Cert.Kernel10Ideal.main_arg14)
          ∧ r.2.mem ((c.tc : Thread Cert.Kernel10Ideal.nD Cert.Kernel10Ideal.τ).loc Cert.Kernel10Ideal.main_arg15) = m ((c.tc : Thread Cert.Kernel10Ideal.nD Cert.Kernel10Ideal.τ).loc Cert.Kernel10Ideal.main_arg15)
          ∧ r.2.mem ((c.tc : Thread Cert.Kernel10Ideal.nD Cert.Kernel10Ideal.τ).loc Cert.Kernel10Ideal.main_arg16) = m ((c.tc : Thread Cert.Kernel10Ideal.nD Cert.Kernel10Ideal.τ).loc Cert.Kernel10Ideal.main_arg16)
          ∧ r.2.mem ((c.tc : Thread Cert.Kernel10Ideal.nD Cert.Kernel10Ideal.τ).loc Cert.Kernel10Ideal.main_arg17) = m ((c.tc : Thread Cert.Kernel10Ideal.nD Cert.Kernel10Ideal.τ).loc Cert.Kernel10Ideal.main_arg17)
          ∧ r.2.mem ((c.tc : Thread Cert.Kernel10Ideal.nD Cert.Kernel10Ideal.τ).loc Cert.Kernel10Ideal.main_arg18) = m ((c.tc : Thread Cert.Kernel10Ideal.nD Cert.Kernel10Ideal.τ).loc Cert.Kernel10Ideal.main_arg18)
          ∧ r.2.mem ((c.tc : Thread Cert.Kernel10Ideal.nD Cert.Kernel10Ideal.τ).loc Cert.Kernel10Ideal.main_arg19) = m ((c.tc : Thread Cert.Kernel10Ideal.nD Cert.Kernel10Ideal.τ).loc Cert.Kernel10Ideal.main_arg19)
          ∧ r.2.mem ((c.tc : Thread Cert.Kernel10Ideal.nD Cert.Kernel10Ideal.τ).loc Cert.Kernel10Ideal.main_arg20) = m ((c.tc : Thread Cert.Kernel10Ideal.nD Cert.Kernel10Ideal.τ).loc Cert.Kernel10Ideal.main_arg20)
          ∧ r.2.mem ((c.tc : Thread Cert.Kernel10Ideal.nD Cert.Kernel10Ideal.τ).loc Cert.Kernel10Ideal.main_arg21) = m ((c.tc : Thread Cert.Kernel10Ideal.nD Cert.Kernel10Ideal.τ).loc Cert.Kernel10Ideal.main_arg21)
          ∧ r.2.mem ((c.tc : Thread Cert.Kernel10Ideal.nD Cert.Kernel10Ideal.τ).loc Cert.Kernel10Ideal.main_arg22) = m ((c.tc : Thread Cert.Kernel10Ideal.nD Cert.Kernel10Ideal.τ).loc Cert.Kernel10Ideal.main_arg22)
          ∧ r.2.mem ((c.tc : Thread Cert.Kernel10Ideal.nD Cert.Kernel10Ideal.τ).loc Cert.Kernel10Ideal.main_arg23) = m ((c.tc : Thread Cert.Kernel10Ideal.nD Cert.Kernel10Ideal.τ).loc Cert.Kernel10Ideal.main_arg23)
          ∧ r.2.mem ((c.tc : Thread Cert.Kernel10Ideal.nD Cert.Kernel10Ideal.τ).loc Cert.Kernel10Ideal.main_arg24) = m ((c.tc : Thread Cert.Kernel10Ideal.nD Cert.Kernel10Ideal.τ).loc Cert.Kernel10Ideal.main_arg24)
          ∧ r.2.mem ((c.tc : Thread Cert.Kernel10Ideal.nD Cert.Kernel10Ideal.τ).loc Cert.Kernel10Ideal.main_arg25) = m ((c.tc : Thread Cert.Kernel10Ideal.nD Cert.Kernel10Ideal.τ).loc Cert.Kernel10Ideal.main_arg25)
          ∧ r.2.mem ((c.tc : Thread Cert.Kernel10Ideal.nD Cert.Kernel10Ideal.τ).loc Cert.Kernel10Ideal.main_arg26) = m ((c.tc : Thread Cert.Kernel10Ideal.nD Cert.Kernel10Ideal.τ).loc Cert.Kernel10Ideal.main_arg26)
          ∧ r.2.mem ((c.tc : Thread Cert.Kernel10Ideal.nD Cert.Kernel10Ideal.τ).loc Cert.Kernel10Ideal.main_arg27) = m ((c.tc : Thread Cert.Kernel10Ideal.nD Cert.Kernel10Ideal.τ).loc Cert.Kernel10Ideal.main_arg27)
          ∧ r.2.mem ((c.tc : Thread Cert.Kernel10Ideal.nD Cert.Kernel10Ideal.τ).loc Cert.Kernel10Ideal.main_arg28) = m ((c.tc : Thread Cert.Kernel10Ideal.nD Cert.Kernel10Ideal.τ).loc Cert.Kernel10Ideal.main_arg28)
          ∧ r.2.mem ((c.tc : Thread Cert.Kernel10Ideal.nD Cert.Kernel10Ideal.τ).loc Cert.Kernel10Ideal.main_arg29) = m ((c.tc : Thread Cert.Kernel10Ideal.nD Cert.Kernel10Ideal.τ).loc Cert.Kernel10Ideal.main_arg29)
          ∧ r.2.mem ((c.tc : Thread Cert.Kernel10Ideal.nD Cert.Kernel10Ideal.τ).loc Cert.Kernel10Ideal.main_arg30) = m ((c.tc : Thread Cert.Kernel10Ideal.nD Cert.Kernel10Ideal.τ).loc Cert.Kernel10Ideal.main_arg30)
          ∧ r.2.mem ((c.tc : Thread Cert.Kernel10Ideal.nD Cert.Kernel10Ideal.τ).loc Cert.Kernel10Ideal.main_arg31) = m ((c.tc : Thread Cert.Kernel10Ideal.nD Cert.Kernel10Ideal.τ).loc Cert.Kernel10Ideal.main_arg31)
          ∧ r.2.mem ((c.tc : Thread Cert.Kernel10Ideal.nD Cert.Kernel10Ideal.τ).loc Cert.Kernel10Ideal.main_arg32) = m ((c.tc : Thread Cert.Kernel10Ideal.nD Cert.Kernel10Ideal.τ).loc Cert.Kernel10Ideal.main_arg32)
          ∧ r.2.mem ((c.tc : Thread Cert.Kernel10Ideal.nD Cert.Kernel10Ideal.τ).loc Cert.Kernel10Ideal.main_arg33) = m ((c.tc : Thread Cert.Kernel10Ideal.nD Cert.Kernel10Ideal.τ).loc Cert.Kernel10Ideal.main_arg33)
          ∧ r.2.mem ((c.tc : Thread Cert.Kernel10Ideal.nD Cert.Kernel10Ideal.τ).loc Cert.Kernel10Ideal.main_arg34) = m ((c.tc : Thread Cert.Kernel10Ideal.nD Cert.Kernel10Ideal.τ).loc Cert.Kernel10Ideal.main_arg34)
          ∧ r.2.mem ((c.tc : Thread Cert.Kernel10Ideal.nD Cert.Kernel10Ideal.τ).loc Cert.Kernel10Ideal.main_arg35) = m ((c.tc : Thread Cert.Kernel10Ideal.nD Cert.Kernel10Ideal.τ).loc Cert.Kernel10Ideal.main_arg35)
          ∧ r.2.mem ((c.tc : Thread Cert.Kernel10Ideal.nD Cert.Kernel10Ideal.τ).loc Cert.Kernel10Ideal.main_arg36) = m ((c.tc : Thread Cert.Kernel10Ideal.nD Cert.Kernel10Ideal.τ).loc Cert.Kernel10Ideal.main_arg36)
          ∧ r.2.mem ((c.tc : Thread Cert.Kernel10Ideal.nD Cert.Kernel10Ideal.τ).loc Cert.Kernel10Ideal.main_arg37) = m ((c.tc : Thread Cert.Kernel10Ideal.nD Cert.Kernel10Ideal.τ).loc Cert.Kernel10Ideal.main_arg37)
          ∧ r.2.mem ((c.tc : Thread Cert.Kernel10Ideal.nD Cert.Kernel10Ideal.τ).loc Cert.Kernel10Ideal.main_arg38) = m ((c.tc : Thread Cert.Kernel10Ideal.nD Cert.Kernel10Ideal.τ).loc Cert.Kernel10Ideal.main_arg38)
          ∧ r.2.mem ((c.tc : Thread Cert.Kernel10Ideal.nD Cert.Kernel10Ideal.τ).loc Cert.Kernel10Ideal.main_arg39) = m ((c.tc : Thread Cert.Kernel10Ideal.nD Cert.Kernel10Ideal.τ).loc Cert.Kernel10Ideal.main_arg39)
          ∧ r.2.mem ((c.tc : Thread Cert.Kernel10Ideal.nD Cert.Kernel10Ideal.τ).loc Cert.Kernel10Ideal.main_arg40) = m ((c.tc : Thread Cert.Kernel10Ideal.nD Cert.Kernel10Ideal.τ).loc Cert.Kernel10Ideal.main_arg40)
          ∧ r.2.mem ((c.tc : Thread Cert.Kernel10Ideal.nD Cert.Kernel10Ideal.τ).loc Cert.Kernel10Ideal.main_arg41) = m ((c.tc : Thread Cert.Kernel10Ideal.nD Cert.Kernel10Ideal.τ).loc Cert.Kernel10Ideal.main_arg41)
          ∧ r.2.mem ((c.tc : Thread Cert.Kernel10Ideal.nD Cert.Kernel10Ideal.τ).loc Cert.Kernel10Ideal.main_arg42) = m ((c.tc : Thread Cert.Kernel10Ideal.nD Cert.Kernel10Ideal.τ).loc Cert.Kernel10Ideal.main_arg42)
          ∧ r.2.mem ((c.tc : Thread Cert.Kernel10Ideal.nD Cert.Kernel10Ideal.τ).loc Cert.Kernel10Ideal.main_arg43) = m ((c.tc : Thread Cert.Kernel10Ideal.nD Cert.Kernel10Ideal.τ).loc Cert.Kernel10Ideal.main_arg43)
          ∧ r.2.mem ((c.tc : Thread Cert.Kernel10Ideal.nD Cert.Kernel10Ideal.τ).loc Cert.Kernel10Ideal.main_arg44) = m ((c.tc : Thread Cert.Kernel10Ideal.nD Cert.Kernel10Ideal.τ).loc Cert.Kernel10Ideal.main_arg44)
          ∧ r.2.mem ((c.tc : Thread Cert.Kernel10Ideal.nD Cert.Kernel10Ideal.τ).loc Cert.Kernel10Ideal.main_arg45) = m ((c.tc : Thread Cert.Kernel10Ideal.nD Cert.Kernel10Ideal.τ).loc Cert.Kernel10Ideal.main_arg45)
          ∧ r.2.mem ((c.tc : Thread Cert.Kernel10Ideal.nD Cert.Kernel10Ideal.τ).loc Cert.Kernel10Ideal.main_arg46) = m ((c.tc : Thread Cert.Kernel10Ideal.nD Cert.Kernel10Ideal.τ).loc Cert.Kernel10Ideal.main_arg46)
          ∧ r.2.mem ((c.tc : Thread Cert.Kernel10Ideal.nD Cert.Kernel10Ideal.τ).loc Cert.Kernel10Ideal.main_arg47) = m ((c.tc : Thread Cert.Kernel10Ideal.nD Cert.Kernel10Ideal.τ).loc Cert.Kernel10Ideal.main_arg47))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v23) = v0 c
          ∧ r.2.mem ((c.tc : Thread Cert.Reference10Ideal.nD Cert.Reference10Ideal.τ).loc Cert.Reference10Ideal.main_v47) = v1 c
          ∧ r.2.mem ((c.tc : Thread Cert.Reference10Ideal.nD Cert.Reference10Ideal.τ).loc Cert.Reference10Ideal.main_v71) = v2 c
          ∧ r.2.mem ((c.tc : Thread Cert.Reference10Ideal.nD Cert.Reference10Ideal.τ).loc Cert.Reference10Ideal.main_v95) = v3 c
          ∧ r.2.mem ((c.tc : Thread Cert.Reference10Ideal.nD Cert.Reference10Ideal.τ).loc Cert.Reference10Ideal.main_v119) = v4 c
          ∧ r.2.mem ((c.tc : Thread Cert.Reference10Ideal.nD Cert.Reference10Ideal.τ).loc Cert.Reference10Ideal.main_v143) = v5 c
          ∧ r.2.mem ((c.tc : Thread Cert.Reference10Ideal.nD Cert.Reference10Ideal.τ).loc Cert.Reference10Ideal.main_v167) = v6 c
          ∧ r.2.mem ((c.tc : Thread Cert.Reference10Ideal.nD Cert.Reference10Ideal.τ).loc Cert.Reference10Ideal.main_v191) = v7 c
          ∧ r.2.mem ((c.tc : Thread Cert.Reference10Ideal.nD Cert.Reference10Ideal.τ).loc Cert.Reference10Ideal.main_v215) = v8 c
          ∧ r.2.mem ((c.tc : Thread Cert.Reference10Ideal.nD Cert.Reference10Ideal.τ).loc Cert.Reference10Ideal.main_v239) = v9 c
          ∧ r.2.mem ((c.tc : Thread Cert.Reference10Ideal.nD Cert.Reference10Ideal.τ).loc Cert.Reference10Ideal.main_v263) = v10 c
          ∧ r.2.mem ((c.tc : Thread Cert.Reference10Ideal.nD Cert.Reference10Ideal.τ).loc Cert.Reference10Ideal.main_v287) = v11 c
          ∧ r.2.mem ((c.tc : Thread Cert.Reference10Ideal.nD Cert.Reference10Ideal.τ).loc Cert.Reference10Ideal.main_v4) = v12 c
          ∧ r.2.mem ((c.tc : Thread Cert.Reference10Ideal.nD Cert.Reference10Ideal.τ).loc Cert.Reference10Ideal.main_v28) = v13 c
          ∧ r.2.mem ((c.tc : Thread Cert.Reference10Ideal.nD Cert.Reference10Ideal.τ).loc Cert.Reference10Ideal.main_v52) = v14 c
          ∧ r.2.mem ((c.tc : Thread Cert.Reference10Ideal.nD Cert.Reference10Ideal.τ).loc Cert.Reference10Ideal.main_v76) = v15 c
          ∧ r.2.mem ((c.tc : Thread Cert.Reference10Ideal.nD Cert.Reference10Ideal.τ).loc Cert.Reference10Ideal.main_v100) = v16 c
          ∧ r.2.mem ((c.tc : Thread Cert.Reference10Ideal.nD Cert.Reference10Ideal.τ).loc Cert.Reference10Ideal.main_v124) = v17 c
          ∧ r.2.mem ((c.tc : Thread Cert.Reference10Ideal.nD Cert.Reference10Ideal.τ).loc Cert.Reference10Ideal.main_v148) = v18 c
          ∧ r.2.mem ((c.tc : Thread Cert.Reference10Ideal.nD Cert.Reference10Ideal.τ).loc Cert.Reference10Ideal.main_v172) = v19 c
          ∧ r.2.mem ((c.tc : Thread Cert.Reference10Ideal.nD Cert.Reference10Ideal.τ).loc Cert.Reference10Ideal.main_v196) = v20 c
          ∧ r.2.mem ((c.tc : Thread Cert.Reference10Ideal.nD Cert.Reference10Ideal.τ).loc Cert.Reference10Ideal.main_v220) = v21 c
          ∧ r.2.mem ((c.tc : Thread Cert.Reference10Ideal.nD Cert.Reference10Ideal.τ).loc Cert.Reference10Ideal.main_v244) = v22 c
          ∧ r.2.mem ((c.tc : Thread Cert.Reference10Ideal.nD Cert.Reference10Ideal.τ).loc Cert.Reference10Ideal.main_v268) = v23 c
          ∧ r.2.mem ((c.tc : Thread Cert.Reference10Ideal.nD Cert.Reference10Ideal.τ).loc Cert.Reference10Ideal.main_v10) = v24 c
          ∧ r.2.mem ((c.tc : Thread Cert.Reference10Ideal.nD Cert.Reference10Ideal.τ).loc Cert.Reference10Ideal.main_v34) = v25 c
          ∧ r.2.mem ((c.tc : Thread Cert.Reference10Ideal.nD Cert.Reference10Ideal.τ).loc Cert.Reference10Ideal.main_v58) = v26 c
          ∧ r.2.mem ((c.tc : Thread Cert.Reference10Ideal.nD Cert.Reference10Ideal.τ).loc Cert.Reference10Ideal.main_v82) = v27 c
          ∧ r.2.mem ((c.tc : Thread Cert.Reference10Ideal.nD Cert.Reference10Ideal.τ).loc Cert.Reference10Ideal.main_v106) = v28 c
          ∧ r.2.mem ((c.tc : Thread Cert.Reference10Ideal.nD Cert.Reference10Ideal.τ).loc Cert.Reference10Ideal.main_v130) = v29 c
          ∧ r.2.mem ((c.tc : Thread Cert.Reference10Ideal.nD Cert.Reference10Ideal.τ).loc Cert.Reference10Ideal.main_v154) = v30 c
          ∧ r.2.mem ((c.tc : Thread Cert.Reference10Ideal.nD Cert.Reference10Ideal.τ).loc Cert.Reference10Ideal.main_v178) = v31 c
          ∧ r.2.mem ((c.tc : Thread Cert.Reference10Ideal.nD Cert.Reference10Ideal.τ).loc Cert.Reference10Ideal.main_v202) = v32 c
          ∧ r.2.mem ((c.tc : Thread Cert.Reference10Ideal.nD Cert.Reference10Ideal.τ).loc Cert.Reference10Ideal.main_v226) = v33 c
          ∧ r.2.mem ((c.tc : Thread Cert.Reference10Ideal.nD Cert.Reference10Ideal.τ).loc Cert.Reference10Ideal.main_v250) = v34 c
          ∧ r.2.mem ((c.tc : Thread Cert.Reference10Ideal.nD Cert.Reference10Ideal.τ).loc Cert.Reference10Ideal.main_v274) = v35 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8)
          ∧ r.2.mem ((c.tc : Thread Cert.Reference10Ideal.nD Cert.Reference10Ideal.τ).loc Cert.Reference10Ideal.main_arg9) = m' ((c.tc : Thread Cert.Reference10Ideal.nD Cert.Reference10Ideal.τ).loc Cert.Reference10Ideal.main_arg9)
          ∧ r.2.mem ((c.tc : Thread Cert.Reference10Ideal.nD Cert.Reference10Ideal.τ).loc Cert.Reference10Ideal.main_arg10) = m' ((c.tc : Thread Cert.Reference10Ideal.nD Cert.Reference10Ideal.τ).loc Cert.Reference10Ideal.main_arg10)
          ∧ r.2.mem ((c.tc : Thread Cert.Reference10Ideal.nD Cert.Reference10Ideal.τ).loc Cert.Reference10Ideal.main_arg11) = m' ((c.tc : Thread Cert.Reference10Ideal.nD Cert.Reference10Ideal.τ).loc Cert.Reference10Ideal.main_arg11)
          ∧ r.2.mem ((c.tc : Thread Cert.Reference10Ideal.nD Cert.Reference10Ideal.τ).loc Cert.Reference10Ideal.main_arg12) = m' ((c.tc : Thread Cert.Reference10Ideal.nD Cert.Reference10Ideal.τ).loc Cert.Reference10Ideal.main_arg12)
          ∧ r.2.mem ((c.tc : Thread Cert.Reference10Ideal.nD Cert.Reference10Ideal.τ).loc Cert.Reference10Ideal.main_arg13) = m' ((c.tc : Thread Cert.Reference10Ideal.nD Cert.Reference10Ideal.τ).loc Cert.Reference10Ideal.main_arg13)
          ∧ r.2.mem ((c.tc : Thread Cert.Reference10Ideal.nD Cert.Reference10Ideal.τ).loc Cert.Reference10Ideal.main_arg14) = m' ((c.tc : Thread Cert.Reference10Ideal.nD Cert.Reference10Ideal.τ).loc Cert.Reference10Ideal.main_arg14)
          ∧ r.2.mem ((c.tc : Thread Cert.Reference10Ideal.nD Cert.Reference10Ideal.τ).loc Cert.Reference10Ideal.main_arg15) = m' ((c.tc : Thread Cert.Reference10Ideal.nD Cert.Reference10Ideal.τ).loc Cert.Reference10Ideal.main_arg15)
          ∧ r.2.mem ((c.tc : Thread Cert.Reference10Ideal.nD Cert.Reference10Ideal.τ).loc Cert.Reference10Ideal.main_arg16) = m' ((c.tc : Thread Cert.Reference10Ideal.nD Cert.Reference10Ideal.τ).loc Cert.Reference10Ideal.main_arg16)
          ∧ r.2.mem ((c.tc : Thread Cert.Reference10Ideal.nD Cert.Reference10Ideal.τ).loc Cert.Reference10Ideal.main_arg17) = m' ((c.tc : Thread Cert.Reference10Ideal.nD Cert.Reference10Ideal.τ).loc Cert.Reference10Ideal.main_arg17)
          ∧ r.2.mem ((c.tc : Thread Cert.Reference10Ideal.nD Cert.Reference10Ideal.τ).loc Cert.Reference10Ideal.main_arg18) = m' ((c.tc : Thread Cert.Reference10Ideal.nD Cert.Reference10Ideal.τ).loc Cert.Reference10Ideal.main_arg18)
          ∧ r.2.mem ((c.tc : Thread Cert.Reference10Ideal.nD Cert.Reference10Ideal.τ).loc Cert.Reference10Ideal.main_arg19) = m' ((c.tc : Thread Cert.Reference10Ideal.nD Cert.Reference10Ideal.τ).loc Cert.Reference10Ideal.main_arg19)
          ∧ r.2.mem ((c.tc : Thread Cert.Reference10Ideal.nD Cert.Reference10Ideal.τ).loc Cert.Reference10Ideal.main_arg20) = m' ((c.tc : Thread Cert.Reference10Ideal.nD Cert.Reference10Ideal.τ).loc Cert.Reference10Ideal.main_arg20)
          ∧ r.2.mem ((c.tc : Thread Cert.Reference10Ideal.nD Cert.Reference10Ideal.τ).loc Cert.Reference10Ideal.main_arg21) = m' ((c.tc : Thread Cert.Reference10Ideal.nD Cert.Reference10Ideal.τ).loc Cert.Reference10Ideal.main_arg21)
          ∧ r.2.mem ((c.tc : Thread Cert.Reference10Ideal.nD Cert.Reference10Ideal.τ).loc Cert.Reference10Ideal.main_arg22) = m' ((c.tc : Thread Cert.Reference10Ideal.nD Cert.Reference10Ideal.τ).loc Cert.Reference10Ideal.main_arg22)
          ∧ r.2.mem ((c.tc : Thread Cert.Reference10Ideal.nD Cert.Reference10Ideal.τ).loc Cert.Reference10Ideal.main_arg23) = m' ((c.tc : Thread Cert.Reference10Ideal.nD Cert.Reference10Ideal.τ).loc Cert.Reference10Ideal.main_arg23)
          ∧ r.2.mem ((c.tc : Thread Cert.Reference10Ideal.nD Cert.Reference10Ideal.τ).loc Cert.Reference10Ideal.main_arg24) = m' ((c.tc : Thread Cert.Reference10Ideal.nD Cert.Reference10Ideal.τ).loc Cert.Reference10Ideal.main_arg24)
          ∧ r.2.mem ((c.tc : Thread Cert.Reference10Ideal.nD Cert.Reference10Ideal.τ).loc Cert.Reference10Ideal.main_arg25) = m' ((c.tc : Thread Cert.Reference10Ideal.nD Cert.Reference10Ideal.τ).loc Cert.Reference10Ideal.main_arg25)
          ∧ r.2.mem ((c.tc : Thread Cert.Reference10Ideal.nD Cert.Reference10Ideal.τ).loc Cert.Reference10Ideal.main_arg26) = m' ((c.tc : Thread Cert.Reference10Ideal.nD Cert.Reference10Ideal.τ).loc Cert.Reference10Ideal.main_arg26)
          ∧ r.2.mem ((c.tc : Thread Cert.Reference10Ideal.nD Cert.Reference10Ideal.τ).loc Cert.Reference10Ideal.main_arg27) = m' ((c.tc : Thread Cert.Reference10Ideal.nD Cert.Reference10Ideal.τ).loc Cert.Reference10Ideal.main_arg27)
          ∧ r.2.mem ((c.tc : Thread Cert.Reference10Ideal.nD Cert.Reference10Ideal.τ).loc Cert.Reference10Ideal.main_arg28) = m' ((c.tc : Thread Cert.Reference10Ideal.nD Cert.Reference10Ideal.τ).loc Cert.Reference10Ideal.main_arg28)
          ∧ r.2.mem ((c.tc : Thread Cert.Reference10Ideal.nD Cert.Reference10Ideal.τ).loc Cert.Reference10Ideal.main_arg29) = m' ((c.tc : Thread Cert.Reference10Ideal.nD Cert.Reference10Ideal.τ).loc Cert.Reference10Ideal.main_arg29)
          ∧ r.2.mem ((c.tc : Thread Cert.Reference10Ideal.nD Cert.Reference10Ideal.τ).loc Cert.Reference10Ideal.main_arg30) = m' ((c.tc : Thread Cert.Reference10Ideal.nD Cert.Reference10Ideal.τ).loc Cert.Reference10Ideal.main_arg30)
          ∧ r.2.mem ((c.tc : Thread Cert.Reference10Ideal.nD Cert.Reference10Ideal.τ).loc Cert.Reference10Ideal.main_arg31) = m' ((c.tc : Thread Cert.Reference10Ideal.nD Cert.Reference10Ideal.τ).loc Cert.Reference10Ideal.main_arg31)
          ∧ r.2.mem ((c.tc : Thread Cert.Reference10Ideal.nD Cert.Reference10Ideal.τ).loc Cert.Reference10Ideal.main_arg32) = m' ((c.tc : Thread Cert.Reference10Ideal.nD Cert.Reference10Ideal.τ).loc Cert.Reference10Ideal.main_arg32)
          ∧ r.2.mem ((c.tc : Thread Cert.Reference10Ideal.nD Cert.Reference10Ideal.τ).loc Cert.Reference10Ideal.main_arg33) = m' ((c.tc : Thread Cert.Reference10Ideal.nD Cert.Reference10Ideal.τ).loc Cert.Reference10Ideal.main_arg33)
          ∧ r.2.mem ((c.tc : Thread Cert.Reference10Ideal.nD Cert.Reference10Ideal.τ).loc Cert.Reference10Ideal.main_arg34) = m' ((c.tc : Thread Cert.Reference10Ideal.nD Cert.Reference10Ideal.τ).loc Cert.Reference10Ideal.main_arg34)
          ∧ r.2.mem ((c.tc : Thread Cert.Reference10Ideal.nD Cert.Reference10Ideal.τ).loc Cert.Reference10Ideal.main_arg35) = m' ((c.tc : Thread Cert.Reference10Ideal.nD Cert.Reference10Ideal.τ).loc Cert.Reference10Ideal.main_arg35)
          ∧ r.2.mem ((c.tc : Thread Cert.Reference10Ideal.nD Cert.Reference10Ideal.τ).loc Cert.Reference10Ideal.main_arg36) = m' ((c.tc : Thread Cert.Reference10Ideal.nD Cert.Reference10Ideal.τ).loc Cert.Reference10Ideal.main_arg36)
          ∧ r.2.mem ((c.tc : Thread Cert.Reference10Ideal.nD Cert.Reference10Ideal.τ).loc Cert.Reference10Ideal.main_arg37) = m' ((c.tc : Thread Cert.Reference10Ideal.nD Cert.Reference10Ideal.τ).loc Cert.Reference10Ideal.main_arg37)
          ∧ r.2.mem ((c.tc : Thread Cert.Reference10Ideal.nD Cert.Reference10Ideal.τ).loc Cert.Reference10Ideal.main_arg38) = m' ((c.tc : Thread Cert.Reference10Ideal.nD Cert.Reference10Ideal.τ).loc Cert.Reference10Ideal.main_arg38)
          ∧ r.2.mem ((c.tc : Thread Cert.Reference10Ideal.nD Cert.Reference10Ideal.τ).loc Cert.Reference10Ideal.main_arg39) = m' ((c.tc : Thread Cert.Reference10Ideal.nD Cert.Reference10Ideal.τ).loc Cert.Reference10Ideal.main_arg39)
          ∧ r.2.mem ((c.tc : Thread Cert.Reference10Ideal.nD Cert.Reference10Ideal.τ).loc Cert.Reference10Ideal.main_arg40) = m' ((c.tc : Thread Cert.Reference10Ideal.nD Cert.Reference10Ideal.τ).loc Cert.Reference10Ideal.main_arg40)
          ∧ r.2.mem ((c.tc : Thread Cert.Reference10Ideal.nD Cert.Reference10Ideal.τ).loc Cert.Reference10Ideal.main_arg41) = m' ((c.tc : Thread Cert.Reference10Ideal.nD Cert.Reference10Ideal.τ).loc Cert.Reference10Ideal.main_arg41)
          ∧ r.2.mem ((c.tc : Thread Cert.Reference10Ideal.nD Cert.Reference10Ideal.τ).loc Cert.Reference10Ideal.main_arg42) = m' ((c.tc : Thread Cert.Reference10Ideal.nD Cert.Reference10Ideal.τ).loc Cert.Reference10Ideal.main_arg42)
          ∧ r.2.mem ((c.tc : Thread Cert.Reference10Ideal.nD Cert.Reference10Ideal.τ).loc Cert.Reference10Ideal.main_arg43) = m' ((c.tc : Thread Cert.Reference10Ideal.nD Cert.Reference10Ideal.τ).loc Cert.Reference10Ideal.main_arg43)
          ∧ r.2.mem ((c.tc : Thread Cert.Reference10Ideal.nD Cert.Reference10Ideal.τ).loc Cert.Reference10Ideal.main_arg44) = m' ((c.tc : Thread Cert.Reference10Ideal.nD Cert.Reference10Ideal.τ).loc Cert.Reference10Ideal.main_arg44)
          ∧ r.2.mem ((c.tc : Thread Cert.Reference10Ideal.nD Cert.Reference10Ideal.τ).loc Cert.Reference10Ideal.main_arg45) = m' ((c.tc : Thread Cert.Reference10Ideal.nD Cert.Reference10Ideal.τ).loc Cert.Reference10Ideal.main_arg45)
          ∧ r.2.mem ((c.tc : Thread Cert.Reference10Ideal.nD Cert.Reference10Ideal.τ).loc Cert.Reference10Ideal.main_arg46) = m' ((c.tc : Thread Cert.Reference10Ideal.nD Cert.Reference10Ideal.τ).loc Cert.Reference10Ideal.main_arg46)
          ∧ r.2.mem ((c.tc : Thread Cert.Reference10Ideal.nD Cert.Reference10Ideal.τ).loc Cert.Reference10Ideal.main_arg47) = m' ((c.tc : Thread Cert.Reference10Ideal.nD Cert.Reference10Ideal.τ).loc Cert.Reference10Ideal.main_arg47))

def preserves_Kernel11_Kernel11Ideal : Prop :=
  True

def algebraic_Kernel11Ideal_Reference11Ideal_pre_finite11 [hKernel11Ideal : Cert.Kernel11Ideal.Facts] [hReference11Ideal : Cert.Reference11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite11 m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v4)) (v1 : (c : Dev Cert.Kernel11Ideal.nD) → Buf (Elt Ideal) ((c.tc : Thread Cert.Kernel11Ideal.nD Cert.Kernel11Ideal.τ).loc Cert.Kernel11Ideal.main_v3_0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4) = v0 c
          ∧ r.2.mem ((c.tc : Thread Cert.Kernel11Ideal.nD Cert.Kernel11Ideal.τ).loc Cert.Kernel11Ideal.main_v3_0) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v15) = v0 c
          ∧ r.2.mem ((c.tc : Thread Cert.Reference11Ideal.nD Cert.Reference11Ideal.τ).loc Cert.Reference11Ideal.main_v22) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal_pre_finite12 [hKernel12Ideal : Cert.Kernel12Ideal.Facts] [hReference12Ideal : Cert.Reference12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite12 m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v24_0)) (v1 : (c : Dev Cert.Kernel12Ideal.nD) → Buf (Elt Ideal) ((c.tc : Thread Cert.Kernel12Ideal.nD Cert.Kernel12Ideal.τ).loc Cert.Kernel12Ideal.main_v25)) (v2 : (c : Dev Cert.Kernel12Ideal.nD) → Buf (Elt Ideal) ((c.tc : Thread Cert.Kernel12Ideal.nD Cert.Kernel12Ideal.τ).loc Cert.Kernel12Ideal.main_v27)) (v3 : (c : Dev Cert.Kernel12Ideal.nD) → Buf (Elt Ideal) ((c.tc : Thread Cert.Kernel12Ideal.nD Cert.Kernel12Ideal.τ).loc Cert.Kernel12Ideal.main_v29)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v24_0) = v0 c
          ∧ r.2.mem ((c.tc : Thread Cert.Kernel12Ideal.nD Cert.Kernel12Ideal.τ).loc Cert.Kernel12Ideal.main_v25) = v1 c
          ∧ r.2.mem ((c.tc : Thread Cert.Kernel12Ideal.nD Cert.Kernel12Ideal.τ).loc Cert.Kernel12Ideal.main_v27) = v2 c
          ∧ r.2.mem ((c.tc : Thread Cert.Kernel12Ideal.nD Cert.Kernel12Ideal.τ).loc Cert.Kernel12Ideal.main_v29) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v65) = v0 c
          ∧ r.2.mem ((c.tc : Thread Cert.Reference12Ideal.nD Cert.Reference12Ideal.τ).loc Cert.Reference12Ideal.main_v64) = v1 c
          ∧ r.2.mem ((c.tc : Thread Cert.Reference12Ideal.nD Cert.Reference12Ideal.τ).loc Cert.Reference12Ideal.main_v39) = v2 c
          ∧ r.2.mem ((c.tc : Thread Cert.Reference12Ideal.nD Cert.Reference12Ideal.τ).loc Cert.Reference12Ideal.main_v33) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite : Cert.Pre_finite.Facts) (hPre_finite11 : Cert.Pre_finite11.Facts) (hPre_finite12 : Cert.Pre_finite12.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_finite11 (hKernel11Ideal := hKernel11Ideal) (hPre_finite11 := hPre_finite11)
    ∧ quiescent_Reference11Ideal (hReference11Ideal := hReference11Ideal)
    ∧ quiescent_Reference11Ideal_pre_finite11 (hReference11Ideal := hReference11Ideal) (hPre_finite11 := hPre_finite11)
    ∧ quiescent_Kernel12 (hKernel12 := hKernel12)
    ∧ quiescent_Kernel12Ideal (hKernel12Ideal := hKernel12Ideal)
    ∧ quiescent_Kernel12Ideal_pre_finite12 (hKernel12Ideal := hKernel12Ideal) (hPre_finite12 := hPre_finite12)
    ∧ quiescent_Reference12Ideal (hReference12Ideal := hReference12Ideal)
    ∧ quiescent_Reference12Ideal_pre_finite12 (hReference12Ideal := hReference12Ideal) (hPre_finite12 := hPre_finite12)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_finite11 (hKernel11Ideal := hKernel11Ideal) (hReference11Ideal := hReference11Ideal) (hPre_finite11 := hPre_finite11)
    ∧ preserves_Kernel12_Kernel12Ideal
    ∧ algebraic_Kernel12Ideal_Reference12Ideal_pre_finite12 (hKernel12Ideal := hKernel12Ideal) (hReference12Ideal := hReference12Ideal) (hPre_finite12 := hPre_finite12)
-- ==== Pre_finite.lean ====
abbrev S8320x1024 : Shape := ⟨2, ![8320, 1024]⟩
abbrev S1024x5504 : Shape := ⟨2, ![1024, 5504]⟩
abbrev S2752x1024 : Shape := ⟨2, ![2752, 1024]⟩
abbrev S1024 : Shape := ⟨1, ![1024]⟩
abbrev S_ : Shape := ⟨0, ![]⟩

class Facts : Prop where
  bcast_S_S8320x1024 : S_.BroadcastsInDim S8320x1024 (![] : Fin 0 → Fin S8320x1024.rank)
  bcast_S_S1024x5504 : S_.BroadcastsInDim S1024x5504 (![] : Fin 0 → Fin S1024x5504.rank)
  bcast_S_S2752x1024 : S_.BroadcastsInDim S2752x1024 (![] : Fin 0 → Fin S2752x1024.rank)
  bcast_S_S1024 : S_.BroadcastsInDim S1024 (![] : Fin 0 → Fin S1024.rank)

variable [Facts]

def fn {F : FTy → Type} [FloatOps F] (main_arg0 : FVec F S8320x1024 .f32) (main_arg1 : FVec F S1024x5504 .f32) (main_arg2 : FVec F S2752x1024 .f32) (main_arg3 : FVec F S1024 .f32) (main_arg4 : FVec F S1024 .f32) (main_arg5 : FVec F S8320x1024 .f32) : IVec S8320x1024 1 × IVec S1024x5504 1 × IVec S2752x1024 1 × IVec S1024 1 × IVec S8320x1024 1 :=
  let main_v0 : FVec F S8320x1024 .f32 := Host.absf main_arg0
  let main_cst : FVec F S_ .f32 := constant S_ .f32 0x7F800000#32
  let main_v1 : FVec F S8320x1024 .f32 := broadcastInDim S8320x1024 ![] bcast_S_S8320x1024 main_cst
  let main_v2 : IVec S8320x1024 1 := cmpf .olt main_v0 main_v1
  let main_v3 : FVec F S1024x5504 .f32 := Host.absf main_arg1
  let main_cst_0 : FVec F S_ .f32 := constant S_ .f32 0x7F800000#32
  let main_v4 : FVec F S1024x5504 .f32 := broadcastInDim S1024x5504 ![] bcast_S_S1024x5504 main_cst_0
  let main_v5 : IVec S1024x5504 1 := cmpf .olt main_v3 main_v4
  let main_v6 : FVec F S2752x1024 .f32 := Host.absf main_arg2
  let main_cst_1 : FVec F S_ .f32 := constant S_ .f32 0x7F800000#32
  let main_v7 : FVec F S2752x1024 .f32 := broadcastInDim S2752x1024 ![] bcast_S_S2752x1024 main_cst_1
  let main_v8 : IVec S2752x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S8320x1024 .f32 := Host.absf main_arg5
  let main_cst_3 : FVec F S_ .f32 := constant S_ .f32 0x7F800000#32
  let main_v13 : FVec F S8320x1024 .f32 := broadcastInDim S8320x1024 ![] bcast_S_S8320x1024 main_cst_3
  let main_v14 : IVec S8320x1024 1 := cmpf .olt main_v12 main_v13
  (main_v2, main_v5, main_v8, main_v11, main_v14)
-- ==== Pre_finite11.lean ====
abbrev S8320x1024 : Shape := ⟨2, ![8320, 1024]⟩
abbrev S1024 : Shape := ⟨1, ![1024]⟩
abbrev S8192x1024 : Shape := ⟨2, ![8192, 1024]⟩
abbrev S128x1024 : Shape := ⟨2, ![128, 1024]⟩
abbrev S_ : Shape := ⟨0, ![]⟩

class Facts : Prop where
  slices_S8320x1024_S128x1024_0_0 : S8320x1024.Slices ![0, 0] S128x1024
  bcast_S_S128x1024 : S_.BroadcastsInDim S128x1024 (![] : Fin 0 → Fin S128x1024.rank)
  bcast_S_S1024 : S_.BroadcastsInDim S1024 (![] : Fin 0 → Fin S1024.rank)

variable [Facts]

def fn {F : FTy → Type} [FloatOps F] (main_arg0 : FVec F S8320x1024 .f32) (main_arg1 : FVec F S1024 .f32) (main_arg2 : FVec F S1024 .f32) (main_arg3 : FVec F S8192x1024 .f32) : IVec S128x1024 1 × IVec S1024 1 × IVec S1024 1 :=
  let main_v0 : FVec F S128x1024 .f32 := (extractStridedSlice S128x1024 ![0, 0] · slices_S8320x1024_S128x1024_0_0) main_arg0
  let main_v1 : FVec F S128x1024 .f32 := Host.absf main_v0
  let main_cst : FVec F S_ .f32 := constant S_ .f32 0x7F800000#32
  let main_v2 : FVec F S128x1024 .f32 := broadcastInDim S128x1024 ![] bcast_S_S128x1024 main_cst
  let main_v3 : IVec S128x1024 1 := cmpf .olt main_v1 main_v2
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_v7 : FVec F S1024 .f32 := Host.absf main_arg2
  let main_cst_1 : FVec F S_ .f32 := constant S_ .f32 0x7F800000#32
  let main_v8 : FVec F S1024 .f32 := broadcastInDim S1024 ![] bcast_S_S1024 main_cst_1
  let main_v9 : IVec S1024 1 := cmpf .olt main_v7 main_v8
  (main_v3, main_v6, main_v9)
-- ==== Pre_finite12.lean ====
abbrev S8192x1024 : Shape := ⟨2, ![8192, 1024]⟩
abbrev S16x1024 : Shape := ⟨2, ![16, 1024]⟩
abbrev S1024 : Shape := ⟨1, ![1024]⟩
abbrev S8208x1024 : Shape := ⟨2, ![8208, 1024]⟩
abbrev S_ : Shape := ⟨0, ![]⟩

class Facts : Prop where
  bcast_S_S1024 : S_.BroadcastsInDim S1024 (![] : Fin 0 → Fin S1024.rank)
  bcast_S_S8208x1024 : S_.BroadcastsInDim S8208x1024 (![] : Fin 0 → Fin S8208x1024.rank)

variable [Facts]

def fn {F : FTy → Type} [FloatOps F] (main_arg0 : FVec F S8192x1024 .f32) (main_arg1 : FVec F S16x1024 .f32) (main_arg2 : FVec F S1024 .f32) (main_arg3 : FVec F S1024 .f32) (main_arg4 : FVec F S8208x1024 .f32) : IVec S1024 1 × IVec S8208x1024 1 :=
  let main_v0 : FVec F S1024 .f32 := Host.absf main_arg2
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S8208x1024 .f32 := Host.absf main_arg4
  let main_cst_0 : FVec F S_ .f32 := constant S_ .f32 0x7F800000#32
  let main_v4 : FVec F S8208x1024 .f32 := broadcastInDim S8208x1024 ![] bcast_S_S8208x1024 main_cst_0
  let main_v5 : IVec S8208x1024 1 := cmpf .olt main_v3 main_v4
  (main_v2, main_v5)
-- ==== Kernel.lean ====
abbrev S8320x1024 : Shape := ⟨2, ![8320, 1024]⟩
abbrev S1024x5504 : Shape := ⟨2, ![1024, 5504]⟩
abbrev S2752x1024 : Shape := ⟨2, ![2752, 1024]⟩
abbrev S1024 : Shape := ⟨1, ![1024]⟩
abbrev S8320x5504 : Shape := ⟨2, ![8320, 5504]⟩
abbrev S8320x2752 : Shape := ⟨2, ![8320, 2752]⟩
abbrev S_ : Shape := ⟨0, ![]⟩
abbrev S8320 : Shape := ⟨1, ![8320]⟩
abbrev S8320x1 : Shape := ⟨2, ![8320, 1]⟩
abbrev S8320x32 : Shape := ⟨2, ![8320, 32]⟩
abbrev S8320x1376 : Shape := ⟨2, ![8320, 1376]⟩
abbrev S8320x5632 : Shape := ⟨2, ![8320, 5632]⟩
abbrev S1x1024 : Shape := ⟨2, ![1, 1024]⟩
abbrev S2x1024 : Shape := ⟨2, ![2, 1024]⟩
abbrev S16x1024 : Shape := ⟨2, ![16, 1024]⟩
abbrev S1024x1376 : Shape := ⟨2, ![1024, 1376]⟩
abbrev S1376x1024 : Shape := ⟨2, ![1376, 1024]⟩
abbrev S688x1024 : Shape := ⟨2, ![688, 1024]⟩
abbrev S2080x1024 : Shape := ⟨2, ![2080, 1024]⟩
abbrev S1x2080x1024 : Shape := ⟨3, ![1, 2080, 1024]⟩
abbrev S4x2080x1024 : Shape := ⟨3, ![4, 2080, 1024]⟩
abbrev S8320x2816 : Shape := ⟨2, ![8320, 2816]⟩
abbrev S8x1024 : Shape := ⟨2, ![8, 1024]⟩
abbrev S320x1024 : Shape := ⟨2, ![320, 1024]⟩
abbrev S320x1 : Shape := ⟨2, ![320, 1]⟩
abbrev S320x5632 : Shape := ⟨2, ![320, 5632]⟩
abbrev S320x2816 : Shape := ⟨2, ![320, 2816]⟩
abbrev S4x1408x1024 : Shape := ⟨3, ![4, 1408, 1024]⟩
abbrev S2816x1024 : Shape := ⟨2, ![2816, 1024]⟩
abbrev S8 : Shape := ⟨1, ![8]⟩
abbrev S1 : Shape := ⟨1, ![1]⟩
abbrev S1x1376x1024 : Shape := ⟨3, ![1, 1376, 1024]⟩
abbrev S1x688x1024 : Shape := ⟨3, ![1, 688, 1024]⟩
abbrev S32x1024 : Shape := ⟨2, ![32, 1024]⟩
abbrev S1x32x1024 : Shape := ⟨3, ![1, 32, 1024]⟩
abbrev S320 : Shape := ⟨1, ![320]⟩
abbrev S320x1408 : Shape := ⟨2, ![320, 1408]⟩
abbrev S1408x1024 : Shape := ⟨2, ![1408, 1024]⟩
abbrev S1x1408x1024 : Shape := ⟨3, ![1, 1408, 1024]⟩

abbrev nBuf : Space → Nat
  | .hbm => 101
  | .vmem => 20
  | .smem => 0
  | _ => 0

abbrev bufTy : (tb : Table) → Fin (tcTables nBuf tb) → BufTy
  | .hbm, ⟨0, _⟩ => ⟨S8320x1024, .f32⟩
  | .hbm, ⟨1, _⟩ => ⟨S1024x5504, .f32⟩
  | .hbm, ⟨2, _⟩ => ⟨S2752x1024, .f32⟩
  | .hbm, ⟨3, _⟩ => ⟨S1024, .f32⟩
  | .hbm, ⟨4, _⟩ => ⟨S1024, .f32⟩
  | .hbm, ⟨5, _⟩ => ⟨S8320x1024, .f32⟩
  | .hbm, ⟨6, _⟩ => ⟨S8320x5504, .f32⟩
  | .hbm, ⟨7, _⟩ => ⟨S8320x2752, .f32⟩
  | .hbm, ⟨8, _⟩ => ⟨S8320x2752, .f32⟩
  | .hbm, ⟨9, _⟩ => ⟨S_, .f32⟩
  | .hbm, ⟨10, _⟩ => ⟨S8320x1024, .f32⟩
  | .hbm, ⟨11, _⟩ => ⟨S8320x1024, .f32⟩
  | .hbm, ⟨12, _⟩ => ⟨S8320x2752, .f32⟩
  | .hbm, ⟨13, _⟩ => ⟨S8320x2752, .f32⟩
  | .hbm, ⟨14, _⟩ => ⟨S_, .f32⟩
  | .hbm, ⟨15, _⟩ => ⟨S8320x2752, .f32⟩
  | .hbm, ⟨16, _⟩ => ⟨S8320x2752, .f32⟩
  | .hbm, ⟨17, _⟩ => ⟨S_, .f32⟩
  | .hbm, ⟨18, _⟩ => ⟨S8320x2752, .f32⟩
  | .hbm, ⟨19, _⟩ => ⟨S8320x2752, .f32⟩
  | .hbm, ⟨20, _⟩ => ⟨S8320x2752, .f32⟩
  | .hbm, ⟨21, _⟩ => ⟨S8320x2752, .f32⟩
  | .hbm, ⟨22, _⟩ => ⟨S8320x1024, .f32⟩
  | .hbm, ⟨23, _⟩ => ⟨S_, .f32⟩
  | .hbm, ⟨24, _⟩ => ⟨S8320x1024, .f32⟩
  | .hbm, ⟨25, _⟩ => ⟨S8320x1024, .f32⟩
  | .hbm, ⟨26, _⟩ => ⟨S8320x1024, .f32⟩
  | .hbm, ⟨27, _⟩ => ⟨S_, .f32⟩
  | .hbm, ⟨28, _⟩ => ⟨S8320, .f32⟩
  | .hbm, ⟨29, _⟩ => ⟨S8320x1, .f32⟩
  | .hbm, ⟨30, _⟩ => ⟨S_, .f32⟩
  | .hbm, ⟨31, _⟩ => ⟨S8320x1, .f32⟩
  | .hbm, ⟨32, _⟩ => ⟨S8320x1, .f32⟩
  | .hbm, ⟨33, _⟩ => ⟨S8320x1024, .f32⟩
  | .hbm, ⟨34, _⟩ => ⟨S8320x1024, .f32⟩
  | .hbm, ⟨35, _⟩ => ⟨S8320x1024, .f32⟩
  | .hbm, ⟨36, _⟩ => ⟨S_, .f32⟩
  | .hbm, ⟨37, _⟩ => ⟨S8320, .f32⟩
  | .hbm, ⟨38, _⟩ => ⟨S8320x1, .f32⟩
  | .hbm, ⟨39, _⟩ => ⟨S_, .f32⟩
  | .hbm, ⟨40, _⟩ => ⟨S8320x1, .f32⟩
  | .hbm, ⟨41, _⟩ => ⟨S8320x1, .f32⟩
  | .hbm, ⟨42, _⟩ => ⟨S_, .f32⟩
  | .hbm, ⟨43, _⟩ => ⟨S8320x1, .f32⟩
  | .hbm, ⟨44, _⟩ => ⟨S8320x1, .f32⟩
  | .hbm, ⟨45, _⟩ => ⟨S8320x1, .f32⟩
  | .hbm, ⟨46, _⟩ => ⟨S8320x1024, .f32⟩
  | .hbm, ⟨47, _⟩ => ⟨S8320x1024, .f32⟩
  | .hbm, ⟨48, _⟩ => ⟨S8320x1024, .f32⟩
  | .hbm, ⟨49, _⟩ => ⟨S8320x1024, .f32⟩
  | .hbm, ⟨50, _⟩ => ⟨S_, .f32⟩
  | .hbm, ⟨51, _⟩ => ⟨S8320x32, .f32⟩
  | .hbm, ⟨52, _⟩ => ⟨S8320x1376, .f32⟩
  | .hbm, ⟨53, _⟩ => ⟨S8320x1376, .f32⟩
  | .hbm, ⟨54, _⟩ => ⟨S8320x1376, .f32⟩
  | .hbm, ⟨55, _⟩ => ⟨S8320x1376, .f32⟩
  | .hbm, ⟨56, _⟩ => ⟨S8320x5632, .f32⟩
  | .hbm, ⟨57, _⟩ => ⟨S8320x5632, .bf16⟩
  | .hbm, ⟨58, _⟩ => ⟨S1x1024, .f32⟩
  | .hbm, ⟨59, _⟩ => ⟨S1x1024, .f32⟩
  | .hbm, ⟨60, _⟩ => ⟨S2x1024, .f32⟩
  | .hbm, ⟨61, _⟩ => ⟨S_, .bf16⟩
  | .hbm, ⟨62, _⟩ => ⟨S16x1024, .bf16⟩
  | .hbm, ⟨63, _⟩ => ⟨S1024x1376, .f32⟩
  | .hbm, ⟨64, _⟩ => ⟨S1024x1376, .bf16⟩
  | .hbm, ⟨65, _⟩ => ⟨S1376x1024, .bf16⟩
  | .hbm, ⟨66, _⟩ => ⟨S688x1024, .f32⟩
  | .hbm, ⟨67, _⟩ => ⟨S688x1024, .bf16⟩
  | .hbm, ⟨68, _⟩ => ⟨S2080x1024, .bf16⟩
  | .hbm, ⟨69, _⟩ => ⟨S1024x1376, .f32⟩
  | .hbm, ⟨70, _⟩ => ⟨S1024x1376, .bf16⟩
  | .hbm, ⟨71, _⟩ => ⟨S1376x1024, .bf16⟩
  | .hbm, ⟨72, _⟩ => ⟨S688x1024, .f32⟩
  | .hbm, ⟨73, _⟩ => ⟨S688x1024, .bf16⟩
  | .hbm, ⟨74, _⟩ => ⟨S2080x1024, .bf16⟩
  | .hbm, ⟨75, _⟩ => ⟨S1024x1376, .f32⟩
  | .hbm, ⟨76, _⟩ => ⟨S1024x1376, .bf16⟩
  | .hbm, ⟨77, _⟩ => ⟨S1376x1024, .bf16⟩
  | .hbm, ⟨78, _⟩ => ⟨S688x1024, .f32⟩
  | .hbm, ⟨79, _⟩ => ⟨S688x1024, .bf16⟩
  | .hbm, ⟨80, _⟩ => ⟨S2080x1024, .bf16⟩
  | .hbm, ⟨81, _⟩ => ⟨S1024x1376, .f32⟩
  | .hbm, ⟨82, _⟩ => ⟨S1024x1376, .bf16⟩
  | .hbm, ⟨83, _⟩ => ⟨S1376x1024, .bf16⟩
  | .hbm, ⟨84, _⟩ => ⟨S688x1024, .f32⟩
  | .hbm, ⟨85, _⟩ => ⟨S688x1024, .bf16⟩
  | .hbm, ⟨86, _⟩ => ⟨S2080x1024, .bf16⟩
  | .hbm, ⟨87, _⟩ => ⟨S1x2080x1024, .bf16⟩
  | .hbm, ⟨88, _⟩ => ⟨S1x2080x1024, .bf16⟩
  | .hbm, ⟨89, _⟩ => ⟨S1x2080x1024, .bf16⟩
  | .hbm, ⟨90, _⟩ => ⟨S1x2080x1024, .bf16⟩
  | .hbm, ⟨91, _⟩ => ⟨S4x2080x1024, .bf16⟩
  | .hbm, ⟨92, _⟩ => ⟨S8320x1024, .f32⟩
  | .hbm, ⟨93, _⟩ => ⟨S8320x2816, .bf16⟩
  | .hbm, ⟨94, _⟩ => ⟨S8320x5632, .bf16⟩
  | .hbm, ⟨95, _⟩ => ⟨S8320x1024, .bf16⟩
  | .hbm, ⟨96, _⟩ => ⟨S8x1024, .f32⟩
  | .hbm, ⟨97, _⟩ => ⟨S1x1024, .f32⟩
  | .hbm, ⟨98, _⟩ => ⟨S1024, .f32⟩
  | .hbm, ⟨99, _⟩ => ⟨S1x1024, .f32⟩
  | .hbm, ⟨100, _⟩ => ⟨S1024, .f32⟩
  | .local _ .vmem, ⟨0, _⟩ => ⟨S320x1024, .f32⟩
  | .local _ .vmem, ⟨1, _⟩ => ⟨S320x1024, .f32⟩
  | .local _ .vmem, ⟨2, _⟩ => ⟨S320x1024, .f32⟩
  | .local _ .vmem, ⟨3, _⟩ => ⟨S320x1024, .f32⟩
  | .local _ .vmem, ⟨4, _⟩ => ⟨S320x1, .f32⟩
  | .local _ .vmem, ⟨5, _⟩ => ⟨S320x1, .f32⟩
  | .local _ .vmem, ⟨6, _⟩ => ⟨S2x1024, .f32⟩
  | .local _ .vmem, ⟨7, _⟩ => ⟨S320x5632, .bf16⟩
  | .local _ .vmem, ⟨8, _⟩ => ⟨S320x5632, .bf16⟩
  | .local _ .vmem, ⟨9, _⟩ => ⟨S320x1024, .f32⟩
  | .local _ .vmem, ⟨10, _⟩ => ⟨S320x1024, .f32⟩
  | .local _ .vmem, ⟨11, _⟩ => ⟨S320x2816, .bf16⟩
  | .local _ .vmem, ⟨12, _⟩ => ⟨S320x2816, .bf16⟩
  | .local _ .vmem, ⟨13, _⟩ => ⟨S320x5632, .bf16⟩
  | .local _ .vmem, ⟨14, _⟩ => ⟨S320x5632, .bf16⟩
  | .local _ .vmem, ⟨15, _⟩ => ⟨S320x1024, .bf16⟩
  | .local _ .vmem, ⟨16, _⟩ => ⟨S320x1024, .bf16⟩
  | .local _ .vmem, ⟨17, _⟩ => ⟨S8x1024, .f32⟩
  | .local _ .vmem, ⟨18, _⟩ => ⟨S4x1408x1024, .bf16⟩
  | .local _ .vmem, ⟨19, _⟩ => ⟨S2816x1024, .bf16⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_cst_4 : Ref sig .tc := ⟨.hbm, 39, rfl⟩
abbrev main_v20 : Ref sig .tc := ⟨.hbm, 40, rfl⟩
abbrev main_v21 : Ref sig .tc := ⟨.hbm, 41, rfl⟩
abbrev main_cst_5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_6 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_7 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69_0 : Ref sig .tc := ⟨.hbm, 92, rfl⟩
abbrev main_v69_1 : Ref sig .tc := ⟨.hbm, 93, rfl⟩
abbrev main_v69_2 : Ref sig .tc := ⟨.hbm, 94, rfl⟩
abbrev main_v69_3 : Ref sig .tc := ⟨.hbm, 95, rfl⟩
abbrev main_v69_4 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S320x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S320x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S320x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S320x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S320x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S320x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S320x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S320x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S8320x1024 : Shape := ⟨2, ![8320, 1024]⟩
abbrev S1024x5504 : Shape := ⟨2, ![1024, 5504]⟩
abbrev S2752x1024 : Shape := ⟨2, ![2752, 1024]⟩
abbrev S1024 : Shape := ⟨1, ![1024]⟩
abbrev S_ : Shape := ⟨0, ![]⟩
abbrev S8320x5504 : Shape := ⟨2, ![8320, 5504]⟩
abbrev S8320x2752 : Shape := ⟨2, ![8320, 2752]⟩
abbrev S8320 : Shape := ⟨1, ![8320]⟩
abbrev S8320x1 : Shape := ⟨2, ![8320, 1]⟩
abbrev S1x1024 : Shape := ⟨2, ![1, 1024]⟩

abbrev nBuf : Space → Nat
  | .hbm => 128
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1024x5504, .f32⟩
  | .hbm, ⟨2, _⟩ => ⟨S2752x1024, .f32⟩
  | .hbm, ⟨3, _⟩ => ⟨S1024, .f32⟩
  | .hbm, ⟨4, _⟩ => ⟨S1024, .f32⟩
  | .hbm, ⟨5, _⟩ => ⟨S8320x1024, .f32⟩
  | .hbm, ⟨6, _⟩ => ⟨S_, .f32⟩
  | .hbm, ⟨7, _⟩ => ⟨S8320x1024, .f32⟩
  | .hbm, ⟨8, _⟩ => ⟨S8320x1024, .f32⟩
  | .hbm, ⟨9, _⟩ => ⟨S8320x5504, .f32⟩
  | .hbm, ⟨10, _⟩ => ⟨S8320x2752, .f32⟩
  | .hbm, ⟨11, _⟩ => ⟨S8320x2752, .f32⟩
  | .hbm, ⟨12, _⟩ => ⟨S8320x2752, .f32⟩
  | .hbm, ⟨13, _⟩ => ⟨S8320x2752, .f32⟩
  | .hbm, ⟨14, _⟩ => ⟨S_, .f32⟩
  | .hbm, ⟨15, _⟩ => ⟨S8320x2752, .f32⟩
  | .hbm, ⟨16, _⟩ => ⟨S8320x2752, .f32⟩
  | .hbm, ⟨17, _⟩ => ⟨S_, .f32⟩
  | .hbm, ⟨18, _⟩ => ⟨S8320x2752, .f32⟩
  | .hbm, ⟨19, _⟩ => ⟨S8320x2752, .f32⟩
  | .hbm, ⟨20, _⟩ => ⟨S_, .f32⟩
  | .hbm, ⟨21, _⟩ => ⟨S8320x2752, .f32⟩
  | .hbm, ⟨22, _⟩ => ⟨S8320x2752, .f32⟩
  | .hbm, ⟨23, _⟩ => ⟨S8320x2752, .f32⟩
  | .hbm, ⟨24, _⟩ => ⟨S8320x2752, .f32⟩
  | .hbm, ⟨25, _⟩ => ⟨S8320x2752, .f32⟩
  | .hbm, ⟨26, _⟩ => ⟨S8320x1024, .f32⟩
  | .hbm, ⟨27, _⟩ => ⟨S_, .f32⟩
  | .hbm, ⟨28, _⟩ => ⟨S8320x1024, .f32⟩
  | .hbm, ⟨29, _⟩ => ⟨S8320x1024, .f32⟩
  | .hbm, ⟨30, _⟩ => ⟨S8320x1024, .f32⟩
  | .hbm, ⟨31, _⟩ => ⟨S_, .f32⟩
  | .hbm, ⟨32, _⟩ => ⟨S8320, .f32⟩
  | .hbm, ⟨33, _⟩ => ⟨S8320x1, .f32⟩
  | .hbm, ⟨34, _⟩ => ⟨S_, .f32⟩
  | .hbm, ⟨35, _⟩ => ⟨S8320x1, .f32⟩
  | .hbm, ⟨36, _⟩ => ⟨S8320x1, .f32⟩
  | .hbm, ⟨37, _⟩ => ⟨S8320x1024, .f32⟩
  | .hbm, ⟨38, _⟩ => ⟨S8320x1024, .f32⟩
  | .hbm, ⟨39, _⟩ => ⟨S8320x1024, .f32⟩
  | .hbm, ⟨40, _⟩ => ⟨S_, .f32⟩
  | .hbm, ⟨41, _⟩ => ⟨S8320x1024, .f32⟩
  | .hbm, ⟨42, _⟩ => ⟨S8320x1024, .f32⟩
  | .hbm, ⟨43, _⟩ => ⟨S_, .f32⟩
  | .hbm, ⟨44, _⟩ => ⟨S8320, .f32⟩
  | .hbm, ⟨45, _⟩ => ⟨S8320x1, .f32⟩
  | .hbm, ⟨46, _⟩ => ⟨S_, .f32⟩
  | .hbm, ⟨47, _⟩ => ⟨S8320x1, .f32⟩
  | .hbm, ⟨48, _⟩ => ⟨S8320x1, .f32⟩
  | .hbm, ⟨49, _⟩ => ⟨S8320x1024, .f32⟩
  | .hbm, ⟨50, _⟩ => ⟨S8320x1024, .f32⟩
  | .hbm, ⟨51, _⟩ => ⟨S_, .f32⟩
  | .hbm, ⟨52, _⟩ => ⟨S8320x1, .f32⟩
  | .hbm, ⟨53, _⟩ => ⟨S8320x1, .f32⟩
  | .hbm, ⟨54, _⟩ => ⟨S8320x1, .f32⟩
  | .hbm, ⟨55, _⟩ => ⟨S8320x1, .f32⟩
  | .hbm, ⟨56, _⟩ => ⟨S_, .f32⟩
  | .hbm, ⟨57, _⟩ => ⟨S8320x1, .f32⟩
  | .hbm, ⟨58, _⟩ => ⟨S8320x1, .f32⟩
  | .hbm, ⟨59, _⟩ => ⟨S8320x1024, .f32⟩
  | .hbm, ⟨60, _⟩ => ⟨S8320x1024, .f32⟩
  | .hbm, ⟨61, _⟩ => ⟨S1x1024, .f32⟩
  | .hbm, ⟨62, _⟩ => ⟨S8320x1024, .f32⟩
  | .hbm, ⟨63, _⟩ => ⟨S8320x1024, .f32⟩
  | .hbm, ⟨64, _⟩ => ⟨S1x1024, .f32⟩
  | .hbm, ⟨65, _⟩ => ⟨S8320x1024, .f32⟩
  | .hbm, ⟨66, _⟩ => ⟨S8320x1024, .f32⟩
  | .hbm, ⟨67, _⟩ => ⟨S8320x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S_, .f32⟩
  | .hbm, ⟨72, _⟩ => ⟨S1024, .f32⟩
  | .hbm, ⟨73, _⟩ => ⟨S8320x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S8320x1024, .f32⟩
  | .hbm, ⟨78, _⟩ => ⟨S8320x1024, .f32⟩
  | .hbm, ⟨79, _⟩ => ⟨S_, .f32⟩
  | .hbm, ⟨80, _⟩ => ⟨S1024, .f32⟩
  | .hbm, ⟨81, _⟩ => ⟨S8320x1024, .f32⟩
  | .hbm, ⟨82, _⟩ => ⟨S_, .f32⟩
  | .hbm, ⟨83, _⟩ => ⟨S8320, .f32⟩
  | .hbm, ⟨84, _⟩ => ⟨S8320x1, .f32⟩
  | .hbm, ⟨85, _⟩ => ⟨S8320x1024, .f32⟩
  | .hbm, ⟨86, _⟩ => ⟨S8320x1024, .f32⟩
  | .hbm, ⟨87, _⟩ => ⟨S8320x1, .f32⟩
  | .hbm, ⟨88, _⟩ => ⟨S8320x1024, .f32⟩
  | .hbm, ⟨89, _⟩ => ⟨S_, .f32⟩
  | .hbm, ⟨90, _⟩ => ⟨S8320, .f32⟩
  | .hbm, ⟨91, _⟩ => ⟨S8320x1, .f32⟩
  | .hbm, ⟨92, _⟩ => ⟨S_, .f32⟩
  | .hbm, ⟨93, _⟩ => ⟨S8320x1, .f32⟩
  | .hbm, ⟨94, _⟩ => ⟨S8320x1, .f32⟩
  | .hbm, ⟨95, _⟩ => ⟨S_, .f32⟩
  | .hbm, ⟨96, _⟩ => ⟨S8320, .f32⟩
  | .hbm, ⟨97, _⟩ => ⟨S8320x1024, .f32⟩
  | .hbm, ⟨98, _⟩ => ⟨S8320x1024, .f32⟩
  | .hbm, ⟨99, _⟩ => ⟨S8320x1024, .f32⟩
  | .hbm, ⟨100, _⟩ => ⟨S_, .f32⟩
  | .hbm, ⟨101, _⟩ => ⟨S8320, .f32⟩
  | .hbm, ⟨102, _⟩ => ⟨S8320x1, .f32⟩
  | .hbm, ⟨103, _⟩ => ⟨S8320x1024, .f32⟩
  | .hbm, ⟨104, _⟩ => ⟨S8320x1, .f32⟩
  | .hbm, ⟨105, _⟩ => ⟨S_, .f32⟩
  | .hbm, ⟨106, _⟩ => ⟨S8320x1, .f32⟩
  | .hbm, ⟨107, _⟩ => ⟨S8320x1, .f32⟩
  | .hbm, ⟨108, _⟩ => ⟨S_, .f32⟩
  | .hbm, ⟨109, _⟩ => ⟨S8320, .f32⟩
  | .hbm, ⟨110, _⟩ => ⟨S8320x1024, .f32⟩
  | .hbm, ⟨111, _⟩ => ⟨S8320x1024, .f32⟩
  | .hbm, ⟨112, _⟩ => ⟨S_, .f32⟩
  | .hbm, ⟨113, _⟩ => ⟨S8320x1024, .f32⟩
  | .hbm, ⟨114, _⟩ => ⟨S8320x1024, .f32⟩
  | .hbm, ⟨115, _⟩ => ⟨S8320x2752, .f32⟩
  | .hbm, ⟨116, _⟩ => ⟨S8320x2752, .f32⟩
  | .hbm, ⟨117, _⟩ => ⟨S8320x2752, .f32⟩
  | .hbm, ⟨118, _⟩ => ⟨S8320x2752, .f32⟩
  | .hbm, ⟨119, _⟩ => ⟨S8320x2752, .f32⟩
  | .hbm, ⟨120, _⟩ => ⟨S8320x2752, .f32⟩
  | .hbm, ⟨121, _⟩ => ⟨S8320x2752, .f32⟩
  | .hbm, ⟨122, _⟩ => ⟨S8320x5504, .f32⟩
  | .hbm, ⟨123, _⟩ => ⟨S8320x1024, .f32⟩
  | .hbm, ⟨124, _⟩ => ⟨S_, .f32⟩
  | .hbm, ⟨125, _⟩ => ⟨S8320x1024, .f32⟩
  | .hbm, ⟨126, _⟩ => ⟨S8320x1024, .f32⟩
  | .hbm, ⟨127, _⟩ => ⟨S8320x1024, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_v5_2 : Ref sig .tc := ⟨.hbm, 19, rfl⟩
abbrev main_call0_cst_1 : Ref sig .tc := ⟨.hbm, 20, rfl⟩
abbrev main_call0_v6 : Ref sig .tc := ⟨.hbm, 21, rfl⟩
abbrev main_call0_v7 : Ref sig .tc := ⟨.hbm, 22, rfl⟩
abbrev main_v5_1 : Ref sig .tc := ⟨.hbm, 23, rfl⟩
abbrev main_v5_0 : Ref sig .tc := ⟨.hbm, 24, rfl⟩
abbrev main_v6 : Ref sig .tc := ⟨.hbm, 25, rfl⟩
abbrev main_v7 : Ref sig .tc := ⟨.hbm, 26, rfl⟩
abbrev main_cst_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_1 : Ref sig .tc := ⟨.hbm, 31, rfl⟩
abbrev main_v11 : Ref sig .tc := ⟨.hbm, 32, rfl⟩
abbrev main_v12 : Ref sig .tc := ⟨.hbm, 33, rfl⟩
abbrev main_cst_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_3 : Ref sig .tc := ⟨.hbm, 40, rfl⟩
abbrev main_v18 : Ref sig .tc := ⟨.hbm, 41, rfl⟩
abbrev main_v19 : Ref sig .tc := ⟨.hbm, 42, rfl⟩
abbrev main_cst_4 : Ref sig .tc := ⟨.hbm, 43, rfl⟩
abbrev main_v20 : Ref sig .tc := ⟨.hbm, 44, rfl⟩
abbrev main_v21 : Ref sig .tc := ⟨.hbm, 45, rfl⟩
abbrev main_cst_5 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_6 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_7 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_8 : Ref sig .tc := ⟨.hbm, 68, rfl⟩
abbrev main_v41 : Ref sig .tc := ⟨.hbm, 69, rfl⟩
abbrev main_v42 : Ref sig .tc := ⟨.hbm, 70, rfl⟩
abbrev main_cst_9 : Ref sig .tc := ⟨.hbm, 71, rfl⟩
abbrev main_v43 : Ref sig .tc := ⟨.hbm, 72, rfl⟩
abbrev main_v44 : Ref sig .tc := ⟨.hbm, 73, rfl⟩
abbrev main_cst_10 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_11 : Ref sig .tc := ⟨.hbm, 79, rfl⟩
abbrev main_v49 : Ref sig .tc := ⟨.hbm, 80, rfl⟩
abbrev main_v50 : Ref sig .tc := ⟨.hbm, 81, rfl⟩
abbrev main_cst_12 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_13 : Ref sig .tc := ⟨.hbm, 89, rfl⟩
abbrev main_v57 : Ref sig .tc := ⟨.hbm, 90, rfl⟩
abbrev main_v58 : Ref sig .tc := ⟨.hbm, 91, rfl⟩
abbrev main_cst_14 : Ref sig .tc := ⟨.hbm, 92, rfl⟩
abbrev main_v59 : Ref sig .tc := ⟨.hbm, 93, rfl⟩
abbrev main_v60 : Ref sig .tc := ⟨.hbm, 94, rfl⟩
abbrev main_cst_15 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_16 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_cst_17 : Ref sig .tc := ⟨.hbm, 105, rfl⟩
abbrev main_v69 : Ref sig .tc := ⟨.hbm, 106, rfl⟩
abbrev main_v70 : Ref sig .tc := ⟨.hbm, 107, rfl⟩
abbrev main_cst_18 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_cst_19 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_call1_v0 : Ref sig .tc := ⟨.hbm, 118, rfl⟩
abbrev main_call1_v1 : Ref sig .tc := ⟨.hbm, 119, rfl⟩
abbrev main_call1_v2 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_cst_20 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩

abbrev nD : Nat := 1
abbrev τ : Topo := Topo.v7x

variable {F : FTy → Type} [FloatOps F]
-- ==== Kernel2.lean ====
abbrev S8320x1024 : Shape := ⟨2, ![8320, 1024]⟩
abbrev S1024 : Shape := ⟨1, ![1024]⟩
abbrev S1024x5504 : Shape := ⟨2, ![1024, 5504]⟩
abbrev S2752x1024 : Shape := ⟨2, ![2752, 1024]⟩
abbrev S1x1024 : Shape := ⟨2, ![1, 1024]⟩
abbrev S2x1024 : Shape := ⟨2, ![2, 1024]⟩
abbrev S_ : Shape := ⟨0, ![]⟩
abbrev S16x1024 : Shape := ⟨2, ![16, 1024]⟩
abbrev S1024x1376 : Shape := ⟨2, ![1024, 1376]⟩
abbrev S1376x1024 : Shape := ⟨2, ![1376, 1024]⟩
abbrev S688x1024 : Shape := ⟨2, ![688, 1024]⟩
abbrev S2080x1024 : Shape := ⟨2, ![2080, 1024]⟩
abbrev S1x2080x1024 : Shape := ⟨3, ![1, 2080, 1024]⟩
abbrev S4x2080x1024 : Shape := ⟨3, ![4, 2080, 1024]⟩
abbrev S8320x1 : Shape := ⟨2, ![8320, 1]⟩
abbrev S8320x5632 : Shape := ⟨2, ![8320, 5632]⟩
abbrev S640x1024 : Shape := ⟨2, ![640, 1024]⟩
abbrev S640x1 : Shape := ⟨2, ![640, 1]⟩
abbrev S640x5632 : Shape := ⟨2, ![640, 5632]⟩
abbrev S4x1408x1024 : Shape := ⟨3, ![4, 1408, 1024]⟩
abbrev S2816x1024 : Shape := ⟨2, ![2816, 1024]⟩
abbrev S8 : Shape := ⟨1, ![8]⟩
abbrev S1 : Shape := ⟨1, ![1]⟩
abbrev S1x1376x1024 : Shape := ⟨3, ![1, 1376, 1024]⟩
abbrev S1x688x1024 : Shape := ⟨3, ![1, 688, 1024]⟩
abbrev S32x1024 : Shape := ⟨2, ![32, 1024]⟩
abbrev S1x32x1024 : Shape := ⟨3, ![1, 32, 1024]⟩
abbrev S1x1408x1024 : Shape := ⟨3, ![1, 1408, 1024]⟩
abbrev S1408x1024 : Shape := ⟨2, ![1408, 1024]⟩
abbrev S640x1408 : Shape := ⟨2, ![640, 1408]⟩
abbrev S640 : Shape := ⟨1, ![640]⟩
abbrev S8320x1376 : Shape := ⟨2, ![8320, 1376]⟩
abbrev S8320x2752 : Shape := ⟨2, ![8320, 2752]⟩

abbrev nBuf : Space → Nat
  | .hbm => 52
  | .vmem => 13
  | .smem => 0
  | _ => 0

abbrev bufTy : (tb : Table) → Fin (tcTables nBuf tb) → BufTy
  | .hbm, ⟨0, _⟩ => ⟨S8320x1024, .f32⟩
  | .hbm, ⟨1, _⟩ => ⟨S1024, .f32⟩
  | .hbm, ⟨2, _⟩ => ⟨S1024, .f32⟩
  | .hbm, ⟨3, _⟩ => ⟨S1024x5504, .f32⟩
  | .hbm, ⟨4, _⟩ => ⟨S2752x1024, .f32⟩
  | .hbm, ⟨5, _⟩ => ⟨S1x1024, .f32⟩
  | .hbm, ⟨6, _⟩ => ⟨S1x1024, .f32⟩
  | .hbm, ⟨7, _⟩ => ⟨S2x1024, .f32⟩
  | .hbm, ⟨8, _⟩ => ⟨S_, .bf16⟩
  | .hbm, ⟨9, _⟩ => ⟨S16x1024, .bf16⟩
  | .hbm, ⟨10, _⟩ => ⟨S1024x1376, .f32⟩
  | .hbm, ⟨11, _⟩ => ⟨S1024x1376, .bf16⟩
  | .hbm, ⟨12, _⟩ => ⟨S1376x1024, .bf16⟩
  | .hbm, ⟨13, _⟩ => ⟨S688x1024, .f32⟩
  | .hbm, ⟨14, _⟩ => ⟨S688x1024, .bf16⟩
  | .hbm, ⟨15, _⟩ => ⟨S2080x1024, .bf16⟩
  | .hbm, ⟨16, _⟩ => ⟨S1024x1376, .f32⟩
  | .hbm, ⟨17, _⟩ => ⟨S1024x1376, .bf16⟩
  | .hbm, ⟨18, _⟩ => ⟨S1376x1024, .bf16⟩
  | .hbm, ⟨19, _⟩ => ⟨S688x1024, .f32⟩
  | .hbm, ⟨20, _⟩ => ⟨S688x1024, .bf16⟩
  | .hbm, ⟨21, _⟩ => ⟨S2080x1024, .bf16⟩
  | .hbm, ⟨22, _⟩ => ⟨S1024x1376, .f32⟩
  | .hbm, ⟨23, _⟩ => ⟨S1024x1376, .bf16⟩
  | .hbm, ⟨24, _⟩ => ⟨S1376x1024, .bf16⟩
  | .hbm, ⟨25, _⟩ => ⟨S688x1024, .f32⟩
  | .hbm, ⟨26, _⟩ => ⟨S688x1024, .bf16⟩
  | .hbm, ⟨27, _⟩ => ⟨S2080x1024, .bf16⟩
  | .hbm, ⟨28, _⟩ => ⟨S1024x1376, .f32⟩
  | .hbm, ⟨29, _⟩ => ⟨S1024x1376, .bf16⟩
  | .hbm, ⟨30, _⟩ => ⟨S1376x1024, .bf16⟩
  | .hbm, ⟨31, _⟩ => ⟨S688x1024, .f32⟩
  | .hbm, ⟨32, _⟩ => ⟨S688x1024, .bf16⟩
  | .hbm, ⟨33, _⟩ => ⟨S2080x1024, .bf16⟩
  | .hbm, ⟨34, _⟩ => ⟨S1x2080x1024, .bf16⟩
  | .hbm, ⟨35, _⟩ => ⟨S1x2080x1024, .bf16⟩
  | .hbm, ⟨36, _⟩ => ⟨S1x2080x1024, .bf16⟩
  | .hbm, ⟨37, _⟩ => ⟨S1x2080x1024, .bf16⟩
  | .hbm, ⟨38, _⟩ => ⟨S4x2080x1024, .bf16⟩
  | .hbm, ⟨39, _⟩ => ⟨S8320x1024, .f32⟩
  | .hbm, ⟨40, _⟩ => ⟨S8320x1, .f32⟩
  | .hbm, ⟨41, _⟩ => ⟨S8320x5632, .bf16⟩
  | .hbm, ⟨42, _⟩ => ⟨S8320x1024, .bf16⟩
  | .hbm, ⟨43, _⟩ => ⟨S8320x1376, .bf16⟩
  | .hbm, ⟨44, _⟩ => ⟨S8320x1376, .bf16⟩
  | .hbm, ⟨45, _⟩ => ⟨S8320x2752, .bf16⟩
  | .hbm, ⟨46, _⟩ => ⟨S8320x1376, .bf16⟩
  | .hbm, ⟨47, _⟩ => ⟨S8320x1376, .bf16⟩
  | .hbm, ⟨48, _⟩ => ⟨S8320x2752, .bf16⟩
  | .hbm, ⟨49, _⟩ => ⟨S8320x2752, .f32⟩
  | .hbm, ⟨50, _⟩ => ⟨S8320x2752, .f32⟩
  | .hbm, ⟨51, _⟩ => ⟨S8320x1024, .f32⟩
  | .local _ .vmem, ⟨0, _⟩ => ⟨S640x1024, .f32⟩
  | .local _ .vmem, ⟨1, _⟩ => ⟨S640x1024, .f32⟩
  | .local _ .vmem, ⟨2, _⟩ => ⟨S2x1024, .f32⟩
  | .local _ .vmem, ⟨3, _⟩ => ⟨S640x1024, .f32⟩
  | .local _ .vmem, ⟨4, _⟩ => ⟨S640x1024, .f32⟩
  | .local _ .vmem, ⟨5, _⟩ => ⟨S640x1, .f32⟩
  | .local _ .vmem, ⟨6, _⟩ => ⟨S640x1, .f32⟩
  | .local _ .vmem, ⟨7, _⟩ => ⟨S640x5632, .bf16⟩
  | .local _ .vmem, ⟨8, _⟩ => ⟨S640x5632, .bf16⟩
  | .local _ .vmem, ⟨9, _⟩ => ⟨S640x1024, .bf16⟩
  | .local _ .vmem, ⟨10, _⟩ => ⟨S640x1024, .bf16⟩
  | .local _ .vmem, ⟨11, _⟩ => ⟨S4x1408x1024, .bf16⟩
  | .local _ .vmem, ⟨12, _⟩ => ⟨S2816x1024, .bf16⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33_0 : Ref sig .tc := ⟨.hbm, 39, rfl⟩
abbrev main_v33_1 : Ref sig .tc := ⟨.hbm, 40, rfl⟩
abbrev main_v33_2 : Ref sig .tc := ⟨.hbm, 41, rfl⟩
abbrev main_v33_3 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S640x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S640x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S640x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S8320x1024 : Shape := ⟨2, ![8320, 1024]⟩
abbrev S1024 : Shape := ⟨1, ![1024]⟩
abbrev S1024x5504 : Shape := ⟨2, ![1024, 5504]⟩
abbrev S2752x1024 : Shape := ⟨2, ![2752, 1024]⟩
abbrev S1x1024 : Shape := ⟨2, ![1, 1024]⟩
abbrev S8320x5504 : Shape := ⟨2, ![8320, 5504]⟩
abbrev S8320x2752 : Shape := ⟨2, ![8320, 2752]⟩
abbrev S_ : Shape := ⟨0, ![]⟩
abbrev S8320 : Shape := ⟨1, ![8320]⟩
abbrev S8320x1 : Shape := ⟨2, ![8320, 1]⟩

abbrev nBuf : Space → Nat
  | .hbm => 55
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1024, .f32⟩
  | .hbm, ⟨2, _⟩ => ⟨S1024, .f32⟩
  | .hbm, ⟨3, _⟩ => ⟨S1024x5504, .f32⟩
  | .hbm, ⟨4, _⟩ => ⟨S2752x1024, .f32⟩
  | .hbm, ⟨5, _⟩ => ⟨S1x1024, .f32⟩
  | .hbm, ⟨6, _⟩ => ⟨S8320x1024, .f32⟩
  | .hbm, ⟨7, _⟩ => ⟨S8320x1024, .f32⟩
  | .hbm, ⟨8, _⟩ => ⟨S1x1024, .f32⟩
  | .hbm, ⟨9, _⟩ => ⟨S8320x1024, .f32⟩
  | .hbm, ⟨10, _⟩ => ⟨S8320x1024, .f32⟩
  | .hbm, ⟨11, _⟩ => ⟨S8320x5504, .f32⟩
  | .hbm, ⟨12, _⟩ => ⟨S8320x2752, .f32⟩
  | .hbm, ⟨13, _⟩ => ⟨S8320x2752, .f32⟩
  | .hbm, ⟨14, _⟩ => ⟨S_, .f32⟩
  | .hbm, ⟨15, _⟩ => ⟨S8320x1024, .f32⟩
  | .hbm, ⟨16, _⟩ => ⟨S8320x1024, .f32⟩
  | .hbm, ⟨17, _⟩ => ⟨S8320x2752, .f32⟩
  | .hbm, ⟨18, _⟩ => ⟨S8320x2752, .f32⟩
  | .hbm, ⟨19, _⟩ => ⟨S_, .f32⟩
  | .hbm, ⟨20, _⟩ => ⟨S8320x2752, .f32⟩
  | .hbm, ⟨21, _⟩ => ⟨S8320x2752, .f32⟩
  | .hbm, ⟨22, _⟩ => ⟨S_, .f32⟩
  | .hbm, ⟨23, _⟩ => ⟨S8320x2752, .f32⟩
  | .hbm, ⟨24, _⟩ => ⟨S8320x2752, .f32⟩
  | .hbm, ⟨25, _⟩ => ⟨S8320x2752, .f32⟩
  | .hbm, ⟨26, _⟩ => ⟨S8320x2752, .f32⟩
  | .hbm, ⟨27, _⟩ => ⟨S8320x1024, .f32⟩
  | .hbm, ⟨28, _⟩ => ⟨S_, .f32⟩
  | .hbm, ⟨29, _⟩ => ⟨S8320x1024, .f32⟩
  | .hbm, ⟨30, _⟩ => ⟨S8320x1024, .f32⟩
  | .hbm, ⟨31, _⟩ => ⟨S8320x1024, .f32⟩
  | .hbm, ⟨32, _⟩ => ⟨S_, .f32⟩
  | .hbm, ⟨33, _⟩ => ⟨S8320, .f32⟩
  | .hbm, ⟨34, _⟩ => ⟨S8320x1, .f32⟩
  | .hbm, ⟨35, _⟩ => ⟨S_, .f32⟩
  | .hbm, ⟨36, _⟩ => ⟨S8320x1, .f32⟩
  | .hbm, ⟨37, _⟩ => ⟨S8320x1, .f32⟩
  | .hbm, ⟨38, _⟩ => ⟨S8320x1024, .f32⟩
  | .hbm, ⟨39, _⟩ => ⟨S8320x1024, .f32⟩
  | .hbm, ⟨40, _⟩ => ⟨S8320x1024, .f32⟩
  | .hbm, ⟨41, _⟩ => ⟨S_, .f32⟩
  | .hbm, ⟨42, _⟩ => ⟨S8320, .f32⟩
  | .hbm, ⟨43, _⟩ => ⟨S8320x1, .f32⟩
  | .hbm, ⟨44, _⟩ => ⟨S_, .f32⟩
  | .hbm, ⟨45, _⟩ => ⟨S8320x1, .f32⟩
  | .hbm, ⟨46, _⟩ => ⟨S8320x1, .f32⟩
  | .hbm, ⟨47, _⟩ => ⟨S_, .f32⟩
  | .hbm, ⟨48, _⟩ => ⟨S8320x1, .f32⟩
  | .hbm, ⟨49, _⟩ => ⟨S8320x1, .f32⟩
  | .hbm, ⟨50, _⟩ => ⟨S8320x1, .f32⟩
  | .hbm, ⟨51, _⟩ => ⟨S8320x1024, .f32⟩
  | .hbm, ⟨52, _⟩ => ⟨S8320x1024, .f32⟩
  | .hbm, ⟨53, _⟩ => ⟨S8320x1024, .f32⟩
  | .hbm, ⟨54, _⟩ => ⟨S8320x1024, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_cst_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== Kernel3.lean ====
abbrev S8320x1024 : Shape := ⟨2, ![8320, 1024]⟩
abbrev S8320x5504 : Shape := ⟨2, ![8320, 5504]⟩
abbrev S_ : Shape := ⟨0, ![]⟩
abbrev S8320x32 : Shape := ⟨2, ![8320, 32]⟩
abbrev S8320x1376 : Shape := ⟨2, ![8320, 1376]⟩
abbrev S8320x5632 : Shape := ⟨2, ![8320, 5632]⟩
abbrev S4x2080x1024 : Shape := ⟨3, ![4, 2080, 1024]⟩
abbrev S2080x1408 : Shape := ⟨2, ![2080, 1408]⟩
abbrev S2080x1024 : Shape := ⟨2, ![2080, 1024]⟩
abbrev S1408x1024 : Shape := ⟨2, ![1408, 1024]⟩
abbrev S1 : Shape := ⟨1, ![1]⟩
abbrev S1x1376x1024 : Shape := ⟨3, ![1, 1376, 1024]⟩
abbrev S1376x1024 : Shape := ⟨2, ![1376, 1024]⟩
abbrev S1024x1376 : Shape := ⟨2, ![1024, 1376]⟩
abbrev S1024x5504 : Shape := ⟨2, ![1024, 5504]⟩

abbrev nBuf : Space → Nat
  | .hbm => 31
  | .vmem => 6
  | .smem => 0
  | _ => 0

abbrev bufTy : (tb : Table) → Fin (tcTables nBuf tb) → BufTy
  | .hbm, ⟨0, _⟩ => ⟨S8320x1024, .f32⟩
  | .hbm, ⟨1, _⟩ => ⟨S8320x5504, .f32⟩
  | .hbm, ⟨2, _⟩ => ⟨S_, .bf16⟩
  | .hbm, ⟨3, _⟩ => ⟨S8320x32, .bf16⟩
  | .hbm, ⟨4, _⟩ => ⟨S8320x1376, .f32⟩
  | .hbm, ⟨5, _⟩ => ⟨S8320x1376, .bf16⟩
  | .hbm, ⟨6, _⟩ => ⟨S8320x1376, .f32⟩
  | .hbm, ⟨7, _⟩ => ⟨S8320x1376, .bf16⟩
  | .hbm, ⟨8, _⟩ => ⟨S8320x1376, .f32⟩
  | .hbm, ⟨9, _⟩ => ⟨S8320x1376, .bf16⟩
  | .hbm, ⟨10, _⟩ => ⟨S8320x1376, .f32⟩
  | .hbm, ⟨11, _⟩ => ⟨S8320x1376, .bf16⟩
  | .hbm, ⟨12, _⟩ => ⟨S8320x5632, .bf16⟩
  | .hbm, ⟨13, _⟩ => ⟨S_, .bf16⟩
  | .hbm, ⟨14, _⟩ => ⟨S4x2080x1024, .bf16⟩
  | .hbm, ⟨15, _⟩ => ⟨S8320x1024, .bf16⟩
  | .hbm, ⟨16, _⟩ => ⟨S4x2080x1024, .bf16⟩
  | .hbm, ⟨17, _⟩ => ⟨S1x1376x1024, .bf16⟩
  | .hbm, ⟨18, _⟩ => ⟨S1376x1024, .bf16⟩
  | .hbm, ⟨19, _⟩ => ⟨S1024x1376, .bf16⟩
  | .hbm, ⟨20, _⟩ => ⟨S1x1376x1024, .bf16⟩
  | .hbm, ⟨21, _⟩ => ⟨S1376x1024, .bf16⟩
  | .hbm, ⟨22, _⟩ => ⟨S1024x1376, .bf16⟩
  | .hbm, ⟨23, _⟩ => ⟨S1x1376x1024, .bf16⟩
  | .hbm, ⟨24, _⟩ => ⟨S1376x1024, .bf16⟩
  | .hbm, ⟨25, _⟩ => ⟨S1024x1376, .bf16⟩
  | .hbm, ⟨26, _⟩ => ⟨S1x1376x1024, .bf16⟩
  | .hbm, ⟨27, _⟩ => ⟨S1376x1024, .bf16⟩
  | .hbm, ⟨28, _⟩ => ⟨S1024x1376, .bf16⟩
  | .hbm, ⟨29, _⟩ => ⟨S1024x5504, .bf16⟩
  | .hbm, ⟨30, _⟩ => ⟨S1024x5504, .f32⟩
  | .local _ .vmem, ⟨0, _⟩ => ⟨S2080x1408, .bf16⟩
  | .local _ .vmem, ⟨1, _⟩ => ⟨S2080x1408, .bf16⟩
  | .local _ .vmem, ⟨2, _⟩ => ⟨S2080x1024, .bf16⟩
  | .local _ .vmem, ⟨3, _⟩ => ⟨S2080x1024, .bf16⟩
  | .local _ .vmem, ⟨4, _⟩ => ⟨S1408x1024, .f32⟩
  | .local _ .vmem, ⟨5, _⟩ => ⟨S1408x1024, .bf16⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def k0_off1 (i : grid0.Coords) : Fin 3 → Nat :=
  let arg0 : BitVec 32 := BitVec.ofNat 32 (i 0).val
  let c0_i32_14 : BitVec 32 := 0#32
  let c0_i32_15 : BitVec 32 := 0#32
  ![arg0.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S2080x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2080x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]
-- ==== Reference3Ideal.lean ====
abbrev S8320x1024 : Shape := ⟨2, ![8320, 1024]⟩
abbrev S8320x5504 : Shape := ⟨2, ![8320, 5504]⟩
abbrev S_ : Shape := ⟨0, ![]⟩
abbrev S1024x5504 : Shape := ⟨2, ![1024, 5504]⟩
abbrev S5504x1024 : Shape := ⟨2, ![5504, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S8320x5504, .f32⟩
  | .hbm, ⟨2, _⟩ => ⟨S_, .f32⟩
  | .hbm, ⟨3, _⟩ => ⟨S1024x5504, .f32⟩
  | .hbm, ⟨4, _⟩ => ⟨S8320x5504, .f32⟩
  | .hbm, ⟨5, _⟩ => ⟨S5504x1024, .f32⟩
  | .hbm, ⟨6, _⟩ => ⟨S1024x5504, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S8320x2752 : Shape := ⟨2, ![8320, 2752]⟩
abbrev S8320x1024 : Shape := ⟨2, ![8320, 1024]⟩
abbrev S_ : Shape := ⟨0, ![]⟩
abbrev S8320x32 : Shape := ⟨2, ![8320, 32]⟩
abbrev S8320x1376 : Shape := ⟨2, ![8320, 1376]⟩
abbrev S8320x2816 : Shape := ⟨2, ![8320, 2816]⟩
abbrev S4x2080x1024 : Shape := ⟨3, ![4, 2080, 1024]⟩
abbrev S2080x1408 : Shape := ⟨2, ![2080, 1408]⟩
abbrev S2080x1024 : Shape := ⟨2, ![2080, 1024]⟩
abbrev S1408x1024 : Shape := ⟨2, ![1408, 1024]⟩
abbrev S2 : Shape := ⟨1, ![2]⟩
abbrev S1 : Shape := ⟨1, ![1]⟩
abbrev S1x688x1024 : Shape := ⟨3, ![1, 688, 1024]⟩
abbrev S688x1024 : Shape := ⟨2, ![688, 1024]⟩
abbrev S4x688x1024 : Shape := ⟨3, ![4, 688, 1024]⟩
abbrev S2752x1024 : Shape := ⟨2, ![2752, 1024]⟩

abbrev nBuf : Space → Nat
  | .hbm => 16
  | .vmem => 6
  | .smem => 0
  | _ => 0

abbrev bufTy : (tb : Table) → Fin (tcTables nBuf tb) → BufTy
  | .hbm, ⟨0, _⟩ => ⟨S8320x2752, .f32⟩
  | .hbm, ⟨1, _⟩ => ⟨S8320x1024, .f32⟩
  | .hbm, ⟨2, _⟩ => ⟨S_, .bf16⟩
  | .hbm, ⟨3, _⟩ => ⟨S8320x32, .bf16⟩
  | .hbm, ⟨4, _⟩ => ⟨S8320x1376, .f32⟩
  | .hbm, ⟨5, _⟩ => ⟨S8320x1376, .bf16⟩
  | .hbm, ⟨6, _⟩ => ⟨S8320x1376, .f32⟩
  | .hbm, ⟨7, _⟩ => ⟨S8320x1376, .bf16⟩
  | .hbm, ⟨8, _⟩ => ⟨S8320x2816, .bf16⟩
  | .hbm, ⟨9, _⟩ => ⟨S_, .bf16⟩
  | .hbm, ⟨10, _⟩ => ⟨S4x2080x1024, .bf16⟩
  | .hbm, ⟨11, _⟩ => ⟨S8320x1024, .bf16⟩
  | .hbm, ⟨12, _⟩ => ⟨S4x2080x1024, .bf16⟩
  | .hbm, ⟨13, _⟩ => ⟨S4x688x1024, .bf16⟩
  | .hbm, ⟨14, _⟩ => ⟨S2752x1024, .bf16⟩
  | .hbm, ⟨15, _⟩ => ⟨S2752x1024, .f32⟩
  | .local _ .vmem, ⟨0, _⟩ => ⟨S2080x1408, .bf16⟩
  | .local _ .vmem, ⟨1, _⟩ => ⟨S2080x1408, .bf16⟩
  | .local _ .vmem, ⟨2, _⟩ => ⟨S2080x1024, .bf16⟩
  | .local _ .vmem, ⟨3, _⟩ => ⟨S2080x1024, .bf16⟩
  | .local _ .vmem, ⟨4, _⟩ => ⟨S1408x1024, .f32⟩
  | .local _ .vmem, ⟨5, _⟩ => ⟨S1408x1024, .bf16⟩
  | _, _ => ⟨S8320x2752, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def k0_off1 (i : grid0.Coords) : Fin 3 → Nat :=
  let c2_i32 : BitVec 32 := 2#32
  let arg0 : BitVec 32 := BitVec.ofNat 32 (i 0).val
  let v21 : BitVec 32 := Scalar.muli c2_i32 arg0
  let c1376_i32 : BitVec 32 := 1376#32
  let c0_i32_14 : BitVec 32 := 0#32
  ![v21.toNat, 1376, 0]
def k0_off2 (i : grid0.Coords) : Fin 3 → Nat :=
  let c2_i32_17 : BitVec 32 := 2#32
  let arg0 : BitVec 32 := BitVec.ofNat 32 (i 0).val
  let v27 : BitVec 32 := Scalar.muli c2_i32_17 arg0
  let c1_i32 : BitVec 32 := 1#32
  let v28 : BitVec 32 := Scalar.addi v27 c1_i32
  let c1376_i32_19 : BitVec 32 := 1376#32
  let c0_i32_20 : BitVec 32 := 0#32
  ![v28.toNat, 1376, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S2080x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2080x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]
-- ==== Reference4Ideal.lean ====
abbrev S8320x2752 : Shape := ⟨2, ![8320, 2752]⟩
abbrev S8320x1024 : Shape := ⟨2, ![8320, 1024]⟩
abbrev S_ : Shape := ⟨0, ![]⟩
abbrev S2752x1024 : Shape := ⟨2, ![2752, 1024]⟩
abbrev S1024x2752 : Shape := ⟨2, ![1024, 2752]⟩

abbrev nBuf : Space → Nat
  | .hbm => 7
  | .vmem => 0
  | .smem => 0
  | _ => 0

abbrev bufTy : (tb : Table) → Fin (tcTables nBuf tb) → BufTy
  | .hbm, ⟨0, _⟩ => ⟨S8320x2752, .f32⟩
  | .hbm, ⟨1, _⟩ => ⟨S8320x1024, .f32⟩
  | .hbm, ⟨2, _⟩ => ⟨S_, .f32⟩
  | .hbm, ⟨3, _⟩ => ⟨S2752x1024, .f32⟩
  | .hbm, ⟨4, _⟩ => ⟨S8320x1024, .f32⟩
  | .hbm, ⟨5, _⟩ => ⟨S1024x2752, .f32⟩
  | .hbm, ⟨6, _⟩ => ⟨S2752x1024, .f32⟩
  | _, _ => ⟨S8320x2752, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S2x1024x1376 : Shape := ⟨3, ![2, 1024, 1376]⟩
abbrev S2048x1376 : Shape := ⟨2, ![2048, 1376]⟩
abbrev S256x1376 : Shape := ⟨2, ![256, 1376]⟩

abbrev nBuf : Space → Nat
  | .hbm => 14
  | .vmem => 14
  | .smem => 0
  | _ => 0

abbrev bufTy : (tb : Table) → Fin (tcTables nBuf tb) → BufTy
  | .hbm, ⟨0, _⟩ => ⟨S2x1024x1376, .f32⟩
  | .hbm, ⟨1, _⟩ => ⟨S2x1024x1376, .f32⟩
  | .hbm, ⟨2, _⟩ => ⟨S2x1024x1376, .f32⟩
  | .hbm, ⟨3, _⟩ => ⟨S2x1024x1376, .f32⟩
  | .hbm, ⟨4, _⟩ => ⟨S2048x1376, .f32⟩
  | .hbm, ⟨5, _⟩ => ⟨S2048x1376, .f32⟩
  | .hbm, ⟨6, _⟩ => ⟨S2048x1376, .f32⟩
  | .hbm, ⟨7, _⟩ => ⟨S2048x1376, .f32⟩
  | .hbm, ⟨8, _⟩ => ⟨S2048x1376, .f32⟩
  | .hbm, ⟨9, _⟩ => ⟨S2048x1376, .f32⟩
  | .hbm, ⟨10, _⟩ => ⟨S2048x1376, .f32⟩
  | .hbm, ⟨11, _⟩ => ⟨S2x1024x1376, .f32⟩
  | .hbm, ⟨12, _⟩ => ⟨S2x1024x1376, .f32⟩
  | .hbm, ⟨13, _⟩ => ⟨S2x1024x1376, .f32⟩
  | .local _ .vmem, ⟨0, _⟩ => ⟨S256x1376, .f32⟩
  | .local _ .vmem, ⟨1, _⟩ => ⟨S256x1376, .f32⟩
  | .local _ .vmem, ⟨2, _⟩ => ⟨S256x1376, .f32⟩
  | .local _ .vmem, ⟨3, _⟩ => ⟨S256x1376, .f32⟩
  | .local _ .vmem, ⟨4, _⟩ => ⟨S256x1376, .f32⟩
  | .local _ .vmem, ⟨5, _⟩ => ⟨S256x1376, .f32⟩
  | .local _ .vmem, ⟨6, _⟩ => ⟨S256x1376, .f32⟩
  | .local _ .vmem, ⟨7, _⟩ => ⟨S256x1376, .f32⟩
  | .local _ .vmem, ⟨8, _⟩ => ⟨S256x1376, .f32⟩
  | .local _ .vmem, ⟨9, _⟩ => ⟨S256x1376, .f32⟩
  | .local _ .vmem, ⟨10, _⟩ => ⟨S256x1376, .f32⟩
  | .local _ .vmem, ⟨11, _⟩ => ⟨S256x1376, .f32⟩
  | .local _ .vmem, ⟨12, _⟩ => ⟨S256x1376, .f32⟩
  | .local _ .vmem, ⟨13, _⟩ => ⟨S256x1376, .f32⟩
  | _, _ => ⟨S2x1024x1376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1376 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1376 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1376 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1376 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1376 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1376 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1376 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S2x1024x1376 : Shape := ⟨3, ![2, 1024, 1376]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x1376, .f32⟩
  | .hbm, ⟨1, _⟩ => ⟨S2x1024x1376, .f32⟩
  | .hbm, ⟨2, _⟩ => ⟨S2x1024x1376, .f32⟩
  | .hbm, ⟨3, _⟩ => ⟨S2x1024x1376, .f32⟩
  | .hbm, ⟨4, _⟩ => ⟨S_, .f32⟩
  | .hbm, ⟨5, _⟩ => ⟨S2x1024x1376, .f32⟩
  | .hbm, ⟨6, _⟩ => ⟨S2x1024x1376, .f32⟩
  | .hbm, ⟨7, _⟩ => ⟨S_, .f32⟩
  | .hbm, ⟨8, _⟩ => ⟨S2x1024x1376, .f32⟩
  | .hbm, ⟨9, _⟩ => ⟨S2x1024x1376, .f32⟩
  | .hbm, ⟨10, _⟩ => ⟨S2x1024x1376, .f32⟩
  | .hbm, ⟨11, _⟩ => ⟨S_, .f32⟩
  | .hbm, ⟨12, _⟩ => ⟨S2x1024x1376, .f32⟩
  | .hbm, ⟨13, _⟩ => ⟨S2x1024x1376, .f32⟩
  | .hbm, ⟨14, _⟩ => ⟨S2x1024x1376, .f32⟩
  | .hbm, ⟨15, _⟩ => ⟨S_, .f32⟩
  | .hbm, ⟨16, _⟩ => ⟨S2x1024x1376, .f32⟩
  | .hbm, ⟨17, _⟩ => ⟨S2x1024x1376, .f32⟩
  | .hbm, ⟨18, _⟩ => ⟨S2x1024x1376, .f32⟩
  | .hbm, ⟨19, _⟩ => ⟨S_, .f32⟩
  | .hbm, ⟨20, _⟩ => ⟨S2x1024x1376, .f32⟩
  | .hbm, ⟨21, _⟩ => ⟨S2x1024x1376, .f32⟩
  | .hbm, ⟨22, _⟩ => ⟨S_, .f32⟩
  | .hbm, ⟨23, _⟩ => ⟨S2x1024x1376, .f32⟩
  | .hbm, ⟨24, _⟩ => ⟨S2x1024x1376, .f32⟩
  | .hbm, ⟨25, _⟩ => ⟨S2x1024x1376, .f32⟩
  | .hbm, ⟨26, _⟩ => ⟨S_, .f32⟩
  | .hbm, ⟨27, _⟩ => ⟨S2x1024x1376, .f32⟩
  | .hbm, ⟨28, _⟩ => ⟨S2x1024x1376, .f32⟩
  | .hbm, ⟨29, _⟩ => ⟨S2x1024x1376, .f32⟩
  | .hbm, ⟨30, _⟩ => ⟨S_, .f32⟩
  | .hbm, ⟨31, _⟩ => ⟨S2x1024x1376, .f32⟩
  | .hbm, ⟨32, _⟩ => ⟨S2x1024x1376, .f32⟩
  | .hbm, ⟨33, _⟩ => ⟨S2x1024x1376, .f32⟩
  | .hbm, ⟨34, _⟩ => ⟨S_, .f32⟩
  | .hbm, ⟨35, _⟩ => ⟨S2x1024x1376, .f32⟩
  | .hbm, ⟨36, _⟩ => ⟨S2x1024x1376, .f32⟩
  | _, _ => ⟨S2x1024x1376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel6.lean ====
abbrev S2x688x1024 : Shape := ⟨3, ![2, 688, 1024]⟩
abbrev S1376x1024 : Shape := ⟨2, ![1376, 1024]⟩
abbrev S344x1024 : Shape := ⟨2, ![344, 1024]⟩

abbrev nBuf : Space → Nat
  | .hbm => 14
  | .vmem => 14
  | .smem => 0
  | _ => 0

abbrev bufTy : (tb : Table) → Fin (tcTables nBuf tb) → BufTy
  | .hbm, ⟨0, _⟩ => ⟨S2x688x1024, .f32⟩
  | .hbm, ⟨1, _⟩ => ⟨S2x688x1024, .f32⟩
  | .hbm, ⟨2, _⟩ => ⟨S2x688x1024, .f32⟩
  | .hbm, ⟨3, _⟩ => ⟨S2x688x1024, .f32⟩
  | .hbm, ⟨4, _⟩ => ⟨S1376x1024, .f32⟩
  | .hbm, ⟨5, _⟩ => ⟨S1376x1024, .f32⟩
  | .hbm, ⟨6, _⟩ => ⟨S1376x1024, .f32⟩
  | .hbm, ⟨7, _⟩ => ⟨S1376x1024, .f32⟩
  | .hbm, ⟨8, _⟩ => ⟨S1376x1024, .f32⟩
  | .hbm, ⟨9, _⟩ => ⟨S1376x1024, .f32⟩
  | .hbm, ⟨10, _⟩ => ⟨S1376x1024, .f32⟩
  | .hbm, ⟨11, _⟩ => ⟨S2x688x1024, .f32⟩
  | .hbm, ⟨12, _⟩ => ⟨S2x688x1024, .f32⟩
  | .hbm, ⟨13, _⟩ => ⟨S2x688x1024, .f32⟩
  | .local _ .vmem, ⟨0, _⟩ => ⟨S344x1024, .f32⟩
  | .local _ .vmem, ⟨1, _⟩ => ⟨S344x1024, .f32⟩
  | .local _ .vmem, ⟨2, _⟩ => ⟨S344x1024, .f32⟩
  | .local _ .vmem, ⟨3, _⟩ => ⟨S344x1024, .f32⟩
  | .local _ .vmem, ⟨4, _⟩ => ⟨S344x1024, .f32⟩
  | .local _ .vmem, ⟨5, _⟩ => ⟨S344x1024, .f32⟩
  | .local _ .vmem, ⟨6, _⟩ => ⟨S344x1024, .f32⟩
  | .local _ .vmem, ⟨7, _⟩ => ⟨S344x1024, .f32⟩
  | .local _ .vmem, ⟨8, _⟩ => ⟨S344x1024, .f32⟩
  | .local _ .vmem, ⟨9, _⟩ => ⟨S344x1024, .f32⟩
  | .local _ .vmem, ⟨10, _⟩ => ⟨S344x1024, .f32⟩
  | .local _ .vmem, ⟨11, _⟩ => ⟨S344x1024, .f32⟩
  | .local _ .vmem, ⟨12, _⟩ => ⟨S344x1024, .f32⟩
  | .local _ .vmem, ⟨13, _⟩ => ⟨S344x1024, .f32⟩
  | _, _ => ⟨S2x688x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S344x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S344x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S344x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S344x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S344x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S344x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S344x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S2x688x1024 : Shape := ⟨3, ![2, 688, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x688x1024, .f32⟩
  | .hbm, ⟨1, _⟩ => ⟨S2x688x1024, .f32⟩
  | .hbm, ⟨2, _⟩ => ⟨S2x688x1024, .f32⟩
  | .hbm, ⟨3, _⟩ => ⟨S2x688x1024, .f32⟩
  | .hbm, ⟨4, _⟩ => ⟨S_, .f32⟩
  | .hbm, ⟨5, _⟩ => ⟨S2x688x1024, .f32⟩
  | .hbm, ⟨6, _⟩ => ⟨S2x688x1024, .f32⟩
  | .hbm, ⟨7, _⟩ => ⟨S_, .f32⟩
  | .hbm, ⟨8, _⟩ => ⟨S2x688x1024, .f32⟩
  | .hbm, ⟨9, _⟩ => ⟨S2x688x1024, .f32⟩
  | .hbm, ⟨10, _⟩ => ⟨S2x688x1024, .f32⟩
  | .hbm, ⟨11, _⟩ => ⟨S_, .f32⟩
  | .hbm, ⟨12, _⟩ => ⟨S2x688x1024, .f32⟩
  | .hbm, ⟨13, _⟩ => ⟨S2x688x1024, .f32⟩
  | .hbm, ⟨14, _⟩ => ⟨S2x688x1024, .f32⟩
  | .hbm, ⟨15, _⟩ => ⟨S_, .f32⟩
  | .hbm, ⟨16, _⟩ => ⟨S2x688x1024, .f32⟩
  | .hbm, ⟨17, _⟩ => ⟨S2x688x1024, .f32⟩
  | .hbm, ⟨18, _⟩ => ⟨S2x688x1024, .f32⟩
  | .hbm, ⟨19, _⟩ => ⟨S_, .f32⟩
  | .hbm, ⟨20, _⟩ => ⟨S2x688x1024, .f32⟩
  | .hbm, ⟨21, _⟩ => ⟨S2x688x1024, .f32⟩
  | .hbm, ⟨22, _⟩ => ⟨S_, .f32⟩
  | .hbm, ⟨23, _⟩ => ⟨S2x688x1024, .f32⟩
  | .hbm, ⟨24, _⟩ => ⟨S2x688x1024, .f32⟩
  | .hbm, ⟨25, _⟩ => ⟨S2x688x1024, .f32⟩
  | .hbm, ⟨26, _⟩ => ⟨S_, .f32⟩
  | .hbm, ⟨27, _⟩ => ⟨S2x688x1024, .f32⟩
  | .hbm, ⟨28, _⟩ => ⟨S2x688x1024, .f32⟩
  | .hbm, ⟨29, _⟩ => ⟨S2x688x1024, .f32⟩
  | .hbm, ⟨30, _⟩ => ⟨S_, .f32⟩
  | .hbm, ⟨31, _⟩ => ⟨S2x688x1024, .f32⟩
  | .hbm, ⟨32, _⟩ => ⟨S2x688x1024, .f32⟩
  | .hbm, ⟨33, _⟩ => ⟨S2x688x1024, .f32⟩
  | .hbm, ⟨34, _⟩ => ⟨S_, .f32⟩
  | .hbm, ⟨35, _⟩ => ⟨S2x688x1024, .f32⟩
  | .hbm, ⟨36, _⟩ => ⟨S2x688x1024, .f32⟩
  | _, _ => ⟨S2x688x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel7.lean ====
abbrev S2x1024x704 : Shape := ⟨3, ![2, 1024, 704]⟩
abbrev S2048x704 : Shape := ⟨2, ![2048, 704]⟩
abbrev S256x704 : Shape := ⟨2, ![256, 704]⟩

abbrev nBuf : Space → Nat
  | .hbm => 14
  | .vmem => 14
  | .smem => 0
  | _ => 0

abbrev bufTy : (tb : Table) → Fin (tcTables nBuf tb) → BufTy
  | .hbm, ⟨0, _⟩ => ⟨S2x1024x704, .f32⟩
  | .hbm, ⟨1, _⟩ => ⟨S2x1024x704, .f32⟩
  | .hbm, ⟨2, _⟩ => ⟨S2x1024x704, .f32⟩
  | .hbm, ⟨3, _⟩ => ⟨S2x1024x704, .f32⟩
  | .hbm, ⟨4, _⟩ => ⟨S2048x704, .f32⟩
  | .hbm, ⟨5, _⟩ => ⟨S2048x704, .f32⟩
  | .hbm, ⟨6, _⟩ => ⟨S2048x704, .f32⟩
  | .hbm, ⟨7, _⟩ => ⟨S2048x704, .f32⟩
  | .hbm, ⟨8, _⟩ => ⟨S2048x704, .f32⟩
  | .hbm, ⟨9, _⟩ => ⟨S2048x704, .f32⟩
  | .hbm, ⟨10, _⟩ => ⟨S2048x704, .f32⟩
  | .hbm, ⟨11, _⟩ => ⟨S2x1024x704, .f32⟩
  | .hbm, ⟨12, _⟩ => ⟨S2x1024x704, .f32⟩
  | .hbm, ⟨13, _⟩ => ⟨S2x1024x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | _, _ => ⟨S2x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference7Ideal.lean ====
abbrev S2x1024x704 : Shape := ⟨3, ![2, 1024, 704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x704, .f32⟩
  | .hbm, ⟨1, _⟩ => ⟨S2x1024x704, .f32⟩
  | .hbm, ⟨2, _⟩ => ⟨S2x1024x704, .f32⟩
  | .hbm, ⟨3, _⟩ => ⟨S2x1024x704, .f32⟩
  | .hbm, ⟨4, _⟩ => ⟨S_, .f32⟩
  | .hbm, ⟨5, _⟩ => ⟨S2x1024x704, .f32⟩
  | .hbm, ⟨6, _⟩ => ⟨S2x1024x704, .f32⟩
  | .hbm, ⟨7, _⟩ => ⟨S_, .f32⟩
  | .hbm, ⟨8, _⟩ => ⟨S2x1024x704, .f32⟩
  | .hbm, ⟨9, _⟩ => ⟨S2x1024x704, .f32⟩
  | .hbm, ⟨10, _⟩ => ⟨S2x1024x704, .f32⟩
  | .hbm, ⟨11, _⟩ => ⟨S_, .f32⟩
  | .hbm, ⟨12, _⟩ => ⟨S2x1024x704, .f32⟩
  | .hbm, ⟨13, _⟩ => ⟨S2x1024x704, .f32⟩
  | .hbm, ⟨14, _⟩ => ⟨S2x1024x704, .f32⟩
  | .hbm, ⟨15, _⟩ => ⟨S_, .f32⟩
  | .hbm, ⟨16, _⟩ => ⟨S2x1024x704, .f32⟩
  | .hbm, ⟨17, _⟩ => ⟨S2x1024x704, .f32⟩
  | .hbm, ⟨18, _⟩ => ⟨S2x1024x704, .f32⟩
  | .hbm, ⟨19, _⟩ => ⟨S_, .f32⟩
  | .hbm, ⟨20, _⟩ => ⟨S2x1024x704, .f32⟩
  | .hbm, ⟨21, _⟩ => ⟨S2x1024x704, .f32⟩
  | .hbm, ⟨22, _⟩ => ⟨S_, .f32⟩
  | .hbm, ⟨23, _⟩ => ⟨S2x1024x704, .f32⟩
  | .hbm, ⟨24, _⟩ => ⟨S2x1024x704, .f32⟩
  | .hbm, ⟨25, _⟩ => ⟨S2x1024x704, .f32⟩
  | .hbm, ⟨26, _⟩ => ⟨S_, .f32⟩
  | .hbm, ⟨27, _⟩ => ⟨S2x1024x704, .f32⟩
  | .hbm, ⟨28, _⟩ => ⟨S2x1024x704, .f32⟩
  | .hbm, ⟨29, _⟩ => ⟨S2x1024x704, .f32⟩
  | .hbm, ⟨30, _⟩ => ⟨S_, .f32⟩
  | .hbm, ⟨31, _⟩ => ⟨S2x1024x704, .f32⟩
  | .hbm, ⟨32, _⟩ => ⟨S2x1024x704, .f32⟩
  | .hbm, ⟨33, _⟩ => ⟨S2x1024x704, .f32⟩
  | .hbm, ⟨34, _⟩ => ⟨S_, .f32⟩
  | .hbm, ⟨35, _⟩ => ⟨S2x1024x704, .f32⟩
  | .hbm, ⟨36, _⟩ => ⟨S2x1024x704, .f32⟩
  | _, _ => ⟨S2x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel8.lean ====
abbrev S2x256x1024 : Shape := ⟨3, ![2, 256, 1024]⟩
abbrev S512x1024 : Shape := ⟨2, ![512, 1024]⟩
abbrev S256x1024 : Shape := ⟨2, ![256, 1024]⟩

abbrev nBuf : Space → Nat
  | .hbm => 14
  | .vmem => 14
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S2x256x1024, .f32⟩
  | .hbm, ⟨12, _⟩ => ⟨S2x256x1024, .f32⟩
  | .hbm, ⟨13, _⟩ => ⟨S2x256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference8Ideal.lean ====
abbrev S2x256x1024 : Shape := ⟨3, ![2, 256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256x1024, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel9.lean ====
abbrev S2x64x256 : Shape := ⟨3, ![2, 64, 256]⟩
abbrev S128x256 : Shape := ⟨2, ![128, 256]⟩

abbrev nBuf : Space → Nat
  | .hbm => 14
  | .vmem => 7
  | .smem => 0
  | _ => 0

abbrev bufTy : (tb : Table) → Fin (tcTables nBuf tb) → BufTy
  | .hbm, ⟨0, _⟩ => ⟨S2x64x256, .f32⟩
  | .hbm, ⟨1, _⟩ => ⟨S2x64x256, .f32⟩
  | .hbm, ⟨2, _⟩ => ⟨S2x64x256, .f32⟩
  | .hbm, ⟨3, _⟩ => ⟨S2x64x256, .f32⟩
  | .hbm, ⟨4, _⟩ => ⟨S128x256, .f32⟩
  | .hbm, ⟨5, _⟩ => ⟨S128x256, .f32⟩
  | .hbm, ⟨6, _⟩ => ⟨S128x256, .f32⟩
  | .hbm, ⟨7, _⟩ => ⟨S128x256, .f32⟩
  | .hbm, ⟨8, _⟩ => ⟨S128x256, .f32⟩
  | .hbm, ⟨9, _⟩ => ⟨S128x256, .f32⟩
  | .hbm, ⟨10, _⟩ => ⟨S128x256, .f32⟩
  | .hbm, ⟨11, _⟩ => ⟨S2x64x256, .f32⟩
  | .hbm, ⟨12, _⟩ => ⟨S2x64x256, .f32⟩
  | .hbm, ⟨13, _⟩ => ⟨S2x64x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | _, _ => ⟨S2x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference9Ideal.lean ====
abbrev S2x64x256 : Shape := ⟨3, ![2, 64, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x64x256, .f32⟩
  | .hbm, ⟨1, _⟩ => ⟨S2x64x256, .f32⟩
  | .hbm, ⟨2, _⟩ => ⟨S2x64x256, .f32⟩
  | .hbm, ⟨3, _⟩ => ⟨S2x64x256, .f32⟩
  | .hbm, ⟨4, _⟩ => ⟨S_, .f32⟩
  | .hbm, ⟨5, _⟩ => ⟨S2x64x256, .f32⟩
  | .hbm, ⟨6, _⟩ => ⟨S2x64x256, .f32⟩
  | .hbm, ⟨7, _⟩ => ⟨S_, .f32⟩
  | .hbm, ⟨8, _⟩ => ⟨S2x64x256, .f32⟩
  | .hbm, ⟨9, _⟩ => ⟨S2x64x256, .f32⟩
  | .hbm, ⟨10, _⟩ => ⟨S2x64x256, .f32⟩
  | .hbm, ⟨11, _⟩ => ⟨S_, .f32⟩
  | .hbm, ⟨12, _⟩ => ⟨S2x64x256, .f32⟩
  | .hbm, ⟨13, _⟩ => ⟨S2x64x256, .f32⟩
  | .hbm, ⟨14, _⟩ => ⟨S2x64x256, .f32⟩
  | .hbm, ⟨15, _⟩ => ⟨S_, .f32⟩
  | .hbm, ⟨16, _⟩ => ⟨S2x64x256, .f32⟩
  | .hbm, ⟨17, _⟩ => ⟨S2x64x256, .f32⟩
  | .hbm, ⟨18, _⟩ => ⟨S2x64x256, .f32⟩
  | .hbm, ⟨19, _⟩ => ⟨S_, .f32⟩
  | .hbm, ⟨20, _⟩ => ⟨S2x64x256, .f32⟩
  | .hbm, ⟨21, _⟩ => ⟨S2x64x256, .f32⟩
  | .hbm, ⟨22, _⟩ => ⟨S_, .f32⟩
  | .hbm, ⟨23, _⟩ => ⟨S2x64x256, .f32⟩
  | .hbm, ⟨24, _⟩ => ⟨S2x64x256, .f32⟩
  | .hbm, ⟨25, _⟩ => ⟨S2x64x256, .f32⟩
  | .hbm, ⟨26, _⟩ => ⟨S_, .f32⟩
  | .hbm, ⟨27, _⟩ => ⟨S2x64x256, .f32⟩
  | .hbm, ⟨28, _⟩ => ⟨S2x64x256, .f32⟩
  | .hbm, ⟨29, _⟩ => ⟨S2x64x256, .f32⟩
  | .hbm, ⟨30, _⟩ => ⟨S_, .f32⟩
  | .hbm, ⟨31, _⟩ => ⟨S2x64x256, .f32⟩
  | .hbm, ⟨32, _⟩ => ⟨S2x64x256, .f32⟩
  | .hbm, ⟨33, _⟩ => ⟨S2x64x256, .f32⟩
  | .hbm, ⟨34, _⟩ => ⟨S_, .f32⟩
  | .hbm, ⟨35, _⟩ => ⟨S2x64x256, .f32⟩
  | .hbm, ⟨36, _⟩ => ⟨S2x64x256, .f32⟩
  | _, _ => ⟨S2x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel10.lean ====
abbrev S16x256 : Shape := ⟨2, ![16, 256]⟩
abbrev S1024 : Shape := ⟨1, ![1024]⟩
abbrev S2x4x64x64 : Shape := ⟨4, ![2, 4, 64, 64]⟩
abbrev S2x256 : Shape := ⟨2, ![2, 256]⟩
abbrev S2x31x64 : Shape := ⟨3, ![2, 31, 64]⟩
abbrev S2x512 : Shape := ⟨2, ![2, 512]⟩
abbrev S2x3x256 : Shape := ⟨3, ![2, 3, 256]⟩
abbrev S4096 : Shape := ⟨1, ![4096]⟩
abbrev S32768 : Shape := ⟨1, ![32768]⟩
abbrev S512 : Shape := ⟨1, ![512]⟩
abbrev S3968 : Shape := ⟨1, ![3968]⟩
abbrev S1536 : Shape := ⟨1, ![1536]⟩
abbrev S49024 : Shape := ⟨1, ![49024]⟩
abbrev S_ : Shape := ⟨0, ![]⟩
abbrev S128 : Shape := ⟨1, ![128]⟩
abbrev S49152 : Shape := ⟨1, ![49152]⟩
abbrev S48x1024 : Shape := ⟨2, ![48, 1024]⟩
abbrev S16x1024 : Shape := ⟨2, ![16, 1024]⟩

abbrev nBuf : Space → Nat
  | .hbm => 180
  | .vmem => 14
  | .smem => 0
  | _ => 0

abbrev hbmTy0_0 (i : Nat) : BufTy := match i % 128 with
  | 0 => ⟨S16x256, .f32⟩
  | 1 => ⟨S1024, .f32⟩
  | 2 => ⟨S1024, .f32⟩
  | 3 => ⟨S2x4x64x64, .f32⟩
  | 4 => ⟨S2x256, .f32⟩
  | 5 => ⟨S2x31x64, .f32⟩
  | 6 => ⟨S2x256, .f32⟩
  | 7 => ⟨S2x256, .f32⟩
  | 8 => ⟨S2x256, .f32⟩
  | 9 => ⟨S2x512, .f32⟩
  | 10 => ⟨S2x3x256, .f32⟩
  | 11 => ⟨S2x3x256, .f32⟩
  | 12 => ⟨S16x256, .f32⟩
  | 13 => ⟨S1024, .f32⟩
  | 14 => ⟨S1024, .f32⟩
  | 15 => ⟨S2x4x64x64, .f32⟩
  | 16 => ⟨S2x256, .f32⟩
  | 17 => ⟨S2x31x64, .f32⟩
  | 18 => ⟨S2x256, .f32⟩
  | 19 => ⟨S2x256, .f32⟩
  | 20 => ⟨S2x256, .f32⟩
  | 21 => ⟨S2x512, .f32⟩
  | 22 => ⟨S2x3x256, .f32⟩
  | 23 => ⟨S2x3x256, .f32⟩
  | 24 => ⟨S16x256, .f32⟩
  | 25 => ⟨S1024, .f32⟩
  | 26 => ⟨S1024, .f32⟩
  | 27 => ⟨S2x4x64x64, .f32⟩
  | 28 => ⟨S2x256, .f32⟩
  | 29 => ⟨S2x31x64, .f32⟩
  | 30 => ⟨S2x256, .f32⟩
  | 31 => ⟨S2x256, .f32⟩
  | 32 => ⟨S2x256, .f32⟩
  | 33 => ⟨S2x512, .f32⟩
  | 34 => ⟨S2x3x256, .f32⟩
  | 35 => ⟨S2x3x256, .f32⟩
  | 36 => ⟨S16x256, .f32⟩
  | 37 => ⟨S1024, .f32⟩
  | 38 => ⟨S1024, .f32⟩
  | 39 => ⟨S2x4x64x64, .f32⟩
  | 40 => ⟨S2x256, .f32⟩
  | 41 => ⟨S2x31x64, .f32⟩
  | 42 => ⟨S2x256, .f32⟩
  | 43 => ⟨S2x256, .f32⟩
  | 44 => ⟨S2x256, .f32⟩
  | 45 => ⟨S2x512, .f32⟩
  | 46 => ⟨S2x3x256, .f32⟩
  | 47 => ⟨S2x3x256, .f32⟩
  | 48 => ⟨S4096, .f32⟩
  | 49 => ⟨S32768, .f32⟩
  | 50 => ⟨S512, .f32⟩
  | 51 => ⟨S3968, .f32⟩
  | 52 => ⟨S512, .f32⟩
  | 53 => ⟨S512, .f32⟩
  | 54 => ⟨S512, .f32⟩
  | 55 => ⟨S1024, .f32⟩
  | 56 => ⟨S1536, .f32⟩
  | 57 => ⟨S1536, .f32⟩
  | 58 => ⟨S49024, .f32⟩
  | 59 => ⟨S_, .f32⟩
  | 60 => ⟨S128, .f32⟩
  | 61 => ⟨S49152, .f32⟩
  | 62 => ⟨S48x1024, .f32⟩
  | 63 => ⟨S4096, .f32⟩
  | 64 => ⟨S32768, .f32⟩
  | 65 => ⟨S512, .f32⟩
  | 66 => ⟨S3968, .f32⟩
  | 67 => ⟨S512, .f32⟩
  | 68 => ⟨S512, .f32⟩
  | 69 => ⟨S512, .f32⟩
  | 70 => ⟨S1024, .f32⟩
  | 71 => ⟨S1536, .f32⟩
  | 72 => ⟨S1536, .f32⟩
  | 73 => ⟨S49024, .f32⟩
  | 74 => ⟨S_, .f32⟩
  | 75 => ⟨S128, .f32⟩
  | 76 => ⟨S49152, .f32⟩
  | 77 => ⟨S48x1024, .f32⟩
  | 78 => ⟨S4096, .f32⟩
  | 79 => ⟨S32768, .f32⟩
  | 80 => ⟨S512, .f32⟩
  | 81 => ⟨S3968, .f32⟩
  | 82 => ⟨S512, .f32⟩
  | 83 => ⟨S512, .f32⟩
  | 84 => ⟨S512, .f32⟩
  | 85 => ⟨S1024, .f32⟩
  | 86 => ⟨S1536, .f32⟩
  | 87 => ⟨S1536, .f32⟩
  | 88 => ⟨S49024, .f32⟩
  | 89 => ⟨S_, .f32⟩
  | 90 => ⟨S128, .f32⟩
  | 91 => ⟨S49152, .f32⟩
  | 92 => ⟨S48x1024, .f32⟩
  | 93 => ⟨S4096, .f32⟩
  | 94 => ⟨S32768, .f32⟩
  | 95 => ⟨S512, .f32⟩
  | 96 => ⟨S3968, .f32⟩
  | 97 => ⟨S512, .f32⟩
  | 98 => ⟨S512, .f32⟩
  | 99 => ⟨S512, .f32⟩
  | 100 => ⟨S1024, .f32⟩
  | 101 => ⟨S1536, .f32⟩
  | 102 => ⟨S1536, .f32⟩
  | 103 => ⟨S49024, .f32⟩
  | 104 => ⟨S_, .f32⟩
  | 105 => ⟨S128, .f32⟩
  | 106 => ⟨S49152, .f32⟩
  | 107 => ⟨S48x1024, .f32⟩
  | 108 => ⟨S48x1024, .f32⟩
  | 109 => ⟨S48x1024, .f32⟩
  | 110 => ⟨S48x1024, .f32⟩
  | 111 => ⟨S49152, .f32⟩
  | 112 => ⟨S4096, .f32⟩
  | 113 => ⟨S16x256, .f32⟩
  | 114 => ⟨S1024, .f32⟩
  | 115 => ⟨S1024, .f32⟩
  | 116 => ⟨S32768, .f32⟩
  | 117 => ⟨S2x4x64x64, .f32⟩
  | 118 => ⟨S512, .f32⟩
  | 119 => ⟨S2x256, .f32⟩
  | 120 => ⟨S3968, .f32⟩
  | 121 => ⟨S2x31x64, .f32⟩
  | 122 => ⟨S512, .f32⟩
  | 123 => ⟨S2x256, .f32⟩
  | 124 => ⟨S512, .f32⟩
  | 125 => ⟨S2x256, .f32⟩
  | 126 => ⟨S512, .f32⟩
  | 127 => ⟨S2x256, .f32⟩
  | _ => ⟨S16x256, .f32⟩

abbrev hbmTy0_1 (i : Nat) : BufTy := match i % 128 with
  | 0 => ⟨S1024, .f32⟩
  | 1 => ⟨S2x512, .f32⟩
  | 2 => ⟨S1536, .f32⟩
  | 3 => ⟨S2x3x256, .f32⟩
  | 4 => ⟨S1536, .f32⟩
  | 5 => ⟨S2x3x256, .f32⟩
  | 6 => ⟨S49152, .f32⟩
  | 7 => ⟨S4096, .f32⟩
  | 8 => ⟨S16x256, .f32⟩
  | 9 => ⟨S1024, .f32⟩
  | 10 => ⟨S1024, .f32⟩
  | 11 => ⟨S32768, .f32⟩
  | 12 => ⟨S2x4x64x64, .f32⟩
  | 13 => ⟨S512, .f32⟩
  | 14 => ⟨S2x256, .f32⟩
  | 15 => ⟨S3968, .f32⟩
  | 16 => ⟨S2x31x64, .f32⟩
  | 17 => ⟨S512, .f32⟩
  | 18 => ⟨S2x256, .f32⟩
  | 19 => ⟨S512, .f32⟩
  | 20 => ⟨S2x256, .f32⟩
  | 21 => ⟨S512, .f32⟩
  | 22 => ⟨S2x256, .f32⟩
  | 23 => ⟨S1024, .f32⟩
  | 24 => ⟨S2x512, .f32⟩
  | 25 => ⟨S1536, .f32⟩
  | 26 => ⟨S2x3x256, .f32⟩
  | 27 => ⟨S1536, .f32⟩
  | 28 => ⟨S2x3x256, .f32⟩
  | 29 => ⟨S49152, .f32⟩
  | 30 => ⟨S4096, .f32⟩
  | 31 => ⟨S16x256, .f32⟩
  | 32 => ⟨S1024, .f32⟩
  | 33 => ⟨S1024, .f32⟩
  | 34 => ⟨S32768, .f32⟩
  | 35 => ⟨S2x4x64x64, .f32⟩
  | 36 => ⟨S512, .f32⟩
  | 37 => ⟨S2x256, .f32⟩
  | 38 => ⟨S3968, .f32⟩
  | 39 => ⟨S2x31x64, .f32⟩
  | 40 => ⟨S512, .f32⟩
  | 41 => ⟨S2x256, .f32⟩
  | 42 => ⟨S512, .f32⟩
  | 43 => ⟨S2x256, .f32⟩
  | 44 => ⟨S512, .f32⟩
  | 45 => ⟨S2x256, .f32⟩
  | 46 => ⟨S1024, .f32⟩
  | 47 => ⟨S2x512, .f32⟩
  | 48 => ⟨S1536, .f32⟩
  | 49 => ⟨S2x3x256, .f32⟩
  | 50 => ⟨S1536, .f32⟩
  | 51 => ⟨S2x3x256, .f32⟩
  | _ => ⟨S16x256, .f32⟩

abbrev hbmTy (i : Nat) : BufTy := match i / 128 with
  | 0 => hbmTy0_0 i
  | 1 => hbmTy0_1 i
  | _ => ⟨S16x256, .f32⟩

abbrev bufTy : (tb : Table) → Fin (tcTables nBuf tb) → BufTy
  | .hbm, ⟨i, _⟩ => hbmTy i
  | .local _ .vmem, ⟨0, _⟩ => ⟨S16x1024, .f32⟩
  | .local _ .vmem, ⟨1, _⟩ => ⟨S16x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | .local _ .vmem, ⟨7, _⟩ => ⟨S16x1024, .f32⟩
  | .local _ .vmem, ⟨8, _⟩ => ⟨S16x1024, .f32⟩
  | .local _ .vmem, ⟨9, _⟩ => ⟨S16x1024, .f32⟩
  | .local _ .vmem, ⟨10, _⟩ => ⟨S16x1024, .f32⟩
  | .local _ .vmem, ⟨11, _⟩ => ⟨S16x1024, .f32⟩
  | .local _ .vmem, ⟨12, _⟩ => ⟨S16x1024, .f32⟩
  | .local _ .vmem, ⟨13, _⟩ => ⟨S16x1024, .f32⟩
  | _, _ => ⟨S16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_v0 : Ref sig .tc := ⟨.hbm, 48, rfl⟩
abbrev main_v1 : Ref sig .tc := ⟨.hbm, 49, rfl⟩
abbrev main_v2 : Ref sig .tc := ⟨.hbm, 50, rfl⟩
abbrev main_v3 : Ref sig .tc := ⟨.hbm, 51, rfl⟩
abbrev main_v4 : Ref sig .tc := ⟨.hbm, 52, rfl⟩
abbrev main_v5 : Ref sig .tc := ⟨.hbm, 53, rfl⟩
abbrev main_v6 : Ref sig .tc := ⟨.hbm, 54, rfl⟩
abbrev main_v7 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_cst : Ref sig .tc := ⟨.hbm, 59, rfl⟩
abbrev main_v11 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_cst_0 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_cst_1 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_cst_2 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56_0 : Ref sig .tc := ⟨.hbm, 108, rfl⟩
abbrev main_v56_1 : Ref sig .tc := ⟨.hbm, 109, rfl⟩
abbrev main_v56_2 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference10Ideal.lean ====
abbrev S16x256 : Shape := ⟨2, ![16, 256]⟩
abbrev S1024 : Shape := ⟨1, ![1024]⟩
abbrev S2x4x64x64 : Shape := ⟨4, ![2, 4, 64, 64]⟩
abbrev S2x256 : Shape := ⟨2, ![2, 256]⟩
abbrev S2x31x64 : Shape := ⟨3, ![2, 31, 64]⟩
abbrev S2x512 : Shape := ⟨2, ![2, 512]⟩
abbrev S2x3x256 : Shape := ⟨3, ![2, 3, 256]⟩
abbrev S_ : Shape := ⟨0, ![]⟩

abbrev nBuf : Space → Nat
  | .hbm => 444
  | .vmem => 0
  | .smem => 0
  | _ => 0

abbrev hbmTy0_0 (i : Nat) : BufTy := match i % 128 with
  | 0 => ⟨S16x256, .f32⟩
  | 1 => ⟨S1024, .f32⟩
  | 2 => ⟨S1024, .f32⟩
  | 3 => ⟨S2x4x64x64, .f32⟩
  | 4 => ⟨S2x256, .f32⟩
  | 5 => ⟨S2x31x64, .f32⟩
  | 6 => ⟨S2x256, .f32⟩
  | 7 => ⟨S2x256, .f32⟩
  | 8 => ⟨S2x256, .f32⟩
  | 9 => ⟨S2x512, .f32⟩
  | 10 => ⟨S2x3x256, .f32⟩
  | 11 => ⟨S2x3x256, .f32⟩
  | 12 => ⟨S16x256, .f32⟩
  | 13 => ⟨S1024, .f32⟩
  | 14 => ⟨S1024, .f32⟩
  | 15 => ⟨S2x4x64x64, .f32⟩
  | 16 => ⟨S2x256, .f32⟩
  | 17 => ⟨S2x31x64, .f32⟩
  | 18 => ⟨S2x256, .f32⟩
  | 19 => ⟨S2x256, .f32⟩
  | 20 => ⟨S2x256, .f32⟩
  | 21 => ⟨S2x512, .f32⟩
  | 22 => ⟨S2x3x256, .f32⟩
  | 23 => ⟨S2x3x256, .f32⟩
  | 24 => ⟨S16x256, .f32⟩
  | 25 => ⟨S1024, .f32⟩
  | 26 => ⟨S1024, .f32⟩
  | 27 => ⟨S2x4x64x64, .f32⟩
  | 28 => ⟨S2x256, .f32⟩
  | 29 => ⟨S2x31x64, .f32⟩
  | 30 => ⟨S2x256, .f32⟩
  | 31 => ⟨S2x256, .f32⟩
  | 32 => ⟨S2x256, .f32⟩
  | 33 => ⟨S2x512, .f32⟩
  | 34 => ⟨S2x3x256, .f32⟩
  | 35 => ⟨S2x3x256, .f32⟩
  | 36 => ⟨S16x256, .f32⟩
  | 37 => ⟨S1024, .f32⟩
  | 38 => ⟨S1024, .f32⟩
  | 39 => ⟨S2x4x64x64, .f32⟩
  | 40 => ⟨S2x256, .f32⟩
  | 41 => ⟨S2x31x64, .f32⟩
  | 42 => ⟨S2x256, .f32⟩
  | 43 => ⟨S2x256, .f32⟩
  | 44 => ⟨S2x256, .f32⟩
  | 45 => ⟨S2x512, .f32⟩
  | 46 => ⟨S2x3x256, .f32⟩
  | 47 => ⟨S2x3x256, .f32⟩
  | 48 => ⟨S_, .f32⟩
  | 49 => ⟨S16x256, .f32⟩
  | 50 => ⟨S16x256, .f32⟩
  | 51 => ⟨S_, .f32⟩
  | 52 => ⟨S16x256, .f32⟩
  | 53 => ⟨S16x256, .f32⟩
  | 54 => ⟨S16x256, .f32⟩
  | 55 => ⟨S_, .f32⟩
  | 56 => ⟨S16x256, .f32⟩
  | 57 => ⟨S16x256, .f32⟩
  | 58 => ⟨S16x256, .f32⟩
  | 59 => ⟨S_, .f32⟩
  | 60 => ⟨S16x256, .f32⟩
  | 61 => ⟨S16x256, .f32⟩
  | 62 => ⟨S16x256, .f32⟩
  | 63 => ⟨S_, .f32⟩
  | 64 => ⟨S16x256, .f32⟩
  | 65 => ⟨S16x256, .f32⟩
  | 66 => ⟨S_, .f32⟩
  | 67 => ⟨S16x256, .f32⟩
  | 68 => ⟨S16x256, .f32⟩
  | 69 => ⟨S16x256, .f32⟩
  | 70 => ⟨S_, .f32⟩
  | 71 => ⟨S16x256, .f32⟩
  | 72 => ⟨S16x256, .f32⟩
  | 73 => ⟨S16x256, .f32⟩
  | 74 => ⟨S_, .f32⟩
  | 75 => ⟨S16x256, .f32⟩
  | 76 => ⟨S16x256, .f32⟩
  | 77 => ⟨S16x256, .f32⟩
  | 78 => ⟨S_, .f32⟩
  | 79 => ⟨S16x256, .f32⟩
  | 80 => ⟨S16x256, .f32⟩
  | 81 => ⟨S_, .f32⟩
  | 82 => ⟨S1024, .f32⟩
  | 83 => ⟨S1024, .f32⟩
  | 84 => ⟨S_, .f32⟩
  | 85 => ⟨S1024, .f32⟩
  | 86 => ⟨S1024, .f32⟩
  | 87 => ⟨S1024, .f32⟩
  | 88 => ⟨S_, .f32⟩
  | 89 => ⟨S1024, .f32⟩
  | 90 => ⟨S1024, .f32⟩
  | 91 => ⟨S1024, .f32⟩
  | 92 => ⟨S_, .f32⟩
  | 93 => ⟨S1024, .f32⟩
  | 94 => ⟨S1024, .f32⟩
  | 95 => ⟨S1024, .f32⟩
  | 96 => ⟨S_, .f32⟩
  | 97 => ⟨S1024, .f32⟩
  | 98 => ⟨S1024, .f32⟩
  | 99 => ⟨S_, .f32⟩
  | 100 => ⟨S1024, .f32⟩
  | 101 => ⟨S1024, .f32⟩
  | 102 => ⟨S1024, .f32⟩
  | 103 => ⟨S_, .f32⟩
  | 104 => ⟨S1024, .f32⟩
  | 105 => ⟨S1024, .f32⟩
  | 106 => ⟨S1024, .f32⟩
  | 107 => ⟨S_, .f32⟩
  | 108 => ⟨S1024, .f32⟩
  | 109 => ⟨S1024, .f32⟩
  | 110 => ⟨S1024, .f32⟩
  | 111 => ⟨S_, .f32⟩
  | 112 => ⟨S1024, .f32⟩
  | 113 => ⟨S1024, .f32⟩
  | 114 => ⟨S_, .f32⟩
  | 115 => ⟨S1024, .f32⟩
  | 116 => ⟨S1024, .f32⟩
  | 117 => ⟨S_, .f32⟩
  | 118 => ⟨S1024, .f32⟩
  | 119 => ⟨S1024, .f32⟩
  | 120 => ⟨S1024, .f32⟩
  | 121 => ⟨S_, .f32⟩
  | 122 => ⟨S1024, .f32⟩
  | 123 => ⟨S1024, .f32⟩
  | 124 => ⟨S1024, .f32⟩
  | 125 => ⟨S_, .f32⟩
  | 126 => ⟨S1024, .f32⟩
  | 127 => ⟨S1024, .f32⟩
  | _ => ⟨S16x256, .f32⟩

abbrev hbmTy0_1 (i : Nat) : BufTy := match i % 128 with
  | 0 => ⟨S1024, .f32⟩
  | 1 => ⟨S_, .f32⟩
  | 2 => ⟨S1024, .f32⟩
  | 3 => ⟨S1024, .f32⟩
  | 4 => ⟨S_, .f32⟩
  | 5 => ⟨S1024, .f32⟩
  | 6 => ⟨S1024, .f32⟩
  | 7 => ⟨S1024, .f32⟩
  | 8 => ⟨S_, .f32⟩
  | 9 => ⟨S1024, .f32⟩
  | 10 => ⟨S1024, .f32⟩
  | 11 => ⟨S1024, .f32⟩
  | 12 => ⟨S_, .f32⟩
  | 13 => ⟨S1024, .f32⟩
  | 14 => ⟨S1024, .f32⟩
  | 15 => ⟨S1024, .f32⟩
  | 16 => ⟨S_, .f32⟩
  | 17 => ⟨S1024, .f32⟩
  | 18 => ⟨S1024, .f32⟩
  | 19 => ⟨S_, .f32⟩
  | 20 => ⟨S2x4x64x64, .f32⟩
  | 21 => ⟨S2x4x64x64, .f32⟩
  | 22 => ⟨S_, .f32⟩
  | 23 => ⟨S2x4x64x64, .f32⟩
  | 24 => ⟨S2x4x64x64, .f32⟩
  | 25 => ⟨S2x4x64x64, .f32⟩
  | 26 => ⟨S_, .f32⟩
  | 27 => ⟨S2x4x64x64, .f32⟩
  | 28 => ⟨S2x4x64x64, .f32⟩
  | 29 => ⟨S2x4x64x64, .f32⟩
  | 30 => ⟨S_, .f32⟩
  | 31 => ⟨S2x4x64x64, .f32⟩
  | 32 => ⟨S2x4x64x64, .f32⟩
  | 33 => ⟨S2x4x64x64, .f32⟩
  | 34 => ⟨S_, .f32⟩
  | 35 => ⟨S2x4x64x64, .f32⟩
  | 36 => ⟨S2x4x64x64, .f32⟩
  | 37 => ⟨S_, .f32⟩
  | 38 => ⟨S2x4x64x64, .f32⟩
  | 39 => ⟨S2x4x64x64, .f32⟩
  | 40 => ⟨S2x4x64x64, .f32⟩
  | 41 => ⟨S_, .f32⟩
  | 42 => ⟨S2x4x64x64, .f32⟩
  | 43 => ⟨S2x4x64x64, .f32⟩
  | 44 => ⟨S2x4x64x64, .f32⟩
  | 45 => ⟨S_, .f32⟩
  | 46 => ⟨S2x4x64x64, .f32⟩
  | 47 => ⟨S2x4x64x64, .f32⟩
  | 48 => ⟨S2x4x64x64, .f32⟩
  | 49 => ⟨S_, .f32⟩
  | 50 => ⟨S2x4x64x64, .f32⟩
  | 51 => ⟨S2x4x64x64, .f32⟩
  | 52 => ⟨S_, .f32⟩
  | 53 => ⟨S2x256, .f32⟩
  | 54 => ⟨S2x256, .f32⟩
  | 55 => ⟨S_, .f32⟩
  | 56 => ⟨S2x256, .f32⟩
  | 57 => ⟨S2x256, .f32⟩
  | 58 => ⟨S2x256, .f32⟩
  | 59 => ⟨S_, .f32⟩
  | 60 => ⟨S2x256, .f32⟩
  | 61 => ⟨S2x256, .f32⟩
  | 62 => ⟨S2x256, .f32⟩
  | 63 => ⟨S_, .f32⟩
  | 64 => ⟨S2x256, .f32⟩
  | 65 => ⟨S2x256, .f32⟩
  | 66 => ⟨S2x256, .f32⟩
  | 67 => ⟨S_, .f32⟩
  | 68 => ⟨S2x256, .f32⟩
  | 69 => ⟨S2x256, .f32⟩
  | 70 => ⟨S_, .f32⟩
  | 71 => ⟨S2x256, .f32⟩
  | 72 => ⟨S2x256, .f32⟩
  | 73 => ⟨S2x256, .f32⟩
  | 74 => ⟨S_, .f32⟩
  | 75 => ⟨S2x256, .f32⟩
  | 76 => ⟨S2x256, .f32⟩
  | 77 => ⟨S2x256, .f32⟩
  | 78 => ⟨S_, .f32⟩
  | 79 => ⟨S2x256, .f32⟩
  | 80 => ⟨S2x256, .f32⟩
  | 81 => ⟨S2x256, .f32⟩
  | 82 => ⟨S_, .f32⟩
  | 83 => ⟨S2x256, .f32⟩
  | 84 => ⟨S2x256, .f32⟩
  | 85 => ⟨S_, .f32⟩
  | 86 => ⟨S2x31x64, .f32⟩
  | 87 => ⟨S2x31x64, .f32⟩
  | 88 => ⟨S_, .f32⟩
  | 89 => ⟨S2x31x64, .f32⟩
  | 90 => ⟨S2x31x64, .f32⟩
  | 91 => ⟨S2x31x64, .f32⟩
  | 92 => ⟨S_, .f32⟩
  | 93 => ⟨S2x31x64, .f32⟩
  | 94 => ⟨S2x31x64, .f32⟩
  | 95 => ⟨S2x31x64, .f32⟩
  | 96 => ⟨S_, .f32⟩
  | 97 => ⟨S2x31x64, .f32⟩
  | 98 => ⟨S2x31x64, .f32⟩
  | 99 => ⟨S2x31x64, .f32⟩
  | 100 => ⟨S_, .f32⟩
  | 101 => ⟨S2x31x64, .f32⟩
  | 102 => ⟨S2x31x64, .f32⟩
  | 103 => ⟨S_, .f32⟩
  | 104 => ⟨S2x31x64, .f32⟩
  | 105 => ⟨S2x31x64, .f32⟩
  | 106 => ⟨S2x31x64, .f32⟩
  | 107 => ⟨S_, .f32⟩
  | 108 => ⟨S2x31x64, .f32⟩
  | 109 => ⟨S2x31x64, .f32⟩
  | 110 => ⟨S2x31x64, .f32⟩
  | 111 => ⟨S_, .f32⟩
  | 112 => ⟨S2x31x64, .f32⟩
  | 113 => ⟨S2x31x64, .f32⟩
  | 114 => ⟨S2x31x64, .f32⟩
  | 115 => ⟨S_, .f32⟩
  | 116 => ⟨S2x31x64, .f32⟩
  | 117 => ⟨S2x31x64, .f32⟩
  | 118 => ⟨S_, .f32⟩
  | 119 => ⟨S2x256, .f32⟩
  | 120 => ⟨S2x256, .f32⟩
  | 121 => ⟨S_, .f32⟩
  | 122 => ⟨S2x256, .f32⟩
  | 123 => ⟨S2x256, .f32⟩
  | 124 => ⟨S2x256, .f32⟩
  | 125 => ⟨S_, .f32⟩
  | 126 => ⟨S2x256, .f32⟩
  | 127 => ⟨S2x256, .f32⟩
  | _ => ⟨S16x256, .f32⟩

abbrev hbmTy0_2 (i : Nat) : BufTy := match i % 128 with
  | 0 => ⟨S2x256, .f32⟩
  | 1 => ⟨S_, .f32⟩
  | 2 => ⟨S2x256, .f32⟩
  | 3 => ⟨S2x256, .f32⟩
  | 4 => ⟨S2x256, .f32⟩
  | 5 => ⟨S_, .f32⟩
  | 6 => ⟨S2x256, .f32⟩
  | 7 => ⟨S2x256, .f32⟩
  | 8 => ⟨S_, .f32⟩
  | 9 => ⟨S2x256, .f32⟩
  | 10 => ⟨S2x256, .f32⟩
  | 11 => ⟨S2x256, .f32⟩
  | 12 => ⟨S_, .f32⟩
  | 13 => ⟨S2x256, .f32⟩
  | 14 => ⟨S2x256, .f32⟩
  | 15 => ⟨S2x256, .f32⟩
  | 16 => ⟨S_, .f32⟩
  | 17 => ⟨S2x256, .f32⟩
  | 18 => ⟨S2x256, .f32⟩
  | 19 => ⟨S2x256, .f32⟩
  | 20 => ⟨S_, .f32⟩
  | 21 => ⟨S2x256, .f32⟩
  | 22 => ⟨S2x256, .f32⟩
  | 23 => ⟨S_, .f32⟩
  | 24 => ⟨S2x256, .f32⟩
  | 25 => ⟨S2x256, .f32⟩
  | 26 => ⟨S_, .f32⟩
  | 27 => ⟨S2x256, .f32⟩
  | 28 => ⟨S2x256, .f32⟩
  | 29 => ⟨S2x256, .f32⟩
  | 30 => ⟨S_, .f32⟩
  | 31 => ⟨S2x256, .f32⟩
  | 32 => ⟨S2x256, .f32⟩
  | 33 => ⟨S2x256, .f32⟩
  | 34 => ⟨S_, .f32⟩
  | 35 => ⟨S2x256, .f32⟩
  | 36 => ⟨S2x256, .f32⟩
  | 37 => ⟨S2x256, .f32⟩
  | 38 => ⟨S_, .f32⟩
  | 39 => ⟨S2x256, .f32⟩
  | 40 => ⟨S2x256, .f32⟩
  | 41 => ⟨S_, .f32⟩
  | 42 => ⟨S2x256, .f32⟩
  | 43 => ⟨S2x256, .f32⟩
  | 44 => ⟨S2x256, .f32⟩
  | 45 => ⟨S_, .f32⟩
  | 46 => ⟨S2x256, .f32⟩
  | 47 => ⟨S2x256, .f32⟩
  | 48 => ⟨S2x256, .f32⟩
  | 49 => ⟨S_, .f32⟩
  | 50 => ⟨S2x256, .f32⟩
  | 51 => ⟨S2x256, .f32⟩
  | 52 => ⟨S2x256, .f32⟩
  | 53 => ⟨S_, .f32⟩
  | 54 => ⟨S2x256, .f32⟩
  | 55 => ⟨S2x256, .f32⟩
  | 56 => ⟨S_, .f32⟩
  | 57 => ⟨S2x256, .f32⟩
  | 58 => ⟨S2x256, .f32⟩
  | 59 => ⟨S_, .f32⟩
  | 60 => ⟨S2x256, .f32⟩
  | 61 => ⟨S2x256, .f32⟩
  | 62 => ⟨S2x256, .f32⟩
  | 63 => ⟨S_, .f32⟩
  | 64 => ⟨S2x256, .f32⟩
  | 65 => ⟨S2x256, .f32⟩
  | 66 => ⟨S2x256, .f32⟩
  | 67 => ⟨S_, .f32⟩
  | 68 => ⟨S2x256, .f32⟩
  | 69 => ⟨S2x256, .f32⟩
  | 70 => ⟨S2x256, .f32⟩
  | 71 => ⟨S_, .f32⟩
  | 72 => ⟨S2x256, .f32⟩
  | 73 => ⟨S2x256, .f32⟩
  | 74 => ⟨S_, .f32⟩
  | 75 => ⟨S2x256, .f32⟩
  | 76 => ⟨S2x256, .f32⟩
  | 77 => ⟨S2x256, .f32⟩
  | 78 => ⟨S_, .f32⟩
  | 79 => ⟨S2x256, .f32⟩
  | 80 => ⟨S2x256, .f32⟩
  | 81 => ⟨S2x256, .f32⟩
  | 82 => ⟨S_, .f32⟩
  | 83 => ⟨S2x256, .f32⟩
  | 84 => ⟨S2x256, .f32⟩
  | 85 => ⟨S2x256, .f32⟩
  | 86 => ⟨S_, .f32⟩
  | 87 => ⟨S2x256, .f32⟩
  | 88 => ⟨S2x256, .f32⟩
  | 89 => ⟨S_, .f32⟩
  | 90 => ⟨S2x512, .f32⟩
  | 91 => ⟨S2x512, .f32⟩
  | 92 => ⟨S_, .f32⟩
  | 93 => ⟨S2x512, .f32⟩
  | 94 => ⟨S2x512, .f32⟩
  | 95 => ⟨S2x512, .f32⟩
  | 96 => ⟨S_, .f32⟩
  | 97 => ⟨S2x512, .f32⟩
  | 98 => ⟨S2x512, .f32⟩
  | 99 => ⟨S2x512, .f32⟩
  | 100 => ⟨S_, .f32⟩
  | 101 => ⟨S2x512, .f32⟩
  | 102 => ⟨S2x512, .f32⟩
  | 103 => ⟨S2x512, .f32⟩
  | 104 => ⟨S_, .f32⟩
  | 105 => ⟨S2x512, .f32⟩
  | 106 => ⟨S2x512, .f32⟩
  | 107 => ⟨S_, .f32⟩
  | 108 => ⟨S2x512, .f32⟩
  | 109 => ⟨S2x512, .f32⟩
  | 110 => ⟨S2x512, .f32⟩
  | 111 => ⟨S_, .f32⟩
  | 112 => ⟨S2x512, .f32⟩
  | 113 => ⟨S2x512, .f32⟩
  | 114 => ⟨S2x512, .f32⟩
  | 115 => ⟨S_, .f32⟩
  | 116 => ⟨S2x512, .f32⟩
  | 117 => ⟨S2x512, .f32⟩
  | 118 => ⟨S2x512, .f32⟩
  | 119 => ⟨S_, .f32⟩
  | 120 => ⟨S2x512, .f32⟩
  | 121 => ⟨S2x512, .f32⟩
  | 122 => ⟨S_, .f32⟩
  | 123 => ⟨S2x3x256, .f32⟩
  | 124 => ⟨S2x3x256, .f32⟩
  | 125 => ⟨S_, .f32⟩
  | 126 => ⟨S2x3x256, .f32⟩
  | 127 => ⟨S2x3x256, .f32⟩
  | _ => ⟨S16x256, .f32⟩

abbrev hbmTy0_3 (i : Nat) : BufTy := match i % 128 with
  | 0 => ⟨S2x3x256, .f32⟩
  | 1 => ⟨S_, .f32⟩
  | 2 => ⟨S2x3x256, .f32⟩
  | 3 => ⟨S2x3x256, .f32⟩
  | 4 => ⟨S2x3x256, .f32⟩
  | 5 => ⟨S_, .f32⟩
  | 6 => ⟨S2x3x256, .f32⟩
  | 7 => ⟨S2x3x256, .f32⟩
  | 8 => ⟨S2x3x256, .f32⟩
  | 9 => ⟨S_, .f32⟩
  | 10 => ⟨S2x3x256, .f32⟩
  | 11 => ⟨S2x3x256, .f32⟩
  | 12 => ⟨S_, .f32⟩
  | 13 => ⟨S2x3x256, .f32⟩
  | 14 => ⟨S2x3x256, .f32⟩
  | 15 => ⟨S2x3x256, .f32⟩
  | 16 => ⟨S_, .f32⟩
  | 17 => ⟨S2x3x256, .f32⟩
  | 18 => ⟨S2x3x256, .f32⟩
  | 19 => ⟨S2x3x256, .f32⟩
  | 20 => ⟨S_, .f32⟩
  | 21 => ⟨S2x3x256, .f32⟩
  | 22 => ⟨S2x3x256, .f32⟩
  | 23 => ⟨S2x3x256, .f32⟩
  | 24 => ⟨S_, .f32⟩
  | 25 => ⟨S2x3x256, .f32⟩
  | 26 => ⟨S2x3x256, .f32⟩
  | 27 => ⟨S_, .f32⟩
  | 28 => ⟨S2x3x256, .f32⟩
  | 29 => ⟨S2x3x256, .f32⟩
  | 30 => ⟨S_, .f32⟩
  | 31 => ⟨S2x3x256, .f32⟩
  | 32 => ⟨S2x3x256, .f32⟩
  | 33 => ⟨S2x3x256, .f32⟩
  | 34 => ⟨S_, .f32⟩
  | 35 => ⟨S2x3x256, .f32⟩
  | 36 => ⟨S2x3x256, .f32⟩
  | 37 => ⟨S2x3x256, .f32⟩
  | 38 => ⟨S_, .f32⟩
  | 39 => ⟨S2x3x256, .f32⟩
  | 40 => ⟨S2x3x256, .f32⟩
  | 41 => ⟨S2x3x256, .f32⟩
  | 42 => ⟨S_, .f32⟩
  | 43 => ⟨S2x3x256, .f32⟩
  | 44 => ⟨S2x3x256, .f32⟩
  | 45 => ⟨S_, .f32⟩
  | 46 => ⟨S2x3x256, .f32⟩
  | 47 => ⟨S2x3x256, .f32⟩
  | 48 => ⟨S2x3x256, .f32⟩
  | 49 => ⟨S_, .f32⟩
  | 50 => ⟨S2x3x256, .f32⟩
  | 51 => ⟨S2x3x256, .f32⟩
  | 52 => ⟨S2x3x256, .f32⟩
  | 53 => ⟨S_, .f32⟩
  | 54 => ⟨S2x3x256, .f32⟩
  | 55 => ⟨S2x3x256, .f32⟩
  | 56 => ⟨S2x3x256, .f32⟩
  | 57 => ⟨S_, .f32⟩
  | 58 => ⟨S2x3x256, .f32⟩
  | 59 => ⟨S2x3x256, .f32⟩
  | _ => ⟨S16x256, .f32⟩

abbrev hbmTy (i : Nat) : BufTy := match i / 128 with
  | 0 => hbmTy0_0 i
  | 1 => hbmTy0_1 i
  | 2 => hbmTy0_2 i
  | 3 => hbmTy0_3 i
  | _ => ⟨S16x256, .f32⟩

abbrev bufTy : (tb : Table) → Fin (tcTables nBuf tb) → BufTy
  | .hbm, ⟨i, _⟩ => hbmTy i
  | _, _ => ⟨S16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_cst : Ref sig .tc := ⟨.hbm, 48, rfl⟩
abbrev main_v0 : Ref sig .tc := ⟨.hbm, 49, rfl⟩
abbrev main_v1 : Ref sig .tc := ⟨.hbm, 50, rfl⟩
abbrev main_cst_0 : Ref sig .tc := ⟨.hbm, 51, rfl⟩
abbrev main_v2 : Ref sig .tc := ⟨.hbm, 52, rfl⟩
abbrev main_v3 : Ref sig .tc := ⟨.hbm, 53, rfl⟩
abbrev main_v4 : Ref sig .tc := ⟨.hbm, 54, rfl⟩
abbrev main_cst_1 : Ref sig .tc := ⟨.hbm, 55, rfl⟩
abbrev main_v5 : Ref sig .tc := ⟨.hbm, 56, rfl⟩
abbrev main_v6 : Ref sig .tc := ⟨.hbm, 57, rfl⟩
abbrev main_v7 : Ref sig .tc := ⟨.hbm, 58, rfl⟩
abbrev main_cst_2 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_cst_3 : Ref sig .tc := ⟨.hbm, 63, rfl⟩
abbrev main_v11 : Ref sig .tc := ⟨.hbm, 64, rfl⟩
abbrev main_v12 : Ref sig .tc := ⟨.hbm, 65, rfl⟩
abbrev main_cst_4 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_cst_5 : Ref sig .tc := ⟨.hbm, 70, rfl⟩
abbrev main_v16 : Ref sig .tc := ⟨.hbm, 71, rfl⟩
abbrev main_v17 : Ref sig .tc := ⟨.hbm, 72, rfl⟩
abbrev main_v18 : Ref sig .tc := ⟨.hbm, 73, rfl⟩
abbrev main_cst_6 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev main_cst_7 : Ref sig .tc := ⟨.hbm, 78, rfl⟩
abbrev main_v22 : Ref sig .tc := ⟨.hbm, 79, rfl⟩
abbrev main_v23 : Ref sig .tc := ⟨.hbm, 80, rfl⟩
abbrev main_cst_8 : Ref sig .tc := ⟨.hbm, 81, rfl⟩
abbrev main_v24 : Ref sig .tc := ⟨.hbm, 82, rfl⟩
abbrev main_v25 : Ref sig .tc := ⟨.hbm, 83, rfl⟩
abbrev main_cst_9 : Ref sig .tc := ⟨.hbm, 84, rfl⟩
abbrev main_v26 : Ref sig .tc := ⟨.hbm, 85, rfl⟩
abbrev main_v27 : Ref sig .tc := ⟨.hbm, 86, rfl⟩
abbrev main_v28 : Ref sig .tc := ⟨.hbm, 87, rfl⟩
abbrev main_cst_10 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev main_cst_11 : Ref sig .tc := ⟨.hbm, 92, rfl⟩
abbrev main_v32 : Ref sig .tc := ⟨.hbm, 93, rfl⟩
abbrev main_v33 : Ref sig .tc := ⟨.hbm, 94, rfl⟩
abbrev main_v34 : Ref sig .tc := ⟨.hbm, 95, rfl⟩
abbrev main_cst_12 : Ref sig .tc := ⟨.hbm, 96, rfl⟩
abbrev main_v35 : Ref sig .tc := ⟨.hbm, 97, rfl⟩
abbrev main_v36 : Ref sig .tc := ⟨.hbm, 98, rfl⟩
abbrev main_cst_13 : Ref sig .tc := ⟨.hbm, 99, rfl⟩
abbrev main_v37 : Ref sig .tc := ⟨.hbm, 100, rfl⟩
abbrev main_v38 : Ref sig .tc := ⟨.hbm, 101, rfl⟩
abbrev main_v39 : Ref sig .tc := ⟨.hbm, 102, rfl⟩
abbrev main_cst_14 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_cst_15 : Ref sig .tc := ⟨.hbm, 107, rfl⟩
abbrev main_v43 : Ref sig .tc := ⟨.hbm, 108, rfl⟩
abbrev main_v44 : Ref sig .tc := ⟨.hbm, 109, rfl⟩
abbrev main_v45 : Ref sig .tc := ⟨.hbm, 110, rfl⟩
abbrev main_cst_16 : Ref sig .tc := ⟨.hbm, 111, rfl⟩
abbrev main_v46 : Ref sig .tc := ⟨.hbm, 112, rfl⟩
abbrev main_v47 : Ref sig .tc := ⟨.hbm, 113, rfl⟩
abbrev main_cst_17 : Ref sig .tc := ⟨.hbm, 114, rfl⟩
abbrev main_v48 : Ref sig .tc := ⟨.hbm, 115, rfl⟩
abbrev main_v49 : Ref sig .tc := ⟨.hbm, 116, rfl⟩
abbrev main_cst_18 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_cst_19 : Ref sig .tc := ⟨.hbm, 121, rfl⟩
abbrev main_v53 : Ref sig .tc := ⟨.hbm, 122, rfl⟩
abbrev main_v54 : Ref sig .tc := ⟨.hbm, 123, rfl⟩
abbrev main_v55 : Ref sig .tc := ⟨.hbm, 124, rfl⟩
abbrev main_cst_20 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_cst_21 : Ref sig .tc := ⟨.hbm, 129, rfl⟩
abbrev main_v59 : Ref sig .tc := ⟨.hbm, 130, rfl⟩
abbrev main_v60 : Ref sig .tc := ⟨.hbm, 131, rfl⟩
abbrev main_cst_22 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_cst_23 : Ref sig .tc := ⟨.hbm, 136, rfl⟩
abbrev main_v64 : Ref sig .tc := ⟨.hbm, 137, rfl⟩
abbrev main_v65 : Ref sig .tc := ⟨.hbm, 138, rfl⟩
abbrev main_v66 : Ref sig .tc := ⟨.hbm, 139, rfl⟩
abbrev main_cst_24 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_cst_25 : Ref sig .tc := ⟨.hbm, 144, rfl⟩
abbrev main_v70 : Ref sig .tc := ⟨.hbm, 145, rfl⟩
abbrev main_v71 : Ref sig .tc := ⟨.hbm, 146, rfl⟩
abbrev main_cst_26 : Ref sig .tc := ⟨.hbm, 147, rfl⟩
abbrev main_v72 : Ref sig .tc := ⟨.hbm, 148, rfl⟩
abbrev main_v73 : Ref sig .tc := ⟨.hbm, 149, rfl⟩
abbrev main_cst_27 : Ref sig .tc := ⟨.hbm, 150, rfl⟩
abbrev main_v74 : Ref sig .tc := ⟨.hbm, 151, rfl⟩
abbrev main_v75 : Ref sig .tc := ⟨.hbm, 152, rfl⟩
abbrev main_v76 : Ref sig .tc := ⟨.hbm, 153, rfl⟩
abbrev main_cst_28 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_cst_29 : Ref sig .tc := ⟨.hbm, 158, rfl⟩
abbrev main_v80 : Ref sig .tc := ⟨.hbm, 159, rfl⟩
abbrev main_v81 : Ref sig .tc := ⟨.hbm, 160, rfl⟩
abbrev main_v82 : Ref sig .tc := ⟨.hbm, 161, rfl⟩
abbrev main_cst_30 : Ref sig .tc := ⟨.hbm, 162, rfl⟩
abbrev main_v83 : Ref sig .tc := ⟨.hbm, 163, rfl⟩
abbrev main_v84 : Ref sig .tc := ⟨.hbm, 164, rfl⟩
abbrev main_cst_31 : Ref sig .tc := ⟨.hbm, 165, rfl⟩
abbrev main_v85 : Ref sig .tc := ⟨.hbm, 166, rfl⟩
abbrev main_v86 : Ref sig .tc := ⟨.hbm, 167, rfl⟩
abbrev main_v87 : Ref sig .tc := ⟨.hbm, 168, rfl⟩
abbrev main_cst_32 : Ref sig .tc := ⟨.hbm, 169, rfl⟩
abbrev main_v88 : Ref sig .tc := ⟨.hbm, 170, rfl⟩
abbrev main_v89 : Ref sig .tc := ⟨.hbm, 171, rfl⟩
abbrev main_v90 : Ref sig .tc := ⟨.hbm, 172, rfl⟩
abbrev main_cst_33 : Ref sig .tc := ⟨.hbm, 173, rfl⟩
abbrev main_v91 : Ref sig .tc := ⟨.hbm, 174, rfl⟩
abbrev main_v92 : Ref sig .tc := ⟨.hbm, 175, rfl⟩
abbrev main_v93 : Ref sig .tc := ⟨.hbm, 176, rfl⟩
abbrev main_cst_34 : Ref sig .tc := ⟨.hbm, 177, rfl⟩
abbrev main_v94 : Ref sig .tc := ⟨.hbm, 178, rfl⟩
abbrev main_v95 : Ref sig .tc := ⟨.hbm, 179, rfl⟩
abbrev main_cst_35 : Ref sig .tc := ⟨.hbm, 180, rfl⟩
abbrev main_v96 : Ref sig .tc := ⟨.hbm, 181, rfl⟩
abbrev main_v97 : Ref sig .tc := ⟨.hbm, 182, rfl⟩
abbrev main_cst_36 : Ref sig .tc := ⟨.hbm, 183, rfl⟩
abbrev main_v98 : Ref sig .tc := ⟨.hbm, 184, rfl⟩
abbrev main_v99 : Ref sig .tc := ⟨.hbm, 185, rfl⟩
abbrev main_v100 : Ref sig .tc := ⟨.hbm, 186, rfl⟩
abbrev main_cst_37 : Ref sig .tc := ⟨.hbm, 187, rfl⟩
abbrev main_v101 : Ref sig .tc := ⟨.hbm, 188, rfl⟩
abbrev main_v102 : Ref sig .tc := ⟨.hbm, 189, rfl⟩
abbrev main_v103 : Ref sig .tc := ⟨.hbm, 190, rfl⟩
abbrev main_cst_38 : Ref sig .tc := ⟨.hbm, 191, rfl⟩
abbrev main_v104 : Ref sig .tc := ⟨.hbm, 192, rfl⟩
abbrev main_v105 : Ref sig .tc := ⟨.hbm, 193, rfl⟩
abbrev main_v106 : Ref sig .tc := ⟨.hbm, 194, rfl⟩
abbrev main_cst_39 : Ref sig .tc := ⟨.hbm, 195, rfl⟩
abbrev main_v107 : Ref sig .tc := ⟨.hbm, 196, rfl⟩
abbrev main_v108 : Ref sig .tc := ⟨.hbm, 197, rfl⟩
abbrev main_cst_40 : Ref sig .tc := ⟨.hbm, 198, rfl⟩
abbrev main_v109 : Ref sig .tc := ⟨.hbm, 199, rfl⟩
abbrev main_v110 : Ref sig .tc := ⟨.hbm, 200, rfl⟩
abbrev main_v111 : Ref sig .tc := ⟨.hbm, 201, rfl⟩
abbrev main_cst_41 : Ref sig .tc := ⟨.hbm, 202, rfl⟩
abbrev main_v112 : Ref sig .tc := ⟨.hbm, 203, rfl⟩
abbrev main_v113 : Ref sig .tc := ⟨.hbm, 204, rfl⟩
abbrev main_v114 : Ref sig .tc := ⟨.hbm, 205, rfl⟩
abbrev main_cst_42 : Ref sig .tc := ⟨.hbm, 206, rfl⟩
abbrev main_v115 : Ref sig .tc := ⟨.hbm, 207, rfl⟩
abbrev main_v116 : Ref sig .tc := ⟨.hbm, 208, rfl⟩
abbrev main_v117 : Ref sig .tc := ⟨.hbm, 209, rfl⟩
abbrev main_cst_43 : Ref sig .tc := ⟨.hbm, 210, rfl⟩
abbrev main_v118 : Ref sig .tc := ⟨.hbm, 211, rfl⟩
abbrev main_v119 : Ref sig .tc := ⟨.hbm, 212, rfl⟩
abbrev main_cst_44 : Ref sig .tc := ⟨.hbm, 213, rfl⟩
abbrev main_v120 : Ref sig .tc := ⟨.hbm, 214, rfl⟩
abbrev main_v121 : Ref sig .tc := ⟨.hbm, 215, rfl⟩
abbrev main_cst_45 : Ref sig .tc := ⟨.hbm, 216, rfl⟩
abbrev main_v122 : Ref sig .tc := ⟨.hbm, 217, rfl⟩
abbrev main_v123 : Ref sig .tc := ⟨.hbm, 218, rfl⟩
abbrev main_v124 : Ref sig .tc := ⟨.hbm, 219, rfl⟩
abbrev main_cst_46 : Ref sig .tc := ⟨.hbm, 220, rfl⟩
abbrev main_v125 : Ref sig .tc := ⟨.hbm, 221, rfl⟩
abbrev main_v126 : Ref sig .tc := ⟨.hbm, 222, rfl⟩
abbrev main_v127 : Ref sig .tc := ⟨.hbm, 223, rfl⟩
abbrev main_cst_47 : Ref sig .tc := ⟨.hbm, 224, rfl⟩
abbrev main_v128 : Ref sig .tc := ⟨.hbm, 225, rfl⟩
abbrev main_v129 : Ref sig .tc := ⟨.hbm, 226, rfl⟩
abbrev main_v130 : Ref sig .tc := ⟨.hbm, 227, rfl⟩
abbrev main_cst_48 : Ref sig .tc := ⟨.hbm, 228, rfl⟩
abbrev main_v131 : Ref sig .tc := ⟨.hbm, 229, rfl⟩
abbrev main_v132 : Ref sig .tc := ⟨.hbm, 230, rfl⟩
abbrev main_cst_49 : Ref sig .tc := ⟨.hbm, 231, rfl⟩
abbrev main_v133 : Ref sig .tc := ⟨.hbm, 232, rfl⟩
abbrev main_v134 : Ref sig .tc := ⟨.hbm, 233, rfl⟩
abbrev main_v135 : Ref sig .tc := ⟨.hbm, 234, rfl⟩
abbrev main_cst_50 : Ref sig .tc := ⟨.hbm, 235, rfl⟩
abbrev main_v136 : Ref sig .tc := ⟨.hbm, 236, rfl⟩
abbrev main_v137 : Ref sig .tc := ⟨.hbm, 237, rfl⟩
abbrev main_v138 : Ref sig .tc := ⟨.hbm, 238, rfl⟩
abbrev main_cst_51 : Ref sig .tc := ⟨.hbm, 239, rfl⟩
abbrev main_v139 : Ref sig .tc := ⟨.hbm, 240, rfl⟩
abbrev main_v140 : Ref sig .tc := ⟨.hbm, 241, rfl⟩
abbrev main_v141 : Ref sig .tc := ⟨.hbm, 242, rfl⟩
abbrev main_cst_52 : Ref sig .tc := ⟨.hbm, 243, rfl⟩
abbrev main_v142 : Ref sig .tc := ⟨.hbm, 244, rfl⟩
abbrev main_v143 : Ref sig .tc := ⟨.hbm, 245, rfl⟩
abbrev main_cst_53 : Ref sig .tc := ⟨.hbm, 246, rfl⟩
abbrev main_v144 : Ref sig .tc := ⟨.hbm, 247, rfl⟩
abbrev main_v145 : Ref sig .tc := ⟨.hbm, 248, rfl⟩
abbrev main_cst_54 : Ref sig .tc := ⟨.hbm, 249, rfl⟩
abbrev main_v146 : Ref sig .tc := ⟨.hbm, 250, rfl⟩
abbrev main_v147 : Ref sig .tc := ⟨.hbm, 251, rfl⟩
abbrev main_v148 : Ref sig .tc := ⟨.hbm, 252, rfl⟩
abbrev main_cst_55 : Ref sig .tc := ⟨.hbm, 253, rfl⟩
abbrev main_v149 : Ref sig .tc := ⟨.hbm, 254, rfl⟩
abbrev main_v150 : Ref sig .tc := ⟨.hbm, 255, rfl⟩
abbrev main_v151 : Ref sig .tc := ⟨.hbm, 256, rfl⟩
abbrev main_cst_56 : Ref sig .tc := ⟨.hbm, 257, rfl⟩
abbrev main_v152 : Ref sig .tc := ⟨.hbm, 258, rfl⟩
abbrev main_v153 : Ref sig .tc := ⟨.hbm, 259, rfl⟩
abbrev main_v154 : Ref sig .tc := ⟨.hbm, 260, rfl⟩
abbrev main_cst_57 : Ref sig .tc := ⟨.hbm, 261, rfl⟩
abbrev main_v155 : Ref sig .tc := ⟨.hbm, 262, rfl⟩
abbrev main_v156 : Ref sig .tc := ⟨.hbm, 263, rfl⟩
abbrev main_cst_58 : Ref sig .tc := ⟨.hbm, 264, rfl⟩
abbrev main_v157 : Ref sig .tc := ⟨.hbm, 265, rfl⟩
abbrev main_v158 : Ref sig .tc := ⟨.hbm, 266, rfl⟩
abbrev main_v159 : Ref sig .tc := ⟨.hbm, 267, rfl⟩
abbrev main_cst_59 : Ref sig .tc := ⟨.hbm, 268, rfl⟩
abbrev main_v160 : Ref sig .tc := ⟨.hbm, 269, rfl⟩
abbrev main_v161 : Ref sig .tc := ⟨.hbm, 270, rfl⟩
abbrev main_v162 : Ref sig .tc := ⟨.hbm, 271, rfl⟩
abbrev main_cst_60 : Ref sig .tc := ⟨.hbm, 272, rfl⟩
abbrev main_v163 : Ref sig .tc := ⟨.hbm, 273, rfl⟩
abbrev main_v164 : Ref sig .tc := ⟨.hbm, 274, rfl⟩
abbrev main_v165 : Ref sig .tc := ⟨.hbm, 275, rfl⟩
abbrev main_cst_61 : Ref sig .tc := ⟨.hbm, 276, rfl⟩
abbrev main_v166 : Ref sig .tc := ⟨.hbm, 277, rfl⟩
abbrev main_v167 : Ref sig .tc := ⟨.hbm, 278, rfl⟩
abbrev main_cst_62 : Ref sig .tc := ⟨.hbm, 279, rfl⟩
abbrev main_v168 : Ref sig .tc := ⟨.hbm, 280, rfl⟩
abbrev main_v169 : Ref sig .tc := ⟨.hbm, 281, rfl⟩
abbrev main_cst_63 : Ref sig .tc := ⟨.hbm, 282, rfl⟩
abbrev main_v170 : Ref sig .tc := ⟨.hbm, 283, rfl⟩
abbrev main_v171 : Ref sig .tc := ⟨.hbm, 284, rfl⟩
abbrev main_v172 : Ref sig .tc := ⟨.hbm, 285, rfl⟩
abbrev main_cst_64 : Ref sig .tc := ⟨.hbm, 286, rfl⟩
abbrev main_v173 : Ref sig .tc := ⟨.hbm, 287, rfl⟩
abbrev main_v174 : Ref sig .tc := ⟨.hbm, 288, rfl⟩
abbrev main_v175 : Ref sig .tc := ⟨.hbm, 289, rfl⟩
abbrev main_cst_65 : Ref sig .tc := ⟨.hbm, 290, rfl⟩
abbrev main_v176 : Ref sig .tc := ⟨.hbm, 291, rfl⟩
abbrev main_v177 : Ref sig .tc := ⟨.hbm, 292, rfl⟩
abbrev main_v178 : Ref sig .tc := ⟨.hbm, 293, rfl⟩
abbrev main_cst_66 : Ref sig .tc := ⟨.hbm, 294, rfl⟩
abbrev main_v179 : Ref sig .tc := ⟨.hbm, 295, rfl⟩
abbrev main_v180 : Ref sig .tc := ⟨.hbm, 296, rfl⟩
abbrev main_cst_67 : Ref sig .tc := ⟨.hbm, 297, rfl⟩
abbrev main_v181 : Ref sig .tc := ⟨.hbm, 298, rfl⟩
abbrev main_v182 : Ref sig .tc := ⟨.hbm, 299, rfl⟩
abbrev main_v183 : Ref sig .tc := ⟨.hbm, 300, rfl⟩
abbrev main_cst_68 : Ref sig .tc := ⟨.hbm, 301, rfl⟩
abbrev main_v184 : Ref sig .tc := ⟨.hbm, 302, rfl⟩
abbrev main_v185 : Ref sig .tc := ⟨.hbm, 303, rfl⟩
abbrev main_v186 : Ref sig .tc := ⟨.hbm, 304, rfl⟩
abbrev main_cst_69 : Ref sig .tc := ⟨.hbm, 305, rfl⟩
abbrev main_v187 : Ref sig .tc := ⟨.hbm, 306, rfl⟩
abbrev main_v188 : Ref sig .tc := ⟨.hbm, 307, rfl⟩
abbrev main_v189 : Ref sig .tc := ⟨.hbm, 308, rfl⟩
abbrev main_cst_70 : Ref sig .tc := ⟨.hbm, 309, rfl⟩
abbrev main_v190 : Ref sig .tc := ⟨.hbm, 310, rfl⟩
abbrev main_v191 : Ref sig .tc := ⟨.hbm, 311, rfl⟩
abbrev main_cst_71 : Ref sig .tc := ⟨.hbm, 312, rfl⟩
abbrev main_v192 : Ref sig .tc := ⟨.hbm, 313, rfl⟩
abbrev main_v193 : Ref sig .tc := ⟨.hbm, 314, rfl⟩
abbrev main_cst_72 : Ref sig .tc := ⟨.hbm, 315, rfl⟩
abbrev main_v194 : Ref sig .tc := ⟨.hbm, 316, rfl⟩
abbrev main_v195 : Ref sig .tc := ⟨.hbm, 317, rfl⟩
abbrev main_v196 : Ref sig .tc := ⟨.hbm, 318, rfl⟩
abbrev main_cst_73 : Ref sig .tc := ⟨.hbm, 319, rfl⟩
abbrev main_v197 : Ref sig .tc := ⟨.hbm, 320, rfl⟩
abbrev main_v198 : Ref sig .tc := ⟨.hbm, 321, rfl⟩
abbrev main_v199 : Ref sig .tc := ⟨.hbm, 322, rfl⟩
abbrev main_cst_74 : Ref sig .tc := ⟨.hbm, 323, rfl⟩
abbrev main_v200 : Ref sig .tc := ⟨.hbm, 324, rfl⟩
abbrev main_v201 : Ref sig .tc := ⟨.hbm, 325, rfl⟩
abbrev main_v202 : Ref sig .tc := ⟨.hbm, 326, rfl⟩
abbrev main_cst_75 : Ref sig .tc := ⟨.hbm, 327, rfl⟩
abbrev main_v203 : Ref sig .tc := ⟨.hbm, 328, rfl⟩
abbrev main_v204 : Ref sig .tc := ⟨.hbm, 329, rfl⟩
abbrev main_cst_76 : Ref sig .tc := ⟨.hbm, 330, rfl⟩
abbrev main_v205 : Ref sig .tc := ⟨.hbm, 331, rfl⟩
abbrev main_v206 : Ref sig .tc := ⟨.hbm, 332, rfl⟩
abbrev main_v207 : Ref sig .tc := ⟨.hbm, 333, rfl⟩
abbrev main_cst_77 : Ref sig .tc := ⟨.hbm, 334, rfl⟩
abbrev main_v208 : Ref sig .tc := ⟨.hbm, 335, rfl⟩
abbrev main_v209 : Ref sig .tc := ⟨.hbm, 336, rfl⟩
abbrev main_v210 : Ref sig .tc := ⟨.hbm, 337, rfl⟩
abbrev main_cst_78 : Ref sig .tc := ⟨.hbm, 338, rfl⟩
abbrev main_v211 : Ref sig .tc := ⟨.hbm, 339, rfl⟩
abbrev main_v212 : Ref sig .tc := ⟨.hbm, 340, rfl⟩
abbrev main_v213 : Ref sig .tc := ⟨.hbm, 341, rfl⟩
abbrev main_cst_79 : Ref sig .tc := ⟨.hbm, 342, rfl⟩
abbrev main_v214 : Ref sig .tc := ⟨.hbm, 343, rfl⟩
abbrev main_v215 : Ref sig .tc := ⟨.hbm, 344, rfl⟩
abbrev main_cst_80 : Ref sig .tc := ⟨.hbm, 345, rfl⟩
abbrev main_v216 : Ref sig .tc := ⟨.hbm, 346, rfl⟩
abbrev main_v217 : Ref sig .tc := ⟨.hbm, 347, rfl⟩
abbrev main_cst_81 : Ref sig .tc := ⟨.hbm, 348, rfl⟩
abbrev main_v218 : Ref sig .tc := ⟨.hbm, 349, rfl⟩
abbrev main_v219 : Ref sig .tc := ⟨.hbm, 350, rfl⟩
abbrev main_v220 : Ref sig .tc := ⟨.hbm, 351, rfl⟩
abbrev main_cst_82 : Ref sig .tc := ⟨.hbm, 352, rfl⟩
abbrev main_v221 : Ref sig .tc := ⟨.hbm, 353, rfl⟩
abbrev main_v222 : Ref sig .tc := ⟨.hbm, 354, rfl⟩
abbrev main_v223 : Ref sig .tc := ⟨.hbm, 355, rfl⟩
abbrev main_cst_83 : Ref sig .tc := ⟨.hbm, 356, rfl⟩
abbrev main_v224 : Ref sig .tc := ⟨.hbm, 357, rfl⟩
abbrev main_v225 : Ref sig .tc := ⟨.hbm, 358, rfl⟩
abbrev main_v226 : Ref sig .tc := ⟨.hbm, 359, rfl⟩
abbrev main_cst_84 : Ref sig .tc := ⟨.hbm, 360, rfl⟩
abbrev main_v227 : Ref sig .tc := ⟨.hbm, 361, rfl⟩
abbrev main_v228 : Ref sig .tc := ⟨.hbm, 362, rfl⟩
abbrev main_cst_85 : Ref sig .tc := ⟨.hbm, 363, rfl⟩
abbrev main_v229 : Ref sig .tc := ⟨.hbm, 364, rfl⟩
abbrev main_v230 : Ref sig .tc := ⟨.hbm, 365, rfl⟩
abbrev main_v231 : Ref sig .tc := ⟨.hbm, 366, rfl⟩
abbrev main_cst_86 : Ref sig .tc := ⟨.hbm, 367, rfl⟩
abbrev main_v232 : Ref sig .tc := ⟨.hbm, 368, rfl⟩
abbrev main_v233 : Ref sig .tc := ⟨.hbm, 369, rfl⟩
abbrev main_v234 : Ref sig .tc := ⟨.hbm, 370, rfl⟩
abbrev main_cst_87 : Ref sig .tc := ⟨.hbm, 371, rfl⟩
abbrev main_v235 : Ref sig .tc := ⟨.hbm, 372, rfl⟩
abbrev main_v236 : Ref sig .tc := ⟨.hbm, 373, rfl⟩
abbrev main_v237 : Ref sig .tc := ⟨.hbm, 374, rfl⟩
abbrev main_cst_88 : Ref sig .tc := ⟨.hbm, 375, rfl⟩
abbrev main_v238 : Ref sig .tc := ⟨.hbm, 376, rfl⟩
abbrev main_v239 : Ref sig .tc := ⟨.hbm, 377, rfl⟩
abbrev main_cst_89 : Ref sig .tc := ⟨.hbm, 378, rfl⟩
abbrev main_v240 : Ref sig .tc := ⟨.hbm, 379, rfl⟩
abbrev main_v241 : Ref sig .tc := ⟨.hbm, 380, rfl⟩
abbrev main_cst_90 : Ref sig .tc := ⟨.hbm, 381, rfl⟩
abbrev main_v242 : Ref sig .tc := ⟨.hbm, 382, rfl⟩
abbrev main_v243 : Ref sig .tc := ⟨.hbm, 383, rfl⟩
abbrev main_v244 : Ref sig .tc := ⟨.hbm, 384, rfl⟩
abbrev main_cst_91 : Ref sig .tc := ⟨.hbm, 385, rfl⟩
abbrev main_v245 : Ref sig .tc := ⟨.hbm, 386, rfl⟩
abbrev main_v246 : Ref sig .tc := ⟨.hbm, 387, rfl⟩
abbrev main_v247 : Ref sig .tc := ⟨.hbm, 388, rfl⟩
abbrev main_cst_92 : Ref sig .tc := ⟨.hbm, 389, rfl⟩
abbrev main_v248 : Ref sig .tc := ⟨.hbm, 390, rfl⟩
abbrev main_v249 : Ref sig .tc := ⟨.hbm, 391, rfl⟩
abbrev main_v250 : Ref sig .tc := ⟨.hbm, 392, rfl⟩
abbrev main_cst_93 : Ref sig .tc := ⟨.hbm, 393, rfl⟩
abbrev main_v251 : Ref sig .tc := ⟨.hbm, 394, rfl⟩
abbrev main_v252 : Ref sig .tc := ⟨.hbm, 395, rfl⟩
abbrev main_cst_94 : Ref sig .tc := ⟨.hbm, 396, rfl⟩
abbrev main_v253 : Ref sig .tc := ⟨.hbm, 397, rfl⟩
abbrev main_v254 : Ref sig .tc := ⟨.hbm, 398, rfl⟩
abbrev main_v255 : Ref sig .tc := ⟨.hbm, 399, rfl⟩
abbrev main_cst_95 : Ref sig .tc := ⟨.hbm, 400, rfl⟩
abbrev main_v256 : Ref sig .tc := ⟨.hbm, 401, rfl⟩
abbrev main_v257 : Ref sig .tc := ⟨.hbm, 402, rfl⟩
abbrev main_v258 : Ref sig .tc := ⟨.hbm, 403, rfl⟩
abbrev main_cst_96 : Ref sig .tc := ⟨.hbm, 404, rfl⟩
abbrev main_v259 : Ref sig .tc := ⟨.hbm, 405, rfl⟩
abbrev main_v260 : Ref sig .tc := ⟨.hbm, 406, rfl⟩
abbrev main_v261 : Ref sig .tc := ⟨.hbm, 407, rfl⟩
abbrev main_cst_97 : Ref sig .tc := ⟨.hbm, 408, rfl⟩
abbrev main_v262 : Ref sig .tc := ⟨.hbm, 409, rfl⟩
abbrev main_v263 : Ref sig .tc := ⟨.hbm, 410, rfl⟩
abbrev main_cst_98 : Ref sig .tc := ⟨.hbm, 411, rfl⟩
abbrev main_v264 : Ref sig .tc := ⟨.hbm, 412, rfl⟩
abbrev main_v265 : Ref sig .tc := ⟨.hbm, 413, rfl⟩
abbrev main_cst_99 : Ref sig .tc := ⟨.hbm, 414, rfl⟩
abbrev main_v266 : Ref sig .tc := ⟨.hbm, 415, rfl⟩
abbrev main_v267 : Ref sig .tc := ⟨.hbm, 416, rfl⟩
abbrev main_v268 : Ref sig .tc := ⟨.hbm, 417, rfl⟩
abbrev main_cst_100 : Ref sig .tc := ⟨.hbm, 418, rfl⟩
abbrev main_v269 : Ref sig .tc := ⟨.hbm, 419, rfl⟩
abbrev main_v270 : Ref sig .tc := ⟨.hbm, 420, rfl⟩
abbrev main_v271 : Ref sig .tc := ⟨.hbm, 421, rfl⟩
abbrev main_cst_101 : Ref sig .tc := ⟨.hbm, 422, rfl⟩
abbrev main_v272 : Ref sig .tc := ⟨.hbm, 423, rfl⟩
abbrev main_v273 : Ref sig .tc := ⟨.hbm, 424, rfl⟩
abbrev main_v274 : Ref sig .tc := ⟨.hbm, 425, rfl⟩
abbrev main_cst_102 : Ref sig .tc := ⟨.hbm, 426, rfl⟩
abbrev main_v275 : Ref sig .tc := ⟨.hbm, 427, rfl⟩
abbrev main_v276 : Ref sig .tc := ⟨.hbm, 428, rfl⟩
abbrev main_cst_103 : Ref sig .tc := ⟨.hbm, 429, rfl⟩
abbrev main_v277 : Ref sig .tc := ⟨.hbm, 430, rfl⟩
abbrev main_v278 : Ref sig .tc := ⟨.hbm, 431, rfl⟩
abbrev main_v279 : Ref sig .tc := ⟨.hbm, 432, rfl⟩
abbrev main_cst_104 : Ref sig .tc := ⟨.hbm, 433, rfl⟩
abbrev main_v280 : Ref sig .tc := ⟨.hbm, 434, rfl⟩
abbrev main_v281 : Ref sig .tc := ⟨.hbm, 435, rfl⟩
abbrev main_v282 : Ref sig .tc := ⟨.hbm, 436, rfl⟩
abbrev main_cst_105 : Ref sig .tc := ⟨.hbm, 437, rfl⟩
abbrev main_v283 : Ref sig .tc := ⟨.hbm, 438, rfl⟩
abbrev main_v284 : Ref sig .tc := ⟨.hbm, 439, rfl⟩
abbrev main_v285 : Ref sig .tc := ⟨.hbm, 440, rfl⟩
abbrev main_cst_106 : Ref sig .tc := ⟨.hbm, 441, rfl⟩
abbrev main_v286 : Ref sig .tc := ⟨.hbm, 442, rfl⟩
abbrev main_v287 : Ref sig .tc := ⟨.hbm, 443, rfl⟩

abbrev nD : Nat := 1
abbrev τ : Topo := Topo.v7x

variable {F : FTy → Type} [FloatOps F]
-- ==== Kernel11.lean ====
abbrev S8320x1024 : Shape := ⟨2, ![8320, 1024]⟩
abbrev S1024 : Shape := ⟨1, ![1024]⟩
abbrev S8192x1024 : Shape := ⟨2, ![8192, 1024]⟩
abbrev S1x1024 : Shape := ⟨2, ![1, 1024]⟩
abbrev S2x1024 : Shape := ⟨2, ![2, 1024]⟩
abbrev S1x1 : Shape := ⟨2, ![1, 1]⟩
abbrev S640x1024 : Shape := ⟨2, ![640, 1024]⟩
abbrev S128x1024 : Shape := ⟨2, ![128, 1024]⟩
abbrev S640 : Shape := ⟨1, ![640]⟩
abbrev S640x1 : Shape := ⟨2, ![640, 1]⟩
abbrev S1 : Shape := ⟨1, ![1]⟩
abbrev S_ : Shape := ⟨0, ![]⟩

abbrev nBuf : Space → Nat
  | .hbm => 10
  | .vmem => 16
  | .smem => 0
  | _ => 0

abbrev bufTy : (tb : Table) → Fin (tcTables nBuf tb) → BufTy
  | .hbm, ⟨0, _⟩ => ⟨S8320x1024, .f32⟩
  | .hbm, ⟨1, _⟩ => ⟨S1024, .f32⟩
  | .hbm, ⟨2, _⟩ => ⟨S1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S2x1024, .f32⟩
  | .hbm, ⟨7, _⟩ => ⟨S8320x1024, .f32⟩
  | .hbm, ⟨8, _⟩ => ⟨S1x1, .f32⟩
  | .hbm, ⟨9, _⟩ => ⟨S_, .f32⟩
  | .local _ .vmem, ⟨0, _⟩ => ⟨S640x1024, .f32⟩
  | .local _ .vmem, ⟨1, _⟩ => ⟨S640x1024, .f32⟩
  | .local _ .vmem, ⟨2, _⟩ => ⟨S2x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S640x1024, .f32⟩
  | .local _ .vmem, ⟨14, _⟩ => ⟨S640x1024, .f32⟩
  | .local _ .vmem, ⟨15, _⟩ => ⟨S1x1, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c5_i32 : BitVec 32 := 5#32
  let v0 : BitVec 32 := Scalar.muli arg0 c5_i32
  let c1_i32 : BitVec 32 := 1#32
  let v1 : BitVec 32 := Scalar.subi v0 c1_i32
  let c0_i32 : BitVec 32 := 0#32
  let v2 : BitVec 32 := Scalar.addi v1 c0_i32
  let c0_i32_0 : BitVec 32 := 0#32
  let c63_i32 : BitVec 32 := 63#32
  let v3 : BitVec 32 := Scalar.maxsi c0_i32_0 v2
  let v4 : BitVec 32 := Scalar.minsi c63_i32 v3
  let c0_i32_1 : BitVec 32 := 0#32
  let c0_i32_2 : BitVec 32 := 0#32
  ![v4.toNat, c0_i32_1.toNat]

def cc0_transform_3 (i : grid0.Coords) : Fin 2 → Nat :=
  let arg0 : BitVec 32 := BitVec.ofNat 32 (i 0).val
  let c5_i32 : BitVec 32 := 5#32
  let v0 : BitVec 32 := Scalar.muli arg0 c5_i32
  let c1_i32 : BitVec 32 := 1#32
  let v1 : BitVec 32 := Scalar.subi v0 c1_i32
  let c1_i32_0 : BitVec 32 := 1#32
  let v2 : BitVec 32 := Scalar.addi v1 c1_i32_0
  let c0_i32 : BitVec 32 := 0#32
  let c63_i32 : BitVec 32 := 63#32
  let v3 : BitVec 32 := Scalar.maxsi c0_i32 v2
  let v4 : BitVec 32 := Scalar.minsi c63_i32 v3
  let c0_i32_1 : BitVec 32 := 0#32
  let c0_i32_2 : BitVec 32 := 0#32
  ![v4.toNat, c0_i32_1.toNat]

def cc0_transform_4 (i : grid0.Coords) : Fin 2 → Nat :=
  let arg0 : BitVec 32 := BitVec.ofNat 32 (i 0).val
  let c5_i32 : BitVec 32 := 5#32
  let v0 : BitVec 32 := Scalar.muli arg0 c5_i32
  let c1_i32 : BitVec 32 := 1#32
  let v1 : BitVec 32 := Scalar.subi v0 c1_i32
  let c2_i32 : BitVec 32 := 2#32
  let v2 : BitVec 32 := Scalar.addi v1 c2_i32
  let c0_i32 : BitVec 32 := 0#32
  let c63_i32 : BitVec 32 := 63#32
  let v3 : BitVec 32 := Scalar.maxsi c0_i32 v2
  let v4 : BitVec 32 := Scalar.minsi c63_i32 v3
  let c0_i32_0 : BitVec 32 := 0#32
  let c0_i32_1 : BitVec 32 := 0#32
  ![v4.toNat, c0_i32_0.toNat]

def cc0_transform_5 (i : grid0.Coords) : Fin 2 → Nat :=
  let arg0 : BitVec 32 := BitVec.ofNat 32 (i 0).val
  let c5_i32 : BitVec 32 := 5#32
  let v0 : BitVec 32 := Scalar.muli arg0 c5_i32
  let c1_i32 : BitVec 32 := 1#32
  let v1 : BitVec 32 := Scalar.subi v0 c1_i32
  let c3_i32 : BitVec 32 := 3#32
  let v2 : BitVec 32 := Scalar.addi v1 c3_i32
  let c0_i32 : BitVec 32 := 0#32
  let c63_i32 : BitVec 32 := 63#32
  let v3 : BitVec 32 := Scalar.maxsi c0_i32 v2
  let v4 : BitVec 32 := Scalar.minsi c63_i32 v3
  let c0_i32_0 : BitVec 32 := 0#32
  let c0_i32_1 : BitVec 32 := 0#32
  ![v4.toNat, c0_i32_0.toNat]

def cc0_transform_6 (i : grid0.Coords) : Fin 2 → Nat :=
  let arg0 : BitVec 32 := BitVec.ofNat 32 (i 0).val
  let c5_i32 : BitVec 32 := 5#32
  let v0 : BitVec 32 := Scalar.muli arg0 c5_i32
  let c1_i32 : BitVec 32 := 1#32
  let v1 : BitVec 32 := Scalar.subi v0 c1_i32
  let c4_i32 : BitVec 32 := 4#32
  let v2 : BitVec 32 := Scalar.addi v1 c4_i32
  let c0_i32 : BitVec 32 := 0#32
  let c63_i32 : BitVec 32 := 63#32
  let v3 : BitVec 32 := Scalar.maxsi c0_i32 v2
  let v4 : BitVec 32 := Scalar.minsi c63_i32 v3
  let c0_i32_0 : BitVec 32 := 0#32
  let c0_i32_1 : BitVec 32 := 0#32
  ![v4.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S640x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference11Ideal.lean ====
abbrev S8320x1024 : Shape := ⟨2, ![8320, 1024]⟩
abbrev S1024 : Shape := ⟨1, ![1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩

abbrev nBuf : Space → Nat
  | .hbm => 36
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1024, .f32⟩
  | .hbm, ⟨2, _⟩ => ⟨S1024, .f32⟩
  | .hbm, ⟨3, _⟩ => ⟨S8192x1024, .f32⟩
  | .hbm, ⟨4, _⟩ => ⟨S1x1024, .f32⟩
  | .hbm, ⟨5, _⟩ => ⟨S8320x1024, .f32⟩
  | .hbm, ⟨6, _⟩ => ⟨S8320x1024, .f32⟩
  | .hbm, ⟨7, _⟩ => ⟨S1x1024, .f32⟩
  | .hbm, ⟨8, _⟩ => ⟨S8320x1024, .f32⟩
  | .hbm, ⟨9, _⟩ => ⟨S8320x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S_, .f32⟩
  | .hbm, ⟨19, _⟩ => ⟨S8192, .f32⟩
  | .hbm, ⟨20, _⟩ => ⟨S8192, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8320x1024, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_cst_4 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩

abbrev nD : Nat := 1
abbrev τ : Topo := Topo.v7x

variable {F : FTy → Type} [FloatOps F]
-- ==== Kernel12.lean ====
abbrev S8192x1024 : Shape := ⟨2, ![8192, 1024]⟩
abbrev S16x1024 : Shape := ⟨2, ![16, 1024]⟩
abbrev S1024 : Shape := ⟨1, ![1024]⟩
abbrev S8208x1024 : Shape := ⟨2, ![8208, 1024]⟩
abbrev S_ : Shape := ⟨0, ![]⟩
abbrev S112x1024 : Shape := ⟨2, ![112, 1024]⟩
abbrev S8320x1024 : Shape := ⟨2, ![8320, 1024]⟩
abbrev S8320 : Shape := ⟨1, ![8320]⟩
abbrev S8320x1 : Shape := ⟨2, ![8320, 1]⟩
abbrev S1x1024 : Shape := ⟨2, ![1, 1024]⟩
abbrev S2x1024 : Shape := ⟨2, ![2, 1024]⟩
abbrev S128x1024 : Shape := ⟨2, ![128, 1024]⟩
abbrev S8x1024 : Shape := ⟨2, ![8, 1024]⟩
abbrev S128x1 : Shape := ⟨2, ![128, 1]⟩
abbrev S128 : Shape := ⟨1, ![128]⟩

abbrev nBuf : Space → Nat
  | .hbm => 43
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S16x1024, .f32⟩
  | .hbm, ⟨2, _⟩ => ⟨S1024, .f32⟩
  | .hbm, ⟨3, _⟩ => ⟨S1024, .f32⟩
  | .hbm, ⟨4, _⟩ => ⟨S8208x1024, .f32⟩
  | .hbm, ⟨5, _⟩ => ⟨S_, .f32⟩
  | .hbm, ⟨6, _⟩ => ⟨S112x1024, .f32⟩
  | .hbm, ⟨7, _⟩ => ⟨S8320x1024, .f32⟩
  | .hbm, ⟨8, _⟩ => ⟨S_, .f32⟩
  | .hbm, ⟨9, _⟩ => ⟨S8320, .f32⟩
  | .hbm, ⟨10, _⟩ => ⟨S8320x1, .f32⟩
  | .hbm, ⟨11, _⟩ => ⟨S_, .f32⟩
  | .hbm, ⟨12, _⟩ => ⟨S8320x1, .f32⟩
  | .hbm, ⟨13, _⟩ => ⟨S8320x1, .f32⟩
  | .hbm, ⟨14, _⟩ => ⟨S8320x1024, .f32⟩
  | .hbm, ⟨15, _⟩ => ⟨S8320x1024, .f32⟩
  | .hbm, ⟨16, _⟩ => ⟨S8320x1024, .f32⟩
  | .hbm, ⟨17, _⟩ => ⟨S_, .f32⟩
  | .hbm, ⟨18, _⟩ => ⟨S8320, .f32⟩
  | .hbm, ⟨19, _⟩ => ⟨S8320x1, .f32⟩
  | .hbm, ⟨20, _⟩ => ⟨S_, .f32⟩
  | .hbm, ⟨21, _⟩ => ⟨S8320x1, .f32⟩
  | .hbm, ⟨22, _⟩ => ⟨S8320x1, .f32⟩
  | .hbm, ⟨23, _⟩ => ⟨S_, .f32⟩
  | .hbm, ⟨24, _⟩ => ⟨S8320x1, .f32⟩
  | .hbm, ⟨25, _⟩ => ⟨S8320x1, .f32⟩
  | .hbm, ⟨26, _⟩ => ⟨S8320x1, .f32⟩
  | .hbm, ⟨27, _⟩ => ⟨S8320x1024, .f32⟩
  | .hbm, ⟨28, _⟩ => ⟨S8320x1024, .f32⟩
  | .hbm, ⟨29, _⟩ => ⟨S8320x1024, .f32⟩
  | .hbm, ⟨30, _⟩ => ⟨S8320x1024, .f32⟩
  | .hbm, ⟨31, _⟩ => ⟨S8320x1024, .f32⟩
  | .hbm, ⟨32, _⟩ => ⟨S1x1024, .f32⟩
  | .hbm, ⟨33, _⟩ => ⟨S1x1024, .f32⟩
  | .hbm, ⟨34, _⟩ => ⟨S2x1024, .f32⟩
  | .hbm, ⟨35, _⟩ => ⟨S8192x1024, .f32⟩
  | .hbm, ⟨36, _⟩ => ⟨S128x1024, .f32⟩
  | .hbm, ⟨37, _⟩ => ⟨S8x1024, .f32⟩
  | .hbm, ⟨38, _⟩ => ⟨S16x1024, .f32⟩
  | .hbm, ⟨39, _⟩ => ⟨S1x1024, .f32⟩
  | .hbm, ⟨40, _⟩ => ⟨S1024, .f32⟩
  | .hbm, ⟨41, _⟩ => ⟨S1x1024, .f32⟩
  | .hbm, ⟨42, _⟩ => ⟨S1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1, .f32⟩
  | .local _ .vmem, ⟨5, _⟩ => ⟨S128x1, .f32⟩
  | .local _ .vmem, ⟨6, _⟩ => ⟨S2x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24_0 : Ref sig .tc := ⟨.hbm, 35, rfl⟩
abbrev main_v24_1 : Ref sig .tc := ⟨.hbm, 36, rfl⟩
abbrev main_v24_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![65], ![false]⟩

def k0_cond3 (i : grid0.Coords) : BitVec 1 :=
  let arg0 : BitVec 32 := BitVec.ofNat 32 (i 0).val
  let c0_i32_22 : BitVec 32 := 0#32
  let v45 : BitVec 1 := Scalar.cmpi .sgt arg0 c0_i32_22
  let v46 : BitVec 32 := Scalar.extui v45
  let c0_i32_23 : BitVec 32 := 0#32
  let v47 : BitVec 1 := Scalar.cmpi .ne v46 c0_i32_23
  v47

def k0_cond2 (i : grid0.Coords) : BitVec 1 :=
  let arg0 : BitVec 32 := BitVec.ofNat 32 (i 0).val
  let c0_i32_20 : BitVec 32 := 0#32
  let v42 : BitVec 1 := Scalar.cmpi .eq arg0 c0_i32_20
  let v43 : BitVec 32 := Scalar.extui v42
  let c0_i32_21 : BitVec 32 := 0#32
  let v44 : BitVec 1 := Scalar.cmpi .ne v43 c0_i32_21
  v44

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference12Ideal.lean ====
abbrev S8192x1024 : Shape := ⟨2, ![8192, 1024]⟩
abbrev S16x1024 : Shape := ⟨2, ![16, 1024]⟩
abbrev S1024 : Shape := ⟨1, ![1024]⟩
abbrev S8208x1024 : Shape := ⟨2, ![8208, 1024]⟩
abbrev S_ : Shape := ⟨0, ![]⟩
abbrev S8208 : Shape := ⟨1, ![8208]⟩
abbrev S8208x1 : Shape := ⟨2, ![8208, 1]⟩
abbrev S1x1024 : Shape := ⟨2, ![1, 1024]⟩

abbrev nBuf : Space → Nat
  | .hbm => 89
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S16x1024, .f32⟩
  | .hbm, ⟨2, _⟩ => ⟨S1024, .f32⟩
  | .hbm, ⟨3, _⟩ => ⟨S1024, .f32⟩
  | .hbm, ⟨4, _⟩ => ⟨S8208x1024, .f32⟩
  | .hbm, ⟨5, _⟩ => ⟨S8208x1024, .f32⟩
  | .hbm, ⟨6, _⟩ => ⟨S_, .f32⟩
  | .hbm, ⟨7, _⟩ => ⟨S8208, .f32⟩
  | .hbm, ⟨8, _⟩ => ⟨S8208x1, .f32⟩
  | .hbm, ⟨9, _⟩ => ⟨S_, .f32⟩
  | .hbm, ⟨10, _⟩ => ⟨S8208x1, .f32⟩
  | .hbm, ⟨11, _⟩ => ⟨S8208x1, .f32⟩
  | .hbm, ⟨12, _⟩ => ⟨S8208x1024, .f32⟩
  | .hbm, ⟨13, _⟩ => ⟨S8208x1024, .f32⟩
  | .hbm, ⟨14, _⟩ => ⟨S8208x1024, .f32⟩
  | .hbm, ⟨15, _⟩ => ⟨S_, .f32⟩
  | .hbm, ⟨16, _⟩ => ⟨S8208x1024, .f32⟩
  | .hbm, ⟨17, _⟩ => ⟨S8208x1024, .f32⟩
  | .hbm, ⟨18, _⟩ => ⟨S_, .f32⟩
  | .hbm, ⟨19, _⟩ => ⟨S8208, .f32⟩
  | .hbm, ⟨20, _⟩ => ⟨S8208x1, .f32⟩
  | .hbm, ⟨21, _⟩ => ⟨S_, .f32⟩
  | .hbm, ⟨22, _⟩ => ⟨S8208x1, .f32⟩
  | .hbm, ⟨23, _⟩ => ⟨S8208x1, .f32⟩
  | .hbm, ⟨24, _⟩ => ⟨S8208x1024, .f32⟩
  | .hbm, ⟨25, _⟩ => ⟨S8208x1024, .f32⟩
  | .hbm, ⟨26, _⟩ => ⟨S_, .f32⟩
  | .hbm, ⟨27, _⟩ => ⟨S8208x1, .f32⟩
  | .hbm, ⟨28, _⟩ => ⟨S8208x1, .f32⟩
  | .hbm, ⟨29, _⟩ => ⟨S8208x1, .f32⟩
  | .hbm, ⟨30, _⟩ => ⟨S8208x1, .f32⟩
  | .hbm, ⟨31, _⟩ => ⟨S_, .f32⟩
  | .hbm, ⟨32, _⟩ => ⟨S8208x1, .f32⟩
  | .hbm, ⟨33, _⟩ => ⟨S8208x1, .f32⟩
  | .hbm, ⟨34, _⟩ => ⟨S8208x1024, .f32⟩
  | .hbm, ⟨35, _⟩ => ⟨S8208x1024, .f32⟩
  | .hbm, ⟨36, _⟩ => ⟨S1x1024, .f32⟩
  | .hbm, ⟨37, _⟩ => ⟨S8208x1024, .f32⟩
  | .hbm, ⟨38, _⟩ => ⟨S8208x1024, .f32⟩
  | .hbm, ⟨39, _⟩ => ⟨S1x1024, .f32⟩
  | .hbm, ⟨40, _⟩ => ⟨S8208x1024, .f32⟩
  | .hbm, ⟨41, _⟩ => ⟨S8208x1024, .f32⟩
  | .hbm, ⟨42, _⟩ => ⟨S8208x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S_, .f32⟩
  | .hbm, ⟨47, _⟩ => ⟨S1024, .f32⟩
  | .hbm, ⟨48, _⟩ => ⟨S8208x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S8208x1024, .f32⟩
  | .hbm, ⟨53, _⟩ => ⟨S8208x1024, .f32⟩
  | .hbm, ⟨54, _⟩ => ⟨S_, .f32⟩
  | .hbm, ⟨55, _⟩ => ⟨S1024, .f32⟩
  | .hbm, ⟨56, _⟩ => ⟨S8208x1024, .f32⟩
  | .hbm, ⟨57, _⟩ => ⟨S_, .f32⟩
  | .hbm, ⟨58, _⟩ => ⟨S8208, .f32⟩
  | .hbm, ⟨59, _⟩ => ⟨S8208x1, .f32⟩
  | .hbm, ⟨60, _⟩ => ⟨S8208x1024, .f32⟩
  | .hbm, ⟨61, _⟩ => ⟨S8208x1024, .f32⟩
  | .hbm, ⟨62, _⟩ => ⟨S8208x1, .f32⟩
  | .hbm, ⟨63, _⟩ => ⟨S8208x1024, .f32⟩
  | .hbm, ⟨64, _⟩ => ⟨S_, .f32⟩
  | .hbm, ⟨65, _⟩ => ⟨S8208, .f32⟩
  | .hbm, ⟨66, _⟩ => ⟨S8208x1, .f32⟩
  | .hbm, ⟨67, _⟩ => ⟨S_, .f32⟩
  | .hbm, ⟨68, _⟩ => ⟨S8208x1, .f32⟩
  | .hbm, ⟨69, _⟩ => ⟨S8208x1, .f32⟩
  | .hbm, ⟨70, _⟩ => ⟨S_, .f32⟩
  | .hbm, ⟨71, _⟩ => ⟨S8208, .f32⟩
  | .hbm, ⟨72, _⟩ => ⟨S8208x1024, .f32⟩
  | .hbm, ⟨73, _⟩ => ⟨S8208x1024, .f32⟩
  | .hbm, ⟨74, _⟩ => ⟨S8208x1024, .f32⟩
  | .hbm, ⟨75, _⟩ => ⟨S_, .f32⟩
  | .hbm, ⟨76, _⟩ => ⟨S8208, .f32⟩
  | .hbm, ⟨77, _⟩ => ⟨S8208x1, .f32⟩
  | .hbm, ⟨78, _⟩ => ⟨S8208x1024, .f32⟩
  | .hbm, ⟨79, _⟩ => ⟨S8208x1, .f32⟩
  | .hbm, ⟨80, _⟩ => ⟨S_, .f32⟩
  | .hbm, ⟨81, _⟩ => ⟨S8208x1, .f32⟩
  | .hbm, ⟨82, _⟩ => ⟨S8208x1, .f32⟩
  | .hbm, ⟨83, _⟩ => ⟨S_, .f32⟩
  | .hbm, ⟨84, _⟩ => ⟨S8208, .f32⟩
  | .hbm, ⟨85, _⟩ => ⟨S8208x1024, .f32⟩
  | .hbm, ⟨86, _⟩ => ⟨S8208x1024, .f32⟩
  | .hbm, ⟨87, _⟩ => ⟨S16x1024, .f32⟩
  | .hbm, ⟨88, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_cst_8 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_9 : Ref sig .tc := ⟨.hbm, 54, rfl⟩
abbrev main_v39 : Ref sig .tc := ⟨.hbm, 55, rfl⟩
abbrev main_v40 : Ref sig .tc := ⟨.hbm, 56, rfl⟩
abbrev main_cst_10 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_11 : Ref sig .tc := ⟨.hbm, 64, rfl⟩
abbrev main_v47 : Ref sig .tc := ⟨.hbm, 65, rfl⟩
abbrev main_v48 : Ref sig .tc := ⟨.hbm, 66, rfl⟩
abbrev main_cst_12 : Ref sig .tc := ⟨.hbm, 67, rfl⟩
abbrev main_v49 : Ref sig .tc := ⟨.hbm, 68, rfl⟩
abbrev main_v50 : Ref sig .tc := ⟨.hbm, 69, rfl⟩
abbrev main_cst_13 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_14 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_15 : Ref sig .tc := ⟨.hbm, 80, rfl⟩
abbrev main_v59 : Ref sig .tc := ⟨.hbm, 81, rfl⟩
abbrev main_v60 : Ref sig .tc := ⟨.hbm, 82, rfl⟩
abbrev main_cst_16 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩

abbrev nD : Nat := 1
abbrev τ : Topo := Topo.v7x

variable {F : FTy → Type} [FloatOps F]
-- ==== Proof.Bwd.Base.lean ====
/-
The backward call of a macaron half-step: the set-up its run is stated over. The host lines around the call, the
contents of the arrays when the call starts, the blocks of the windows, the branch of the body that loads the weights,
and the invariant of a body with transfers of its own, conjunct by conjunct.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`, `hostOps0_1`, `hostOps0_2`). -/
abbrev V0 (c : Dev nD) : Valuation τ sig (Elt F) := StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2] [hostOps1] (by simp only [List.Forall]; exact ⟨hostOps0_sub, hostOps0_1_sub, hostOps0_2_sub⟩)
    (by simp only [List.Forall]; exact ⟨hostOps0_fresh, hostOps0_1_fresh, hostOps0_2_fresh⟩) main_chain

/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (Pipeline.UD sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (Pipeline.UD sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (dats : (p : Fin _) → (c : Dev nD) → Dat τ (Elt F) Unit ℕ (Pipeline.UD sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (dats : (p : Fin _) → (c : Dev nD) → Dat τ (Elt F) Unit ℕ (Pipeline.UD sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg4`: it ends as launched. -/
theorem W_main_arg4 (dats : (p : Fin _) → (c : Dev nD) → Dat τ (Elt F) Unit ℕ (Pipeline.UD sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 26 = 0 :=
  (fun t => by
    have ht : t.val < 26 := Nat.lt_of_lt_of_eq t.isLt N_0
    have e0 : (grid0.coords t 0).val = t.val / 1 % 26 := Pipeline.Grid.coords_val t 0 (by decide) rfl
    simp only [cond0_0, e0]
    word_cmp
   : ∀ t : Fin grid0.N, cond0_0 (grid0.coords t) ↔ t.val % 26 = 0)

/-! ## The kernel body on any staging memrefs: a subtype the run finds -/

/-- Each window's current staging memref at point `t`, spelled as the pipeline passes it (`bodyAt0`), and its wholeness. -/
abbrev ms0_0 (t : Fin cfg0.N) : Memref sig .tc .vmem S320x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S320x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S320x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S320x5632 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S320x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S320x2816 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S320x5632 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S320x1024 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8x1024 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S4x1408x1024 .bf16 := Memref.whole cc0_scratch0
abbrev scM0_1 : Memref sig .tc .vmem S2816x1024 .bf16 := Memref.whole cc0_scratch1
/-- The operands left in HBM that the body copies into scratch itself, whole. -/
abbrev hbM0_0 : Memref sig .tc .hbm S4x2080x1024 .bf16 := Memref.whole main_v68
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 8 → SemLoc sig := fun j => (![SemLoc.dma 18, SemLoc.dma 19, SemLoc.dma 20, SemLoc.dma 21, SemLoc.dma 22, SemLoc.dma 23, SemLoc.dma 24, SemLoc.dma 25] : Fin 8 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0) := by
  rw [Pipeline.ownSems0_eq_of_list c osem0 [0, 1, 2, 3, 4, 5, 6, 7] (by decide) (by decide)]; rfl
/-- The HBM operands the body moves, as references: unscoped, no window's array (`Pipeline.restRefs`). -/
def H0 : Finset (Ref sig .tc) := {main_v68}
theorem H0_sub : H0 ⊆ Pipeline.restRefs sig spec0 := by decide
/-- The lines after the region touch none of the operands the body moves: each operation's buffers are unscoped
    TensorCore references, none of them in `H0` (`Pipeline.sub_tailRefsBut`). -/
theorem sfx_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  · refine Pipeline.sub_tailRefsBut Pipeline.Prefetch.none spec0 H0 op ((List.forall_iff_forall_mem.mp hostOps1_sub) op hop) (fun j => j.elim0) ?_
    simp only [hostOps1, List.mem_cons, List.mem_nil_iff, or_false] at hop
    rcases hop with rfl | rfl | rfl | rfl
    all_goals intro b hb; simp only [H0, Finset.mem_insert, Finset.mem_singleton] at hb
    all_goals rcases hb with rfl <;>
      simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_v68)) := by
  rw [BI.bigSep_eq_bigSepL_of_eq [main_v68] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0) ∗ iprop(hbPt0 c hbM0_0 (V m c main_v68))) := by
  rw [Pipeline.ΦD_eq, scopedRest0_eq, ownSems00_eq, hbmPts0_eq]; simp only [scM0_0, scM0_1, owns_whole]; try rfl

end Cert.KernelIdeal.Bwd

end
-- ==== Proof.Bwd.Vals.lean ====
module
public import proofs.«01_k».proof.Proof.Bwd.Base
@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! What one grid point of the backward call writes, as functions of what it reads: the block of incoming gradients
`x0`, the normalised rows `x1`, the reciprocal deviations `x2`, gain and bias `x3`, the saved gate halves `x4`, and the
two resident weights `w13`, `w2`. -/

/-- The whole 320×1024 block. -/
abbrev rX : Rect S320x1024 := Rect.unit (s := S320x1024) ![0, 0] S320x1024.size inb_S320x1024_S320x1024_0_0
/-- The whole 320×1 block. -/
abbrev rS : Rect S320x1 := Rect.unit (s := S320x1) ![0, 0] S320x1.size inb_S320x1_S320x1_0_0
/-- The gain's row. -/
abbrev rG : Rect S2x1024 := Rect.unit (s := S2x1024) ![0, 0] S1x1024.size inb_S2x1024_S1x1024_0_0
/-- The gate halves' four column blocks. -/
abbrev rA0 : Rect S320x5632 := Rect.unit (s := S320x5632) ![0, 0] S320x1408.size inb_S320x5632_S320x1408_0_0
abbrev rA1 : Rect S320x5632 := Rect.unit (s := S320x5632) ![0, 1408] S320x1408.size inb_S320x5632_S320x1408_0_1408
abbrev rU0 : Rect S320x5632 := Rect.unit (s := S320x5632) ![0, 2816] S320x1408.size inb_S320x5632_S320x1408_0_2816
abbrev rU1 : Rect S320x5632 := Rect.unit (s := S320x5632) ![0, 4224] S320x1408.size inb_S320x5632_S320x1408_0_4224
/-- The hidden block's two column blocks. -/
abbrev rH0 : Rect S320x2816 := Rect.unit (s := S320x2816) ![0, 0] S320x1408.size inb_S320x2816_S320x1408_0_0
abbrev rH1 : Rect S320x2816 := Rect.unit (s := S320x2816) ![0, 1408] S320x1408.size inb_S320x2816_S320x1408_0_1408
/-- The second weight's two row blocks. -/
abbrev rW0 : Rect S2816x1024 := Rect.unit (s := S2816x1024) ![0, 0] S1408x1024.size inb_S2816x1024_S1408x1024_0_0
abbrev rW1 : Rect S2816x1024 := Rect.unit (s := S2816x1024) ![1408, 0] S1408x1024.size inb_S2816x1024_S1408x1024_1408_0
/-- The first weight's four slots. -/
abbrev rV0 : Rect S4x1408x1024 := Rect.unit (s := S4x1408x1024) ![0, 0, 0] S1x1408x1024.size inb_S4x1408x1024_S1x1408x1024_0_0_0
abbrev rV1 : Rect S4x1408x1024 := Rect.unit (s := S4x1408x1024) ![1, 0, 0] S1x1408x1024.size inb_S4x1408x1024_S1x1408x1024_1_0_0
abbrev rV2 : Rect S4x1408x1024 := Rect.unit (s := S4x1408x1024) ![2, 0, 0] S1x1408x1024.size inb_S4x1408x1024_S1x1408x1024_2_0_0
abbrev rV3 : Rect S4x1408x1024 := Rect.unit (s := S4x1408x1024) ![3, 0, 0] S1x1408x1024.size inb_S4x1408x1024_S1x1408x1024_3_0_0
/-- The accumulator's two live rows. -/
abbrev rC0 : Rect S8x1024 := Rect.unit (s := S8x1024) ![0, 0] S1x1024.size inb_S8x1024_S1x1024_0_0
abbrev rC1 : Rect S8x1024 := Rect.unit (s := S8x1024) ![1, 0] S1x1024.size inb_S8x1024_S1x1024_1_0

section
variable (x0 x1 : Vec F S320x1024 .f32) (x2 : Vec F S320x1 .f32) (x3 : Vec F S2x1024 .f32)
  (x4 : Vec F S320x5632 .bf16) (w13 : Vec F S4x1408x1024 .bf16) (w2 : Vec F S2816x1024 .bf16)

/-- The divisor 1024 of the two row means. -/
def cnt : F .f32 := Scalar.ofBits .f32 0x44800000#32

/-- Half of the gradient through the normalisation, in the products' format. -/
def dffnV : FVec F S320x1024 .bf16 :=
  k0_pay21 (k0_pay13 (View.ld x1 rX)) (k0_pay16 (View.ld x0 rX) (View.ld x3 rG)) (k0_pay17 (View.ld x2 rS))
    (k0_pay18 (View.ld x0 rX) (View.ld x3 rG)) (k0_pay19 (View.ld x0 rX) (View.ld x1 rX) (View.ld x3 rG)) cnt

/-- The residual's share of the gradient. -/
def resV : FVec F S320x1024 .f32 :=
  k0_pay22 (k0_pay13 (View.ld x1 rX)) (k0_pay16 (View.ld x0 rX) (View.ld x3 rG)) (k0_pay17 (View.ld x2 rS))
    (k0_pay18 (View.ld x0 rX) (View.ld x3 rG)) (k0_pay19 (View.ld x0 rX) (View.ld x1 rX) (View.ld x3 rG)) cnt

/-- The gradient of the hidden columns of the first half, before the gate. -/
def dhid0 : FVec F S320x1408 .f32 :=
  k0_pay28 (k0_pay13 (View.ld x1 rX)) (k0_pay16 (View.ld x0 rX) (View.ld x3 rG)) (k0_pay17 (View.ld x2 rS))
    (k0_pay18 (View.ld x0 rX) (View.ld x3 rG)) (k0_pay19 (View.ld x0 rX) (View.ld x1 rX) (View.ld x3 rG)) cnt
    (View.ld w2 rW0)

/-- … times the other gate half. -/
def dhidu0 : FVec F S320x1408 .f32 :=
  k0_pay29 (k0_pay13 (View.ld x1 rX)) (k0_pay16 (View.ld x0 rX) (View.ld x3 rG)) (k0_pay17 (View.ld x2 rS))
    (k0_pay18 (View.ld x0 rX) (View.ld x3 rG)) (k0_pay19 (View.ld x0 rX) (View.ld x1 rX) (View.ld x3 rG)) cnt
    (View.ld x4 rU0) (View.ld w2 rW0)

/-- The four blocks of the gate's gradient. -/
def da0 : FVec F S320x1408 .bf16 :=
  k0_pay31 (k0_pay25 (View.ld x4 rA0)) (dhidu0 x0 x1 x2 x3 x4 w2) (k0_pay30 (View.ld x4 rA0))
def du0 : FVec F S320x1408 .bf16 := k0_pay32 (k0_pay26 (View.ld x4 rA0)) (dhid0 x0 x1 x2 x3 w2)
def da1 : FVec F S320x1408 .bf16 :=
  k0_pay2 (dffnV x0 x1 x2 x3) (k0_pay34 (View.ld x4 rA1)) (k0_pay35 (View.ld x4 rU1)) (k0_pay36 (View.ld x4 rA1))
    (View.ld w2 rW1) (constant S320x1408 .f32 0x00000000#32)
def du1 : FVec F S320x1408 .bf16 :=
  k0_pay3 (dffnV x0 x1 x2 x3) (k0_pay37 (View.ld x4 rA1)) (View.ld w2 rW1) (constant S320x1408 .f32 0x00000000#32)

/-- The gradient of the block's input rows. -/
def dhV : FVec F S320x1024 .f32 :=
  k0_pay4 (dffnV x0 x1 x2 x3)
    (k0_pay33 (resV x0 x1 x2 x3) (k0_pay25 (View.ld x4 rA0)) (k0_pay26 (View.ld x4 rA0)) (dhid0 x0 x1 x2 x3 w2)
      (dhidu0 x0 x1 x2 x3 x4 w2) (k0_pay30 (View.ld x4 rA0)) (View.ld w13 rV0) (View.ld w13 rV2))
    (k0_pay34 (View.ld x4 rA1)) (k0_pay35 (View.ld x4 rU1)) (k0_pay36 (View.ld x4 rA1)) (k0_pay37 (View.ld x4 rA1))
    (View.ld w2 rW1) (constant S320x1408 .f32 0x00000000#32) (View.ld w13 rV1) (View.ld w13 rV3)

/-- The recomputed hidden block. -/
def hidV : Vec F S320x2816 .bf16 :=
  View.canon [(⟨rH1, k0_pay38 (View.ld x4 rA1) (View.ld x4 rU1)⟩ : View.Piece (Elt F) S320x2816 .bf16), ⟨rH0, k0_pay27 (View.ld x4 rA0) (View.ld x4 rU0)⟩]

/-- The gate's gradient, both halves side by side. -/
def dauV : Vec F S320x5632 .bf16 :=
  View.canon [(⟨rU1, du1 x0 x1 x2 x3 x4 w2⟩ : View.Piece (Elt F) S320x5632 .bf16), ⟨rA1, da1 x0 x1 x2 x3 x4 w2⟩,
    ⟨rU0, du0 x0 x1 x2 x3 x4 w2⟩, ⟨rA0, da0 x0 x1 x2 x3 x4 w2⟩]

/-- The accumulator of the gain's and the bias's gradient, from what it held. -/
def accV (xa : Vec F S8x1024 .f32) : Vec F S8x1024 .f32 :=
  rC1.overlay (rC0.overlay xa (k0_pay14 (View.ld x0 rX) (View.ld x1 rX) (View.ld xa rC0)))
    (k0_pay15 (View.ld x0 rX) (View.ld xa rC1))

end

end Cert.KernelIdeal.Bwd

end
-- ==== Proof.Bwd.RunB.lean ====
module
public import proofs.«01_k».proof.Proof.Bwd.Vals
public import Idealize.ShloMosaic.Lib.Pipeline.ValueKit
public import Idealize.ShloMosaic.Lib.WritesUnit
@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open View in
/-- Reading after a list of writes is the newest piece laid over the read after the rest. -/
theorem read_writes_overlay {sig' : RefSig} {κ : Kind} {sp : Space} {s : Shape} {e : EltTy} {Val : EltTy → Type} (v : View sig' κ sp s e)
    (f : v.ty.Contents Val) (p : View.Piece Val s e) (L : List (View.Piece Val s e)) :
    v.read Val (v.writes Val f (p :: L)) = p.1.overlay (v.read Val (v.writes Val f L)) p.2 := by
  funext y
  by_cases hy : y ∈ p.1.set
  · rw [← Rect.map_emb_univ, Finset.mem_map] at hy; obtain ⟨x, -, rfl⟩ := hy
    rw [View.read_writes_cons_emb, p.1.overlay_emb]
  · rw [View.read_writes_cons_miss _ _ _ _ _ hy, p.1.overlay_of_not_mem _ _ hy]
set_option maxHeartbeats 1000000 in
/-- One grid point after the first: the weights are resident, the accumulator holds `xa`; the point writes the named
    blocks and leaves the weights as they were. -/
theorem runB (c : Dev nD) (i : grid0.Coords) (arg1 : Memref sig .tc .vmem S320x1024 .f32) (harg1 : arg1.IsWhole) (arg2 : Memref sig .tc .vmem S320x1024 .f32) (harg2 : arg2.IsWhole) (arg3 : Memref sig .tc .vmem S320x1 .f32) (harg3 : arg3.IsWhole) (arg4 : Memref sig .tc .vmem S2x1024 .f32) (harg4 : arg4.IsWhole) (arg5 : Memref sig .tc .vmem S320x5632 .bf16) (harg5 : arg5.IsWhole) (arg7 : Memref sig .tc .vmem S320x1024 .f32) (harg7 : arg7.IsWhole) (arg8 : Memref sig .tc .vmem S320x2816 .bf16) (harg8 : arg8.IsWhole) (arg9 : Memref sig .tc .vmem S320x5632 .bf16) (harg9 : arg9.IsWhole) (arg10 : Memref sig .tc .vmem S320x1024 .bf16) (harg10 : arg10.IsWhole) (arg11 : Memref sig .tc .vmem S8x1024 .f32) (harg11 : arg11.IsWhole) (arg12 : Memref sig .tc .vmem S4x1408x1024 .bf16) (harg12 : arg12.IsWhole) (arg13 : Memref sig .tc .vmem S2816x1024 .bf16) (harg13 : arg13.IsWhole) (hc0 : ¬ cond0_0 i)
    (x0 : Vec F S320x1024 .f32) (x1 : Vec F S320x1024 .f32) (x2 : Vec F S320x1 .f32) (x3 : Vec F S2x1024 .f32) (x4 : Vec F S320x5632 .bf16) (xa : Vec F S8x1024 .f32) (w13 : Vec F S4x1408x1024 .bf16) (w2 : Vec F S2816x1024 .bf16) :
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xa ∗ owns (c : Thread nD τ) arg12 fullShare w13 ∗ owns (c : Thread nD τ) arg13 fullShare w2 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg7 fullShare (dhV x0 x1 x2 x3 x4 w13 w2) ∗ owns (c : Thread nD τ) arg8 fullShare (hidV x4) ∗ owns (c : Thread nD τ) arg9 fullShare (dauV x0 x1 x2 x3 x4 w2) ∗ owns (c : Thread nD τ) arg10 fullShare (dffnV x0 x1 x2 x3) ∗ owns (c : Thread nD τ) arg11 fullShare (accV x0 x1 xa) ∗ owns (c : Thread nD τ) arg12 fullShare w13 ∗ owns (c : Thread nD τ) arg13 fullShare w2 ∗ owes (c : Thread nD τ) 0 W) -∗ K ⟨⟩))
          ⊢ wp frame (wpE (defs₀ (F := F)) Variants.none c none) Set.univ (cc0_ffn1_bwd_0 i arg1 harg1 arg2 harg2 arg3 harg3 arg4 harg4 arg5 harg5 (Memref.whole main_v68) (Memref.isWhole_whole _) arg7 harg7 arg8 harg8 arg9 harg9 arg10 harg10 arg11 harg11 arg12 harg12 arg13 harg13 cc0_scratch2) K := by
    intro W K
    simp only [cc0_ffn1_bwd_0_eq_skeleton]; unfold cc0_ffn1_bwd_0_skel
    simp only [k0_part5_eq_skeleton, k0_part1_eq_skeleton, k0_part2_eq_skeleton, k0_part3_eq_skeleton, k0_part4_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%f9, %hf9, H9⟩, ⟨%fs0, %hs0, HS0⟩, ⟨%fs1, %hs1, HS1⟩, HW, Hk⟩
    obtain rfl := harg1.eq_unread hf0; obtain rfl := harg2.eq_unread hf1; obtain rfl := harg3.eq_unread hf2; obtain rfl := harg4.eq_unread hf3; obtain rfl := harg5.eq_unread hf4
    obtain rfl := harg11.eq_unread hf9; obtain rfl := harg12.eq_unread hs0; obtain rfl := harg13.eq_unread hs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      rw [View.read_writes_eq_canon _ _ _ (View.cover_of_tiledBy _ ![320, 1024] (by sl_kernel_rfl)), View.canon_cons_unit_lit _ _ _ (by decide)]
      sl_unfold_words
      simp only [View.readAt_eq_ld, harg1.read_unread, harg2.read_unread, harg3.read_unread, harg4.read_unread, harg5.read_unread, harg11.read_unread, harg12.read_unread, harg13.read_unread]
      rfl
    isplitl [H6]
    · iexists _; isplitr; swap; · iexact H6
      ipureintro
      rw [View.read_writes_eq_canon _ _ _ (View.cover_of_tiledBy _ ![320, 1408] (by sl_kernel_rfl))]
      sl_unfold_words
      simp only [View.readAt_eq_ld, harg1.read_unread, harg2.read_unread, harg3.read_unread, harg4.read_unread, harg5.read_unread, harg11.read_unread, harg12.read_unread, harg13.read_unread]
      rfl
    isplitl [H7]
    · iexists _; isplitr; swap; · iexact H7
      ipureintro
      rw [View.read_writes_eq_canon _ _ _ (View.cover_of_tiledBy _ ![320, 1408] (by sl_kernel_rfl))]
      sl_unfold_words
      simp only [View.readAt_eq_ld, harg1.read_unread, harg2.read_unread, harg3.read_unread, harg4.read_unread, harg5.read_unread, harg11.read_unread, harg12.read_unread, harg13.read_unread]
      rfl
    isplitl [H8]
    · iexists _; isplitr; swap; · iexact H8
      ipureintro
      rw [View.read_writes_eq_canon _ _ _ (View.cover_of_tiledBy _ ![320, 1024] (by sl_kernel_rfl)), View.canon_cons_unit_lit _ _ _ (by decide)]
      sl_unfold_words
      simp only [View.readAt_eq_ld, harg1.read_unread, harg2.read_unread, harg3.read_unread, harg4.read_unread, harg5.read_unread, harg11.read_unread, harg12.read_unread, harg13.read_unread]
      rfl
    isplitl [H9]
    · iexists _; isplitr; swap; · iexact H9
      ipureintro
      sl_unfold_words
      rw [read_writes_overlay, read_writes_overlay]
      simp only [View.writes_nil, View.readAt_eq_ld, harg1.read_unread, harg2.read_unread, harg3.read_unread, harg4.read_unread, harg5.read_unread, harg11.read_unread, harg12.read_unread, harg13.read_unread]
      rfl
    isplitl [HS0]
    · iexists _; isplitr; · ipureintro; exact harg12.read_unread _
      iexact HS0
    isplitl [HS1]
    · iexists _; isplitr; · ipureintro; exact harg13.read_unread _
      iexact HS1
    iexact HW

end Cert.KernelIdeal.Bwd

end
-- ==== Proof.Bwd.RunA.lean ====
module
public import proofs.«01_k».proof.Proof.Bwd.RunB
@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The first weight as the scratch holds it: of each quarter 1376 rows copied in, then 32 rows of zeros. -/
def W13v (w : Vec F S4x2080x1024 .bf16) : Vec F S4x1408x1024 .bf16 :=
  View.canon [(⟨Rect.unit (s := S4x1408x1024) ![3, 1376, 0] S1x32x1024.size inb_S4x1408x1024_S1x32x1024_3_1376_0, k0_pay7⟩ : View.Piece (Elt F) S4x1408x1024 .bf16),
    ⟨Rect.unit (s := S4x1408x1024) ![2, 1376, 0] S1x32x1024.size inb_S4x1408x1024_S1x32x1024_2_1376_0, k0_pay7⟩,
    ⟨Rect.unit (s := S4x1408x1024) ![1, 1376, 0] S1x32x1024.size inb_S4x1408x1024_S1x32x1024_1_1376_0, k0_pay7⟩,
    ⟨Rect.unit (s := S4x1408x1024) ![0, 1376, 0] S1x32x1024.size inb_S4x1408x1024_S1x32x1024_0_1376_0, k0_pay7⟩,
    ⟨Rect.unit (s := S4x1408x1024) ![3, 0, 0] S1x1376x1024.size inb_S4x1408x1024_S1x1376x1024_3_0_0, View.ld w (Rect.unit (s := S4x2080x1024) ![3, 0, 0] S1x1376x1024.size inb_S4x2080x1024_S1x1376x1024_3_0_0)⟩,
    ⟨Rect.unit (s := S4x1408x1024) ![2, 0, 0] S1x1376x1024.size inb_S4x1408x1024_S1x1376x1024_2_0_0, View.ld w (Rect.unit (s := S4x2080x1024) ![2, 0, 0] S1x1376x1024.size inb_S4x2080x1024_S1x1376x1024_2_0_0)⟩,
    ⟨Rect.unit (s := S4x1408x1024) ![1, 0, 0] S1x1376x1024.size inb_S4x1408x1024_S1x1376x1024_1_0_0, View.ld w (Rect.unit (s := S4x2080x1024) ![1, 0, 0] S1x1376x1024.size inb_S4x2080x1024_S1x1376x1024_1_0_0)⟩,
    ⟨Rect.unit (s := S4x1408x1024) ![0, 0, 0] S1x1376x1024.size inb_S4x1408x1024_S1x1376x1024_0_0_0, View.ld w (Rect.unit (s := S4x2080x1024) ![0, 0, 0] S1x1376x1024.size inb_S4x2080x1024_S1x1376x1024_0_0_0)⟩]

/-- The second weight likewise: two quarters of 688 rows, 32 rows of zeros, and again. -/
def W2v (w : Vec F S4x2080x1024 .bf16) : Vec F S2816x1024 .bf16 :=
  View.canon [(⟨Rect.unit (s := S2816x1024) ![2784, 0] S32x1024.size inb_S2816x1024_S32x1024_2784_0, k0_pay12 k0_pay6⟩ : View.Piece (Elt F) S2816x1024 .bf16),
    ⟨Rect.unit (s := S2816x1024) ![1376, 0] S32x1024.size inb_S2816x1024_S32x1024_1376_0, k0_pay12 k0_pay6⟩,
    ⟨Rect.unit (s := S2816x1024) ![2096, 0] S688x1024.size inb_S2816x1024_S688x1024_2096_0, shapeCast S688x1024 (View.ld w (Rect.unit (s := S4x2080x1024) ![3, 1376, 0] S1x688x1024.size inb_S4x2080x1024_S1x688x1024_3_1376_0)) (by decide)⟩,
    ⟨Rect.unit (s := S2816x1024) ![1408, 0] S688x1024.size inb_S2816x1024_S688x1024_1408_0, shapeCast S688x1024 (View.ld w (Rect.unit (s := S4x2080x1024) ![2, 1376, 0] S1x688x1024.size inb_S4x2080x1024_S1x688x1024_2_1376_0)) (by decide)⟩,
    ⟨Rect.unit (s := S2816x1024) ![688, 0] S688x1024.size inb_S2816x1024_S688x1024_688_0, shapeCast S688x1024 (View.ld w (Rect.unit (s := S4x2080x1024) ![1, 1376, 0] S1x688x1024.size inb_S4x2080x1024_S1x688x1024_1_1376_0)) (by decide)⟩,
    ⟨Rect.unit (s := S2816x1024) ![0, 0] S688x1024.size inb_S2816x1024_S688x1024_0_0, shapeCast S688x1024 (View.ld w (Rect.unit (s := S4x2080x1024) ![0, 1376, 0] S1x688x1024.size inb_S4x2080x1024_S1x688x1024_0_1376_0)) (by decide)⟩]

/-- A write through a squeezed slice is the slice's piece, its payload reshaped. -/
theorem write_squeezed {sig' : RefSig} {κ : Kind} {sp : Space} {s s' : Shape} {e : EltTy} {Val : EltTy → Type}
    (m : Memref sig' κ sp s e) (r : Rect s) (hr : ∀ a, r.stride a = 1) (hq : r.shape.Squeezes s')
    (f : m.view.ty.Contents Val) (d : s'.Idx → Val e) :
    View.write Val ((m.slice r hr).squeeze s' hq).view f d Finset.univ
      = m.view.writes Val f [⟨r, fun x => d ((Shape.reshapeEquiv hq.numel_eq).symm x)⟩] :=
  View.write_reshape_univ (m.view.slice r) _ f d

/-- What a copy out of a squeezed slice delivers, read back in the slice's own shape. -/
theorem squeezed_payload {sig' : RefSig} {κ : Kind} {sp : Space} {s s' : Shape} {e : EltTy} {Val : EltTy → Type}
    (m : Memref sig' κ sp s e) (r : Rect s) (hr : ∀ a, r.stride a = 1) (hq hq' : r.shape.Squeezes s')
    (f : m.view.ty.Contents Val) :
    (fun x => View.read Val ((m.slice r hr).squeeze s' hq).view f ((Shape.reshapeEquiv hq'.numel_eq).symm x))
      = View.ld (m.view.read Val f) r := by
  funext x
  rw [Memref.read_squeeze_slice m r hr hq hq.numel_eq]
  show View.ld (m.view.read Val f) r _ = _
  rw [Equiv.apply_symm_apply]

set_option maxHeartbeats 4000000 in
set_option sl_exec.rejoinHeartbeats 600000 in
set_option sl_exec.dmaWindow true in
set_option sl_exec.dmaWindowSet true in
/-- The first grid point: the weights are copied in, their padding rows zeroed, the accumulator cleared; then the
    point goes on as every other. -/
theorem runA (c : Dev nD) (i : grid0.Coords) (arg1 : Memref sig .tc .vmem S320x1024 .f32) (harg1 : arg1.IsWhole) (arg2 : Memref sig .tc .vmem S320x1024 .f32) (harg2 : arg2.IsWhole) (arg3 : Memref sig .tc .vmem S320x1 .f32) (harg3 : arg3.IsWhole) (arg4 : Memref sig .tc .vmem S2x1024 .f32) (harg4 : arg4.IsWhole) (arg5 : Memref sig .tc .vmem S320x5632 .bf16) (harg5 : arg5.IsWhole) (arg7 : Memref sig .tc .vmem S320x1024 .f32) (harg7 : arg7.IsWhole) (arg8 : Memref sig .tc .vmem S320x2816 .bf16) (harg8 : arg8.IsWhole) (arg9 : Memref sig .tc .vmem S320x5632 .bf16) (harg9 : arg9.IsWhole) (arg10 : Memref sig .tc .vmem S320x1024 .bf16) (harg10 : arg10.IsWhole) (arg11 : Memref sig .tc .vmem S8x1024 .f32) (harg11 : arg11.IsWhole) (arg12 : Memref sig .tc .vmem S4x1408x1024 .bf16) (harg12 : arg12.IsWhole) (arg13 : Memref sig .tc .vmem S2816x1024 .bf16) (harg13 : arg13.IsWhole) (hc0 : cond0_0 i)
    (x0 : Vec F S320x1024 .f32) (x1 : Vec F S320x1024 .f32) (x2 : Vec F S320x1 .f32) (x3 : Vec F S2x1024 .f32) (x4 : Vec F S320x5632 .bf16) (fh0 : HbBuf0 (F := F) c hbM0_0) :
      ∀ (W : Waits sig Unit) (K : PUnit → sProp 𝕄),
        iprop((owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg7 fullShare (dhV x0 x1 x2 x3 x4 (W13v fh0) (W2v fh0)) ∗ owns (c : Thread nD τ) arg8 fullShare (hidV x4) ∗ owns (c : Thread nD τ) arg9 fullShare (dauV x0 x1 x2 x3 x4 (W2v fh0)) ∗ owns (c : Thread nD τ) arg10 fullShare (dffnV x0 x1 x2 x3) ∗ owns (c : Thread nD τ) arg11 fullShare (accV x0 x1 k0_pay5) ∗ owns (c : Thread nD τ) arg12 fullShare (W13v fh0) ∗ owns (c : Thread nD τ) arg13 fullShare (W2v fh0) ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ hbPt0 c hbM0_0 fh0 ∗ (∃ W', owes (c : Thread nD τ) 0 W')) -∗ K ⟨⟩))
          ⊢ wp frame (wpE (defs₀ (F := F)) Variants.none c none) Set.univ (cc0_ffn1_bwd_0 i arg1 harg1 arg2 harg2 arg3 harg3 arg4 harg4 arg5 harg5 (Memref.whole main_v68) (Memref.isWhole_whole _) arg7 harg7 arg8 harg8 arg9 harg9 arg10 harg10 arg11 harg11 arg12 harg12 arg13 harg13 cc0_scratch2) K := by
    intro W K
    simp only [cc0_ffn1_bwd_0_eq_skeleton]; unfold cc0_ffn1_bwd_0_skel
    simp only [k0_part5_eq_skeleton, k0_part1_eq_skeleton, k0_part2_eq_skeleton, k0_part3_eq_skeleton, k0_part4_eq_skeleton, k0_part6_eq_skeleton, k0_part7_eq_skeleton]
    unfold owns
    iintro ⟨HIn, ⟨%d5, %f5, -, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, Hq0, Hq1, Hq2, Hq3, Hq4, Hq5, Hq6, Hq7, Hh0, HW, Hk⟩
    sl_exec (disch := first | sl_exact hc0)
    rw [harg11.eq_unread (f := arg11.view.writes (Elt F) _ _) (X := k0_pay5) ?e9]
    rw [harg12.eq_unread (f := arg12.view.writes (Elt F) _ _) (X := W13v fh0) ?e12]
    rw [harg13.eq_unread (f := arg13.view.writes (Elt F) _ _) (X := W2v fh0) ?e13]
    case e9 =>
      rw [View.read_writes_eq_canon _ _ _ (View.cover_of_tiledBy _ ![8, 1024] (by sl_kernel_rfl)), View.canon_cons_unit_lit _ _ _ (by decide)]
    case e12 =>
      sl_unfold_words
      rw [write_squeezed, write_squeezed, write_squeezed, write_squeezed, ← View.writes_append, ← View.writes_append, ← View.writes_append, ← View.writes_append]
      simp only [List.cons_append, List.nil_append]
      rw [View.read_writes_eq_canon _ _ _ (View.cover_of_tiledBy _ ![1, 32, 1024] (by sl_kernel_rfl))]
      unfold W13v
      refine congrArg View.canon ?_
      congr 5
      · exact congrArg (Sigma.mk _) (squeezed_payload (Memref.whole main_v68) (Rect.unit (s := S4x2080x1024) ![3, 0, 0] S1x1376x1024.size inb_S4x2080x1024_S1x1376x1024_3_0_0) (fun _ => rfl) squeezes_S1x1376x1024_S1376x1024 squeezes_S1x1376x1024_S1376x1024 fh0)
      congr 1
      · exact congrArg (Sigma.mk _) (squeezed_payload (Memref.whole main_v68) (Rect.unit (s := S4x2080x1024) ![2, 0, 0] S1x1376x1024.size inb_S4x2080x1024_S1x1376x1024_2_0_0) (fun _ => rfl) squeezes_S1x1376x1024_S1376x1024 squeezes_S1x1376x1024_S1376x1024 fh0)
      congr 1
      · exact congrArg (Sigma.mk _) (squeezed_payload (Memref.whole main_v68) (Rect.unit (s := S4x2080x1024) ![1, 0, 0] S1x1376x1024.size inb_S4x2080x1024_S1x1376x1024_1_0_0) (fun _ => rfl) squeezes_S1x1376x1024_S1376x1024 squeezes_S1x1376x1024_S1376x1024 fh0)
      congr 1
      · exact congrArg (Sigma.mk _) (squeezed_payload (Memref.whole main_v68) (Rect.unit (s := S4x2080x1024) ![0, 0, 0] S1x1376x1024.size inb_S4x2080x1024_S1x1376x1024_0_0_0) (fun _ => rfl) squeezes_S1x1376x1024_S1376x1024 squeezes_S1x1376x1024_S1376x1024 fh0)
    case e13 =>
      sl_unfold_words
      rw [View.read_writes_eq_canon _ _ _ (View.cover_of_tiledBy _ ![16, 1024] (by sl_kernel_rfl))]
      rfl
    icases HIn with ⟨⟨%f0, %hf0, H0⟩, ⟨%f1, %hf1, H1⟩, ⟨%f2, %hf2, H2⟩, ⟨%f3, %hf3, H3⟩, ⟨%f4, %hf4, H4⟩⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      rw [View.read_writes_eq_canon _ _ _ (View.cover_of_tiledBy _ ![320, 1024] (by sl_kernel_rfl)), View.canon_cons_unit_lit _ _ _ (by decide)]
      sl_unfold_words
      simp only [View.readAt_eq_ld, harg1.read_unread, harg2.read_unread, harg3.read_unread, harg4.read_unread, harg5.read_unread, harg11.read_unread, harg12.read_unread, harg13.read_unread]
      rfl
    isplitl [H6]
    · iexists _; isplitr; swap; · iexact H6
      ipureintro
      rw [View.read_writes_eq_canon _ _ _ (View.cover_of_tiledBy _ ![320, 1408] (by sl_kernel_rfl))]
      sl_unfold_words
      simp only [View.readAt_eq_ld, harg1.read_unread, harg2.read_unread, harg3.read_unread, harg4.read_unread, harg5.read_unread, harg11.read_unread, harg12.read_unread, harg13.read_unread]
      rfl
    isplitl [H7]
    · iexists _; isplitr; swap; · iexact H7
      ipureintro
      rw [View.read_writes_eq_canon _ _ _ (View.cover_of_tiledBy _ ![320, 1408] (by sl_kernel_rfl))]
      sl_unfold_words
      simp only [View.readAt_eq_ld, harg1.read_unread, harg2.read_unread, harg3.read_unread, harg4.read_unread, harg5.read_unread, harg11.read_unread, harg12.read_unread, harg13.read_unread]
      rfl
    isplitl [H8]
    · iexists _; isplitr; swap; · iexact H8
      ipureintro
      rw [View.read_writes_eq_canon _ _ _ (View.cover_of_tiledBy _ ![320, 1024] (by sl_kernel_rfl)), View.canon_cons_unit_lit _ _ _ (by decide)]
      sl_unfold_words
      simp only [View.readAt_eq_ld, harg1.read_unread, harg2.read_unread, harg3.read_unread, harg4.read_unread, harg5.read_unread, harg11.read_unread, harg12.read_unread, harg13.read_unread]
      rfl
    isplitl [H9]
    · iexists _; isplitr; swap; · iexact H9
      ipureintro
      sl_unfold_words
      rw [read_writes_overlay, read_writes_overlay]
      simp only [View.writes_nil, View.readAt_eq_ld, harg1.read_unread, harg2.read_unread, harg3.read_unread, harg4.read_unread, harg5.read_unread, harg11.read_unread, harg12.read_unread, harg13.read_unread]
      rfl
    isplitl [HS0]
    · iexists _; isplitr; · ipureintro; exact harg12.read_unread _
      iexact HS0
    isplitl [HS1]
    · iexists _; isplitr; · ipureintro; exact harg13.read_unread _
      iexact HS1
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    iexists _; iexact HW

end Cert.KernelIdeal.Bwd

end
-- ==== Proof.Bwd.Frame.lean ====
module
public import proofs.«01_k».proof.Proof.Bwd.RunA
public import Idealize.ShloMosaic.Lib.Claim
@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the grid's points leave -/

/-- The point numbered `n`. -/
def pt (n : ℕ) : Fin cfg0.N := ⟨n % 26, lt_of_lt_of_eq (Nat.mod_lt _ (by decide)) (show 26 = cfg0.N from N_0.symm)⟩

theorem pt_val (t : Fin cfg0.N) : pt t.val = t :=
  Fin.ext (Nat.mod_eq_of_lt (lt_of_lt_of_eq t.isLt (show cfg0.N = 26 from N_0)))

/-- The blocks of the five staged inputs at a point. -/
def X0 (c : Dev nD) (t : Fin cfg0.N) : Vec F S320x1024 .f32 := iblk m c 0 t
def X1 (c : Dev nD) (t : Fin cfg0.N) : Vec F S320x1024 .f32 := iblk m c 1 t
def X2 (c : Dev nD) (t : Fin cfg0.N) : Vec F S320x1 .f32 := iblk m c 2 t
def X3 (c : Dev nD) (t : Fin cfg0.N) : Vec F S2x1024 .f32 := iblk m c 3 t
def X4 (c : Dev nD) (t : Fin cfg0.N) : Vec F S320x5632 .bf16 := iblk m c 4 t
/-- The two weights in the scratch, from the packed array. -/
def Y1 (c : Dev nD) : Vec F S4x1408x1024 .bf16 := W13v (V m c main_v68)
def Y2 (c : Dev nD) : Vec F S2816x1024 .bf16 := W2v (V m c main_v68)

/-- What the accumulator holds after point `n`. -/
def accN (c : Dev nD) : ℕ → Vec F S8x1024 .f32
  | 0 => accV (X0 m c (pt 0)) (X1 m c (pt 0)) k0_pay5
  | n + 1 => accV (X0 m c (pt (n + 1))) (X1 m c (pt (n + 1))) (accN c n)

/-- What a point writes. -/
def D5 (c : Dev nD) (t : Fin cfg0.N) : Vec F S320x1024 .f32 :=
  dhV (X0 m c t) (X1 m c t) (X2 m c t) (X3 m c t) (X4 m c t) (Y1 m c) (Y2 m c)
def D6 (c : Dev nD) (t : Fin cfg0.N) : Vec F S320x2816 .bf16 := hidV (X4 m c t)
def D7 (c : Dev nD) (t : Fin cfg0.N) : Vec F S320x5632 .bf16 :=
  dauV (X0 m c t) (X1 m c t) (X2 m c t) (X3 m c t) (X4 m c t) (Y2 m c)
def D8 (c : Dev nD) (t : Fin cfg0.N) : Vec F S320x1024 .bf16 := dffnV (X0 m c t) (X1 m c t) (X2 m c t) (X3 m c t)
def D9 (c : Dev nD) (t : Fin cfg0.N) : Vec F S8x1024 .f32 := accN m c t.val

/-- Between two points: before the first, whatever the launch gives; later the scratch holds the two weights. -/
def Phi (c : Dev nD) (n : ℕ) : sProp 𝕄 :=
  if n = 0 then Pipeline.ΦD osem0 spec0 H0 (V m) c
  else iprop(iprop(owns (c : Thread nD τ) scM0_0 fullShare (Y1 m c) ∗ owns (c : Thread nD τ) scM0_1 fullShare (Y2 m c)) ∗ (∃ r, prngReg c r) ∗ iprop(semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0) ∗ iprop(hbPt0 c hbM0_0 (V m c main_v68)))

/-- The proof data: the arrays as the region finds them, what each point leaves, the invariant above. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => D5 m c t
    | ⟨6, _⟩ => D6 m c t
    | ⟨7, _⟩ => D7 m c t
    | ⟨8, _⟩ => D8 m c t
    | ⟨9, _⟩ => D9 m c t
  Φ t := Phi m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = D5 m c t := by dsimp only [dats]
theorem after0_6 (c : Dev nD) (t : Fin cfg0.N) : (dats m 0 c).after 6 t = D6 m c t := by dsimp only [dats]
theorem after0_7 (c : Dev nD) (t : Fin cfg0.N) : (dats m 0 c).after 7 t = D7 m c t := by dsimp only [dats]
theorem after0_8 (c : Dev nD) (t : Fin cfg0.N) : (dats m 0 c).after 8 t = D8 m c t := by dsimp only [dats]
theorem after0_9 (c : Dev nD) (t : Fin cfg0.N) : (dats m 0 c).after 9 t = D9 m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- At a later point the accumulator holds what the point before left. -/
theorem before0_9 (c : Dev nD) (t : Fin cfg0.N) (ht : t.val ≠ 0) (d) : (dats m 0 c).before 9 t d = accN m c (t.val - 1) := by
  have hN : t.val < 26 := lt_of_lt_of_eq t.isLt (show cfg0.N = 26 from N_0)
  rw [(dats m 0 c).before_out_kept 9 rfl t ht ?_ (fun _ => rfl) (fun _ _ => rfl), after0_9]
  · rfl
  · refine Bool.eq_false_iff.mpr fun h => ?_
    have := (flush0_9 _).mp h
    dsimp only at this
    omega

/-- The accumulator after a later point, from the point before. -/
theorem D9_succ (c : Dev nD) (t : Fin cfg0.N) (ht : t.val ≠ 0) :
    D9 m c t = accV (X0 m c t) (X1 m c t) (accN m c (t.val - 1)) := by
  obtain ⟨n, hn⟩ := Nat.exists_eq_succ_of_ne_zero ht
  unfold D9; rw [hn, Nat.succ_sub_one]
  show accV (X0 m c (pt n.succ)) (X1 m c (pt n.succ)) (accN m c n) = _
  rw [← hn, pt_val]

/-- The accumulator after the first point. -/
theorem D9_zero (c : Dev nD) (t : Fin cfg0.N) (ht : t.val = 0) :
    D9 m c t = accV (X0 m c t) (X1 m c t) k0_pay5 := by
  unfold D9; rw [ht]
  show accV (X0 m c (pt 0)) (X1 m c (pt 0)) k0_pay5 = _
  rw [← ht, pt_val]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

/-- The invariant after any point. -/
theorem Phi_succ (c : Dev nD) (t : Fin cfg0.N) : (dats m 0 c).Φ t.succ
    = iprop(iprop(owns (c : Thread nD τ) scM0_0 fullShare (Y1 m c) ∗ owns (c : Thread nD τ) scM0_1 fullShare (Y2 m c)) ∗ (∃ r, prngReg c r) ∗ iprop(semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0) ∗ iprop(hbPt0 c hbM0_0 (V m c main_v68))) := by
  show Phi m c t.succ.val = _
  unfold Phi; rw [if_neg (by simp)]

theorem Phi_later (c : Dev nD) (t : Fin cfg0.N) (ht : t.val ≠ 0) : (dats m 0 c).Φ t.castSucc
    = iprop(iprop(owns (c : Thread nD τ) scM0_0 fullShare (Y1 m c) ∗ owns (c : Thread nD τ) scM0_1 fullShare (Y2 m c)) ∗ (∃ r, prngReg c r) ∗ iprop(semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0) ∗ iprop(hbPt0 c hbM0_0 (V m c main_v68))) := by
  show Phi m c t.castSucc.val = _
  unfold Phi; rw [if_neg (by simpa using ht)]

theorem Phi_first (c : Dev nD) (t : Fin cfg0.N) (ht : t.val = 0) : (dats m 0 c).Φ t.castSucc
    = Pipeline.ΦD osem0 spec0 H0 (V m) c := by
  show Phi m c t.castSucc.val = _
  unfold Phi; rw [if_pos (by simpa using ht)]

set_option maxHeartbeats 2400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [Phi_succ, after0_0, after0_1, after0_2, after0_3, after0_4, after0_5, after0_6, after0_7, after0_8, after0_9]
  unfold Dat.owesAt Pipeline.owesWithin
  rw [show (dats m 0 c).owed t.castSucc = 0 from rfl, show (dats m 0 c).owed t.succ = 0 from rfl]
  have hN : t.val < 26 := lt_of_lt_of_eq t.isLt (show cfg0.N = 26 from N_0)
  by_cases h0 : t.val % 26 = 0
  · have ht : t.val = 0 := by omega
    rw [Phi_first m c t ht, PhiD0_eq, D9_zero m c t ht]
    iintro ⟨⟨⟨HS0, HS1⟩, Hg, ⟨Hq0, Hq1, Hq2, Hq3, Hq4, Hq5, Hq6, Hq7⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runA c (grid0.coords t) _ _ _ _ _ _ _ _ _ _ _ _ _ _ _ _ _ _ _ _ _ _ _ _ ((hcond0_0 t).mpr h0) (X0 m c t) (X1 m c t) (X2 m c t) (X3 m c t) (X4 m c t) (V m c main_v68)) W _)
    isplitl [H0 H1 H2 H3 H4]
    · isplitl [H0]; · iexact H0
      isplitl [H1]; · iexact H1
      isplitl [H2]; · iexact H2
      isplitl [H3]; · iexact H3
      iexact H4
    isplitl [H5]; · iexists _; iexact H5
    isplitl [H6]; · iexists _; iexact H6
    isplitl [H7]; · iexists _; iexact H7
    isplitl [H8]; · iexists _; iexact H8
    isplitl [H9]; · iexists _; iexact H9
    isplitl [HS0]; · iexact HS0
    isplitl [HS1]; · iexact HS1
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    isplitl [HW]; · iexact HW
    iintro ⟨H0, H1, H2, H3, H4, H5, H6, H7, H8, H9, HS0, HS1, Hq0, Hq1, Hq2, Hq3, Hq4, Hq5, Hq6, Hq7, Hh0, ⟨%W', HW'⟩⟩
    isplitl [HS0 HS1 Hg Hq0 Hq1 Hq2 Hq3 Hq4 Hq5 Hq6 Hq7 Hh0]
    · isplitl [HS0 HS1]
      · isplitl [HS0]; · iexact HS0
        iexact HS1
      isplitl [Hg]
      · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · have ht : t.val ≠ 0 := by omega
    rw [Phi_later m c t ht, D9_succ m c t ht]
    simp only [before0_9 m c t ht]
    iintro ⟨⟨⟨HS0, HS1⟩, Hg, ⟨Hq0, Hq1, Hq2, Hq3, Hq4, Hq5, Hq6, Hq7⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runB c (grid0.coords t) _ _ _ _ _ _ _ _ _ _ _ _ _ _ _ _ _ _ _ _ _ _ _ _ (fun h => h0 ((hcond0_0 t).mp h)) (X0 m c t) (X1 m c t) (X2 m c t) (X3 m c t) (X4 m c t) (accN m c (t.val - 1)) (Y1 m c) (Y2 m c)) W _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [H9]; · iexact H9
    isplitl [HS0]; · iexact HS0
    isplitl [HS1]; · iexact HS1
    isplitl [HW]; · iexact HW
    iintro ⟨H0, H1, H2, H3, H4, H5, H6, H7, H8, H9, HS0, HS1, HW'⟩
    isplitl [HS0 HS1 Hg Hq0 Hq1 Hq2 Hq3 Hq4 Hq5 Hq6 Hq7 Hh0]
    · isplitl [HS0 HS1]
      · isplitl [HS0]; · iexact HS0
        iexact HS1
      isplitl [Hg]
      · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh0
    isplitl [HW']
    · iexists W; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body table's row at a point's slots is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The last invariant forgets what the scratch holds. -/
theorem Phi_last (c : Dev nD) : (dats m 0 c).Φ (Fin.last cfg0.N) ⊢ Pipeline.ΦD osem0 spec0 H0 (V m) c := by
  rw [PhiD0_eq]
  show Phi m c cfg0.N ⊢ _
  unfold Phi; rw [if_neg (by rw [show cfg0.N = 26 from N_0]; decide)]
  iintro ⟨⟨HS0, HS1⟩, HR⟩
  isplitl [HS0 HS1]
  · isplitl [HS0]
    · iexists _; iexact HS0
    iexists _; iexact HS1
  iexact HR

theorem Phi_start (c : Dev nD) : Pipeline.ΦD osem0 spec0 H0 (V m) c ⊢ (dats m 0 c).Φ 0 := by
  show _ ⊢ Phi m c 0
  unfold Phi; rw [if_pos rfl]

/-! ## The run -/

set_option backward.isDefEq.respectTransparency.types false in
set_option maxHeartbeats 800000 in
/-- The launch: the arrays end at what the points wrote back, the host's tail runs from them, every counter ends at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_but) (hfresh := sfx_fresh) (hkeep := sfx_keeps)
    (hmain := hmain m Variants.none) (hA := A_eq m) (hin := Phi_start m) (hout := Phi_last m)

end Cert.KernelIdeal.Bwd

end
-- ==== Proof.Bwd.Ends.lean ====
module
public import proofs.«01_k».proof.Proof.Bwd.Frame
@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The argument arrays at the end of a run. -/
theorem unchanged {r : PUnit × MemSt nD τ sig (Elt F)}
    (h : Pipeline.FramePost cfgs (dats m) 0 (Pipeline.afterTail₀ cfgs (dats m) 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).1 0).trans (((dats m 0 c).arrAt_in 0 rfl _).trans ((A_eq m c 0).trans (V_main_arg5 m c)))⟩

/-- Every run ends, its arguments as they were, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => unchanged m h.1 c, h.2⟩) (run_main m ρ)

end Cert.KernelIdeal.Bwd

end
-- ==== Proof.Bwd.FrameKernel.lean ====
module
public import proofs.«01_k».proof.Defs
public import proofs.«01_k».proof.Proof.Bwd.Ends
public import proofs.«01_k».proof.Proof.Gen.Kernel
@[expose] public section
set_option maxRecDepth 16384
noncomputable section

namespace Cert.Proof

open Idealize.ShloMosaic Idealize.ShloMosaic.TcCoe

/-- The frame over the reals. -/
theorem frame_kernelIdeal : Cert.quiescent_KernelIdeal := fun m ρ _ =>
  Cert.KernelIdeal.Bwd.frame (F := Ideal) m ρ

set_option maxHeartbeats 2000000 in
/-- The two programs have the same body table, -/
theorem defs₀_same : Cert.Kernel.defs₀ (F := Bits) = Cert.KernelIdeal.defs₀ (F := Bits) := by
  unfold Cert.Kernel.defs₀ Cert.KernelIdeal.defs₀
  congr 1
  funext l a
  match l with
  | 0 => rfl

/-- the same table with the pipeline's steps, -/
theorem defs_same : Cert.Kernel.defs (F := Bits) = Cert.KernelIdeal.defs (F := Bits) :=
  congrArg (Pipeline.defs (Cert.KernelIdeal.pcfgs (F := Bits))) defs₀_same

set_option maxHeartbeats 2000000 in
/-- and the same host function. -/
theorem main_same : Cert.Kernel.main (F := Bits) = Cert.KernelIdeal.main (F := Bits) := rfl

/-- The frame of the program over floats: the same text as the one over the reals. -/
theorem frame_kernel : Cert.quiescent_Kernel := fun m ρ _ => by
  rw [show Cert.Kernel.defs (F := Bits) = _ from defs_same, show Cert.Kernel.main (F := Bits) = _ from main_same]
  exact Cert.KernelIdeal.Bwd.frame (F := Bits) m ρ

end Cert.Proof

end
-- ==== Proof.Bwd.Consts.lean ====
module
public import Idealize.ShloMosaic.PureOps
public import Idealize.ShloMosaic.Lib.IdealHost
public import Mathlib.Data.EReal.Operations
public import Mathlib.Algebra.BigOperators.Group.Finset.Basic

/-! # The program's constants over the reals, and a finite sum of reals among the extended reals -/

@[expose] public section

namespace Cert.KernelIdeal.Bwd

open Idealize.ShloMosaic

/-- A finite sum of reals, read among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The residual's scale: the word nearest to the square root of two, as a rational. -/
noncomputable def alpha : ℝ := 11863283 / 8388608

/-- The normalisation's small number, as a rational. -/
noncomputable def eps : ℝ := 10995116 / 1099511627776

theorem eps_pos : 0 < eps := by unfold eps; norm_num

theorem lit_alpha : Ideal.ofBits .f32 1068827891#32 = (alpha : EReal) := by
  unfold alpha
  simp [Ideal.ofBits, Ideal.ieee, -EReal.coe_mul]; norm_num

theorem lit_eps : Ideal.ofBits .f32 925353388#32 = (eps : EReal) := by
  unfold eps
  simp [Ideal.ofBits, Ideal.ieee, -EReal.coe_mul]; norm_num

theorem lit_1024 : Ideal.ofBits .f32 1149239296#32 = ((1024 : ℝ) : EReal) := by
  simp [Ideal.ofBits, Ideal.ieee, -EReal.coe_mul]; norm_num

theorem lit_half : Ideal.ofBits .f32 1056964608#32 = ((1 / 2 : ℝ) : EReal) := by
  simp [Ideal.ofBits, Ideal.ieee, -EReal.coe_mul]; norm_num

theorem lit_neg_half : Ideal.ofBits .f32 3204448256#32 = ((-(1 / 2) : ℝ) : EReal) := by
  simp [Ideal.ofBits, Ideal.ieee, -EReal.coe_mul, -EReal.coe_neg]; norm_num

theorem lit_two : Ideal.ofBits .f32 1073741824#32 = ((2 : ℝ) : EReal) := by
  simp [Ideal.ofBits, Ideal.ieee, -EReal.coe_mul]; norm_num

theorem lit_top : Ideal.ofBits .f32 0x7F800000#32 = ⊤ := by
  simp [Ideal.ofBits, Ideal.ieee]

/-- A number whose size is under infinity is a real. -/
theorem real_of_abs {x : EReal} (h : max x (-x) < ⊤) : ∃ y : ℝ, x = y := by
  induction x with
  | bot => simp at h
  | top => simp at h
  | coe y => exact ⟨y, rfl⟩

/-- A division by a real that is not zero. -/
theorem div_real (x : ℝ) {y : ℝ} (h : y ≠ 0) : Ideal.div (x : EReal) (y : EReal) = ((x / y : ℝ) : EReal) := by
  rw [Ideal.div_coe h, ← EReal.coe_mul, mul_one_div]

end Cert.KernelIdeal.Bwd

end
-- ==== Proof.Bwd.Finite.lean ====
module
public import proofs.«01_k».proof.Defs
public import proofs.«01_k».proof.Proof.Bwd.Consts
public import Idealize.ShloMosaic.Lib.Pointwise
@[expose] public section
@[expose] public section

set_option maxRecDepth 16384

noncomputable section

namespace Cert.KernelIdeal.Bwd

open Idealize.ShloMosaic Idealize.ShloMosaic.TcCoe

/-! # Finite arguments are real numbers -/

/-- The shape relations of the precondition. -/
instance preFacts : Cert.Pre_finite.Facts where
  bcast_S_S8320x1024 := by decide
  bcast_S_S1024x5504 := by decide
  bcast_S_S2752x1024 := by decide
  bcast_S_S1024 := by decide

/-- An array whose absolute values all compare below infinity has real elements. -/
theorem real_of_ones {S T : Shape} (x : FVec Ideal S .f32) (f : Fin T.rank → Fin S.rank) (hb : T.BroadcastsInDim S f)
    (h : cmpf .olt (Host.absf x) (broadcastInDim S f hb (constant (F := Ideal) T .f32 0x7F800000#32)) = fun _ => 1#1) (i : S.Idx) :
    ∃ y : ℝ, @Eq EReal (x i) y := by
  have h := congrFun h i
  pointwise at h
  by_cases hx : FloatOps.absf (x i) < Ideal.ofBits FTy.f32 2139095040#32
  · rw [lit_top] at hx
    exact real_of_abs hx
  · rw [decide_eq_false hx] at h
    exact absurd h (by decide)

open Cert.KernelIdeal in
/-- The five arguments that the results depend on, as real arrays. -/
theorem exists_reals (m : (ℓ : Loc nD τ sig) → Buf (Elt Ideal) ℓ) (h : Cert.Pre_KernelIdeal_finite m) (c : Dev nD) :
    ∃ (H : Fin 8320 → Fin 1024 → ℝ) (P : Fin 1024 → Fin 5504 → ℝ) (Q : Fin 2752 → Fin 1024 → ℝ) (G : Fin 1024 → ℝ)
      (Y : Fin 8320 → Fin 1024 → ℝ),
      (∀ r k, @Eq EReal ((m ((c : Thread nD τ).loc main_arg0) : Vec Ideal S8320x1024 .f32) (ix2 r k)) (H r k : ℝ))
      ∧ (∀ k n, @Eq EReal ((m ((c : Thread nD τ).loc main_arg1) : Vec Ideal S1024x5504 .f32) (ix2 k n)) (P k n : ℝ))
      ∧ (∀ n k, @Eq EReal ((m ((c : Thread nD τ).loc main_arg2) : Vec Ideal S2752x1024 .f32) (ix2 n k)) (Q n k : ℝ))
      ∧ (∀ k, @Eq EReal ((m ((c : Thread nD τ).loc main_arg3) : Vec Ideal S1024 .f32) (ix1 k)) (G k : ℝ))
      ∧ (∀ r k, @Eq EReal ((m ((c : Thread nD τ).loc main_arg5) : Vec Ideal S8320x1024 .f32) (ix2 r k)) (Y r k : ℝ)) := by
  obtain ⟨e0, e1, e2, e3, e5⟩ := h c
  have f0 := real_of_ones _ _ _ e0
  have f1 := real_of_ones _ _ _ e1
  have f2 := real_of_ones _ _ _ e2
  have f3 := real_of_ones _ _ _ e3
  have f5 := real_of_ones _ _ _ e5
  choose H hH using fun r k => f0 (ix2 r k)
  choose P hP using fun r k => f1 (ix2 r k)
  choose Q hQ using fun r k => f2 (ix2 r k)
  choose G hG using fun k => f3 (ix1 k)
  choose Y hY using fun r k => f5 (ix2 r k)
  exact ⟨H, P, Q, G, Y, hH, hP, hQ, hG, hY⟩

end Cert.KernelIdeal.Bwd
end
-- ==== Proof.Bwd.Blocks.lean ====
module
public import proofs.«01_k».proof.Proof.Bwd.Frame
public import Idealize.ShloMosaic.Lib.Pipeline.ValueKit
public import Idealize.ShloMosaic.Lib.Pointwise
@[expose] public section
@[expose] public section

set_option maxRecDepth 16384

noncomputable section

namespace Cert.KernelIdeal.Bwd

open Cert.KernelIdeal.Gen
open Idealize.ShloMosaic Idealize.ShloMosaic.TcCoe

/-! # The blocks of the staged inputs, as rows of their arrays -/

variable {F : FTy → Type} [FloatOps F]
variable (m : (ℓ : Loc nD τ sig) → Buf (Elt F) ℓ)

/-- The array row that row `i` of point `t`'s block is. -/
def row (t : Fin cfg0.N) (i : Fin 320) : Fin 8320 :=
  ⟨320 * t.val + i.val, by have : t.val < 26 := lt_of_lt_of_eq t.isLt (show cfg0.N = 26 from N_0); omega⟩

/-- Every window's block index at a point. -/
theorem idx : ∀ t : Fin grid0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] ∧ win0_9.index t = ![0, 0] := by
  decide +kernel

/-- Window 0. -/
theorem X0_at (c : Dev nD) (t : Fin cfg0.N) (i : Fin 320) (k : Fin 1024) : X0 m c t (ix2 i k) = V m c main_arg5 (ix2 (row t i) k) := by
  unfold X0
  have h := (idx t).1
  try unfold row
  blk_ext [iblk, h]

/-- Window 1. -/
theorem X1_at (c : Dev nD) (t : Fin cfg0.N) (i : Fin 320) (k : Fin 1024) : X1 m c t (ix2 i k) = V m c main_v28 (ix2 (row t i) k) := by
  unfold X1
  have h := (idx t).2.1
  try unfold row
  blk_ext [iblk, h]

/-- Window 2. -/
theorem X2_at (c : Dev nD) (t : Fin cfg0.N) (i : Fin 320) (k : Fin 1) : X2 m c t (ix2 i k) = V m c main_v24 (ix2 (row t i) k) := by
  unfold X2
  have h := (idx t).2.2.1
  try unfold row
  blk_ext [iblk, h]

/-- Window 3. -/
theorem X3_at (c : Dev nD) (t : Fin cfg0.N) (i : Fin 2) (k : Fin 1024) : X3 m c t (ix2 i k) = V m c main_v38 (ix2 i k) := by
  unfold X3
  have h := (idx t).2.2.2.1
  try unfold row
  blk_ext [iblk, h]

/-- Window 4. -/
theorem X4_at (c : Dev nD) (t : Fin cfg0.N) (i : Fin 320) (k : Fin 5632) : X4 m c t (ix2 i k) = V m c main_v35 (ix2 (row t i) k) := by
  unfold X4
  have h := (idx t).2.2.2.2.1
  try unfold row
  blk_ext [iblk, h]

end Cert.KernelIdeal.Bwd
end
-- ==== Proof.Bwd.Real.lean ====
module
public import Mathlib.Data.EReal.Operations
public import Mathlib.Analysis.SpecialFunctions.Pow.Real
public import Mathlib.Tactic.Ring
public import Mathlib.Tactic.FieldSimp

/-! # The gradient of a normalised row over the reals -/

@[expose] public section

namespace Cert.KernelIdeal.Bwd

/-- The reference differentiates the mean and the variance one after the other; the kernel has the two terms gathered.
Over the reals they are one function of the centred row `x`, the gradient `d` behind the gain and the variance `v`. -/
theorem rows_grad {n : ℕ} (x d : Fin n → ℝ) (v N : ℝ) (hv : 0 < v) (hx : ∑ k, x k = 0) (k : Fin n) :
    d k * (Real.sqrt v)⁻¹ + ((∑ j, x j * d j) * (-(1 / 2) * ((Real.sqrt v)⁻¹ / v))) / N * (2 * x k)
        + (∑ j, -(d j * (Real.sqrt v)⁻¹) + ∑ j, -(((∑ i, x i * d i) * (-(1 / 2) * ((Real.sqrt v)⁻¹ / v))) / N * (2 * x j))) / N
      = (Real.sqrt v)⁻¹ * (d k - (∑ j, d j) / N - x k * (Real.sqrt v)⁻¹ * ((∑ j, d j * (x j * (Real.sqrt v)⁻¹)) / N)) := by
  have hs : (Real.sqrt v)⁻¹ * (Real.sqrt v)⁻¹ = 1 / v := by
    rw [← mul_inv, Real.mul_self_sqrt hv.le, one_div]
  have h1 : ∑ j, -(((∑ i, x i * d i) * (-(1 / 2) * ((Real.sqrt v)⁻¹ / v))) / N * (2 * x j)) = 0 := by
    rw [Finset.sum_neg_distrib, ← Finset.mul_sum, ← Finset.mul_sum, hx]; ring
  have h2 : ∑ j, -(d j * (Real.sqrt v)⁻¹) = -((∑ j, d j) * (Real.sqrt v)⁻¹) := by
    rw [Finset.sum_neg_distrib, Finset.sum_mul]
  have h3 : ∑ j, d j * (x j * (Real.sqrt v)⁻¹) = (∑ j, x j * d j) * (Real.sqrt v)⁻¹ := by
    rw [Finset.sum_mul]; exact Finset.sum_congr rfl fun j _ => by ring
  rw [h1, h2, h3]
  generalize ∑ j, d j = D
  generalize ∑ j, x j * d j = E
  have h4 : (Real.sqrt v)⁻¹ / v = (Real.sqrt v)⁻¹ * ((Real.sqrt v)⁻¹ * (Real.sqrt v)⁻¹) := by rw [hs]; ring
  rw [h4]
  ring

/-- The centred row sums to zero. -/
theorem centred_sum {n : ℕ} (s : Fin n → ℝ) (hn : (n : ℝ) ≠ 0) : ∑ k, (s k - (∑ j, s j) / n) = 0 := by
  rw [Finset.sum_sub_distrib, Finset.sum_const, Finset.card_univ, Fintype.card_fin, nsmul_eq_mul]
  field_simp
  ring

end Cert.KernelIdeal.Bwd

end
-- ==== Proof.Bwd.RefRow.lean ====
module
public import proofs.«01_k».proof.Proof.Bwd.Consts
public import proofs.«01_k».proof.Proof.Bwd.Real
public import proofs.«01_k».proof.Proof.Gen.ReferenceIdeal.Read
public import Idealize.ShloMosaic.Lib.Pointwise

/-! # The reference at real arguments

Each value of the reference's chain that the kernel's result is compared with, at one index, as a real number. -/

@[expose] public section

noncomputable section

namespace Cert.KernelIdeal.Bwd

open Idealize.ShloMosaic Cert.ReferenceIdeal Cert.ReferenceIdeal.Read
open scoped BigOperators

/-! ## The half-step's forward values and its gradients as real functions -/

section Math

variable (H : Fin 8320 → Fin 1024 → ℝ) (P : Fin 1024 → Fin 5504 → ℝ) (Q : Fin 2752 → Fin 1024 → ℝ) (G : Fin 1024 → ℝ)
  (Y : Fin 8320 → Fin 1024 → ℝ) (r : Fin 8320)

/-- The gate's half of the up projection. -/
def gate (n : Fin 2752) : ℝ := ∑ k, H r k * P k ⟨n, by omega⟩

/-- The other half. -/
def lin (n : Fin 2752) : ℝ := ∑ k, H r k * P k ⟨2752 + n, by omega⟩

/-- The gate's sigmoid. -/
def sgm (n : Fin 2752) : ℝ := 1 / (1 + Real.exp (-gate H P r n))

/-- The stream after the half-step, before the normalisation. -/
def strm (k : Fin 1024) : ℝ :=
  alpha * H r k + 1 / 2 * ∑ n, gate H P r n * sgm H P r n * lin H P r n * Q n k

/-- The stream, centred. -/
def cent (k : Fin 1024) : ℝ := strm H P Q r k - (∑ j, strm H P Q r j) / 1024

/-- Its variance, with the small number. -/
def vari : ℝ := (∑ k, cent H P Q r k * cent H P Q r k) / 1024 + eps

/-- The reciprocal deviation. -/
def rdev : ℝ := (Real.sqrt (vari H P Q r))⁻¹

/-- The gradient of the stream before the normalisation. -/
def dstrm (k : Fin 1024) : ℝ :=
  rdev H P Q r * (Y r k * G k - (∑ j, Y r j * G j) / 1024
    - cent H P Q r k * rdev H P Q r * ((∑ j, Y r j * G j * (cent H P Q r j * rdev H P Q r)) / 1024))

/-- The gradient of the feed-forward product's argument. -/
def dmid (n : Fin 2752) : ℝ := ∑ k, 1 / 2 * dstrm H P Q G Y r k * Q n k

/-- The gradient of the gate. -/
def dgate (n : Fin 2752) : ℝ :=
  dmid H P Q G Y r n * lin H P r n * (sgm H P r n * (1 + gate H P r n * (1 - sgm H P r n)))

/-- The gradient of the other half. -/
def dlin (n : Fin 2752) : ℝ := dmid H P Q G Y r n * (gate H P r n * sgm H P r n)

/-- The gradient of the half-step's argument. -/
def dhid (k : Fin 1024) : ℝ :=
  ∑ n : Fin 2752, dgate H P Q G Y r n * P k ⟨n, by omega⟩
    + ∑ n : Fin 2752, dlin H P Q G Y r n * P k ⟨2752 + n, by omega⟩
    + alpha * dstrm H P Q G Y r k

theorem vari_pos : 0 < vari H P Q r :=
  add_pos_of_nonneg_of_pos (div_nonneg (Finset.sum_nonneg fun k _ => mul_self_nonneg _) (by norm_num)) eps_pos

theorem exp_den_ne (x : ℝ) : 1 + Real.exp x ≠ 0 := (by positivity : (0 : ℝ) < 1 + Real.exp x).ne'

end Math

/-! ## The reference's values -/

section Ref

variable {x0 : Vec Ideal S8320x1024 .f32} {x1 : Vec Ideal S1024x5504 .f32} {x2 : Vec Ideal S2752x1024 .f32}
  {x3 : Vec Ideal S1024 .f32} {x5 : Vec Ideal S8320x1024 .f32}
  {H : Fin 8320 → Fin 1024 → ℝ} {P : Fin 1024 → Fin 5504 → ℝ} {Q : Fin 2752 → Fin 1024 → ℝ} {G : Fin 1024 → ℝ}
  {Y : Fin 8320 → Fin 1024 → ℝ}

/-- The gate. -/
theorem ref_v3 (h0 : ∀ r k, x0 (ix2 r k) = H r k) (h1 : ∀ k n, x1 (ix2 k n) = P k n) (r : Fin 8320) (n : Fin 2752) :
    val_main_v3 (F := Ideal) x0 x1 (ix2 r n) = ((gate H P r n : ℝ) : EReal) := by
  pointwise [val_main_v3, val_main_v2]
  simp only [h0, h1, ← EReal.coe_mul, ← coe_sum]
  rfl

/-- The other half. -/
theorem ref_v4 (h0 : ∀ r k, x0 (ix2 r k) = H r k) (h1 : ∀ k n, x1 (ix2 k n) = P k n) (r : Fin 8320) (n : Fin 2752) :
    val_main_v4 (F := Ideal) x0 x1 (ix2 r n) = ((lin H P r n : ℝ) : EReal) := by
  pointwise [val_main_v4, val_main_v2]
  simp only [h0, h1, ← EReal.coe_mul, ← coe_sum]
  rfl

/-- The sigmoid. -/
theorem ref_v5_2 (h0 : ∀ r k, x0 (ix2 r k) = H r k) (h1 : ∀ k n, x1 (ix2 k n) = P k n) (r : Fin 8320) (n : Fin 2752) :
    val_main_v5_2 (F := Ideal) x0 x1 (ix2 r n) = ((sgm H P r n : ℝ) : EReal) := by
  pointwise [val_main_v5_2, val_main_call0_v4, val_main_call0_cst_0, val_main_call0_v3, val_main_call0_v2,
    val_main_call0_cst, val_main_call0_v1, val_main_call0_v0]
  rw [ref_v3 h0 h1, ← EReal.coe_neg, Ideal.exp_coe, ← EReal.coe_one, ← EReal.coe_add, div_real _ (exp_den_ne _)]
  rfl

/-- The sigmoid's slope. -/
theorem ref_v5_1 (h0 : ∀ r k, x0 (ix2 r k) = H r k) (h1 : ∀ k n, x1 (ix2 k n) = P k n) (r : Fin 8320) (n : Fin 2752) :
    val_main_v5_1 (F := Ideal) x0 x1 (ix2 r n) = ((sgm H P r n * (1 - sgm H P r n) : ℝ) : EReal) := by
  pointwise [val_main_v5_1, val_main_call0_v7, val_main_call0_v6, val_main_call0_cst_1]
  rw [ref_v5_2 h0 h1, ← EReal.coe_one, ← EReal.coe_sub, ← EReal.coe_mul]

/-- The gate's value. -/
theorem ref_v5_0 (h0 : ∀ r k, x0 (ix2 r k) = H r k) (h1 : ∀ k n, x1 (ix2 k n) = P k n) (r : Fin 8320) (n : Fin 2752) :
    val_main_v5_0 (F := Ideal) x0 x1 (ix2 r n) = ((gate H P r n * sgm H P r n : ℝ) : EReal) := by
  pointwise [val_main_v5_0]
  rw [ref_v5_2 h0 h1, ref_v3 h0 h1, ← EReal.coe_mul]

/-- The stream. -/
theorem ref_v10 (h0 : ∀ r k, x0 (ix2 r k) = H r k) (h1 : ∀ k n, x1 (ix2 k n) = P k n) (h2 : ∀ n k, x2 (ix2 n k) = Q n k) (r : Fin 8320) (k : Fin 1024) :
    val_main_v10 (F := Ideal) x0 x1 x2 (ix2 r k) = ((strm H P Q r k : ℝ) : EReal) := by
  pointwise [val_main_v10, val_main_v1, val_main_v0, val_main_cst, val_main_v9, val_main_v8, val_main_cst_0,
    val_main_v7, val_main_v6]
  simp only [ref_v5_0 h0 h1, ref_v4 h0 h1, h0, h2, lit_alpha, lit_half, ← EReal.coe_mul, ← coe_sum, ← EReal.coe_add]
  rfl

/-- The centred stream. -/
theorem ref_v25 (h0 : ∀ r k, x0 (ix2 r k) = H r k) (h1 : ∀ k n, x1 (ix2 k n) = P k n) (h2 : ∀ n k, x2 (ix2 n k) = Q n k) (r : Fin 8320) (k : Fin 1024) :
    val_main_v25 (F := Ideal) x0 x1 x2 (ix2 r k) = ((cent H P Q r k : ℝ) : EReal) := by
  pointwise [val_main_v25, val_main_v24, val_main_v14, val_main_v12, val_main_v11, val_main_cst_1, val_main_v13,
    val_main_cst_2]
  simp only [ref_v10 h0 h1 h2, lit_1024, ← coe_sum]
  rw [div_real _ (by norm_num), ← EReal.coe_sub]
  rfl

/-- The centred stream. -/
theorem ref_v16 (h0 : ∀ r k, x0 (ix2 r k) = H r k) (h1 : ∀ k n, x1 (ix2 k n) = P k n) (h2 : ∀ n k, x2 (ix2 n k) = Q n k) (r : Fin 8320) (k : Fin 1024) :
    val_main_v16 (F := Ideal) x0 x1 x2 (ix2 r k) = ((cent H P Q r k : ℝ) : EReal) := by
  pointwise [val_main_v16, val_main_v15, val_main_v14, val_main_v12, val_main_v11, val_main_cst_1, val_main_v13,
    val_main_cst_2]
  simp only [ref_v10 h0 h1 h2, lit_1024, ← coe_sum]
  rw [div_real _ (by norm_num), ← EReal.coe_sub]
  rfl

/-- The variance. -/
theorem ref_v27 (h0 : ∀ r k, x0 (ix2 r k) = H r k) (h1 : ∀ k n, x1 (ix2 k n) = P k n) (h2 : ∀ n k, x2 (ix2 n k) = Q n k) (r : Fin 8320) (k : Fin 1) :
    val_main_v27 (F := Ideal) x0 x1 x2 (ix2 r k) = ((vari H P Q r : ℝ) : EReal) := by
  pointwise [val_main_v27, val_main_v23, val_main_v21, val_main_v20, val_main_v17, val_main_cst_4, val_main_v22,
    val_main_cst_5, val_main_v26, val_main_cst_6]
  simp only [ref_v16 h0 h1 h2, lit_1024, lit_eps, ← EReal.coe_mul, ← coe_sum]
  rw [div_real _ (by norm_num), ← EReal.coe_add]
  rfl

/-- The reciprocal deviation. -/
theorem ref_v28 (h0 : ∀ r k, x0 (ix2 r k) = H r k) (h1 : ∀ k n, x1 (ix2 k n) = P k n) (h2 : ∀ n k, x2 (ix2 n k) = Q n k) (r : Fin 8320) (k : Fin 1) :
    val_main_v28 (F := Ideal) x0 x1 x2 (ix2 r k) = ((rdev H P Q r : ℝ) : EReal) := by
  pointwise [val_main_v28]
  rw [ref_v27 h0 h1 h2, Ideal.rsqrt_coe, if_neg (vari_pos H P Q r).le.not_gt, if_neg (vari_pos H P Q r).ne']
  rfl

/-- The normalised row. -/
theorem ref_v33 (h0 : ∀ r k, x0 (ix2 r k) = H r k) (h1 : ∀ k n, x1 (ix2 k n) = P k n) (h2 : ∀ n k, x2 (ix2 n k) = Q n k) (r : Fin 8320) (k : Fin 1024) :
    val_main_v33 (F := Ideal) x0 x1 x2 (ix2 r k) = ((cent H P Q r k * rdev H P Q r : ℝ) : EReal) := by
  pointwise [val_main_v33, val_main_v32]
  rw [ref_v25 h0 h1 h2, ref_v28 h0 h1 h2, ← EReal.coe_mul]

/-- The root's slope. -/
theorem ref_v31 (h0 : ∀ r k, x0 (ix2 r k) = H r k) (h1 : ∀ k n, x1 (ix2 k n) = P k n) (h2 : ∀ n k, x2 (ix2 n k) = Q n k) (r : Fin 8320) (k : Fin 1) :
    val_main_v31 (F := Ideal) x0 x1 x2 (ix2 r k) = ((-(1 / 2) * (rdev H P Q r / vari H P Q r) : ℝ) : EReal) := by
  pointwise [val_main_v31, val_main_v30, val_main_cst_7, val_main_v29]
  rw [ref_v28 h0 h1 h2, ref_v27 h0 h1 h2, lit_neg_half, div_real _ (vari_pos H P Q r).ne', ← EReal.coe_mul]

/-- The gradient of the stream: the reference's chain through mean and variance, gathered. -/
theorem ref_v73 (h0 : ∀ r k, x0 (ix2 r k) = H r k) (h1 : ∀ k n, x1 (ix2 k n) = P k n) (h2 : ∀ n k, x2 (ix2 n k) = Q n k) (h3 : ∀ k, x3 (ix1 k) = G k) (h5 : ∀ r k, x5 (ix2 r k) = Y r k) (r : Fin 8320) (k : Fin 1024) :
    val_main_v73 (F := Ideal) x0 x1 x2 x3 x5 (ix2 r k) = ((dstrm H P Q G Y r k : ℝ) : EReal) := by
  pointwise [val_main_v73, val_main_v67, val_main_v54, val_main_v48, val_main_v40, val_main_v47, val_main_v34,
    val_main_v53, val_main_v63, val_main_v62, val_main_v61, val_main_v60, val_main_v55, val_main_v52, val_main_v51,
    val_main_v50, val_main_cst_12, val_main_v59, val_main_cst_14, val_main_cst_15, val_main_v19, val_main_v18,
    val_main_cst_3, val_main_v72, val_main_v71, val_main_v70, val_main_v68, val_main_v58, val_main_v57, val_main_v56,
    val_main_cst_13, val_main_v66, val_main_v65, val_main_v64, val_main_cst_16, val_main_v69, val_main_cst_17,
    val_main_cst_18]
  simp only [ref_v25 h0 h1 h2, ref_v16 h0 h1 h2, ref_v28 h0 h1 h2, ref_v31 h0 h1 h2, h3, h5, lit_1024, lit_two,
    div_real _ (by norm_num : (1024 : ℝ) ≠ 0), ← EReal.coe_mul, ← EReal.coe_neg, ← coe_sum, ← EReal.coe_add,
    Finset.univ_unique, Finset.sum_singleton]
  refine congrArg _ ?_
  have e := rows_grad (cent H P Q r) (fun k => Y r k * G k) (vari H P Q r) 1024 (vari_pos H P Q r)
    (by
      have z := centred_sum (strm H P Q r) (by norm_num : ((1024 : ℕ) : ℝ) ≠ 0)
      simp only [Nat.cast_ofNat] at z
      exact z) k
  exact e

/-- The gradient of the other half. -/
theorem ref_v77 (h0 : ∀ r k, x0 (ix2 r k) = H r k) (h1 : ∀ k n, x1 (ix2 k n) = P k n) (h2 : ∀ n k, x2 (ix2 n k) = Q n k) (h3 : ∀ k, x3 (ix1 k) = G k) (h5 : ∀ r k, x5 (ix2 r k) = Y r k) (r : Fin 8320) (n : Fin 2752) :
    val_main_v77 (F := Ideal) x0 x1 x2 x3 x5 (ix2 r n) = ((dlin H P Q G Y r n : ℝ) : EReal) := by
  pointwise [val_main_v77, val_main_v76, val_main_v75, val_main_v74, val_main_cst_19]
  simp only [ref_v73 h0 h1 h2 h3 h5, ref_v5_0 h0 h1, h2, lit_half, ← EReal.coe_mul, ← coe_sum]
  exact congrArg _ (mul_comm _ _)

/-- The gradient of the gate. -/
theorem ref_v79 (h0 : ∀ r k, x0 (ix2 r k) = H r k) (h1 : ∀ k n, x1 (ix2 k n) = P k n) (h2 : ∀ n k, x2 (ix2 n k) = Q n k) (h3 : ∀ k, x3 (ix1 k) = G k) (h5 : ∀ r k, x5 (ix2 r k) = Y r k) (r : Fin 8320) (n : Fin 2752) :
    val_main_v79 (F := Ideal) x0 x1 x2 x3 x5 (ix2 r n) = ((dgate H P Q G Y r n : ℝ) : EReal) := by
  pointwise [val_main_v79, val_main_call1_v1, val_main_v78, val_main_v76, val_main_v75, val_main_v74,
    val_main_cst_19, val_main_call1_v2, val_main_call1_v0]
  simp only [ref_v73 h0 h1 h2 h3 h5, ref_v5_1 h0 h1, ref_v5_2 h0 h1, ref_v3 h0 h1, ref_v4 h0 h1, h2, lit_half,
    ← EReal.coe_mul, ← coe_sum, ← EReal.coe_add]
  refine congrArg _ ?_
  unfold dgate dmid
  ring

/-- The gradient of the half-step's argument. -/
theorem ref_v84 (h0 : ∀ r k, x0 (ix2 r k) = H r k) (h1 : ∀ k n, x1 (ix2 k n) = P k n) (h2 : ∀ n k, x2 (ix2 n k) = Q n k) (h3 : ∀ k, x3 (ix1 k) = G k) (h5 : ∀ r k, x5 (ix2 r k) = Y r k) (r : Fin 8320) (k : Fin 1024) :
    val_main_v84 (F := Ideal) x0 x1 x2 x3 x5 (ix2 r k) = ((dhid H P Q G Y r k : ℝ) : EReal) := by
  pointwise [val_main_v84, val_main_v81, val_main_v80, val_main_v83, val_main_v82, val_main_cst_20]
  simp only [ref_v73 h0 h1 h2 h3 h5, ref_v79 h0 h1 h2 h3 h5, ref_v77 h0 h1 h2 h3 h5, h1, lit_alpha,
    ← EReal.coe_mul, ← coe_sum, ← EReal.coe_add]
  rfl

/-- The gradient of the gain. -/
theorem ref_v49 (h0 : ∀ r k, x0 (ix2 r k) = H r k) (h1 : ∀ k n, x1 (ix2 k n) = P k n) (h2 : ∀ n k, x2 (ix2 n k) = Q n k) (h5 : ∀ r k, x5 (ix2 r k) = Y r k) (k : Fin 1024) :
    val_main_v49 (F := Ideal) x0 x1 x2 x5 (ix1 k) = ((∑ r, Y r k * (cent H P Q r k * rdev H P Q r) : ℝ) : EReal) := by
  pointwise [val_main_v49, val_main_v46, val_main_v45, val_main_v44, val_main_v40, val_main_cst_10, val_main_cst_11]
  simp only [ref_v33 h0 h1 h2, h5, ← EReal.coe_mul, ← coe_sum, Finset.univ_unique, Finset.sum_singleton]
  exact congrArg _ (Finset.sum_congr rfl fun r _ => mul_comm _ _)

/-- The gradient of the bias. -/
theorem ref_v43 (h5 : ∀ r k, x5 (ix2 r k) = Y r k) (k : Fin 1024) :
    val_main_v43 (F := Ideal) x5 (ix1 k) = ((∑ r, Y r k : ℝ) : EReal) := by
  pointwise [val_main_v43, val_main_v42, val_main_v41, val_main_cst_8, val_main_cst_9]
  simp only [h5, ← coe_sum, Finset.univ_unique, Finset.sum_singleton]

end Ref

end Cert.KernelIdeal.Bwd

end

end
-- ==== Proof.Bwd.KernRow.lean ====
module
public import proofs.«01_k».proof.Proof.Bwd.Vals
public import proofs.«01_k».proof.Proof.Bwd.RefRow
public import Idealize.ShloMosaic.Lib.Pointwise
@[expose] public section

set_option maxRecDepth 16384

noncomputable section

namespace Cert.KernelIdeal.Bwd

open Cert.KernelIdeal.Gen
open Idealize.ShloMosaic Idealize.ShloMosaic.TcCoe

/-! # One block of the backward call at real arguments -/

open scoped BigOperators

/-- A sum over a padded block whose second factor is zero on the pad. -/
theorem pad_sum (f g : Fin 1408 → EReal) (a b : Fin 1376 → ℝ) (hf : ∀ q (h : q.val < 1376), f q = a ⟨q, h⟩)
    (hg : ∀ q : Fin 1408, g q = if h : q.val < 1376 then (b ⟨q, h⟩ : EReal) else 0) :
    ∑ q, f q * g q = ((∑ q, a q * b q : ℝ) : EReal) := by
  rw [show (∑ q, f q * g q) = ∑ q : Fin (1376 + 32), f q * g q from rfl, Fin.sum_univ_add, coe_sum]
  have h2 : ∑ i : Fin 32, f (Fin.natAdd 1376 i) * g (Fin.natAdd 1376 i) = 0 := by
    refine Finset.sum_eq_zero fun i _ => ?_
    rw [hg, dif_neg (by simp), mul_zero]
  rw [h2, add_zero]
  refine Finset.sum_congr rfl fun i _ => ?_
  rw [hf _ (by simp), hg, dif_pos (by simp), ← EReal.coe_mul]
  rfl

/-- A sum over the hidden width is the sum over its two halves. -/
theorem half_sum (f : Fin 2752 → ℝ) :
    ∑ n, f n = ∑ q : Fin 1376, f ⟨q, by omega⟩ + ∑ q : Fin 1376, f ⟨1376 + q, by omega⟩ := by
  rw [show (∑ n, f n) = ∑ n : Fin (1376 + 1376), f n from rfl, Fin.sum_univ_add]
  rfl

/-- The sigmoid, as the kernel spells it. -/
theorem sg_at (a : ℝ) : Ideal.div 1 (1 + Ideal.exp (0 - (a : EReal))) = ((1 / (1 + Real.exp (-a)) : ℝ) : EReal) := by
  rw [zero_sub, ← EReal.coe_neg, Ideal.exp_coe, ← EReal.coe_one, ← EReal.coe_add, div_real _ (exp_den_ne _)]

/-! The column and row bounds that the statements below mention. -/
theorem ca0 (q : Fin 1408) : q.val < 5632 := by omega
theorem ca1 (q : Fin 1408) : 1408 + q.val < 5632 := by omega
theorem cu0 (q : Fin 1408) : 2816 + q.val < 5632 := by omega
theorem cu1 (q : Fin 1408) : 4224 + q.val < 5632 := by omega
theorem rw0 (q : Fin 1408) : q.val < 2816 := by omega
theorem rw1 (q : Fin 1408) : 1408 + q.val < 2816 := by omega
theorem lo_lt {n : ℕ} (h : n < 1376) : n < 2752 := by omega
theorem hi_lt {n : ℕ} (h : n < 1376) : 1376 + n < 2752 := by omega
theorem up_lt {n : ℕ} (j : Fin 4) (h : n < 1376) : 1376 * j.val + n < 5504 := by omega

section
variable {x0 x1 : Vec Ideal S320x1024 .f32} {x2 : Vec Ideal S320x1 .f32} {x3 : Vec Ideal S2x1024 .f32}
  {x4 : Vec Ideal S320x5632 .bf16} {w13 : Vec Ideal S4x1408x1024 .bf16} {w2 : Vec Ideal S2816x1024 .bf16}
  {H : Fin 8320 → Fin 1024 → ℝ} {P : Fin 1024 → Fin 5504 → ℝ} {Q : Fin 2752 → Fin 1024 → ℝ} {G : Fin 1024 → ℝ}
  {Y : Fin 8320 → Fin 1024 → ℝ} {r : Fin 8320} {i : Fin 320}
  (h0 : ∀ k, x0 (ix2 i k) = Y r k)
  (h1 : ∀ k, x1 (ix2 i k) = ((cent H P Q r k * rdev H P Q r : ℝ) : EReal))
  (h2 : x2 (ix2 i (0 : Fin 1)) = rdev H P Q r)
  (h3 : ∀ k, x3 (ix2 (0 : Fin 2) k) = G k)
  (ha0 : ∀ q : Fin 1408, x4 (ix2 i (⟨q, ca0 q⟩ : Fin 5632)) = if h : q.val < 1376 then (gate H P r ⟨q, lo_lt h⟩ : EReal) else 0)
  (ha1 : ∀ q : Fin 1408, x4 (ix2 i (⟨1408 + q, ca1 q⟩ : Fin 5632)) = if h : q.val < 1376 then (gate H P r ⟨1376 + q, hi_lt h⟩ : EReal) else 0)
  (hu0 : ∀ q : Fin 1408, x4 (ix2 i (⟨2816 + q, cu0 q⟩ : Fin 5632)) = if h : q.val < 1376 then (lin H P r ⟨q, lo_lt h⟩ : EReal) else 0)
  (hu1 : ∀ q : Fin 1408, x4 (ix2 i (⟨4224 + q, cu1 q⟩ : Fin 5632)) = if h : q.val < 1376 then (lin H P r ⟨1376 + q, hi_lt h⟩ : EReal) else 0)
  (hw : ∀ (j : Fin 4) (q : Fin 1408) (k : Fin 1024), w13 (ix3 j q k) = if h : q.val < 1376 then (P k ⟨1376 * j + q, up_lt j h⟩ : EReal) else 0)
  (hv0 : ∀ (q : Fin 1408) (k : Fin 1024), w2 (ix2 (⟨q, rw0 q⟩ : Fin 2816) k) = if h : q.val < 1376 then (Q ⟨q, lo_lt h⟩ k : EReal) else 0)
  (hv1 : ∀ (q : Fin 1408) (k : Fin 1024), w2 (ix2 (⟨1408 + q, rw1 q⟩ : Fin 2816) k) = if h : q.val < 1376 then (Q ⟨1376 + q, hi_lt h⟩ k : EReal) else 0)

include h0 h1 h2 h3

/-- Half of the stream's gradient. -/
theorem dffn_at (k : Fin 1024) : dffnV x0 x1 x2 x3 (ix2 i k) = ((1 / 2 * dstrm H P Q G Y r k : ℝ) : EReal) := by
  unfold dffnV cnt
  pointwise [k0_pay21, k0_pay20, k0_pay13, k0_pay16, k0_pay17, k0_pay18, k0_pay19]
  simp only [h0, h1, h2, h3, lit_half, lit_1024, ← EReal.coe_mul, ← coe_sum, div_real _ (by norm_num : (1024 : ℝ) ≠ 0), ← EReal.coe_sub]
  rfl

/-- The residual's share. -/
theorem res_at (k : Fin 1024) : resV x0 x1 x2 x3 (ix2 i k) = ((alpha * dstrm H P Q G Y r k : ℝ) : EReal) := by
  unfold resV cnt
  pointwise [k0_pay22, k0_pay20, k0_pay13, k0_pay16, k0_pay17, k0_pay18, k0_pay19]
  simp only [h0, h1, h2, h3, lit_alpha, lit_1024, ← EReal.coe_mul, ← coe_sum, div_real _ (by norm_num : (1024 : ℝ) ≠ 0), ← EReal.coe_sub]
  rfl

include ha0 hv0 hu0 in
/-- A block of the gate's gradient, on its live columns. -/
theorem da0_at (q : Fin 1408) (h : q.val < 1376) : da0 x0 x1 x2 x3 x4 w2 (ix2 i q) = dgate H P Q G Y r ⟨q, by omega⟩ := by
  have hd := fun k => dffn_at h0 h1 h2 h3 k
  unfold dffnV at hd
  unfold da0 dhidu0
  pointwise [k0_pay25, k0_pay31, k0_pay30, k0_pay29, k0_pay28, k0_pay23, k0_pay24]
  simp only [hd, ha0, hv0, hu0, dif_pos h, sg_at]
  simp only [← EReal.coe_mul, ← coe_sum, ← EReal.coe_one, ← EReal.coe_sub, ← EReal.coe_add]
  rfl

include ha0 hv0 in
/-- A block of the other half's gradient, on its live columns. -/
theorem du0_at (q : Fin 1408) (h : q.val < 1376) : du0 x0 x1 x2 x3 x4 w2 (ix2 i q) = dlin H P Q G Y r ⟨q, by omega⟩ := by
  have hd := fun k => dffn_at h0 h1 h2 h3 k
  unfold dffnV at hd
  unfold du0 dhid0
  pointwise [k0_pay26, k0_pay32, k0_pay25, k0_pay28, k0_pay23, k0_pay24]
  simp only [hd, ha0, hv0, dif_pos h, sg_at]
  simp only [← EReal.coe_mul, ← coe_sum]
  rfl

include ha1 hv1 hu1 in
/-- A block of the gate's gradient, on its live columns. -/
theorem da1_at (q : Fin 1408) (h : q.val < 1376) : da1 x0 x1 x2 x3 x4 w2 (ix2 i q) = dgate H P Q G Y r ⟨1376 + q, by omega⟩ := by
  have hd := fun k => dffn_at h0 h1 h2 h3 k
  unfold da1
  pointwise [k0_pay2, k0_pay1, k0_pay34, k0_pay35, k0_pay36]
  simp only [hd, ha1, hv1, hu1, dif_pos h, sg_at]
  simp only [← EReal.coe_mul, ← coe_sum, ← EReal.coe_one, ← EReal.coe_sub, ← EReal.coe_add]
  rfl

include ha1 hv1 in
/-- A block of the other half's gradient, on its live columns. -/
theorem du1_at (q : Fin 1408) (h : q.val < 1376) : du1 x0 x1 x2 x3 x4 w2 (ix2 i q) = dlin H P Q G Y r ⟨1376 + q, by omega⟩ := by
  have hd := fun k => dffn_at h0 h1 h2 h3 k
  unfold du1
  pointwise [k0_pay3, k0_pay1, k0_pay37, k0_pay36, k0_pay34]
  simp only [hd, ha1, hv1, dif_pos h, sg_at]
  simp only [← EReal.coe_mul, ← coe_sum]
  rfl

include ha0 ha1 hu0 hu1 hw hv0 hv1 in
/-- The gradient of the block's input rows. -/
theorem dh_at (k : Fin 1024) : dhV x0 x1 x2 x3 x4 w13 w2 (ix2 i k) = dhid H P Q G Y r k := by
  have e0 := pad_sum (fun q => da0 x0 x1 x2 x3 x4 w2 (ix2 i q)) (fun q => w13 (ix3 (0 : Fin 4) q k)) (fun q => dgate H P Q G Y r ⟨q, by omega⟩)
    (fun q => P k ⟨q, by omega⟩)
    (fun q h => da0_at h0 h1 h2 h3 ha0 hu0 hv0 q h) (fun q => (hw 0 q k).trans (dite_congr rfl
      (fun h => congrArg (fun n => (P k n : EReal)) (Fin.ext (show 1376 * 0 + q.val = _ by dsimp only <;> omega))) fun _ => rfl))
  have e1 := pad_sum (fun q => da1 x0 x1 x2 x3 x4 w2 (ix2 i q)) (fun q => w13 (ix3 (1 : Fin 4) q k)) (fun q => dgate H P Q G Y r ⟨1376 + q, by omega⟩)
    (fun q => P k ⟨1376 + q, by omega⟩)
    (fun q h => da1_at h0 h1 h2 h3 ha1 hu1 hv1 q h) (fun q => (hw 1 q k).trans (dite_congr rfl
      (fun h => congrArg (fun n => (P k n : EReal)) (Fin.ext (show 1376 * 1 + q.val = _ by dsimp only <;> omega))) fun _ => rfl))
  have e2 := pad_sum (fun q => du0 x0 x1 x2 x3 x4 w2 (ix2 i q)) (fun q => w13 (ix3 (2 : Fin 4) q k)) (fun q => dlin H P Q G Y r ⟨q, by omega⟩)
    (fun q => P k ⟨2752 + q, by omega⟩)
    (fun q h => du0_at h0 h1 h2 h3 ha0 hv0 q h) (fun q => (hw 2 q k).trans (dite_congr rfl
      (fun h => congrArg (fun n => (P k n : EReal)) (Fin.ext (show 1376 * 2 + q.val = _ by dsimp only <;> omega))) fun _ => rfl))
  have e3 := pad_sum (fun q => du1 x0 x1 x2 x3 x4 w2 (ix2 i q)) (fun q => w13 (ix3 (3 : Fin 4) q k)) (fun q => dlin H P Q G Y r ⟨1376 + q, by omega⟩)
    (fun q => P k ⟨2752 + (1376 + q), by omega⟩)
    (fun q h => du1_at h0 h1 h2 h3 ha1 hv1 q h) (fun q => (hw 3 q k).trans (dite_congr rfl
      (fun h => congrArg (fun n => (P k n : EReal)) (Fin.ext (show 1376 * 3 + q.val = _ by dsimp only <;> omega))) fun _ => rfl))
  have er := res_at h0 h1 h2 h3 k
  beta_reduce at e0 e1 e2 e3
  unfold da0 at e0
  unfold da1 at e1
  unfold du0 at e2
  unfold du1 at e3
  unfold dhV
  pointwise [k0_pay4, k0_pay33]
  rw [er, e0, e1, e2, e3]
  simp only [← EReal.coe_add]
  refine congrArg _ ?_
  unfold dhid
  rw [half_sum, half_sum]
  ring

end

end Cert.KernelIdeal.Bwd
end
-- ==== Proof.Bwd.AccRow.lean ====
module
public import proofs.«01_k».proof.Proof.Bwd.KernRow
@[expose] public section
@[expose] public section

set_option maxRecDepth 16384

noncomputable section

namespace Cert.KernelIdeal.Bwd

open Cert.KernelIdeal.Gen
open Idealize.ShloMosaic Idealize.ShloMosaic.TcCoe

/-! # One point's share of the gain's and the bias's gradients -/

open scoped BigOperators

section
variable (x0 x1 : Vec Ideal S320x1024 .f32) (A : Vec Ideal S8x1024 .f32)

/-- Row 0: the products of the incoming gradient and the normalised rows are summed over the block. -/
theorem acc_row0 (k : Fin 1024) : accV x0 x1 A (ix2 (0 : Fin 8) k) = A (ix2 0 k) + ∑ i : Fin 320, x0 (ix2 i k) * x1 (ix2 i k) := by
  have e0 : (ix2 (0 : Fin 8) k : S8x1024.Idx) = rC0.emb (ix2 (0 : Fin 1) k) := by
    funext a; refine Fin.ext ?_; fin_cases a <;> simp [ix2]
  unfold accV
  rw [Rect.overlay_of_not_mem]
  · conv_lhs => rw [e0]
    rw [Rect.overlay_emb]
    pointwise [k0_pay14, k0_pay13]
  · rw [← Rect.map_emb_univ]
    intro h
    obtain ⟨y, -, hy⟩ := Finset.mem_map.mp h
    have := congrArg (fun z : S8x1024.Idx => (z 0).val) hy
    simp [ix2] at this

/-- Row 1: the incoming gradient is summed over the block. -/
theorem acc_row1 (k : Fin 1024) : accV x0 x1 A (ix2 (1 : Fin 8) k) = A (ix2 1 k) + ∑ i : Fin 320, x0 (ix2 i k) := by
  have e1 : (ix2 (1 : Fin 8) k : S8x1024.Idx) = rC1.emb (ix2 (0 : Fin 1) k) := by
    funext a; refine Fin.ext ?_; fin_cases a <;> simp [ix2]
  unfold accV
  conv_lhs => rw [e1]
  rw [Rect.overlay_emb]
  pointwise [k0_pay15]
end

/-- The accumulator starts at zero. -/
theorem acc_start (i : Fin 8) (k : Fin 1024) : k0_pay5 (F := Ideal) (ix2 i k) = 0 := by
  pointwise [k0_pay5]

end Cert.KernelIdeal.Bwd
end
-- ==== Proof.Bwd.Entry.lean ====
module
public import proofs.«01_k».proof.Proof.Bwd.Base
public import proofs.«01_k».proof.Proof.Gen.ReferenceIdeal.Read
public import Idealize.ShloMosaic.Lib.Pointwise
public import Idealize.ShloMosaic.Lib.StableHlo.RunRead
@[expose] public section

set_option maxRecDepth 16384

noncomputable section

namespace Cert.KernelIdeal.Bwd

open Cert.KernelIdeal.Gen
open Idealize.ShloMosaic Idealize.ShloMosaic.TcCoe

/-! # What the host prepares for the call

The normalised rows and their reciprocal deviations are the reference's own terms; the remaining arguments are
packings: the two halves of the up projection with idle columns between, gain over bias, and the four weight slots. -/

variable {F : FTy → Type} [FloatOps F]

/-- The two halves of the up projection, each cut in two and followed by idle columns. -/
def packUp (a u : Vec F S8320x2752 .f32) : Vec F S8320x5632 .bf16 :=
  truncf .bf16
    (concatenate S8320x5632 1
      [⟨S8320x1376, extractStridedSlice S8320x1376 ![0, 0] a slices_S8320x2752_S8320x1376_0_0⟩,
        ⟨S8320x32, broadcastInDim S8320x32 ![] bcast_S_S8320x32 (constant S_ .f32 0x00000000#32)⟩,
        ⟨S8320x1376, extractStridedSlice S8320x1376 ![0, 1376] a slices_S8320x2752_S8320x1376_0_1376⟩,
        ⟨S8320x32, broadcastInDim S8320x32 ![] bcast_S_S8320x32 (constant S_ .f32 0x00000000#32)⟩,
        ⟨S8320x1376, extractStridedSlice S8320x1376 ![0, 0] u slices_S8320x2752_S8320x1376_0_0⟩,
        ⟨S8320x32, broadcastInDim S8320x32 ![] bcast_S_S8320x32 (constant S_ .f32 0x00000000#32)⟩,
        ⟨S8320x1376, extractStridedSlice S8320x1376 ![0, 1376] u slices_S8320x2752_S8320x1376_0_1376⟩,
        ⟨S8320x32, broadcastInDim S8320x32 ![] bcast_S_S8320x32 (constant S_ .f32 0x00000000#32)⟩]
      concatenates_S8320x1376_S8320x32_S8320x1376_S8320x32_S8320x1376_S8320x32_S8320x1376_S8320x32_S8320x5632_d1)
    bitsLt_bf16_f32

/-- Gain over bias. -/
def packGb (g b : Vec F S1024 .f32) : Vec F S2x1024 .f32 :=
  concatenate S2x1024 0
    [⟨S1x1024, broadcastInDim S1x1024 ![1] bcast_S1024_S1x1024_1 g⟩, ⟨S1x1024, broadcastInDim S1x1024 ![1] bcast_S1024_S1x1024_1 b⟩]
    concatenates_S1x1024_S1x1024_S2x1024_d0

/-- Weight slot 0: a quarter of the up projection's columns, transposed, above a quarter of the down projection's rows. -/
def packW0 (w13 : Vec F S1024x5504 .f32) (w2 : Vec F S2752x1024 .f32) : Vec F S1x2080x1024 .bf16 :=
  broadcastInDim S1x2080x1024 ![1, 2] bcast_S2080x1024_S1x2080x1024_1_2
    (concatenate S2080x1024 0
      [⟨S1376x1024, transpose S1376x1024 [1, 0]
          (truncf .bf16 (extractStridedSlice S1024x1376 ![0, 0] w13 slices_S1024x5504_S1024x1376_0_0) bitsLt_bf16_f32)
          transposes_S1024x1376_S1376x1024_1_0⟩,
        ⟨S688x1024, truncf .bf16 (extractStridedSlice S688x1024 ![0, 0] w2 slices_S2752x1024_S688x1024_0_0) bitsLt_bf16_f32⟩,
        ⟨S16x1024, broadcastInDim S16x1024 ![] bcast_S_S16x1024 (constant S_ .bf16 0x0000#16)⟩]
      concatenates_S1376x1024_S688x1024_S16x1024_S2080x1024_d0)

/-- Weight slot 1: a quarter of the up projection's columns, transposed, above a quarter of the down projection's rows. -/
def packW1 (w13 : Vec F S1024x5504 .f32) (w2 : Vec F S2752x1024 .f32) : Vec F S1x2080x1024 .bf16 :=
  broadcastInDim S1x2080x1024 ![1, 2] bcast_S2080x1024_S1x2080x1024_1_2
    (concatenate S2080x1024 0
      [⟨S1376x1024, transpose S1376x1024 [1, 0]
          (truncf .bf16 (extractStridedSlice S1024x1376 ![0, 1376] w13 slices_S1024x5504_S1024x1376_0_1376) bitsLt_bf16_f32)
          transposes_S1024x1376_S1376x1024_1_0⟩,
        ⟨S688x1024, truncf .bf16 (extractStridedSlice S688x1024 ![688, 0] w2 slices_S2752x1024_S688x1024_688_0) bitsLt_bf16_f32⟩,
        ⟨S16x1024, broadcastInDim S16x1024 ![] bcast_S_S16x1024 (constant S_ .bf16 0x0000#16)⟩]
      concatenates_S1376x1024_S688x1024_S16x1024_S2080x1024_d0)

/-- Weight slot 2: a quarter of the up projection's columns, transposed, above a quarter of the down projection's rows. -/
def packW2 (w13 : Vec F S1024x5504 .f32) (w2 : Vec F S2752x1024 .f32) : Vec F S1x2080x1024 .bf16 :=
  broadcastInDim S1x2080x1024 ![1, 2] bcast_S2080x1024_S1x2080x1024_1_2
    (concatenate S2080x1024 0
      [⟨S1376x1024, transpose S1376x1024 [1, 0]
          (truncf .bf16 (extractStridedSlice S1024x1376 ![0, 2752] w13 slices_S1024x5504_S1024x1376_0_2752) bitsLt_bf16_f32)
          transposes_S1024x1376_S1376x1024_1_0⟩,
        ⟨S688x1024, truncf .bf16 (extractStridedSlice S688x1024 ![1376, 0] w2 slices_S2752x1024_S688x1024_1376_0) bitsLt_bf16_f32⟩,
        ⟨S16x1024, broadcastInDim S16x1024 ![] bcast_S_S16x1024 (constant S_ .bf16 0x0000#16)⟩]
      concatenates_S1376x1024_S688x1024_S16x1024_S2080x1024_d0)

/-- Weight slot 3: a quarter of the up projection's columns, transposed, above a quarter of the down projection's rows. -/
def packW3 (w13 : Vec F S1024x5504 .f32) (w2 : Vec F S2752x1024 .f32) : Vec F S1x2080x1024 .bf16 :=
  broadcastInDim S1x2080x1024 ![1, 2] bcast_S2080x1024_S1x2080x1024_1_2
    (concatenate S2080x1024 0
      [⟨S1376x1024, transpose S1376x1024 [1, 0]
          (truncf .bf16 (extractStridedSlice S1024x1376 ![0, 4128] w13 slices_S1024x5504_S1024x1376_0_4128) bitsLt_bf16_f32)
          transposes_S1024x1376_S1376x1024_1_0⟩,
        ⟨S688x1024, truncf .bf16 (extractStridedSlice S688x1024 ![2064, 0] w2 slices_S2752x1024_S688x1024_2064_0) bitsLt_bf16_f32⟩,
        ⟨S16x1024, broadcastInDim S16x1024 ![] bcast_S_S16x1024 (constant S_ .bf16 0x0000#16)⟩]
      concatenates_S1376x1024_S688x1024_S16x1024_S2080x1024_d0)

/-- The four weight slots. -/
def packW (w13 : Vec F S1024x5504 .f32) (w2 : Vec F S2752x1024 .f32) : Vec F S4x2080x1024 .bf16 :=
  concatenate S4x2080x1024 0
    [⟨S1x2080x1024, packW0 w13 w2⟩, ⟨S1x2080x1024, packW1 w13 w2⟩, ⟨S1x2080x1024, packW2 w13 w2⟩, ⟨S1x2080x1024, packW3 w13 w2⟩]
    concatenates_S1x2080x1024_S1x2080x1024_S1x2080x1024_S1x2080x1024_S4x2080x1024_d0

variable (m : (ℓ : Loc nD τ sig) → Buf (Elt F) ℓ)

/-- The call's normalised rows are the reference's. -/
theorem V_xo (c : Dev nD) : V m c main_v28 = Cert.ReferenceIdeal.Read.val_main_v33 (F := F)
    (m ((c : Thread nD τ).loc main_arg0)) (m ((c : Thread nD τ).loc main_arg1)) (m ((c : Thread nD τ).loc main_arg2)) := by
  rfl

/-- The call's reciprocal deviations are the reference's. -/
theorem V_rstd (c : Dev nD) : V m c main_v24 = Cert.ReferenceIdeal.Read.val_main_v28 (F := F)
    (m ((c : Thread nD τ).loc main_arg0)) (m ((c : Thread nD τ).loc main_arg1)) (m ((c : Thread nD τ).loc main_arg2)) := by
  rfl

/-- The call's up projections are the reference's, packed. -/
theorem V_au (c : Dev nD) : V m c main_v35 = packUp
    (Cert.ReferenceIdeal.Read.val_main_v3 (F := F) (m ((c : Thread nD τ).loc main_arg0)) (m ((c : Thread nD τ).loc main_arg1)))
    (Cert.ReferenceIdeal.Read.val_main_v4 (F := F) (m ((c : Thread nD τ).loc main_arg0)) (m ((c : Thread nD τ).loc main_arg1))) := by
  rfl

/-- The call's gain and bias. -/
theorem V_gb (c : Dev nD) : V m c main_v38 =
    packGb (F := F) (m ((c : Thread nD τ).loc main_arg3)) (m ((c : Thread nD τ).loc main_arg4)) := by
  rfl

/-- Weight slot 0 of the call. -/
theorem upto_w0 (c : Dev nD) : StableHlo.upto [hostOps0, hostOps0_1, hostOps0_2].flatten (fun b => m (c, b)) 85 (Proc.tc.devRef main_v64) =
    packW0 (F := F) (m ((c : Thread nD τ).loc main_arg1)) (m ((c : Thread nD τ).loc main_arg2)) := by
  after_reads_simp
  unfold packW0
  rfl

/-- Weight slot 1 of the call. -/
theorem upto_w1 (c : Dev nD) : StableHlo.upto [hostOps0, hostOps0_1, hostOps0_2].flatten (fun b => m (c, b)) 85 (Proc.tc.devRef main_v65) =
    packW1 (F := F) (m ((c : Thread nD τ).loc main_arg1)) (m ((c : Thread nD τ).loc main_arg2)) := by
  after_reads_simp
  unfold packW1
  rfl

/-- Weight slot 2 of the call. -/
theorem upto_w2 (c : Dev nD) : StableHlo.upto [hostOps0, hostOps0_1, hostOps0_2].flatten (fun b => m (c, b)) 85 (Proc.tc.devRef main_v66) =
    packW2 (F := F) (m ((c : Thread nD τ).loc main_arg1)) (m ((c : Thread nD τ).loc main_arg2)) := by
  after_reads_simp
  unfold packW2
  rfl

/-- Weight slot 3 of the call. -/
theorem upto_w3 (c : Dev nD) : StableHlo.upto [hostOps0, hostOps0_1, hostOps0_2].flatten (fun b => m (c, b)) 85 (Proc.tc.devRef main_v67) =
    packW3 (F := F) (m ((c : Thread nD τ).loc main_arg1)) (m ((c : Thread nD τ).loc main_arg2)) := by
  after_reads_simp
  unfold packW3
  rfl

/-- The call's weights. -/
theorem V_w (c : Dev nD) : V m c main_v68 =
    packW (F := F) (m ((c : Thread nD τ).loc main_arg1)) (m ((c : Thread nD τ).loc main_arg2)) := by
  show StableHlo.after _ _ _ = _
  after_reads_simp
  show concatenate S4x2080x1024 0
    [⟨S1x2080x1024, StableHlo.upto [hostOps0, hostOps0_1, hostOps0_2].flatten (fun b => m (c, b)) 85 (Proc.tc.devRef main_v64)⟩,
      ⟨S1x2080x1024, StableHlo.upto [hostOps0, hostOps0_1, hostOps0_2].flatten (fun b => m (c, b)) 85 (Proc.tc.devRef main_v65)⟩,
      ⟨S1x2080x1024, StableHlo.upto [hostOps0, hostOps0_1, hostOps0_2].flatten (fun b => m (c, b)) 85 (Proc.tc.devRef main_v66)⟩,
      ⟨S1x2080x1024, StableHlo.upto [hostOps0, hostOps0_1, hostOps0_2].flatten (fun b => m (c, b)) 85 (Proc.tc.devRef main_v67)⟩] _ = _
  rw [upto_w0, upto_w1, upto_w2, upto_w3]
  rfl

end Cert.KernelIdeal.Bwd
end
-- ==== Proof.Bwd.Weights.lean ====
module
public import proofs.«01_k».proof.Proof.Bwd.Entry
public import proofs.«01_k».proof.Proof.Bwd.RunA
public import Idealize.ShloMosaic.Lib.Pointwise
public import Idealize.ShloMosaic.Lib.Pipeline.ValueKit.Tiles
@[expose] public section

set_option maxRecDepth 16384

noncomputable section

namespace Cert.KernelIdeal.Bwd

open Cert.KernelIdeal.Gen
open Idealize.ShloMosaic Idealize.ShloMosaic.TcCoe

/-! # The resident weights and the saved gate halves, entry by entry

Inside each padded block of 1408 columns the first 1376 are the problem's, the last 32 are zero. -/

open scoped BigOperators

section
variable (w13 : Vec Ideal S1024x5504 .f32) (w2 : Vec Ideal S2752x1024 .f32) (a u : Vec Ideal S8320x2752 .f32)
  (g b : Vec Ideal S1024 .f32)

/-- A slot's upper part holds a quarter of the up projection, transposed. -/
theorem packW_up (j : Fin 4) (q : Fin 1376) (k : Fin 1024) :
    packW (F := Ideal) w13 w2 (ix3 j (⟨q, by omega⟩ : Fin 2080) k) = w13 (ix2 k (⟨1376 * j + q, by omega⟩ : Fin 5504)) := by
  unfold packW packW0 packW1 packW2 packW3
  pointwise
  have hj := j.isLt
  have hq := q.isLt
  split_ifs <;> first | omega | (refine congrArg w13 (congrArg (ix2 k) (Fin.ext ?_)); show _ = _; simp; omega)

/-- A slot's lower part holds a quarter of the down projection. -/
theorem packW_down (j : Fin 4) (p : Fin 688) (k : Fin 1024) :
    packW (F := Ideal) w13 w2 (ix3 j (⟨1376 + p, by omega⟩ : Fin 2080) k) = w2 (ix2 (⟨688 * j + p, by omega⟩ : Fin 2752) k) := by
  unfold packW packW0 packW1 packW2 packW3
  pointwise
  have hj := j.isLt
  have hq := p.isLt
  split_ifs <;> first | omega | (refine congrArg w2 (congrArg (ix2 · k) (Fin.ext ?_)); show _ = _; simp; omega)

/-- The idle rows of the first weight are zero. -/
theorem pay7_zero (x : S1x32x1024.Idx) : k0_pay7 (F := Ideal) x = 0 := by
  idx_vars x
  pointwise [k0_pay7, k0_pay6]

/-- The idle rows of the second weight are zero. -/
theorem pay12_zero (x : S32x1024.Idx) : k0_pay12 (F := Ideal) k0_pay6 x = 0 := by
  idx_vars x
  pointwise [k0_pay12, k0_pay6]

/-- A copied piece of the first weight. -/
theorem ld_up (W : Vec Ideal S4x2080x1024 .bf16) (o : ℕ) (hi : ∀ a, (![o, 0, 0] : Fin 3 → ℕ) a + S1x1376x1024.size a ≤ S4x2080x1024.size a)
    (x : S1x1376x1024.Idx) (j : Fin 4) (q : Fin 1376) (k : Fin 1024) (h0 : j.val = o + (x 0).val) (h1 : q.val = (x 1).val)
    (h2 : k.val = (x 2).val) :
    View.ld W (Rect.unit (s := S4x2080x1024) ![o, 0, 0] S1x1376x1024.size hi) x = W (ix3 j (⟨q, by omega⟩ : Fin 2080) k) :=
  View.ld_unit_apply_of W _ _ _ x _ (fun a => match a with
    | ⟨0, _⟩ => h0
    | ⟨1, _⟩ => by show q.val = 0 + (x 1).val; rw [Nat.zero_add]; exact h1
    | ⟨2, _⟩ => by show k.val = 0 + (x 2).val; rw [Nat.zero_add]; exact h2)

/-- Dropping the unit axis. -/
theorem unlead (f : Vec Ideal S1x688x1024 .bf16) (hc : S1x688x1024.ShapeCasts S688x1024) (a : Fin 688) (b : Fin 1024) :
    shapeCast S688x1024 f hc (ix2 a b) = f (ix3 (0 : Fin 1) a b) := by
  pointwise

/-- A copied piece of the second weight. -/
theorem ld_down (W : Vec Ideal S4x2080x1024 .bf16) (o : ℕ) (hi : ∀ a, (![o, 1376, 0] : Fin 3 → ℕ) a + S1x688x1024.size a ≤ S4x2080x1024.size a)
    (hc : S1x688x1024.ShapeCasts S688x1024)
    (x : S688x1024.Idx) (j : Fin 4) (q : Fin 688) (k : Fin 1024) (h0 : j.val = o) (h1 : q.val = (x 0).val)
    (h2 : k.val = (x 1).val) :
    shapeCast S688x1024 (View.ld W (Rect.unit (s := S4x2080x1024) ![o, 1376, 0] S1x688x1024.size hi)) hc x
      = W (ix3 j (⟨1376 + q, by omega⟩ : Fin 2080) k) := by
  obtain ⟨a, b, rfl⟩ : ∃ (a : Fin 688) (b : Fin 1024), x = ix2 a b := ⟨x 0, x 1, by funext i; match i with | ⟨0, _⟩ => rfl | ⟨1, _⟩ => rfl⟩
  rw [unlead]
  exact View.ld_unit_apply_of W _ _ _ _ _ (fun i => match i with
    | ⟨0, _⟩ => by show j.val = o + 0; omega
    | ⟨1, _⟩ => by show 1376 + q.val = 1376 + _; rw [h1]; rfl
    | ⟨2, _⟩ => by show k.val = 0 + _; rw [h2, Nat.zero_add]; rfl)

/-- The resident first weight. -/
theorem W13v_at (j : Fin 4) (q : Fin 1408) (k : Fin 1024) :
    W13v (F := Ideal) (packW w13 w2) (ix3 j q k)
      = if h : q.val < 1376 then w13 (ix2 k (⟨1376 * j + q, by omega⟩ : Fin 5504)) else 0 := by
  unfold W13v
  canon_tiles x h using (View.cover_of_tiledBy (s := S4x1408x1024) _ ![1, 32, 1024] (by sl_kernel_rfl) _)
  all_goals
    change j.val = _ at h0
    change q.val = _ at h1
    change k.val = _ at h2
  all_goals first
    | (rw [dif_neg (by omega)]; exact pay7_zero _)
    | (rw [dif_pos (by omega)]
       exact (ld_up _ _ _ x j ⟨q, by omega⟩ k (by omega) h1 h2).trans (packW_up w13 w2 j ⟨q, by omega⟩ k))

/-- The resident second weight, first half. -/
theorem W2v_at0 (q : Fin 1408) (k : Fin 1024) :
    W2v (F := Ideal) (packW w13 w2) (ix2 (⟨q, by omega⟩ : Fin 2816) k)
      = if h : q.val < 1376 then w2 (ix2 (⟨q, by omega⟩ : Fin 2752) k) else 0 := by
  unfold W2v
  canon_tiles x h using (View.cover_of_tiledBy (s := S2816x1024) _ ![16, 1024] (by sl_kernel_rfl) _)
  all_goals
    change q.val = _ at h0
    change k.val = _ at h1
  · omega
  · rw [dif_neg (by omega)]; exact pay12_zero _
  · omega
  · omega
  · rw [dif_pos (by omega)]
    refine (ld_down _ 1 _ _ x 1 (⟨q - 688, by omega⟩ : Fin 688) k rfl (by dsimp only; omega) h1).trans ((packW_down w13 w2 1 _ k).trans ?_)
    refine congrArg w2 (congrArg (ix2 · k) (Fin.ext ?_))
    show 688 * 1 + (q.val - 688) = q.val; omega
  · rw [dif_pos (by omega)]
    refine (ld_down _ 0 _ _ x 0 (⟨q, by omega⟩ : Fin 688) k rfl (by dsimp only; omega) h1).trans ((packW_down w13 w2 0 _ k).trans ?_)
    refine congrArg w2 (congrArg (ix2 · k) (Fin.ext ?_))
    show 688 * 0 + q.val = q.val; omega

/-- The resident second weight, second half. -/
theorem W2v_at1 (q : Fin 1408) (k : Fin 1024) :
    W2v (F := Ideal) (packW w13 w2) (ix2 (⟨1408 + q, by omega⟩ : Fin 2816) k)
      = if h : q.val < 1376 then w2 (ix2 (⟨1376 + q, by omega⟩ : Fin 2752) k) else 0 := by
  unfold W2v
  canon_tiles x h using (View.cover_of_tiledBy (s := S2816x1024) _ ![16, 1024] (by sl_kernel_rfl) _)
  all_goals
    change 1408 + q.val = _ at h0
    change k.val = _ at h1
  · rw [dif_neg (by omega)]; exact pay12_zero _
  · omega
  · rw [dif_pos (by omega)]
    refine (ld_down _ 3 _ _ x 3 (⟨q - 688, by omega⟩ : Fin 688) k rfl (by dsimp only; omega) h1).trans ((packW_down w13 w2 3 _ k).trans ?_)
    refine congrArg w2 (congrArg (ix2 · k) (Fin.ext ?_))
    show 688 * 3 + (q.val - 688) = 1376 + q.val; omega
  · rw [dif_pos (by omega)]
    refine (ld_down _ 2 _ _ x 2 (⟨q, by omega⟩ : Fin 688) k rfl (by dsimp only; omega) h1).trans ((packW_down w13 w2 2 _ k).trans ?_)
    refine congrArg w2 (congrArg (ix2 · k) (Fin.ext ?_))
    show 688 * 2 + q.val = 1376 + q.val; omega
  · omega
  · omega

/-- The saved halves: the gate's first block of columns. -/
theorem packUp_a0 (r : Fin 8320) (q : Fin 1408) :
    packUp (F := Ideal) a u (ix2 r (⟨q, by omega⟩ : Fin 5632)) = if h : q.val < 1376 then a (ix2 r (⟨q, by omega⟩ : Fin 2752)) else 0 := by
  unfold packUp
  pointwise
  have hq := q.isLt
  by_cases h : q.val < 1376
  · rw [dif_pos h]
    split_ifs <;> first | omega | (refine congrArg a (congrArg (ix2 r) (Fin.ext ?_)); simp <;> omega)
  · rw [dif_neg h]
    split_ifs <;> first | omega | rfl

/-- The gate's second block. -/
theorem packUp_a1 (r : Fin 8320) (q : Fin 1408) :
    packUp (F := Ideal) a u (ix2 r (⟨1408 + q, by omega⟩ : Fin 5632))
      = if h : q.val < 1376 then a (ix2 r (⟨1376 + q, by omega⟩ : Fin 2752)) else 0 := by
  unfold packUp
  pointwise
  have hq := q.isLt
  by_cases h : q.val < 1376
  · rw [dif_pos h]
    split_ifs <;> first | omega | (refine congrArg a (congrArg (ix2 r) (Fin.ext ?_)); simp <;> omega)
  · rw [dif_neg h]
    split_ifs <;> first | omega | rfl

/-- The other half's first block. -/
theorem packUp_u0 (r : Fin 8320) (q : Fin 1408) :
    packUp (F := Ideal) a u (ix2 r (⟨2816 + q, by omega⟩ : Fin 5632)) = if h : q.val < 1376 then u (ix2 r (⟨q, by omega⟩ : Fin 2752)) else 0 := by
  unfold packUp
  pointwise
  have hq := q.isLt
  by_cases h : q.val < 1376
  · rw [dif_pos h]
    split_ifs <;> first | omega | (refine congrArg u (congrArg (ix2 r) (Fin.ext ?_)); simp <;> omega)
  · rw [dif_neg h]
    split_ifs <;> first | omega | rfl

/-- The other half's second block. -/
theorem packUp_u1 (r : Fin 8320) (q : Fin 1408) :
    packUp (F := Ideal) a u (ix2 r (⟨4224 + q, by omega⟩ : Fin 5632))
      = if h : q.val < 1376 then u (ix2 r (⟨1376 + q, by omega⟩ : Fin 2752)) else 0 := by
  unfold packUp
  pointwise
  have hq := q.isLt
  by_cases h : q.val < 1376
  · rw [dif_pos h]
    split_ifs <;> first | omega | (refine congrArg u (congrArg (ix2 r) (Fin.ext ?_)); simp <;> omega)
  · rw [dif_neg h]
    split_ifs <;> first | omega | rfl

/-- The gain's row. -/
theorem packGb_gain (k : Fin 1024) : packGb (F := Ideal) g b (ix2 (0 : Fin 2) k) = g (ix1 k) := by
  unfold packGb
  pointwise

end

end Cert.KernelIdeal.Bwd
end
-- ==== Proof.Bwd.Arrays.lean ====
module
public import proofs.«01_k».proof.Proof.Bwd.Blocks
public import proofs.«01_k».proof.Proof.Bwd.AccRow
public import proofs.«01_k».proof.Proof.Bwd.Entry
public import proofs.«01_k».proof.Proof.Bwd.Weights
@[expose] public section
@[expose] public section

set_option maxRecDepth 16384

noncomputable section

namespace Cert.KernelIdeal.Bwd

open Cert.KernelIdeal.Gen
open Idealize.ShloMosaic Idealize.ShloMosaic.TcCoe

/-! # The arrays the grid leaves, at real arguments -/

open scoped BigOperators

/-- A sum over all rows, point by point. -/
theorem sum_rows (f : Fin 8320 → ℝ) : ∑ j ∈ Finset.range 26, ∑ i : Fin 320, f (row (pt j) i) = ∑ r, f r := by
  rw [Finset.sum_range, ← Fintype.sum_prod_type' (fun (t : Fin 26) (i : Fin 320) => f (row (pt t.val) i))]
  refine Fintype.sum_equiv (finProdFinEquiv (m := 26) (n := 320)) _ _ fun x => congrArg f (Fin.ext ?_)
  have := x.1.isLt
  show 320 * (x.1.val % 26) + x.2.val = x.2.val + 320 * x.1.val
  omega

variable (m : (ℓ : Loc nD τ sig) → Buf (Elt Ideal) ℓ) (c : Dev nD)
variable {H : Fin 8320 → Fin 1024 → ℝ} {P : Fin 1024 → Fin 5504 → ℝ} {Q : Fin 2752 → Fin 1024 → ℝ} {G : Fin 1024 → ℝ}
  {Y : Fin 8320 → Fin 1024 → ℝ}
  (h0 : ∀ r k, @Eq EReal ((m ((c : Thread nD τ).loc main_arg0) : Vec Ideal S8320x1024 .f32) (ix2 r k)) (H r k : ℝ))
  (h1 : ∀ k n, @Eq EReal ((m ((c : Thread nD τ).loc main_arg1) : Vec Ideal S1024x5504 .f32) (ix2 k n)) (P k n : ℝ))
  (h2 : ∀ n k, @Eq EReal ((m ((c : Thread nD τ).loc main_arg2) : Vec Ideal S2752x1024 .f32) (ix2 n k)) (Q n k : ℝ))
  (h3 : ∀ k, @Eq EReal ((m ((c : Thread nD τ).loc main_arg3) : Vec Ideal S1024 .f32) (ix1 k)) (G k : ℝ))
  (h5 : ∀ r k, @Eq EReal ((m ((c : Thread nD τ).loc main_arg5) : Vec Ideal S8320x1024 .f32) (ix2 r k)) (Y r k : ℝ))

include h5 in
/-- The incoming gradient's block. -/
theorem blk0 (t : Fin cfg0.N) (i : Fin 320) (k : Fin 1024) : X0 m c t (ix2 i k) = Y (row t i) k := by
  rw [X0_at, V_main_arg5]; exact h5 _ _

include h0 h1 h2 in
/-- The normalised rows' block. -/
theorem blk1 (t : Fin cfg0.N) (i : Fin 320) (k : Fin 1024) :
    X1 m c t (ix2 i k) = ((cent H P Q (row t i) k * rdev H P Q (row t i) : ℝ) : EReal) := by
  rw [X1_at, V_xo]; exact ref_v33 h0 h1 h2 _ _

include h0 h1 h2 in
/-- The reciprocal deviations' block. -/
theorem blk2 (t : Fin cfg0.N) (i : Fin 320) : X2 m c t (ix2 i (0 : Fin 1)) = rdev H P Q (row t i) := by
  rw [X2_at, V_rstd]; exact ref_v28 h0 h1 h2 _ _

include h3 in
/-- The gain's row. -/
theorem blk3 (t : Fin cfg0.N) (k : Fin 1024) : X3 m c t (ix2 (0 : Fin 2) k) = G k := by
  rw [X3_at, V_gb, packGb_gain]; exact h3 _

include h0 h1 h2 h3 h5 in
/-- The input's gradient, at a point's block. -/
theorem blk5 (t : Fin cfg0.N) (i : Fin 320) (k : Fin 1024) :
    D5 m c t (ix2 i k) = ((dhid H P Q G Y (row t i) k : ℝ) : EReal) := by
  have a3 := fun r n => ref_v3 h0 h1 r n
  have a4 := fun r n => ref_v4 h0 h1 r n
  refine dh_at (r := row t i) (blk0 m c h5 t i) (blk1 m c h0 h1 h2 t i) (blk2 m c h0 h1 h2 t i) (blk3 m c h3 t)
    (fun q => ?_) (fun q => ?_) (fun q => ?_) (fun q => ?_) (fun j q k => ?_) (fun q k => ?_) (fun q k => ?_) k
  · rw [X4_at, V_au, packUp_a0]; simp only [a3]
  · rw [X4_at, V_au, packUp_a1]; simp only [a3]
  · rw [X4_at, V_au, packUp_u0]; simp only [a4]
  · rw [X4_at, V_au, packUp_u1]; simp only [a4]
  · unfold Y1; rw [V_w, W13v_at]; exact dite_congr rfl (fun h => h1 _ _) fun _ => rfl
  · unfold Y2; rw [V_w, W2v_at0]; exact dite_congr rfl (fun h => h2 _ _) fun _ => rfl
  · unfold Y2; rw [V_w, W2v_at1]; exact dite_congr rfl (fun h => h2 _ _) fun _ => rfl

include h0 h1 h2 h3 h5 in
/-- The input's gradient, whole. -/
theorem out5 : (dats m 0 c).arrAt 5 cfg0.N = (fun x : S8320x1024.Idx => ((dhid H P Q G Y (x 0) (x 1) : ℝ) : EReal)) := by
  refine (dats m 0 c).arrAt_eq_of_covers 5 _ (by decide +kernel) fun t hf y => ?_
  have e := (idx t).2.2.2.2.2.1
  blk_simp [e]
  rw [after0_5]
  have hy : (win0_5.blk t).view.emb y = ix2 (row t (y 0)) (y 1) := by
    unfold row
    blk_ext [e]
  rw [hy]
  refine Eq.trans ?_ (blk5 m c h0 h1 h2 h3 h5 t (y 0) (y 1))
  refine congrArg (D5 m c t) ?_
  funext a; fin_cases a <;> rfl

include h0 h1 h2 h5 in
/-- The gain's partial sums. -/
theorem acc0 (n : ℕ) (k : Fin 1024) : accN m c n (ix2 (0 : Fin 8) k)
    = ((∑ j ∈ Finset.range (n + 1), ∑ i : Fin 320, Y (row (pt j) i) k * (cent H P Q (row (pt j) i) k * rdev H P Q (row (pt j) i)) : ℝ) : EReal) := by
  induction n with
  | zero =>
    unfold accN
    rw [acc_row0, acc_start, zero_add]
    rw [Finset.sum_range_one]
    simp only [blk0 m c h5, blk1 m c h0 h1 h2, ← EReal.coe_mul, ← coe_sum]
  | succ n ih =>
    unfold accN
    rw [acc_row0, ih, Finset.sum_range_succ _ (n + 1), EReal.coe_add]
    simp only [blk0 m c h5, blk1 m c h0 h1 h2, ← EReal.coe_mul, ← coe_sum]

include h5 in
/-- The bias's partial sums. -/
theorem acc1 (n : ℕ) (k : Fin 1024) : accN m c n (ix2 (1 : Fin 8) k)
    = ((∑ j ∈ Finset.range (n + 1), ∑ i : Fin 320, Y (row (pt j) i) k : ℝ) : EReal) := by
  induction n with
  | zero =>
    unfold accN
    rw [acc_row1, acc_start, zero_add]
    rw [Finset.sum_range_one]
    simp only [blk0 m c h5, ← coe_sum]
  | succ n ih =>
    unfold accN
    rw [acc_row1, ih, Finset.sum_range_succ _ (n + 1), EReal.coe_add]
    simp only [blk0 m c h5, ← coe_sum]

/-- The accumulator's array after the last point. -/
theorem out9 : (dats m 0 c).arrAt 9 cfg0.N = accN m c 25 := by
  refine (dats m 0 c).arrAt_eq_of_after_last 9 (pt 25) (by decide +kernel) _ fun j => ?_
  blk_simp
  rw [after0_9]
  rfl

include h0 h1 h2 h5 in
/-- The gain's gradient. -/
theorem out9_gain (k : Fin 1024) : (dats m 0 c).arrAt 9 cfg0.N (ix2 (0 : Fin 8) k)
    = ((∑ r, Y r k * (cent H P Q r k * rdev H P Q r) : ℝ) : EReal) := by
  rw [out9, acc0 m c h0 h1 h2 h5, sum_rows (fun r => Y r k * (cent H P Q r k * rdev H P Q r))]

include h5 in
/-- The bias's gradient. -/
theorem out9_bias (k : Fin 1024) : (dats m 0 c).arrAt 9 cfg0.N (ix2 (1 : Fin 8) k) = ((∑ r, Y r k : ℝ) : EReal) := by
  rw [out9, acc1 m c h5, sum_rows (fun r => Y r k)]

end Cert.KernelIdeal.Bwd
end
-- ==== Proof.Bwd.Results.lean ====
module
public import proofs.«01_k».proof.Proof.Bwd.Arrays
public import proofs.«01_k».proof.Proof.Bwd.Ends
public import proofs.«01_k».proof.Proof.Gen.ReferenceIdeal.Run
public import Idealize.ShloMosaic.Lib.StableHlo.RunRead
@[expose] public section
@[expose] public section

set_option maxRecDepth 16384

noncomputable section

namespace Cert.KernelIdeal.Bwd

open Cert.KernelIdeal.Gen
open Idealize.ShloMosaic Idealize.ShloMosaic.TcCoe

/-! # The results of both programs at real arguments -/

open scoped BigOperators

section
variable (H : Fin 8320 → Fin 1024 → ℝ) (P : Fin 1024 → Fin 5504 → ℝ) (Q : Fin 2752 → Fin 1024 → ℝ) (G : Fin 1024 → ℝ)
  (Y : Fin 8320 → Fin 1024 → ℝ)

/-- The gradient of the half-step's argument. -/
def gArg : Vec Ideal S8320x1024 .f32 := fun x : S8320x1024.Idx => ((dhid H P Q G Y (x 0) (x 1) : ℝ) : EReal)
/-- The gradient of the gain. -/
def gGain : Vec Ideal S1024 .f32 :=
  fun x : S1024.Idx => ((∑ r, Y r (x 0) * (cent H P Q r (x 0) * rdev H P Q r) : ℝ) : EReal)
/-- The gradient of the bias. -/
def gBias : Vec Ideal S1024 .f32 := fun x : S1024.Idx => ((∑ r, Y r (x 0) : ℝ) : EReal)
end

section
variable (m : (ℓ : Loc nD τ sig) → Buf (Elt Ideal) ℓ) (c : Dev nD)

/-- The gain's result is row 0 of the accumulator's array. -/
theorem W_gain (k : Fin 1024) :
    (Pipeline.afterTail₀ cfgs (dats m) 0 (V0 m) [hostOps1] c main_v71 : Vec Ideal S1024 .f32) (ix1 k)
      = (dats m 0 c).arrAt 9 cfg0.N (ix2 (0 : Fin 8) k) := by
  have e := Pipeline.withArrays_arr spec0 (by decide) c (V0 m c) (fun w => (dats m 0 c).arrAt w cfg0.N) 9
  unfold Pipeline.afterTail₀
  simp only [List.flatten_cons, List.flatten_nil, List.append_nil]
  after_reads_simp
  refine (congrArg (fun A : Vec Ideal S8x1024 .f32 =>
    shapeCast S1024 (extractStridedSlice S1x1024 ![0, 0] A slices_S8x1024_S1x1024_0_0) shapeCasts_S1x1024_S1024 (ix1 k)) e).trans ?_
  pointwise

/-- The bias's result is row 1. -/
theorem W_bias (k : Fin 1024) :
    (Pipeline.afterTail₀ cfgs (dats m) 0 (V0 m) [hostOps1] c main_v73 : Vec Ideal S1024 .f32) (ix1 k)
      = (dats m 0 c).arrAt 9 cfg0.N (ix2 (1 : Fin 8) k) := by
  have e := Pipeline.withArrays_arr spec0 (by decide) c (V0 m c) (fun w => (dats m 0 c).arrAt w cfg0.N) 9
  unfold Pipeline.afterTail₀
  simp only [List.flatten_cons, List.flatten_nil, List.append_nil]
  after_reads_simp
  refine (congrArg (fun A : Vec Ideal S8x1024 .f32 =>
    shapeCast S1024 (extractStridedSlice S1x1024 ![1, 0] A slices_S8x1024_S1x1024_1_0) shapeCasts_S1x1024_S1024 (ix1 k)) e).trans ?_
  pointwise

end
section
variable (H : Dev nD → Fin 8320 → Fin 1024 → ℝ) (P : Dev nD → Fin 1024 → Fin 5504 → ℝ) (Q : Dev nD → Fin 2752 → Fin 1024 → ℝ)
  (G : Dev nD → Fin 1024 → ℝ) (Y : Dev nD → Fin 8320 → Fin 1024 → ℝ)

/-- Every run of the kernel program ends with the three gradients. -/
theorem run_kernel (m : (ℓ : Loc nD τ sig) → Buf (Elt Ideal) ℓ) (ρ : Dev nD → PrngReg)
  (h0 : ∀ c r k, @Eq EReal ((m ((c.tc : Thread nD τ).loc main_arg0) : Vec Ideal S8320x1024 .f32) (ix2 r k)) (H c r k : ℝ))
  (h1 : ∀ c k n, @Eq EReal ((m ((c.tc : Thread nD τ).loc main_arg1) : Vec Ideal S1024x5504 .f32) (ix2 k n)) (P c k n : ℝ))
  (h2 : ∀ c n k, @Eq EReal ((m ((c.tc : Thread nD τ).loc main_arg2) : Vec Ideal S2752x1024 .f32) (ix2 n k)) (Q c n k : ℝ))
  (h3 : ∀ c k, @Eq EReal ((m ((c.tc : Thread nD τ).loc main_arg3) : Vec Ideal S1024 .f32) (ix1 k)) (G c k : ℝ))
  (h5 : ∀ c r k, @Eq EReal ((m ((c.tc : Thread nD τ).loc main_arg5) : Vec Ideal S8320x1024 .f32) (ix2 r k)) (Y c r k : ℝ))
    : θ_run defs (onTc (τ := τ) (main (F := Ideal))) ⟨m, fun _ => 0, ρ⟩ (fun r => ∀ c : Dev nD,
      r.2.mem ((c.tc : Thread nD τ).loc main_v69_0) = gArg (H c) (P c) (Q c) (G c) (Y c)
      ∧ r.2.mem ((c.tc : Thread nD τ).loc main_v71) = gGain (H c) (P c) (Q c) (Y c)
      ∧ r.2.mem ((c.tc : Thread nD τ).loc main_v73) = gBias (Y c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ⟨?_, ?_, ?_, unchanged m h.1 c⟩) (run_main m ρ)
  · exact ((h.1 c).1 5).trans (out5 m c (h0 c) (h1 c) (h2 c) (h3 c) (h5 c))
  · refine ((h.1 c).2 main_v71 (Pipeline.mem_restRefs_of main_v71 (by decide) (by decide))).trans ?_
    funext x; idx_vars x
    exact (W_gain m c _).trans (out9_gain m c (h0 c) (h1 c) (h2 c) (h5 c) _)
  · refine ((h.1 c).2 main_v73 (Pipeline.mem_restRefs_of main_v73 (by decide) (by decide))).trans ?_
    funext x; idx_vars x
    exact (W_bias m c _).trans (out9_bias m c (h5 c) _)

/-- Every run of the reference ends with the same three gradients. -/
theorem run_reference (m : (ℓ : Loc Cert.ReferenceIdeal.nD Cert.ReferenceIdeal.τ Cert.ReferenceIdeal.sig) → Buf (Elt Ideal) ℓ) (ρ : Dev Cert.ReferenceIdeal.nD → PrngReg)
  (h0 : ∀ c r k, @Eq EReal ((m ((c.tc : Thread Cert.ReferenceIdeal.nD Cert.ReferenceIdeal.τ).loc Cert.ReferenceIdeal.main_arg0) : Vec Ideal S8320x1024 .f32) (ix2 r k)) (H c r k : ℝ))
  (h1 : ∀ c k n, @Eq EReal ((m ((c.tc : Thread Cert.ReferenceIdeal.nD Cert.ReferenceIdeal.τ).loc Cert.ReferenceIdeal.main_arg1) : Vec Ideal S1024x5504 .f32) (ix2 k n)) (P c k n : ℝ))
  (h2 : ∀ c n k, @Eq EReal ((m ((c.tc : Thread Cert.ReferenceIdeal.nD Cert.ReferenceIdeal.τ).loc Cert.ReferenceIdeal.main_arg2) : Vec Ideal S2752x1024 .f32) (ix2 n k)) (Q c n k : ℝ))
  (h3 : ∀ c k, @Eq EReal ((m ((c.tc : Thread Cert.ReferenceIdeal.nD Cert.ReferenceIdeal.τ).loc Cert.ReferenceIdeal.main_arg3) : Vec Ideal S1024 .f32) (ix1 k)) (G c k : ℝ))
  (h5 : ∀ c r k, @Eq EReal ((m ((c.tc : Thread Cert.ReferenceIdeal.nD Cert.ReferenceIdeal.τ).loc Cert.ReferenceIdeal.main_arg5) : Vec Ideal S8320x1024 .f32) (ix2 r k)) (Y c r k : ℝ))
    : θ_run Cert.ReferenceIdeal.defs (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v84) = gArg (H c) (P c) (Q c) (G c) (Y c)
      ∧ r.2.mem ((c.tc : Thread Cert.ReferenceIdeal.nD Cert.ReferenceIdeal.τ).loc Cert.ReferenceIdeal.main_v49) = gGain (H c) (P c) (Q c) (Y c)
      ∧ r.2.mem ((c.tc : Thread Cert.ReferenceIdeal.nD Cert.ReferenceIdeal.τ).loc Cert.ReferenceIdeal.main_v43) = gBias (Y c)
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)) := by
  refine (θ_run Cert.ReferenceIdeal.defs _ _).mono (fun r h c => ?_) (Cert.ReferenceIdeal.Value.run m ρ)
  obtain ⟨e0, e1, e2, ea⟩ := h c
  refine ⟨e0.trans ?_, e1.trans ?_, e2.trans ?_, ea⟩
  · refine (Cert.ReferenceIdeal.Read.val_main_v84_eq _).trans ?_
    funext x; idx_vars x
    exact ref_v84 (h0 c) (h1 c) (h2 c) (h3 c) (h5 c) _ _
  · refine (Cert.ReferenceIdeal.Read.val_main_v49_eq _).trans ?_
    funext x; idx_vars x
    exact ref_v49 (h0 c) (h1 c) (h2 c) (h5 c) _
  · refine (Cert.ReferenceIdeal.Read.val_main_v43_eq _).trans ?_
    funext x; idx_vars x
    exact ref_v43 (h5 c) _
end

end Cert.KernelIdeal.Bwd
end
-- ==== Proof.Fwd.Base.lean ====
/-
The forward call of a macaron half-step: the set-up its run is stated over. The host lines around the call, the
contents of the arrays when the call starts, the blocks of the windows, the branch of the body that loads the weights,
and the invariant of a body with transfers of its own, conjunct by conjunct.
-/
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel2Ideal.Fwd

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation after the region writes `main_arg1`: it ends as launched. -/
theorem W_main_arg1 (dats : (p : Fin _) → (c : Dev nD) → Dat τ (Elt F) Unit ℕ (Pipeline.UD sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (dats : (p : Fin _) → (c : Dev nD) → Dat τ (Elt F) Unit ℕ (Pipeline.UD sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (dats : (p : Fin _) → (c : Dev nD) → Dat τ (Elt F) Unit ℕ (Pipeline.UD sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg4`: it ends as launched. -/
theorem W_main_arg4 (dats : (p : Fin _) → (c : Dev nD) → Dat τ (Elt F) Unit ℕ (Pipeline.UD sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 13 = 0 :=
  (fun t => by
    have ht : t.val < 13 := Nat.lt_of_lt_of_eq t.isLt N_0
    have e0 : (grid0.coords t 0).val = t.val / 1 % 13 := Pipeline.Grid.coords_val t 0 (by decide) rfl
    simp only [cond0_0, e0]
    word_cmp
   : ∀ t : Fin grid0.N, cond0_0 (grid0.coords t) ↔ t.val % 13 = 0)

/-! ## The kernel body on any staging memrefs: a subtype the run finds -/

/-- Each window's current staging memref at point `t`, spelled as the pipeline passes it (`bodyAt0`), and its wholeness. -/
abbrev ms0_0 (t : Fin cfg0.N) : Memref sig .tc .vmem S640x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S640x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S640x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S640x5632 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S640x1024 .bf16 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S4x1408x1024 .bf16 := Memref.whole cc0_scratch0
abbrev scM0_1 : Memref sig .tc .vmem S2816x1024 .bf16 := Memref.whole cc0_scratch1
/-- The operands left in HBM that the body copies into scratch itself, whole. -/
abbrev hbM0_0 : Memref sig .tc .hbm S4x2080x1024 .bf16 := Memref.whole main_v32
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 8 → SemLoc sig := fun j => (![SemLoc.dma 11, SemLoc.dma 12, SemLoc.dma 13, SemLoc.dma 14, SemLoc.dma 15, SemLoc.dma 16, SemLoc.dma 17, SemLoc.dma 18] : Fin 8 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0) := by
  rw [Pipeline.ownSems0_eq_of_list c osem0 [0, 1, 2, 3, 4, 5, 6, 7] (by decide) (by decide)]; rfl
/-- The HBM operands the body moves, as references: unscoped, no window's array (`Pipeline.restRefs`). -/
def H0 : Finset (Ref sig .tc) := {main_v32}
theorem H0_sub : H0 ⊆ Pipeline.restRefs sig spec0 := by decide
/-- The lines after the region touch none of the operands the body moves: each operation's buffers are unscoped
    TensorCore references, none of them in `H0` (`Pipeline.sub_tailRefsBut`). -/
theorem sfx_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  · refine Pipeline.sub_tailRefsBut Pipeline.Prefetch.none spec0 H0 op ((List.forall_iff_forall_mem.mp hostOps1_sub) op hop) (fun j => j.elim0) ?_
    simp only [hostOps1, List.mem_cons, List.mem_nil_iff, or_false] at hop
    rcases hop with rfl | rfl | rfl | rfl | rfl | rfl | rfl | rfl | rfl
    all_goals intro b hb; simp only [H0, Finset.mem_insert, Finset.mem_singleton] at hb
    all_goals rcases hb with rfl <;>
      simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_v32)) := by
  rw [BI.bigSep_eq_bigSepL_of_eq [main_v32] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0) ∗ iprop(hbPt0 c hbM0_0 (V m c main_v32))) := by
  rw [Pipeline.ΦD_eq, scopedRest0_eq, ownSems00_eq, hbmPts0_eq]; simp only [scM0_0, scM0_1, owns_whole]; try rfl

end Cert.Kernel2Ideal.Fwd

end
-- ==== Proof.Fwd.Vals.lean ====
module
public import proofs.«01_k».proof.Proof.Fwd.Base
@[expose] public section

set_option maxRecDepth 16384

noncomputable section

namespace Cert.Kernel2Ideal.Fwd

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! What one grid point of the forward call writes, as functions of what it reads: the block of normalised rows `x0`,
gain and bias `x1`, and the two resident weights `w13`, `w2`. -/

/-- The whole 640×1024 block. -/
abbrev rX : Rect S640x1024 := Rect.unit (s := S640x1024) ![0, 0] S640x1024.size inb_S640x1024_S640x1024_0_0
/-- The gain's and the bias's row. -/
abbrev rG : Rect S2x1024 := Rect.unit (s := S2x1024) ![0, 0] S1x1024.size inb_S2x1024_S1x1024_0_0
abbrev rB : Rect S2x1024 := Rect.unit (s := S2x1024) ![1, 0] S1x1024.size inb_S2x1024_S1x1024_1_0
/-- The up projection's four column blocks. -/
abbrev rA0 : Rect S640x5632 := Rect.unit (s := S640x5632) ![0, 0] S640x1408.size inb_S640x5632_S640x1408_0_0
abbrev rA1 : Rect S640x5632 := Rect.unit (s := S640x5632) ![0, 1408] S640x1408.size inb_S640x5632_S640x1408_0_1408
abbrev rU0 : Rect S640x5632 := Rect.unit (s := S640x5632) ![0, 2816] S640x1408.size inb_S640x5632_S640x1408_0_2816
abbrev rU1 : Rect S640x5632 := Rect.unit (s := S640x5632) ![0, 4224] S640x1408.size inb_S640x5632_S640x1408_0_4224
/-- The second weight's two row blocks. -/
abbrev rW0 : Rect S2816x1024 := Rect.unit (s := S2816x1024) ![0, 0] S1408x1024.size inb_S2816x1024_S1408x1024_0_0
abbrev rW1 : Rect S2816x1024 := Rect.unit (s := S2816x1024) ![1408, 0] S1408x1024.size inb_S2816x1024_S1408x1024_1408_0
/-- The first weight's four slots. -/
abbrev rV0 : Rect S4x1408x1024 := Rect.unit (s := S4x1408x1024) ![0, 0, 0] S1x1408x1024.size inb_S4x1408x1024_S1x1408x1024_0_0_0
abbrev rV1 : Rect S4x1408x1024 := Rect.unit (s := S4x1408x1024) ![1, 0, 0] S1x1408x1024.size inb_S4x1408x1024_S1x1408x1024_1_0_0
abbrev rV2 : Rect S4x1408x1024 := Rect.unit (s := S4x1408x1024) ![2, 0, 0] S1x1408x1024.size inb_S4x1408x1024_S1x1408x1024_2_0_0
abbrev rV3 : Rect S4x1408x1024 := Rect.unit (s := S4x1408x1024) ![3, 0, 0] S1x1408x1024.size inb_S4x1408x1024_S1x1408x1024_3_0_0

section
variable (x0 : Vec F S640x1024 .f32) (x1 : Vec F S2x1024 .f32) (w13 : Vec F S4x1408x1024 .bf16) (w2 : Vec F S2816x1024 .bf16)

/-- The block's input rows, and the same in the products' format. -/
def hV : FVec F S640x1024 .f32 := k0_pay11 (View.ld x0 rX) (View.ld x1 rG) (View.ld x1 rB)
def hbV : FVec F S640x1024 .bf16 := k0_pay12 (View.ld x0 rX) (View.ld x1 rG) (View.ld x1 rB)

/-- The down projection's sum over both halves. -/
def ffnV : FVec F S640x1024 .f32 :=
  k0_pay23 (hbV x0 x1) k0_pay13 (k0_pay14 (View.ld x0 rX) (View.ld x1 rG) (View.ld x1 rB) (View.ld w13 rV0))
    (k0_pay15 (View.ld x0 rX) (View.ld x1 rG) (View.ld x1 rB) (View.ld w13 rV2))
    (k0_pay18 (View.ld x0 rX) (View.ld x1 rG) (View.ld x1 rB) (View.ld w13 rV0)) (View.ld w2 rW0) (View.ld w13 rV1)
    (View.ld w13 rV3) (View.ld w2 rW1)

/-- The normalised rows and the reciprocal deviations. -/
def xoV : FVec F S640x1024 .f32 := k0_pay3 (ffnV x0 x1 w13 w2) (k0_pay24 (hV x0 x1)) k0_pay25
def rsV : FVec F S640x1 .f32 := k0_pay2 (ffnV x0 x1 w13 w2) (k0_pay24 (hV x0 x1)) k0_pay25

/-- The up projection's four blocks. -/
def pa0 : FVec F S640x1408 .bf16 := k0_pay16 (View.ld x0 rX) (View.ld x1 rG) (View.ld x1 rB) (View.ld w13 rV0)
def pu0 : FVec F S640x1408 .bf16 := k0_pay17 (View.ld x0 rX) (View.ld x1 rG) (View.ld x1 rB) (View.ld w13 rV2)
def pa1 : FVec F S640x1408 .bf16 := k0_pay21 (hbV x0 x1) (View.ld w13 rV1)
def pu1 : FVec F S640x1408 .bf16 := k0_pay22 (hbV x0 x1) (View.ld w13 rV3)

/-- The up projection, both halves side by side. -/
def auV : Vec F S640x5632 .bf16 :=
  View.canon [(⟨rU1, pu1 x0 x1 w13⟩ : View.Piece (Elt F) S640x5632 .bf16), ⟨rA1, pa1 x0 x1 w13⟩,
    ⟨rU0, pu0 x0 x1 w13⟩, ⟨rA0, pa0 x0 x1 w13⟩]

end

end Cert.Kernel2Ideal.Fwd

end
-- ==== Proof.Fwd.RunB.lean ====
module
public import proofs.«01_k».proof.Proof.Fwd.Vals
public import Idealize.ShloMosaic.Lib.Pipeline.ValueKit
public import Idealize.ShloMosaic.Lib.WritesUnit
@[expose] public section

set_option maxRecDepth 16384

noncomputable section

namespace Cert.Kernel2Ideal.Fwd

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- One grid point after the first: the weights are resident; the point writes the named blocks and leaves the weights
    as they were. -/
theorem runB (c : Dev nD) (i : grid0.Coords) (arg1 : Memref sig .tc .vmem S640x1024 .f32) (harg1 : arg1.IsWhole) (arg2 : Memref sig .tc .vmem S2x1024 .f32) (harg2 : arg2.IsWhole) (arg4 : Memref sig .tc .vmem S640x1024 .f32) (harg4 : arg4.IsWhole) (arg5 : Memref sig .tc .vmem S640x1 .f32) (harg5 : arg5.IsWhole) (arg6 : Memref sig .tc .vmem S640x5632 .bf16) (harg6 : arg6.IsWhole) (arg7 : Memref sig .tc .vmem S640x1024 .bf16) (harg7 : arg7.IsWhole) (arg8 : Memref sig .tc .vmem S4x1408x1024 .bf16) (harg8 : arg8.IsWhole) (arg9 : Memref sig .tc .vmem S2816x1024 .bf16) (harg9 : arg9.IsWhole) (hc0 : ¬ cond0_0 i)
    (x0 : Vec F S640x1024 .f32) (x1 : Vec F S2x1024 .f32) (w13 : Vec F S4x1408x1024 .bf16) (w2 : Vec F S2816x1024 .bf16) :
      ∀ (W : Waits sig Unit) (K : PUnit → sProp 𝕄),
        iprop(owns (c : Thread nD τ) arg1 fullShare x0 ∗ owns (c : Thread nD τ) arg2 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ owns (c : Thread nD τ) arg8 fullShare w13 ∗ owns (c : Thread nD τ) arg9 fullShare w2 ∗ owes (c : Thread nD τ) 0 W
            ∗ (iprop(owns (c : Thread nD τ) arg1 fullShare x0 ∗ owns (c : Thread nD τ) arg2 fullShare x1 ∗ owns (c : Thread nD τ) arg4 fullShare (xoV x0 x1 w13 w2) ∗ owns (c : Thread nD τ) arg5 fullShare (rsV x0 x1 w13 w2) ∗ owns (c : Thread nD τ) arg6 fullShare (auV x0 x1 w13) ∗ owns (c : Thread nD τ) arg7 fullShare (hbV x0 x1) ∗ owns (c : Thread nD τ) arg8 fullShare w13 ∗ owns (c : Thread nD τ) arg9 fullShare w2 ∗ owes (c : Thread nD τ) 0 W) -∗ K ⟨⟩))
          ⊢ wp frame (wpE (defs₀ (F := F)) Variants.none c none) Set.univ (cc0_ffn1_fwd_0 i arg1 harg1 arg2 harg2 (Memref.whole main_v32) (Memref.isWhole_whole _) arg4 harg4 arg5 harg5 arg6 harg6 arg7 harg7 arg8 harg8 arg9 harg9 cc0_scratch2) K := by
    intro W K
    simp only [cc0_ffn1_fwd_0_eq_skeleton]; unfold cc0_ffn1_fwd_0_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%fs0, %hs0, HS0⟩, ⟨%fs1, %hs1, HS1⟩, HW, Hk⟩
    obtain rfl := harg1.eq_unread hf0; obtain rfl := harg2.eq_unread hf1
    obtain rfl := harg8.eq_unread hs0; obtain rfl := harg9.eq_unread hs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; swap; · iexact H2
      ipureintro
      rw [View.read_writes_eq_canon _ _ _ (View.cover_of_tiledBy _ ![640, 1024] (by sl_kernel_rfl)), View.canon_cons_unit_lit _ _ _ (by decide)]
      sl_unfold_words
      simp only [View.readAt_eq_ld, harg1.read_unread, harg2.read_unread, harg8.read_unread, harg9.read_unread]
      rfl
    isplitl [H3]
    · iexists _; isplitr; swap; · iexact H3
      ipureintro
      rw [View.read_writes_eq_canon _ _ _ (View.cover_of_tiledBy _ ![640, 1] (by sl_kernel_rfl)), View.canon_cons_unit_lit _ _ _ (by decide)]
      sl_unfold_words
      simp only [View.readAt_eq_ld, harg1.read_unread, harg2.read_unread, harg8.read_unread, harg9.read_unread]
      rfl
    isplitl [H4]
    · iexists _; isplitr; swap; · iexact H4
      ipureintro
      rw [View.read_writes_eq_canon _ _ _ (View.cover_of_tiledBy _ ![640, 1408] (by sl_kernel_rfl))]
      sl_unfold_words
      simp only [View.readAt_eq_ld, harg1.read_unread, harg2.read_unread, harg8.read_unread, harg9.read_unread]
      rfl
    isplitl [H5]
    · iexists _; isplitr; swap; · iexact H5
      ipureintro
      rw [View.read_writes_eq_canon _ _ _ (View.cover_of_tiledBy _ ![640, 1024] (by sl_kernel_rfl)), View.canon_cons_unit_lit _ _ _ (by decide)]
      sl_unfold_words
      simp only [View.readAt_eq_ld, harg1.read_unread, harg2.read_unread, harg8.read_unread, harg9.read_unread]
      rfl
    isplitl [HS0]
    · iexists _; isplitr; · ipureintro; exact harg8.read_unread _
      iexact HS0
    isplitl [HS1]
    · iexists _; isplitr; · ipureintro; exact harg9.read_unread _
      iexact HS1
    iexact HW

end Cert.Kernel2Ideal.Fwd

end
-- ==== Proof.Fwd.RunA.lean ====
module
public import proofs.«01_k».proof.Proof.Fwd.RunB
public import proofs.«01_k».proof.Proof.Bwd.RunA
@[expose] public section

set_option maxRecDepth 16384

noncomputable section

namespace Cert.Kernel2Ideal.Fwd

open Cert.Kernel2Ideal.Gen
open Cert.KernelIdeal.Bwd (write_squeezed squeezed_payload)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The first weight as the scratch holds it: of each quarter 1376 rows copied in, then 32 rows of zeros. -/
def W13v (w : Vec F S4x2080x1024 .bf16) : Vec F S4x1408x1024 .bf16 :=
  View.canon [(⟨Rect.unit (s := S4x1408x1024) ![3, 1376, 0] S1x32x1024.size inb_S4x1408x1024_S1x32x1024_3_1376_0, (k0_pay8 k0_pay4)⟩ : View.Piece (Elt F) S4x1408x1024 .bf16),
    ⟨Rect.unit (s := S4x1408x1024) ![2, 1376, 0] S1x32x1024.size inb_S4x1408x1024_S1x32x1024_2_1376_0, (k0_pay7 k0_pay4)⟩,
    ⟨Rect.unit (s := S4x1408x1024) ![1, 1376, 0] S1x32x1024.size inb_S4x1408x1024_S1x32x1024_1_1376_0, k0_pay6⟩,
    ⟨Rect.unit (s := S4x1408x1024) ![0, 1376, 0] S1x32x1024.size inb_S4x1408x1024_S1x32x1024_0_1376_0, k0_pay5⟩,
    ⟨Rect.unit (s := S4x1408x1024) ![3, 0, 0] S1x1376x1024.size inb_S4x1408x1024_S1x1376x1024_3_0_0, View.ld w (Rect.unit (s := S4x2080x1024) ![3, 0, 0] S1x1376x1024.size inb_S4x2080x1024_S1x1376x1024_3_0_0)⟩,
    ⟨Rect.unit (s := S4x1408x1024) ![2, 0, 0] S1x1376x1024.size inb_S4x1408x1024_S1x1376x1024_2_0_0, View.ld w (Rect.unit (s := S4x2080x1024) ![2, 0, 0] S1x1376x1024.size inb_S4x2080x1024_S1x1376x1024_2_0_0)⟩,
    ⟨Rect.unit (s := S4x1408x1024) ![1, 0, 0] S1x1376x1024.size inb_S4x1408x1024_S1x1376x1024_1_0_0, View.ld w (Rect.unit (s := S4x2080x1024) ![1, 0, 0] S1x1376x1024.size inb_S4x2080x1024_S1x1376x1024_1_0_0)⟩,
    ⟨Rect.unit (s := S4x1408x1024) ![0, 0, 0] S1x1376x1024.size inb_S4x1408x1024_S1x1376x1024_0_0_0, View.ld w (Rect.unit (s := S4x2080x1024) ![0, 0, 0] S1x1376x1024.size inb_S4x2080x1024_S1x1376x1024_0_0_0)⟩]

/-- The second weight likewise: two quarters of 688 rows, 32 rows of zeros, and again. -/
def W2v (w : Vec F S4x2080x1024 .bf16) : Vec F S2816x1024 .bf16 :=
  View.canon [(⟨Rect.unit (s := S2816x1024) ![2784, 0] S32x1024.size inb_S2816x1024_S32x1024_2784_0, k0_pay10 k0_pay4⟩ : View.Piece (Elt F) S2816x1024 .bf16),
    ⟨Rect.unit (s := S2816x1024) ![1376, 0] S32x1024.size inb_S2816x1024_S32x1024_1376_0, k0_pay9 k0_pay4⟩,
    ⟨Rect.unit (s := S2816x1024) ![2096, 0] S688x1024.size inb_S2816x1024_S688x1024_2096_0, shapeCast S688x1024 (View.ld w (Rect.unit (s := S4x2080x1024) ![3, 1376, 0] S1x688x1024.size inb_S4x2080x1024_S1x688x1024_3_1376_0)) (by decide)⟩,
    ⟨Rect.unit (s := S2816x1024) ![1408, 0] S688x1024.size inb_S2816x1024_S688x1024_1408_0, shapeCast S688x1024 (View.ld w (Rect.unit (s := S4x2080x1024) ![2, 1376, 0] S1x688x1024.size inb_S4x2080x1024_S1x688x1024_2_1376_0)) (by decide)⟩,
    ⟨Rect.unit (s := S2816x1024) ![688, 0] S688x1024.size inb_S2816x1024_S688x1024_688_0, shapeCast S688x1024 (View.ld w (Rect.unit (s := S4x2080x1024) ![1, 1376, 0] S1x688x1024.size inb_S4x2080x1024_S1x688x1024_1_1376_0)) (by decide)⟩,
    ⟨Rect.unit (s := S2816x1024) ![0, 0] S688x1024.size inb_S2816x1024_S688x1024_0_0, shapeCast S688x1024 (View.ld w (Rect.unit (s := S4x2080x1024) ![0, 1376, 0] S1x688x1024.size inb_S4x2080x1024_S1x688x1024_0_1376_0)) (by decide)⟩]

set_option maxHeartbeats 4000000 in
set_option sl_exec.rejoinHeartbeats 600000 in
set_option sl_exec.dmaWindow true in
set_option sl_exec.dmaWindowSet true in
/-- The first grid point: the weights are copied in and their padding rows zeroed; then the point goes on as every
    other. -/
theorem runA (c : Dev nD) (i : grid0.Coords) (arg1 : Memref sig .tc .vmem S640x1024 .f32) (harg1 : arg1.IsWhole) (arg2 : Memref sig .tc .vmem S2x1024 .f32) (harg2 : arg2.IsWhole) (arg4 : Memref sig .tc .vmem S640x1024 .f32) (harg4 : arg4.IsWhole) (arg5 : Memref sig .tc .vmem S640x1 .f32) (harg5 : arg5.IsWhole) (arg6 : Memref sig .tc .vmem S640x5632 .bf16) (harg6 : arg6.IsWhole) (arg7 : Memref sig .tc .vmem S640x1024 .bf16) (harg7 : arg7.IsWhole) (arg8 : Memref sig .tc .vmem S4x1408x1024 .bf16) (harg8 : arg8.IsWhole) (arg9 : Memref sig .tc .vmem S2816x1024 .bf16) (harg9 : arg9.IsWhole) (hc0 : cond0_0 i)
    (x0 : Vec F S640x1024 .f32) (x1 : Vec F S2x1024 .f32) (fh0 : HbBuf0 (F := F) c hbM0_0) :
      ∀ (W : Waits sig Unit) (K : PUnit → sProp 𝕄),
        iprop((owns (c : Thread nD τ) arg1 fullShare x0 ∗ owns (c : Thread nD τ) arg2 fullShare x1) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg4 fullShare (xoV x0 x1 (W13v fh0) (W2v fh0)) ∗ owns (c : Thread nD τ) arg5 fullShare (rsV x0 x1 (W13v fh0) (W2v fh0)) ∗ owns (c : Thread nD τ) arg6 fullShare (auV x0 x1 (W13v fh0)) ∗ owns (c : Thread nD τ) arg7 fullShare (hbV x0 x1) ∗ owns (c : Thread nD τ) arg8 fullShare (W13v fh0) ∗ owns (c : Thread nD τ) arg9 fullShare (W2v fh0) ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ hbPt0 c hbM0_0 fh0 ∗ (∃ W', owes (c : Thread nD τ) 0 W')) -∗ K ⟨⟩))
          ⊢ wp frame (wpE (defs₀ (F := F)) Variants.none c none) Set.univ (cc0_ffn1_fwd_0 i arg1 harg1 arg2 harg2 (Memref.whole main_v32) (Memref.isWhole_whole _) arg4 harg4 arg5 harg5 arg6 harg6 arg7 harg7 arg8 harg8 arg9 harg9 cc0_scratch2) K := by
    intro W K
    simp only [cc0_ffn1_fwd_0_eq_skeleton]; unfold cc0_ffn1_fwd_0_skel
    simp only [k0_part1_eq_skeleton, k0_part2_eq_skeleton, k0_part3_eq_skeleton, k0_part4_eq_skeleton, k0_part5_eq_skeleton, k0_part6_eq_skeleton]
    unfold owns
    iintro ⟨HIn, ⟨%d2, %f2, -, H2⟩, ⟨%d3, %f3, -, H3⟩, ⟨%d4, %f4, -, H4⟩, ⟨%d5, %f5, -, H5⟩, ⟨%ds0, %fs0, -, HS0⟩, ⟨%ds1, %fs1, -, HS1⟩, Hq0, Hq1, Hq2, Hq3, Hq4, Hq5, Hq6, Hq7, Hh0, HW, Hk⟩
    sl_exec (disch := first | sl_exact hc0)
    rw [harg8.eq_unread (f := arg8.view.writes (Elt F) _ _) (X := W13v fh0) ?e12]
    rw [harg9.eq_unread (f := arg9.view.writes (Elt F) _ _) (X := W2v fh0) ?e13]
    case e12 =>
      sl_unfold_words
      rw [write_squeezed, write_squeezed, write_squeezed, write_squeezed, ← View.writes_append, ← View.writes_append, ← View.writes_append, ← View.writes_append]
      simp only [List.cons_append, List.nil_append]
      rw [View.read_writes_eq_canon _ _ _ (View.cover_of_tiledBy _ ![1, 32, 1024] (by sl_kernel_rfl))]
      unfold W13v
      refine congrArg View.canon ?_
      congr 5
      · exact congrArg (Sigma.mk _) (squeezed_payload (Memref.whole main_v32) (Rect.unit (s := S4x2080x1024) ![3, 0, 0] S1x1376x1024.size inb_S4x2080x1024_S1x1376x1024_3_0_0) (fun _ => rfl) squeezes_S1x1376x1024_S1376x1024 squeezes_S1x1376x1024_S1376x1024 fh0)
      congr 1
      · exact congrArg (Sigma.mk _) (squeezed_payload (Memref.whole main_v32) (Rect.unit (s := S4x2080x1024) ![2, 0, 0] S1x1376x1024.size inb_S4x2080x1024_S1x1376x1024_2_0_0) (fun _ => rfl) squeezes_S1x1376x1024_S1376x1024 squeezes_S1x1376x1024_S1376x1024 fh0)
      congr 1
      · exact congrArg (Sigma.mk _) (squeezed_payload (Memref.whole main_v32) (Rect.unit (s := S4x2080x1024) ![1, 0, 0] S1x1376x1024.size inb_S4x2080x1024_S1x1376x1024_1_0_0) (fun _ => rfl) squeezes_S1x1376x1024_S1376x1024 squeezes_S1x1376x1024_S1376x1024 fh0)
      congr 1
      · exact congrArg (Sigma.mk _) (squeezed_payload (Memref.whole main_v32) (Rect.unit (s := S4x2080x1024) ![0, 0, 0] S1x1376x1024.size inb_S4x2080x1024_S1x1376x1024_0_0_0) (fun _ => rfl) squeezes_S1x1376x1024_S1376x1024 squeezes_S1x1376x1024_S1376x1024 fh0)
    case e13 =>
      sl_unfold_words
      rw [View.read_writes_eq_canon _ _ _ (View.cover_of_tiledBy _ ![16, 1024] (by sl_kernel_rfl))]
      rfl
    icases HIn with ⟨⟨%f0, %hf0, H0⟩, ⟨%f1, %hf1, H1⟩⟩
    obtain rfl := harg1.eq_unread hf0; obtain rfl := harg2.eq_unread hf1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; swap; · iexact H2
      ipureintro
      rw [View.read_writes_eq_canon _ _ _ (View.cover_of_tiledBy _ ![640, 1024] (by sl_kernel_rfl)), View.canon_cons_unit_lit _ _ _ (by decide)]
      sl_unfold_words
      simp only [View.readAt_eq_ld, harg1.read_unread, harg2.read_unread, harg8.read_unread, harg9.read_unread]
      rfl
    isplitl [H3]
    · iexists _; isplitr; swap; · iexact H3
      ipureintro
      rw [View.read_writes_eq_canon _ _ _ (View.cover_of_tiledBy _ ![640, 1] (by sl_kernel_rfl)), View.canon_cons_unit_lit _ _ _ (by decide)]
      sl_unfold_words
      simp only [View.readAt_eq_ld, harg1.read_unread, harg2.read_unread, harg8.read_unread, harg9.read_unread]
      rfl
    isplitl [H4]
    · iexists _; isplitr; swap; · iexact H4
      ipureintro
      rw [View.read_writes_eq_canon _ _ _ (View.cover_of_tiledBy _ ![640, 1408] (by sl_kernel_rfl))]
      sl_unfold_words
      simp only [View.readAt_eq_ld, harg1.read_unread, harg2.read_unread, harg8.read_unread, harg9.read_unread]
      rfl
    isplitl [H5]
    · iexists _; isplitr; swap; · iexact H5
      ipureintro
      rw [View.read_writes_eq_canon _ _ _ (View.cover_of_tiledBy _ ![640, 1024] (by sl_kernel_rfl)), View.canon_cons_unit_lit _ _ _ (by decide)]
      sl_unfold_words
      simp only [View.readAt_eq_ld, harg1.read_unread, harg2.read_unread, harg8.read_unread, harg9.read_unread]
      rfl
    isplitl [HS0]
    · iexists _; isplitr; · ipureintro; exact harg8.read_unread _
      iexact HS0
    isplitl [HS1]
    · iexists _; isplitr; · ipureintro; exact harg9.read_unread _
      iexact HS1
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    iexists _; iexact HW

end Cert.Kernel2Ideal.Fwd

end
-- ==== Proof.Fwd.Frame.lean ====
module
public import proofs.«01_k».proof.Proof.Fwd.RunA
public import Idealize.ShloMosaic.Lib.Claim
@[expose] public section

set_option maxRecDepth 16384

noncomputable section

namespace Cert.Kernel2Ideal.Fwd

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the grid's points leave -/

/-- The point numbered `n`. -/
def pt (n : ℕ) : Fin cfg0.N := ⟨n % 13, lt_of_lt_of_eq (Nat.mod_lt _ (by decide)) (show 13 = cfg0.N from N_0.symm)⟩

theorem pt_val (t : Fin cfg0.N) : pt t.val = t :=
  Fin.ext (Nat.mod_eq_of_lt (lt_of_lt_of_eq t.isLt (show cfg0.N = 13 from N_0)))

/-- The blocks of the two staged inputs at a point. -/
def X0 (c : Dev nD) (t : Fin cfg0.N) : Vec F S640x1024 .f32 := iblk m c 0 t
def X1 (c : Dev nD) (t : Fin cfg0.N) : Vec F S2x1024 .f32 := iblk m c 1 t
/-- The two weights in the scratch, from the packed array. -/
def Y1 (c : Dev nD) : Vec F S4x1408x1024 .bf16 := W13v (V m c main_v32)
def Y2 (c : Dev nD) : Vec F S2816x1024 .bf16 := W2v (V m c main_v32)

/-- What a point writes. -/
def D2 (c : Dev nD) (t : Fin cfg0.N) : Vec F S640x1024 .f32 := xoV (X0 m c t) (X1 m c t) (Y1 m c) (Y2 m c)
def D3 (c : Dev nD) (t : Fin cfg0.N) : Vec F S640x1 .f32 := rsV (X0 m c t) (X1 m c t) (Y1 m c) (Y2 m c)
def D4 (c : Dev nD) (t : Fin cfg0.N) : Vec F S640x5632 .bf16 := auV (X0 m c t) (X1 m c t) (Y1 m c)
def D5 (c : Dev nD) (t : Fin cfg0.N) : Vec F S640x1024 .bf16 := hbV (X0 m c t) (X1 m c t)

/-- Between two points: before the first, whatever the launch gives; later the scratch holds the two weights. -/
def Phi (c : Dev nD) (n : ℕ) : sProp 𝕄 :=
  if n = 0 then Pipeline.ΦD osem0 spec0 H0 (V m) c
  else iprop(iprop(owns (c : Thread nD τ) scM0_0 fullShare (Y1 m c) ∗ owns (c : Thread nD τ) scM0_1 fullShare (Y2 m c)) ∗ (∃ r, prngReg c r) ∗ iprop(semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0) ∗ iprop(hbPt0 c hbM0_0 (V m c main_v32)))

/-- The proof data: the arrays as the region finds them, what each point leaves, the invariant above. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => D2 m c t
    | ⟨3, _⟩ => D3 m c t
    | ⟨4, _⟩ => D4 m c t
    | ⟨5, _⟩ => D5 m c t
  Φ t := Phi m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = D2 m c t := by dsimp only [dats]
theorem after0_3 (c : Dev nD) (t : Fin cfg0.N) : (dats m 0 c).after 3 t = D3 m c t := by dsimp only [dats]
theorem after0_4 (c : Dev nD) (t : Fin cfg0.N) : (dats m 0 c).after 4 t = D4 m c t := by dsimp only [dats]
theorem after0_5 (c : Dev nD) (t : Fin cfg0.N) : (dats m 0 c).after 5 t = D5 m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

/-- The invariant after any point. -/
theorem Phi_succ (c : Dev nD) (t : Fin cfg0.N) : (dats m 0 c).Φ t.succ
    = iprop(iprop(owns (c : Thread nD τ) scM0_0 fullShare (Y1 m c) ∗ owns (c : Thread nD τ) scM0_1 fullShare (Y2 m c)) ∗ (∃ r, prngReg c r) ∗ iprop(semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0) ∗ iprop(hbPt0 c hbM0_0 (V m c main_v32))) := by
  show Phi m c t.succ.val = _
  unfold Phi; rw [if_neg (by simp)]

theorem Phi_later (c : Dev nD) (t : Fin cfg0.N) (ht : t.val ≠ 0) : (dats m 0 c).Φ t.castSucc
    = iprop(iprop(owns (c : Thread nD τ) scM0_0 fullShare (Y1 m c) ∗ owns (c : Thread nD τ) scM0_1 fullShare (Y2 m c)) ∗ (∃ r, prngReg c r) ∗ iprop(semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0) ∗ iprop(hbPt0 c hbM0_0 (V m c main_v32))) := by
  show Phi m c t.castSucc.val = _
  unfold Phi; rw [if_neg (by simpa using ht)]

theorem Phi_first (c : Dev nD) (t : Fin cfg0.N) (ht : t.val = 0) : (dats m 0 c).Φ t.castSucc
    = Pipeline.ΦD osem0 spec0 H0 (V m) c := by
  show Phi m c t.castSucc.val = _
  unfold Phi; rw [if_pos (by simpa using ht)]

set_option maxHeartbeats 2400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [Phi_succ, after0_0, after0_1, after0_2, after0_3, after0_4, after0_5]
  unfold Dat.owesAt Pipeline.owesWithin
  rw [show (dats m 0 c).owed t.castSucc = 0 from rfl, show (dats m 0 c).owed t.succ = 0 from rfl]
  have hN : t.val < 13 := lt_of_lt_of_eq t.isLt (show cfg0.N = 13 from N_0)
  by_cases h0 : t.val % 13 = 0
  · have ht : t.val = 0 := by omega
    rw [Phi_first m c t ht, PhiD0_eq]
    iintro ⟨⟨⟨HS0, HS1⟩, Hg, ⟨Hq0, Hq1, Hq2, Hq3, Hq4, Hq5, Hq6, Hq7⟩, Hh0⟩, ⟨%W, -, HW⟩, ⟨%d0, H0⟩, ⟨%d1, H1⟩, ⟨%d2, H2⟩, ⟨%d3, H3⟩, ⟨%d4, H4⟩, ⟨%d5, H5⟩⟩
    iapply ((runA c (grid0.coords t) _ _ _ _ _ _ _ _ _ _ _ _ _ _ _ _ ((hcond0_0 t).mpr h0) (X0 m c t) (X1 m c t) (V m c main_v32)) W _)
    isplitl [H0 H1]
    · isplitl [H0]; · iexact H0
      iexact H1
    isplitl [H2]; · iexists _; iexact H2
    isplitl [H3]; · iexists _; iexact H3
    isplitl [H4]; · iexists _; iexact H4
    isplitl [H5]; · iexists _; iexact H5
    isplitl [HS0]; · iexact HS0
    isplitl [HS1]; · iexact HS1
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    isplitl [HW]; · iexact HW
    iintro ⟨H0, H1, H2, H3, H4, H5, HS0, HS1, Hq0, Hq1, Hq2, Hq3, Hq4, Hq5, Hq6, Hq7, Hh0, ⟨%W', HW'⟩⟩
    isplitl [HS0 HS1 Hg Hq0 Hq1 Hq2 Hq3 Hq4 Hq5 Hq6 Hq7 Hh0]
    · isplitl [HS0 HS1]
      · isplitl [HS0]; · iexact HS0
        iexact HS1
      isplitl [Hg]
      · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    iexact H5
  · have ht : t.val ≠ 0 := by omega
    rw [Phi_later m c t ht]
    iintro ⟨⟨⟨HS0, HS1⟩, Hg, ⟨Hq0, Hq1, Hq2, Hq3, Hq4, Hq5, Hq6, Hq7⟩, Hh0⟩, ⟨%W, -, HW⟩, ⟨%d0, H0⟩, ⟨%d1, H1⟩, ⟨%d2, H2⟩, ⟨%d3, H3⟩, ⟨%d4, H4⟩, ⟨%d5, H5⟩⟩
    iapply ((runB c (grid0.coords t) _ _ _ _ _ _ _ _ _ _ _ _ _ _ _ _ (fun h => h0 ((hcond0_0 t).mp h)) (X0 m c t) (X1 m c t) (Y1 m c) (Y2 m c)) W _)
    isplitl [H0]; · iexact H0
    isplitl [H1]; · iexact H1
    isplitl [H2]; · iexists _; iexact H2
    isplitl [H3]; · iexists _; iexact H3
    isplitl [H4]; · iexists _; iexact H4
    isplitl [H5]; · iexists _; iexact H5
    isplitl [HS0]; · iexact HS0
    isplitl [HS1]; · iexact HS1
    isplitl [HW]; · iexact HW
    iintro ⟨H0, H1, H2, H3, H4, H5, HS0, HS1, HW'⟩
    isplitl [HS0 HS1 Hg Hq0 Hq1 Hq2 Hq3 Hq4 Hq5 Hq6 Hq7 Hh0]
    · isplitl [HS0 HS1]
      · isplitl [HS0]; · iexact HS0
        iexact HS1
      isplitl [Hg]
      · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh0
    isplitl [HW']
    · iexists W; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    iexact H5

/-- The body table's row at a point's slots is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The last invariant forgets what the scratch holds. -/
theorem Phi_last (c : Dev nD) : (dats m 0 c).Φ (Fin.last cfg0.N) ⊢ Pipeline.ΦD osem0 spec0 H0 (V m) c := by
  rw [PhiD0_eq]
  show Phi m c cfg0.N ⊢ _
  unfold Phi; rw [if_neg (by rw [show cfg0.N = 13 from N_0]; decide)]
  iintro ⟨⟨HS0, HS1⟩, HR⟩
  isplitl [HS0 HS1]
  · isplitl [HS0]
    · iexists _; iexact HS0
    iexists _; iexact HS1
  iexact HR

theorem Phi_start (c : Dev nD) : Pipeline.ΦD osem0 spec0 H0 (V m) c ⊢ (dats m 0 c).Φ 0 := by
  show _ ⊢ Phi m c 0
  unfold Phi; rw [if_pos rfl]

/-! ## The run -/

set_option backward.isDefEq.respectTransparency.types false in
set_option maxHeartbeats 800000 in
/-- The launch: the arrays end at what the points wrote back, the host's tail runs from them, every counter ends at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_but) (hfresh := sfx_fresh) (hkeep := sfx_keeps)
    (hmain := hmain m Variants.none) (hA := A_eq m) (hin := Phi_start m) (hout := Phi_last m)

end Cert.Kernel2Ideal.Fwd

end
-- ==== Proof.Fwd.Ends.lean ====
module
public import proofs.«01_k».proof.Proof.Fwd.Frame
@[expose] public section

set_option maxRecDepth 16384

noncomputable section

namespace Cert.Kernel2Ideal.Fwd

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The argument arrays at the end of a run. -/
theorem unchanged {r : PUnit × MemSt nD τ sig (Elt F)}
    (h : Pipeline.FramePost cfgs (dats m) 0 (Pipeline.afterTail₀ cfgs (dats m) 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).1 0).trans (((dats m 0 c).arrAt_in 0 rfl _).trans ((A_eq m c 0).trans (V_main_arg0 m c))),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c)⟩

/-- Every run ends, its arguments as they were, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => unchanged m h.1 c, h.2⟩) (run_main m ρ)

end Cert.Kernel2Ideal.Fwd

end
-- ==== Proof.Fwd.FrameKernel2.lean ====
module
public import proofs.«01_k».proof.Defs
public import proofs.«01_k».proof.Proof.Fwd.Ends
public import proofs.«01_k».proof.Proof.Gen.Kernel2
@[expose] public section
set_option maxRecDepth 16384
noncomputable section

namespace Cert.Proof

open Idealize.ShloMosaic Idealize.ShloMosaic.TcCoe

/-- The frame over the reals. -/
theorem frame_kernel2Ideal : Cert.quiescent_Kernel2Ideal := fun m ρ _ =>
  Cert.Kernel2Ideal.Fwd.frame (F := Ideal) m ρ

set_option maxHeartbeats 2000000 in
/-- The two programs have the same body table, -/
theorem defs₀_same2 : Cert.Kernel2.defs₀ (F := Bits) = Cert.Kernel2Ideal.defs₀ (F := Bits) := by
  unfold Cert.Kernel2.defs₀ Cert.Kernel2Ideal.defs₀
  congr 1
  funext l a
  match l with
  | 0 => rfl

/-- the same table with the pipeline's steps, -/
theorem defs_same2 : Cert.Kernel2.defs (F := Bits) = Cert.Kernel2Ideal.defs (F := Bits) :=
  congrArg (Pipeline.defs (Cert.Kernel2Ideal.pcfgs (F := Bits))) defs₀_same2

set_option maxHeartbeats 2000000 in
/-- and the same host function. -/
theorem main_same2 : Cert.Kernel2.main (F := Bits) = Cert.Kernel2Ideal.main (F := Bits) := rfl

/-- The frame of the program over floats: the same text as the one over the reals. -/
theorem frame_kernel2 : Cert.quiescent_Kernel2 := fun m ρ _ => by
  rw [show Cert.Kernel2.defs (F := Bits) = _ from defs_same2, show Cert.Kernel2.main (F := Bits) = _ from main_same2]
  exact Cert.Kernel2Ideal.Fwd.frame (F := Bits) m ρ

end Cert.Proof

end
-- ==== Proof.Fwd.RefRow.lean ====
module
public import proofs.«01_k».proof.Proof.Gen.Reference2Ideal.Read
public import proofs.«01_k».proof.Proof.Bwd.Consts
public import Idealize.ShloMosaic.Lib.Pointwise
@[expose] public section

set_option maxRecDepth 16384

noncomputable section

namespace Cert.Kernel2Ideal.Fwd

open Cert.Reference2Ideal Cert.Reference2Ideal.Gen Cert.Reference2Ideal.Read
open Idealize.ShloMosaic Idealize.ShloMosaic.TcCoe
open Cert.KernelIdeal.Bwd (alpha eps lit_alpha lit_eps lit_1024 lit_half)

/-! # The forward half-step as functions over the extended reals, and the reference's values -/

open scoped BigOperators

theorem gate_lt (n : Fin 2752) : n.val < 5504 := by omega
theorem lin_lt (n : Fin 2752) : 2752 + n.val < 5504 := by omega

section Math

variable (X : Fin 8320 → Fin 1024 → EReal) (g b : Fin 1024 → EReal) (P : Fin 1024 → Fin 5504 → EReal)
  (Q : Fin 2752 → Fin 1024 → EReal) (r : Fin 8320)

/-- The half-step's input: the normalised rows with gain and bias. -/
def inp (k : Fin 1024) : EReal := X r k * g k + b k

/-- The gate's half of the up projection. -/
def gate (n : Fin 2752) : EReal := ∑ k, inp X g b r k * P k ⟨n, gate_lt n⟩

/-- The other half. -/
def lin (n : Fin 2752) : EReal := ∑ k, inp X g b r k * P k ⟨2752 + n, lin_lt n⟩

/-- The gated product. -/
def act (a u : EReal) : EReal := a * Ideal.div 1 (1 + Ideal.exp (-a)) * u

/-- The down projection. -/
def down (k : Fin 1024) : EReal := ∑ n, act (gate X g b P r n) (lin X g b P r n) * Q n k

/-- The stream after the half-step, before the normalisation. -/
def strm (k : Fin 1024) : EReal := (alpha : EReal) * inp X g b r k + ((1 / 2 : ℝ) : EReal) * down X g b P Q r k

/-- The stream, centred. -/
def cent (k : Fin 1024) : EReal := strm X g b P Q r k - Ideal.div (∑ j, strm X g b P Q r j) ((1024 : ℝ) : EReal)

/-- The reciprocal deviation. -/
def rdev : EReal :=
  Ideal.rsqrt (Ideal.div (∑ k, cent X g b P Q r k * cent X g b P Q r k) ((1024 : ℝ) : EReal) + (eps : EReal))

end Math

section Ref

variable {x0 : Vec Ideal S8320x1024 .f32} {x1 x2 : Vec Ideal S1024 .f32} {x3 : Vec Ideal S1024x5504 .f32} {x4 : Vec Ideal S2752x1024 .f32}
  {X : Fin 8320 → Fin 1024 → EReal} {g b : Fin 1024 → EReal} {P : Fin 1024 → Fin 5504 → EReal} {Q : Fin 2752 → Fin 1024 → EReal}
  (h0 : ∀ r k, x0 (ix2 r k) = X r k) (h1 : ∀ k, x1 (ix1 k) = g k) (h2 : ∀ k, x2 (ix1 k) = b k)
  (h3 : ∀ k n, x3 (ix2 k n) = P k n) (h4 : ∀ n k, x4 (ix2 n k) = Q n k)

include h0 h1 h2

/-- The input. -/
theorem ref_v5 (r : Fin 8320) (k : Fin 1024) : val_main_v5 (F := Ideal) x0 x1 x2 (ix2 r k) = inp X g b r k := by
  pointwise [val_main_v5, val_main_v4, val_main_v3, val_main_v2, val_main_v1, val_main_v0]
  rw [h0, h1, h2]
  rfl

include h3

/-- The gate. -/
theorem ref_v7 (r : Fin 8320) (n : Fin 2752) : val_main_v7 (F := Ideal) x0 x1 x2 x3 (ix2 r n) = gate X g b P r n := by
  pointwise [val_main_v7, val_main_v6]
  simp only [ref_v5 h0 h1 h2, h3]
  rfl

/-- The other half. -/
theorem ref_v8 (r : Fin 8320) (n : Fin 2752) : val_main_v8 (F := Ideal) x0 x1 x2 x3 (ix2 r n) = lin X g b P r n := by
  pointwise [val_main_v8, val_main_v6]
  simp only [ref_v5 h0 h1 h2, h3]
  rfl

/-- The gated product. -/
theorem ref_v12 (r : Fin 8320) (n : Fin 2752) :
    val_main_v12 (F := Ideal) x0 x1 x2 x3 (ix2 r n) = act (gate X g b P r n) (lin X g b P r n) := by
  pointwise [val_main_v12, val_main_v11, val_main_call0_v5, val_main_call0_v4, val_main_call0_cst_0, val_main_call0_v3,
    val_main_call0_v2, val_main_call0_cst, val_main_call0_v1, val_main_call0_v0]
  rw [ref_v7 h0 h1 h2 h3, ref_v8 h0 h1 h2 h3]
  rfl

include h4

/-- The stream. -/
theorem ref_v16 (r : Fin 8320) (k : Fin 1024) :
    val_main_v16 (F := Ideal) x0 x1 x2 x3 x4 (ix2 r k) = strm X g b P Q r k := by
  pointwise [val_main_v16, val_main_v15, val_main_v14, val_main_cst_0, val_main_v13, val_main_v10, val_main_v9, val_main_cst]
  simp only [ref_v12 h0 h1 h2 h3, ref_v5 h0 h1 h2, h4, lit_alpha, lit_half]
  rfl

/-- The mean. -/
theorem ref_v20 (r : Fin 8320) (z : Fin 1) : val_main_v20 (F := Ideal) x0 x1 x2 x3 x4 (ix2 r z)
    = Ideal.div (∑ j, strm X g b P Q r j) ((1024 : ℝ) : EReal) := by
  pointwise [val_main_v20, val_main_v19, val_main_cst_2, val_main_v18, val_main_v17, val_main_cst_1]
  simp only [ref_v16 h0 h1 h2 h3 h4, lit_1024, zero_add]

/-- The centred stream. -/
theorem ref_v22 (r : Fin 8320) (k : Fin 1024) :
    val_main_v22 (F := Ideal) x0 x1 x2 x3 x4 (ix2 r k) = cent X g b P Q r k := by
  pointwise [val_main_v22, val_main_v21]
  rw [ref_v16 h0 h1 h2 h3 h4, ref_v20 h0 h1 h2 h3 h4]
  rfl

/-- The same, as the last product reads it. -/
theorem ref_v32 (r : Fin 8320) (k : Fin 1024) :
    val_main_v32 (F := Ideal) x0 x1 x2 x3 x4 (ix2 r k) = cent X g b P Q r k := by
  pointwise [val_main_v32, val_main_v31]
  rw [ref_v16 h0 h1 h2 h3 h4, ref_v20 h0 h1 h2 h3 h4]
  rfl

/-- The reciprocal deviation. -/
theorem ref_v30 (r : Fin 8320) (z : Fin 1) : val_main_v30 (F := Ideal) x0 x1 x2 x3 x4 (ix2 r z) = rdev X g b P Q r := by
  pointwise [val_main_v30, val_main_v29, val_main_v28, val_main_cst_5, val_main_v27, val_main_v26, val_main_cst_4, val_main_v25,
    val_main_v24, val_main_cst_3, val_main_v23]
  simp only [ref_v22 h0 h1 h2 h3 h4, lit_1024, lit_eps, zero_add]
  rfl

/-- The normalised rows. -/
theorem ref_v34 (r : Fin 8320) (k : Fin 1024) :
    val_main_v34 (F := Ideal) x0 x1 x2 x3 x4 (ix2 r k) = cent X g b P Q r k * rdev X g b P Q r := by
  pointwise [val_main_v34, val_main_v33]
  rw [ref_v32 h0 h1 h2 h3 h4, ref_v30 h0 h1 h2 h3 h4]

end Ref

end Cert.Kernel2Ideal.Fwd

end
-- ==== Proof.Fwd.KernRow.lean ====
module
public import proofs.«01_k».proof.Proof.Fwd.Vals
public import proofs.«01_k».proof.Proof.Fwd.RefRow
public import Idealize.ShloMosaic.Lib.Pointwise
public import Idealize.ShloMosaic.Lib.Pipeline.ValueKit.Tiles
@[expose] public section

set_option maxRecDepth 16384

noncomputable section

namespace Cert.Kernel2Ideal.Fwd

open Cert.Kernel2Ideal.Gen
open Idealize.ShloMosaic Idealize.ShloMosaic.TcCoe
open Cert.KernelIdeal.Bwd (alpha eps lit_alpha lit_eps lit_1024 lit_half)

/-! # One block of the forward call -/

open scoped BigOperators

/-- A sum over a padded block whose second factor is zero on the pad. -/
theorem pad_sum (f g : Fin 1408 → EReal) (a b : Fin 1376 → EReal) (hf : ∀ q (h : q.val < 1376), f q = a ⟨q, h⟩)
    (hg : ∀ q : Fin 1408, g q = if h : q.val < 1376 then b ⟨q, h⟩ else 0) :
    ∑ q, f q * g q = ∑ q, a q * b q := by
  rw [show (∑ q, f q * g q) = ∑ q : Fin (1376 + 32), f q * g q from rfl, Fin.sum_univ_add]
  have h2 : ∑ i : Fin 32, f (Fin.natAdd 1376 i) * g (Fin.natAdd 1376 i) = 0 := by
    refine Finset.sum_eq_zero fun i _ => ?_
    rw [hg, dif_neg (by simp), mul_zero]
  rw [h2, add_zero]
  refine Finset.sum_congr rfl fun i _ => ?_
  rw [hf _ (by simp), hg, dif_pos (by simp)]
  rfl

/-- A sum over the hidden width is the sum over its two halves. -/
theorem half_sum (f : Fin 2752 → EReal) :
    ∑ n, f n = ∑ q : Fin 1376, f ⟨q, by omega⟩ + ∑ q : Fin 1376, f ⟨1376 + q, by omega⟩ := by
  rw [show (∑ n, f n) = ∑ n : Fin (1376 + 1376), f n from rfl, Fin.sum_univ_add]
  rfl

/-! The column and row bounds that the statements below mention. -/
theorem ca0 (q : Fin 1408) : q.val < 5632 := by omega
theorem ca1 (q : Fin 1408) : 1408 + q.val < 5632 := by omega
theorem cu0 (q : Fin 1408) : 2816 + q.val < 5632 := by omega
theorem cu1 (q : Fin 1408) : 4224 + q.val < 5632 := by omega
theorem rw0 (q : Fin 1408) : q.val < 2816 := by omega
theorem rw1 (q : Fin 1408) : 1408 + q.val < 2816 := by omega
theorem lo_lt {n : ℕ} (h : n < 1376) : n < 2752 := by omega
theorem hi_lt {n : ℕ} (h : n < 1376) : 1376 + n < 2752 := by omega
theorem up_lt {n : ℕ} (j : Fin 4) (h : n < 1376) : 1376 * j.val + n < 5504 := by omega

section
variable {x0 : Vec Ideal S640x1024 .f32} {x1 : Vec Ideal S2x1024 .f32} {w13 : Vec Ideal S4x1408x1024 .bf16} {w2 : Vec Ideal S2816x1024 .bf16}
  {X : Fin 8320 → Fin 1024 → EReal} {g b : Fin 1024 → EReal} {P : Fin 1024 → Fin 5504 → EReal} {Q : Fin 2752 → Fin 1024 → EReal}
  {r : Fin 8320} {i : Fin 640}
  (h0 : ∀ k, x0 (ix2 i k) = X r k)
  (h1 : ∀ k, x1 (ix2 (0 : Fin 2) k) = g k)
  (h2 : ∀ k, x1 (ix2 (1 : Fin 2) k) = b k)
  (hw : ∀ (j : Fin 4) (q : Fin 1408) (k : Fin 1024), w13 (ix3 j q k) = if h : q.val < 1376 then P k ⟨1376 * j + q, up_lt j h⟩ else 0)
  (hv0 : ∀ (q : Fin 1408) (k : Fin 1024), w2 (ix2 (⟨q, rw0 q⟩ : Fin 2816) k) = if h : q.val < 1376 then Q ⟨q, lo_lt h⟩ k else 0)
  (hv1 : ∀ (q : Fin 1408) (k : Fin 1024), w2 (ix2 (⟨1408 + q, rw1 q⟩ : Fin 2816) k) = if h : q.val < 1376 then Q ⟨1376 + q, hi_lt h⟩ k else 0)

include h0 h1 h2

/-- The block's input rows. -/
theorem h_at (k : Fin 1024) : hV x0 x1 (ix2 i k) = inp X g b r k := by
  unfold hV
  pointwise [k0_pay11]
  rw [h0, h1, h2]
  rfl

/-- The same in the products' format. -/
theorem hb_at (k : Fin 1024) : hbV x0 x1 (ix2 i k) = inp X g b r k := by
  unfold hbV
  pointwise [k0_pay12, k0_pay11]
  rw [h0, h1, h2]
  rfl

include hw

/-- The gate's first block, on its live columns. -/
theorem a0_at (q : Fin 1408) (h : q.val < 1376) :
    k0_pay14 (View.ld x0 rX) (View.ld x1 rG) (View.ld x1 rB) (View.ld w13 rV0) (ix2 i q) = gate X g b P r ⟨q, lo_lt h⟩ := by
  have e := fun k => hb_at h0 h1 h2 k
  unfold hbV at e
  pointwise [k0_pay14]
  refine Finset.sum_congr rfl fun k _ => ?_
  rw [e, hw, dif_pos h]
  refine congrArg (fun n => _ * P k n) (Fin.ext ?_)
  show 1376 * 0 + q.val = q.val; omega

/-- The other half's first block. -/
theorem u0_at (q : Fin 1408) (h : q.val < 1376) :
    k0_pay15 (View.ld x0 rX) (View.ld x1 rG) (View.ld x1 rB) (View.ld w13 rV2) (ix2 i q) = lin X g b P r ⟨q, lo_lt h⟩ := by
  have e := fun k => hb_at h0 h1 h2 k
  unfold hbV at e
  pointwise [k0_pay15]
  refine Finset.sum_congr rfl fun k _ => ?_
  rw [e, hw, dif_pos h]
  refine congrArg (fun n => _ * P k n) (Fin.ext ?_)
  show 1376 * 2 + q.val = 2752 + q.val; omega

/-- The gate's second block. -/
theorem a1_at (q : Fin 1408) (h : q.val < 1376) :
    k0_pay19 (hbV x0 x1) (View.ld w13 rV1) (ix2 i q) = gate X g b P r ⟨1376 + q, hi_lt h⟩ := by
  have e := fun k => hb_at h0 h1 h2 k
  pointwise [k0_pay19]
  refine Finset.sum_congr rfl fun k _ => ?_
  rw [e, hw, dif_pos h]
  refine congrArg (fun n => _ * P k n) (Fin.ext ?_)
  show 1376 * 1 + q.val = 1376 + q.val; omega

/-- The other half's second block. -/
theorem u1_at (q : Fin 1408) (h : q.val < 1376) :
    k0_pay20 (hbV x0 x1) (View.ld w13 rV3) (ix2 i q) = lin X g b P r ⟨1376 + q, hi_lt h⟩ := by
  have e := fun k => hb_at h0 h1 h2 k
  pointwise [k0_pay20]
  refine Finset.sum_congr rfl fun k _ => ?_
  rw [e, hw, dif_pos h]
  refine congrArg (fun n => _ * P k n) (Fin.ext ?_)
  show 1376 * 3 + q.val = 2752 + (1376 + q.val); omega

include hv0 hv1

/-- The down projection. -/
theorem ffn_at (k : Fin 1024) : ffnV x0 x1 w13 w2 (ix2 i k) = down X g b P Q r k := by
  unfold ffnV
  pointwise [k0_pay23, k0_pay13, k0_pay18]
  unfold down
  rw [half_sum]
  refine congrArg₂ (· + ·) (pad_sum _ _ _ _ (fun q h => ?_) (fun q => hv0 q k)) (pad_sum _ _ _ _ (fun q h => ?_) (fun q => hv1 q k))
  · rw [a0_at h0 h1 h2 hw q h, u0_at h0 h1 h2 hw q h, zero_sub]
    rfl
  · rw [a1_at h0 h1 h2 hw q h, u1_at h0 h1 h2 hw q h, zero_sub]
    rfl

/-- The centred stream. -/
theorem cent_at (k : Fin 1024) :
    k0_pay1 (ffnV x0 x1 w13 w2) (k0_pay24 (hV x0 x1)) k0_pay25 (ix2 i k) = cent X g b P Q r k := by
  have e := fun k => ffn_at h0 h1 h2 hw hv0 hv1 k
  have e' := fun k => h_at h0 h1 h2 k
  pointwise [k0_pay1, k0_pay24, k0_pay25]
  simp only [e, e', lit_alpha, lit_half, lit_1024]
  rfl

/-- The reciprocal deviations. -/
theorem rs_at (z : Fin 1) : rsV x0 x1 w13 w2 (ix2 i z) = rdev X g b P Q r := by
  have e := fun k => cent_at h0 h1 h2 hw hv0 hv1 k
  unfold rsV
  pointwise [k0_pay2]
  simp only [e, lit_eps, lit_1024]
  rfl

/-- The normalised rows. -/
theorem xo_at (k : Fin 1024) : xoV x0 x1 w13 w2 (ix2 i k) = cent X g b P Q r k * rdev X g b P Q r := by
  have e := cent_at h0 h1 h2 hw hv0 hv1 k
  have e' := rs_at h0 h1 h2 hw hv0 hv1 0
  unfold rsV at e'
  unfold xoV
  pointwise [k0_pay3]
  rw [e, e']

end

end Cert.Kernel2Ideal.Fwd

end
-- ==== Proof.Fwd.Entry.lean ====
module
public import proofs.«01_k».proof.Proof.Fwd.RunA
public import proofs.«01_k».proof.Proof.Bwd.Weights
public import Idealize.ShloMosaic.Lib.StableHlo.RunRead
@[expose] public section

set_option maxRecDepth 16384

noncomputable section

namespace Cert.Kernel2Ideal.Fwd

open Cert.Kernel2Ideal.Gen
open Idealize.ShloMosaic Idealize.ShloMosaic.TcCoe

/-! # What the host prepares for the forward call

The backward call's packing of the two weights, and gain over bias. The resident weights are the backward call's too. -/

variable {F : FTy → Type} [FloatOps F]
variable (m : (ℓ : Loc nD τ sig) → Buf (Elt F) ℓ)

/-- The call's gain and bias. -/
theorem V_gb (c : Dev nD) : V m c main_v2 =
    Cert.KernelIdeal.Bwd.packGb (F := F) (m ((c : Thread nD τ).loc main_arg1)) (m ((c : Thread nD τ).loc main_arg2)) := by
  rfl

/-- Weight slot 0 of the call. -/
theorem upto_w0 (c : Dev nD) : StableHlo.upto [hostOps0].flatten (fun b => m (c, b)) 33 (Proc.tc.devRef main_v28) =
    Cert.KernelIdeal.Bwd.packW0 (F := F) (m ((c : Thread nD τ).loc main_arg3)) (m ((c : Thread nD τ).loc main_arg4)) := by
  after_reads_simp
  unfold Cert.KernelIdeal.Bwd.packW0
  rfl

/-- Weight slot 1 of the call. -/
theorem upto_w1 (c : Dev nD) : StableHlo.upto [hostOps0].flatten (fun b => m (c, b)) 33 (Proc.tc.devRef main_v29) =
    Cert.KernelIdeal.Bwd.packW1 (F := F) (m ((c : Thread nD τ).loc main_arg3)) (m ((c : Thread nD τ).loc main_arg4)) := by
  after_reads_simp
  unfold Cert.KernelIdeal.Bwd.packW1
  rfl

/-- Weight slot 2 of the call. -/
theorem upto_w2 (c : Dev nD) : StableHlo.upto [hostOps0].flatten (fun b => m (c, b)) 33 (Proc.tc.devRef main_v30) =
    Cert.KernelIdeal.Bwd.packW2 (F := F) (m ((c : Thread nD τ).loc main_arg3)) (m ((c : Thread nD τ).loc main_arg4)) := by
  after_reads_simp
  unfold Cert.KernelIdeal.Bwd.packW2
  rfl

/-- Weight slot 3 of the call. -/
theorem upto_w3 (c : Dev nD) : StableHlo.upto [hostOps0].flatten (fun b => m (c, b)) 33 (Proc.tc.devRef main_v31) =
    Cert.KernelIdeal.Bwd.packW3 (F := F) (m ((c : Thread nD τ).loc main_arg3)) (m ((c : Thread nD τ).loc main_arg4)) := by
  after_reads_simp
  unfold Cert.KernelIdeal.Bwd.packW3
  rfl

/-- The call's weights. -/
theorem V_w (c : Dev nD) : V m c main_v32 =
    Cert.KernelIdeal.Bwd.packW (F := F) (m ((c : Thread nD τ).loc main_arg3)) (m ((c : Thread nD τ).loc main_arg4)) := by
  show StableHlo.after _ _ _ = _
  after_reads_simp
  show concatenate S4x2080x1024 0
    [⟨S1x2080x1024, StableHlo.upto [hostOps0].flatten (fun b => m (c, b)) 33 (Proc.tc.devRef main_v28)⟩,
      ⟨S1x2080x1024, StableHlo.upto [hostOps0].flatten (fun b => m (c, b)) 33 (Proc.tc.devRef main_v29)⟩,
      ⟨S1x2080x1024, StableHlo.upto [hostOps0].flatten (fun b => m (c, b)) 33 (Proc.tc.devRef main_v30)⟩,
      ⟨S1x2080x1024, StableHlo.upto [hostOps0].flatten (fun b => m (c, b)) 33 (Proc.tc.devRef main_v31)⟩] _ = _
  rw [upto_w0, upto_w1, upto_w2, upto_w3]
  rfl

/-- The resident weights. -/
theorem W13v_same (w : Vec F S4x2080x1024 .bf16) : W13v w = Cert.KernelIdeal.Bwd.W13v w := by
  rfl

theorem W2v_same (w : Vec F S4x2080x1024 .bf16) : W2v w = Cert.KernelIdeal.Bwd.W2v w := by
  rfl

end Cert.Kernel2Ideal.Fwd

end
-- ==== Proof.Fwd.Arrays.lean ====
module
public import proofs.«01_k».proof.Proof.Fwd.Frame
public import proofs.«01_k».proof.Proof.Fwd.KernRow
public import proofs.«01_k».proof.Proof.Fwd.Entry
public import Idealize.ShloMosaic.Lib.Pipeline.ValueKit
@[expose] public section

set_option maxRecDepth 16384

noncomputable section

namespace Cert.Kernel2Ideal.Fwd

open Cert.Kernel2Ideal.Gen
open Idealize.ShloMosaic Idealize.ShloMosaic.TcCoe

/-! # The arrays the forward call's grid leaves -/

open scoped BigOperators

section
variable {x0 : Vec Ideal S640x1024 .f32} {x1 : Vec Ideal S2x1024 .f32} {w13 : Vec Ideal S4x1408x1024 .bf16}

/-- The up projection's block, column by column of its four parts. -/
theorem au_a0 (i : Fin 640) (q : Fin 1408) : auV x0 x1 w13 (ix2 i (⟨q, ca0 q⟩ : Fin 5632)) = pa0 x0 x1 w13 (ix2 i q) := by
  unfold auV
  canon_tiles x h using (View.cover_of_tiledBy (s := S640x5632) _ ![640, 1408] (by sl_kernel_rfl) _)
  all_goals
    change i.val = _ at h0
    change q.val = _ at h1
  all_goals first
    | omega
    | (refine congrArg (pa0 x0 x1 w13) ?_; funext a; match a with
        | ⟨0, _⟩ => exact Fin.ext (show (x 0).val = i.val by omega)
        | ⟨1, _⟩ => exact Fin.ext (show (x 1).val = q.val by omega))

theorem au_a1 (i : Fin 640) (q : Fin 1408) : auV x0 x1 w13 (ix2 i (⟨1408 + q, ca1 q⟩ : Fin 5632)) = pa1 x0 x1 w13 (ix2 i q) := by
  unfold auV
  canon_tiles x h using (View.cover_of_tiledBy (s := S640x5632) _ ![640, 1408] (by sl_kernel_rfl) _)
  all_goals
    change i.val = _ at h0
    change 1408 + q.val = _ at h1
  all_goals first
    | omega
    | (refine congrArg (pa1 x0 x1 w13) ?_; funext a; match a with
        | ⟨0, _⟩ => exact Fin.ext (show (x 0).val = i.val by omega)
        | ⟨1, _⟩ => exact Fin.ext (show (x 1).val = q.val by omega))

theorem au_u0 (i : Fin 640) (q : Fin 1408) : auV x0 x1 w13 (ix2 i (⟨2816 + q, cu0 q⟩ : Fin 5632)) = pu0 x0 x1 w13 (ix2 i q) := by
  unfold auV
  canon_tiles x h using (View.cover_of_tiledBy (s := S640x5632) _ ![640, 1408] (by sl_kernel_rfl) _)
  all_goals
    change i.val = _ at h0
    change 2816 + q.val = _ at h1
  all_goals first
    | omega
    | (refine congrArg (pu0 x0 x1 w13) ?_; funext a; match a with
        | ⟨0, _⟩ => exact Fin.ext (show (x 0).val = i.val by omega)
        | ⟨1, _⟩ => exact Fin.ext (show (x 1).val = q.val by omega))

theorem au_u1 (i : Fin 640) (q : Fin 1408) : auV x0 x1 w13 (ix2 i (⟨4224 + q, cu1 q⟩ : Fin 5632)) = pu1 x0 x1 w13 (ix2 i q) := by
  unfold auV
  canon_tiles x h using (View.cover_of_tiledBy (s := S640x5632) _ ![640, 1408] (by sl_kernel_rfl) _)
  all_goals
    change i.val = _ at h0
    change 4224 + q.val = _ at h1
  all_goals first
    | omega
    | (refine congrArg (pu1 x0 x1 w13) ?_; funext a; match a with
        | ⟨0, _⟩ => exact Fin.ext (show (x 0).val = i.val by omega)
        | ⟨1, _⟩ => exact Fin.ext (show (x 1).val = q.val by omega))

end

/-- Every window's block index at a point. -/
theorem idx : ∀ t : Fin grid0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] := by
  decide +kernel

theorem point_lt (t : Fin cfg0.N) : t.val < 13 := lt_of_lt_of_eq t.isLt (show cfg0.N = 13 from N_0)

/-- The array row that row `i` of point `t`'s block is. -/
def row (t : Fin cfg0.N) (i : Fin 640) : Fin 8320 :=
  ⟨640 * t.val + i.val, by have := point_lt t; omega⟩

variable (m : (ℓ : Loc nD τ sig) → Buf (Elt Ideal) ℓ) (c : Dev nD)

/-- The normalised rows' block. -/
theorem X0_at (t : Fin cfg0.N) (i : Fin 640) (k : Fin 1024) : X0 m c t (ix2 i k) = V m c main_arg0 (ix2 (row t i) k) := by
  unfold X0
  have h := (idx t).1
  try unfold row
  blk_ext [iblk, h]

/-- The gain's and the bias's block. -/
theorem X1_at (t : Fin cfg0.N) (i : Fin 2) (k : Fin 1024) : X1 m c t (ix2 i k) = V m c main_v2 (ix2 i k) := by
  unfold X1
  have h := (idx t).2.1
  try unfold row
  blk_ext [iblk, h]

/-- Gain above bias. -/
theorem packGb_bias (g b : Vec Ideal S1024 .f32) (k : Fin 1024) :
    Cert.KernelIdeal.Bwd.packGb (F := Ideal) g b (ix2 (1 : Fin 2) k) = b (ix1 k) := by
  unfold Cert.KernelIdeal.Bwd.packGb
  pointwise

variable {X : Fin 8320 → Fin 1024 → EReal} {g b : Fin 1024 → EReal} {P : Fin 1024 → Fin 5504 → EReal} {Q : Fin 2752 → Fin 1024 → EReal}
  (h0 : ∀ r k, @Eq EReal ((m ((c : Thread nD τ).loc main_arg0) : Vec Ideal S8320x1024 .f32) (ix2 r k)) (X r k))
  (h1 : ∀ k, @Eq EReal ((m ((c : Thread nD τ).loc main_arg1) : Vec Ideal S1024 .f32) (ix1 k)) (g k))
  (h2 : ∀ k, @Eq EReal ((m ((c : Thread nD τ).loc main_arg2) : Vec Ideal S1024 .f32) (ix1 k)) (b k))
  (h3 : ∀ k n, @Eq EReal ((m ((c : Thread nD τ).loc main_arg3) : Vec Ideal S1024x5504 .f32) (ix2 k n)) (P k n))
  (h4 : ∀ n k, @Eq EReal ((m ((c : Thread nD τ).loc main_arg4) : Vec Ideal S2752x1024 .f32) (ix2 n k)) (Q n k))

include h0 in
theorem blk0 (t : Fin cfg0.N) (i : Fin 640) (k : Fin 1024) : X0 m c t (ix2 i k) = X (row t i) k := by
  rw [X0_at, V_main_arg0]; exact h0 _ _

include h1 in
theorem blk1 (t : Fin cfg0.N) (k : Fin 1024) : X1 m c t (ix2 (0 : Fin 2) k) = g k := by
  rw [X1_at, V_gb, Cert.KernelIdeal.Bwd.packGb_gain]; exact h1 _

include h2 in
theorem blk2 (t : Fin cfg0.N) (k : Fin 1024) : X1 m c t (ix2 (1 : Fin 2) k) = b k := by
  rw [X1_at, V_gb, packGb_bias]; exact h2 _

include h3 in
theorem Y1_at (j : Fin 4) (q : Fin 1408) (k : Fin 1024) :
    Y1 m c (ix3 j q k) = if h : q.val < 1376 then P k ⟨1376 * j + q, up_lt j h⟩ else 0 := by
  unfold Y1
  rw [V_w, W13v_same]
  exact (Cert.KernelIdeal.Bwd.W13v_at _ _ j q k).trans (dite_congr rfl (fun h => h3 _ _) fun _ => rfl)

include h4 in
theorem Y2_at0 (q : Fin 1408) (k : Fin 1024) :
    Y2 m c (ix2 (⟨q, rw0 q⟩ : Fin 2816) k) = if h : q.val < 1376 then Q ⟨q, lo_lt h⟩ k else 0 := by
  unfold Y2
  rw [V_w, W2v_same]
  exact (Cert.KernelIdeal.Bwd.W2v_at0 _ _ q k).trans (dite_congr rfl (fun h => h4 _ _) fun _ => rfl)

include h4 in
theorem Y2_at1 (q : Fin 1408) (k : Fin 1024) :
    Y2 m c (ix2 (⟨1408 + q, rw1 q⟩ : Fin 2816) k) = if h : q.val < 1376 then Q ⟨1376 + q, hi_lt h⟩ k else 0 := by
  unfold Y2
  rw [V_w, W2v_same]
  exact (Cert.KernelIdeal.Bwd.W2v_at1 _ _ q k).trans (dite_congr rfl (fun h => h4 _ _) fun _ => rfl)

include h0 h1 h2 h3 h4 in
/-- The normalised rows. -/
theorem out2 : (dats m 0 c).arrAt 2 cfg0.N
    = (fun x : S8320x1024.Idx => cent X g b P Q (x 0) (x 1) * rdev X g b P Q (x 0)) := by
  refine (dats m 0 c).arrAt_eq_of_covers 2 _ (by decide +kernel) fun t hf y => ?_
  have e := (idx t).2.2.1
  blk_simp [e]
  rw [after0_2]
  have hy : (win0_2.blk t).view.emb y = ix2 (row t (y 0)) (y 1) := by
    unfold row
    blk_ext [e]
  rw [hy]
  refine Eq.trans ?_ (xo_at (r := row t (y 0)) (i := y 0) (blk0 m c h0 t _) (blk1 m c h1 t) (blk2 m c h2 t) (Y1_at m c h3)
    (Y2_at0 m c h4) (Y2_at1 m c h4) (y 1))
  refine congrArg (D2 m c t) ?_
  funext a; fin_cases a <;> rfl

include h0 h1 h2 h3 h4 in
/-- The reciprocal deviations. -/
theorem out3 : (dats m 0 c).arrAt 3 cfg0.N = (fun x : S8320x1.Idx => rdev X g b P Q (x 0)) := by
  refine (dats m 0 c).arrAt_eq_of_covers 3 _ (by decide +kernel) fun t hf y => ?_
  have e := (idx t).2.2.2.1
  blk_simp [e]
  rw [after0_3]
  have hy : (win0_3.blk t).view.emb y = ix2 (row t (y 0)) (y 1) := by
    unfold row
    blk_ext [e]
  rw [hy]
  refine Eq.trans ?_ (rs_at (r := row t (y 0)) (i := y 0) (blk0 m c h0 t _) (blk1 m c h1 t) (blk2 m c h2 t) (Y1_at m c h3)
    (Y2_at0 m c h4) (Y2_at1 m c h4) (y 1))
  refine congrArg (D3 m c t) ?_
  funext a; fin_cases a <;> rfl

include h0 h1 h2 in
/-- The input. -/
theorem out5 : (dats m 0 c).arrAt 5 cfg0.N = (fun x : S8320x1024.Idx => inp X g b (x 0) (x 1)) := by
  refine (dats m 0 c).arrAt_eq_of_covers 5 _ (by decide +kernel) fun t hf y => ?_
  have e := (idx t).2.2.2.2.2
  blk_simp [e]
  rw [after0_5]
  have hy : (win0_5.blk t).view.emb y = ix2 (row t (y 0)) (y 1) := by
    unfold row
    blk_ext [e]
  rw [hy]
  refine Eq.trans ?_ (hb_at (r := row t (y 0)) (i := y 0) (blk0 m c h0 t _) (blk1 m c h1 t) (blk2 m c h2 t) (y 1))
  refine congrArg (D5 m c t) ?_
  funext a; fin_cases a <;> rfl

/-- The point and the row inside its block that an array row belongs to. -/
def rowPt (r : Fin 8320) : Fin cfg0.N := pt (r.val / 640)
def rowIn (r : Fin 8320) : Fin 640 := ⟨r.val % 640, Nat.mod_lt _ (by decide)⟩

theorem rowPt_row (t : Fin cfg0.N) (i : Fin 640) : rowPt (row t i) = t := by
  have := point_lt t
  refine Fin.ext ?_
  show (640 * t.val + i.val) / 640 % 13 = t.val
  omega

theorem rowIn_row (t : Fin cfg0.N) (i : Fin 640) : rowIn (row t i) = i := by
  refine Fin.ext ?_
  show (640 * t.val + i.val) % 640 = i.val
  omega

theorem row_of (r : Fin 8320) : row (rowPt r) (rowIn r) = r := by
  refine Fin.ext ?_
  show 640 * (r.val / 640 % 13) + r.val % 640 = r.val
  omega

theorem D4_row (t : Fin cfg0.N) (i : Fin 640) (n : Fin 5632) :
    D4 m c (rowPt (row t i)) (ix2 (rowIn (row t i)) n) = D4 m c t (ix2 i n) := by
  rw [rowPt_row, rowIn_row]

/-- The up projection's array, block by block. -/
theorem out4 : (dats m 0 c).arrAt 4 cfg0.N
    = (fun x : S8320x5632.Idx => D4 m c (rowPt (x 0)) (ix2 (rowIn (x 0)) (x 1))) := by
  refine (dats m 0 c).arrAt_eq_of_covers 4 _ (by decide +kernel) fun t hf y => ?_
  have e := (idx t).2.2.2.2.1
  blk_simp [e]
  rw [after0_4]
  have hy : (win0_4.blk t).view.emb y = ix2 (row t (y 0)) (y 1) := by
    unfold row
    blk_ext [e]
  rw [hy]
  refine Eq.trans ?_ (D4_row m c t (y 0) (y 1)).symm
  refine congrArg (D4 m c t) ?_
  funext a; fin_cases a <;> rfl

theorem out4_at (r : Fin 8320) (n : Fin 5632) :
    (dats m 0 c).arrAt 4 cfg0.N (ix2 r n) = D4 m c (rowPt r) (ix2 (rowIn r) n) :=
  congrFun (out4 m c) (ix2 r n)

section
variable (r : Fin 8320) (q : Fin 1408) (h : q.val < 1376)
include h0 h1 h2 h3

/-- Its live columns. -/
theorem out4_a0 : (dats m 0 c).arrAt 4 cfg0.N (ix2 r (⟨q, ca0 q⟩ : Fin 5632)) = gate X g b P r ⟨q, lo_lt h⟩ := by
  rw [out4_at]
  unfold D4
  rw [au_a0]
  unfold pa0
  pointwise [k0_pay16]
  have e := a0_at (blk0 m c h0 (rowPt r) (rowIn r)) (blk1 m c h1 (rowPt r)) (blk2 m c h2 (rowPt r)) (Y1_at m c h3) q h
  rw [row_of] at e
  exact e

theorem out4_a1 : (dats m 0 c).arrAt 4 cfg0.N (ix2 r (⟨1408 + q, ca1 q⟩ : Fin 5632)) = gate X g b P r ⟨1376 + q, hi_lt h⟩ := by
  rw [out4_at]
  unfold D4
  rw [au_a1]
  unfold pa1
  pointwise [k0_pay21]
  have e := a1_at (blk0 m c h0 (rowPt r) (rowIn r)) (blk1 m c h1 (rowPt r)) (blk2 m c h2 (rowPt r)) (Y1_at m c h3) q h
  rw [row_of] at e
  exact e

theorem out4_u0 : (dats m 0 c).arrAt 4 cfg0.N (ix2 r (⟨2816 + q, cu0 q⟩ : Fin 5632)) = lin X g b P r ⟨q, lo_lt h⟩ := by
  rw [out4_at]
  unfold D4
  rw [au_u0]
  unfold pu0
  pointwise [k0_pay17]
  have e := u0_at (blk0 m c h0 (rowPt r) (rowIn r)) (blk1 m c h1 (rowPt r)) (blk2 m c h2 (rowPt r)) (Y1_at m c h3) q h
  rw [row_of] at e
  exact e

theorem out4_u1 : (dats m 0 c).arrAt 4 cfg0.N (ix2 r (⟨4224 + q, cu1 q⟩ : Fin 5632)) = lin X g b P r ⟨1376 + q, hi_lt h⟩ := by
  rw [out4_at]
  unfold D4
  rw [au_u1]
  unfold pu1
  pointwise [k0_pay22]
  have e := u1_at (blk0 m c h0 (rowPt r) (rowIn r)) (blk1 m c h1 (rowPt r)) (blk2 m c h2 (rowPt r)) (Y1_at m c h3) q h
  rw [row_of] at e
  exact e

end

end Cert.Kernel2Ideal.Fwd

end
-- ==== Proof.Fwd.Results.lean ====
module
public import proofs.«01_k».proof.Proof.Fwd.Arrays
public import proofs.«01_k».proof.Proof.Fwd.Ends
public import proofs.«01_k».proof.Proof.Gen.Reference2Ideal.Run
public import Idealize.ShloMosaic.Lib.StableHlo.RunRead
@[expose] public section

set_option maxRecDepth 16384

noncomputable section

namespace Cert.Kernel2Ideal.Fwd

open Cert.Kernel2Ideal.Gen
open Idealize.ShloMosaic Idealize.ShloMosaic.TcCoe

/-! # The results of the forward call and of its reference -/

open scoped BigOperators

section
variable (X : Fin 8320 → Fin 1024 → EReal) (g b : Fin 1024 → EReal) (P : Fin 1024 → Fin 5504 → EReal) (Q : Fin 2752 → Fin 1024 → EReal)

/-- The normalised rows. -/
def fRows : Vec Ideal S8320x1024 .f32 := fun x : S8320x1024.Idx => cent X g b P Q (x 0) (x 1) * rdev X g b P Q (x 0)
/-- The reciprocal deviations. -/
def fDev : Vec Ideal S8320x1 .f32 := fun x : S8320x1.Idx => rdev X g b P Q (x 0)
/-- The gate. -/
def fGate : Vec Ideal S8320x2752 .f32 := fun x : S8320x2752.Idx => gate X g b P (x 0) (x 1)
/-- The other half. -/
def fLin : Vec Ideal S8320x2752 .f32 := fun x : S8320x2752.Idx => lin X g b P (x 0) (x 1)
/-- The input. -/
def fInp : Vec Ideal S8320x1024 .f32 := fun x : S8320x1024.Idx => inp X g b (x 0) (x 1)
end

section
variable (m : (ℓ : Loc nD τ sig) → Buf (Elt Ideal) ℓ) (c : Dev nD)

/-- Two live blocks of the up projection's array side by side: the gate. -/
def joinA (A : FVec Ideal S8320x5632 .bf16) : FVec Ideal S8320x2752 .f32 :=
  extf .f32 (concatenate S8320x2752 1
    [⟨S8320x1376, extractStridedSlice S8320x1376 ![0, 0] A slices_S8320x5632_S8320x1376_0_0⟩,
      ⟨S8320x1376, extractStridedSlice S8320x1376 ![0, 1408] A slices_S8320x5632_S8320x1376_0_1408⟩]
    concatenates_S8320x1376_S8320x1376_S8320x2752_d1) bitsLt_bf16_f32

/-- The other half. -/
def joinU (A : FVec Ideal S8320x5632 .bf16) : FVec Ideal S8320x2752 .f32 :=
  extf .f32 (concatenate S8320x2752 1
    [⟨S8320x1376, extractStridedSlice S8320x1376 ![0, 2816] A slices_S8320x5632_S8320x1376_0_2816⟩,
      ⟨S8320x1376, extractStridedSlice S8320x1376 ![0, 4224] A slices_S8320x5632_S8320x1376_0_4224⟩]
    concatenates_S8320x1376_S8320x1376_S8320x2752_d1) bitsLt_bf16_f32

/-- The input, in the wider format. -/
def wide (A : FVec Ideal S8320x1024 .bf16) : FVec Ideal S8320x1024 .f32 := extf .f32 A bitsLt_bf16_f32

section
variable (W : Valuation τ sig (Elt Ideal))

/-- The four slices the host takes. -/
theorem upto_v34 : StableHlo.upto hostOps1 W 2 (Proc.tc.devRef main_v34)
    = extractStridedSlice S8320x1376 ![0, 0] (W (Proc.tc.devRef main_v33_2)) slices_S8320x5632_S8320x1376_0_0 := by
  after_reads_simp
theorem upto_v35 : StableHlo.upto hostOps1 W 2 (Proc.tc.devRef main_v35)
    = extractStridedSlice S8320x1376 ![0, 1408] (W (Proc.tc.devRef main_v33_2)) slices_S8320x5632_S8320x1376_0_1408 := by
  after_reads_simp
theorem upto_v37 : StableHlo.upto hostOps1 W 5 (Proc.tc.devRef main_v37)
    = extractStridedSlice S8320x1376 ![0, 2816] (W (Proc.tc.devRef main_v33_2)) slices_S8320x5632_S8320x1376_0_2816 := by
  after_reads_simp
theorem upto_v38 : StableHlo.upto hostOps1 W 5 (Proc.tc.devRef main_v38)
    = extractStridedSlice S8320x1376 ![0, 4224] (W (Proc.tc.devRef main_v33_2)) slices_S8320x5632_S8320x1376_0_4224 := by
  after_reads_simp
end

/-- The gate's result. -/
theorem W_a : Pipeline.afterTail₀ cfgs (dats m) 0 (V0 m) [hostOps1] c main_v40 = joinA ((dats m 0 c).arrAt 4 cfg0.N) := by
  have e := Pipeline.withArrays_arr spec0 (by decide) c (V0 m c) (fun w => (dats m 0 c).arrAt w cfg0.N) 4
  unfold Pipeline.afterTail₀
  simp only [List.flatten_cons, List.flatten_nil, List.append_nil]
  after_reads_simp
  rw [upto_v34, upto_v35]
  exact congrArg joinA e

/-- The other half's result. -/
theorem W_u : Pipeline.afterTail₀ cfgs (dats m) 0 (V0 m) [hostOps1] c main_v41 = joinU ((dats m 0 c).arrAt 4 cfg0.N) := by
  have e := Pipeline.withArrays_arr spec0 (by decide) c (V0 m c) (fun w => (dats m 0 c).arrAt w cfg0.N) 4
  unfold Pipeline.afterTail₀
  simp only [List.flatten_cons, List.flatten_nil, List.append_nil]
  after_reads_simp
  rw [upto_v37, upto_v38]
  exact congrArg joinU e

/-- The input's result. -/
theorem W_h : Pipeline.afterTail₀ cfgs (dats m) 0 (V0 m) [hostOps1] c main_v42
    = wide ((dats m 0 c).arrAt 5 cfg0.N) := by
  have e := Pipeline.withArrays_arr spec0 (by decide) c (V0 m c) (fun w => (dats m 0 c).arrAt w cfg0.N) 5
  unfold Pipeline.afterTail₀
  simp only [List.flatten_cons, List.flatten_nil, List.append_nil]
  after_reads_simp
  exact congrArg wide e

/-- The joined gate, entry by entry. -/
theorem joinA_lo (A : FVec Ideal S8320x5632 .bf16) (r : Fin 8320) (q : Fin 1376) :
    joinA A (ix2 r (⟨q, by omega⟩ : Fin 2752)) = A (ix2 r (⟨q, by omega⟩ : Fin 5632)) := by
  unfold joinA
  pointwise

theorem joinA_hi (A : FVec Ideal S8320x5632 .bf16) (r : Fin 8320) (q : Fin 1376) :
    joinA A (ix2 r (⟨1376 + q, by omega⟩ : Fin 2752)) = A (ix2 r (⟨1408 + q, by omega⟩ : Fin 5632)) := by
  unfold joinA
  pointwise

theorem joinU_lo (A : FVec Ideal S8320x5632 .bf16) (r : Fin 8320) (q : Fin 1376) :
    joinU A (ix2 r (⟨q, by omega⟩ : Fin 2752)) = A (ix2 r (⟨2816 + q, by omega⟩ : Fin 5632)) := by
  unfold joinU
  pointwise

theorem joinU_hi (A : FVec Ideal S8320x5632 .bf16) (r : Fin 8320) (q : Fin 1376) :
    joinU A (ix2 r (⟨1376 + q, by omega⟩ : Fin 2752)) = A (ix2 r (⟨4224 + q, by omega⟩ : Fin 5632)) := by
  unfold joinU
  pointwise

variable {X : Fin 8320 → Fin 1024 → EReal} {g b : Fin 1024 → EReal} {P : Fin 1024 → Fin 5504 → EReal} {Q : Fin 2752 → Fin 1024 → EReal}
  (h0 : ∀ r k, @Eq EReal ((m ((c : Thread nD τ).loc main_arg0) : Vec Ideal S8320x1024 .f32) (ix2 r k)) (X r k))
  (h1 : ∀ k, @Eq EReal ((m ((c : Thread nD τ).loc main_arg1) : Vec Ideal S1024 .f32) (ix1 k)) (g k))
  (h2 : ∀ k, @Eq EReal ((m ((c : Thread nD τ).loc main_arg2) : Vec Ideal S1024 .f32) (ix1 k)) (b k))
  (h3 : ∀ k n, @Eq EReal ((m ((c : Thread nD τ).loc main_arg3) : Vec Ideal S1024x5504 .f32) (ix2 k n)) (P k n))

include h0 h1 h2 h3 in
theorem out_a : joinA ((dats m 0 c).arrAt 4 cfg0.N) = fGate X g b P := by
  funext x
  obtain ⟨r, n, rfl⟩ : ∃ (r : Fin 8320) (n : Fin 2752), x = ix2 r n :=
    ⟨x 0, x 1, by funext i; match i with | ⟨0, _⟩ => rfl | ⟨1, _⟩ => rfl⟩
  by_cases h : n.val < 1376
  · exact (joinA_lo _ r ⟨n.val, h⟩).trans (out4_a0 m c h0 h1 h2 h3 r ⟨n.val, by omega⟩ h)
  · obtain ⟨q, e⟩ : ∃ q : Fin 1376, n = ⟨1376 + q.val, Nat.add_lt_add_left q.isLt 1376⟩ :=
      ⟨⟨n.val - 1376, by omega⟩, Fin.ext (show n.val = 1376 + (n.val - 1376) by omega)⟩
    rw [e]
    exact (joinA_hi _ r q).trans (out4_a1 m c h0 h1 h2 h3 r ⟨q.val, by omega⟩ q.isLt)

include h0 h1 h2 h3 in
theorem out_u : joinU ((dats m 0 c).arrAt 4 cfg0.N) = fLin X g b P := by
  funext x
  obtain ⟨r, n, rfl⟩ : ∃ (r : Fin 8320) (n : Fin 2752), x = ix2 r n :=
    ⟨x 0, x 1, by funext i; match i with | ⟨0, _⟩ => rfl | ⟨1, _⟩ => rfl⟩
  by_cases h : n.val < 1376
  · exact (joinU_lo _ r ⟨n.val, h⟩).trans (out4_u0 m c h0 h1 h2 h3 r ⟨n.val, by omega⟩ h)
  · obtain ⟨q, e⟩ : ∃ q : Fin 1376, n = ⟨1376 + q.val, Nat.add_lt_add_left q.isLt 1376⟩ :=
      ⟨⟨n.val - 1376, by omega⟩, Fin.ext (show n.val = 1376 + (n.val - 1376) by omega)⟩
    rw [e]
    exact (joinU_hi _ r q).trans (out4_u1 m c h0 h1 h2 h3 r ⟨q.val, by omega⟩ q.isLt)

include h0 h1 h2 in
theorem out_h : wide ((dats m 0 c).arrAt 5 cfg0.N)
    = fInp X g b := by
  rw [out5 m c h0 h1 h2]
  funext x
  idx_vars x
  unfold wide
  pointwise
  rfl

end

section
variable (X : Dev nD → Fin 8320 → Fin 1024 → EReal) (g b : Dev nD → Fin 1024 → EReal) (P : Dev nD → Fin 1024 → Fin 5504 → EReal)
  (Q : Dev nD → Fin 2752 → Fin 1024 → EReal)

/-- Every run of the kernel program ends with the five results. -/
theorem run_kernel (m : (ℓ : Loc nD τ sig) → Buf (Elt Ideal) ℓ) (ρ : Dev nD → PrngReg)
  (h0 : ∀ c r k, @Eq EReal ((m ((c.tc : Thread nD τ).loc main_arg0) : Vec Ideal S8320x1024 .f32) (ix2 r k)) (X c r k))
  (h1 : ∀ c k, @Eq EReal ((m ((c.tc : Thread nD τ).loc main_arg1) : Vec Ideal S1024 .f32) (ix1 k)) (g c k))
  (h2 : ∀ c k, @Eq EReal ((m ((c.tc : Thread nD τ).loc main_arg2) : Vec Ideal S1024 .f32) (ix1 k)) (b c k))
  (h3 : ∀ c k n, @Eq EReal ((m ((c.tc : Thread nD τ).loc main_arg3) : Vec Ideal S1024x5504 .f32) (ix2 k n)) (P c k n))
  (h4 : ∀ c n k, @Eq EReal ((m ((c.tc : Thread nD τ).loc main_arg4) : Vec Ideal S2752x1024 .f32) (ix2 n k)) (Q c n k)) :
    θ_run defs (onTc (τ := τ) (main (F := Ideal))) ⟨m, fun _ => 0, ρ⟩ (fun r => ∀ c : Dev nD,
      r.2.mem ((c.tc : Thread nD τ).loc main_v33_0) = fRows (X c) (g c) (b c) (P c) (Q c)
      ∧ r.2.mem ((c.tc : Thread nD τ).loc main_v33_1) = fDev (X c) (g c) (b c) (P c) (Q c)
      ∧ r.2.mem ((c.tc : Thread nD τ).loc main_v40) = fGate (X c) (g c) (b c) (P c)
      ∧ r.2.mem ((c.tc : Thread nD τ).loc main_v41) = fLin (X c) (g c) (b c) (P c)
      ∧ r.2.mem ((c.tc : Thread nD τ).loc main_v42) = fInp (X c) (g c) (b c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ⟨?_, ?_, ?_, ?_, ?_, unchanged m h.1 c⟩) (run_main m ρ)
  · exact ((h.1 c).1 2).trans (out2 m c (h0 c) (h1 c) (h2 c) (h3 c) (h4 c))
  · exact ((h.1 c).1 3).trans (out3 m c (h0 c) (h1 c) (h2 c) (h3 c) (h4 c))
  · exact ((h.1 c).2 main_v40 (Pipeline.mem_restRefs_of main_v40 (by decide) (by decide))).trans
      ((W_a m c).trans (out_a m c (h0 c) (h1 c) (h2 c) (h3 c)))
  · exact ((h.1 c).2 main_v41 (Pipeline.mem_restRefs_of main_v41 (by decide) (by decide))).trans
      ((W_u m c).trans (out_u m c (h0 c) (h1 c) (h2 c) (h3 c)))
  · exact ((h.1 c).2 main_v42 (Pipeline.mem_restRefs_of main_v42 (by decide) (by decide))).trans
      ((W_h m c).trans (out_h m c (h0 c) (h1 c) (h2 c)))

/-- Every run of the reference ends with the same five results. -/
theorem run_reference (m : (ℓ : Loc Cert.Reference2Ideal.nD Cert.Reference2Ideal.τ Cert.Reference2Ideal.sig) → Buf (Elt Ideal) ℓ) (ρ : Dev Cert.Reference2Ideal.nD → PrngReg)
  (h0 : ∀ c r k, @Eq EReal ((m ((c.tc : Thread Cert.Reference2Ideal.nD Cert.Reference2Ideal.τ).loc Cert.Reference2Ideal.main_arg0) : Vec Ideal S8320x1024 .f32) (ix2 r k)) (X c r k))
  (h1 : ∀ c k, @Eq EReal ((m ((c.tc : Thread Cert.Reference2Ideal.nD Cert.Reference2Ideal.τ).loc Cert.Reference2Ideal.main_arg1) : Vec Ideal S1024 .f32) (ix1 k)) (g c k))
  (h2 : ∀ c k, @Eq EReal ((m ((c.tc : Thread Cert.Reference2Ideal.nD Cert.Reference2Ideal.τ).loc Cert.Reference2Ideal.main_arg2) : Vec Ideal S1024 .f32) (ix1 k)) (b c k))
  (h3 : ∀ c k n, @Eq EReal ((m ((c.tc : Thread Cert.Reference2Ideal.nD Cert.Reference2Ideal.τ).loc Cert.Reference2Ideal.main_arg3) : Vec Ideal S1024x5504 .f32) (ix2 k n)) (P c k n))
  (h4 : ∀ c n k, @Eq EReal ((m ((c.tc : Thread Cert.Reference2Ideal.nD Cert.Reference2Ideal.τ).loc Cert.Reference2Ideal.main_arg4) : Vec Ideal S2752x1024 .f32) (ix2 n k)) (Q c n k)) :
    θ_run Cert.Reference2Ideal.defs (onTc (τ := Cert.Reference2Ideal.τ) (Cert.Reference2Ideal.main (F := Ideal))) ⟨m, fun _ => 0, ρ⟩ (fun r => ∀ c : Dev Cert.Reference2Ideal.nD,
      r.2.mem ((c.tc : Thread Cert.Reference2Ideal.nD Cert.Reference2Ideal.τ).loc Cert.Reference2Ideal.main_v34) = fRows (X c) (g c) (b c) (P c) (Q c)
      ∧ r.2.mem ((c.tc : Thread Cert.Reference2Ideal.nD Cert.Reference2Ideal.τ).loc Cert.Reference2Ideal.main_v30) = fDev (X c) (g c) (b c) (P c) (Q c)
      ∧ r.2.mem ((c.tc : Thread Cert.Reference2Ideal.nD Cert.Reference2Ideal.τ).loc Cert.Reference2Ideal.main_v7) = fGate (X c) (g c) (b c) (P c)
      ∧ r.2.mem ((c.tc : Thread Cert.Reference2Ideal.nD Cert.Reference2Ideal.τ).loc Cert.Reference2Ideal.main_v8) = fLin (X c) (g c) (b c) (P c)
      ∧ r.2.mem ((c.tc : Thread Cert.Reference2Ideal.nD Cert.Reference2Ideal.τ).loc Cert.Reference2Ideal.main_v5) = fInp (X c) (g c) (b c)
      ∧ r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)) := by
  refine (θ_run Cert.Reference2Ideal.defs _ _).mono (fun r h c => ?_) (Cert.Reference2Ideal.Value.run m ρ)
  obtain ⟨e0, e1, e2, e3, e4, ea⟩ := h c
  refine ⟨e0.trans ?_, e1.trans ?_, e2.trans ?_, e3.trans ?_, e4.trans ?_, ea⟩
  · refine (Cert.Reference2Ideal.Read.val_main_v34_eq _ _).trans ?_
    funext x; idx_vars x
    exact ref_v34 (h0 c) (h1 c) (h2 c) (h3 c) (h4 c) _ _
  · refine (Cert.Reference2Ideal.Read.val_main_v30_eq _ _).trans ?_
    funext x; idx_vars x
    exact ref_v30 (h0 c) (h1 c) (h2 c) (h3 c) (h4 c) _ _
  · refine (Cert.Reference2Ideal.Read.val_main_v7_eq _ _ _ _).trans ?_
    funext x; idx_vars x
    exact ref_v7 (h0 c) (h1 c) (h2 c) (h3 c) _ _
  · refine (Cert.Reference2Ideal.Read.val_main_v8_eq _ _ _ _).trans ?_
    funext x; idx_vars x
    exact ref_v8 (h0 c) (h1 c) (h2 c) (h3 c) _ _
  · refine (Cert.Reference2Ideal.Read.val_main_v5_eq _ _ _).trans ?_
    funext x; idx_vars x
    exact ref_v5 (h0 c) (h1 c) (h2 c) _ _
end

end Cert.Kernel2Ideal.Fwd

end
-- ==== Proof.Dw13.Base.lean ====
/-
The gradient of a macaron half-step's first weight: the set-up its run is stated over. The host lines around the call,
the contents of the arrays when the call starts, the blocks of the windows, the two branches of the body, and the
invariant of a body that writes its result into the memory of the device by transfers of its own.
-/
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Pipeline.FrameSuffix
public import Idealize.ShloMosaic.Lib.Pipeline.FrameSuffixV
public import Idealize.ShloMosaic.Lib.Ring
public import Idealize.ShloMosaic.Lib.Tactic
public import Idealize.ShloMosaic.Lib.WordCmp

@[expose] public section

set_option maxRecDepth 16384

noncomputable section

namespace Cert.Kernel3Ideal.Dw13

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The result, which the body writes by its own transfers. -/
def R0 : Finset (Ref sig .tc) := {main_v12}

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 4) — by arithmetic of the point. -/
theorem hcond0_0 : ∀ t : Fin cfg0.N, cond0_0 (grid0.coords t) ↔ t.val % 4 = 0 :=
  (fun t => by
    have ht : t.val < 16 := Nat.lt_of_lt_of_eq t.isLt N_0
    have e0 : (grid0.coords t 0).val = t.val / 4 % 4 := Pipeline.Grid.coords_val t 0 (by decide) rfl
    have e1 : (grid0.coords t 1).val = t.val / 1 % 4 := Pipeline.Grid.coords_val t 1 (by decide) rfl
    simp only [cond0_0, e0, e1]
    word_cmp
   : ∀ t : Fin grid0.N, cond0_0 (grid0.coords t) ↔ t.val % 4 = 0)

/-- The condition of the body's `scf.if` 1 (`k0_h2`), from the grid coordinates (the skeleton's scalar
    chain substituted). -/
abbrev cond0_1 (i : grid0.Coords) : Prop := k0_cond2 i = 1#1
/-- It holds at the points ≡ 3 (mod 4) — by arithmetic of the point. -/
theorem hcond0_1 : ∀ t : Fin cfg0.N, cond0_1 (grid0.coords t) ↔ t.val % 4 = 3 :=
  (fun t => by
    have ht : t.val < 16 := Nat.lt_of_lt_of_eq t.isLt N_0
    have e0 : (grid0.coords t 0).val = t.val / 4 % 4 := Pipeline.Grid.coords_val t 0 (by decide) rfl
    have e1 : (grid0.coords t 1).val = t.val / 1 % 4 := Pipeline.Grid.coords_val t 1 (by decide) rfl
    simp only [cond0_1, k0_cond2, e0, e1]
    word_cmp
   : ∀ t : Fin grid0.N, cond0_1 (grid0.coords t) ↔ t.val % 4 = 3)

/-! ## The kernel body on any staging memrefs: a subtype the run finds -/

/-- Each window's current staging memref at point `t`, spelled as the pipeline passes it (`bodyAt0`), and its wholeness. -/
abbrev ms0_0 (t : Fin cfg0.N) : Memref sig .tc .vmem S2080x1408 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2080x1024 .bf16 := win0_1.stage (cfg0.slots t 1)
abbrev hs0_1 (t : Fin cfg0.N) : (ms0_1 t).IsWhole := hstage0_1 ((cfg0.slots t 1).cast nbuf0_1)
/-- The scratch operands: whole scoped buffers of the kernel's own, passed beside the windows. -/
abbrev scM0_0 : Memref sig .tc .vmem S1408x1024 .f32 := Memref.whole cc0_scratch0
abbrev scM0_1 : Memref sig .tc .vmem S1408x1024 .bf16 := Memref.whole cc0_scratch1
/-- The scratch `arg6` the kernel carries between points, as a view: what it holds is stated through it. -/
abbrev VS0_0 : View sig .tc .vmem S1408x1024 .f32 := scM0_0.view
/-- The operands left in HBM that the body copies into scratch itself, whole. -/
abbrev hbM : Memref sig .tc .hbm S4x2080x1024 .bf16 := Memref.whole main_v12
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 1 → SemLoc sig := fun j => (![SemLoc.dma 4] : Fin 1 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 4) 0) := by
  rw [Pipeline.ownSems0_eq_of_list c osem0 [0] (by decide) (by decide)]; rfl
theorem R0_sub : R0 ⊆ Pipeline.restRefs sig spec0 \ ∅ := by decide

/-- What the launch hands the body and takes back: the scratch at any contents, the cells at zero, the result at `G`. -/
theorem PhiDRV0_eq (G : (c : Dev nD) → (b : Ref sig .tc) → Buf (Elt F) ((c.tc : Thread nD τ).loc b)) (c : Dev nD) :
    (Pipeline.ΦDRV osem0 spec0 ∅ R0 (V m) G c : sProp 𝕄)
      = iprop(((∃ d, owns (c : Thread nD τ) scM0_0 fullShare d) ∗ (∃ d, owns (c : Thread nD τ) scM0_1 fullShare d)) ∗ iprop(semVal ((c : Thread nD τ), SemLoc.dma 4) 0) ∗ emp ∗ hbPt0 c hbM (G c main_v12)) := by
  unfold Pipeline.ΦDRV
  rw [scopedRest0_eq, ownSems00_eq, BI.bigSep_empty, BI.bigSep_eq_bigSepL_of_eq [main_v12] (by decide) (by decide)]
  simp only [scM0_0, scM0_1, owns_whole]; try rfl

/-- The lines after the region write no argument. -/
theorem W_arg (c : Dev nD) (b : Ref sig .tc) (hb : ∀ op ∈ (hostOps1 : List (HloOp τ sig (Elt F))), Proc.devRef .tc b ∉ op.writes)
    (hw : ∀ w, Pipeline.arrRef spec0 w ≠ b) (hR : b ∉ R0)
    (G : (b : Ref sig .tc) → Buf (Elt F) ((c.tc : Thread nD τ).loc b)) (A : (w : Fin cfg0.W) → Buf (Elt F) ((spec0 w).arr.view.loc (c.tc : Thread nD τ))) :
    StableHlo.after (List.flatten [hostOps1]) (Pipeline.withArrays spec0 c (Pipeline.withR (V0 m c) R0 c G) A) (Proc.devRef .tc b) = V m c b := by
  rw [StableHlo.after_of_forall_not_mem (b := Proc.devRef .tc b) _ _ (by
      rw [List.flatten_cons, List.flatten_nil, List.append_nil]; exact hb),
    Pipeline.withArrays_of_ne _ c _ _ b hw, Pipeline.withR_of_not_mem _ _ _ _ b hR]

/-- The first argument is written by none of the lines after the region, -/
theorem keeps_arg0 : ∀ op ∈ (hostOps1 : List (HloOp τ sig (Elt F))), Proc.devRef .tc main_arg0 ∉ op.writes :=
  List.forall_iff_forall_mem.mp (by
    simp only [hostOps1, List.Forall, StableHlo.nullary_writes, StableHlo.unary_writes, StableHlo.binary_writes, StableHlo.reshape_writes, StableHlo.nary_writes, Finset.mem_singleton]
    repeat' apply And.intro
    all_goals exact StableHlo.devRef_ne_of_ne (by decide))

/-- nor is the second. -/
theorem keeps_arg1 : ∀ op ∈ (hostOps1 : List (HloOp τ sig (Elt F))), Proc.devRef .tc main_arg1 ∉ op.writes :=
  List.forall_iff_forall_mem.mp (by
    simp only [hostOps1, List.Forall, StableHlo.nullary_writes, StableHlo.unary_writes, StableHlo.binary_writes, StableHlo.reshape_writes, StableHlo.nary_writes, Finset.mem_singleton]
    repeat' apply And.intro
    all_goals exact StableHlo.devRef_ne_of_ne (by decide))

end Cert.Kernel3Ideal.Dw13

end
-- ==== Proof.Dw.Write.lean ====
/-
A block of rows copied into one matrix of a stack of matrices: what the stack holds afterwards.
-/
module
public import proofs.«01_k».proof.Proof.Bwd.RunA
public import Idealize.ShloMosaic.Lib.WritesUnit
public import Idealize.ShloMosaic.Lib.ValueLayout
public import Idealize.ShloMosaic.Lib.Pointwise
@[expose] public section

noncomputable section

namespace Cert.Dw

open Idealize.ShloMosaic Idealize.ShloMosaic.TcCoe
open Cert.KernelIdeal.Bwd (write_squeezed)

variable {sig : RefSig} {κ : Kind} {sp : Space} {e : EltTy} {Val : EltTy → Type} {a b c n : ℕ}

/-- `n` rows `d` put into matrix `j` of the stack from row `o` on. -/
def put (j o : ℕ) (d : (⟨2, ![n, c]⟩ : Shape).Idx → Val e) (f : (⟨3, ![a, b, c]⟩ : Shape).Idx → Val e) : (⟨3, ![a, b, c]⟩ : Shape).Idx → Val e := fun y =>
  if h : (y 0).val = j ∧ o ≤ (y 1).val ∧ (y 1).val < o + n then d (ix2 ⟨(y 1).val - o, by omega⟩ (y 2)) else f y

/-- A write through the squeezed slice of those rows is `put`. -/
theorem read_write_put (m : Memref sig κ sp (⟨3, ![a, b, c]⟩ : Shape) e) (off : Fin 3 → ℕ) (j o : ℕ) (ho : off = ![j, o, 0])
    (inb : ∀ i, off i + (⟨3, ![1, n, c]⟩ : Shape).size i ≤ (⟨3, ![a, b, c]⟩ : Shape).size i)
    (hr : ∀ i, (Rect.unit (s := (⟨3, ![a, b, c]⟩ : Shape)) off (⟨3, ![1, n, c]⟩ : Shape).size inb).stride i = 1)
    (hq : (Rect.unit (s := (⟨3, ![a, b, c]⟩ : Shape)) off (⟨3, ![1, n, c]⟩ : Shape).size inb).shape.Squeezes (⟨2, ![n, c]⟩ : Shape))
    (f : m.view.ty.Contents Val) (d : (⟨2, ![n, c]⟩ : Shape).Idx → Val e) :
    m.view.read Val (View.write Val ((m.slice (Rect.unit (s := (⟨3, ![a, b, c]⟩ : Shape)) off (⟨3, ![1, n, c]⟩ : Shape).size inb) hr).squeeze (⟨2, ![n, c]⟩ : Shape) hq).view f d Finset.univ)
      = put j o d (m.view.read Val f) := by
  rw [write_squeezed]
  funext y
  unfold put
  by_cases h : (y 0).val = j ∧ o ≤ (y 1).val ∧ (y 1).val < o + n
  · rw [dif_pos h, View.read_writes_cons_unit_of_mem m.view f inb _ [] y (ix3 (0 : Fin 1) (⟨(y 1).val - o, by omega⟩ : Fin n) (y 2)) ho (by
      intro i
      match i with
      | ⟨0, _⟩ => exact h.1
      | ⟨1, _⟩ => exact (Nat.add_sub_of_le h.2.1).symm
      | ⟨2, _⟩ => exact (Nat.zero_add _).symm)]
    refine congrArg d ((Equiv.symm_apply_eq _).mpr ?_)
    exact (ValueIdx.reshapeEquiv_ix2_1ab _ _ _).symm
  · rw [dif_neg h]
    by_cases h0 : (y 0).val = j
    · rw [View.read_writes_cons_unit_of_not_mem m.view f inb _ [] y ho 1 (by
        show (y 1).val < o ∨ o + n ≤ (y 1).val
        omega)]
      rfl
    · rw [View.read_writes_cons_unit_of_not_mem m.view f inb _ [] y ho 0 (by
        show (y 0).val < j ∨ j + 1 ≤ (y 0).val
        omega)]
      rfl

end Cert.Dw

end
-- ==== Proof.Dw13.Run.lean ====
module
public import proofs.«01_k».proof.Proof.Dw13.Base
public import proofs.«01_k».proof.Proof.Dw.Write
@[expose] public section

set_option maxRecDepth 16384

noncomputable section

namespace Cert.Kernel3Ideal.Dw13

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- A finished block put into the result: its first 1376 rows into quarter `j`. -/
def putV (j : ℕ) (x : Vec F S1408x1024 .bf16) (g : Vec F S4x2080x1024 .bf16) : Vec F S4x2080x1024 .bf16 :=
  Dw.put (n := 1376) j 0 (View.ld x (Rect.unit (s := S1408x1024) ![0, 0] S1376x1024.size inb_S1408x1024_S1376x1024_0_0)) g

/-- The offsets of the rows a point copies to. -/
theorem off1_eq (i : grid0.Coords) : k0_off1 i = ![(i 0).val, 0, 0] := by
  have h : (i 0).val < 4 := (i 0).isLt
  show ![(BitVec.ofNat 32 (i 0).val).toNat, 0, 0] = _
  rw [show (BitVec.ofNat 32 (i 0).val).toNat = (i 0).val by rw [BitVec.toNat_ofNat]; omega]

/-- The copy of `d` to those rows. -/
theorem write_putV (i : grid0.Coords) (h2 : k0_cond2 i = 1#1)
    (hr : ∀ a, (Rect.unit (s := S4x2080x1024) (k0_off1 i) S1x1376x1024.size (k0_off1_inb i h2)).stride a = 1)
    (hq : (Rect.unit (s := S4x2080x1024) (k0_off1 i) S1x1376x1024.size (k0_off1_inb i h2)).shape.Squeezes S1376x1024)
    (g : Vec F S4x2080x1024 .bf16) (d : S1376x1024.Idx → Elt F .bf16) :
    View.write (Elt F) (((Memref.whole main_v12).slice (Rect.unit (s := S4x2080x1024) (k0_off1 i) S1x1376x1024.size (k0_off1_inb i h2)) hr).squeeze S1376x1024 hq).view g d Finset.univ
      = (Dw.put (n := 1376) (i 0).val 0 d g : Vec F S4x2080x1024 .bf16) :=
  Dw.read_write_put (Memref.whole main_v12) (k0_off1 i) (i 0).val 0 (off1_eq i) (k0_off1_inb i h2) hr hq g d

set_option maxHeartbeats 2000000 in
/-- A point in the middle of a block: its product is added to the sum. -/
theorem runB (c : Dev nD) (i : grid0.Coords) (arg2 : Memref sig .tc .vmem S2080x1408 .bf16) (harg2 : arg2.IsWhole) (arg3 : Memref sig .tc .vmem S2080x1024 .bf16) (harg3 : arg3.IsWhole) (arg6 : Memref sig .tc .vmem S1408x1024 .f32) (harg6 : arg6.IsWhole) (arg7 : Memref sig .tc .vmem S1408x1024 .bf16) (harg7 : arg7.IsWhole) (hc0 : ¬cond0_0 i) (hc1 : ¬cond0_1 i)
    (x0 : Vec F S2080x1408 .bf16) (x1 : Vec F S2080x1024 .bf16) (xs0 : Vec F S1408x1024 .f32) :
      ∀ (W : Waits sig Unit) (K : PUnit → sProp 𝕄),
        iprop(owns (c : Thread nD τ) arg2 fullShare x0 ∗ owns (c : Thread nD τ) arg3 fullShare x1 ∗ owns (c : Thread nD τ) arg6 fullShare xs0 ∗ owes (c : Thread nD τ) 0 W
            ∗ (iprop(owns (c : Thread nD τ) arg2 fullShare x0 ∗ owns (c : Thread nD τ) arg3 fullShare x1 ∗ owns (c : Thread nD τ) arg6 fullShare (k0_pay2 xs0 x0 x1) ∗ owes (c : Thread nD τ) 0 W) -∗ K ⟨⟩))
          ⊢ wp frame (wpE (defs₀ (F := F)) Variants.none c none) Set.univ (cc0_dw13_ffn1_0 i arg2 harg2 arg3 harg3 (Memref.whole main_v12) (Memref.isWhole_whole _) (Memref.whole main_v12) (Memref.isWhole_whole _) arg6 harg6 arg7 harg7 cc0_scratch2) K := by
    intro W K
    simp only [cc0_dw13_ffn1_0_eq_skeleton]; unfold cc0_dw13_ffn1_0_skel
    unfold owns
    iintro ⟨⟨%f0, %hf0, H0⟩, ⟨%f1, %hf1, H1⟩, ⟨%fs0, %hfs0, HS0⟩, HW, Hk⟩
    obtain rfl := harg2.eq_unread hf0; obtain rfl := harg3.eq_unread hf1; obtain rfl := harg6.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [HS0]
    · iexists _; isplitr; swap; · iexact HS0
      ipureintro
      sl_unfold_words
      rw [View.read_writes_eq_canon _ _ _ (View.cover_of_tiledBy _ ![1408, 1024] (by sl_kernel_rfl)), View.canon_cons_unit_lit _ _ _ (by decide)]
      simp only [View.readAt_eq_ld, harg2.read_unread, harg3.read_unread, harg6.read_unread]
      rw [View.ld_unit_lit _ _ (by decide), View.ld_unit_lit _ _ (by decide), View.ld_unit_lit _ _ (by decide)]
    iexact HW

set_option maxHeartbeats 2000000 in
/-- The first point of a block: the sum starts at zero. -/
theorem runA (c : Dev nD) (i : grid0.Coords) (arg2 : Memref sig .tc .vmem S2080x1408 .bf16) (harg2 : arg2.IsWhole) (arg3 : Memref sig .tc .vmem S2080x1024 .bf16) (harg3 : arg3.IsWhole) (arg6 : Memref sig .tc .vmem S1408x1024 .f32) (harg6 : arg6.IsWhole) (arg7 : Memref sig .tc .vmem S1408x1024 .bf16) (harg7 : arg7.IsWhole) (hc0 : cond0_0 i) (hc1 : ¬cond0_1 i)
    (x0 : Vec F S2080x1408 .bf16) (x1 : Vec F S2080x1024 .bf16) :
      ∀ (W : Waits sig Unit) (K : PUnit → sProp 𝕄),
        iprop(owns (c : Thread nD τ) arg2 fullShare x0 ∗ owns (c : Thread nD τ) arg3 fullShare x1 ∗ (∃ d, owns (c : Thread nD τ) arg6 fullShare d) ∗ owes (c : Thread nD τ) 0 W
            ∗ (iprop(owns (c : Thread nD τ) arg2 fullShare x0 ∗ owns (c : Thread nD τ) arg3 fullShare x1 ∗ owns (c : Thread nD τ) arg6 fullShare (k0_pay2 k0_pay1 x0 x1) ∗ owes (c : Thread nD τ) 0 W) -∗ K ⟨⟩))
          ⊢ wp frame (wpE (defs₀ (F := F)) Variants.none c none) Set.univ (cc0_dw13_ffn1_0 i arg2 harg2 arg3 harg3 (Memref.whole main_v12) (Memref.isWhole_whole _) (Memref.whole main_v12) (Memref.isWhole_whole _) arg6 harg6 arg7 harg7 cc0_scratch2) K := by
    intro W K
    simp only [cc0_dw13_ffn1_0_eq_skeleton]; unfold cc0_dw13_ffn1_0_skel
    unfold owns
    iintro ⟨⟨%f0, %hf0, H0⟩, ⟨%f1, %hf1, H1⟩, ⟨%ds0, %fs0, -, HS0⟩, HW, Hk⟩
    obtain rfl := harg2.eq_unread hf0; obtain rfl := harg3.eq_unread hf1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [HS0]
    · iexists _; isplitr; swap; · iexact HS0
      ipureintro
      sl_unfold_words
      rw [View.read_writes_eq_canon _ _ _ (View.cover_of_tiledBy _ ![1408, 1024] (by sl_kernel_rfl)), View.canon_cons_unit_lit _ _ _ (by decide)]
      simp only [View.readAt_eq_ld, harg2.read_unread, harg3.read_unread, harg6.read_unread]
      rw [View.readCov_unit_lit _ _ _ (by decide), View.ld_unit_lit _ _ (by decide), View.ld_unit_lit _ _ (by decide)]
    iexact HW

set_option maxHeartbeats 4000000 in
set_option sl_exec.dmaWindow true in
/-- The last point of a block: the finished sum is copied into the result. -/
theorem runC (c : Dev nD) (i : grid0.Coords) (arg2 : Memref sig .tc .vmem S2080x1408 .bf16) (harg2 : arg2.IsWhole) (arg3 : Memref sig .tc .vmem S2080x1024 .bf16) (harg3 : arg3.IsWhole) (arg6 : Memref sig .tc .vmem S1408x1024 .f32) (harg6 : arg6.IsWhole) (arg7 : Memref sig .tc .vmem S1408x1024 .bf16) (harg7 : arg7.IsWhole) (hc0 : ¬cond0_0 i) (hc1 : cond0_1 i)
    (x0 : Vec F S2080x1408 .bf16) (x1 : Vec F S2080x1024 .bf16) (xs0 : Vec F S1408x1024 .f32) (g : Vec F S4x2080x1024 .bf16) :
      ∀ (W : Waits sig Unit) (K : PUnit → sProp 𝕄),
        iprop(owns (c : Thread nD τ) arg2 fullShare x0 ∗ owns (c : Thread nD τ) arg3 fullShare x1 ∗ owns (c : Thread nD τ) arg6 fullShare xs0 ∗ (∃ d, owns (c : Thread nD τ) arg7 fullShare d) ∗ semVal ((c : Thread nD τ), SemLoc.dma 4) 0 ∗ hbPt0 c hbM g ∗ owes (c : Thread nD τ) 0 W
            ∗ (iprop(owns (c : Thread nD τ) arg2 fullShare x0 ∗ owns (c : Thread nD τ) arg3 fullShare x1 ∗ owns (c : Thread nD τ) arg6 fullShare (k0_pay2 xs0 x0 x1) ∗ (∃ d, owns (c : Thread nD τ) arg7 fullShare d) ∗ semVal ((c : Thread nD τ), SemLoc.dma 4) 0 ∗ (∃ f, ⌜f = putV (i 0).val (k0_pay3 (k0_pay2 xs0 x0 x1)) g⌝ ∗ hbPt0 c hbM f) ∗ (∃ W', owes (c : Thread nD τ) 0 W')) -∗ K ⟨⟩))
          ⊢ wp frame (wpE (defs₀ (F := F)) Variants.none c none) Set.univ (cc0_dw13_ffn1_0 i arg2 harg2 arg3 harg3 (Memref.whole main_v12) (Memref.isWhole_whole _) (Memref.whole main_v12) (Memref.isWhole_whole _) arg6 harg6 arg7 harg7 cc0_scratch2) K := by
    intro W K
    simp only [cc0_dw13_ffn1_0_eq_skeleton]; unfold cc0_dw13_ffn1_0_skel
    unfold owns
    iintro ⟨⟨%f0, %hf0, H0⟩, ⟨%f1, %hf1, H1⟩, ⟨%fs0, %hfs0, HS0⟩, ⟨%ds1, %fs1, -, HS1⟩, Hq0, Hh1, HW, Hk⟩
    obtain rfl := harg2.eq_unread hf0; obtain rfl := harg3.eq_unread hf1; obtain rfl := harg6.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [HS0]
    · iexists _; isplitr; swap; · iexact HS0
      ipureintro
      sl_unfold_words
      rw [View.read_writes_eq_canon _ _ _ (View.cover_of_tiledBy _ ![1408, 1024] (by sl_kernel_rfl)), View.canon_cons_unit_lit _ _ _ (by decide)]
      simp only [View.readAt_eq_ld, harg2.read_unread, harg3.read_unread, harg6.read_unread]
      rw [View.ld_unit_lit _ _ (by decide), View.ld_unit_lit _ _ (by decide), View.ld_unit_lit _ _ (by decide)]
    isplitl [HS1]
    · iexists _, _; isplitr; swap; · iexact HS1
      ipureintro; rfl
    isplitl [Hq0]; · iexact Hq0
    isplitl [Hh1]
    · iexists _; isplitr; swap; · iexact Hh1
      ipureintro
      sl_unfold_words
      refine Eq.trans (b := (Dw.put (n := 1376) (i 0).val 0 _ g : Vec F S4x2080x1024 .bf16)) (write_putV i hc1 _ _ g _) (congrArg (fun d => Dw.put (n := 1376) (i 0).val 0 d g) ?_)
      show View.ld (View.read (Elt F) arg7.view _) (Rect.unit (s := S1408x1024) ![0, 0] S1376x1024.size inb_S1408x1024_S1376x1024_0_0) = _
      rw [View.read_writes_eq_canon _ _ _ (View.cover_of_tiledBy _ ![1408, 1024] (by sl_kernel_rfl)), View.canon_cons_unit_lit _ _ _ (by decide)]
      simp only [View.readAt_eq_ld, harg2.read_unread, harg3.read_unread, harg6.read_unread]
      rw [View.readCov_unit_lit _ _ _ (by decide), View.ld_unit_lit _ _ (by decide), View.ld_unit_lit _ _ (by decide), View.ld_unit_lit _ _ (by decide)]
    iexists _; iexact HW

end Cert.Kernel3Ideal.Dw13

end
-- ==== Proof.Dw13.Frame.lean ====
module
public import proofs.«01_k».proof.Proof.Dw13.Run
@[expose] public section

set_option maxRecDepth 16384

noncomputable section

namespace Cert.Kernel3Ideal.Dw13

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the points leave -/

/-- The blocks the two operands' windows hold at a point. -/
def X0 (c : Dev nD) (t : Fin cfg0.N) : Vec F S2080x1408 .bf16 := iblk m c 0 t
def X1 (c : Dev nD) (t : Fin cfg0.N) : Vec F S2080x1024 .bf16 := iblk m c 1 t

/-- The grid's `n`-th point. -/
def ptOf (n : ℕ) : Fin cfg0.N := ⟨n % 16, lt_of_lt_of_eq (Nat.mod_lt _ (by decide)) (show 16 = cfg0.N from N_0.symm)⟩

theorem ptOf_val (t : Fin cfg0.N) (n : ℕ) (h : n = t.val) : ptOf n = t :=
  Fin.ext (by subst h; exact Nat.mod_eq_of_lt (lt_of_lt_of_eq t.isLt (show cfg0.N = 16 from N_0)))

/-- The sum of quarter `j` after its first `s` points. -/
def part (c : Dev nD) (j : ℕ) : ℕ → Vec F S1408x1024 .f32
  | 0 => k0_pay1
  | s + 1 => k0_pay2 (part c j s) (X0 m c (ptOf (4 * j + s))) (X1 m c (ptOf (4 * j + s)))

/-- The result before point `n`: the quarters finished by then. -/
def outAt (c : Dev nD) (n : ℕ) : Vec F S4x2080x1024 .bf16 := fun y =>
  if h : (y 0).val < n / 4 ∧ (y 1).val < 1376 then k0_pay3 (part m c (y 0).val 4) (ix2 ⟨(y 1).val, Nat.lt_trans h.2 (by decide)⟩ (y 2))
  else (V m c main_v12 : Vec F S4x2080x1024 .bf16) y

theorem outAt_of (c : Dev nD) (n : ℕ) (y : S4x2080x1024.Idx) (h : (y 0).val < n / 4 ∧ (y 1).val < 1376) :
    outAt m c n y = k0_pay3 (part m c (y 0).val 4) (ix2 ⟨(y 1).val, Nat.lt_trans h.2 (by decide)⟩ (y 2)) := dif_pos h

theorem outAt_not (c : Dev nD) (n : ℕ) (y : S4x2080x1024.Idx) (h : ¬((y 0).val < n / 4 ∧ (y 1).val < 1376)) :
    outAt m c n y = (V m c main_v12 : Vec F S4x2080x1024 .bf16) y := dif_neg h

theorem outAt_zero (c : Dev nD) : outAt m c 0 = (V m c main_v12 : Vec F S4x2080x1024 .bf16) := by
  funext y; unfold outAt; rw [dif_neg (fun h => absurd h.1 (Nat.not_lt_zero _))]

theorem outAt_same (c : Dev nD) (n : ℕ) (h : ¬n % 4 = 3) : outAt m c (n + 1) = outAt m c n := by
  have e : (n + 1) / 4 = n / 4 := by omega
  unfold outAt; simp only [e]

theorem outAt_step (c : Dev nD) (n : ℕ) (h : n % 4 = 3) : putV (n / 4) (k0_pay3 (part m c (n / 4) 4)) (outAt m c n) = outAt m c (n + 1) := by
  have e : (n + 1) / 4 = n / 4 + 1 := by omega
  funext y
  by_cases h1 : (y 1).val < 1376
  · by_cases h0 : (y 0).val = n / 4
    · refine (dif_pos ⟨h0, Nat.zero_le _, by omega⟩).trans (Eq.trans ?_ (outAt_of m c (n + 1) y ⟨by omega, h1⟩).symm)
      refine (congrArg (k0_pay3 (part m c (n / 4) 4)) (funext fun a => ?_)).trans (congrArg (fun q => k0_pay3 (part m c q 4) (ix2 ⟨(y 1).val, Nat.lt_trans h1 (by decide)⟩ (y 2))) h0.symm)
      match a with
      | ⟨0, _⟩ => exact Fin.ext (show 0 + 1 * ((y 1).val - 0) = (y 1).val by omega)
      | ⟨1, _⟩ => exact Fin.ext (show 0 + 1 * (y 2).val = (y 2).val by omega)
    · refine (dif_neg (fun hh => h0 hh.1)).trans ?_
      by_cases hl : (y 0).val < n / 4
      · exact (outAt_of m c n y ⟨hl, h1⟩).trans (outAt_of m c (n + 1) y ⟨by omega, h1⟩).symm
      · exact (outAt_not m c n y (fun hh => hl hh.1)).trans (outAt_not m c (n + 1) y (fun hh => hl (by have := hh.1; omega))).symm
  · exact (dif_neg (fun hh => h1 (by have := hh.2.2; omega))).trans ((outAt_not m c n y (fun hh => h1 hh.2)).trans (outAt_not m c (n + 1) y (fun hh => h1 hh.2)).symm)

/-! ## The invariant and the proof data -/

/-- The running sum before point `n`: anything before a quarter's first point. -/
def accP (c : Dev nD) (n : ℕ) : sProp 𝕄 :=
  if n % 4 = 0 then iprop(∃ d, owns (c : Thread nD τ) scM0_0 fullShare d)
  else owns (c : Thread nD τ) scM0_0 fullShare (part m c (n / 4) (n % 4))

def Phi (c : Dev nD) (n : ℕ) : sProp 𝕄 :=
  iprop((accP m c n ∗ (∃ d, owns (c : Thread nD τ) scM0_1 fullShare d)) ∗ semVal ((c : Thread nD τ), SemLoc.dma 4) 0 ∗ emp ∗ hbPt0 c hbM (outAt m c n))

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
  Φ t := Phi m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

/-- The sum after a point of a quarter, the point's own product added to what it was before. -/
theorem part_succ (c : Dev nD) (t : Fin cfg0.N) (s : ℕ) (h : t.val % 4 = s) :
    k0_pay2 (part m c (t.val / 4) s) (iblk m c 0 t) (iblk m c 1 t) = part m c (t.val / 4) (s + 1) := by
  show _ = k0_pay2 (part m c (t.val / 4) s) (X0 m c (ptOf (4 * (t.val / 4) + s))) (X1 m c (ptOf (4 * (t.val / 4) + s)))
  rw [ptOf_val t _ (by omega)]
  rfl

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.castSucc = Phi m c t.val from rfl, show (dats m 0 c).Φ t.succ = Phi m c (t.val + 1) from rfl, after0_0, after0_1]
  unfold Dat.owesAt Pipeline.owesWithin
  rw [show (dats m 0 c).owed t.castSucc = 0 from rfl, show (dats m 0 c).owed t.succ = 0 from rfl]
  have hN : t.val < 16 := lt_of_lt_of_eq t.isLt (show cfg0.N = 16 from N_0)
  have hj : (grid0.coords t 0).val = t.val / 4 := (Pipeline.Grid.coords_val t 0 (by decide) rfl : (grid0.coords t 0).val = t.val / 4 % 4).trans (Nat.mod_eq_of_lt (by omega))
  unfold Phi accP
  by_cases h0 : t.val % 4 = 0
  · have h3 : ¬t.val % 4 = 3 := by omega
    rw [if_pos h0, if_neg (show ¬(t.val + 1) % 4 = 0 by omega), outAt_same m c _ h3,
      show (t.val + 1) / 4 = t.val / 4 by omega, show (t.val + 1) % 4 = 0 + 1 by omega, ← part_succ m c t 0 h0]
    iintro ⟨⟨⟨HS0, HS1⟩, Hq0, He, Hh1⟩, ⟨%W, -, HW⟩, ⟨%d0, H0⟩, ⟨%d1, H1⟩⟩
    iapply ((runA c (grid0.coords t) _ _ _ _ _ _ scM0_1 (Memref.isWhole_whole _) ((hcond0_0 t).mpr h0) (fun h => h3 ((hcond0_1 t).mp h)) (iblk m c 0 t) (iblk m c 1 t)) W _)
    isplitl [H0]; · iexact H0
    isplitl [H1]; · iexact H1
    isplitl [HS0]; · iexact HS0
    isplitl [HW]; · iexact HW
    iintro ⟨H0, H1, HS0, HW⟩
    isplitl [HS0 HS1 Hq0 He Hh1]
    · isplitl [HS0 HS1]
      · isplitl [HS0]; · iexact HS0
        iexact HS1
      isplitl [Hq0]; · iexact Hq0
      isplitl [He]; · iexact He
      iexact Hh1
    isplitl [HW]
    · iexists W; isplitr; · ipureintro; exact fun _ _ => Or.inl trivial
      iexact HW
    isplitl [H0]; · iexact H0
    iexact H1
  · rw [if_neg h0]
    by_cases h3 : t.val % 4 = 3
    · rw [if_pos (show (t.val + 1) % 4 = 0 by omega), ← outAt_step m c _ h3, ← part_succ m c t 3 h3, h3]
      iintro ⟨⟨⟨HS0, HS1⟩, Hq0, He, Hh1⟩, ⟨%W, -, HW⟩, ⟨%d0, H0⟩, ⟨%d1, H1⟩⟩
      iapply ((runC c (grid0.coords t) _ _ _ _ _ _ scM0_1 (Memref.isWhole_whole _) (fun h => h0 ((hcond0_0 t).mp h)) ((hcond0_1 t).mpr h3) (iblk m c 0 t) (iblk m c 1 t) _ _) W _)
      isplitl [H0]; · iexact H0
      isplitl [H1]; · iexact H1
      isplitl [HS0]; · iexact HS0
      isplitl [HS1]; · iexact HS1
      isplitl [Hq0]; · iexact Hq0
      isplitl [Hh1]; · iexact Hh1
      isplitl [HW]; · iexact HW
      iintro ⟨H0, H1, HS0, HS1, Hq0, ⟨%f, %hf, Hh1⟩, ⟨%W', HW'⟩⟩
      rw [hj] at hf; subst hf
      isplitl [HS0 HS1 Hq0 He Hh1]
      · isplitl [HS0 HS1]
        · isplitl [HS0]; · iexists _; iexact HS0
          iexact HS1
        isplitl [Hq0]; · iexact Hq0
        isplitl [He]; · iexact He
        iexact Hh1
      isplitl [HW']
      · iexists W'; isplitr; · ipureintro; exact fun _ _ => Or.inl trivial
        iexact HW'
      isplitl [H0]; · iexact H0
      iexact H1
    · rw [if_neg (show ¬(t.val + 1) % 4 = 0 by omega), outAt_same m c _ h3,
        show (t.val + 1) / 4 = t.val / 4 by omega, show (t.val + 1) % 4 = t.val % 4 + 1 by omega, ← part_succ m c t _ rfl]
      iintro ⟨⟨⟨HS0, HS1⟩, Hq0, He, Hh1⟩, ⟨%W, -, HW⟩, ⟨%d0, H0⟩, ⟨%d1, H1⟩⟩
      iapply ((runB c (grid0.coords t) _ _ _ _ _ _ scM0_1 (Memref.isWhole_whole _) (fun h => h0 ((hcond0_0 t).mp h)) (fun h => h3 ((hcond0_1 t).mp h)) (iblk m c 0 t) (iblk m c 1 t) _) W _)
      isplitl [H0]; · iexact H0
      isplitl [H1]; · iexact H1
      isplitl [HS0]; · iexact HS0
      isplitl [HW]; · iexact HW
      iintro ⟨H0, H1, HS0, HW⟩
      isplitl [HS0 HS1 Hq0 He Hh1]
      · isplitl [HS0 HS1]
        · isplitl [HS0]; · iexact HS0
          iexact HS1
        isplitl [Hq0]; · iexact Hq0
        isplitl [He]; · iexact He
        iexact Hh1
      isplitl [HW]
      · iexists W; isplitr; · ipureintro; exact fun _ _ => Or.inl trivial
        iexact HW
      isplitl [H0]; · iexact H0
      iexact H1

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- What the run leaves in the result. -/
def G (c : Dev nD) (b : Ref sig .tc) : Buf (Elt F) ((c.tc : Thread nD τ).loc b) :=
  if h : b = main_v12 then h ▸ (outAt m c 16 : Buf (Elt F) ((c.tc : Thread nD τ).loc main_v12)) else V m c b

theorem G_res (c : Dev nD) : G m c main_v12 = outAt m c 16 := by
  unfold G; rw [dif_pos rfl]

theorem Phi_start (c : Dev nD) : Pipeline.ΦDRV osem0 spec0 ∅ R0 (V m) (V m) c ⊢ (dats m 0 c).Φ 0 := by
  rw [PhiDRV0_eq]
  show _ ⊢ Phi m c 0
  unfold Phi accP; rw [if_pos (Nat.zero_mod _), outAt_zero]

theorem Phi_last (c : Dev nD) : (dats m 0 c).Φ (Fin.last cfg0.N) ⊢ Pipeline.ΦDRV osem0 spec0 ∅ R0 (V m) (G m) c := by
  rw [PhiDRV0_eq, G_res]
  show Phi m c cfg0.N ⊢ _
  rw [show cfg0.N = 16 from N_0]
  unfold Phi accP; rw [if_pos (by decide)]

set_option backward.isDefEq.respectTransparency.types false in
set_option maxHeartbeats 800000 in
/-- The launch: the result ends at what the points copied into it, the host's tail runs from it, every counter ends at
    zero. -/
theorem run_main : θ_run defs (onTc (τ := τ) (main (F := F))) (s₀ m ρ)
    (fun r => (∀ c : Dev nD, (∀ w, r.2.mem ((spec0 w).arr.view.loc (c.tc : Thread nD τ)) = (dats m 0 c).arrAt w cfg0.N)
      ∧ ∀ b ∈ Pipeline.restRefs sig spec0, r.2.mem ((c.tc : Thread nD τ).loc b)
          = StableHlo.after (List.flatten [hostOps1]) (Pipeline.withArrays spec0 c (Pipeline.withR (V0 m c) R0 c (G m c)) fun w => (dats m 0 c).arrAt w cfg0.N) (Proc.devRef .tc b))
      ∧ r.2.sem = fun _ => 0) :=
  Pipeline.θ_run_frame_dmaR_aroundV (Q' := _) (hQ' := fun _ h => h) cfgs (dats m) (0 : Fin 1) launch0 osem0 defs₀ Variants.none ownSemFacts0 ∅ R0 (Finset.empty_subset _) R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (G := G m)
    (hmain := hmain m Variants.none) (hA := A_eq m) (hin := Phi_start m) (hout := Phi_last m)

/-- Every run ends, its arguments as they were, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c =>
    ⟨((h.1 c).2 main_arg0 (Pipeline.mem_restRefs_of main_arg0 (by decide) (by decide))).trans
        ((W_arg m c main_arg0 keeps_arg0 (by decide) (by decide) _ _).trans (V_main_arg0 m c)),
      ((h.1 c).2 main_arg1 (Pipeline.mem_restRefs_of main_arg1 (by decide) (by decide))).trans
        ((W_arg m c main_arg1 keeps_arg1 (by decide) (by decide) _ _).trans (V_main_arg1 m c))⟩, h.2⟩) (run_main m ρ)

end Cert.Kernel3Ideal.Dw13

end
-- ==== Proof.Dw13.FrameKernel3.lean ====
module
public import proofs.«01_k».proof.Defs
public import proofs.«01_k».proof.Proof.Dw13.Frame
public import proofs.«01_k».proof.Proof.Gen.Kernel3
@[expose] public section
set_option maxRecDepth 16384
noncomputable section

namespace Cert.Proof

open Idealize.ShloMosaic Idealize.ShloMosaic.TcCoe

/-- The frame over the reals. -/
theorem frame_kernel3Ideal : Cert.quiescent_Kernel3Ideal := fun m ρ _ =>
  Cert.Kernel3Ideal.Dw13.frame (F := Ideal) m ρ

set_option maxHeartbeats 2000000 in
/-- The two programs have the same body table, -/
theorem defs₀_same3 : Cert.Kernel3.defs₀ (F := Bits) = Cert.Kernel3Ideal.defs₀ (F := Bits) := by
  unfold Cert.Kernel3.defs₀ Cert.Kernel3Ideal.defs₀
  congr 1
  funext l a
  match l with
  | 0 => rfl

/-- the same table with the pipeline's steps, -/
theorem defs_same3 : Cert.Kernel3.defs (F := Bits) = Cert.Kernel3Ideal.defs (F := Bits) :=
  congrArg (Pipeline.defs (Cert.Kernel3Ideal.pcfgs (F := Bits))) defs₀_same3

set_option maxHeartbeats 2000000 in
/-- and the same host function. -/
theorem main_same3 : Cert.Kernel3.main (F := Bits) = Cert.Kernel3Ideal.main (F := Bits) := rfl

/-- The frame of the program over floats: the same text as the one over the reals. -/
theorem frame_kernel3 : Cert.quiescent_Kernel3 := fun m ρ _ => by
  rw [show Cert.Kernel3.defs (F := Bits) = _ from defs_same3, show Cert.Kernel3.main (F := Bits) = _ from main_same3]
  exact Cert.Kernel3Ideal.Dw13.frame (F := Bits) m ρ

end Cert.Proof

end
-- ==== Proof.Dw13.Value.lean ====
module
public import proofs.«01_k».proof.Proof.Dw13.Frame
public import proofs.«01_k».proof.Proof.Gen.Reference3Ideal.Run
public import proofs.«01_k».proof.Proof.Gen.Reference3Ideal.Read
public import Idealize.ShloMosaic.Lib.Pointwise
public import Idealize.ShloMosaic.Lib.StableHlo.RunRead
public import Idealize.ShloMosaic.Lib.Pipeline.ValueKit
@[expose] public section

set_option maxRecDepth 16384

noncomputable section

namespace Cert.Kernel3Ideal.Dw13

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # What the call leaves: the gradient of the up projection's weight -/

open scoped BigOperators

/-! ## The host's packing of the operands -/

/-- The four quarters of the gradient's columns, each followed by idle columns. -/
def packDup (d : Vec F S8320x5504 .f32) : Vec F S8320x5632 .bf16 :=
  concatenate S8320x5632 1
    [⟨S8320x1376, truncf .bf16 (extractStridedSlice S8320x1376 ![0, 0] d slices_S8320x5504_S8320x1376_0_0) bitsLt_bf16_f32⟩,
      ⟨S8320x32, broadcastInDim S8320x32 ![] bcast_S_S8320x32 (constant S_ .bf16 0x0000#16)⟩,
      ⟨S8320x1376, truncf .bf16 (extractStridedSlice S8320x1376 ![0, 1376] d slices_S8320x5504_S8320x1376_0_1376) bitsLt_bf16_f32⟩,
      ⟨S8320x32, broadcastInDim S8320x32 ![] bcast_S_S8320x32 (constant S_ .bf16 0x0000#16)⟩,
      ⟨S8320x1376, truncf .bf16 (extractStridedSlice S8320x1376 ![0, 2752] d slices_S8320x5504_S8320x1376_0_2752) bitsLt_bf16_f32⟩,
      ⟨S8320x32, broadcastInDim S8320x32 ![] bcast_S_S8320x32 (constant S_ .bf16 0x0000#16)⟩,
      ⟨S8320x1376, truncf .bf16 (extractStridedSlice S8320x1376 ![0, 4128] d slices_S8320x5504_S8320x1376_0_4128) bitsLt_bf16_f32⟩,
      ⟨S8320x32, broadcastInDim S8320x32 ![] bcast_S_S8320x32 (constant S_ .bf16 0x0000#16)⟩]
    concatenates_S8320x1376_S8320x32_S8320x1376_S8320x32_S8320x1376_S8320x32_S8320x1376_S8320x32_S8320x5632_d1

/-- The block's input in the narrower format. -/
def packH (h : Vec F S8320x1024 .f32) : Vec F S8320x1024 .bf16 := truncf .bf16 h bitsLt_bf16_f32

theorem V_dup (m : (ℓ : Loc nD τ sig) → Buf (Elt F) ℓ) (c : Dev nD) : V m c main_v9 = packDup (m ((c : Thread nD τ).loc main_arg1)) := by
  rfl

theorem V_h (m : (ℓ : Loc nD τ sig) → Buf (Elt F) ℓ) (c : Dev nD) : V m c main_v11 = packH (m ((c : Thread nD τ).loc main_arg0)) := by
  rfl

theorem col_lt (j : Fin 4) (q : Fin 1376) : 1376 * j.val + q.val < 5504 := by omega
theorem slot_lt (j : Fin 4) (q : Fin 1376) : 1408 * j.val + q.val < 5632 := by omega

/-- A live column of the packed gradient. -/
theorem packDup_at (d : Vec Ideal S8320x5504 .f32) (t : Fin 8320) (j : Fin 4) (q : Fin 1376) :
    packDup d (ix2 t ⟨1408 * j.val + q.val, slot_lt j q⟩) = d (ix2 t ⟨1376 * j.val + q.val, col_lt j q⟩) := by
  unfold packDup
  match j with
  | ⟨0, _⟩ =>
    pointwise
    all_goals split_ifs <;> first
      | omega
      | exact congrArg (fun n : Fin 5504 => d (ix2 t n)) (Fin.ext (by dsimp only; omega))
  | ⟨1, _⟩ =>
    pointwise
    all_goals split_ifs <;> first
      | omega
      | exact congrArg (fun n : Fin 5504 => d (ix2 t n)) (Fin.ext (by dsimp only; omega))
  | ⟨2, _⟩ =>
    pointwise
    all_goals split_ifs <;> first
      | omega
      | exact congrArg (fun n : Fin 5504 => d (ix2 t n)) (Fin.ext (by dsimp only; omega))
  | ⟨3, _⟩ =>
    pointwise
    all_goals split_ifs <;> first
      | omega
      | exact congrArg (fun n : Fin 5504 => d (ix2 t n)) (Fin.ext (by dsimp only; omega))

theorem packH_at (h : Vec Ideal S8320x1024 .f32) (t : Fin 8320) (k : Fin 1024) : packH h (ix2 t k) = h (ix2 t k) := by
  unfold packH
  pointwise

/-! ## The host's unpacking of the result -/

/-- The live rows of one slot, as columns. -/
def slotCols (o : Fin S4x2080x1024.rank → ℕ) (A : Vec F S4x2080x1024 .bf16) (h : S4x2080x1024.Slices o S1x1376x1024) : Vec F S1024x1376 .bf16 :=
  transpose S1024x1376 [1, 0] (shapeCast S1376x1024 (extractStridedSlice S1x1376x1024 o A h) shapeCasts_S1x1376x1024_S1376x1024) transposes_S1376x1024_S1024x1376_1_0

/-- The four slots' live rows as columns, side by side. -/
def joinCols (A : Vec F S4x2080x1024 .bf16) : Vec F S1024x5504 .f32 :=
  extf .f32 (concatenate S1024x5504 1
    [⟨S1024x1376, slotCols ![0, 0, 0] A slices_S4x2080x1024_S1x1376x1024_0_0_0⟩,
      ⟨S1024x1376, slotCols ![1, 0, 0] A slices_S4x2080x1024_S1x1376x1024_1_0_0⟩,
      ⟨S1024x1376, slotCols ![2, 0, 0] A slices_S4x2080x1024_S1x1376x1024_2_0_0⟩,
      ⟨S1024x1376, slotCols ![3, 0, 0] A slices_S4x2080x1024_S1x1376x1024_3_0_0⟩]
    concatenates_S1024x1376_S1024x1376_S1024x1376_S1024x1376_S1024x5504_d1) bitsLt_bf16_f32

theorem row_lt (q : Fin 1376) : q.val < 2080 := by omega

theorem joinCols_at (A : Vec Ideal S4x2080x1024 .bf16) (k : Fin 1024) (j : Fin 4) (q : Fin 1376) :
    joinCols A (ix2 k ⟨1376 * j.val + q.val, col_lt j q⟩) = A (ix3 j ⟨q.val, row_lt q⟩ k) := by
  unfold joinCols slotCols
  match j with
  | ⟨0, _⟩ =>
    pointwise
    all_goals split_ifs <;> first
      | omega
      | exact congrArg (fun n : Fin 2080 => A (ix3 _ n k)) (Fin.ext (by dsimp only; omega))
  | ⟨1, _⟩ =>
    pointwise
    all_goals split_ifs <;> first
      | omega
      | exact congrArg (fun n : Fin 2080 => A (ix3 _ n k)) (Fin.ext (by dsimp only; omega))
  | ⟨2, _⟩ =>
    pointwise
    all_goals split_ifs <;> first
      | omega
      | exact congrArg (fun n : Fin 2080 => A (ix3 _ n k)) (Fin.ext (by dsimp only; omega))
  | ⟨3, _⟩ =>
    pointwise
    all_goals split_ifs <;> first
      | omega
      | exact congrArg (fun n : Fin 2080 => A (ix3 _ n k)) (Fin.ext (by dsimp only; omega))

section
variable (W : Valuation τ sig (Elt F))

theorem upto_v15 : StableHlo.upto hostOps1 W 12 (Proc.tc.devRef main_v15)
    = slotCols ![0, 0, 0] (W (Proc.tc.devRef main_v12)) slices_S4x2080x1024_S1x1376x1024_0_0_0 := by
  after_reads_simp; rfl
theorem upto_v18 : StableHlo.upto hostOps1 W 12 (Proc.tc.devRef main_v18)
    = slotCols ![1, 0, 0] (W (Proc.tc.devRef main_v12)) slices_S4x2080x1024_S1x1376x1024_1_0_0 := by
  after_reads_simp; rfl
theorem upto_v21 : StableHlo.upto hostOps1 W 12 (Proc.tc.devRef main_v21)
    = slotCols ![2, 0, 0] (W (Proc.tc.devRef main_v12)) slices_S4x2080x1024_S1x1376x1024_2_0_0 := by
  after_reads_simp; rfl
theorem upto_v24 : StableHlo.upto hostOps1 W 12 (Proc.tc.devRef main_v24)
    = slotCols ![3, 0, 0] (W (Proc.tc.devRef main_v12)) slices_S4x2080x1024_S1x1376x1024_3_0_0 := by
  after_reads_simp; rfl

/-- What the host makes of the result's buffer. -/
theorem tail_read : StableHlo.after (List.flatten [hostOps1]) W (Proc.tc.devRef main_v26) = joinCols (W (Proc.tc.devRef main_v12)) := by
  simp only [List.flatten_cons, List.flatten_nil, List.append_nil]
  after_reads_simp
  show extf .f32 (concatenate S1024x5504 1
    [⟨S1024x1376, StableHlo.upto hostOps1 W 12 (Proc.tc.devRef main_v15)⟩, ⟨S1024x1376, StableHlo.upto hostOps1 W 12 (Proc.tc.devRef main_v18)⟩,
      ⟨S1024x1376, StableHlo.upto hostOps1 W 12 (Proc.tc.devRef main_v21)⟩, ⟨S1024x1376, StableHlo.upto hostOps1 W 12 (Proc.tc.devRef main_v24)⟩]
    concatenates_S1024x1376_S1024x1376_S1024x1376_S1024x1376_S1024x5504_d1) bitsLt_bf16_f32 = _
  rw [upto_v15, upto_v18, upto_v21, upto_v24]
  rfl
end

/-- The result the host returns is read from what the grid left. -/
theorem W_res (m : (ℓ : Loc nD τ sig) → Buf (Elt F) ℓ) (c : Dev nD) (A : (w : Fin cfg0.W) → Buf (Elt F) ((spec0 w).arr.view.loc (c.tc : Thread nD τ))) :
    StableHlo.after (List.flatten [hostOps1]) (Pipeline.withArrays spec0 c (Pipeline.withR (V0 m c) R0 c (G m c)) A) (Proc.devRef .tc main_v26)
      = joinCols (outAt m c 16) := by
  refine (tail_read _).trans (congrArg joinCols ?_)
  refine (Pipeline.withArrays_of_ne _ _ _ _ _ (by decide)).trans ?_
  exact (Pipeline.withR_of_mem _ _ _ _ main_v12 (by decide)).trans (G_res m c)

/-! ## A point's blocks -/

theorem idx : ∀ t : Fin grid0.N, win0_0.index t = ![t.val % 4, t.val / 4] ∧ win0_1.index t = ![t.val % 4, 0] := by
  decide +kernel

section
variable (m : (ℓ : Loc nD τ sig) → Buf (Elt Ideal) ℓ) (c : Dev nD)

theorem point_lt (t : Fin cfg0.N) : t.val < 16 := lt_of_lt_of_eq t.isLt (show cfg0.N = 16 from N_0)
theorem tok_lt (t : ℕ) (k : Fin 2080) : 2080 * (t % 4) + k.val < 8320 := by omega
theorem lane_lt (t : Fin cfg0.N) (q : Fin 1408) : 1408 * (t.val / 4) + q.val < 5632 := by have := point_lt t; omega

theorem X0_at (t : Fin cfg0.N) (k : Fin 2080) (q : Fin 1408) :
    X0 m c t (ix2 k q) = V m c main_v9 (ix2 ⟨2080 * (t.val % 4) + k.val, tok_lt _ k⟩ ⟨1408 * (t.val / 4) + q.val, lane_lt t q⟩) := by
  unfold X0
  have h := (idx t).1
  blk_ext [iblk, h]

theorem X1_at (t : Fin cfg0.N) (k : Fin 2080) (d : Fin 1024) :
    X1 m c t (ix2 k d) = V m c main_v11 (ix2 ⟨2080 * (t.val % 4) + k.val, tok_lt _ k⟩ d) := by
  unfold X1
  have h := (idx t).2
  blk_ext [iblk, h]

theorem pay1_at (q : Fin 1408) (d : Fin 1024) : (k0_pay1 (F := Ideal)) (ix2 q d) = 0 := by
  pointwise [k0_pay1]

theorem pay2_at (a : Vec Ideal S1408x1024 .f32) (x0 : Vec Ideal S2080x1408 .bf16) (x1 : Vec Ideal S2080x1024 .bf16) (q : Fin 1408) (d : Fin 1024) :
    k0_pay2 a x0 x1 (ix2 q d) = a (ix2 q d) + ∑ k : Fin 2080, x0 (ix2 k q) * x1 (ix2 k d) := by
  pointwise [k0_pay2]

theorem pay3_at (a : Vec Ideal S1408x1024 .f32) (q : Fin 1408) (d : Fin 1024) : k0_pay3 a (ix2 q d) = a (ix2 q d) := by
  pointwise [k0_pay3]
end

end Cert.Kernel3Ideal.Dw13

end
-- ==== Proof.Dw.Sum.lean ====
module
public import Idealize.ShloMosaic.Lib.Pointwise
@[expose] public section

noncomputable section

namespace Cert.Dw

open scoped BigOperators

/-! # A sum over all tokens, taken in four blocks -/

/-- A term of the sum by the token's number, zero past the last one. -/
def tok (f : Fin 8320 → EReal) (t : ℕ) : EReal := if h : t < 8320 then f ⟨t, h⟩ else 0

theorem sum_tok (f : Fin 8320 → EReal) : ∑ t ∈ Finset.range 8320, tok f t = ∑ t, f t := by
  rw [Finset.sum_range]
  exact Finset.sum_congr rfl fun t _ => dif_pos t.isLt

/-- One more block of tokens. -/
theorem sum_next (f : Fin 8320 → EReal) (s : ℕ) (b : Fin 2080 → EReal) (hb : ∀ k : Fin 2080, b k = tok f (2080 * s + k.val)) :
    ∑ t ∈ Finset.range (2080 * (s + 1)), tok f t = ∑ t ∈ Finset.range (2080 * s), tok f t + ∑ k, b k := by
  rw [Nat.mul_succ, Finset.sum_range_add, Finset.sum_range (fun k => tok f (2080 * s + k))]
  exact congrArg _ (Finset.sum_congr rfl fun k _ => (hb k).symm)

end Cert.Dw

end
-- ==== Proof.Dw13.Results.lean ====
module
public import proofs.«01_k».proof.Proof.Dw13.Value
public import proofs.«01_k».proof.Proof.Dw.Sum
@[expose] public section

set_option maxRecDepth 16384

noncomputable section

namespace Cert.Kernel3Ideal.Dw13

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The gradient of the up projection's weight -/

open scoped BigOperators

/-- The gradient: every token's gradient of the product times the token. -/
def gradUp (h : Vec Ideal S8320x1024 .f32) (d : Vec Ideal S8320x5504 .f32) : Vec Ideal S1024x5504 .f32 :=
  fun x : S1024x5504.Idx => ∑ t : Fin 8320, @HMul.hMul EReal EReal EReal _ (d (ix2 t (x 1))) (h (ix2 t (x 0)))

section
variable (m : (ℓ : Loc nD τ sig) → Buf (Elt Ideal) ℓ) (c : Dev nD)

/-- One token's term of column `q` of quarter `j`. -/
def term (j : Fin 4) (q : Fin 1376) (k : Fin 1024) (t : Fin 8320) : EReal :=
  @HMul.hMul EReal EReal EReal _ ((m ((c : Thread nD τ).loc main_arg1) : Vec Ideal S8320x5504 .f32) (ix2 t ⟨1376 * j.val + q.val, col_lt j q⟩))
    ((m ((c : Thread nD τ).loc main_arg0) : Vec Ideal S8320x1024 .f32) (ix2 t k))

theorem lane_of (q : Fin 1376) : q.val < 1408 := by omega

/-- A live column of the point's block of the gradient. -/
theorem blk0 (j : Fin 4) (q : Fin 1376) (s : ℕ) (hs : s < 4) (k : Fin 2080) (ht : 2080 * s + k.val < 8320) :
    X0 m c (ptOf (4 * j.val + s)) (ix2 k ⟨q.val, lane_of q⟩)
      = (m ((c : Thread nD τ).loc main_arg1) : Vec Ideal S8320x5504 .f32) (ix2 ⟨2080 * s + k.val, ht⟩ ⟨1376 * j.val + q.val, col_lt j q⟩) := by
  have e : (4 * j.val + s) % 16 = 4 * j.val + s := by omega
  refine (X0_at m c _ k _).trans (Eq.trans ?_ (packDup_at _ ⟨2080 * s + k.val, ht⟩ j q))
  rw [V_dup]
  refine congrArg₂ (fun a b => packDup (m ((c : Thread nD τ).loc main_arg1)) (ix2 a b)) (Fin.ext ?_) (Fin.ext ?_)
  · show 2080 * ((4 * j.val + s) % 16 % 4) + k.val = 2080 * s + k.val
    omega
  · show 1408 * ((4 * j.val + s) % 16 / 4) + q.val = 1408 * j.val + q.val
    omega

/-- The point's block of the tokens. -/
theorem blk1 (j : Fin 4) (s : ℕ) (hs : s < 4) (k : Fin 2080) (ht : 2080 * s + k.val < 8320) (d : Fin 1024) :
    X1 m c (ptOf (4 * j.val + s)) (ix2 k d)
      = (m ((c : Thread nD τ).loc main_arg0) : Vec Ideal S8320x1024 .f32) (ix2 ⟨2080 * s + k.val, ht⟩ d) := by
  refine (X1_at m c _ k _).trans (Eq.trans ?_ (packH_at _ ⟨2080 * s + k.val, ht⟩ d))
  rw [V_h]
  refine congrArg (fun a => packH (m ((c : Thread nD τ).loc main_arg0)) (ix2 a d)) (Fin.ext ?_)
  show 2080 * ((4 * j.val + s) % 16 % 4) + k.val = 2080 * s + k.val
  omega

/-- After `s` blocks of tokens a quarter's sum holds their terms. -/
theorem part_at (j : Fin 4) (q : Fin 1376) (d : Fin 1024) : ∀ s, s ≤ 4 →
    @Eq EReal (part m c j.val s (ix2 ⟨q.val, lane_of q⟩ d)) (∑ t ∈ Finset.range (2080 * s), Dw.tok (term m c j q d) t)
  | 0, _ => pay1_at _ _
  | s + 1, h => by
    refine (pay2_at _ _ _ _ _).trans ?_
    rw [Dw.sum_next (term m c j q d) s
      (fun k => @HMul.hMul EReal EReal EReal _ (X0 m c (ptOf (4 * j.val + s)) (ix2 k ⟨q.val, lane_of q⟩)) (X1 m c (ptOf (4 * j.val + s)) (ix2 k d)))]
    · exact congrArg₂ (fun a b : EReal => a + b) (part_at j q d s (Nat.le_of_succ_le h)) rfl
    · intro k
      have ht : 2080 * s + k.val < 8320 := by omega
      refine Eq.trans ?_ (dif_pos ht).symm
      exact congrArg₂ (fun a b : EReal => a * b) (blk0 m c j q s h k ht) (blk1 m c j s h k ht d)

/-- What the host returns is the gradient. -/
theorem out_grad : joinCols (outAt m c 16) = gradUp (m ((c : Thread nD τ).loc main_arg0)) (m ((c : Thread nD τ).loc main_arg1)) := by
  funext x
  obtain ⟨k, n, rfl⟩ : ∃ (k : Fin 1024) (n : Fin 5504), x = ix2 k n :=
    ⟨x 0, x 1, by funext i; match i with | ⟨0, _⟩ => rfl | ⟨1, _⟩ => rfl⟩
  obtain ⟨j, q, rfl⟩ : ∃ (j : Fin 4) (q : Fin 1376), n = ⟨1376 * j.val + q.val, col_lt j q⟩ :=
    ⟨⟨n.val / 1376, by omega⟩, ⟨n.val % 1376, Nat.mod_lt _ (by decide)⟩, Fin.ext (Nat.div_add_mod _ _).symm⟩
  refine (joinCols_at _ k j q).trans ((outAt_of m c 16 _ ⟨j.isLt, q.isLt⟩).trans ((pay3_at _ _ _).trans ?_))
  exact (part_at m c j q k 4 (Nat.le_refl 4)).trans (Dw.sum_tok _)
end

/-- Every run of the kernel program ends with the gradient. -/
theorem run_kernel (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v26) = gradUp (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h.1 c).2 main_v26 (Pipeline.mem_restRefs_of main_v26 (by decide) (by decide))).trans ((W_res m c _).trans (out_grad m c)),
      ((h.1 c).2 main_arg0 (Pipeline.mem_restRefs_of main_arg0 (by decide) (by decide))).trans
        ((W_arg m c main_arg0 keeps_arg0 (by decide) (by decide) _ _).trans (V_main_arg0 m c)),
      ((h.1 c).2 main_arg1 (Pipeline.mem_restRefs_of main_arg1 (by decide) (by decide))).trans
        ((W_arg m c main_arg1 keeps_arg1 (by decide) (by decide) _ _).trans (V_main_arg1 m c))⟩) (run_main m ρ)

/-- The reference's value is the gradient. -/
theorem ref_grad (h : Vec Ideal S8320x1024 .f32) (d : Vec Ideal S8320x5504 .f32) :
    Cert.Reference3Ideal.Read.val_main_v3 (F := Ideal) h d = gradUp h d := by
  funext x
  refine (Cert.Reference3Ideal.Read.val_main_v3_apply h d x).trans ((Cert.Reference3Ideal.Read.val_main_v2_apply h d _).trans ?_)
  refine Finset.sum_congr rfl fun t _ => congrArg₂ (fun a b : EReal => a * b) (congrArg d ?_) (congrArg h ?_)
  · funext i; match i with | ⟨0, _⟩ => rfl | ⟨1, _⟩ => rfl
  · funext i; match i with | ⟨0, _⟩ => rfl | ⟨1, _⟩ => rfl

/-- Every run of the reference ends with the gradient. -/
theorem run_reference (m : (ℓ : Loc Cert.Reference3Ideal.nD Cert.Reference3Ideal.τ Cert.Reference3Ideal.sig) → Buf (Elt Ideal) ℓ) (ρ : Dev Cert.Reference3Ideal.nD → PrngReg) :
    θ_run Cert.Reference3Ideal.defs (onTc (τ := Cert.Reference3Ideal.τ) (Cert.Reference3Ideal.main (F := Ideal))) ⟨m, fun _ => 0, ρ⟩ (fun r => ∀ c : Dev Cert.Reference3Ideal.nD,
      r.2.mem ((c.tc : Thread Cert.Reference3Ideal.nD Cert.Reference3Ideal.τ).loc Cert.Reference3Ideal.main_v3)
        = gradUp (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1))
      ∧ r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)) :=
  (θ_run Cert.Reference3Ideal.defs _ _).mono (fun r h c =>
    ⟨(h c).1.trans ((Cert.Reference3Ideal.Read.val_main_v3_eq _ _).trans (ref_grad _ _)), (h c).2⟩) (Cert.Reference3Ideal.Value.run m ρ)

end Cert.Kernel3Ideal.Dw13

end
-- ==== Proof.Dw2.Base.lean ====
/-
The gradient of a macaron half-step's second weight: the set-up its run is stated over. The host lines around the call,
the contents of the arrays when the call starts, the blocks of the windows, the two branches of the body, and the
invariant of a body that writes its result into the memory of the device by transfers of its own.
-/
module

public import proofs.«01_k».proof.Proof.Gen.Kernel4Ideal.Launch
public import proofs.«01_k».proof.Proof.Gen.Kernel4Ideal.Skeleton
public import proofs.«01_k».proof.Proof.Gen.Kernel4Ideal.Points
public import Idealize.ShloMosaic.Lib.Pipeline.FrameBody
public import Idealize.ShloMosaic.Lib.Pipeline.FrameSuffix
public import Idealize.ShloMosaic.Lib.Pipeline.FrameSuffixV
public import Idealize.ShloMosaic.Lib.Ring
public import Idealize.ShloMosaic.Lib.Tactic
public import Idealize.ShloMosaic.Lib.WordCmp

@[expose] public section

set_option maxRecDepth 16384

noncomputable section

namespace Cert.Kernel4Ideal.Dw2

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The result, which the body writes by its own transfers. -/
def R0 : Finset (Ref sig .tc) := {main_v8}

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 4) — by arithmetic of the point. -/
theorem hcond0_0 : ∀ t : Fin cfg0.N, cond0_0 (grid0.coords t) ↔ t.val % 4 = 0 :=
  (fun t => by
    have ht : t.val < 8 := Nat.lt_of_lt_of_eq t.isLt N_0
    have e0 : (grid0.coords t 0).val = t.val / 4 % 2 := Pipeline.Grid.coords_val t 0 (by decide) rfl
    have e1 : (grid0.coords t 1).val = t.val / 1 % 4 := Pipeline.Grid.coords_val t 1 (by decide) rfl
    simp only [cond0_0, e0, e1]
    word_cmp
   : ∀ t : Fin grid0.N, cond0_0 (grid0.coords t) ↔ t.val % 4 = 0)

/-- The condition of the body's `scf.if` 1 (`k0_h2`), from the grid coordinates (the skeleton's scalar
    chain substituted). -/
abbrev cond0_1 (i : grid0.Coords) : Prop := k0_cond2 i = 1#1
/-- It holds at the points ≡ 3 (mod 4) — by arithmetic of the point. -/
theorem hcond0_1 : ∀ t : Fin cfg0.N, cond0_1 (grid0.coords t) ↔ t.val % 4 = 3 :=
  (fun t => by
    have ht : t.val < 8 := Nat.lt_of_lt_of_eq t.isLt N_0
    have e0 : (grid0.coords t 0).val = t.val / 4 % 2 := Pipeline.Grid.coords_val t 0 (by decide) rfl
    have e1 : (grid0.coords t 1).val = t.val / 1 % 4 := Pipeline.Grid.coords_val t 1 (by decide) rfl
    simp only [cond0_1, k0_cond2, e0, e1]
    word_cmp
   : ∀ t : Fin grid0.N, cond0_1 (grid0.coords t) ↔ t.val % 4 = 3)

/-! ## The kernel body on any staging memrefs: a subtype the run finds -/

/-- Each window's current staging memref at point `t`, spelled as the pipeline passes it (`bodyAt0`), and its wholeness. -/
abbrev ms0_0 (t : Fin cfg0.N) : Memref sig .tc .vmem S2080x1408 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2080x1024 .bf16 := win0_1.stage (cfg0.slots t 1)
abbrev hs0_1 (t : Fin cfg0.N) : (ms0_1 t).IsWhole := hstage0_1 ((cfg0.slots t 1).cast nbuf0_1)
/-- The scratch operands: whole scoped buffers of the kernel's own, passed beside the windows. -/
abbrev scM0_0 : Memref sig .tc .vmem S1408x1024 .f32 := Memref.whole cc0_scratch0
abbrev scM0_1 : Memref sig .tc .vmem S1408x1024 .bf16 := Memref.whole cc0_scratch1
/-- The scratch `arg6` the kernel carries between points, as a view: what it holds is stated through it. -/
abbrev VS0_0 : View sig .tc .vmem S1408x1024 .f32 := scM0_0.view
/-- The operands left in HBM that the body copies into scratch itself, whole. -/
abbrev hbM : Memref sig .tc .hbm S4x2080x1024 .bf16 := Memref.whole main_v8
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 2 → SemLoc sig := fun j => (![SemLoc.dma 4, SemLoc.dma 5] : Fin 2 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 4) 0 ∗ semVal ((c : Thread nD τ), SemLoc.dma 5) 0) := by
  rw [Pipeline.ownSems0_eq_of_list c osem0 [0, 1] (by decide) (by decide)]; rfl
theorem R0_sub : R0 ⊆ Pipeline.restRefs sig spec0 \ ∅ := by decide

/-- What the launch hands the body and takes back: the scratch at any contents, the cells at zero, the result at `G`. -/
theorem PhiDRV0_eq (G : (c : Dev nD) → (b : Ref sig .tc) → Buf (Elt F) ((c.tc : Thread nD τ).loc b)) (c : Dev nD) :
    (Pipeline.ΦDRV osem0 spec0 ∅ R0 (V m) G c : sProp 𝕄)
      = iprop(((∃ d, owns (c : Thread nD τ) scM0_0 fullShare d) ∗ (∃ d, owns (c : Thread nD τ) scM0_1 fullShare d)) ∗ iprop(semVal ((c : Thread nD τ), SemLoc.dma 4) 0 ∗ semVal ((c : Thread nD τ), SemLoc.dma 5) 0) ∗ emp ∗ hbPt0 c hbM (G c main_v8)) := by
  unfold Pipeline.ΦDRV
  rw [scopedRest0_eq, ownSems00_eq, BI.bigSep_empty, BI.bigSep_eq_bigSepL_of_eq [main_v8] (by decide) (by decide)]
  simp only [scM0_0, scM0_1, owns_whole]; try rfl

/-- The lines after the region write no argument. -/
theorem W_arg (c : Dev nD) (b : Ref sig .tc) (hb : ∀ op ∈ (hostOps1 : List (HloOp τ sig (Elt F))), Proc.devRef .tc b ∉ op.writes)
    (hw : ∀ w, Pipeline.arrRef spec0 w ≠ b) (hR : b ∉ R0)
    (G : (b : Ref sig .tc) → Buf (Elt F) ((c.tc : Thread nD τ).loc b)) (A : (w : Fin cfg0.W) → Buf (Elt F) ((spec0 w).arr.view.loc (c.tc : Thread nD τ))) :
    StableHlo.after (List.flatten [hostOps1]) (Pipeline.withArrays spec0 c (Pipeline.withR (V0 m c) R0 c G) A) (Proc.devRef .tc b) = V m c b := by
  rw [StableHlo.after_of_forall_not_mem (b := Proc.devRef .tc b) _ _ (by
      rw [List.flatten_cons, List.flatten_nil, List.append_nil]; exact hb),
    Pipeline.withArrays_of_ne _ c _ _ b hw, Pipeline.withR_of_not_mem _ _ _ _ b hR]

/-- The first argument is written by none of the lines after the region, -/
theorem keeps_arg0 : ∀ op ∈ (hostOps1 : List (HloOp τ sig (Elt F))), Proc.devRef .tc main_arg0 ∉ op.writes :=
  List.forall_iff_forall_mem.mp (by
    simp only [hostOps1, List.Forall, StableHlo.nullary_writes, StableHlo.unary_writes, StableHlo.binary_writes, StableHlo.reshape_writes, StableHlo.nary_writes, Finset.mem_singleton]
    repeat' apply And.intro
    all_goals exact StableHlo.devRef_ne_of_ne (by decide))

/-- nor is the second. -/
theorem keeps_arg1 : ∀ op ∈ (hostOps1 : List (HloOp τ sig (Elt F))), Proc.devRef .tc main_arg1 ∉ op.writes :=
  List.forall_iff_forall_mem.mp (by
    simp only [hostOps1, List.Forall, StableHlo.nullary_writes, StableHlo.unary_writes, StableHlo.binary_writes, StableHlo.reshape_writes, StableHlo.nary_writes, Finset.mem_singleton]
    repeat' apply And.intro
    all_goals exact StableHlo.devRef_ne_of_ne (by decide))

end Cert.Kernel4Ideal.Dw2

end
-- ==== Proof.Dw2.Run.lean ====
module
public import proofs.«01_k».proof.Proof.Dw2.Base
public import proofs.«01_k».proof.Proof.Dw.Write
@[expose] public section

set_option maxRecDepth 16384

noncomputable section

namespace Cert.Kernel4Ideal.Dw2

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- A finished block put into the result: its first 688 rows into quarter `2 j`, the next 688 into quarter `2 j + 1`, below the
    rows of the first weight. -/
def putV (j : ℕ) (x : Vec F S1408x1024 .bf16) (g : Vec F S4x2080x1024 .bf16) : Vec F S4x2080x1024 .bf16 :=
  Dw.put (n := 688) (2 * j + 1) 1376 (View.ld x (Rect.unit (s := S1408x1024) ![688, 0] S688x1024.size inb_S1408x1024_S688x1024_688_0))
    (Dw.put (n := 688) (2 * j) 1376 (View.ld x (Rect.unit (s := S1408x1024) ![0, 0] S688x1024.size inb_S1408x1024_S688x1024_0_0)) g)

/-- The offsets of the rows a point copies to. -/
theorem off1_eq (i : grid0.Coords) : k0_off1 i = ![2 * (i 0).val, 1376, 0] := by
  have h : (i 0).val < 2 := (i 0).isLt
  show ![(2#32 * BitVec.ofNat 32 (i 0).val).toNat, 1376, 0] = _
  rw [show (2#32 * BitVec.ofNat 32 (i 0).val).toNat = 2 * (i 0).val by rw [BitVec.toNat_mul, BitVec.toNat_ofNat, BitVec.toNat_ofNat]; omega]

theorem off2_eq (i : grid0.Coords) : k0_off2 i = ![2 * (i 0).val + 1, 1376, 0] := by
  have h : (i 0).val < 2 := (i 0).isLt
  show ![(2#32 * BitVec.ofNat 32 (i 0).val + 1#32).toNat, 1376, 0] = _
  rw [show (2#32 * BitVec.ofNat 32 (i 0).val + 1#32).toNat = 2 * (i 0).val + 1 by
    rw [BitVec.toNat_add, BitVec.toNat_mul, BitVec.toNat_ofNat, BitVec.toNat_ofNat, BitVec.toNat_ofNat]; omega]

/-- The copies of `d` to those rows. -/
theorem write_put1 (i : grid0.Coords) (h2 : k0_cond2 i = 1#1)
    (hr : ∀ a, (Rect.unit (s := S4x2080x1024) (k0_off1 i) S1x688x1024.size (k0_off1_inb i h2)).stride a = 1)
    (hq : (Rect.unit (s := S4x2080x1024) (k0_off1 i) S1x688x1024.size (k0_off1_inb i h2)).shape.Squeezes S688x1024)
    (g : Vec F S4x2080x1024 .bf16) (d : S688x1024.Idx → Elt F .bf16) :
    View.write (Elt F) (((Memref.whole main_v8).slice (Rect.unit (s := S4x2080x1024) (k0_off1 i) S1x688x1024.size (k0_off1_inb i h2)) hr).squeeze S688x1024 hq).view g d Finset.univ
      = (Dw.put (n := 688) (2 * (i 0).val) 1376 d g : Vec F S4x2080x1024 .bf16) :=
  Dw.read_write_put (Memref.whole main_v8) (k0_off1 i) (2 * (i 0).val) 1376 (off1_eq i) (k0_off1_inb i h2) hr hq g d

theorem write_put2 (i : grid0.Coords) (h2 : k0_cond2 i = 1#1)
    (hr : ∀ a, (Rect.unit (s := S4x2080x1024) (k0_off2 i) S1x688x1024.size (k0_off2_inb i h2)).stride a = 1)
    (hq : (Rect.unit (s := S4x2080x1024) (k0_off2 i) S1x688x1024.size (k0_off2_inb i h2)).shape.Squeezes S688x1024)
    (g : Vec F S4x2080x1024 .bf16) (d : S688x1024.Idx → Elt F .bf16) :
    View.write (Elt F) (((Memref.whole main_v8).slice (Rect.unit (s := S4x2080x1024) (k0_off2 i) S1x688x1024.size (k0_off2_inb i h2)) hr).squeeze S688x1024 hq).view g d Finset.univ
      = (Dw.put (n := 688) (2 * (i 0).val + 1) 1376 d g : Vec F S4x2080x1024 .bf16) :=
  Dw.read_write_put (Memref.whole main_v8) (k0_off2 i) (2 * (i 0).val + 1) 1376 (off2_eq i) (k0_off2_inb i h2) hr hq g d

set_option maxHeartbeats 2000000 in
/-- A point in the middle of a block: its product is added to the sum. -/
theorem runB (c : Dev nD) (i : grid0.Coords) (arg2 : Memref sig .tc .vmem S2080x1408 .bf16) (harg2 : arg2.IsWhole) (arg3 : Memref sig .tc .vmem S2080x1024 .bf16) (harg3 : arg3.IsWhole) (arg6 : Memref sig .tc .vmem S1408x1024 .f32) (harg6 : arg6.IsWhole) (arg7 : Memref sig .tc .vmem S1408x1024 .bf16) (harg7 : arg7.IsWhole) (hc0 : ¬cond0_0 i) (hc1 : ¬cond0_1 i)
    (x0 : Vec F S2080x1408 .bf16) (x1 : Vec F S2080x1024 .bf16) (xs0 : Vec F S1408x1024 .f32) :
      ∀ (W : Waits sig Unit) (K : PUnit → sProp 𝕄),
        iprop(owns (c : Thread nD τ) arg2 fullShare x0 ∗ owns (c : Thread nD τ) arg3 fullShare x1 ∗ owns (c : Thread nD τ) arg6 fullShare xs0 ∗ owes (c : Thread nD τ) 0 W
            ∗ (iprop(owns (c : Thread nD τ) arg2 fullShare x0 ∗ owns (c : Thread nD τ) arg3 fullShare x1 ∗ owns (c : Thread nD τ) arg6 fullShare (k0_pay2 xs0 x0 x1) ∗ owes (c : Thread nD τ) 0 W) -∗ K ⟨⟩))
          ⊢ wp frame (wpE (defs₀ (F := F)) Variants.none c none) Set.univ (cc0_dw2_ffn1_0 i arg2 harg2 arg3 harg3 (Memref.whole main_v8) (Memref.isWhole_whole _) (Memref.whole main_v8) (Memref.isWhole_whole _) arg6 harg6 arg7 harg7 cc0_scratch2) K := by
    intro W K
    simp only [cc0_dw2_ffn1_0_eq_skeleton]; unfold cc0_dw2_ffn1_0_skel
    simp only [k0_part1_eq_skeleton]
    unfold owns
    iintro ⟨⟨%f0, %hf0, H0⟩, ⟨%f1, %hf1, H1⟩, ⟨%fs0, %hfs0, HS0⟩, HW, Hk⟩
    obtain rfl := harg2.eq_unread hf0; obtain rfl := harg3.eq_unread hf1; obtain rfl := harg6.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [HS0]
    · iexists _; isplitr; swap; · iexact HS0
      ipureintro
      sl_unfold_words
      rw [View.read_writes_eq_canon _ _ _ (View.cover_of_tiledBy _ ![1408, 1024] (by sl_kernel_rfl)), View.canon_cons_unit_lit _ _ _ (by decide)]
      simp only [View.readAt_eq_ld, harg2.read_unread, harg3.read_unread, harg6.read_unread]
      rw [View.ld_unit_lit _ _ (by decide), View.ld_unit_lit _ _ (by decide), View.ld_unit_lit _ _ (by decide)]
    iexact HW

set_option maxHeartbeats 2000000 in
/-- The first point of a block: the sum starts at zero. -/
theorem runA (c : Dev nD) (i : grid0.Coords) (arg2 : Memref sig .tc .vmem S2080x1408 .bf16) (harg2 : arg2.IsWhole) (arg3 : Memref sig .tc .vmem S2080x1024 .bf16) (harg3 : arg3.IsWhole) (arg6 : Memref sig .tc .vmem S1408x1024 .f32) (harg6 : arg6.IsWhole) (arg7 : Memref sig .tc .vmem S1408x1024 .bf16) (harg7 : arg7.IsWhole) (hc0 : cond0_0 i) (hc1 : ¬cond0_1 i)
    (x0 : Vec F S2080x1408 .bf16) (x1 : Vec F S2080x1024 .bf16) :
      ∀ (W : Waits sig Unit) (K : PUnit → sProp 𝕄),
        iprop(owns (c : Thread nD τ) arg2 fullShare x0 ∗ owns (c : Thread nD τ) arg3 fullShare x1 ∗ (∃ d, owns (c : Thread nD τ) arg6 fullShare d) ∗ owes (c : Thread nD τ) 0 W
            ∗ (iprop(owns (c : Thread nD τ) arg2 fullShare x0 ∗ owns (c : Thread nD τ) arg3 fullShare x1 ∗ owns (c : Thread nD τ) arg6 fullShare (k0_pay2 k0_pay1 x0 x1) ∗ owes (c : Thread nD τ) 0 W) -∗ K ⟨⟩))
          ⊢ wp frame (wpE (defs₀ (F := F)) Variants.none c none) Set.univ (cc0_dw2_ffn1_0 i arg2 harg2 arg3 harg3 (Memref.whole main_v8) (Memref.isWhole_whole _) (Memref.whole main_v8) (Memref.isWhole_whole _) arg6 harg6 arg7 harg7 cc0_scratch2) K := by
    intro W K
    simp only [cc0_dw2_ffn1_0_eq_skeleton]; unfold cc0_dw2_ffn1_0_skel
    simp only [k0_part1_eq_skeleton]
    unfold owns
    iintro ⟨⟨%f0, %hf0, H0⟩, ⟨%f1, %hf1, H1⟩, ⟨%ds0, %fs0, -, HS0⟩, HW, Hk⟩
    obtain rfl := harg2.eq_unread hf0; obtain rfl := harg3.eq_unread hf1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [HS0]
    · iexists _; isplitr; swap; · iexact HS0
      ipureintro
      sl_unfold_words
      rw [View.read_writes_eq_canon _ _ _ (View.cover_of_tiledBy _ ![1408, 1024] (by sl_kernel_rfl)), View.canon_cons_unit_lit _ _ _ (by decide)]
      simp only [View.readAt_eq_ld, harg2.read_unread, harg3.read_unread, harg6.read_unread]
      rw [View.readCov_unit_lit _ _ _ (by decide), View.ld_unit_lit _ _ (by decide), View.ld_unit_lit _ _ (by decide)]
    iexact HW

set_option maxHeartbeats 4000000 in
set_option sl_exec.dmaWindow true in
set_option sl_exec.dmaWindowSet true in
/-- The last point of a block: the finished sum is copied into the result. -/
theorem runC (c : Dev nD) (i : grid0.Coords) (arg2 : Memref sig .tc .vmem S2080x1408 .bf16) (harg2 : arg2.IsWhole) (arg3 : Memref sig .tc .vmem S2080x1024 .bf16) (harg3 : arg3.IsWhole) (arg6 : Memref sig .tc .vmem S1408x1024 .f32) (harg6 : arg6.IsWhole) (arg7 : Memref sig .tc .vmem S1408x1024 .bf16) (harg7 : arg7.IsWhole) (hc0 : ¬cond0_0 i) (hc1 : cond0_1 i) (hd0 : Disjoint ((((Memref.whole main_v8).slice (Rect.unit (s := S4x2080x1024) (k0_off2 i) S1x688x1024.size (k0_off2_inb i hc1)) (fun _ => rfl)).squeeze S688x1024 squeezes_S1x688x1024_S688x1024)).view.set ((((Memref.whole main_v8).slice (Rect.unit (s := S4x2080x1024) (k0_off1 i) S1x688x1024.size (k0_off1_inb i hc1)) (fun _ => rfl)).squeeze S688x1024 squeezes_S1x688x1024_S688x1024)).view.set)
    (x0 : Vec F S2080x1408 .bf16) (x1 : Vec F S2080x1024 .bf16) (xs0 : Vec F S1408x1024 .f32) (g : Vec F S4x2080x1024 .bf16) :
      ∀ (W : Waits sig Unit) (K : PUnit → sProp 𝕄),
        iprop(owns (c : Thread nD τ) arg2 fullShare x0 ∗ owns (c : Thread nD τ) arg3 fullShare x1 ∗ owns (c : Thread nD τ) arg6 fullShare xs0 ∗ (∃ d, owns (c : Thread nD τ) arg7 fullShare d) ∗ (semVal ((c : Thread nD τ), SemLoc.dma 4) 0 ∗ semVal ((c : Thread nD τ), SemLoc.dma 5) 0) ∗ hbPt0 c hbM g ∗ owes (c : Thread nD τ) 0 W
            ∗ (iprop(owns (c : Thread nD τ) arg2 fullShare x0 ∗ owns (c : Thread nD τ) arg3 fullShare x1 ∗ owns (c : Thread nD τ) arg6 fullShare (k0_pay2 xs0 x0 x1) ∗ (∃ d, owns (c : Thread nD τ) arg7 fullShare d) ∗ (semVal ((c : Thread nD τ), SemLoc.dma 4) 0 ∗ semVal ((c : Thread nD τ), SemLoc.dma 5) 0) ∗ (∃ f, ⌜f = putV (i 0).val (k0_pay3 (k0_pay2 xs0 x0 x1)) g⌝ ∗ hbPt0 c hbM f) ∗ (∃ W', owes (c : Thread nD τ) 0 W')) -∗ K ⟨⟩))
          ⊢ wp frame (wpE (defs₀ (F := F)) Variants.none c none) Set.univ (cc0_dw2_ffn1_0 i arg2 harg2 arg3 harg3 (Memref.whole main_v8) (Memref.isWhole_whole _) (Memref.whole main_v8) (Memref.isWhole_whole _) arg6 harg6 arg7 harg7 cc0_scratch2) K := by
    intro W K
    simp only [cc0_dw2_ffn1_0_eq_skeleton]; unfold cc0_dw2_ffn1_0_skel
    simp only [k0_part1_eq_skeleton]
    unfold owns
    iintro ⟨⟨%f0, %hf0, H0⟩, ⟨%f1, %hf1, H1⟩, ⟨%fs0, %hfs0, HS0⟩, ⟨%ds1, %fs1, -, HS1⟩, ⟨Hq0, Hq1⟩, Hh1, HW, Hk⟩
    obtain rfl := harg2.eq_unread hf0; obtain rfl := harg3.eq_unread hf1; obtain rfl := harg6.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [HS0]
    · iexists _; isplitr; swap; · iexact HS0
      ipureintro
      sl_unfold_words
      rw [View.read_writes_eq_canon _ _ _ (View.cover_of_tiledBy _ ![1408, 1024] (by sl_kernel_rfl)), View.canon_cons_unit_lit _ _ _ (by decide)]
      simp only [View.readAt_eq_ld, harg2.read_unread, harg3.read_unread, harg6.read_unread]
      rw [View.ld_unit_lit _ _ (by decide), View.ld_unit_lit _ _ (by decide), View.ld_unit_lit _ _ (by decide)]
    isplitl [HS1]
    · iexists _, _; isplitr; swap; · iexact HS1
      ipureintro; rfl
    isplitl [Hq0 Hq1]
    · isplitl [Hq0]; · iexact Hq0
      iexact Hq1
    isplitl [Hh1]
    · iexists _; isplitr; swap; · iexact Hh1
      ipureintro
      sl_unfold_words
      refine Eq.trans (b := (Dw.put (n := 688) (2 * (i 0).val + 1) 1376 _ (Dw.put (n := 688) (2 * (i 0).val) 1376 _ g) : Vec F S4x2080x1024 .bf16))
        ((write_put2 i hc1 _ _ _ _).trans (congrArg (fun f => Dw.put (n := 688) (2 * (i 0).val + 1) 1376 _ f) (write_put1 i hc1 _ _ g _)))
        (congrArg₂ (fun d e => Dw.put (n := 688) (2 * (i 0).val + 1) 1376 d (Dw.put (n := 688) (2 * (i 0).val) 1376 e g)) ?_ ?_)
      · show View.ld (View.read (Elt F) arg7.view _) (Rect.unit (s := S1408x1024) ![688, 0] S688x1024.size inb_S1408x1024_S688x1024_688_0) = _
        rw [View.read_writes_eq_canon _ _ _ (View.cover_of_tiledBy _ ![1408, 1024] (by sl_kernel_rfl)), View.canon_cons_unit_lit _ _ _ (by decide)]
        simp only [View.readAt_eq_ld, harg2.read_unread, harg3.read_unread, harg6.read_unread]
        rw [View.readCov_unit_lit _ _ _ (by decide), View.ld_unit_lit _ _ (by decide), View.ld_unit_lit _ _ (by decide), View.ld_unit_lit _ _ (by decide)]
      · show View.ld (View.read (Elt F) arg7.view _) (Rect.unit (s := S1408x1024) ![0, 0] S688x1024.size inb_S1408x1024_S688x1024_0_0) = _
        rw [View.read_writes_eq_canon _ _ _ (View.cover_of_tiledBy _ ![1408, 1024] (by sl_kernel_rfl)), View.canon_cons_unit_lit _ _ _ (by decide)]
        simp only [View.readAt_eq_ld, harg2.read_unread, harg3.read_unread, harg6.read_unread]
        rw [View.readCov_unit_lit _ _ _ (by decide), View.ld_unit_lit _ _ (by decide), View.ld_unit_lit _ _ (by decide), View.ld_unit_lit _ _ (by decide)]
    iexists _; iexact HW

end Cert.Kernel4Ideal.Dw2

end
-- ==== Proof.Dw2.Frame.lean ====
module
public import proofs.«01_k».proof.Proof.Dw2.Run
@[expose] public section

set_option maxRecDepth 16384

noncomputable section

namespace Cert.Kernel4Ideal.Dw2

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the points leave -/

/-- The blocks the two operands' windows hold at a point. -/
def X0 (c : Dev nD) (t : Fin cfg0.N) : Vec F S2080x1408 .bf16 := iblk m c 0 t
def X1 (c : Dev nD) (t : Fin cfg0.N) : Vec F S2080x1024 .bf16 := iblk m c 1 t

/-- The grid's `n`-th point. -/
def ptOf (n : ℕ) : Fin cfg0.N := ⟨n % 8, lt_of_lt_of_eq (Nat.mod_lt _ (by decide)) (show 8 = cfg0.N from N_0.symm)⟩

theorem ptOf_val (t : Fin cfg0.N) (n : ℕ) (h : n = t.val) : ptOf n = t :=
  Fin.ext (by subst h; exact Nat.mod_eq_of_lt (lt_of_lt_of_eq t.isLt (show cfg0.N = 8 from N_0)))

/-- The sum of half `j` after its first `s` points. -/
def part (c : Dev nD) (j : ℕ) : ℕ → Vec F S1408x1024 .f32
  | 0 => k0_pay1
  | s + 1 => k0_pay2 (part c j s) (X0 m c (ptOf (4 * j + s))) (X1 m c (ptOf (4 * j + s)))

theorem stage_lt (y : S4x2080x1024.Idx) (h : 1376 ≤ (y 1).val ∧ (y 1).val < 2064) : 688 * ((y 0).val % 2) + ((y 1).val - 1376) < 1408 := by
  omega

/-- The result before point `n`: the halves finished by then, each the live rows of two quarters. -/
def outAt (c : Dev nD) (n : ℕ) : Vec F S4x2080x1024 .bf16 := fun y =>
  if h : (y 0).val / 2 < n / 4 ∧ 1376 ≤ (y 1).val ∧ (y 1).val < 2064 then
    k0_pay3 (part m c ((y 0).val / 2) 4) (ix2 ⟨688 * ((y 0).val % 2) + ((y 1).val - 1376), stage_lt y h.2⟩ (y 2))
  else (V m c main_v8 : Vec F S4x2080x1024 .bf16) y

theorem outAt_of (c : Dev nD) (n : ℕ) (y : S4x2080x1024.Idx) (h : (y 0).val / 2 < n / 4 ∧ 1376 ≤ (y 1).val ∧ (y 1).val < 2064) :
    outAt m c n y = k0_pay3 (part m c ((y 0).val / 2) 4) (ix2 ⟨688 * ((y 0).val % 2) + ((y 1).val - 1376), stage_lt y h.2⟩ (y 2)) := dif_pos h

theorem outAt_not (c : Dev nD) (n : ℕ) (y : S4x2080x1024.Idx) (h : ¬((y 0).val / 2 < n / 4 ∧ 1376 ≤ (y 1).val ∧ (y 1).val < 2064)) :
    outAt m c n y = (V m c main_v8 : Vec F S4x2080x1024 .bf16) y := dif_neg h

theorem outAt_zero (c : Dev nD) : outAt m c 0 = (V m c main_v8 : Vec F S4x2080x1024 .bf16) := by
  funext y; unfold outAt; rw [dif_neg (fun h => absurd h.1 (Nat.not_lt_zero _))]

theorem outAt_same (c : Dev nD) (n : ℕ) (h : ¬n % 4 = 3) : outAt m c (n + 1) = outAt m c n := by
  have e : (n + 1) / 4 = n / 4 := by omega
  unfold outAt; simp only [e]

theorem outAt_step (c : Dev nD) (n : ℕ) (h : n % 4 = 3) : putV (n / 4) (k0_pay3 (part m c (n / 4) 4)) (outAt m c n) = outAt m c (n + 1) := by
  have e : (n + 1) / 4 = n / 4 + 1 := by omega
  funext y
  by_cases h1 : 1376 ≤ (y 1).val ∧ (y 1).val < 2064
  · by_cases h0 : (y 0).val / 2 = n / 4
    · have key : ∀ p : Fin 1408, p.val = 688 * ((y 0).val % 2) + ((y 1).val - 1376) →
          k0_pay3 (part m c (n / 4) 4) (ix2 p (y 2)) = outAt m c (n + 1) y := fun p hp => by
        refine Eq.trans ?_ (outAt_of m c (n + 1) y ⟨by omega, h1⟩).symm
        refine (congrArg (fun p => k0_pay3 (part m c (n / 4) 4) (ix2 p (y 2))) (Fin.ext hp)).trans
          (congrArg (fun q => k0_pay3 (part m c q 4) (ix2 ⟨688 * ((y 0).val % 2) + ((y 1).val - 1376), stage_lt y h1⟩ (y 2))) h0.symm)
      by_cases hp : (y 0).val = 2 * (n / 4) + 1
      · refine (dif_pos ⟨hp, h1.1, by omega⟩).trans (Eq.trans ?_ (key ⟨688 + ((y 1).val - 1376), by omega⟩ (show 688 + ((y 1).val - 1376) = _ by omega)))
        refine congrArg (k0_pay3 (part m c (n / 4) 4)) (funext fun a => ?_)
        match a with
        | ⟨0, _⟩ => exact Fin.ext (show 688 + 1 * ((y 1).val - 1376) = 688 + ((y 1).val - 1376) by omega)
        | ⟨1, _⟩ => exact Fin.ext (show 0 + 1 * (y 2).val = (y 2).val by omega)
      · refine (dif_neg (fun hh => hp hh.1)).trans ((dif_pos ⟨by omega, h1.1, by omega⟩).trans (Eq.trans ?_ (key ⟨(y 1).val - 1376, by omega⟩ (show (y 1).val - 1376 = _ by omega))))
        refine congrArg (k0_pay3 (part m c (n / 4) 4)) (funext fun a => ?_)
        match a with
        | ⟨0, _⟩ => exact Fin.ext (show 0 + 1 * ((y 1).val - 1376) = (y 1).val - 1376 by omega)
        | ⟨1, _⟩ => exact Fin.ext (show 0 + 1 * (y 2).val = (y 2).val by omega)
    · refine (dif_neg (fun hh => h0 (by have := hh.1; omega))).trans ((dif_neg (fun hh => h0 (by have := hh.1; omega))).trans ?_)
      by_cases hl : (y 0).val / 2 < n / 4
      · exact (outAt_of m c n y ⟨hl, h1⟩).trans (outAt_of m c (n + 1) y ⟨by omega, h1⟩).symm
      · exact (outAt_not m c n y (fun hh => hl hh.1)).trans (outAt_not m c (n + 1) y (fun hh => hl (by have := hh.1; omega))).symm
  · exact (dif_neg (fun hh => h1 ⟨hh.2.1, by have := hh.2.2; omega⟩)).trans ((dif_neg (fun hh => h1 ⟨hh.2.1, by have := hh.2.2; omega⟩)).trans
      ((outAt_not m c n y (fun hh => h1 hh.2)).trans (outAt_not m c (n + 1) y (fun hh => h1 hh.2)).symm))

/-- The two copies of a point go to different rows. -/
theorem apart : ∀ t : Fin cfg0.N, ∀ (hg0 : cond0_1 (grid0.coords t)), LoadRect.disj (Rect.unit (s := S4x2080x1024) (k0_off2 (grid0.coords t)) S1x688x1024.size (k0_off2_inb (grid0.coords t) hg0)) (Rect.unit (s := S4x2080x1024) (k0_off1 (grid0.coords t)) S1x688x1024.size (k0_off1_inb (grid0.coords t) hg0)).toLoadRect = true := by
  decide +kernel

/-! ## The invariant and the proof data -/

/-- The running sum before point `n`: anything before a half's first point. -/
def accP (c : Dev nD) (n : ℕ) : sProp 𝕄 :=
  if n % 4 = 0 then iprop(∃ d, owns (c : Thread nD τ) scM0_0 fullShare d)
  else owns (c : Thread nD τ) scM0_0 fullShare (part m c (n / 4) (n % 4))

def Phi (c : Dev nD) (n : ℕ) : sProp 𝕄 :=
  iprop((accP m c n ∗ (∃ d, owns (c : Thread nD τ) scM0_1 fullShare d)) ∗ iprop(semVal ((c : Thread nD τ), SemLoc.dma 4) 0 ∗ semVal ((c : Thread nD τ), SemLoc.dma 5) 0) ∗ emp ∗ hbPt0 c hbM (outAt m c n))

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
  Φ t := Phi m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

/-- The sum after a point of a half, the point's own product added to what it was before. -/
theorem part_succ (c : Dev nD) (t : Fin cfg0.N) (s : ℕ) (h : t.val % 4 = s) :
    k0_pay2 (part m c (t.val / 4) s) (iblk m c 0 t) (iblk m c 1 t) = part m c (t.val / 4) (s + 1) := by
  show _ = k0_pay2 (part m c (t.val / 4) s) (X0 m c (ptOf (4 * (t.val / 4) + s))) (X1 m c (ptOf (4 * (t.val / 4) + s)))
  rw [ptOf_val t _ (by omega)]
  rfl

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.castSucc = Phi m c t.val from rfl, show (dats m 0 c).Φ t.succ = Phi m c (t.val + 1) from rfl, after0_0, after0_1]
  unfold Dat.owesAt Pipeline.owesWithin
  rw [show (dats m 0 c).owed t.castSucc = 0 from rfl, show (dats m 0 c).owed t.succ = 0 from rfl]
  have hN : t.val < 8 := lt_of_lt_of_eq t.isLt (show cfg0.N = 8 from N_0)
  have hj : (grid0.coords t 0).val = t.val / 4 := (Pipeline.Grid.coords_val t 0 (by decide) rfl : (grid0.coords t 0).val = t.val / 4 % 2).trans (Nat.mod_eq_of_lt (by omega))
  unfold Phi accP
  by_cases h0 : t.val % 4 = 0
  · have h3 : ¬t.val % 4 = 3 := by omega
    rw [if_pos h0, if_neg (show ¬(t.val + 1) % 4 = 0 by omega), outAt_same m c _ h3,
      show (t.val + 1) / 4 = t.val / 4 by omega, show (t.val + 1) % 4 = 0 + 1 by omega, ← part_succ m c t 0 h0]
    iintro ⟨⟨⟨HS0, HS1⟩, Hq0, He, Hh1⟩, ⟨%W, -, HW⟩, ⟨%d0, H0⟩, ⟨%d1, H1⟩⟩
    iapply ((runA c (grid0.coords t) _ _ _ _ _ _ scM0_1 (Memref.isWhole_whole _) ((hcond0_0 t).mpr h0) (fun h => h3 ((hcond0_1 t).mp h)) (iblk m c 0 t) (iblk m c 1 t)) W _)
    isplitl [H0]; · iexact H0
    isplitl [H1]; · iexact H1
    isplitl [HS0]; · iexact HS0
    isplitl [HW]; · iexact HW
    iintro ⟨H0, H1, HS0, HW⟩
    isplitl [HS0 HS1 Hq0 He Hh1]
    · isplitl [HS0 HS1]
      · isplitl [HS0]; · iexact HS0
        iexact HS1
      isplitl [Hq0]; · iexact Hq0
      isplitl [He]; · iexact He
      iexact Hh1
    isplitl [HW]
    · iexists W; isplitr; · ipureintro; exact fun _ _ => Or.inl trivial
      iexact HW
    isplitl [H0]; · iexact H0
    iexact H1
  · rw [if_neg h0]
    by_cases h3 : t.val % 4 = 3
    · rw [if_pos (show (t.val + 1) % 4 = 0 by omega), ← outAt_step m c _ h3, ← part_succ m c t 3 h3, h3]
      iintro ⟨⟨⟨HS0, HS1⟩, Hq0, He, Hh1⟩, ⟨%W, -, HW⟩, ⟨%d0, H0⟩, ⟨%d1, H1⟩⟩
      iapply ((runC c (grid0.coords t) _ _ _ _ _ _ scM0_1 (Memref.isWhole_whole _) (fun h => h0 ((hcond0_0 t).mp h)) ((hcond0_1 t).mpr h3) (by
        rw [Memref.set_view_squeeze, Memref.set_view_squeeze]
        exact View.disjoint_slice_of_disj (Memref.whole main_v8).view (Rect.unit (s := S4x2080x1024) (k0_off2 (grid0.coords t)) S1x688x1024.size (k0_off2_inb (grid0.coords t) ((hcond0_1 t).mpr h3)))
          (Rect.unit (s := S4x2080x1024) (k0_off1 (grid0.coords t)) S1x688x1024.size (k0_off1_inb (grid0.coords t) ((hcond0_1 t).mpr h3))) (apart t ((hcond0_1 t).mpr h3))) (iblk m c 0 t) (iblk m c 1 t) _ _) W _)
      isplitl [H0]; · iexact H0
      isplitl [H1]; · iexact H1
      isplitl [HS0]; · iexact HS0
      isplitl [HS1]; · iexact HS1
      isplitl [Hq0]; · iexact Hq0
      isplitl [Hh1]; · iexact Hh1
      isplitl [HW]; · iexact HW
      iintro ⟨H0, H1, HS0, HS1, Hq0, ⟨%f, %hf, Hh1⟩, ⟨%W', HW'⟩⟩
      rw [hj] at hf; subst hf
      isplitl [HS0 HS1 Hq0 He Hh1]
      · isplitl [HS0 HS1]
        · isplitl [HS0]; · iexists _; iexact HS0
          iexact HS1
        isplitl [Hq0]; · iexact Hq0
        isplitl [He]; · iexact He
        iexact Hh1
      isplitl [HW']
      · iexists W'; isplitr; · ipureintro; exact fun _ _ => Or.inl trivial
        iexact HW'
      isplitl [H0]; · iexact H0
      iexact H1
    · rw [if_neg (show ¬(t.val + 1) % 4 = 0 by omega), outAt_same m c _ h3,
        show (t.val + 1) / 4 = t.val / 4 by omega, show (t.val + 1) % 4 = t.val % 4 + 1 by omega, ← part_succ m c t _ rfl]
      iintro ⟨⟨⟨HS0, HS1⟩, Hq0, He, Hh1⟩, ⟨%W, -, HW⟩, ⟨%d0, H0⟩, ⟨%d1, H1⟩⟩
      iapply ((runB c (grid0.coords t) _ _ _ _ _ _ scM0_1 (Memref.isWhole_whole _) (fun h => h0 ((hcond0_0 t).mp h)) (fun h => h3 ((hcond0_1 t).mp h)) (iblk m c 0 t) (iblk m c 1 t) _) W _)
      isplitl [H0]; · iexact H0
      isplitl [H1]; · iexact H1
      isplitl [HS0]; · iexact HS0
      isplitl [HW]; · iexact HW
      iintro ⟨H0, H1, HS0, HW⟩
      isplitl [HS0 HS1 Hq0 He Hh1]
      · isplitl [HS0 HS1]
        · isplitl [HS0]; · iexact HS0
          iexact HS1
        isplitl [Hq0]; · iexact Hq0
        isplitl [He]; · iexact He
        iexact Hh1
      isplitl [HW]
      · iexists W; isplitr; · ipureintro; exact fun _ _ => Or.inl trivial
        iexact HW
      isplitl [H0]; · iexact H0
      iexact H1

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- What the run leaves in the result. -/
def G (c : Dev nD) (b : Ref sig .tc) : Buf (Elt F) ((c.tc : Thread nD τ).loc b) :=
  if h : b = main_v8 then h ▸ (outAt m c 8 : Buf (Elt F) ((c.tc : Thread nD τ).loc main_v8)) else V m c b

theorem G_res (c : Dev nD) : G m c main_v8 = outAt m c 8 := by
  unfold G; rw [dif_pos rfl]

theorem Phi_start (c : Dev nD) : Pipeline.ΦDRV osem0 spec0 ∅ R0 (V m) (V m) c ⊢ (dats m 0 c).Φ 0 := by
  rw [PhiDRV0_eq]
  show _ ⊢ Phi m c 0
  unfold Phi accP; rw [if_pos (Nat.zero_mod _), outAt_zero]

theorem Phi_last (c : Dev nD) : (dats m 0 c).Φ (Fin.last cfg0.N) ⊢ Pipeline.ΦDRV osem0 spec0 ∅ R0 (V m) (G m) c := by
  rw [PhiDRV0_eq, G_res]
  show Phi m c cfg0.N ⊢ _
  rw [show cfg0.N = 8 from N_0]
  unfold Phi accP; rw [if_pos (by decide)]

set_option backward.isDefEq.respectTransparency.types false in
set_option maxHeartbeats 800000 in
/-- The launch: the result ends at what the points copied into it, the host's tail runs from it, every counter ends at
    zero. -/
theorem run_main : θ_run defs (onTc (τ := τ) (main (F := F))) (s₀ m ρ)
    (fun r => (∀ c : Dev nD, (∀ w, r.2.mem ((spec0 w).arr.view.loc (c.tc : Thread nD τ)) = (dats m 0 c).arrAt w cfg0.N)
      ∧ ∀ b ∈ Pipeline.restRefs sig spec0, r.2.mem ((c.tc : Thread nD τ).loc b)
          = StableHlo.after (List.flatten [hostOps1]) (Pipeline.withArrays spec0 c (Pipeline.withR (V0 m c) R0 c (G m c)) fun w => (dats m 0 c).arrAt w cfg0.N) (Proc.devRef .tc b))
      ∧ r.2.sem = fun _ => 0) :=
  Pipeline.θ_run_frame_dmaR_aroundV (Q' := _) (hQ' := fun _ h => h) cfgs (dats m) (0 : Fin 1) launch0 osem0 defs₀ Variants.none ownSemFacts0 ∅ R0 (Finset.empty_subset _) R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (G := G m)
    (hmain := hmain m Variants.none) (hA := A_eq m) (hin := Phi_start m) (hout := Phi_last m)

/-- Every run ends, its arguments as they were, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c =>
    ⟨((h.1 c).2 main_arg0 (Pipeline.mem_restRefs_of main_arg0 (by decide) (by decide))).trans
        ((W_arg m c main_arg0 keeps_arg0 (by decide) (by decide) _ _).trans (V_main_arg0 m c)),
      ((h.1 c).2 main_arg1 (Pipeline.mem_restRefs_of main_arg1 (by decide) (by decide))).trans
        ((W_arg m c main_arg1 keeps_arg1 (by decide) (by decide) _ _).trans (V_main_arg1 m c))⟩, h.2⟩) (run_main m ρ)

end Cert.Kernel4Ideal.Dw2

end
-- ==== Proof.Dw2.FrameKernel4.lean ====
module
public import proofs.«01_k».proof.Defs
public import proofs.«01_k».proof.Proof.Dw2.Frame
public import proofs.«01_k».proof.Proof.Gen.Kernel4
@[expose] public section
set_option maxRecDepth 16384
noncomputable section

namespace Cert.Proof

open Idealize.ShloMosaic Idealize.ShloMosaic.TcCoe

/-- The frame over the reals. -/
theorem frame_kernel4Ideal : Cert.quiescent_Kernel4Ideal := fun m ρ _ =>
  Cert.Kernel4Ideal.Dw2.frame (F := Ideal) m ρ

set_option maxHeartbeats 2000000 in
/-- The two programs have the same body table, -/
theorem defs₀_same4 : Cert.Kernel4.defs₀ (F := Bits) = Cert.Kernel4Ideal.defs₀ (F := Bits) := by
  unfold Cert.Kernel4.defs₀ Cert.Kernel4Ideal.defs₀
  congr 1
  funext l a
  match l with
  | 0 => rfl

/-- the same table with the pipeline's steps, -/
theorem defs_same4 : Cert.Kernel4.defs (F := Bits) = Cert.Kernel4Ideal.defs (F := Bits) :=
  congrArg (Pipeline.defs (Cert.Kernel4Ideal.pcfgs (F := Bits))) defs₀_same4

set_option maxHeartbeats 2000000 in
/-- and the same host function. -/
theorem main_same4 : Cert.Kernel4.main (F := Bits) = Cert.Kernel4Ideal.main (F := Bits) := rfl

/-- The frame of the program over floats: the same text as the one over the reals. -/
theorem frame_kernel4 : Cert.quiescent_Kernel4 := fun m ρ _ => by
  rw [show Cert.Kernel4.defs (F := Bits) = _ from defs_same4, show Cert.Kernel4.main (F := Bits) = _ from main_same4]
  exact Cert.Kernel4Ideal.Dw2.frame (F := Bits) m ρ

end Cert.Proof

end
-- ==== Proof.Dw2.Results.lean ====
module
public import proofs.«01_k».proof.Proof.Dw2.Frame
public import proofs.«01_k».proof.Proof.Dw.Sum
public import proofs.«01_k».proof.Proof.Gen.Reference4Ideal.Run
public import proofs.«01_k».proof.Proof.Gen.Reference4Ideal.Read
public import Idealize.ShloMosaic.Lib.Pointwise
public import Idealize.ShloMosaic.Lib.StableHlo.RunRead
public import Idealize.ShloMosaic.Lib.Pipeline.ValueKit
@[expose] public section

set_option maxRecDepth 16384

noncomputable section

namespace Cert.Kernel4Ideal.Dw2

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # What the call leaves: the gradient of the down projection's weight -/

open scoped BigOperators

/-! ## The host's packing of the operands and unpacking of the result -/

/-- The two halves of the hidden activation, each followed by idle columns. -/
def packHid (x : Vec F S8320x2752 .f32) : Vec F S8320x2816 .bf16 :=
  concatenate S8320x2816 1
    [⟨S8320x1376, truncf .bf16 (extractStridedSlice S8320x1376 ![0, 0] x slices_S8320x2752_S8320x1376_0_0) bitsLt_bf16_f32⟩,
      ⟨S8320x32, broadcastInDim S8320x32 ![] bcast_S_S8320x32 (constant S_ .bf16 0x0000#16)⟩,
      ⟨S8320x1376, truncf .bf16 (extractStridedSlice S8320x1376 ![0, 1376] x slices_S8320x2752_S8320x1376_0_1376) bitsLt_bf16_f32⟩,
      ⟨S8320x32, broadcastInDim S8320x32 ![] bcast_S_S8320x32 (constant S_ .bf16 0x0000#16)⟩]
    concatenates_S8320x1376_S8320x32_S8320x1376_S8320x32_S8320x2816_d1

/-- The output's gradient in the narrower format. -/
def packOut (d : Vec F S8320x1024 .f32) : Vec F S8320x1024 .bf16 := truncf .bf16 d bitsLt_bf16_f32

theorem V_hid (m : (ℓ : Loc nD τ sig) → Buf (Elt F) ℓ) (c : Dev nD) : V m c main_v5 = packHid (m ((c : Thread nD τ).loc main_arg0)) := by
  rfl

theorem V_out (m : (ℓ : Loc nD τ sig) → Buf (Elt F) ℓ) (c : Dev nD) : V m c main_v7 = packOut (m ((c : Thread nD τ).loc main_arg1)) := by
  rfl

theorem col_lt (j : Fin 2) (q : Fin 1376) : 1376 * j.val + q.val < 2752 := by omega
theorem slot_lt (j : Fin 2) (q : Fin 1376) : 1408 * j.val + q.val < 2816 := by omega

/-- A live column of the packed activation. -/
theorem packHid_at (x : Vec Ideal S8320x2752 .f32) (t : Fin 8320) (j : Fin 2) (q : Fin 1376) :
    packHid x (ix2 t ⟨1408 * j.val + q.val, slot_lt j q⟩) = x (ix2 t ⟨1376 * j.val + q.val, col_lt j q⟩) := by
  unfold packHid
  match j with
  | ⟨0, _⟩ =>
    pointwise
  | ⟨1, _⟩ =>
    pointwise
    all_goals split_ifs <;> first
      | omega
      | exact congrArg (fun n : Fin 2752 => x (ix2 t n)) (Fin.ext (by dsimp only; omega))

theorem packOut_at (d : Vec Ideal S8320x1024 .f32) (t : Fin 8320) (k : Fin 1024) : packOut d (ix2 t k) = d (ix2 t k) := by
  unfold packOut
  pointwise

/-- The live rows of the four slots, one after the other. -/
def joinRows (A : Vec F S4x2080x1024 .bf16) : Vec F S2752x1024 .f32 :=
  extf .f32 (shapeCast S2752x1024 (extractStridedSlice S4x688x1024 ![0, 1376, 0] A slices_S4x2080x1024_S4x688x1024_0_1376_0)
    shapeCasts_S4x688x1024_S2752x1024) bitsLt_bf16_f32

theorem row_lt (s : Fin 4) (r : Fin 688) : 688 * s.val + r.val < 2752 := by omega
theorem low_lt (r : Fin 688) : 1376 + r.val < 2080 := by omega

theorem joinRows_at (A : Vec Ideal S4x2080x1024 .bf16) (s : Fin 4) (r : Fin 688) (k : Fin 1024) :
    joinRows A (ix2 ⟨688 * s.val + r.val, row_lt s r⟩ k) = A (ix3 s ⟨1376 + r.val, low_lt r⟩ k) := by
  unfold joinRows
  pointwise

/-- What the host makes of the result's buffer. -/
theorem tail_read (W : Valuation τ sig (Elt F)) :
    StableHlo.after (List.flatten [hostOps1]) W (Proc.tc.devRef main_v11) = joinRows (W (Proc.tc.devRef main_v8)) := by
  simp only [List.flatten_cons, List.flatten_nil, List.append_nil]
  after_reads_simp
  rfl

/-- The result the host returns is read from what the grid left. -/
theorem W_res (m : (ℓ : Loc nD τ sig) → Buf (Elt F) ℓ) (c : Dev nD) (A : (w : Fin cfg0.W) → Buf (Elt F) ((spec0 w).arr.view.loc (c.tc : Thread nD τ))) :
    StableHlo.after (List.flatten [hostOps1]) (Pipeline.withArrays spec0 c (Pipeline.withR (V0 m c) R0 c (G m c)) A) (Proc.devRef .tc main_v11)
      = joinRows (outAt m c 8) := by
  refine (tail_read _).trans (congrArg joinRows ?_)
  refine (Pipeline.withArrays_of_ne _ _ _ _ _ (by decide)).trans ?_
  exact (Pipeline.withR_of_mem _ _ _ _ main_v8 (by decide)).trans (G_res m c)

/-! ## A point's blocks -/

theorem idx : ∀ t : Fin grid0.N, win0_0.index t = ![t.val % 4, t.val / 4] ∧ win0_1.index t = ![t.val % 4, 0] := by
  decide +kernel

section
variable (m : (ℓ : Loc nD τ sig) → Buf (Elt Ideal) ℓ) (c : Dev nD)

theorem point_lt (t : Fin cfg0.N) : t.val < 8 := lt_of_lt_of_eq t.isLt (show cfg0.N = 8 from N_0)
theorem tok_lt (t : ℕ) (k : Fin 2080) : 2080 * (t % 4) + k.val < 8320 := by omega
theorem lane_lt (t : Fin cfg0.N) (q : Fin 1408) : 1408 * (t.val / 4) + q.val < 2816 := by have := point_lt t; omega

theorem X0_at (t : Fin cfg0.N) (k : Fin 2080) (q : Fin 1408) :
    X0 m c t (ix2 k q) = V m c main_v5 (ix2 ⟨2080 * (t.val % 4) + k.val, tok_lt _ k⟩ ⟨1408 * (t.val / 4) + q.val, lane_lt t q⟩) := by
  unfold X0
  have h := (idx t).1
  blk_ext [iblk, h]

theorem X1_at (t : Fin cfg0.N) (k : Fin 2080) (d : Fin 1024) :
    X1 m c t (ix2 k d) = V m c main_v7 (ix2 ⟨2080 * (t.val % 4) + k.val, tok_lt _ k⟩ d) := by
  unfold X1
  have h := (idx t).2
  blk_ext [iblk, h]

theorem pay1_at (q : Fin 1408) (d : Fin 1024) : (k0_pay1 (F := Ideal)) (ix2 q d) = 0 := by
  pointwise [k0_pay1]

theorem pay2_at (a : Vec Ideal S1408x1024 .f32) (x0 : Vec Ideal S2080x1408 .bf16) (x1 : Vec Ideal S2080x1024 .bf16) (q : Fin 1408) (d : Fin 1024) :
    k0_pay2 a x0 x1 (ix2 q d) = a (ix2 q d) + ∑ k : Fin 2080, x0 (ix2 k q) * x1 (ix2 k d) := by
  pointwise [k0_pay2]

theorem pay3_at (a : Vec Ideal S1408x1024 .f32) (q : Fin 1408) (d : Fin 1024) : k0_pay3 a (ix2 q d) = a (ix2 q d) := by
  pointwise [k0_pay3]

/-! ## The sum over the tokens -/

/-- One token's term of column `q` of half `j`. -/
def term (j : Fin 2) (q : Fin 1376) (k : Fin 1024) (t : Fin 8320) : EReal :=
  @HMul.hMul EReal EReal EReal _ ((m ((c : Thread nD τ).loc main_arg0) : Vec Ideal S8320x2752 .f32) (ix2 t ⟨1376 * j.val + q.val, col_lt j q⟩))
    ((m ((c : Thread nD τ).loc main_arg1) : Vec Ideal S8320x1024 .f32) (ix2 t k))

theorem lane_of (q : Fin 1376) : q.val < 1408 := by omega

/-- A live column of the point's block of the activation. -/
theorem blk0 (j : Fin 2) (q : Fin 1376) (s : ℕ) (hs : s < 4) (k : Fin 2080) (ht : 2080 * s + k.val < 8320) :
    X0 m c (ptOf (4 * j.val + s)) (ix2 k ⟨q.val, lane_of q⟩)
      = (m ((c : Thread nD τ).loc main_arg0) : Vec Ideal S8320x2752 .f32) (ix2 ⟨2080 * s + k.val, ht⟩ ⟨1376 * j.val + q.val, col_lt j q⟩) := by
  have e : (4 * j.val + s) % 8 = 4 * j.val + s := by omega
  refine (X0_at m c _ k _).trans (Eq.trans ?_ (packHid_at _ ⟨2080 * s + k.val, ht⟩ j q))
  rw [V_hid]
  refine congrArg₂ (fun a b => packHid (m ((c : Thread nD τ).loc main_arg0)) (ix2 a b)) (Fin.ext ?_) (Fin.ext ?_)
  · show 2080 * ((4 * j.val + s) % 8 % 4) + k.val = 2080 * s + k.val
    omega
  · show 1408 * ((4 * j.val + s) % 8 / 4) + q.val = 1408 * j.val + q.val
    omega

/-- The point's block of the output's gradient. -/
theorem blk1 (j : Fin 2) (s : ℕ) (hs : s < 4) (k : Fin 2080) (ht : 2080 * s + k.val < 8320) (d : Fin 1024) :
    X1 m c (ptOf (4 * j.val + s)) (ix2 k d)
      = (m ((c : Thread nD τ).loc main_arg1) : Vec Ideal S8320x1024 .f32) (ix2 ⟨2080 * s + k.val, ht⟩ d) := by
  refine (X1_at m c _ k _).trans (Eq.trans ?_ (packOut_at _ ⟨2080 * s + k.val, ht⟩ d))
  rw [V_out]
  refine congrArg (fun a => packOut (m ((c : Thread nD τ).loc main_arg1)) (ix2 a d)) (Fin.ext ?_)
  show 2080 * ((4 * j.val + s) % 8 % 4) + k.val = 2080 * s + k.val
  omega

/-- After `s` blocks of tokens a half's sum holds their terms. -/
theorem part_at (j : Fin 2) (q : Fin 1376) (d : Fin 1024) : ∀ s, s ≤ 4 →
    @Eq EReal (part m c j.val s (ix2 ⟨q.val, lane_of q⟩ d)) (∑ t ∈ Finset.range (2080 * s), Dw.tok (term m c j q d) t)
  | 0, _ => pay1_at _ _
  | s + 1, h => by
    refine (pay2_at _ _ _ _ _).trans ?_
    rw [Dw.sum_next (term m c j q d) s
      (fun k => @HMul.hMul EReal EReal EReal _ (X0 m c (ptOf (4 * j.val + s)) (ix2 k ⟨q.val, lane_of q⟩)) (X1 m c (ptOf (4 * j.val + s)) (ix2 k d)))]
    · exact congrArg₂ (fun a b : EReal => a + b) (part_at j q d s (Nat.le_of_succ_le h)) rfl
    · intro k
      have ht : 2080 * s + k.val < 8320 := by omega
      refine Eq.trans ?_ (dif_pos ht).symm
      exact congrArg₂ (fun a b : EReal => a * b) (blk0 m c j q s h k ht) (blk1 m c j s h k ht d)

end

/-- The gradient: every token's gradient of the output times its hidden activation. -/
def gradDown (x : Vec Ideal S8320x2752 .f32) (d : Vec Ideal S8320x1024 .f32) : Vec Ideal S2752x1024 .f32 :=
  fun y : S2752x1024.Idx => ∑ t : Fin 8320, @HMul.hMul EReal EReal EReal _ (d (ix2 t (y 1))) (x (ix2 t (y 0)))

theorem half_lt (s : Fin 4) : s.val / 2 < 2 := by omega
theorem in_half (s : Fin 4) (r : Fin 688) : 688 * (s.val % 2) + r.val < 1376 := by omega

/-- What the host returns is the gradient. -/
theorem out_grad (m : (ℓ : Loc nD τ sig) → Buf (Elt Ideal) ℓ) (c : Dev nD) :
    joinRows (outAt m c 8) = gradDown (m ((c : Thread nD τ).loc main_arg0)) (m ((c : Thread nD τ).loc main_arg1)) := by
  funext x
  obtain ⟨n, k, rfl⟩ : ∃ (n : Fin 2752) (k : Fin 1024), x = ix2 n k :=
    ⟨x 0, x 1, by funext i; match i with | ⟨0, _⟩ => rfl | ⟨1, _⟩ => rfl⟩
  obtain ⟨s, r, rfl⟩ : ∃ (s : Fin 4) (r : Fin 688), n = ⟨688 * s.val + r.val, row_lt s r⟩ :=
    ⟨⟨n.val / 688, by omega⟩, ⟨n.val % 688, Nat.mod_lt _ (by decide)⟩, Fin.ext (Nat.div_add_mod _ _).symm⟩
  have hs := half_lt s
  have hr : 1376 + r.val < 2064 := by omega
  refine (joinRows_at _ s r k).trans ((outAt_of m c 8 _ ⟨hs, Nat.le_add_right _ _, hr⟩).trans ((pay3_at _ _ _).trans ?_))
  refine Eq.trans ?_ ((part_at m c ⟨s.val / 2, hs⟩ ⟨688 * (s.val % 2) + r.val, in_half s r⟩ k 4 (Nat.le_refl 4)).trans ((Dw.sum_tok _).trans ?_))
  · exact congrArg (fun p => part m c (s.val / 2) 4 (ix2 p k)) (Fin.ext (show 688 * (s.val % 2) + (1376 + r.val - 1376) = 688 * (s.val % 2) + r.val by omega))
  · refine Finset.sum_congr rfl fun t _ => (mul_comm _ _).trans (congrArg (fun p => @HMul.hMul EReal EReal EReal _
      ((m ((c : Thread nD τ).loc main_arg1) : Vec Ideal S8320x1024 .f32) (ix2 t k)) ((m ((c : Thread nD τ).loc main_arg0) : Vec Ideal S8320x2752 .f32) (ix2 t p))) (Fin.ext ?_))
    show 1376 * (s.val / 2) + (688 * (s.val % 2) + r.val) = 688 * s.val + r.val
    omega

/-- Every run of the kernel program ends with the gradient. -/
theorem run_kernel (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v11) = gradDown (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h.1 c).2 main_v11 (Pipeline.mem_restRefs_of main_v11 (by decide) (by decide))).trans ((W_res m c _).trans (out_grad m c)),
      ((h.1 c).2 main_arg0 (Pipeline.mem_restRefs_of main_arg0 (by decide) (by decide))).trans
        ((W_arg m c main_arg0 keeps_arg0 (by decide) (by decide) _ _).trans (V_main_arg0 m c)),
      ((h.1 c).2 main_arg1 (Pipeline.mem_restRefs_of main_arg1 (by decide) (by decide))).trans
        ((W_arg m c main_arg1 keeps_arg1 (by decide) (by decide) _ _).trans (V_main_arg1 m c))⟩) (run_main m ρ)

/-- The reference's value is the gradient. -/
theorem ref_grad (x : Vec Ideal S8320x2752 .f32) (d : Vec Ideal S8320x1024 .f32) :
    Cert.Reference4Ideal.Read.val_main_v3 (F := Ideal) x d = gradDown x d := by
  funext y
  refine (Cert.Reference4Ideal.Read.val_main_v3_apply x d y).trans ((Cert.Reference4Ideal.Read.val_main_v2_apply x d _).trans ?_)
  refine Finset.sum_congr rfl fun t _ => congrArg₂ (fun a b : EReal => a * b) (congrArg d ?_) (congrArg x ?_)
  · funext i; match i with | ⟨0, _⟩ => rfl | ⟨1, _⟩ => rfl
  · funext i; match i with | ⟨0, _⟩ => rfl | ⟨1, _⟩ => rfl

/-- Every run of the reference ends with the gradient. -/
theorem run_reference (m : (ℓ : Loc Cert.Reference4Ideal.nD Cert.Reference4Ideal.τ Cert.Reference4Ideal.sig) → Buf (Elt Ideal) ℓ) (ρ : Dev Cert.Reference4Ideal.nD → PrngReg) :
    θ_run Cert.Reference4Ideal.defs (onTc (τ := Cert.Reference4Ideal.τ) (Cert.Reference4Ideal.main (F := Ideal))) ⟨m, fun _ => 0, ρ⟩ (fun r => ∀ c : Dev Cert.Reference4Ideal.nD,
      r.2.mem ((c.tc : Thread Cert.Reference4Ideal.nD Cert.Reference4Ideal.τ).loc Cert.Reference4Ideal.main_v3)
        = gradDown (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1))
      ∧ r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)) :=
  (θ_run Cert.Reference4Ideal.defs _ _).mono (fun r h c =>
    ⟨(h c).1.trans ((Cert.Reference4Ideal.Read.val_main_v3_eq _ _).trans (ref_grad _ _)), (h c).2⟩) (Cert.Reference4Ideal.Value.run m ρ)

end Cert.Kernel4Ideal.Dw2

end
-- ==== Proof.Opt.Step.lean ====
module
public import Idealize.ShloMosaic.Lib.Pipeline.Value
public import Idealize.ShloMosaic.Lib.Pipeline.ValueKit
public import Idealize.ShloMosaic.Lib.Pointwise
@[expose] public section

noncomputable section

namespace Cert.Opt

open Idealize.ShloMosaic

/-! # One optimiser step, entry by entry, over an array of any shape -/

variable {s t : Shape}

/-- The new first moment, from the gradient and the first moment. -/
def first (g m : FVec Ideal s .f32) : FVec Ideal s .f32 :=
  addf (mulf (broadcast s (Scalar.ofBits .f32 0x3F666666#32)) m) (mulf (broadcast s (Scalar.ofBits .f32 0x3DCCCCCD#32)) g)

/-- The new second moment, from the gradient and the second moment. -/
def second (g v : FVec Ideal s .f32) : FVec Ideal s .f32 :=
  addf (mulf (broadcast s (Scalar.ofBits .f32 0x3F7FBE77#32)) v)
    (mulf (broadcast s (Scalar.ofBits .f32 0x3A83126F#32)) (mulf g g))

/-- The delta, from the weight, the gradient and the two moments. -/
def delta (w g m v : FVec Ideal s .f32) : FVec Ideal s .f32 :=
  mulf (broadcast s (Scalar.ofBits .f32 0xBA83126F#32))
    (addf
      (divf (divf (first g m) (broadcast s (Scalar.ofBits .f32 0x3F26BD02#32)))
        (addf (sqrt (divf (second g v) (broadcast s (Scalar.ofBits .f32 0x3C231ACC#32))))
          (broadcast s (Scalar.ofBits .f32 0x322BCC77#32))))
      (mulf (broadcast s (Scalar.ofBits .f32 0x3C23D70A#32)) w))

/-- A step over arrays laid out another way, laid out back, is the step over the arrays themselves. -/
theorem first_back (h : s.ShapeCasts t) (h' : t.ShapeCasts s) (g m : FVec Ideal s .f32) :
    shapeCast s (first (shapeCast t g h) (shapeCast t m h)) h' = first g m :=
  shapeCast_shapeCast (first g m) h h'

theorem second_back (h : s.ShapeCasts t) (h' : t.ShapeCasts s) (g v : FVec Ideal s .f32) :
    shapeCast s (second (shapeCast t g h) (shapeCast t v h)) h' = second g v :=
  shapeCast_shapeCast (second g v) h h'

theorem delta_back (h : s.ShapeCasts t) (h' : t.ShapeCasts s) (w g m v : FVec Ideal s .f32) :
    shapeCast s (delta (shapeCast t w h) (shapeCast t g h) (shapeCast t m h) (shapeCast t v h)) h' = delta w g m v :=
  shapeCast_shapeCast (delta w g m v) h h'

/-- A step over arrays read through one map is the step read through it. -/
theorem first_read {f : t.Idx → s.Idx} {g m : FVec Ideal t .f32} {g' m' : FVec Ideal s .f32}
    (hg : g = fun i => g' (f i)) (hm : m = fun i => m' (f i)) (i : t.Idx) : first g m i = first g' m' (f i) := by
  subst hg hm; rfl

theorem second_read {f : t.Idx → s.Idx} {g v : FVec Ideal t .f32} {g' v' : FVec Ideal s .f32}
    (hg : g = fun i => g' (f i)) (hv : v = fun i => v' (f i)) (i : t.Idx) : second g v i = second g' v' (f i) := by
  subst hg hv; rfl

theorem delta_read {f : t.Idx → s.Idx} {w g m v : FVec Ideal t .f32} {w' g' m' v' : FVec Ideal s .f32}
    (hw : w = fun i => w' (f i)) (hg : g = fun i => g' (f i)) (hm : m = fun i => m' (f i)) (hv : v = fun i => v' (f i))
    (i : t.Idx) : delta w g m v i = delta w' g' m' v' (f i) := by
  subst hw hg hm hv; rfl

/-- The start of a rectangle that is a whole block. -/
theorem start : (![0, 0] : Fin 2 → Nat) = fun _ => 0 := funext fun a => by fin_cases a <;> rfl

end Cert.Opt

end
-- ==== Proof.Opt.Up.lean ====
module
public import proofs.«01_k».proof.Defs
public import proofs.«01_k».proof.Proof.Opt.Step
public import proofs.«01_k».proof.Proof.Gen.Kernel5Ideal
public import proofs.«01_k».proof.Proof.Gen.Reference5Ideal
public import proofs.«01_k».proof.Proof.Gen.Kernel5Ideal.Frame
public import proofs.«01_k».proof.Proof.Gen.Reference5Ideal.Run
public import Idealize.ShloMosaic.Lib.StableHlo.RunRead
public import Idealize.ShloMosaic.Lib.Quiescent
@[expose] public section

set_option maxRecDepth 16384

noncomputable section

namespace Cert.Kernel5Ideal.Opt

open Cert.Kernel5Ideal.Gen Cert.Opt
open Idealize.ShloMosaic Idealize.ShloMosaic.TcCoe

/-! # The step of the feed-forward up projections -/

variable (m : (ℓ : Loc nD τ sig) → Buf (Elt Ideal) ℓ) (c : Dev nD)

/-- What the body stores is the step over its blocks. -/
theorem pay2 (g a : Vec Ideal S256x1376 .f32) : k0_pay2 (F := Ideal) g a = first g a := by
  unfold k0_pay2 k0_pay1
  simp only [shapeCast_self]
  rfl

theorem pay3 (g a : Vec Ideal S256x1376 .f32) : k0_pay3 (F := Ideal) g a = second g a := by
  unfold k0_pay3 k0_pay1
  simp only [shapeCast_self]
  rfl

theorem pay4 (w g a b : Vec Ideal S256x1376 .f32) : k0_pay4 (F := Ideal) g a b w = delta w g a b := by
  unfold k0_pay4
  rw [pay2, pay3]
  simp only [shapeCast_self]
  rfl

/-- The three arrays the call writes: the step over the rows. -/
theorem arr4 : (dats m 0 c).arrAt 4 cfg0.N
    = delta (s := S2048x1376) (V m c main_v0) (V m c main_v1) (V m c main_v2) (V m c main_v3) := by
  refine (dats m 0 c).arrAt_eq_of_covers 4 _ (by decide +kernel) fun t hf y => ?_
  show (dats m 0 c).after 4 t _ = _
  rw [after0_4]
  unfold out0_4
  rw [View.canon_unit_zero start, View.ld_unit_zero start, View.ld_unit_zero start, View.ld_unit_zero start,
    View.ld_unit_zero start, pay4]
  rfl

theorem arr5 : (dats m 0 c).arrAt 5 cfg0.N = first (s := S2048x1376) (V m c main_v1) (V m c main_v2) := by
  refine (dats m 0 c).arrAt_eq_of_covers 5 _ (by decide +kernel) fun t hf y => ?_
  show (dats m 0 c).after 5 t _ = _
  rw [after0_5]
  unfold out0_5
  rw [View.canon_unit_zero start, View.ld_unit_zero start, View.ld_unit_zero start, pay2]
  rfl

theorem arr6 : (dats m 0 c).arrAt 6 cfg0.N = second (s := S2048x1376) (V m c main_v1) (V m c main_v3) := by
  refine (dats m 0 c).arrAt_eq_of_covers 6 _ (by decide +kernel) fun t hf y => ?_
  show (dats m 0 c).after 6 t _ = _
  rw [after0_6]
  unfold out0_6
  rw [View.canon_unit_zero start, View.ld_unit_zero start, View.ld_unit_zero start, pay3]
  rfl

/-- The rows of an argument, and an argument of rows. -/
abbrev rows (x : Vec Ideal S2x1024x1376 .f32) : Vec Ideal S2048x1376 .f32 :=
  shapeCast S2048x1376 x shapeCasts_S2x1024x1376_S2048x1376
abbrev back (x : Vec Ideal S2048x1376 .f32) : Vec Ideal S2x1024x1376 .f32 :=
  shapeCast S2x1024x1376 x shapeCasts_S2048x1376_S2x1024x1376

/-- The arguments' rows, as the call is given them. -/
theorem V_w : V m c main_v0 = rows (m ((c.tc : Thread nD τ).loc main_arg0)) := by
  unfold V V0; after_reads_simp; rfl
theorem V_g : V m c main_v1 = rows (m ((c.tc : Thread nD τ).loc main_arg1)) := by
  unfold V V0; after_reads_simp; rfl
theorem V_m : V m c main_v2 = rows (m ((c.tc : Thread nD τ).loc main_arg2)) := by
  unfold V V0; after_reads_simp; rfl
theorem V_v : V m c main_v3 = rows (m ((c.tc : Thread nD τ).loc main_arg3)) := by
  unfold V V0; after_reads_simp; rfl

/-- What the host makes of the three arrays. -/
theorem end_delta : Pipeline.afterTail₀ cfgs (dats m) 0 (V0 m) [hostOps1] c main_v5
    = back ((dats m 0 c).arrAt 4 cfg0.N) := by
  have e := Pipeline.withArrays_arr spec0 (by decide) c (V0 m c) (fun w => (dats m 0 c).arrAt w cfg0.N) 4
  unfold Pipeline.afterTail₀
  simp only [List.flatten_cons, List.flatten_nil, List.append_nil]
  after_reads_simp
  exact congrArg back e

theorem end_first : Pipeline.afterTail₀ cfgs (dats m) 0 (V0 m) [hostOps1] c main_v6
    = back ((dats m 0 c).arrAt 5 cfg0.N) := by
  have e := Pipeline.withArrays_arr spec0 (by decide) c (V0 m c) (fun w => (dats m 0 c).arrAt w cfg0.N) 5
  unfold Pipeline.afterTail₀
  simp only [List.flatten_cons, List.flatten_nil, List.append_nil]
  after_reads_simp
  exact congrArg back e

theorem end_second : Pipeline.afterTail₀ cfgs (dats m) 0 (V0 m) [hostOps1] c main_v7
    = back ((dats m 0 c).arrAt 6 cfg0.N) := by
  have e := Pipeline.withArrays_arr spec0 (by decide) c (V0 m c) (fun w => (dats m 0 c).arrAt w cfg0.N) 6
  unfold Pipeline.afterTail₀
  simp only [List.flatten_cons, List.flatten_nil, List.append_nil]
  after_reads_simp
  exact congrArg back e

/-- The call and its reference end with the same delta and the same moments. -/
theorem same : Cert.algebraic_Kernel5Ideal_Reference5Ideal := fun m ρ m' ρ' _ hsame =>
  ⟨fun c => delta (s := S2x1024x1376) (m ((c.tc : Thread nD τ).loc main_arg0)) (m ((c.tc : Thread nD τ).loc main_arg1))
      (m ((c.tc : Thread nD τ).loc main_arg2)) (m ((c.tc : Thread nD τ).loc main_arg3)),
    fun c => first (s := S2x1024x1376) (m ((c.tc : Thread nD τ).loc main_arg1)) (m ((c.tc : Thread nD τ).loc main_arg2)),
    fun c => second (s := S2x1024x1376) (m ((c.tc : Thread nD τ).loc main_arg1)) (m ((c.tc : Thread nD τ).loc main_arg3)),
    (θ_run defs _ _).mono (fun r h c => ⟨
      ((h c).2 main_v5 (Pipeline.mem_restRefs_of main_v5 (by decide) (by decide))).trans
        ((end_delta m c).trans (by rw [arr4, V_w, V_g, V_m, V_v]; exact delta_back _ _ _ _ _ _)),
      ((h c).2 main_v6 (Pipeline.mem_restRefs_of main_v6 (by decide) (by decide))).trans
        ((end_first m c).trans (by rw [arr5, V_g, V_m]; exact first_back _ _ _ _)),
      ((h c).2 main_v7 (Pipeline.mem_restRefs_of main_v7 (by decide) (by decide))).trans
        ((end_second m c).trans (by rw [arr6, V_g, V_v]; exact second_back _ _ _ _)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩) (run_main m ρ),
    (θ_run Cert.Reference5Ideal.defs _ _).mono (fun r h c => ⟨
      (h c).1.trans (by rw [(hsame c).1, (hsame c).2.1, (hsame c).2.2.1, (hsame c).2.2.2]; rfl),
      (h c).2.1.trans (by rw [(hsame c).2.1, (hsame c).2.2.1]; rfl),
      (h c).2.2.1.trans (by rw [(hsame c).2.1, (hsame c).2.2.2]; rfl), (h c).2.2.2⟩)
      (Cert.Reference5Ideal.Value.run (F := Ideal) m' ρ')⟩

end Cert.Kernel5Ideal.Opt

end
-- ==== Proof.Opt.Down.lean ====
module
public import proofs.«01_k».proof.Defs
public import proofs.«01_k».proof.Proof.Opt.Step
public import proofs.«01_k».proof.Proof.Gen.Kernel6Ideal
public import proofs.«01_k».proof.Proof.Gen.Reference6Ideal
public import proofs.«01_k».proof.Proof.Gen.Kernel6Ideal.Frame
public import proofs.«01_k».proof.Proof.Gen.Reference6Ideal.Run
public import Idealize.ShloMosaic.Lib.StableHlo.RunRead
public import Idealize.ShloMosaic.Lib.Quiescent
@[expose] public section

set_option maxRecDepth 16384

noncomputable section

namespace Cert.Kernel6Ideal.Opt

open Cert.Kernel6Ideal.Gen Cert.Opt
open Idealize.ShloMosaic Idealize.ShloMosaic.TcCoe

/-! # The step of the feed-forward down projections -/

variable (m : (ℓ : Loc nD τ sig) → Buf (Elt Ideal) ℓ) (c : Dev nD)

/-- What the body stores is the step over its blocks. -/
theorem pay2 (g a : Vec Ideal S344x1024 .f32) : k0_pay2 (F := Ideal) g a = first g a := by
  unfold k0_pay2 k0_pay1
  simp only [shapeCast_self]
  rfl

theorem pay3 (g a : Vec Ideal S344x1024 .f32) : k0_pay3 (F := Ideal) g a = second g a := by
  unfold k0_pay3 k0_pay1
  simp only [shapeCast_self]
  rfl

theorem pay4 (w g a b : Vec Ideal S344x1024 .f32) : k0_pay4 (F := Ideal) g a b w = delta w g a b := by
  unfold k0_pay4
  rw [pay2, pay3]
  simp only [shapeCast_self]
  rfl

/-- The three arrays the call writes: the step over the rows. -/
theorem arr4 : (dats m 0 c).arrAt 4 cfg0.N
    = delta (s := S1376x1024) (V m c main_v0) (V m c main_v1) (V m c main_v2) (V m c main_v3) := by
  refine (dats m 0 c).arrAt_eq_of_covers 4 _ (by decide +kernel) fun t hf y => ?_
  show (dats m 0 c).after 4 t _ = _
  rw [after0_4]
  unfold out0_4
  rw [View.canon_unit_zero start, View.ld_unit_zero start, View.ld_unit_zero start, View.ld_unit_zero start,
    View.ld_unit_zero start, pay4]
  rfl

theorem arr5 : (dats m 0 c).arrAt 5 cfg0.N = first (s := S1376x1024) (V m c main_v1) (V m c main_v2) := by
  refine (dats m 0 c).arrAt_eq_of_covers 5 _ (by decide +kernel) fun t hf y => ?_
  show (dats m 0 c).after 5 t _ = _
  rw [after0_5]
  unfold out0_5
  rw [View.canon_unit_zero start, View.ld_unit_zero start, View.ld_unit_zero start, pay2]
  rfl

theorem arr6 : (dats m 0 c).arrAt 6 cfg0.N = second (s := S1376x1024) (V m c main_v1) (V m c main_v3) := by
  refine (dats m 0 c).arrAt_eq_of_covers 6 _ (by decide +kernel) fun t hf y => ?_
  show (dats m 0 c).after 6 t _ = _
  rw [after0_6]
  unfold out0_6
  rw [View.canon_unit_zero start, View.ld_unit_zero start, View.ld_unit_zero start, pay3]
  rfl

/-- The rows of an argument, and an argument of rows. -/
abbrev rows (x : Vec Ideal S2x688x1024 .f32) : Vec Ideal S1376x1024 .f32 :=
  shapeCast S1376x1024 x shapeCasts_S2x688x1024_S1376x1024
abbrev back (x : Vec Ideal S1376x1024 .f32) : Vec Ideal S2x688x1024 .f32 :=
  shapeCast S2x688x1024 x shapeCasts_S1376x1024_S2x688x1024

/-- The arguments' rows, as the call is given them. -/
theorem V_w : V m c main_v0 = rows (m ((c.tc : Thread nD τ).loc main_arg0)) := by
  unfold V V0; after_reads_simp; rfl
theorem V_g : V m c main_v1 = rows (m ((c.tc : Thread nD τ).loc main_arg1)) := by
  unfold V V0; after_reads_simp; rfl
theorem V_m : V m c main_v2 = rows (m ((c.tc : Thread nD τ).loc main_arg2)) := by
  unfold V V0; after_reads_simp; rfl
theorem V_v : V m c main_v3 = rows (m ((c.tc : Thread nD τ).loc main_arg3)) := by
  unfold V V0; after_reads_simp; rfl

/-- What the host makes of the three arrays. -/
theorem end_delta : Pipeline.afterTail₀ cfgs (dats m) 0 (V0 m) [hostOps1] c main_v5
    = back ((dats m 0 c).arrAt 4 cfg0.N) := by
  have e := Pipeline.withArrays_arr spec0 (by decide) c (V0 m c) (fun w => (dats m 0 c).arrAt w cfg0.N) 4
  unfold Pipeline.afterTail₀
  simp only [List.flatten_cons, List.flatten_nil, List.append_nil]
  after_reads_simp
  exact congrArg back e

theorem end_first : Pipeline.afterTail₀ cfgs (dats m) 0 (V0 m) [hostOps1] c main_v6
    = back ((dats m 0 c).arrAt 5 cfg0.N) := by
  have e := Pipeline.withArrays_arr spec0 (by decide) c (V0 m c) (fun w => (dats m 0 c).arrAt w cfg0.N) 5
  unfold Pipeline.afterTail₀
  simp only [List.flatten_cons, List.flatten_nil, List.append_nil]
  after_reads_simp
  exact congrArg back e

theorem end_second : Pipeline.afterTail₀ cfgs (dats m) 0 (V0 m) [hostOps1] c main_v7
    = back ((dats m 0 c).arrAt 6 cfg0.N) := by
  have e := Pipeline.withArrays_arr spec0 (by decide) c (V0 m c) (fun w => (dats m 0 c).arrAt w cfg0.N) 6
  unfold Pipeline.afterTail₀
  simp only [List.flatten_cons, List.flatten_nil, List.append_nil]
  after_reads_simp
  exact congrArg back e

/-- The call and its reference end with the same delta and the same moments. -/
theorem same : Cert.algebraic_Kernel6Ideal_Reference6Ideal := fun m ρ m' ρ' _ hsame =>
  ⟨fun c => delta (s := S2x688x1024) (m ((c.tc : Thread nD τ).loc main_arg0)) (m ((c.tc : Thread nD τ).loc main_arg1))
      (m ((c.tc : Thread nD τ).loc main_arg2)) (m ((c.tc : Thread nD τ).loc main_arg3)),
    fun c => first (s := S2x688x1024) (m ((c.tc : Thread nD τ).loc main_arg1)) (m ((c.tc : Thread nD τ).loc main_arg2)),
    fun c => second (s := S2x688x1024) (m ((c.tc : Thread nD τ).loc main_arg1)) (m ((c.tc : Thread nD τ).loc main_arg3)),
    (θ_run defs _ _).mono (fun r h c => ⟨
      ((h c).2 main_v5 (Pipeline.mem_restRefs_of main_v5 (by decide) (by decide))).trans
        ((end_delta m c).trans (by rw [arr4, V_w, V_g, V_m, V_v]; exact delta_back _ _ _ _ _ _)),
      ((h c).2 main_v6 (Pipeline.mem_restRefs_of main_v6 (by decide) (by decide))).trans
        ((end_first m c).trans (by rw [arr5, V_g, V_m]; exact first_back _ _ _ _)),
      ((h c).2 main_v7 (Pipeline.mem_restRefs_of main_v7 (by decide) (by decide))).trans
        ((end_second m c).trans (by rw [arr6, V_g, V_v]; exact second_back _ _ _ _)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩) (run_main m ρ),
    (θ_run Cert.Reference6Ideal.defs _ _).mono (fun r h c => ⟨
      (h c).1.trans (by rw [(hsame c).1, (hsame c).2.1, (hsame c).2.2.1, (hsame c).2.2.2]; rfl),
      (h c).2.1.trans (by rw [(hsame c).2.1, (hsame c).2.2.1]; rfl),
      (h c).2.2.1.trans (by rw [(hsame c).2.1, (hsame c).2.2.2]; rfl), (h c).2.2.2⟩)
      (Cert.Reference6Ideal.Value.run (F := Ideal) m' ρ')⟩

end Cert.Kernel6Ideal.Opt

end
-- ==== Proof.Opt.In.lean ====
module
public import proofs.«01_k».proof.Defs
public import proofs.«01_k».proof.Proof.Opt.Step
public import proofs.«01_k».proof.Proof.Gen.Kernel7Ideal
public import proofs.«01_k».proof.Proof.Gen.Reference7Ideal
public import proofs.«01_k».proof.Proof.Gen.Kernel7Ideal.Frame
public import proofs.«01_k».proof.Proof.Gen.Reference7Ideal.Run
public import Idealize.ShloMosaic.Lib.StableHlo.RunRead
public import Idealize.ShloMosaic.Lib.Quiescent
@[expose] public section

set_option maxRecDepth 16384

noncomputable section

namespace Cert.Kernel7Ideal.Opt

open Cert.Kernel7Ideal.Gen Cert.Opt
open Idealize.ShloMosaic Idealize.ShloMosaic.TcCoe

/-! # The step of the input projections -/

variable (m : (ℓ : Loc nD τ sig) → Buf (Elt Ideal) ℓ) (c : Dev nD)

/-- What the body stores is the step over its blocks. -/
theorem pay2 (g a : Vec Ideal S256x704 .f32) : k0_pay2 (F := Ideal) g a = first g a := by
  unfold k0_pay2 k0_pay1
  simp only [shapeCast_self]
  rfl

theorem pay3 (g a : Vec Ideal S256x704 .f32) : k0_pay3 (F := Ideal) g a = second g a := by
  unfold k0_pay3 k0_pay1
  simp only [shapeCast_self]
  rfl

theorem pay4 (w g a b : Vec Ideal S256x704 .f32) : k0_pay4 (F := Ideal) g a b w = delta w g a b := by
  unfold k0_pay4
  rw [pay2, pay3]
  simp only [shapeCast_self]
  rfl

/-- The three arrays the call writes: the step over the rows. -/
theorem arr4 : (dats m 0 c).arrAt 4 cfg0.N
    = delta (s := S2048x704) (V m c main_v0) (V m c main_v1) (V m c main_v2) (V m c main_v3) := by
  refine (dats m 0 c).arrAt_eq_of_covers 4 _ (by decide +kernel) fun t hf y => ?_
  show (dats m 0 c).after 4 t _ = _
  rw [after0_4]
  unfold out0_4
  rw [View.canon_unit_zero start, View.ld_unit_zero start, View.ld_unit_zero start, View.ld_unit_zero start,
    View.ld_unit_zero start, pay4]
  rfl

theorem arr5 : (dats m 0 c).arrAt 5 cfg0.N = first (s := S2048x704) (V m c main_v1) (V m c main_v2) := by
  refine (dats m 0 c).arrAt_eq_of_covers 5 _ (by decide +kernel) fun t hf y => ?_
  show (dats m 0 c).after 5 t _ = _
  rw [after0_5]
  unfold out0_5
  rw [View.canon_unit_zero start, View.ld_unit_zero start, View.ld_unit_zero start, pay2]
  rfl

theorem arr6 : (dats m 0 c).arrAt 6 cfg0.N = second (s := S2048x704) (V m c main_v1) (V m c main_v3) := by
  refine (dats m 0 c).arrAt_eq_of_covers 6 _ (by decide +kernel) fun t hf y => ?_
  show (dats m 0 c).after 6 t _ = _
  rw [after0_6]
  unfold out0_6
  rw [View.canon_unit_zero start, View.ld_unit_zero start, View.ld_unit_zero start, pay3]
  rfl

/-- The rows of an argument, and an argument of rows. -/
abbrev rows (x : Vec Ideal S2x1024x704 .f32) : Vec Ideal S2048x704 .f32 :=
  shapeCast S2048x704 x shapeCasts_S2x1024x704_S2048x704
abbrev back (x : Vec Ideal S2048x704 .f32) : Vec Ideal S2x1024x704 .f32 :=
  shapeCast S2x1024x704 x shapeCasts_S2048x704_S2x1024x704

/-- The arguments' rows, as the call is given them. -/
theorem V_w : V m c main_v0 = rows (m ((c.tc : Thread nD τ).loc main_arg0)) := by
  unfold V V0; after_reads_simp; rfl
theorem V_g : V m c main_v1 = rows (m ((c.tc : Thread nD τ).loc main_arg1)) := by
  unfold V V0; after_reads_simp; rfl
theorem V_m : V m c main_v2 = rows (m ((c.tc : Thread nD τ).loc main_arg2)) := by
  unfold V V0; after_reads_simp; rfl
theorem V_v : V m c main_v3 = rows (m ((c.tc : Thread nD τ).loc main_arg3)) := by
  unfold V V0; after_reads_simp; rfl

/-- What the host makes of the three arrays. -/
theorem end_delta : Pipeline.afterTail₀ cfgs (dats m) 0 (V0 m) [hostOps1] c main_v5
    = back ((dats m 0 c).arrAt 4 cfg0.N) := by
  have e := Pipeline.withArrays_arr spec0 (by decide) c (V0 m c) (fun w => (dats m 0 c).arrAt w cfg0.N) 4
  unfold Pipeline.afterTail₀
  simp only [List.flatten_cons, List.flatten_nil, List.append_nil]
  after_reads_simp
  exact congrArg back e

theorem end_first : Pipeline.afterTail₀ cfgs (dats m) 0 (V0 m) [hostOps1] c main_v6
    = back ((dats m 0 c).arrAt 5 cfg0.N) := by
  have e := Pipeline.withArrays_arr spec0 (by decide) c (V0 m c) (fun w => (dats m 0 c).arrAt w cfg0.N) 5
  unfold Pipeline.afterTail₀
  simp only [List.flatten_cons, List.flatten_nil, List.append_nil]
  after_reads_simp
  exact congrArg back e

theorem end_second : Pipeline.afterTail₀ cfgs (dats m) 0 (V0 m) [hostOps1] c main_v7
    = back ((dats m 0 c).arrAt 6 cfg0.N) := by
  have e := Pipeline.withArrays_arr spec0 (by decide) c (V0 m c) (fun w => (dats m 0 c).arrAt w cfg0.N) 6
  unfold Pipeline.afterTail₀
  simp only [List.flatten_cons, List.flatten_nil, List.append_nil]
  after_reads_simp
  exact congrArg back e

/-- The call and its reference end with the same delta and the same moments. -/
theorem same : Cert.algebraic_Kernel7Ideal_Reference7Ideal := fun m ρ m' ρ' _ hsame =>
  ⟨fun c => delta (s := S2x1024x704) (m ((c.tc : Thread nD τ).loc main_arg0)) (m ((c.tc : Thread nD τ).loc main_arg1))
      (m ((c.tc : Thread nD τ).loc main_arg2)) (m ((c.tc : Thread nD τ).loc main_arg3)),
    fun c => first (s := S2x1024x704) (m ((c.tc : Thread nD τ).loc main_arg1)) (m ((c.tc : Thread nD τ).loc main_arg2)),
    fun c => second (s := S2x1024x704) (m ((c.tc : Thread nD τ).loc main_arg1)) (m ((c.tc : Thread nD τ).loc main_arg3)),
    (θ_run defs _ _).mono (fun r h c => ⟨
      ((h c).2 main_v5 (Pipeline.mem_restRefs_of main_v5 (by decide) (by decide))).trans
        ((end_delta m c).trans (by rw [arr4, V_w, V_g, V_m, V_v]; exact delta_back _ _ _ _ _ _)),
      ((h c).2 main_v6 (Pipeline.mem_restRefs_of main_v6 (by decide) (by decide))).trans
        ((end_first m c).trans (by rw [arr5, V_g, V_m]; exact first_back _ _ _ _)),
      ((h c).2 main_v7 (Pipeline.mem_restRefs_of main_v7 (by decide) (by decide))).trans
        ((end_second m c).trans (by rw [arr6, V_g, V_v]; exact second_back _ _ _ _)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩) (run_main m ρ),
    (θ_run Cert.Reference7Ideal.defs _ _).mono (fun r h c => ⟨
      (h c).1.trans (by rw [(hsame c).1, (hsame c).2.1, (hsame c).2.2.1, (hsame c).2.2.2]; rfl),
      (h c).2.1.trans (by rw [(hsame c).2.1, (hsame c).2.2.1]; rfl),
      (h c).2.2.1.trans (by rw [(hsame c).2.1, (hsame c).2.2.2]; rfl), (h c).2.2.2⟩)
      (Cert.Reference7Ideal.Value.run (F := Ideal) m' ρ')⟩

end Cert.Kernel7Ideal.Opt

end
-- ==== Proof.Opt.Out.lean ====
module
public import proofs.«01_k».proof.Defs
public import proofs.«01_k».proof.Proof.Opt.Step
public import proofs.«01_k».proof.Proof.Gen.Kernel8Ideal
public import proofs.«01_k».proof.Proof.Gen.Reference8Ideal
public import proofs.«01_k».proof.Proof.Gen.Kernel8Ideal.Frame
public import proofs.«01_k».proof.Proof.Gen.Reference8Ideal.Run
public import Idealize.ShloMosaic.Lib.StableHlo.RunRead
public import Idealize.ShloMosaic.Lib.Quiescent
@[expose] public section

set_option maxRecDepth 16384

noncomputable section

namespace Cert.Kernel8Ideal.Opt

open Cert.Kernel8Ideal.Gen Cert.Opt
open Idealize.ShloMosaic Idealize.ShloMosaic.TcCoe

/-! # The step of the output projections -/

variable (m : (ℓ : Loc nD τ sig) → Buf (Elt Ideal) ℓ) (c : Dev nD)

/-- What the body stores is the step over its blocks. -/
theorem pay2 (g a : Vec Ideal S256x1024 .f32) : k0_pay2 (F := Ideal) g a = first g a := by
  unfold k0_pay2 k0_pay1
  simp only [shapeCast_self]
  rfl

theorem pay3 (g a : Vec Ideal S256x1024 .f32) : k0_pay3 (F := Ideal) g a = second g a := by
  unfold k0_pay3 k0_pay1
  simp only [shapeCast_self]
  rfl

theorem pay4 (w g a b : Vec Ideal S256x1024 .f32) : k0_pay4 (F := Ideal) g a b w = delta w g a b := by
  unfold k0_pay4
  rw [pay2, pay3]
  simp only [shapeCast_self]
  rfl

/-- The three arrays the call writes: the step over the rows. -/
theorem arr4 : (dats m 0 c).arrAt 4 cfg0.N
    = delta (s := S512x1024) (V m c main_v0) (V m c main_v1) (V m c main_v2) (V m c main_v3) := by
  refine (dats m 0 c).arrAt_eq_of_covers 4 _ (by decide +kernel) fun t hf y => ?_
  show (dats m 0 c).after 4 t _ = _
  rw [after0_4]
  unfold out0_4
  rw [View.canon_unit_zero start, View.ld_unit_zero start, View.ld_unit_zero start, View.ld_unit_zero start,
    View.ld_unit_zero start, pay4]
  rfl

theorem arr5 : (dats m 0 c).arrAt 5 cfg0.N = first (s := S512x1024) (V m c main_v1) (V m c main_v2) := by
  refine (dats m 0 c).arrAt_eq_of_covers 5 _ (by decide +kernel) fun t hf y => ?_
  show (dats m 0 c).after 5 t _ = _
  rw [after0_5]
  unfold out0_5
  rw [View.canon_unit_zero start, View.ld_unit_zero start, View.ld_unit_zero start, pay2]
  rfl

theorem arr6 : (dats m 0 c).arrAt 6 cfg0.N = second (s := S512x1024) (V m c main_v1) (V m c main_v3) := by
  refine (dats m 0 c).arrAt_eq_of_covers 6 _ (by decide +kernel) fun t hf y => ?_
  show (dats m 0 c).after 6 t _ = _
  rw [after0_6]
  unfold out0_6
  rw [View.canon_unit_zero start, View.ld_unit_zero start, View.ld_unit_zero start, pay3]
  rfl

/-- The rows of an argument, and an argument of rows. -/
abbrev rows (x : Vec Ideal S2x256x1024 .f32) : Vec Ideal S512x1024 .f32 :=
  shapeCast S512x1024 x shapeCasts_S2x256x1024_S512x1024
abbrev back (x : Vec Ideal S512x1024 .f32) : Vec Ideal S2x256x1024 .f32 :=
  shapeCast S2x256x1024 x shapeCasts_S512x1024_S2x256x1024

/-- The arguments' rows, as the call is given them. -/
theorem V_w : V m c main_v0 = rows (m ((c.tc : Thread nD τ).loc main_arg0)) := by
  unfold V V0; after_reads_simp; rfl
theorem V_g : V m c main_v1 = rows (m ((c.tc : Thread nD τ).loc main_arg1)) := by
  unfold V V0; after_reads_simp; rfl
theorem V_m : V m c main_v2 = rows (m ((c.tc : Thread nD τ).loc main_arg2)) := by
  unfold V V0; after_reads_simp; rfl
theorem V_v : V m c main_v3 = rows (m ((c.tc : Thread nD τ).loc main_arg3)) := by
  unfold V V0; after_reads_simp; rfl

/-- What the host makes of the three arrays. -/
theorem end_delta : Pipeline.afterTail₀ cfgs (dats m) 0 (V0 m) [hostOps1] c main_v5
    = back ((dats m 0 c).arrAt 4 cfg0.N) := by
  have e := Pipeline.withArrays_arr spec0 (by decide) c (V0 m c) (fun w => (dats m 0 c).arrAt w cfg0.N) 4
  unfold Pipeline.afterTail₀
  simp only [List.flatten_cons, List.flatten_nil, List.append_nil]
  after_reads_simp
  exact congrArg back e

theorem end_first : Pipeline.afterTail₀ cfgs (dats m) 0 (V0 m) [hostOps1] c main_v6
    = back ((dats m 0 c).arrAt 5 cfg0.N) := by
  have e := Pipeline.withArrays_arr spec0 (by decide) c (V0 m c) (fun w => (dats m 0 c).arrAt w cfg0.N) 5
  unfold Pipeline.afterTail₀
  simp only [List.flatten_cons, List.flatten_nil, List.append_nil]
  after_reads_simp
  exact congrArg back e

theorem end_second : Pipeline.afterTail₀ cfgs (dats m) 0 (V0 m) [hostOps1] c main_v7
    = back ((dats m 0 c).arrAt 6 cfg0.N) := by
  have e := Pipeline.withArrays_arr spec0 (by decide) c (V0 m c) (fun w => (dats m 0 c).arrAt w cfg0.N) 6
  unfold Pipeline.afterTail₀
  simp only [List.flatten_cons, List.flatten_nil, List.append_nil]
  after_reads_simp
  exact congrArg back e

/-- The call and its reference end with the same delta and the same moments. -/
theorem same : Cert.algebraic_Kernel8Ideal_Reference8Ideal := fun m ρ m' ρ' _ hsame =>
  ⟨fun c => delta (s := S2x256x1024) (m ((c.tc : Thread nD τ).loc main_arg0)) (m ((c.tc : Thread nD τ).loc main_arg1))
      (m ((c.tc : Thread nD τ).loc main_arg2)) (m ((c.tc : Thread nD τ).loc main_arg3)),
    fun c => first (s := S2x256x1024) (m ((c.tc : Thread nD τ).loc main_arg1)) (m ((c.tc : Thread nD τ).loc main_arg2)),
    fun c => second (s := S2x256x1024) (m ((c.tc : Thread nD τ).loc main_arg1)) (m ((c.tc : Thread nD τ).loc main_arg3)),
    (θ_run defs _ _).mono (fun r h c => ⟨
      ((h c).2 main_v5 (Pipeline.mem_restRefs_of main_v5 (by decide) (by decide))).trans
        ((end_delta m c).trans (by rw [arr4, V_w, V_g, V_m, V_v]; exact delta_back _ _ _ _ _ _)),
      ((h c).2 main_v6 (Pipeline.mem_restRefs_of main_v6 (by decide) (by decide))).trans
        ((end_first m c).trans (by rw [arr5, V_g, V_m]; exact first_back _ _ _ _)),
      ((h c).2 main_v7 (Pipeline.mem_restRefs_of main_v7 (by decide) (by decide))).trans
        ((end_second m c).trans (by rw [arr6, V_g, V_v]; exact second_back _ _ _ _)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩) (run_main m ρ),
    (θ_run Cert.Reference8Ideal.defs _ _).mono (fun r h c => ⟨
      (h c).1.trans (by rw [(hsame c).1, (hsame c).2.1, (hsame c).2.2.1, (hsame c).2.2.2]; rfl),
      (h c).2.1.trans (by rw [(hsame c).2.1, (hsame c).2.2.1]; rfl),
      (h c).2.2.1.trans (by rw [(hsame c).2.1, (hsame c).2.2.2]; rfl), (h c).2.2.2⟩)
      (Cert.Reference8Ideal.Value.run (F := Ideal) m' ρ')⟩

end Cert.Kernel8Ideal.Opt

end
-- ==== Proof.Opt.Pw.lean ====
module
public import proofs.«01_k».proof.Defs
public import proofs.«01_k».proof.Proof.Opt.Step
public import proofs.«01_k».proof.Proof.Gen.Kernel9Ideal
public import proofs.«01_k».proof.Proof.Gen.Reference9Ideal
public import proofs.«01_k».proof.Proof.Gen.Kernel9Ideal.Frame
public import proofs.«01_k».proof.Proof.Gen.Reference9Ideal.Run
public import Idealize.ShloMosaic.Lib.StableHlo.RunRead
public import Idealize.ShloMosaic.Lib.Quiescent
@[expose] public section

set_option maxRecDepth 16384

noncomputable section

namespace Cert.Kernel9Ideal.Opt

open Cert.Kernel9Ideal.Gen Cert.Opt
open Idealize.ShloMosaic Idealize.ShloMosaic.TcCoe

/-! # The step of the pointwise convolutions -/

variable (m : (ℓ : Loc nD τ sig) → Buf (Elt Ideal) ℓ) (c : Dev nD)

/-- What the body stores is the step over its blocks. -/
theorem pay2 (g a : Vec Ideal S128x256 .f32) : k0_pay2 (F := Ideal) g a = first g a := by
  unfold k0_pay2 k0_pay1
  simp only [shapeCast_self]
  rfl

theorem pay3 (g a : Vec Ideal S128x256 .f32) : k0_pay3 (F := Ideal) g a = second g a := by
  unfold k0_pay3 k0_pay1
  simp only [shapeCast_self]
  rfl

theorem pay4 (w g a b : Vec Ideal S128x256 .f32) : k0_pay4 (F := Ideal) g a b w = delta w g a b := by
  unfold k0_pay4
  rw [pay2, pay3]
  simp only [shapeCast_self]
  rfl

/-- The three arrays the call writes: the step over the rows. -/
theorem arr4 : (dats m 0 c).arrAt 4 cfg0.N
    = delta (s := S128x256) (V m c main_v0) (V m c main_v1) (V m c main_v2) (V m c main_v3) := by
  refine (dats m 0 c).arrAt_eq_of_covers 4 _ (by decide +kernel) fun t hf y => ?_
  show (dats m 0 c).after 4 t _ = _
  rw [after0_4]
  unfold out0_4
  rw [View.canon_unit_zero start, View.ld_unit_zero start, View.ld_unit_zero start, View.ld_unit_zero start,
    View.ld_unit_zero start, pay4]
  have h0 : iblk m c 0 t = fun i : S128x256.Idx => V m c main_v0 (((cfg0.win 4).blk t).view.emb i) := rfl
  have h1 : iblk m c 1 t = fun i : S128x256.Idx => V m c main_v1 (((cfg0.win 4).blk t).view.emb i) := rfl
  have h2 : iblk m c 2 t = fun i : S128x256.Idx => V m c main_v2 (((cfg0.win 4).blk t).view.emb i) := rfl
  have h3 : iblk m c 3 t = fun i : S128x256.Idx => V m c main_v3 (((cfg0.win 4).blk t).view.emb i) := rfl
  rw [h0, h1, h2, h3]
  exact delta_read (s := S128x256) (t := S128x256) (f := fun i => ((cfg0.win 4).blk t).view.emb i) rfl rfl rfl rfl y

theorem arr5 : (dats m 0 c).arrAt 5 cfg0.N = first (s := S128x256) (V m c main_v1) (V m c main_v2) := by
  refine (dats m 0 c).arrAt_eq_of_covers 5 _ (by decide +kernel) fun t hf y => ?_
  show (dats m 0 c).after 5 t _ = _
  rw [after0_5]
  unfold out0_5
  rw [View.canon_unit_zero start, View.ld_unit_zero start, View.ld_unit_zero start, pay2]
  have h1 : iblk m c 1 t = fun i : S128x256.Idx => V m c main_v1 (((cfg0.win 5).blk t).view.emb i) := rfl
  have h2 : iblk m c 2 t = fun i : S128x256.Idx => V m c main_v2 (((cfg0.win 5).blk t).view.emb i) := rfl
  rw [h1, h2]
  exact first_read (s := S128x256) (t := S128x256) (f := fun i => ((cfg0.win 5).blk t).view.emb i) rfl rfl y

theorem arr6 : (dats m 0 c).arrAt 6 cfg0.N = second (s := S128x256) (V m c main_v1) (V m c main_v3) := by
  refine (dats m 0 c).arrAt_eq_of_covers 6 _ (by decide +kernel) fun t hf y => ?_
  show (dats m 0 c).after 6 t _ = _
  rw [after0_6]
  unfold out0_6
  rw [View.canon_unit_zero start, View.ld_unit_zero start, View.ld_unit_zero start, pay3]
  have h1 : iblk m c 1 t = fun i : S128x256.Idx => V m c main_v1 (((cfg0.win 6).blk t).view.emb i) := rfl
  have h3 : iblk m c 3 t = fun i : S128x256.Idx => V m c main_v3 (((cfg0.win 6).blk t).view.emb i) := rfl
  rw [h1, h3]
  exact second_read (s := S128x256) (t := S128x256) (f := fun i => ((cfg0.win 6).blk t).view.emb i) rfl rfl y

/-- The rows of an argument, and an argument of rows. -/
abbrev rows (x : Vec Ideal S2x64x256 .f32) : Vec Ideal S128x256 .f32 :=
  shapeCast S128x256 x shapeCasts_S2x64x256_S128x256
abbrev back (x : Vec Ideal S128x256 .f32) : Vec Ideal S2x64x256 .f32 :=
  shapeCast S2x64x256 x shapeCasts_S128x256_S2x64x256

/-- The arguments' rows, as the call is given them. -/
theorem V_w : V m c main_v0 = rows (m ((c.tc : Thread nD τ).loc main_arg0)) := by
  unfold V V0; after_reads_simp; rfl
theorem V_g : V m c main_v1 = rows (m ((c.tc : Thread nD τ).loc main_arg1)) := by
  unfold V V0; after_reads_simp; rfl
theorem V_m : V m c main_v2 = rows (m ((c.tc : Thread nD τ).loc main_arg2)) := by
  unfold V V0; after_reads_simp; rfl
theorem V_v : V m c main_v3 = rows (m ((c.tc : Thread nD τ).loc main_arg3)) := by
  unfold V V0; after_reads_simp; rfl

/-- What the host makes of the three arrays. -/
theorem end_delta : Pipeline.afterTail₀ cfgs (dats m) 0 (V0 m) [hostOps1] c main_v5
    = back ((dats m 0 c).arrAt 4 cfg0.N) := by
  have e := Pipeline.withArrays_arr spec0 (by decide) c (V0 m c) (fun w => (dats m 0 c).arrAt w cfg0.N) 4
  unfold Pipeline.afterTail₀
  simp only [List.flatten_cons, List.flatten_nil, List.append_nil]
  after_reads_simp
  exact congrArg back e

theorem end_first : Pipeline.afterTail₀ cfgs (dats m) 0 (V0 m) [hostOps1] c main_v6
    = back ((dats m 0 c).arrAt 5 cfg0.N) := by
  have e := Pipeline.withArrays_arr spec0 (by decide) c (V0 m c) (fun w => (dats m 0 c).arrAt w cfg0.N) 5
  unfold Pipeline.afterTail₀
  simp only [List.flatten_cons, List.flatten_nil, List.append_nil]
  after_reads_simp
  exact congrArg back e

theorem end_second : Pipeline.afterTail₀ cfgs (dats m) 0 (V0 m) [hostOps1] c main_v7
    = back ((dats m 0 c).arrAt 6 cfg0.N) := by
  have e := Pipeline.withArrays_arr spec0 (by decide) c (V0 m c) (fun w => (dats m 0 c).arrAt w cfg0.N) 6
  unfold Pipeline.afterTail₀
  simp only [List.flatten_cons, List.flatten_nil, List.append_nil]
  after_reads_simp
  exact congrArg back e

/-- The call and its reference end with the same delta and the same moments. -/
theorem same : Cert.algebraic_Kernel9Ideal_Reference9Ideal := fun m ρ m' ρ' _ hsame =>
  ⟨fun c => delta (s := S2x64x256) (m ((c.tc : Thread nD τ).loc main_arg0)) (m ((c.tc : Thread nD τ).loc main_arg1))
      (m ((c.tc : Thread nD τ).loc main_arg2)) (m ((c.tc : Thread nD τ).loc main_arg3)),
    fun c => first (s := S2x64x256) (m ((c.tc : Thread nD τ).loc main_arg1)) (m ((c.tc : Thread nD τ).loc main_arg2)),
    fun c => second (s := S2x64x256) (m ((c.tc : Thread nD τ).loc main_arg1)) (m ((c.tc : Thread nD τ).loc main_arg3)),
    (θ_run defs _ _).mono (fun r h c => ⟨
      ((h c).2 main_v5 (Pipeline.mem_restRefs_of main_v5 (by decide) (by decide))).trans
        ((end_delta m c).trans (by rw [arr4, V_w, V_g, V_m, V_v]; exact delta_back _ _ _ _ _ _)),
      ((h c).2 main_v6 (Pipeline.mem_restRefs_of main_v6 (by decide) (by decide))).trans
        ((end_first m c).trans (by rw [arr5, V_g, V_m]; exact first_back _ _ _ _)),
      ((h c).2 main_v7 (Pipeline.mem_restRefs_of main_v7 (by decide) (by decide))).trans
        ((end_second m c).trans (by rw [arr6, V_g, V_v]; exact second_back _ _ _ _)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩) (run_main m ρ),
    (θ_run Cert.Reference9Ideal.defs _ _).mono (fun r h c => ⟨
      (h c).1.trans (by rw [(hsame c).1, (hsame c).2.1, (hsame c).2.2.1, (hsame c).2.2.2]; rfl),
      (h c).2.1.trans (by rw [(hsame c).2.1, (hsame c).2.2.1]; rfl),
      (h c).2.2.1.trans (by rw [(hsame c).2.1, (hsame c).2.2.2]; rfl), (h c).2.2.2⟩)
      (Cert.Reference9Ideal.Value.run (F := Ideal) m' ρ')⟩

end Cert.Kernel9Ideal.Opt

end
-- ==== Proof.Opt.Flat.lean ====
module
public import Idealize.ShloMosaic.Lib.Pipeline.Value
public import Idealize.ShloMosaic.Lib.Pointwise
@[expose] public section

namespace Cert.Opt

open Idealize.ShloMosaic

/-! # Flat arrays laid one after another, and a piece read back -/

variable {α : Type}

/-- The slice at a piece's place, of pieces one after another with a filling behind them, is the piece. -/
theorem slice_flat {N M P n : Nat} (xs : List ((s : Shape) × (s.Idx → α)))
    (h : Shape.Concatenates (xs.map (·.1)) ⟨1, ![M]⟩ 0) (z : (⟨1, ![P]⟩ : Shape).Idx → α)
    (h2 : Shape.Concatenates [⟨1, ![M]⟩, ⟨1, ![P]⟩] ⟨1, ![N]⟩ 0) (k : Nat) (hk : k < xs.length)
    (x₁ : (⟨1, ![n]⟩ : Shape).Idx → α) (hx : xs[k] = ⟨⟨1, ![n]⟩, x₁⟩) (pre : Nat)
    (hpre : (((xs.take k).map (·.1)).map fun s => if h : s.rank = 1 then s.size ((0 : Fin 1).cast h.symm) else 0).sum = pre)
    (hle : pre + n ≤ M) (hs : (⟨1, ![N]⟩ : Shape).Slices ![pre] ⟨1, ![n]⟩) :
    extractStridedSlice ⟨1, ![n]⟩ ![pre]
      (concatenate ⟨1, ![N]⟩ 0 [⟨⟨1, ![M]⟩, concatenate ⟨1, ![M]⟩ 0 xs h⟩, ⟨⟨1, ![P]⟩, z⟩] h2) hs = x₁ := by
  funext i
  have hi : (i 0).val < n := (i 0).isLt
  unfold extractStridedSlice
  refine (concatenate_apply_piece (t := ⟨1, ![N]⟩) 0
    [⟨⟨1, ![M]⟩, concatenate ⟨1, ![M]⟩ 0 xs h⟩, ⟨⟨1, ![P]⟩, z⟩] h2 _ 0 (by simp) ⟨1, ![M]⟩ _ rfl rfl 0 rfl
    (fun a => ⟨pre + (i 0).val, by fin_cases a; show pre + (i 0).val < M; omega⟩) (fun b hb => ?_) ?_).trans ?_
  · exact absurd (by fin_cases b; rfl) hb
  · show 0 + (pre + (i 0).val) = pre + (i 0).val
    omega
  · refine concatenate_apply_piece (t := ⟨1, ![M]⟩) 0 xs h _ k hk ⟨1, ![n]⟩ x₁ hx rfl pre hpre i (fun b hb => ?_) ?_
    · exact absurd (by fin_cases b; rfl) hb
    · rfl

end Cert.Opt

end
-- ==== Proof.Opt.Small.lean ====
module
public import proofs.«01_k».proof.Proof.Opt.Step
public import proofs.«01_k».proof.Proof.Opt.Flat
public import proofs.«01_k».proof.Proof.Gen.Kernel10Ideal.Frame
public import Idealize.ShloMosaic.Lib.StableHlo.RunRead
@[expose] public section

set_option maxRecDepth 16384

noncomputable section

namespace Cert.Kernel10Ideal.Opt

open Cert.Kernel10Ideal.Gen Cert.Opt
open Idealize.ShloMosaic Idealize.ShloMosaic.TcCoe

/-! # The step of the small parameters, packed in rows -/

/-- One array for each of the twelve small parameters. -/
@[ext] structure Small where
  x0 : Vec Ideal S16x256 .f32
  x1 : Vec Ideal S1024 .f32
  x2 : Vec Ideal S1024 .f32
  x3 : Vec Ideal S2x4x64x64 .f32
  x4 : Vec Ideal S2x256 .f32
  x5 : Vec Ideal S2x31x64 .f32
  x6 : Vec Ideal S2x256 .f32
  x7 : Vec Ideal S2x256 .f32
  x8 : Vec Ideal S2x256 .f32
  x9 : Vec Ideal S2x512 .f32
  x10 : Vec Ideal S2x3x256 .f32
  x11 : Vec Ideal S2x3x256 .f32

/-- The twelve arrays, each flat. -/
abbrev pieces (s : Small) : List ((r : Shape) × (r.Idx → Ideal .f32)) :=
  [⟨S4096, shapeCast S4096 s.x0 shapeCasts_S16x256_S4096⟩, ⟨S1024, s.x1⟩, ⟨S1024, s.x2⟩,
    ⟨S32768, shapeCast S32768 s.x3 shapeCasts_S2x4x64x64_S32768⟩, ⟨S512, shapeCast S512 s.x4 shapeCasts_S2x256_S512⟩,
    ⟨S3968, shapeCast S3968 s.x5 shapeCasts_S2x31x64_S3968⟩, ⟨S512, shapeCast S512 s.x6 shapeCasts_S2x256_S512⟩,
    ⟨S512, shapeCast S512 s.x7 shapeCasts_S2x256_S512⟩, ⟨S512, shapeCast S512 s.x8 shapeCasts_S2x256_S512⟩,
    ⟨S1024, shapeCast S1024 s.x9 shapeCasts_S2x512_S1024⟩, ⟨S1536, shapeCast S1536 s.x10 shapeCasts_S2x3x256_S1536⟩,
    ⟨S1536, shapeCast S1536 s.x11 shapeCasts_S2x3x256_S1536⟩]

/-- Their lengths. -/
def sizes : List Nat := [4096, 1024, 1024, 32768, 512, 3968, 512, 512, 512, 1024, 1536, 1536]

theorem sizes_eq (s : Small) : ((pieces s).map (·.1)).map (fun r => if h : r.rank = 1 then r.size ((0 : Fin 1).cast h.symm) else 0) = sizes :=
  rfl

/-- One after another, zeros behind them. -/
def flat (s : Small) : Vec Ideal S49152 .f32 :=
  concatenate S49152 0
    [⟨S49024, concatenate S49024 0 (pieces s) concatenates_S4096_S1024_S1024_S32768_S512_S3968_S512_S512_S512_S1024_S1536_S1536_S49024_d0⟩,
      ⟨S128, (broadcastInDim S128 ![] bcast_S_S128 (constant (F := Ideal) S_ .f32 0x00000000#32) : Vec Ideal S128 .f32)⟩] concatenates_S49024_S128_S49152_d0

/-- In rows. -/
def pack (s : Small) : Vec Ideal S48x1024 .f32 := shapeCast S48x1024 (flat s) shapeCasts_S49152_S48x1024

section
variable (A : Vec Ideal S48x1024 .f32)

/-- The rows, flat. -/
def line : Vec Ideal S49152 .f32 := shapeCast S49152 A shapeCasts_S48x1024_S49152

/-- The twelve arrays that rows hold. -/
def takes : Small where
  x0 := shapeCast S16x256 (extractStridedSlice S4096 ![0] (line A) slices_S49152_S4096_0) shapeCasts_S4096_S16x256
  x1 := extractStridedSlice S1024 ![4096] (line A) slices_S49152_S1024_4096
  x2 := extractStridedSlice S1024 ![5120] (line A) slices_S49152_S1024_5120
  x3 := shapeCast S2x4x64x64 (extractStridedSlice S32768 ![6144] (line A) slices_S49152_S32768_6144) shapeCasts_S32768_S2x4x64x64
  x4 := shapeCast S2x256 (extractStridedSlice S512 ![38912] (line A) slices_S49152_S512_38912) shapeCasts_S512_S2x256
  x5 := shapeCast S2x31x64 (extractStridedSlice S3968 ![39424] (line A) slices_S49152_S3968_39424) shapeCasts_S3968_S2x31x64
  x6 := shapeCast S2x256 (extractStridedSlice S512 ![43392] (line A) slices_S49152_S512_43392) shapeCasts_S512_S2x256
  x7 := shapeCast S2x256 (extractStridedSlice S512 ![43904] (line A) slices_S49152_S512_43904) shapeCasts_S512_S2x256
  x8 := shapeCast S2x256 (extractStridedSlice S512 ![44416] (line A) slices_S49152_S512_44416) shapeCasts_S512_S2x256
  x9 := shapeCast S2x512 (extractStridedSlice S1024 ![44928] (line A) slices_S49152_S1024_44928) shapeCasts_S1024_S2x512
  x10 := shapeCast S2x3x256 (extractStridedSlice S1536 ![45952] (line A) slices_S49152_S1536_45952) shapeCasts_S1536_S2x3x256
  x11 := shapeCast S2x3x256 (extractStridedSlice S1536 ![47488] (line A) slices_S49152_S1536_47488) shapeCasts_S1536_S2x3x256
end

theorem line_pack (s : Small) : line (pack s) = flat s := shapeCast_shapeCast (flat s) _ _

/-- A piece of the packed arrays. -/
theorem piece (s : Small) {n : Nat} (k : Nat) (hk : k < 12) (x : (⟨1, ![n]⟩ : Shape).Idx → Ideal .f32)
    (hx : (pieces s)[k]'hk = ⟨⟨1, ![n]⟩, x⟩) (pre : Nat)
    (hpre : (sizes.take k).sum = pre)
    (hle : pre + n ≤ 49024) (hs : S49152.Slices ![pre] ⟨1, ![n]⟩) :
    extractStridedSlice ⟨1, ![n]⟩ ![pre] (line (pack s)) hs = x := by
  rw [line_pack]
  exact slice_flat (pieces s) _ _ _ k hk x hx pre (by rw [List.map_take, List.map_take, sizes_eq]; exact hpre) hle hs

/-- What packed rows hold is what was packed. -/
theorem takes_pack (s : Small) : takes (pack s) = s := by
  unfold takes
  ext1
  · exact (congrArg (fun y => shapeCast S16x256 y shapeCasts_S4096_S16x256) (piece s 0 (by decide) _ rfl 0 (by decide) (by decide) slices_S49152_S4096_0)).trans
      (shapeCast_shapeCast s.x0 _ _)
  · exact piece s 1 (by decide) _ rfl 4096 (by decide) (by decide) slices_S49152_S1024_4096
  · exact piece s 2 (by decide) _ rfl 5120 (by decide) (by decide) slices_S49152_S1024_5120
  · exact (congrArg (fun y => shapeCast S2x4x64x64 y shapeCasts_S32768_S2x4x64x64) (piece s 3 (by decide) _ rfl 6144 (by decide) (by decide) slices_S49152_S32768_6144)).trans
      (shapeCast_shapeCast s.x3 _ _)
  · exact (congrArg (fun y => shapeCast S2x256 y shapeCasts_S512_S2x256) (piece s 4 (by decide) _ rfl 38912 (by decide) (by decide) slices_S49152_S512_38912)).trans
      (shapeCast_shapeCast s.x4 _ _)
  · exact (congrArg (fun y => shapeCast S2x31x64 y shapeCasts_S3968_S2x31x64) (piece s 5 (by decide) _ rfl 39424 (by decide) (by decide) slices_S49152_S3968_39424)).trans
      (shapeCast_shapeCast s.x5 _ _)
  · exact (congrArg (fun y => shapeCast S2x256 y shapeCasts_S512_S2x256) (piece s 6 (by decide) _ rfl 43392 (by decide) (by decide) slices_S49152_S512_43392)).trans
      (shapeCast_shapeCast s.x6 _ _)
  · exact (congrArg (fun y => shapeCast S2x256 y shapeCasts_S512_S2x256) (piece s 7 (by decide) _ rfl 43904 (by decide) (by decide) slices_S49152_S512_43904)).trans
      (shapeCast_shapeCast s.x7 _ _)
  · exact (congrArg (fun y => shapeCast S2x256 y shapeCasts_S512_S2x256) (piece s 8 (by decide) _ rfl 44416 (by decide) (by decide) slices_S49152_S512_44416)).trans
      (shapeCast_shapeCast s.x8 _ _)
  · exact (congrArg (fun y => shapeCast S2x512 y shapeCasts_S1024_S2x512) (piece s 9 (by decide) _ rfl 44928 (by decide) (by decide) slices_S49152_S1024_44928)).trans
      (shapeCast_shapeCast s.x9 _ _)
  · exact (congrArg (fun y => shapeCast S2x3x256 y shapeCasts_S1536_S2x3x256) (piece s 10 (by decide) _ rfl 45952 (by decide) (by decide) slices_S49152_S1536_45952)).trans
      (shapeCast_shapeCast s.x10 _ _)
  · exact (congrArg (fun y => shapeCast S2x3x256 y shapeCasts_S1536_S2x3x256) (piece s 11 (by decide) _ rfl 47488 (by decide) (by decide) slices_S49152_S1536_47488)).trans
      (shapeCast_shapeCast s.x11 _ _)

/-- The step, parameter by parameter. -/
def firsts (g m : Small) : Small :=
  ⟨first g.x0 m.x0, first g.x1 m.x1, first g.x2 m.x2, first g.x3 m.x3, first g.x4 m.x4, first g.x5 m.x5, first g.x6 m.x6,
    first g.x7 m.x7, first g.x8 m.x8, first g.x9 m.x9, first g.x10 m.x10, first g.x11 m.x11⟩

def seconds (g v : Small) : Small :=
  ⟨second g.x0 v.x0, second g.x1 v.x1, second g.x2 v.x2, second g.x3 v.x3, second g.x4 v.x4, second g.x5 v.x5, second g.x6 v.x6,
    second g.x7 v.x7, second g.x8 v.x8, second g.x9 v.x9, second g.x10 v.x10, second g.x11 v.x11⟩

def deltas (w g m v : Small) : Small :=
  ⟨delta w.x0 g.x0 m.x0 v.x0, delta w.x1 g.x1 m.x1 v.x1, delta w.x2 g.x2 m.x2 v.x2, delta w.x3 g.x3 m.x3 v.x3,
    delta w.x4 g.x4 m.x4 v.x4, delta w.x5 g.x5 m.x5 v.x5, delta w.x6 g.x6 m.x6 v.x6, delta w.x7 g.x7 m.x7 v.x7,
    delta w.x8 g.x8 m.x8 v.x8, delta w.x9 g.x9 m.x9 v.x9, delta w.x10 g.x10 m.x10 v.x10, delta w.x11 g.x11 m.x11 v.x11⟩

/-- A step over packed rows is the step over the parameters. -/
theorem takes_first (g m : Small) : takes (first (pack g) (pack m)) = firsts g m :=
  (show takes (first (pack g) (pack m)) = firsts (takes (pack g)) (takes (pack m)) from rfl).trans (by rw [takes_pack, takes_pack])

theorem takes_second (g v : Small) : takes (second (pack g) (pack v)) = seconds g v :=
  (show takes (second (pack g) (pack v)) = seconds (takes (pack g)) (takes (pack v)) from rfl).trans (by rw [takes_pack, takes_pack])

theorem takes_delta (w g m v : Small) : takes (delta (pack w) (pack g) (pack m) (pack v)) = deltas w g m v :=
  (show takes (delta (pack w) (pack g) (pack m) (pack v)) = deltas (takes (pack w)) (takes (pack g)) (takes (pack m)) (takes (pack v))
    from rfl).trans (by rw [takes_pack, takes_pack, takes_pack, takes_pack])

end Cert.Kernel10Ideal.Opt

end
-- ==== Proof.Opt.SmallRun.lean ====
module
public import proofs.«01_k».proof.Proof.Opt.Small
@[expose] public section

set_option maxRecDepth 16384

noncomputable section

namespace Cert.Kernel10Ideal.Opt

open Cert.Kernel10Ideal.Gen Cert.Opt
open Idealize.ShloMosaic Idealize.ShloMosaic.TcCoe

/-! # The arrays of the packed call, and what the host makes of them -/

variable (m : (ℓ : Loc nD τ sig) → Buf (Elt Ideal) ℓ) (c : Dev nD)

/-- What the body stores is the step over its blocks. -/
theorem pay2 (g a : Vec Ideal S16x1024 .f32) : k0_pay2 (F := Ideal) g a = first g a := by
  unfold k0_pay2 k0_pay1
  simp only [shapeCast_self]
  rfl

theorem pay3 (g a : Vec Ideal S16x1024 .f32) : k0_pay3 (F := Ideal) g a = second g a := by
  unfold k0_pay3 k0_pay1
  simp only [shapeCast_self]
  rfl

theorem pay4 (w g a b : Vec Ideal S16x1024 .f32) : k0_pay4 (F := Ideal) g a b w = delta w g a b := by
  unfold k0_pay4
  rw [pay2, pay3]
  simp only [shapeCast_self]
  rfl

/-- The three arrays the call writes: the step over the rows. -/
theorem arr4 : (dats m 0 c).arrAt 4 cfg0.N
    = delta (s := S48x1024) (V m c main_v13) (V m c main_v27) (V m c main_v41) (V m c main_v55) := by
  refine (dats m 0 c).arrAt_eq_of_covers 4 _ (by decide +kernel) fun t hf y => ?_
  show (dats m 0 c).after 4 t _ = _
  rw [after0_4]
  unfold out0_4
  rw [View.canon_unit_zero start, View.ld_unit_zero start, View.ld_unit_zero start, View.ld_unit_zero start,
    View.ld_unit_zero start, pay4]
  rfl

theorem arr5 : (dats m 0 c).arrAt 5 cfg0.N = first (s := S48x1024) (V m c main_v27) (V m c main_v41) := by
  refine (dats m 0 c).arrAt_eq_of_covers 5 _ (by decide +kernel) fun t hf y => ?_
  show (dats m 0 c).after 5 t _ = _
  rw [after0_5]
  unfold out0_5
  rw [View.canon_unit_zero start, View.ld_unit_zero start, View.ld_unit_zero start, pay2]
  rfl

theorem arr6 : (dats m 0 c).arrAt 6 cfg0.N = second (s := S48x1024) (V m c main_v27) (V m c main_v55) := by
  refine (dats m 0 c).arrAt_eq_of_covers 6 _ (by decide +kernel) fun t hf y => ?_
  show (dats m 0 c).after 6 t _ = _
  rw [after0_6]
  unfold out0_6
  rw [View.canon_unit_zero start, View.ld_unit_zero start, View.ld_unit_zero start, pay3]
  rfl

/-- The parameters, as launched. -/
def weights : Small :=
  ⟨m ((c.tc : Thread nD τ).loc main_arg0), m ((c.tc : Thread nD τ).loc main_arg1),
    m ((c.tc : Thread nD τ).loc main_arg2), m ((c.tc : Thread nD τ).loc main_arg3),
    m ((c.tc : Thread nD τ).loc main_arg4), m ((c.tc : Thread nD τ).loc main_arg5),
    m ((c.tc : Thread nD τ).loc main_arg6), m ((c.tc : Thread nD τ).loc main_arg7),
    m ((c.tc : Thread nD τ).loc main_arg8), m ((c.tc : Thread nD τ).loc main_arg9),
    m ((c.tc : Thread nD τ).loc main_arg10), m ((c.tc : Thread nD τ).loc main_arg11)⟩

/-- Their gradients. -/
def grads : Small :=
  ⟨m ((c.tc : Thread nD τ).loc main_arg12), m ((c.tc : Thread nD τ).loc main_arg13),
    m ((c.tc : Thread nD τ).loc main_arg14), m ((c.tc : Thread nD τ).loc main_arg15),
    m ((c.tc : Thread nD τ).loc main_arg16), m ((c.tc : Thread nD τ).loc main_arg17),
    m ((c.tc : Thread nD τ).loc main_arg18), m ((c.tc : Thread nD τ).loc main_arg19),
    m ((c.tc : Thread nD τ).loc main_arg20), m ((c.tc : Thread nD τ).loc main_arg21),
    m ((c.tc : Thread nD τ).loc main_arg22), m ((c.tc : Thread nD τ).loc main_arg23)⟩

/-- Their first moments. -/
def moms : Small :=
  ⟨m ((c.tc : Thread nD τ).loc main_arg24), m ((c.tc : Thread nD τ).loc main_arg25),
    m ((c.tc : Thread nD τ).loc main_arg26), m ((c.tc : Thread nD τ).loc main_arg27),
    m ((c.tc : Thread nD τ).loc main_arg28), m ((c.tc : Thread nD τ).loc main_arg29),
    m ((c.tc : Thread nD τ).loc main_arg30), m ((c.tc : Thread nD τ).loc main_arg31),
    m ((c.tc : Thread nD τ).loc main_arg32), m ((c.tc : Thread nD τ).loc main_arg33),
    m ((c.tc : Thread nD τ).loc main_arg34), m ((c.tc : Thread nD τ).loc main_arg35)⟩

/-- Their second moments. -/
def vars : Small :=
  ⟨m ((c.tc : Thread nD τ).loc main_arg36), m ((c.tc : Thread nD τ).loc main_arg37),
    m ((c.tc : Thread nD τ).loc main_arg38), m ((c.tc : Thread nD τ).loc main_arg39),
    m ((c.tc : Thread nD τ).loc main_arg40), m ((c.tc : Thread nD τ).loc main_arg41),
    m ((c.tc : Thread nD τ).loc main_arg42), m ((c.tc : Thread nD τ).loc main_arg43),
    m ((c.tc : Thread nD τ).loc main_arg44), m ((c.tc : Thread nD τ).loc main_arg45),
    m ((c.tc : Thread nD τ).loc main_arg46), m ((c.tc : Thread nD τ).loc main_arg47)⟩

/-- The packed rows, as the call is given them. -/
theorem V_w : V m c main_v13 = pack (weights m c) := by
  unfold V V0
  after_reads_simp
  rfl

theorem V_g : V m c main_v27 = pack (grads m c) := by
  unfold V V0
  after_reads_simp
  rfl

theorem V_m : V m c main_v41 = pack (moms m c) := by
  unfold V V0
  after_reads_simp
  rfl

theorem V_v : V m c main_v55 = pack (vars m c) := by
  unfold V V0
  after_reads_simp
  rfl

/-- What a buffer ends with. -/
abbrev fin (b : Ref sig .tc) : Buf (Elt Ideal) ((c : Thread nD τ).loc b) := Pipeline.afterTail₀ cfgs (dats m) 0 (V0 m) [hostOps1] c b

/-- The results: the step, parameter by parameter. -/
theorem end_deltas : (⟨fin m c main_v59, fin m c main_v60, fin m c main_v61, fin m c main_v63, fin m c main_v65, fin m c main_v67,
    fin m c main_v69, fin m c main_v71, fin m c main_v73, fin m c main_v75, fin m c main_v77, fin m c main_v79⟩ : Small)
    = deltas (weights m c) (grads m c) (moms m c) (vars m c) := by
  have e := Pipeline.withArrays_arr spec0 (by decide) c (V0 m c) (fun w => (dats m 0 c).arrAt w cfg0.N) 4
  unfold fin Pipeline.afterTail₀
  simp only [List.flatten_cons, List.flatten_nil, List.append_nil]
  after_reads_simp
  rw [arr4, V_w, V_g, V_m, V_v] at e
  exact (congrArg takes e).trans (takes_delta _ _ _ _)

theorem end_firsts : (⟨fin m c main_v82, fin m c main_v83, fin m c main_v84, fin m c main_v86, fin m c main_v88, fin m c main_v90,
    fin m c main_v92, fin m c main_v94, fin m c main_v96, fin m c main_v98, fin m c main_v100, fin m c main_v102⟩ : Small)
    = firsts (grads m c) (moms m c) := by
  have e := Pipeline.withArrays_arr spec0 (by decide) c (V0 m c) (fun w => (dats m 0 c).arrAt w cfg0.N) 5
  unfold fin Pipeline.afterTail₀
  simp only [List.flatten_cons, List.flatten_nil, List.append_nil]
  after_reads_simp
  rw [arr5, V_g, V_m] at e
  exact (congrArg takes e).trans (takes_first _ _)

theorem end_seconds : (⟨fin m c main_v105, fin m c main_v106, fin m c main_v107, fin m c main_v109, fin m c main_v111, fin m c main_v113,
    fin m c main_v115, fin m c main_v117, fin m c main_v119, fin m c main_v121, fin m c main_v123, fin m c main_v125⟩ : Small)
    = seconds (grads m c) (vars m c) := by
  have e := Pipeline.withArrays_arr spec0 (by decide) c (V0 m c) (fun w => (dats m 0 c).arrAt w cfg0.N) 6
  unfold fin Pipeline.afterTail₀
  simp only [List.flatten_cons, List.flatten_nil, List.append_nil]
  after_reads_simp
  rw [arr6, V_g, V_v] at e
  exact (congrArg takes e).trans (takes_second _ _)

end Cert.Kernel10Ideal.Opt

end
-- ==== Proof.Opt.SmallSame.lean ====
module
public import proofs.«01_k».proof.Defs
public import proofs.«01_k».proof.Proof.Opt.SmallRun
public import proofs.«01_k».proof.Proof.Gen.Kernel10Ideal
public import proofs.«01_k».proof.Proof.Gen.Reference10Ideal
public import proofs.«01_k».proof.Proof.Gen.Reference10Ideal.Run
public import Idealize.ShloMosaic.Lib.Quiescent
@[expose] public section

set_option maxRecDepth 16384
set_option maxHeartbeats 4000000

noncomputable section

namespace Cert.Kernel10Ideal.Opt

open Cert.Kernel10Ideal.Gen Cert.Opt
open Idealize.ShloMosaic Idealize.ShloMosaic.TcCoe

/-! # The step of the small parameters: the call and its reference -/

/-- What a buffer outside the call's arrays ends with. -/
theorem ends {m : (ℓ : Loc nD τ sig) → Buf (Elt Ideal) ℓ} {r : PUnit × MemSt nD τ sig (Elt Ideal)}
    (h : Pipeline.FramePost cfgs (dats m) 0 (Pipeline.afterTail₀ cfgs (dats m) 0 (V0 m) [hostOps1]) r) (c : Dev nD)
    (b : Ref sig .tc) (hs : b.isScoped = false) (ha : ∀ w, (spec0 w).arr.view.ref ≠ b) :
    r.2.mem ((c.tc : Thread nD τ).loc b) = fin m c b := (h c).2 b (Pipeline.mem_restRefs_of b hs ha)

section

variable (m : (ℓ : Loc Cert.Reference10Ideal.nD Cert.Reference10Ideal.τ Cert.Reference10Ideal.sig) → Buf (Elt Ideal) ℓ)
variable (c : Dev Cert.Reference10Ideal.nD)

/-- What a buffer of the reference starts with. -/
abbrev starts (b : Ref Cert.Reference10Ideal.sig .tc) := m ((c.tc : Thread Cert.Reference10Ideal.nD Cert.Reference10Ideal.τ).loc b)

/-- The reference's small parameters. -/
def refWeights : Small :=
  ⟨starts m c Cert.Reference10Ideal.main_arg0, starts m c Cert.Reference10Ideal.main_arg1,
    starts m c Cert.Reference10Ideal.main_arg2, starts m c Cert.Reference10Ideal.main_arg3,
    starts m c Cert.Reference10Ideal.main_arg4, starts m c Cert.Reference10Ideal.main_arg5,
    starts m c Cert.Reference10Ideal.main_arg6, starts m c Cert.Reference10Ideal.main_arg7,
    starts m c Cert.Reference10Ideal.main_arg8, starts m c Cert.Reference10Ideal.main_arg9,
    starts m c Cert.Reference10Ideal.main_arg10, starts m c Cert.Reference10Ideal.main_arg11⟩

/-- Their gradients. -/
def refGrads : Small :=
  ⟨starts m c Cert.Reference10Ideal.main_arg12, starts m c Cert.Reference10Ideal.main_arg13,
    starts m c Cert.Reference10Ideal.main_arg14, starts m c Cert.Reference10Ideal.main_arg15,
    starts m c Cert.Reference10Ideal.main_arg16, starts m c Cert.Reference10Ideal.main_arg17,
    starts m c Cert.Reference10Ideal.main_arg18, starts m c Cert.Reference10Ideal.main_arg19,
    starts m c Cert.Reference10Ideal.main_arg20, starts m c Cert.Reference10Ideal.main_arg21,
    starts m c Cert.Reference10Ideal.main_arg22, starts m c Cert.Reference10Ideal.main_arg23⟩

/-- Their first moments. -/
def refMoms : Small :=
  ⟨starts m c Cert.Reference10Ideal.main_arg24, starts m c Cert.Reference10Ideal.main_arg25,
    starts m c Cert.Reference10Ideal.main_arg26, starts m c Cert.Reference10Ideal.main_arg27,
    starts m c Cert.Reference10Ideal.main_arg28, starts m c Cert.Reference10Ideal.main_arg29,
    starts m c Cert.Reference10Ideal.main_arg30, starts m c Cert.Reference10Ideal.main_arg31,
    starts m c Cert.Reference10Ideal.main_arg32, starts m c Cert.Reference10Ideal.main_arg33,
    starts m c Cert.Reference10Ideal.main_arg34, starts m c Cert.Reference10Ideal.main_arg35⟩

/-- Their second moments. -/
def refVars : Small :=
  ⟨starts m c Cert.Reference10Ideal.main_arg36, starts m c Cert.Reference10Ideal.main_arg37,
    starts m c Cert.Reference10Ideal.main_arg38, starts m c Cert.Reference10Ideal.main_arg39,
    starts m c Cert.Reference10Ideal.main_arg40, starts m c Cert.Reference10Ideal.main_arg41,
    starts m c Cert.Reference10Ideal.main_arg42, starts m c Cert.Reference10Ideal.main_arg43,
    starts m c Cert.Reference10Ideal.main_arg44, starts m c Cert.Reference10Ideal.main_arg45,
    starts m c Cert.Reference10Ideal.main_arg46, starts m c Cert.Reference10Ideal.main_arg47⟩

end

/-- The call and its reference end with the same deltas and the same moments. -/
theorem same : Cert.algebraic_Kernel10Ideal_Reference10Ideal := fun m ρ m' ρ' _ hsame =>
  have E (c : Dev nD) : refWeights m' c = weights m c ∧ refGrads m' c = grads m c ∧ refMoms m' c = moms m c ∧ refVars m' c = vars m c := by
    obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41, a42, a43, a44, a45, a46, a47⟩ := hsame c
    exact ⟨Small.ext a0 a1 a2 a3 a4 a5 a6 a7 a8 a9 a10 a11,
      Small.ext a12 a13 a14 a15 a16 a17 a18 a19 a20 a21 a22 a23,
      Small.ext a24 a25 a26 a27 a28 a29 a30 a31 a32 a33 a34 a35,
      Small.ext a36 a37 a38 a39 a40 a41 a42 a43 a44 a45 a46 a47⟩
  have D (c : Dev nD) : deltas (refWeights m' c) (refGrads m' c) (refMoms m' c) (refVars m' c)
      = deltas (weights m c) (grads m c) (moms m c) (vars m c) := by rw [(E c).1, (E c).2.1, (E c).2.2.1, (E c).2.2.2]
  have A (c : Dev nD) : firsts (refGrads m' c) (refMoms m' c) = firsts (grads m c) (moms m c) := by rw [(E c).2.1, (E c).2.2.1]
  have B (c : Dev nD) : seconds (refGrads m' c) (refVars m' c) = seconds (grads m c) (vars m c) := by rw [(E c).2.1, (E c).2.2.2]
  ⟨fun c => (deltas (weights m c) (grads m c) (moms m c) (vars m c)).x0,
    fun c => (deltas (weights m c) (grads m c) (moms m c) (vars m c)).x1,
    fun c => (deltas (weights m c) (grads m c) (moms m c) (vars m c)).x2,
    fun c => (deltas (weights m c) (grads m c) (moms m c) (vars m c)).x3,
    fun c => (deltas (weights m c) (grads m c) (moms m c) (vars m c)).x4,
    fun c => (deltas (weights m c) (grads m c) (moms m c) (vars m c)).x5,
    fun c => (deltas (weights m c) (grads m c) (moms m c) (vars m c)).x6,
    fun c => (deltas (weights m c) (grads m c) (moms m c) (vars m c)).x7,
    fun c => (deltas (weights m c) (grads m c) (moms m c) (vars m c)).x8,
    fun c => (deltas (weights m c) (grads m c) (moms m c) (vars m c)).x9,
    fun c => (deltas (weights m c) (grads m c) (moms m c) (vars m c)).x10,
    fun c => (deltas (weights m c) (grads m c) (moms m c) (vars m c)).x11,
    fun c => (firsts (grads m c) (moms m c)).x0,
    fun c => (firsts (grads m c) (moms m c)).x1,
    fun c => (firsts (grads m c) (moms m c)).x2,
    fun c => (firsts (grads m c) (moms m c)).x3,
    fun c => (firsts (grads m c) (moms m c)).x4,
    fun c => (firsts (grads m c) (moms m c)).x5,
    fun c => (firsts (grads m c) (moms m c)).x6,
    fun c => (firsts (grads m c) (moms m c)).x7,
    fun c => (firsts (grads m c) (moms m c)).x8,
    fun c => (firsts (grads m c) (moms m c)).x9,
    fun c => (firsts (grads m c) (moms m c)).x10,
    fun c => (firsts (grads m c) (moms m c)).x11,
    fun c => (seconds (grads m c) (vars m c)).x0,
    fun c => (seconds (grads m c) (vars m c)).x1,
    fun c => (seconds (grads m c) (vars m c)).x2,
    fun c => (seconds (grads m c) (vars m c)).x3,
    fun c => (seconds (grads m c) (vars m c)).x4,
    fun c => (seconds (grads m c) (vars m c)).x5,
    fun c => (seconds (grads m c) (vars m c)).x6,
    fun c => (seconds (grads m c) (vars m c)).x7,
    fun c => (seconds (grads m c) (vars m c)).x8,
    fun c => (seconds (grads m c) (vars m c)).x9,
    fun c => (seconds (grads m c) (vars m c)).x10,
    fun c => (seconds (grads m c) (vars m c)).x11,
    (θ_run defs _ _).mono (fun r h c => ⟨
      (ends h.1 c main_v59 (by decide) (by decide)).trans (congrArg Small.x0 (end_deltas m c)),
      (ends h.1 c main_v60 (by decide) (by decide)).trans (congrArg Small.x1 (end_deltas m c)),
      (ends h.1 c main_v61 (by decide) (by decide)).trans (congrArg Small.x2 (end_deltas m c)),
      (ends h.1 c main_v63 (by decide) (by decide)).trans (congrArg Small.x3 (end_deltas m c)),
      (ends h.1 c main_v65 (by decide) (by decide)).trans (congrArg Small.x4 (end_deltas m c)),
      (ends h.1 c main_v67 (by decide) (by decide)).trans (congrArg Small.x5 (end_deltas m c)),
      (ends h.1 c main_v69 (by decide) (by decide)).trans (congrArg Small.x6 (end_deltas m c)),
      (ends h.1 c main_v71 (by decide) (by decide)).trans (congrArg Small.x7 (end_deltas m c)),
      (ends h.1 c main_v73 (by decide) (by decide)).trans (congrArg Small.x8 (end_deltas m c)),
      (ends h.1 c main_v75 (by decide) (by decide)).trans (congrArg Small.x9 (end_deltas m c)),
      (ends h.1 c main_v77 (by decide) (by decide)).trans (congrArg Small.x10 (end_deltas m c)),
      (ends h.1 c main_v79 (by decide) (by decide)).trans (congrArg Small.x11 (end_deltas m c)),
      (ends h.1 c main_v82 (by decide) (by decide)).trans (congrArg Small.x0 (end_firsts m c)),
      (ends h.1 c main_v83 (by decide) (by decide)).trans (congrArg Small.x1 (end_firsts m c)),
      (ends h.1 c main_v84 (by decide) (by decide)).trans (congrArg Small.x2 (end_firsts m c)),
      (ends h.1 c main_v86 (by decide) (by decide)).trans (congrArg Small.x3 (end_firsts m c)),
      (ends h.1 c main_v88 (by decide) (by decide)).trans (congrArg Small.x4 (end_firsts m c)),
      (ends h.1 c main_v90 (by decide) (by decide)).trans (congrArg Small.x5 (end_firsts m c)),
      (ends h.1 c main_v92 (by decide) (by decide)).trans (congrArg Small.x6 (end_firsts m c)),
      (ends h.1 c main_v94 (by decide) (by decide)).trans (congrArg Small.x7 (end_firsts m c)),
      (ends h.1 c main_v96 (by decide) (by decide)).trans (congrArg Small.x8 (end_firsts m c)),
      (ends h.1 c main_v98 (by decide) (by decide)).trans (congrArg Small.x9 (end_firsts m c)),
      (ends h.1 c main_v100 (by decide) (by decide)).trans (congrArg Small.x10 (end_firsts m c)),
      (ends h.1 c main_v102 (by decide) (by decide)).trans (congrArg Small.x11 (end_firsts m c)),
      (ends h.1 c main_v105 (by decide) (by decide)).trans (congrArg Small.x0 (end_seconds m c)),
      (ends h.1 c main_v106 (by decide) (by decide)).trans (congrArg Small.x1 (end_seconds m c)),
      (ends h.1 c main_v107 (by decide) (by decide)).trans (congrArg Small.x2 (end_seconds m c)),
      (ends h.1 c main_v109 (by decide) (by decide)).trans (congrArg Small.x3 (end_seconds m c)),
      (ends h.1 c main_v111 (by decide) (by decide)).trans (congrArg Small.x4 (end_seconds m c)),
      (ends h.1 c main_v113 (by decide) (by decide)).trans (congrArg Small.x5 (end_seconds m c)),
      (ends h.1 c main_v115 (by decide) (by decide)).trans (congrArg Small.x6 (end_seconds m c)),
      (ends h.1 c main_v117 (by decide) (by decide)).trans (congrArg Small.x7 (end_seconds m c)),
      (ends h.1 c main_v119 (by decide) (by decide)).trans (congrArg Small.x8 (end_seconds m c)),
      (ends h.1 c main_v121 (by decide) (by decide)).trans (congrArg Small.x9 (end_seconds m c)),
      (ends h.1 c main_v123 (by decide) (by decide)).trans (congrArg Small.x10 (end_seconds m c)),
      (ends h.1 c main_v125 (by decide) (by decide)).trans (congrArg Small.x11 (end_seconds m c)),
      h.2 c⟩) (θ_run_and (run_main m ρ) (unchanged m ρ)),
    (θ_run Cert.Reference10Ideal.defs _ _).mono (fun r h c => by
      obtain ⟨d0, d1, d2, d3, d4, d5, d6, d7, d8, d9, d10, d11, a0, a1, a2, a3, a4, a5, a6, a7, a8, a9, a10, a11, b0, b1, b2, b3, b4, b5, b6, b7, b8, b9, b10, b11, u⟩ := h c
      exact ⟨d0.trans (congrArg Small.x0 (D c)), d1.trans (congrArg Small.x1 (D c)),
        d2.trans (congrArg Small.x2 (D c)), d3.trans (congrArg Small.x3 (D c)),
        d4.trans (congrArg Small.x4 (D c)), d5.trans (congrArg Small.x5 (D c)),
        d6.trans (congrArg Small.x6 (D c)), d7.trans (congrArg Small.x7 (D c)),
        d8.trans (congrArg Small.x8 (D c)), d9.trans (congrArg Small.x9 (D c)),
        d10.trans (congrArg Small.x10 (D c)), d11.trans (congrArg Small.x11 (D c)),
        a0.trans (congrArg Small.x0 (A c)), a1.trans (congrArg Small.x1 (A c)),
        a2.trans (congrArg Small.x2 (A c)), a3.trans (congrArg Small.x3 (A c)),
        a4.trans (congrArg Small.x4 (A c)), a5.trans (congrArg Small.x5 (A c)),
        a6.trans (congrArg Small.x6 (A c)), a7.trans (congrArg Small.x7 (A c)),
        a8.trans (congrArg Small.x8 (A c)), a9.trans (congrArg Small.x9 (A c)),
        a10.trans (congrArg Small.x10 (A c)), a11.trans (congrArg Small.x11 (A c)),
        b0.trans (congrArg Small.x0 (B c)), b1.trans (congrArg Small.x1 (B c)),
        b2.trans (congrArg Small.x2 (B c)), b3.trans (congrArg Small.x3 (B c)),
        b4.trans (congrArg Small.x4 (B c)), b5.trans (congrArg Small.x5 (B c)),
        b6.trans (congrArg Small.x6 (B c)), b7.trans (congrArg Small.x7 (B c)),
        b8.trans (congrArg Small.x8 (B c)), b9.trans (congrArg Small.x9 (B c)),
        b10.trans (congrArg Small.x10 (B c)), b11.trans (congrArg Small.x11 (B c)),
        u⟩)
      (Cert.Reference10Ideal.Value.run (F := Ideal) m' ρ')⟩

end Cert.Kernel10Ideal.Opt

end
-- ==== Proof.Loss.Frame.lean ====
module
public import proofs.«01_k».proof.Proof.Gen.Kernel11Ideal.Frame.RunB
public import Idealize.ShloMosaic.Lib.Claim
@[expose] public section

set_option maxRecDepth 16384

noncomputable section

namespace Cert.Kernel11Ideal.Loss

open Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The loss call's frame -/

/-- The body's run at the first point. -/
abbrev runA (c : Dev nD) (t : Fin cfg0.N) (h : t.val % 13 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    (ms0_7 t) (hs0_7 t) (ms0_8 t) (hs0_8 t) ((hcond0_0 t).mpr h)
    (iblk m c 0 t) (iblk m c 1 t) (iblk m c 2 t) (iblk m c 3 t) (iblk m c 4 t) (iblk m c 5 t) (iblk m c 6 t)

/-- The body's run at a later point, the loss so far being `x`. -/
abbrev runB (c : Dev nD) (t : Fin cfg0.N) (h : ¬t.val % 13 = 0) (x : Vec F S1x1 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    (ms0_7 t) (hs0_7 t) (ms0_8 t) (hs0_8 t) (fun e => h ((hcond0_0 t).mp e))
    (iblk m c 0 t) (iblk m c 1 t) (iblk m c 2 t) (iblk m c 3 t) (iblk m c 4 t) (iblk m c 5 t) (iblk m c 6 t) x

/-- What they leave in the gradient's block and in the loss. -/
def dyA (c : Dev nD) (t : Fin cfg0.N) (h : t.val % 13 = 0) : Vec F S640x1024 .f32 :=
  VO0_7.read (Elt F) (VO0_7.writes (Elt F) VO0_7.junk (runA m c t h).1)
def lossA (c : Dev nD) (t : Fin cfg0.N) (h : t.val % 13 = 0) : Vec F S1x1 .f32 :=
  VO0_8.read (Elt F) (VO0_8.writes (Elt F) VO0_8.junk (runA m c t h).2.1)
def dyB (c : Dev nD) (t : Fin cfg0.N) (h : ¬t.val % 13 = 0) (x : Vec F S1x1 .f32) : Vec F S640x1024 .f32 :=
  VO0_7.read (Elt F) (VO0_7.writes (Elt F) VO0_7.junk (runB m c t h x).1)
def lossB (c : Dev nD) (t : Fin cfg0.N) (h : ¬t.val % 13 = 0) (x : Vec F S1x1 .f32) : Vec F S1x1 .f32 :=
  VO0_8.read (Elt F) (VO0_8.writes (Elt F) VO0_8.junk (runB m c t h x).2.1)

/-- The stores cover both blocks. -/
theorem coverA7 (c : Dev nD) (t : Fin cfg0.N) (h : t.val % 13 = 0) (y : S640x1024.Idx) : ∃ pc ∈ (runA m c t h).1, y ∈ pc.1.set :=
  View.cover_of_tiledL (runA m c t h).1 S640x1024.size (by sl_kernel_rfl) y
theorem coverA8 (c : Dev nD) (t : Fin cfg0.N) (h : t.val % 13 = 0) (y : S1x1.Idx) : ∃ pc ∈ (runA m c t h).2.1, y ∈ pc.1.set :=
  View.cover_of_tiledL (runA m c t h).2.1 S1x1.size (by sl_kernel_rfl) y
theorem coverB7 (c : Dev nD) (t : Fin cfg0.N) (h : ¬t.val % 13 = 0) (x : Vec F S1x1 .f32) (y : S640x1024.Idx) :
    ∃ pc ∈ (runB m c t h x).1, y ∈ pc.1.set :=
  View.cover_of_tiledL (runB m c t h x).1 S640x1024.size (by sl_kernel_rfl) y
theorem coverB8 (c : Dev nD) (t : Fin cfg0.N) (h : ¬t.val % 13 = 0) (x : Vec F S1x1 .f32) (y : S1x1.Idx) :
    ∃ pc ∈ (runB m c t h x).2.1, y ∈ pc.1.set :=
  View.cover_of_tiledL (runB m c t h x).2.1 S1x1.size (by sl_kernel_rfl) y

theorem succ_mod {n : ℕ} (h : n + 1 < cfg0.N) : ¬(n + 1) % 13 = 0 := by
  have : n + 1 < 13 := lt_of_lt_of_eq h (show cfg0.N = 13 from N_0)
  omega

/-- The loss after a point. -/
def lossAt (c : Dev nD) : (n : ℕ) → n < cfg0.N → Vec F S1x1 .f32
  | 0, h => lossA m c ⟨0, h⟩ (Nat.zero_mod _)
  | n + 1, h => lossB m c ⟨n + 1, h⟩ (succ_mod h) (lossAt c n (Nat.lt_of_succ_lt h))

/-- The gradient's block after a point. -/
def dyAt (c : Dev nD) : (n : ℕ) → n < cfg0.N → Vec F S640x1024 .f32
  | 0, h => dyA m c ⟨0, h⟩ (Nat.zero_mod _)
  | n + 1, h => dyB m c ⟨n + 1, h⟩ (succ_mod h) (lossAt m c n (Nat.lt_of_succ_lt h))

theorem lossAt_zero (c : Dev nD) (h : 0 < cfg0.N) : lossAt m c 0 h = lossA m c ⟨0, h⟩ (Nat.zero_mod _) := by
  unfold lossAt; exact Eq.refl _
theorem lossAt_succ (c : Dev nD) (n : ℕ) (h : n + 1 < cfg0.N) :
    lossAt m c (n + 1) h = lossB m c ⟨n + 1, h⟩ (succ_mod h) (lossAt m c n (Nat.lt_of_succ_lt h)) := by
  conv_lhs => unfold lossAt
theorem dyAt_zero (c : Dev nD) (h : 0 < cfg0.N) : dyAt m c 0 h = dyA m c ⟨0, h⟩ (Nat.zero_mod _) := by
  unfold dyAt; exact Eq.refl _
theorem dyAt_succ (c : Dev nD) (n : ℕ) (h : n + 1 < cfg0.N) :
    dyAt m c (n + 1) h = dyB m c ⟨n + 1, h⟩ (succ_mod h) (lossAt m c n (Nat.lt_of_succ_lt h)) := by
  conv_lhs => unfold dyAt

/-- The pipeline's data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => dyAt m c t.val t.isLt
    | ⟨8, _⟩ => lossAt m c t.val t.isLt
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = dyAt m c t.val t.isLt := by dsimp only [dats]
theorem after0_8 (c : Dev nD) (t : Fin cfg0.N) : (dats m 0 c).after 8 t = lossAt m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- The loss before a point that is not the first. -/
def lossBefore (c : Dev nD) (t : Fin cfg0.N) : Vec F S1x1 .f32 :=
  lossAt m c (t.val - 1) (Nat.lt_of_le_of_lt (Nat.sub_le _ _) t.isLt)

/-- What the body leaves in the two results' buffers at the first point, and at a later one. -/
theorem after7_A (c : Dev nD) (t : Fin cfg0.N) (h : t.val % 13 = 0) : (dats m 0 c).after 7 t = dyA m c t h := by
  rw [after0_7]
  obtain ⟨n, hn⟩ := t
  cases n with
  | zero => exact dyAt_zero m c hn
  | succ n => exact absurd h (succ_mod hn)
theorem after8_A (c : Dev nD) (t : Fin cfg0.N) (h : t.val % 13 = 0) : (dats m 0 c).after 8 t = lossA m c t h := by
  rw [after0_8]
  obtain ⟨n, hn⟩ := t
  cases n with
  | zero => exact lossAt_zero m c hn
  | succ n => exact absurd h (succ_mod hn)
theorem after7_B (c : Dev nD) (t : Fin cfg0.N) (h : ¬t.val % 13 = 0) :
    (dats m 0 c).after 7 t = dyB m c t h (lossBefore m c t) := by
  rw [after0_7]
  obtain ⟨n, hn⟩ := t
  cases n with
  | zero => exact absurd (Nat.zero_mod _) h
  | succ n => exact dyAt_succ m c n hn
theorem after8_B (c : Dev nD) (t : Fin cfg0.N) (h : ¬t.val % 13 = 0) :
    (dats m 0 c).after 8 t = lossB m c t h (lossBefore m c t) := by
  rw [after0_8]
  obtain ⟨n, hn⟩ := t
  cases n with
  | zero => exact absurd (Nat.zero_mod _) h
  | succ n => exact lossAt_succ m c n hn

/-- After the first point the loss's buffer holds what the point before left. -/
theorem before0_8 (c : Dev nD) (t : Fin cfg0.N) (h : ¬t.val % 13 = 0) (d) :
    (dats m 0 c).before 8 t d = lossBefore m c t := by
  have hN : t.val < 13 := lt_of_lt_of_eq t.isLt (show cfg0.N = 13 from N_0)
  rw [Dat.before_out_kept _ 8 rfl t (by omega) (Bool.eq_false_iff.mpr fun e => by
      have := (flush0_8 _).mp e; dsimp only at this; omega) (fun _ => rfl) (fun _ _ => rfl)]
  dsimp only [dats, lossBefore]

/-- What the body is called with, and what it leaves. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  by_cases h : t.val % 13 = 0
  · rw [after7_A m c t h, after8_A m c t h]
    unfold dyA lossA
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runA m c t h).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    iintro ⟨H0, H1, H2, H3, H4, H5, H6, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (coverA7 m c t h)
    unfold owns; iexists _; isplitr
    swap; · iexact H8
    ipureintro; exact View.read_writes_of_cover _ _ _ _ _ (coverA8 m c t h)
  · rw [after7_B m c t h, after8_B m c t h]
    simp only [before0_8 m c t h]
    unfold dyB lossB
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runB m c t h (lossBefore m c t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    iintro ⟨H0, H1, H2, H3, H4, H5, H6, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (coverB7 m c t h (lossBefore m c t))
    unfold owns; iexists _; isplitr
    swap; · iexact H8
    ipureintro; exact View.read_writes_of_cover _ _ _ _ _ (coverB8 m c t h (lossBefore m c t))

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel11Ideal.Loss

end
-- ==== Proof.Loss.Kern.lean ====
module
public import proofs.«01_k».proof.Proof.Bwd.Consts
public import proofs.«01_k».proof.Proof.Loss.Frame
public import Idealize.ShloMosaic.Lib.Pipeline.ValueKit
public import Idealize.ShloMosaic.Lib.Pointwise
public import Idealize.ShloMosaic.Lib.StableHlo.RunRead
@[expose] public section

set_option maxRecDepth 16384

noncomputable section

namespace Cert.Kernel11Ideal.Loss

open Cert.Kernel11Ideal.Gen
open Idealize.ShloMosaic Idealize.ShloMosaic.TcCoe
open scoped BigOperators

/-! # The loss call's blocks -/

variable (m : (ℓ : Loc nD τ sig) → Buf (Elt Ideal) ℓ) (c : Dev nD)

/-- The array row that row `i` of point `t`'s block is. -/
def row (t : Fin cfg0.N) (i : Fin 640) : Fin 8320 :=
  ⟨640 * t.val + i.val, by have : t.val < 13 := lt_of_lt_of_eq t.isLt (show cfg0.N = 13 from N_0); omega⟩

/-- Every window's block index at a point. -/
theorem idx : ∀ t : Fin grid0.N, win0_0.index t = ![t.val, 0] ∧ win0_1.index t = ![0, 0]
    ∧ win0_2.index t = ![5 * t.val - 1, 0] ∧ win0_3.index t = ![5 * t.val, 0] ∧ win0_4.index t = ![5 * t.val + 1, 0]
    ∧ win0_5.index t = ![5 * t.val + 2, 0] ∧ win0_6.index t = ![5 * t.val + 3, 0]
    ∧ win0_7.index t = ![t.val, 0] ∧ win0_8.index t = ![0, 0] ∧ (grid0.coords t 0).val = t.val := by
  decide +kernel

/-- The normalised stream. -/
def y (x : FVec Ideal S8320x1024 .f32) (g b : FVec Ideal S1024 .f32) (r : Fin 8320) (k : Fin 1024) : EReal :=
  x (ix2 r k) * g (ix1 k) + b (ix1 k)

/-- A row's error: none in the padding. -/
def err (x : FVec Ideal S8320x1024 .f32) (g b : FVec Ideal S1024 .f32) (z : FVec Ideal S8192x1024 .f32)
    (r : Fin 8320) (k : Fin 1024) : EReal :=
  if h : r.val < 128 then 0 else y x g b r k - z (ix2 (⟨r.val - 128, by omega⟩ : Fin 8192) k)

/-- A row's mean square. -/
def msq (x : FVec Ideal S8320x1024 .f32) (g b : FVec Ideal S1024 .f32) (z : FVec Ideal S8192x1024 .f32)
    (r : Fin 8320) : EReal :=
  Ideal.div (∑ k, err x g b z r k * err x g b z r k) (Ideal.ofBits .f32 1149239296#32)

/-- The same of the arguments in memory. -/
abbrev yK : Fin 8320 → Fin 1024 → EReal :=
  y (m ((c : Thread nD τ).loc main_arg0)) (m ((c : Thread nD τ).loc main_arg1)) (m ((c : Thread nD τ).loc main_arg2))
abbrev errK : Fin 8320 → Fin 1024 → EReal :=
  err (m ((c : Thread nD τ).loc main_arg0)) (m ((c : Thread nD τ).loc main_arg1)) (m ((c : Thread nD τ).loc main_arg2))
    (m ((c : Thread nD τ).loc main_arg3))

abbrev msqK : Fin 8320 → EReal :=
  msq (m ((c : Thread nD τ).loc main_arg0)) (m ((c : Thread nD τ).loc main_arg1)) (m ((c : Thread nD τ).loc main_arg2))
    (m ((c : Thread nD τ).loc main_arg3))

/-- The stream's block. -/
theorem blk0 (t : Fin cfg0.N) (i : Fin 640) (k : Fin 1024) : (iblk m c 0 t : Vec Ideal S640x1024 .f32) (ix2 i k)
    = (m ((c : Thread nD τ).loc main_arg0) : Vec Ideal S8320x1024 .f32) (ix2 (row t i) k) := by
  rw [← V_main_arg0 m c]
  have h := (idx t).1
  unfold row
  blk_ext [iblk, h]

/-- The gain's row and the bias's. -/
theorem gain (k : Fin 1024) : (V m c main_v2 : Vec Ideal S2x1024 .f32) (ix2 (0 : Fin 2) k)
    = (m ((c : Thread nD τ).loc main_arg1) : Vec Ideal S1024 .f32) (ix1 k) := by
  unfold V V0
  after_reads_simp
  pointwise
theorem bias (k : Fin 1024) : (V m c main_v2 : Vec Ideal S2x1024 .f32) (ix2 (1 : Fin 2) k)
    = (m ((c : Thread nD τ).loc main_arg2) : Vec Ideal S1024 .f32) (ix1 k) := by
  unfold V V0
  after_reads_simp
  pointwise
theorem blk1 (t : Fin cfg0.N) (i : Fin 2) (k : Fin 1024) : (iblk m c 1 t : Vec Ideal S2x1024 .f32) (ix2 i k) = V m c main_v2 (ix2 i k) := by
  have h := (idx t).2.1
  blk_ext [iblk, h]

/-- The target's blocks. -/
theorem blk2 (t : Fin cfg0.N) (i : Fin 128) (k : Fin 1024) (r : Fin 8192) (h : r.val = 128 * (5 * t.val - 1) + i.val) :
    (iblk m c 2 t : Vec Ideal S128x1024 .f32) (ix2 i k) = (m ((c : Thread nD τ).loc main_arg3) : Vec Ideal S8192x1024 .f32) (ix2 r k) := by
  rw [← V_main_arg3 m c]
  have e := (idx t).2.2.1
  blk_ext [iblk, e]
theorem blk3 (t : Fin cfg0.N) (i : Fin 128) (k : Fin 1024) (r : Fin 8192) (h : r.val = 128 * (5 * t.val) + i.val) :
    (iblk m c 3 t : Vec Ideal S128x1024 .f32) (ix2 i k) = (m ((c : Thread nD τ).loc main_arg3) : Vec Ideal S8192x1024 .f32) (ix2 r k) := by
  rw [← V_main_arg3 m c]
  have e := (idx t).2.2.2.1
  blk_ext [iblk, e]
theorem blk4 (t : Fin cfg0.N) (i : Fin 128) (k : Fin 1024) (r : Fin 8192) (h : r.val = 128 * (5 * t.val + 1) + i.val) :
    (iblk m c 4 t : Vec Ideal S128x1024 .f32) (ix2 i k) = (m ((c : Thread nD τ).loc main_arg3) : Vec Ideal S8192x1024 .f32) (ix2 r k) := by
  rw [← V_main_arg3 m c]
  have e := (idx t).2.2.2.2.1
  blk_ext [iblk, e]
theorem blk5 (t : Fin cfg0.N) (i : Fin 128) (k : Fin 1024) (r : Fin 8192) (h : r.val = 128 * (5 * t.val + 2) + i.val) :
    (iblk m c 5 t : Vec Ideal S128x1024 .f32) (ix2 i k) = (m ((c : Thread nD τ).loc main_arg3) : Vec Ideal S8192x1024 .f32) (ix2 r k) := by
  rw [← V_main_arg3 m c]
  have e := (idx t).2.2.2.2.2.1
  blk_ext [iblk, e]
theorem blk6 (t : Fin cfg0.N) (i : Fin 128) (k : Fin 1024) (r : Fin 8192) (h : r.val = 128 * (5 * t.val + 3) + i.val) :
    (iblk m c 6 t : Vec Ideal S128x1024 .f32) (ix2 i k) = (m ((c : Thread nD τ).loc main_arg3) : Vec Ideal S8192x1024 .f32) (ix2 r k) := by
  rw [← V_main_arg3 m c]
  have e := (idx t).2.2.2.2.2.2.1
  blk_ext [iblk, e]

/-- A point's errors. -/
abbrev pointErr (t : Fin cfg0.N) : FVec Ideal S640x1024 .f32 :=
  k0_pay3 (grid0.coords t) (iblk m c 0 t)
      (View.ld (iblk m c 1 t) (Rect.unit ![0, 0] ![1, 1024] inb_S2x1024_S1x1024_0_0))
      (View.ld (iblk m c 1 t) (Rect.unit ![1, 0] ![1, 1024] inb_S2x1024_S1x1024_1_0)) (iblk m c 2 t) (iblk m c 3 t)
      (iblk m c 4 t) (iblk m c 5 t) (iblk m c 6 t)

theorem pointErr_at (hz : ∀ r k, r.val < 128 → yK m c r k - yK m c r k = 0) (t : Fin cfg0.N) (i : Fin 640) (k : Fin 1024) :
    pointErr m c t (ix2 i k) = errK m c (row t i) k := by
  unfold pointErr k0_pay3
  pointwise
  have hc := (idx t).2.2.2.2.2.2.2.2.2
  have hN : t.val < 13 := lt_of_lt_of_eq t.isLt (show cfg0.N = 13 from N_0)
  have hi := i.isLt
  rw [blk0, blk1, blk1, gain, bias, hc]
  change yK m c (row t i) k - _ = _
  unfold errK err
  by_cases h0 : t.val = 0
  · have hr : (row t i).val = i.val := by show 640 * t.val + i.val = _; omega
    by_cases h1 : i.val < 128
    · rw [dif_pos h1, dif_pos (by omega), h0]
      exact hz _ _ (by omega)
    · rw [dif_neg h1, dif_neg (c := (row t i).val < 128) (by omega)]
      refine congrArg (yK m c (row t i) k - ·) ?_
      split
      · exact blk3 m c t _ k _ (by show (row t i).val - 128 = _ + (i.val - 128); omega)
      · split
        · exact blk4 m c t _ k _ (by show (row t i).val - 128 = _ + (i.val - 128 - 128); omega)
        · split
          · exact blk5 m c t _ k _ (by show (row t i).val - 128 = _ + (i.val - 128 - 128 - 128); omega)
          · exact blk6 m c t _ k _ (by show (row t i).val - 128 = _ + (i.val - 128 - 128 - 128 - 128); omega)
  · have hr : (row t i).val = 640 * t.val + i.val := rfl
    rw [dif_neg (c := (row t i).val < 128) (by omega)]
    refine congrArg (yK m c (row t i) k - ·) ?_
    split
    · have hs : Scalar.cmpi CmpIPredicate.eq (BitVec.ofNat 32 t.val) 0#32 = 0#1 := by
        have : ∀ n : Fin 13, n.val ≠ 0 → Scalar.cmpi CmpIPredicate.eq (BitVec.ofNat 32 n.val) 0#32 = 0#1 := by decide
        exact this ⟨t.val, hN⟩ h0
      rw [hs]
      exact blk2 m c t _ k _ (by show (row t i).val - 128 = _ + i.val; omega)
    · split
      · exact blk3 m c t _ k _ (by show (row t i).val - 128 = _ + (i.val - 128); omega)
      · split
        · exact blk4 m c t _ k _ (by show (row t i).val - 128 = _ + (i.val - 128 - 128); omega)
        · split
          · exact blk5 m c t _ k _ (by show (row t i).val - 128 = _ + (i.val - 128 - 128 - 128); omega)
          · exact blk6 m c t _ k _ (by show (row t i).val - 128 = _ + (i.val - 128 - 128 - 128 - 128); omega)

theorem dyA_at (hz : ∀ r k, r.val < 128 → yK m c r k - yK m c r k = 0) (t : Fin cfg0.N) (h : t.val % 13 = 0) (i : Fin 640) (k : Fin 1024) :
    dyA m c t h (ix2 i k) = errK m c (row t i) k * Ideal.ofBits FTy.f32 981467136#32 := by
  rw [← pointErr_at m c hz]
  unfold dyA runA
  frame_out
  unfold k0_pay4
  pointwise
  rfl

theorem dyB_at (hz : ∀ r k, r.val < 128 → yK m c r k - yK m c r k = 0) (t : Fin cfg0.N) (h : ¬t.val % 13 = 0) (x) (i : Fin 640) (k : Fin 1024) :
    dyB m c t h x (ix2 i k) = errK m c (row t i) k * Ideal.ofBits FTy.f32 981467136#32 := by
  rw [← pointErr_at m c hz]
  unfold dyB runB
  frame_out
  unfold k0_pay4
  pointwise
  rfl

theorem lossA_at (hz : ∀ r k, r.val < 128 → yK m c r k - yK m c r k = 0) (t : Fin cfg0.N) (h : t.val % 13 = 0) (i : Fin 1) (k : Fin 1) :
    lossA m c t h (ix2 i k) = Ideal.ofBits FTy.f32 1056964608#32 * ∑ i, msqK m c (row t i) := by
  unfold lossA runA
  frame_out
  unfold k0_pay1 k0_pay5 k0_pay2
  pointwise
  unfold msqK msq
  simp only [← pointErr_at m c hz]
  rfl

theorem lossB_at (hz : ∀ r k, r.val < 128 → yK m c r k - yK m c r k = 0) (t : Fin cfg0.N) (h : ¬ t.val % 13 = 0) (x) (i : Fin 1) (k : Fin 1) :
    lossB m c t h x (ix2 i k) = x (ix2 i k) + Ideal.ofBits FTy.f32 1056964608#32 * ∑ i, msqK m c (row t i) := by
  unfold lossB runB
  frame_out
  unfold k0_pay1 k0_pay5
  pointwise
  unfold msqK msq
  simp only [← pointErr_at m c hz]
  rfl

end Cert.Kernel11Ideal.Loss
end
-- ==== Proof.Loss.Vals.lean ====
module
public import proofs.«01_k».proof.Proof.Loss.Kern
public import proofs.«01_k».proof.Proof.Gen.Reference11Ideal.Read
@[expose] public section

set_option maxRecDepth 16384

noncomputable section

namespace Cert.Kernel11Ideal.Loss

open Cert.Kernel11Ideal.Gen
open Idealize.ShloMosaic Idealize.ShloMosaic.TcCoe
open scoped BigOperators

/-! # The loss and its gradient, in both programs -/

/-- One half and the reciprocal of the row's length. -/
abbrev half : EReal := Ideal.ofBits FTy.f32 1056964608#32
abbrev recip : EReal := Ideal.ofBits FTy.f32 981467136#32

theorem lit_recip : Ideal.ofBits .f32 981467136#32 = ((1 / 1024 : ℝ) : EReal) := by
  simp [Ideal.ofBits, Ideal.ieee, -EReal.coe_mul]; norm_num
theorem lit_one : Ideal.ofBits .f32 1065353216#32 = ((1 : ℝ) : EReal) := by
  simp [Ideal.ofBits, Ideal.ieee, -EReal.coe_mul]; norm_num

theorem lit_zero : Ideal.ofBits .f32 0#32 = 0 := by
  simp [Ideal.ofBits, Ideal.ieee]

/-- A half of a sum. -/
theorem half_add (a b : EReal) : half * (a + b) = half * a + half * b := by
  show Ideal.ofBits FTy.f32 1056964608#32 * (a + b) = Ideal.ofBits FTy.f32 1056964608#32 * a + Ideal.ofBits FTy.f32 1056964608#32 * b
  rw [KernelIdeal.Bwd.lit_half]
  exact EReal.left_distrib_of_nonneg_of_ne_top (by norm_cast; norm_num) (EReal.coe_ne_top _) a b

section
variable (x : FVec Ideal S8320x1024 .f32) (g b : FVec Ideal S1024 .f32) (z : FVec Ideal S8192x1024 .f32)

/-- The loss: half the sum of the rows' mean squares. -/
def lossV : FVec Ideal S_ .f32 := fun _ => half * ∑ r, msq x g b z r
/-- Its gradient. -/
def dyV : FVec Ideal S8320x1024 .f32 := fun i : S8320x1024.Idx => err x g b z (i 0) (i 1) * recip

theorem err_pad (r : Fin 8320) (h : r.val < 128) (k : Fin 1024) : err x g b z r k = 0 := by
  unfold err; rw [dif_pos h]

theorem msq_pad (r : Fin 8320) (h : r.val < 128) : msq x g b z r = 0 := by
  unfold msq
  simp only [err_pad x g b z r h]
  rw [KernelIdeal.Bwd.lit_1024, Ideal.div_coe (by norm_num)]
  simp

/-- A row that is no padding. -/
def body (r : Fin 8192) : Fin 8320 := ⟨128 + r.val, by omega⟩

theorem err_body (r : Fin 8192) (k : Fin 1024) :
    err x g b z (body r) k = Reference11Ideal.Read.val_main_v7 (F := Ideal) x g b z (ix2 r k) := by
  unfold err body
  rw [dif_neg (c := (⟨128 + r.val, _⟩ : Fin 8320).val < 128) (by show ¬(128 + r.val < 128); omega)]
  simp only [Reference11Ideal.Read.val_main_v7_apply, Reference11Ideal.Read.val_main_v6_apply,
    Reference11Ideal.Read.val_main_v5_apply, Reference11Ideal.Read.val_main_v4_apply, Reference11Ideal.Read.val_main_v3_apply,
    Reference11Ideal.Read.val_main_v2_apply, Reference11Ideal.Read.val_main_v1_apply, Reference11Ideal.Read.val_main_v0_apply]
  refine congrArg₂ (fun p q : EReal => p - q) (congrArg₂ (fun p q : EReal => p + q) (congrArg₂ (fun p q : EReal => p * q) ?_ ?_) ?_) ?_
  · exact congrArg x (by funext a; fin_cases a <;> rfl)
  · exact congrArg g (by funext a; fin_cases a; rfl)
  · exact congrArg b (by funext a; fin_cases a; rfl)
  · exact congrArg z (by funext a; fin_cases a <;> first | rfl | exact Fin.ext (by show 128 + r.val - 128 = r.val; omega))

/-- The padding adds nothing. -/
theorem sum_body (f : Fin 8320 → EReal) (h : ∀ r, r.val < 128 → f r = 0) : ∑ r, f (body r) = ∑ r, f r := by
  have e := Fin.sum_univ_add (a := 128) (b := 8192) (M := EReal) fun r => f (Fin.cast (by norm_num) r)
  refine Eq.symm (Eq.trans ?_ (e.trans ?_))
  · rfl
  · rw [Finset.sum_eq_zero (fun i _ => h _ i.isLt), zero_add]
    rfl

theorem msq_body (r : Fin 8192) : msq x g b z (body r) = Reference11Ideal.Read.val_main_v13 (F := Ideal) x g b z (ix1 r) := by
  rw [Reference11Ideal.Read.val_main_v13_apply, Reference11Ideal.Read.val_main_v11_apply, Reference11Ideal.Read.val_main_v12_apply]
  unfold msq
  simp only [err_body]
  refine congrArg (fun s : EReal => Ideal.div s (Ideal.ofBits .f32 1149239296#32)) (Eq.symm ?_)
  refine (congrArg (· + _) lit_zero).trans ((zero_add _).trans ?_)
  refine Finset.sum_congr rfl fun k _ => ?_
  rw [Reference11Ideal.Read.val_main_v8_apply,
    show Reference11Ideal.Read.idx_main_v11 (ix1 r) k = ix2 r k from by funext a; fin_cases a <;> rfl]
  rfl

theorem ref_loss : Reference11Ideal.Read.val_main_v15 (F := Ideal) x g b z = lossV x g b z := by
  funext i
  rw [Reference11Ideal.Read.val_main_v15_apply, Reference11Ideal.Read.val_main_v14_apply]
  unfold lossV
  rw [← sum_body _ (msq_pad x g b z)]
  simp only [msq_body]
  refine congrArg (half * ·) ?_
  rw [Reference11Ideal.Read.val_main_cst_2_apply]
  refine (congrArg (· + _) lit_zero).trans ((zero_add _).trans ?_)
  refine Fintype.sum_equiv ⟨fun j : Reference11Ideal.S8192.Idx => (j 0 : Fin 8192), fun r => ix1 r, fun j => by funext a; fin_cases a; rfl, fun r => rfl⟩ _ _
    fun j => congrArg _ (by funext a; fin_cases a; rfl)

/-- The gradient of a row that is no padding. -/
theorem ref_v21 (r : Fin 8192) (k : Fin 1024) :
    Reference11Ideal.Read.val_main_v21 (F := Ideal) x g b z (ix2 r k) = err x g b z (body r) k * recip := by
  rw [err_body, Reference11Ideal.Read.val_main_v21_apply, Reference11Ideal.Read.val_main_v20_apply,
    Reference11Ideal.Read.val_main_v19_apply, Reference11Ideal.Read.val_main_v17_apply, Reference11Ideal.Read.val_main_v18_apply,
    Reference11Ideal.Read.val_main_v10_apply, Reference11Ideal.Read.val_main_v9_apply]
  generalize Reference11Ideal.Read.val_main_v7 (F := Ideal) x g b z (ix2 r k) = e
  change Ideal.div (Ideal.ofBits .f32 1056964608#32 * Ideal.ofBits .f32 1065353216#32) (Ideal.ofBits .f32 1149239296#32)
    * (Ideal.ofBits .f32 1073741824#32 * e) = e * Ideal.ofBits .f32 981467136#32
  rw [KernelIdeal.Bwd.lit_half, lit_one, KernelIdeal.Bwd.lit_1024, KernelIdeal.Bwd.lit_two, lit_recip, ← EReal.coe_mul,
    KernelIdeal.Bwd.div_real _ (by norm_num), ← mul_assoc, ← EReal.coe_mul, mul_comm e]
  norm_num

theorem ref_dy_at (r : Fin 8320) (k : Fin 1024) :
    Reference11Ideal.Read.val_main_v22 (F := Ideal) x g b z (ix2 r k) = err x g b z r k * recip := by
  unfold Reference11Ideal.Read.val_main_v22
  pointwise
  by_cases h : r.val < 128
  · rw [err_pad x g b z _ h, zero_mul, dif_neg (by omega)]
    exact lit_zero
  · have h' : 128 ≤ r.val ∧ r.val - 128 < 8192 := by omega
    rw [dif_pos h', ref_v21]
    exact congrArg (fun q => err x g b z q k * recip) (Fin.ext (by show 128 + (r.val - 128) = r.val; omega))

theorem ref_dy : Reference11Ideal.Read.val_main_v22 (F := Ideal) x g b z = dyV x g b z := by
  funext i
  refine Eq.trans (congrArg _ ?_) (ref_dy_at x g b z (i 0) (i 1))
  funext a; fin_cases a <;> rfl

end

variable (m : (ℓ : Loc nD τ sig) → Buf (Elt Ideal) ℓ) (c : Dev nD)

/-- The point of a number. -/
def pt (n : ℕ) : Fin cfg0.N := ⟨n % 13, lt_of_lt_of_eq (Nat.mod_lt _ (by decide)) (show 13 = cfg0.N from N_0.symm)⟩

theorem pt_eq (n : ℕ) (h : n < cfg0.N) : pt n = ⟨n, h⟩ :=
  Fin.ext (Nat.mod_eq_of_lt (lt_of_lt_of_eq h (show cfg0.N = 13 from N_0)))

/-- A sum over all rows, point by point. -/
theorem sum_rows (f : Fin 8320 → EReal) : ∑ j ∈ Finset.range 13, ∑ i : Fin 640, f (row (pt j) i) = ∑ r, f r := by
  rw [Finset.sum_range, ← Fintype.sum_prod_type' (fun (t : Fin 13) (i : Fin 640) => f (row (pt t.val) i))]
  refine Fintype.sum_equiv (finProdFinEquiv (m := 13) (n := 640)) _ _ fun x => congrArg f (Fin.ext ?_)
  have := x.1.isLt
  show 640 * (x.1.val % 13) + x.2.val = x.2.val + 640 * x.1.val
  omega

variable (hz : ∀ r k, r.val < 128 → yK m c r k - yK m c r k = 0)

include hz

theorem lossAt_at (n : ℕ) (h : n < cfg0.N) (i k : Fin 1) :
    lossAt m c n h (ix2 i k) = half * ∑ j ∈ Finset.range (n + 1), ∑ i, msqK m c (row (pt j) i) := by
  induction n with
  | zero => rw [lossAt_zero, lossA_at m c hz, Finset.sum_range_one, pt_eq 0 h]
  | succ n ih => rw [lossAt_succ, lossB_at m c hz, ih, Finset.sum_range_succ _ (n + 1), half_add, pt_eq _ h]

theorem dyAt_at (t : Fin cfg0.N) (i : Fin 640) (k : Fin 1024) :
    dyAt m c t.val t.isLt (ix2 i k) = errK m c (row t i) k * recip := by
  obtain ⟨n, h⟩ := t
  cases n with
  | zero => rw [dyAt_zero, dyA_at m c hz]
  | succ n => rw [dyAt_succ, dyB_at m c hz]

/-- The gradient, whole. -/
theorem out7 : (dats m 0 c).arrAt 7 cfg0.N = dyV (m ((c : Thread nD τ).loc main_arg0)) (m ((c : Thread nD τ).loc main_arg1))
    (m ((c : Thread nD τ).loc main_arg2)) (m ((c : Thread nD τ).loc main_arg3)) := by
  refine (dats m 0 c).arrAt_eq_of_covers 7 _ (by decide +kernel) fun t hf y => ?_
  have e := (idx t).2.2.2.2.2.2.2.1
  blk_simp [e]
  rw [after0_7]
  have hy : (win0_7.blk t).view.emb y = ix2 (row t (y 0)) (y 1) := by
    unfold row
    blk_ext [e]
  rw [hy]
  refine Eq.trans ?_ (dyAt_at m c hz t (y 0) (y 1))
  refine congrArg (dyAt m c t.val t.isLt) ?_
  funext a; fin_cases a <;> rfl

/-- The loss, in its one-element array. -/
theorem out8 (i k : Fin 1) : (dats m 0 c).arrAt 8 cfg0.N (ix2 i k) = half * ∑ r, msqK m c r := by
  have e : (dats m 0 c).arrAt 8 cfg0.N = lossAt m c (pt 12).val (pt 12).isLt := by
    refine (dats m 0 c).arrAt_eq_of_after_last 8 (pt 12) (by decide +kernel) _ fun j => ?_
    blk_simp
    rw [after0_8]
  rw [e, lossAt_at m c hz]
  exact congrArg (half * ·) (sum_rows (msqK m c))

end Cert.Kernel11Ideal.Loss

end
-- ==== Proof.Loss.Same.lean ====
module
public import proofs.«01_k».proof.Defs
public import proofs.«01_k».proof.Proof.Bwd.Finite
public import proofs.«01_k».proof.Proof.Loss.Vals
public import proofs.«01_k».proof.Proof.Gen.Kernel11
public import proofs.«01_k».proof.Proof.Gen.Reference11Ideal.Run
public import Idealize.ShloMosaic.Lib.StableHlo.RunRead
@[expose] public section

set_option maxRecDepth 16384

noncomputable section

namespace Cert.Kernel11Ideal.Loss

open Cert.Kernel11Ideal.Gen
open Idealize.ShloMosaic Idealize.ShloMosaic.TcCoe

/-! # The loss call against its reference -/

/-- The shape relations of the precondition. -/
instance preFacts : Cert.Pre_finite11.Facts where
  slices_S8320x1024_S128x1024_0_0 := by decide
  bcast_S_S128x1024 := by decide
  bcast_S_S1024 := by decide

/-- The rows before the frames are finite: each differs from itself by zero. -/
theorem stream_finite (m : (ℓ : Loc nD τ sig) → Buf (Elt Ideal) ℓ) (h : Cert.Pre_Kernel11Ideal_finite11 m) (c : Dev nD)
    (r : Fin 8320) (k : Fin 1024) (hr : r.val < 128) : yK m c r k - yK m c r k = 0 := by
  obtain ⟨e0, e1, e2⟩ := h c
  obtain ⟨x, hx⟩ := KernelIdeal.Bwd.real_of_ones _ _ _ e0 (ix2 (⟨r.val, hr⟩ : Fin 128) k)
  pointwise at hx
  obtain ⟨g, hg⟩ := KernelIdeal.Bwd.real_of_ones _ _ _ e1 (ix1 k)
  obtain ⟨b, hb⟩ := KernelIdeal.Bwd.real_of_ones _ _ _ e2 (ix1 k)
  unfold yK y
  rw [hx, hg, hb, ← EReal.coe_mul, ← EReal.coe_add, ← EReal.coe_sub, sub_self]
  rfl

section
variable (m : (ℓ : Loc nD τ sig) → Buf (Elt Ideal) ℓ) (c : Dev nD)

/-- The call's loss and gradient. -/
abbrev lossK := lossV (m ((c.tc : Thread nD τ).loc main_arg0)) (m ((c.tc : Thread nD τ).loc main_arg1))
  (m ((c.tc : Thread nD τ).loc main_arg2)) (m ((c.tc : Thread nD τ).loc main_arg3))
abbrev dyK := dyV (m ((c.tc : Thread nD τ).loc main_arg0)) (m ((c.tc : Thread nD τ).loc main_arg1))
  (m ((c.tc : Thread nD τ).loc main_arg2)) (m ((c.tc : Thread nD τ).loc main_arg3))

/-- The scalar result is the one-element array's element. -/
theorem W_loss (hz : ∀ r k, r.val < 128 → yK m c r k - yK m c r k = 0) :
    (Pipeline.afterTail₀ cfgs (dats m) 0 (V0 m) [hostOps1] c main_v4 : Vec Ideal S_ .f32) = lossK m c := by
  have e := (dats m 0 c).withArrays_arrAt sharedIn0 (V0 m c) (A_eq m c) 8
  funext i
  unfold Pipeline.afterTail₀
  simp only [List.flatten_cons, List.flatten_nil, List.append_nil]
  after_reads_simp
  refine (congrArg (fun A : Vec Ideal S1x1 .f32 => shapeCast S_ A shapeCasts_S1x1_S_ i) e).trans ?_
  pointwise
  exact out8 m c hz 0 0
end

theorem same : Cert.algebraic_Kernel11Ideal_Reference11Ideal_pre_finite11 := fun m ρ m' ρ' hpre hsame =>
  ⟨fun c => lossK m c, fun c => dyK m c,
    (θ_run defs _ _).mono (fun r h c => ⟨
        ((h.1 c).2 main_v4 (Pipeline.mem_restRefs_of main_v4 (by decide) (by decide))).trans (W_loss m c (stream_finite m hpre c)),
        ((h.1 c).1 7).trans (out7 m c (stream_finite m hpre c)), h.2 c⟩)
      (θ_run_and (run_main m ρ) (unchanged m ρ)),
    (θ_run Cert.Reference11Ideal.defs _ _).mono (fun r h c => by
        obtain ⟨b0, b1, u⟩ := h c
        obtain ⟨a0, a1, a2, a3⟩ := hsame c
        refine ⟨b0.trans ?_, b1.trans ?_, u⟩
        · rw [Cert.Reference11Ideal.Read.val_main_v15_eq, a0, a1, a2, a3]
          exact ref_loss _ _ _ _
        · rw [Cert.Reference11Ideal.Read.val_main_v22_eq, a0, a1, a2, a3]
          exact ref_dy _ _ _ _)
      (Cert.Reference11Ideal.Value.run (F := Ideal) m' ρ')⟩

/-- The frame over the reals. -/
theorem frame_ideal : Cert.quiescent_Kernel11Ideal := fun m ρ _ => frame (F := Ideal) m ρ

set_option maxHeartbeats 2000000 in
/-- The two programs have the same body table, -/
theorem defs₀_same : Cert.Kernel11.defs₀ (F := Bits) = Cert.Kernel11Ideal.defs₀ (F := Bits) := by
  unfold Cert.Kernel11.defs₀ Cert.Kernel11Ideal.defs₀
  congr 1
  funext l a
  match l with
  | 0 => rfl

/-- the same table with the pipeline's steps, -/
theorem defs_same : Cert.Kernel11.defs (F := Bits) = Cert.Kernel11Ideal.defs (F := Bits) :=
  congrArg (Pipeline.defs (Cert.Kernel11Ideal.pcfgs (F := Bits))) defs₀_same

set_option maxHeartbeats 2000000 in
/-- and the same host function. -/
theorem main_same : Cert.Kernel11.main (F := Bits) = Cert.Kernel11Ideal.main (F := Bits) := rfl

/-- The frame of the program over floats: the same text as the one over the reals. -/
theorem frame_bits : Cert.quiescent_Kernel11 := fun m ρ _ => by
  rw [show Cert.Kernel11.defs (F := Bits) = _ from defs_same, show Cert.Kernel11.main (F := Bits) = _ from main_same]
  exact frame (F := Bits) m ρ

end Cert.Kernel11Ideal.Loss

end
-- ==== Proof.Inp.Row.lean ====
module
public import proofs.«01_k».proof.Proof.Bwd.Consts
public import proofs.«01_k».proof.Proof.Bwd.Real
@[expose] public section

noncomputable section

namespace Cert.Kernel12Ideal.Inp

open Idealize.ShloMosaic Cert.KernelIdeal.Bwd
open scoped BigOperators

/-! # One row of the input normalisation's gradient

The kernel's row and the reference's agree for every row `h`, whatever it holds, and every finite gradient `d` behind
the gain: a row with an infinity has an infinite variance, and both gradients are then zero. -/

/-- The row's length and the normalisation's small number. -/
abbrev len : EReal := Ideal.ofBits .f32 1149239296#32
abbrev small : EReal := Ideal.ofBits .f32 925353388#32

section
variable (h d : Fin 1024 → EReal)

def mean : EReal := Ideal.div (∑ k, h k) len
/-- The centred row. -/
def cen (k : Fin 1024) : EReal := h k - mean h
/-- The variance, the small number added. -/
def vari : EReal := Ideal.div (∑ k, cen h k * cen h k) len + small
/-- The reciprocal deviation. -/
def rdev : EReal := Ideal.rsqrt (vari h)

/-- The kernel's gradient. -/
def kern (k : Fin 1024) : EReal :=
  rdev h * (d k - Ideal.div (∑ j, d j) len - cen h k * rdev h * Ideal.div (∑ j, d j * (cen h j * rdev h)) len)

/-- The variance's gradient, divided by the row's length. -/
def dvar : EReal :=
  Ideal.div ((∑ j, cen h j * d j) * (Ideal.ofBits .f32 3204448256#32 * Ideal.div (rdev h) (vari h))) len

/-- The reference's gradient: through the variance, then through the mean. -/
def refr (k : Fin 1024) : EReal :=
  d k * rdev h + dvar h d * (Ideal.ofBits .f32 1073741824#32 * cen h k)
    + Ideal.div (∑ j, -(d j * rdev h) + ∑ j, -(dvar h d * (Ideal.ofBits .f32 1073741824#32 * cen h j))) len

end

/-- A sum that is a real has real terms. -/
theorem real_of_sum {ι : Type*} (s : Finset ι) (f : ι → EReal) (r : ℝ) (e : ∑ i ∈ s, f i = r) : ∀ i ∈ s, ∃ y : ℝ, f i = y := by
  classical
  induction s using Finset.induction_on generalizing r with
  | empty => simp
  | insert a s ha ih =>
    rw [Finset.sum_insert ha] at e
    have split : ∀ x y : EReal, x + y = r → (∃ p : ℝ, x = p) ∧ ∃ q : ℝ, y = q := by
      intro x y e
      induction x <;> induction y <;> simp_all
    obtain ⟨h1, q, h2⟩ := split _ _ e
    intro i hi
    rcases Finset.mem_insert.mp hi with rfl | hi
    · exact h1
    · exact ih q h2 i hi

/-- A row of infinities sums to infinity. -/
theorem sum_top : ∑ _k : Fin 1024, (⊤ : EReal) = ⊤ := by
  rw [Fin.sum_univ_succ]
  refine EReal.top_add_of_ne_bot fun e => ?_
  have : (0 : EReal) ≤ ∑ _k : Fin 1023, (⊤ : EReal) := Finset.sum_nonneg fun _ _ => le_top
  rw [e] at this
  simp at this

theorem div_len_top : Ideal.div ⊤ len = ⊤ := by
  rw [len, lit_1024, Ideal.div_coe (by norm_num)]
  exact EReal.top_mul_coe_of_pos (by norm_num)
theorem div_len_bot : Ideal.div ⊥ len = ⊥ := by
  rw [len, lit_1024, Ideal.div_coe (by norm_num)]
  exact EReal.bot_mul_coe_of_pos (by norm_num)
theorem div_len_zero : Ideal.div 0 len = 0 := by
  rw [len, lit_1024, Ideal.div_coe (by norm_num), zero_mul]

/-- A row whose sum is no real has an infinite variance. -/
theorem vari_top (h : Fin 1024 → EReal) (hs : ¬∃ r : ℝ, ∑ k, h k = r) : vari h = ⊤ := by
  have hm : mean h = ⊤ ∨ mean h = ⊥ := by
    unfold mean
    generalize ∑ k, h k = s at hs
    induction s with
    | bot => exact .inr div_len_bot
    | top => exact .inl div_len_top
    | coe r => exact absurd ⟨r, rfl⟩ hs
  have hc : ∀ k, cen h k * cen h k = ⊤ := by
    intro k
    unfold cen
    generalize h k = x
    rcases hm with e | e <;> rw [e] <;> induction x <;> simp [sub_eq_add_neg]
  unfold vari
  simp only [hc]
  rw [sum_top, div_len_top, small, lit_eps]
  exact EReal.top_add_coe _

theorem rdev_zero (h : Fin 1024 → EReal) (hv : vari h = ⊤) : rdev h = 0 := by
  unfold rdev; rw [hv]; rfl

theorem row_same (h d : Fin 1024 → EReal) (hd : ∀ k, ∃ y : ℝ, d k = y) (k : Fin 1024) : kern h d k = refr h d k := by
  by_cases hs : ∃ r : ℝ, ∑ k, h k = r
  · obtain ⟨r, hr⟩ := hs
    choose s hs using fun k => real_of_sum _ _ r hr k (Finset.mem_univ k)
    choose y hy using hd
    have em : mean h = (((∑ k, s k) / 1024 : ℝ) : EReal) := by
      unfold mean
      simp only [hs, ← coe_sum]
      rw [len, lit_1024, div_real _ (by norm_num)]
    have ec : ∀ k, cen h k = ((s k - (∑ k, s k) / 1024 : ℝ) : EReal) := by
      intro k
      unfold cen
      rw [em, hs, ← EReal.coe_sub]
    have z := centred_sum s (by norm_num : ((1024 : ℕ) : ℝ) ≠ 0)
    simp only [Nat.cast_ofNat] at z
    generalize hx : (fun k => s k - (∑ k, s k) / 1024) = x at z
    have ex : ∀ k, s k - (∑ k, s k) / 1024 = x k := fun k => congrFun hx k
    simp only [ex] at ec z
    have ev : vari h = (((∑ k, x k * x k) / 1024 + eps : ℝ) : EReal) := by
      unfold vari
      simp only [ec, ← EReal.coe_mul, ← coe_sum]
      rw [len, small, lit_1024, lit_eps, div_real _ (by norm_num), ← EReal.coe_add]
    have hv : 0 < (∑ k, x k * x k) / 1024 + eps :=
      add_pos_of_nonneg_of_pos (div_nonneg (Finset.sum_nonneg fun k _ => mul_self_nonneg _) (by norm_num)) eps_pos
    generalize (∑ k, x k * x k) / 1024 + eps = v at ev hv
    have er : rdev h = (((Real.sqrt v)⁻¹ : ℝ) : EReal) := by
      unfold rdev
      rw [ev, Ideal.rsqrt_coe, if_neg hv.le.not_gt, if_neg hv.ne']
    unfold kern refr dvar
    simp only [er, ev, ec, hy, len, lit_1024, lit_two, lit_neg_half, div_real _ (by norm_num : (1024 : ℝ) ≠ 0),
      div_real _ hv.ne', ← EReal.coe_mul, ← EReal.coe_neg, ← coe_sum, ← EReal.coe_add, ← EReal.coe_sub]
    exact congrArg _ (rows_grad x y v 1024 hv z k).symm
  · have hr := rdev_zero h (vari_top h hs)
    have hq : Ideal.div 0 (vari h) = 0 := by
      rw [vari_top h hs, Ideal.div, if_neg (by simp)]; simp
    have hdv : dvar h d = 0 := by
      unfold dvar
      rw [hr, hq, mul_zero, mul_zero, div_len_zero]
    unfold kern refr
    rw [hdv, hr]
    simp only [zero_mul, mul_zero, neg_zero, Finset.sum_const_zero, add_zero, div_len_zero]

end Cert.Kernel12Ideal.Inp

end
-- ==== Proof.Inp.Run.lean ====
module
public import proofs.«01_k».proof.Proof.Gen.Kernel12Ideal.Frame
public import proofs.«01_k».proof.Proof.Gen.Kernel12Ideal.Skeleton
public import Idealize.ShloMosaic.Lib.Pipeline.ValueKit
public import Idealize.ShloMosaic.Lib.WritesUnit
@[expose] public section

set_option maxRecDepth 16384

noncomputable section

namespace Cert.Kernel12Ideal.Inp

open Cert.Kernel12Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

/-! # The body's two runs

At the first point the gradient of the head's rows is stored and the sums start at zero, at a later one the gradient
of a block of frames is stored and the sums go on. -/

/-- The first point's condition. -/
abbrev first (i : grid0.Coords) : Prop := (Scalar.cmpi .ne (Scalar.extui (Scalar.cmpi .eq (BitVec.ofNat 32 (i 0).val) 0#32)) 0#32) = 1#1

theorem first_iff (t : Fin cfg0.N) : first (grid0.coords t) ↔ t.val % 65 = 0 := by
  have ht : t.val < 65 := Nat.lt_of_lt_of_eq t.isLt N_0
  have e0 : (grid0.coords t 0).val = t.val / 1 % 65 := Pipeline.Grid.coords_val t 0 (by decide) rfl
  simp only [first, e0]
  word_cmp

theorem cond2_iff (t : Fin cfg0.N) : k0_cond2 (grid0.coords t) = 1#1 ↔ t.val % 65 = 0 := first_iff t

theorem cond3_iff (t : Fin cfg0.N) : k0_cond3 (grid0.coords t) = 1#1 ↔ ¬t.val % 65 = 0 := by
  have h : ∀ n : Fin 65, (Scalar.cmpi .ne (Scalar.extui (Scalar.cmpi .sgt (BitVec.ofNat 32 n.val) 0#32) : BitVec 32) 0#32) = 1#1 ↔ ¬n.val % 65 = 0 := by
    decide +kernel
  have ht : t.val < 65 := Nat.lt_of_lt_of_eq t.isLt N_0
  have e1 : (grid0.coords t 0).val = t.val / 1 % 65 := Pipeline.Grid.coords_val t 0 (by decide) rfl
  have e0 : (grid0.coords t 0).val = t.val := e1.trans (by omega)
  refine Iff.trans ?_ (h ⟨t.val, ht⟩)
  unfold k0_cond3
  simp only [e0]

/-- Reading after a list of writes is the newest piece laid over the read after the rest. -/
theorem read_writes_overlay {sig' : RefSig} {κ : Kind} {sp : Space} {s : Shape} {e : EltTy} {Val : EltTy → Type} (v : View sig' κ sp s e)
    (f : v.ty.Contents Val) (p : View.Piece Val s e) (L : List (View.Piece Val s e)) :
    v.read Val (v.writes Val f (p :: L)) = p.1.overlay (v.read Val (v.writes Val f L)) p.2 := by
  funext y
  by_cases hy : y ∈ p.1.set
  · rw [← Rect.map_emb_univ, Finset.mem_map] at hy; obtain ⟨x, -, rfl⟩ := hy
    rw [View.read_writes_cons_emb, p.1.overlay_emb]
  · rw [View.read_writes_cons_miss _ _ _ _ _ hy, p.1.overlay_of_not_mem _ _ hy]

/-- What is read: a block of rows, its reciprocal deviations, the gain, the sums' two rows. -/
abbrev rX : Rect S128x1024 := Rect.unit (s := S128x1024) ![0, 0] S128x1024.size inb_S128x1024_S128x1024_0_0
abbrev rS : Rect S128x1 := Rect.unit (s := S128x1) ![0, 0] S128x1.size inb_S128x1_S128x1_0_0
abbrev rG : Rect S2x1024 := Rect.unit (s := S2x1024) ![0, 0] S1x1024.size inb_S2x1024_S1x1024_0_0
abbrev rC0 : Rect S8x1024 := Rect.unit (s := S8x1024) ![0, 0] S1x1024.size inb_S8x1024_S1x1024_0_0
abbrev rC1 : Rect S8x1024 := Rect.unit (s := S8x1024) ![1, 0] S1x1024.size inb_S8x1024_S1x1024_1_0

/-- The second row's contents, past the first. -/
theorem ld_skip (xa : Vec F S8x1024 .f32) (w : Vec F S1x1024 .f32) :
    View.ld (rC0.overlay xa w) rC1 = View.ld xa rC1 := by
  funext y
  refine rC0.overlay_of_not_mem xa w ?_
  rw [← Rect.map_emb_univ]
  intro h
  obtain ⟨z, -, hz⟩ := Finset.mem_map.mp h
  have := congrArg (fun q : S8x1024.Idx => (q 0).val) hz
  have hz0 : (z 0).val < 1 := (z 0).isLt
  have e0 : ((rC0.emb z) 0).val = (z 0).val := by simp
  have e1 : (((rC1 : Rect S8x1024).emb y) 0).val = 1 + (y 0).val := by simp
  have : (z 0).val = 1 + (y 0).val := e0.symm.trans (this.trans e1)
  omega

section
variable (x0 x1 : Vec F S128x1024 .f32) (x2 : Vec F S128x1 .f32) (x3 : Vec F S2x1024 .f32)

/-- A block's gradient. -/
def outV : FVec F S128x1024 .f32 :=
  k0_pay1 (k0_pay4 (View.ld x1 rX)) (k0_pay7 (View.ld x0 rX) (View.ld x3 rG)) (k0_pay8 (View.ld x2 rS))
    (k0_pay9 (View.ld x0 rX) (View.ld x3 rG)) (k0_pay10 (View.ld x0 rX) (View.ld x1 rX) (View.ld x3 rG))

/-- The sums, from what they were. -/
def accV (xa : Vec F S8x1024 .f32) : Vec F S8x1024 .f32 :=
  rC1.overlay (rC0.overlay xa (k0_pay5 (View.ld x0 rX) (View.ld x1 rX) (View.ld xa rC0)))
    (k0_pay6 (View.ld x0 rX) (View.ld xa rC1))

end

set_option maxHeartbeats 1000000 in
/-- The first point: the block of frames stays as it was found. -/
theorem run_first (c : Dev nD) (i : grid0.Coords) (arg1 : Memref sig .tc .vmem S128x1024 .f32) (harg1 : arg1.IsWhole) (arg2 : Memref sig .tc .vmem S128x1024 .f32) (harg2 : arg2.IsWhole) (arg3 : Memref sig .tc .vmem S128x1 .f32) (harg3 : arg3.IsWhole) (arg4 : Memref sig .tc .vmem S2x1024 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S8x1024 .f32) (harg7 : arg7.IsWhole)
    (h1 : first i) (h2 : k0_cond2 i = 1#1) (h3 : ¬k0_cond3 i = 1#1) (x0 x1 : Vec F S128x1024 .f32) (x2 : Vec F S128x1 .f32) (x3 : Vec F S2x1024 .f32) (x4 x5 : Vec F S128x1024 .f32) (x6 : Vec F S8x1024 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (outV x0 x1 x2 x3) ∗ owns (c : Thread nD τ) arg7 fullShare (accV x0 x1 k0_pay2)) -∗ K ⟨⟩))
      ⊢ wp frame (wpE (defs₀ (F := F)) Variants.none c none) E (cc0_ln_in_bwd i arg1 harg1 arg2 harg2 arg3 harg3 arg4 harg4 arg5 harg5 arg6 harg6 arg7 harg7) K := by
    simp only [cc0_ln_in_bwd_eq_skeleton]; unfold cc0_ln_in_bwd_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6
    sl_exec (disch := first | sl_exact h1 | sl_exact h2 | sl_exact h3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      rw [View.read_writes_eq_canon _ _ _ (View.cover_of_tiledBy _ ![128, 1024] (by sl_kernel_rfl)), View.canon_cons_unit_lit _ _ _ (by decide)]
      sl_unfold_words
      simp only [View.readAt_eq_ld, harg1.read_unread, harg2.read_unread, harg3.read_unread, harg4.read_unread, harg7.read_unread]
      rfl
    iexists _; isplitr; swap; · iexact H6
    ipureintro
    sl_unfold_words
    rw [read_writes_overlay, read_writes_overlay]
    have e : ∀ f, arg7.view.read (Elt F) (arg7.view.writes (Elt F) f [(⟨Rect.unit (s := S8x1024) ![0, 0] S8x1024.size inb_S8x1024_S8x1024_0_0, k0_pay2⟩ : View.Piece (Elt F) S8x1024 .f32)]) = k0_pay2 := fun f => by
      rw [View.read_writes_eq_canon _ _ _ (View.cover_of_tiledBy _ ![8, 1024] (by sl_kernel_rfl)), View.canon_cons_unit_lit _ _ _ (by decide)]
    simp only [View.readCov, View.readAt_eq_ld, e, harg1.read_unread, harg2.read_unread, harg3.read_unread, harg4.read_unread, harg7.read_unread]
    rw [read_writes_overlay, e]
    rw [ld_skip]
    rfl

set_option maxHeartbeats 1000000 in
/-- A later point: the head's block stays as it was found. -/
theorem run_later (c : Dev nD) (i : grid0.Coords) (arg1 : Memref sig .tc .vmem S128x1024 .f32) (harg1 : arg1.IsWhole) (arg2 : Memref sig .tc .vmem S128x1024 .f32) (harg2 : arg2.IsWhole) (arg3 : Memref sig .tc .vmem S128x1 .f32) (harg3 : arg3.IsWhole) (arg4 : Memref sig .tc .vmem S2x1024 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S8x1024 .f32) (harg7 : arg7.IsWhole)
    (h1 : ¬first i) (h2 : ¬k0_cond2 i = 1#1) (h3 : k0_cond3 i = 1#1) (x0 x1 : Vec F S128x1024 .f32) (x2 : Vec F S128x1 .f32) (x3 : Vec F S2x1024 .f32) (x4 x5 : Vec F S128x1024 .f32) (x6 : Vec F S8x1024 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (outV x0 x1 x2 x3) ∗ owns (c : Thread nD τ) arg6 fullShare x5 ∗ owns (c : Thread nD τ) arg7 fullShare (accV x0 x1 x6)) -∗ K ⟨⟩))
      ⊢ wp frame (wpE (defs₀ (F := F)) Variants.none c none) E (cc0_ln_in_bwd i arg1 harg1 arg2 harg2 arg3 harg3 arg4 harg4 arg5 harg5 arg6 harg6 arg7 harg7) K := by
    simp only [cc0_ln_in_bwd_eq_skeleton]; unfold cc0_ln_in_bwd_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6
    sl_exec (disch := first | sl_exact h1 | sl_exact h2 | sl_exact h3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      rw [View.read_writes_eq_canon _ _ _ (View.cover_of_tiledBy _ ![128, 1024] (by sl_kernel_rfl)), View.canon_cons_unit_lit _ _ _ (by decide)]
      sl_unfold_words
      simp only [View.readAt_eq_ld, harg1.read_unread, harg2.read_unread, harg3.read_unread, harg4.read_unread, harg7.read_unread]
      rfl
    isplitl [H5]
    · iexists _; isplitr; · ipureintro; exact harg6.read_unread _
      iexact H5
    iexists _; isplitr; swap; · iexact H6
    ipureintro
    sl_unfold_words
    rw [read_writes_overlay, read_writes_overlay]
    simp only [View.writes_nil, View.readAt_eq_ld, harg1.read_unread, harg2.read_unread, harg3.read_unread, harg4.read_unread, harg7.read_unread]
    rfl

end Cert.Kernel12Ideal.Inp

end
-- ==== Proof.Inp.Frame.lean ====
module
public import proofs.«01_k».proof.Proof.Inp.Run
public import Idealize.ShloMosaic.Lib.Claim
@[expose] public section

set_option maxRecDepth 16384

noncomputable section

namespace Cert.Kernel12Ideal.Inp

open Cert.Kernel12Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window RDat BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The input normalisation's frame

The frames' gradient, the head's, which the first point leaves and the last writes back, and the sums are followed
from their stores to their arrays. -/

abbrev ms0_0 (t : Fin cfg0.N) : Memref sig .tc .vmem S128x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x1024 .f32 := win0_6.stage (cfg0.slots t 6)
abbrev hs0_6 (t : Fin cfg0.N) : (ms0_6 t).IsWhole := hstage0_6 ((cfg0.slots t 6).cast nbuf0_6)

/-- The point of a number, -/
def pt (n : ℕ) : Fin cfg0.N := ⟨n % 65, lt_of_lt_of_eq (Nat.mod_lt _ (by decide)) (show 65 = cfg0.N from N_0.symm)⟩

theorem pt_val (t : Fin cfg0.N) : pt t.val = t :=
  Fin.ext (Nat.mod_eq_of_lt (lt_of_lt_of_eq t.isLt (show cfg0.N = 65 from N_0)))

/-- the blocks staged there, -/
def X0 (c : Dev nD) (t : Fin cfg0.N) : Vec F S128x1024 .f32 := iblk m c 0 t
def X1 (c : Dev nD) (t : Fin cfg0.N) : Vec F S128x1024 .f32 := iblk m c 1 t
def X2 (c : Dev nD) (t : Fin cfg0.N) : Vec F S128x1 .f32 := iblk m c 2 t
def X3 (c : Dev nD) (t : Fin cfg0.N) : Vec F S2x1024 .f32 := iblk m c 3 t

/-- the gradient of its rows, -/
def dxAt (c : Dev nD) (t : Fin cfg0.N) : Vec F S128x1024 .f32 := outV (X0 m c t) (X1 m c t) (X2 m c t) (X3 m c t)

/-- and the sums after it. -/
def accN (c : Dev nD) : ℕ → Vec F S8x1024 .f32
  | 0 => accV (X0 m c (pt 0)) (X1 m c (pt 0)) k0_pay2
  | n + 1 => accV (X0 m c (pt (n + 1))) (X1 m c (pt (n + 1))) (accN c n)

/-- The pipeline's data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => dxAt m c t
    | ⟨5, _⟩ => dxAt m c (pt 0)
    | ⟨6, _⟩ => accN m c t.val
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = dxAt m c t := by dsimp only [dats]

theorem after0_5 (c : Dev nD) (t : Fin cfg0.N) : (dats m 0 c).after 5 t = dxAt m c (pt 0) := by dsimp only [dats]
theorem after0_6 (c : Dev nD) (t : Fin cfg0.N) : (dats m 0 c).after 6 t = accN m c t.val := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The first point leaves the block of frames alone and does not write it back; a later one stores it. -/
theorem idle4 (t : Fin cfg0.N) : cfg0.idle 4 (cfg0.grid.coords t) = decide (t.val % 65 = 0) := by
  show (!(k0_cond3 (grid0.coords t) == 1#1)) = _
  by_cases h : t.val % 65 = 0
  · rw [decide_eq_true h, beq_eq_false_iff_ne.mpr fun e => (cond3_iff t).mp e h]; rfl
  · rw [decide_eq_false h, beq_iff_eq.mpr ((cond3_iff t).mpr h)]; rfl

theorem flush4 : ∀ t : Fin cfg0.N, t.val % 65 = 0 → (cfg0.win 4).flush t = false := by
  decide +kernel

/-- The head's block is stored at the first point only. -/
theorem idle5 (t : Fin cfg0.N) : cfg0.idle 5 (cfg0.grid.coords t) = decide (¬t.val % 65 = 0) := by
  show (!(k0_cond2 (grid0.coords t) == 1#1)) = _
  by_cases h : t.val % 65 = 0
  · rw [decide_eq_false (not_not.mpr h), beq_iff_eq.mpr ((cond2_iff t).mpr h)]; rfl
  · rw [decide_eq_true h, beq_eq_false_iff_ne.mpr fun e => h ((cond2_iff t).mp e)]; rfl

/-- At a later point it is still there. -/
theorem before0_5 (c : Dev nD) (n : ℕ) (t : Fin cfg0.N) (ht : t.val = n + 1) (d) : (dats m 0 c).before 5 t d = dxAt m c (pt 0) := by
  have hN : t.val < 65 := lt_of_lt_of_eq t.isLt (show cfg0.N = 65 from N_0)
  have h0 : t.val ≠ 0 := by omega
  have hf : (cfg0.win 5).flush ⟨t.val - 1, Nat.lt_of_le_of_lt (Nat.sub_le _ _) t.isLt⟩ = false :=
    Bool.eq_false_iff.mpr fun h => by
      have := (flush0_5 _).mp h
      dsimp only at this
      omega
  rw [(dats m 0 c).before_of_pos 5 t h0 rfl, hf, if_neg Bool.false_ne_true]
  unfold Dat.left
  have hi := idle5 ⟨t.val - 1, Nat.lt_of_le_of_lt (Nat.sub_le _ _) t.isLt⟩
  match n with
  | 0 =>
    rw [decide_eq_false (not_not.mpr (by show (t.val - 1) % 65 = 0; omega))] at hi
    rw [hi]
    rfl
  | n + 1 =>
    rw [decide_eq_true (by show ¬(t.val - 1) % 65 = 0; omega)] at hi
    rw [hi]
    exact before0_5 c n _ (by show t.val - 1 = n + 1; omega) d

/-- At a later point the sums are what the point before left. -/
theorem before0_6 (c : Dev nD) (t : Fin cfg0.N) (ht : t.val ≠ 0) (d) : (dats m 0 c).before 6 t d = accN m c (t.val - 1) := by
  have hN : t.val < 65 := lt_of_lt_of_eq t.isLt (show cfg0.N = 65 from N_0)
  rw [(dats m 0 c).before_out_kept 6 rfl t ht ?_ (fun _ => rfl) (fun _ _ => rfl), after0_6]
  refine Bool.eq_false_iff.mpr fun h => ?_
  have := (flush0_6 _).mp h
  dsimp only at this
  omega

theorem acc_succ (c : Dev nD) (t : Fin cfg0.N) (ht : t.val ≠ 0) :
    accN m c t.val = accV (X0 m c t) (X1 m c t) (accN m c (t.val - 1)) := by
  obtain ⟨n, hn⟩ := Nat.exists_eq_succ_of_ne_zero ht
  rw [hn, Nat.succ_sub_one]
  show accV (X0 m c (pt n.succ)) (X1 m c (pt n.succ)) (accN m c n) = _
  rw [← hn, pt_val]

theorem acc_zero (c : Dev nD) (t : Fin cfg0.N) (ht : t.val = 0) : accN m c t.val = accV (X0 m c t) (X1 m c t) k0_pay2 := by
  rw [ht]
  show accV (X0 m c (pt 0)) (X1 m c (pt 0)) k0_pay2 = _
  rw [← ht, pt_val]

/-- What the body is called with, and what it leaves, `p` of the block of frames and `q` of the head's. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) (p q : sProp 𝕄) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ p
    ∗ q
    ∗ owns (c : Thread nD τ) (ms0_6 t) fullShare ((dats m 0 c).after 6 t))

set_option maxHeartbeats 1600000 in
/-- The body at the first point. -/
theorem sound_first (c : Dev nD) (t : Fin cfg0.N) (h : t.val % 65 = 0) :
    bodyPre m c t ⊢ wp frame (wpE (defs₀ (F := F)) Variants.none c none) Set.univ (bodyAt0 t)
      (fun _ => bodyPost m c t iprop(∃ d, owns (c : Thread nD τ) (ms0_4 t) fullShare ((dats m 0 c).before 4 t d)) iprop(owns (c : Thread nD τ) (ms0_5 t) fullShare ((dats m 0 c).after 5 t))) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 65 := lt_of_lt_of_eq t.isLt (show cfg0.N = 65 from N_0)
  have ht : t.val = 0 := by omega
  have hp : pt 0 = t := by rw [← ht]; exact pt_val t
  rw [after0_5, after0_6, acc_zero m c t ht, hp]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (run_first (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((first_iff t).mpr h) ((cond2_iff t).mpr h) (fun e => (cond3_iff t).mp e h) (X0 m c t) (X1 m c t) (X2 m c t) (X3 m c t) _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexists d4; iexact H4
  isplitl [H5]; · iexact H5
  iexact H6

set_option maxHeartbeats 1600000 in
/-- The body at a later point, which leaves the head's block where it is. -/
theorem sound_later (c : Dev nD) (t : Fin cfg0.N) (h : ¬t.val % 65 = 0) (q : sProp 𝕄)
    (hq : owns (c : Thread nD τ) (ms0_5 t) fullShare (dxAt m c (pt 0)) ⊢ q) :
    bodyPre m c t ⊢ wp frame (wpE (defs₀ (F := F)) Variants.none c none) Set.univ (bodyAt0 t)
      (fun _ => bodyPost m c t iprop(owns (c : Thread nD τ) (ms0_4 t) fullShare ((dats m 0 c).after 4 t)) q) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  have ht : t.val ≠ 0 := fun e => h (by rw [e])
  obtain ⟨n, hn⟩ := Nat.exists_eq_succ_of_ne_zero ht
  rw [after0_4, after0_6, acc_succ m c t ht]
  simp only [before0_5 m c n t hn, before0_6 m c t ht]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (run_later (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun e => h ((first_iff t).mp e)) (fun e => h ((cond2_iff t).mp e)) ((cond3_iff t).mpr h) (X0 m c t) (X1 m c t) (X2 m c t) (X3 m c t) _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iapply hq; iexact H5
  iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationLoose (dats (F := F) m 0 c) (defs₀ (F := F)) Variants.none () Set.univ := fun t => by
  have hN : t.val < 65 := lt_of_lt_of_eq t.isLt (show cfg0.N = 65 from N_0)
  rw [bigSep_W0, bigSep_W0, defs₀_row]
  by_cases h : t.val % 65 = 0
  · have hi : cfg0.idle 4 (cfg0.grid.coords t) = true := (idle4 t).trans (decide_eq_true h)
    have hj : cfg0.idle 5 (cfg0.grid.coords t) = false := (idle5 t).trans (decide_eq_false (not_not.mpr h))
    rw [hi, flush4 t h, hj]
    exact triple_restated (sound_first m c t h) rfl .rfl fun _ => .rfl
  · have hi : cfg0.idle 4 (cfg0.grid.coords t) = false := (idle4 t).trans (decide_eq_false h)
    have hj : cfg0.idle 5 (cfg0.grid.coords t) = true := (idle5 t).trans (decide_eq_true h)
    have ht : t.val ≠ 0 := fun e => h (by rw [e])
    obtain ⟨n, hn⟩ := Nat.exists_eq_succ_of_ne_zero ht
    by_cases hl : t.val % 65 = 64
    · rw [hi, hj, (flush0_5 t).mpr hl]
      exact triple_restated (sound_later m c t h _ (by rw [← after0_5 m c t])) rfl .rfl fun _ => .rfl
    · rw [hi, hj, Bool.eq_false_iff.mpr fun e => hl ((flush0_5 t).mp e)]
      refine triple_restated (sound_later m c t h iprop(∃ d, owns (c : Thread nD τ) (ms0_5 t) fullShare ((dats m 0 c).before 5 t d)) ?_) rfl .rfl fun _ => .rfl
      simp only [before0_5 m c n t hn]
      iintro H
      iexists (dxAt m c (pt 0))
      iexact H

/-! ## The run -/

set_option backward.isDefEq.respectTransparency.types false in
set_option maxHeartbeats 800000 in
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := body_obligation m) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel12Ideal.Inp

end
-- ==== Proof.Inp.Kern.lean ====
module
public import proofs.«01_k».proof.Proof.Inp.Row
public import proofs.«01_k».proof.Proof.Inp.Frame
public import Idealize.ShloMosaic.Lib.Pipeline.ValueKit
public import Idealize.ShloMosaic.Lib.Pointwise
public import Idealize.ShloMosaic.Lib.StableHlo.RunRead
@[expose] public section

set_option maxRecDepth 16384

noncomputable section

namespace Cert.Kernel12Ideal.Inp

open Cert.Kernel12Ideal.Gen
open Idealize.ShloMosaic Idealize.ShloMosaic.TcCoe
open scoped BigOperators

/-! # The input normalisation's blocks, its gradient and its sums -/

variable (m : (ℓ : Loc nD τ sig) → Buf (Elt Ideal) ℓ) (c : Dev nD)

/-- A row of the stream behind the padding. -/
def up (r : Fin 8208) : Fin 8320 := ⟨112 + r.val, by omega⟩

/-- A row of the stream, the head's first and then the frames', and the gradient behind the gain. -/
def frm (x : FVec Ideal S8192x1024 .f32) (h : FVec Ideal S16x1024 .f32) (r : Fin 8208) (k : Fin 1024) : EReal :=
  if hr : r.val < 16 then h (ix2 ⟨r.val, hr⟩ k) else x (ix2 ⟨r.val - 16, by omega⟩ k)
def grad (g : FVec Ideal S1024 .f32) (dy : FVec Ideal S8208x1024 .f32) (r : Fin 8208) (k : Fin 1024) : EReal :=
  dy (ix2 r k) * g (ix1 k)

abbrev frmK : Fin 8208 → Fin 1024 → EReal := frm (m ((c : Thread nD τ).loc main_arg0)) (m ((c : Thread nD τ).loc main_arg1))
abbrev gradK : Fin 8208 → Fin 1024 → EReal := grad (m ((c : Thread nD τ).loc main_arg2)) (m ((c : Thread nD τ).loc main_arg4))

theorem frm_head (x : FVec Ideal S8192x1024 .f32) (h : FVec Ideal S16x1024 .f32) (r : Fin 8208) (hr : r.val < 16) :
    frm x h r = fun k => h (ix2 ⟨r.val, hr⟩ k) := funext fun k => dif_pos hr
theorem frm_body (x : FVec Ideal S8192x1024 .f32) (h : FVec Ideal S16x1024 .f32) (r : Fin 8208) (hr : ¬r.val < 16) :
    frm x h r = fun k => x (ix2 ⟨r.val - 16, by omega⟩ k) := funext fun k => dif_neg hr

/-- Every window's block index at a point. -/
theorem idx : ∀ t : Fin grid0.N, win0_0.index t = ![t.val, 0] ∧ win0_1.index t = ![t.val, 0]
    ∧ win0_2.index t = ![t.val, 0] ∧ win0_3.index t = ![0, 0] ∧ win0_4.index t = ![t.val - 1, 0] := by
  decide +kernel

/-- Such a row is no padding. -/
theorem up_pad (r : Fin 8208) : ¬(up r).val < 112 := by show ¬(112 + r.val < 112); omega
theorem up_head (r : Fin 8208) : ((up r).val - 112 < 16) = (r.val < 16) := by
  show (112 + r.val - 112 < 16) = _; rw [Nat.add_sub_cancel_left]
theorem up_sub (r : Fin 8208) : (up r).val - 112 = r.val := Nat.add_sub_cancel_left ..

theorem upto_x : StableHlo.upto [hostOps0].flatten (fun b => m (c, b)) 2 (Proc.tc.devRef main_arg0)
    = (m ((c : Thread nD τ).loc main_arg0) : Vec Ideal S8192x1024 .f32) := by
  after_reads_simp
theorem upto_h : StableHlo.upto [hostOps0].flatten (fun b => m (c, b)) 2 (Proc.tc.devRef main_arg1)
    = (m ((c : Thread nD τ).loc main_arg1) : Vec Ideal S16x1024 .f32) := by
  after_reads_simp

/-- The host's values in a row. -/
theorem host_dy (r : Fin 8208) (k : Fin 1024) : (V m c main_v16 : Vec Ideal S8320x1024 .f32) (ix2 (up r) k)
    = (m ((c : Thread nD τ).loc main_arg4) : Vec Ideal S8208x1024 .f32) (ix2 r k) := by
  unfold V
  after_reads_simp
  pointwise
  simp only [up_pad, dite_false]
  exact congrArg (fun q => (m ((c : Thread nD τ).loc main_arg4) : Vec Ideal S8208x1024 .f32) (ix2 q k)) (Fin.ext (up_sub r))

/-- The padding's gradient is zero. -/
theorem host_pad (q : Fin 8320) (h : q.val < 112) (k : Fin 1024) : (V m c main_v16 : Vec Ideal S8320x1024 .f32) (ix2 q k) = (0 : EReal) := by
  unfold V
  after_reads_simp
  pointwise
  simp only [h, dite_true]

theorem host_rdev (r : Fin 8208) (k : Fin 1) : (V m c main_v15 : Vec Ideal S8320x1 .f32) (ix2 (up r) k) = rdev (frmK m c r) := by
  unfold V
  after_reads_simp
  pointwise
  by_cases hr : r.val < 16
  · simp only [up_pad, up_head, hr, dite_false, dite_true, up_sub]
    rw [upto_h, show frmK m c r = _ from frm_head _ _ r hr]
    rfl
  · simp only [up_pad, up_head, hr, dite_false, up_sub]
    rw [upto_x, show frmK m c r = _ from frm_body _ _ r hr]
    rfl

theorem host_xh (r : Fin 8208) (k : Fin 1024) : (V m c main_v20 : Vec Ideal S8320x1024 .f32) (ix2 (up r) k)
    = cen (frmK m c r) k * rdev (frmK m c r) := by
  unfold V
  after_reads_simp
  pointwise
  by_cases hr : r.val < 16
  · simp only [up_pad, up_head, hr, dite_false, dite_true, up_sub]
    rw [upto_h, show frmK m c r = _ from frm_head _ _ r hr]
    rfl
  · simp only [up_pad, up_head, hr, dite_false, up_sub]
    rw [upto_x, show frmK m c r = _ from frm_body _ _ r hr]
    rfl

theorem host_gain (k : Fin 1024) : (V m c main_v23 : Vec Ideal S2x1024 .f32) (ix2 (0 : Fin 2) k)
    = (m ((c : Thread nD τ).loc main_arg2) : Vec Ideal S1024 .f32) (ix1 k) := by
  unfold V
  after_reads_simp
  pointwise

/-- The blocks. -/
theorem blk0 (t : Fin cfg0.N) (i : Fin 128) (k : Fin 1024) (r : Fin 8320) (h : r.val = 128 * t.val + i.val) :
    (iblk m c 0 t : Vec Ideal S128x1024 .f32) (ix2 i k) = (V m c main_v16 : Vec Ideal S8320x1024 .f32) (ix2 r k) := by
  have e := (idx t).1
  blk_ext [iblk, e]
theorem blk1 (t : Fin cfg0.N) (i : Fin 128) (k : Fin 1024) (r : Fin 8320) (h : r.val = 128 * t.val + i.val) :
    (iblk m c 1 t : Vec Ideal S128x1024 .f32) (ix2 i k) = (V m c main_v20 : Vec Ideal S8320x1024 .f32) (ix2 r k) := by
  have e := (idx t).2.1
  blk_ext [iblk, e]
theorem blk2 (t : Fin cfg0.N) (i : Fin 128) (k : Fin 1) (r : Fin 8320) (h : r.val = 128 * t.val + i.val) :
    (iblk m c 2 t : Vec Ideal S128x1 .f32) (ix2 i k) = (V m c main_v15 : Vec Ideal S8320x1 .f32) (ix2 r k) := by
  have e := (idx t).2.2.1
  blk_ext [iblk, e]
theorem blk3 (t : Fin cfg0.N) (i : Fin 2) (k : Fin 1024) :
    (iblk m c 3 t : Vec Ideal S2x1024 .f32) (ix2 i k) = (V m c main_v23 : Vec Ideal S2x1024 .f32) (ix2 i k) := by
  have e := (idx t).2.2.2.1
  blk_ext [iblk, e]

/-- The host's gradient and normalised rows, and the gradient it is given. -/
abbrev V16 : S8320x1024.Idx → EReal := V m c main_v16
abbrev V20 : S8320x1024.Idx → EReal := V m c main_v20
abbrev DY : S8208x1024.Idx → EReal := m ((c : Thread nD τ).loc main_arg4)

/-- A point's gradient. -/
theorem dx_at (t : Fin cfg0.N) (i : Fin 128) (k : Fin 1024) (r : Fin 8208) (hr : 112 + r.val = 128 * t.val + i.val) :
    dxAt m c t (ix2 i k) = kern (frmK m c r) (gradK m c r) k := by
  unfold dxAt outV X0 X1 X2 X3 k0_pay1 k0_pay10 k0_pay9 k0_pay8 k0_pay7 k0_pay4 k0_pay3
  pointwise
  simp only [fun k => (blk0 m c t i k (up r) hr).trans (host_dy m c r k), fun k => (blk1 m c t i k (up r) hr).trans (host_xh m c r k),
    fun k => (blk2 m c t i k (up r) hr).trans (host_rdev m c r k), fun k => (blk3 m c t 0 k).trans (host_gain m c k)]
  rfl

section
variable (x0 x1 : Vec Ideal S128x1024 .f32) (A : Vec Ideal S8x1024 .f32)

/-- Row 0 of the sums: the products of the incoming gradient and the normalised rows, over the block. -/
theorem acc_row0 (k : Fin 1024) : accV x0 x1 A (ix2 (0 : Fin 8) k) = A (ix2 0 k) + ∑ i : Fin 128, x0 (ix2 i k) * x1 (ix2 i k) := by
  have e0 : (ix2 (0 : Fin 8) k : S8x1024.Idx) = rC0.emb (ix2 (0 : Fin 1) k) := by
    funext a; refine Fin.ext ?_; fin_cases a <;> simp [ix2]
  unfold accV
  rw [Rect.overlay_of_not_mem]
  · conv_lhs => rw [e0]
    rw [Rect.overlay_emb]
    pointwise [k0_pay5, k0_pay4, k0_pay3]
  · rw [← Rect.map_emb_univ]
    intro h
    obtain ⟨y, -, hy⟩ := Finset.mem_map.mp h
    have := congrArg (fun z : S8x1024.Idx => (z 0).val) hy
    simp [ix2] at this

/-- Row 1: the incoming gradient's. -/
theorem acc_row1 (k : Fin 1024) : accV x0 x1 A (ix2 (1 : Fin 8) k) = A (ix2 1 k) + ∑ i : Fin 128, x0 (ix2 i k) := by
  have e1 : (ix2 (1 : Fin 8) k : S8x1024.Idx) = rC1.emb (ix2 (0 : Fin 1) k) := by
    funext a; refine Fin.ext ?_; fin_cases a <;> simp [ix2]
  unfold accV
  conv_lhs => rw [e1]
  rw [Rect.overlay_emb]
  pointwise [k0_pay6, k0_pay3]
end

/-- They start at zero. -/
theorem acc_start (i : Fin 8) (k : Fin 1024) : k0_pay2 (F := Ideal) (ix2 i k) = 0 := by
  pointwise [k0_pay2]

/-- A row of a point's block. -/
def row (t : Fin cfg0.N) (i : Fin 128) : Fin 8320 :=
  ⟨128 * t.val + i.val, by have := lt_of_lt_of_eq t.isLt (show cfg0.N = 65 from N_0); omega⟩

/-- A sum over all rows, point by point. -/
theorem sum_rows (f : Fin 8320 → EReal) : ∑ j ∈ Finset.range 65, ∑ i : Fin 128, f (row (pt j) i) = ∑ r, f r := by
  rw [Finset.sum_range, ← Fintype.sum_prod_type' (fun (t : Fin 65) (i : Fin 128) => f (row (pt t.val) i))]
  refine Fintype.sum_equiv (finProdFinEquiv (m := 65) (n := 128)) _ _ fun x => congrArg f (Fin.ext ?_)
  have := x.1.isLt
  show 128 * (x.1.val % 65) + x.2.val = x.2.val + 128 * x.1.val
  omega

/-- The padding adds nothing. -/
theorem sum_up (f : Fin 8320 → EReal) (h : ∀ q, q.val < 112 → f q = 0) : ∑ q, f q = ∑ r, f (up r) := by
  refine (Fin.sum_univ_add (a := 112) (b := 8208) f).trans ?_
  rw [Finset.sum_eq_zero fun i _ => h _ i.isLt, zero_add]
  rfl

/-- The partial sums. -/
theorem acc0 (n : ℕ) (k : Fin 1024) : accN m c n (ix2 (0 : Fin 8) k)
    = ∑ j ∈ Finset.range (n + 1), ∑ i : Fin 128, V16 m c (ix2 (row (pt j) i) k)
        * V20 m c (ix2 (row (pt j) i) k) := by
  have e : ∀ t : Fin cfg0.N, (∑ i : Fin 128, (X0 m c t (ix2 i k) : EReal) * (X1 m c t (ix2 i k) : EReal)) = ∑ i : Fin 128,
      V16 m c (ix2 (row t i) k) * V20 m c (ix2 (row t i) k) :=
    fun t => Finset.sum_congr rfl fun i _ => congrArg₂ (fun p q : EReal => p * q) (blk0 m c t i k (row t i) rfl) (blk1 m c t i k (row t i) rfl)
  induction n with
  | zero =>
    unfold accN
    rw [acc_row0, acc_start, zero_add, Finset.sum_range_one, e]
  | succ n ih =>
    unfold accN
    rw [acc_row0, ih, Finset.sum_range_succ _ (n + 1), e]

theorem acc1 (n : ℕ) (k : Fin 1024) : accN m c n (ix2 (1 : Fin 8) k)
    = ∑ j ∈ Finset.range (n + 1), ∑ i : Fin 128, V16 m c (ix2 (row (pt j) i) k) := by
  have e : ∀ t : Fin cfg0.N, (∑ i : Fin 128, (X0 m c t (ix2 i k) : EReal)) = ∑ i : Fin 128,
      V16 m c (ix2 (row t i) k) :=
    fun t => Finset.sum_congr rfl fun i _ => blk0 m c t i k (row t i) rfl
  induction n with
  | zero =>
    unfold accN
    rw [acc_row1, acc_start, zero_add, Finset.sum_range_one, e]
  | succ n ih =>
    unfold accN
    rw [acc_row1, ih, Finset.sum_range_succ _ (n + 1), e]

/-- The sums after the last point. -/
theorem gain_sum (k : Fin 1024) : accN m c 64 (ix2 (0 : Fin 8) k)
    = ∑ r : Fin 8208, DY m c (ix2 r k) * (cen (frmK m c r) k * rdev (frmK m c r)) := by
  refine (acc0 m c 64 k).trans ((sum_rows fun q => V16 m c (ix2 q k)
    * V20 m c (ix2 q k)).trans ((sum_up _ fun q hq => ?_).trans (Finset.sum_congr rfl fun r _ => ?_)))
  · exact (congrArg (fun p : EReal => p * V20 m c (ix2 q k)) (host_pad m c q hq k)).trans (zero_mul _)
  · exact congrArg₂ (fun p q : EReal => p * q) (host_dy m c r k) (host_xh m c r k)

theorem bias_sum (k : Fin 1024) : accN m c 64 (ix2 (1 : Fin 8) k)
    = ∑ r : Fin 8208, DY m c (ix2 r k) :=
  (acc1 m c 64 k).trans ((sum_rows fun q => V16 m c (ix2 q k)).trans
    ((sum_up _ fun q hq => host_pad m c q hq k).trans (Finset.sum_congr rfl fun r _ => host_dy m c r k)))

end Cert.Kernel12Ideal.Inp

end
-- ==== Proof.Inp.Vals.lean ====
module
public import proofs.«01_k».proof.Proof.Inp.Kern
public import proofs.«01_k».proof.Proof.Gen.Reference12Ideal.Read
@[expose] public section

set_option maxRecDepth 16384

noncomputable section

namespace Cert.Kernel12Ideal.Inp

open Cert.Kernel12Ideal.Gen
open Idealize.ShloMosaic Idealize.ShloMosaic.TcCoe
open scoped BigOperators

/-! # The four gradients, in both programs -/

section
open Cert.Reference12Ideal.Read
variable (x0 : FVec Ideal S8192x1024 .f32) (x1 : FVec Ideal S16x1024 .f32) (x2 : FVec Ideal S1024 .f32) (x4 : FVec Ideal S8208x1024 .f32)

/-- The reference's stream. -/
theorem ref_v0 (r : Fin 8208) (k : Fin 1024) : val_main_v0 (F := Ideal) x0 x1 (ix2 r k) = frm x0 x1 r k := by
  unfold val_main_v0
  pointwise
  rfl

theorem ref_v15 (r : Fin 8208) (k : Fin 1024) : val_main_v15 (F := Ideal) x0 x1 (ix2 r k) = cen (frm x0 x1 r) k := by
  pointwise [val_main_v15, val_main_v14, val_main_v4, val_main_v2, val_main_v1, val_main_cst, val_main_v3, val_main_cst_0]
  simp only [ref_v0]
  rfl

theorem ref_v6 (r : Fin 8208) (k : Fin 1024) : val_main_v6 (F := Ideal) x0 x1 (ix2 r k) = cen (frm x0 x1 r) k := by
  pointwise [val_main_v6, val_main_v5, val_main_v4, val_main_v2, val_main_v1, val_main_cst, val_main_v3, val_main_cst_0]
  simp only [ref_v0]
  rfl

theorem ref_v17 (r : Fin 8208) (k : Fin 1) : val_main_v17 (F := Ideal) x0 x1 (ix2 r k) = vari (frm x0 x1 r) := by
  pointwise [val_main_v17, val_main_v13, val_main_v11, val_main_v10, val_main_v7, val_main_cst_2, val_main_v12, val_main_cst_3,
    val_main_v16, val_main_cst_4]
  simp only [ref_v6]
  rfl

theorem ref_v18 (r : Fin 8208) (k : Fin 1) : val_main_v18 (F := Ideal) x0 x1 (ix2 r k) = rdev (frm x0 x1 r) := by
  pointwise [val_main_v18]
  rw [ref_v17]
  rfl

theorem ref_v38 (r : Fin 8208) (k : Fin 1024) : val_main_v38 (F := Ideal) x2 x4 (ix2 r k) = grad x2 x4 r k := by
  pointwise [val_main_v38, val_main_v37, val_main_v30, val_main_v24]
  rfl

theorem ref_v50 (r : Fin 8208) (k : Fin 1) : val_main_v50 (F := Ideal) x0 x1 x2 x4 (ix2 r k) = dvar (frm x0 x1 r) (grad x2 x4 r) := by
  pointwise [val_main_v50, val_main_v45, val_main_v42, val_main_v41, val_main_v40, val_main_cst_10, val_main_v21, val_main_v20,
    val_main_cst_5, val_main_v19, val_main_v49, val_main_cst_12]
  simp only [ref_v15, ref_v17, ref_v18, ref_v38]
  rfl

theorem ref_v53 (r : Fin 8208) (k : Fin 1024) : val_main_v53 (F := Ideal) x0 x1 x2 x4 (ix2 r k)
    = dvar (frm x0 x1 r) (grad x2 x4 r) * (Ideal.ofBits .f32 1073741824#32 * cen (frm x0 x1 r) k) := by
  pointwise [val_main_v53, val_main_v52, val_main_v51, val_main_cst_13, val_main_v9, val_main_v8, val_main_cst_1]
  simp only [ref_v50, ref_v6, Finset.univ_unique, Finset.sum_singleton]

theorem ref_v44 (r : Fin 8208) (k : Fin 1024) : val_main_v44 (F := Ideal) x0 x1 x2 x4 (ix2 r k)
    = grad x2 x4 r k * rdev (frm x0 x1 r) := by
  pointwise [val_main_v44, val_main_v43]
  simp only [ref_v18, ref_v38]

theorem ref_v63 (r : Fin 8208) (k : Fin 1024) :
    val_main_v63 (F := Ideal) x0 x1 x2 x4 (ix2 r k) = refr (frm x0 x1 r) (grad x2 x4 r) k := by
  pointwise [val_main_v63, val_main_v62, val_main_v61, val_main_cst_16, val_main_v60, val_main_v59, val_main_cst_15, val_main_v58,
    val_main_v56, val_main_v55, val_main_cst_14, val_main_v54, val_main_v48, val_main_v47, val_main_cst_11, val_main_v46, val_main_v57]
  simp only [ref_v53, ref_v44, Finset.univ_unique, Finset.sum_singleton]
  rfl

/-- A frame's row and a head's in the stream. -/
def below (s : Fin 8192) : Fin 8208 := ⟨16 + s.val, by omega⟩
def top (s : Fin 16) : Fin 8208 := ⟨s.val, by omega⟩

/-- The frames' gradient, the head's, the gain's and the bias's. -/
def dxV : FVec Ideal S8192x1024 .f32 := fun i : S8192x1024.Idx => kern (frm x0 x1 (below (i 0))) (grad x2 x4 (below (i 0))) (i 1)
def dhV : FVec Ideal S16x1024 .f32 := fun i : S16x1024.Idx => kern (frm x0 x1 (top (i 0))) (grad x2 x4 (top (i 0))) (i 1)
def dgV : FVec Ideal S1024 .f32 := fun i : S1024.Idx =>
  ∑ r : Fin 8208, (x4 (ix2 r (i 0)) : EReal) * (cen (frm x0 x1 r) (i 0) * rdev (frm x0 x1 r))
def dbV : FVec Ideal S1024 .f32 := fun i : S1024.Idx => ∑ r : Fin 8208, (x4 (ix2 r (i 0)) : EReal)

theorem ref_dx (h : ∀ r k, ∃ y : ℝ, grad x2 x4 r k = y) : val_main_v65 (F := Ideal) x0 x1 x2 x4 = dxV x0 x1 x2 x4 := by
  funext i
  refine Eq.trans ((val_main_v65_apply (F := Ideal) x0 x1 x2 x4 i).trans (Eq.trans (congrArg _ ?_) (ref_v63 x0 x1 x2 x4 (below (i 0)) (i 1))))
    (row_same _ _ (h _) (i 1)).symm
  funext a; fin_cases a <;> rfl

theorem ref_dh (h : ∀ r k, ∃ y : ℝ, grad x2 x4 r k = y) : val_main_v64 (F := Ideal) x0 x1 x2 x4 = dhV x0 x1 x2 x4 := by
  funext i
  refine Eq.trans ((val_main_v64_apply (F := Ideal) x0 x1 x2 x4 i).trans (Eq.trans (congrArg _ ?_) (ref_v63 x0 x1 x2 x4 (top (i 0)) (i 1))))
    (row_same _ _ (h _) (i 1)).symm
  funext a; fin_cases a <;> rfl

theorem ref_dg : val_main_v39 (F := Ideal) x0 x1 x4 = dgV x0 x1 x4 := by
  funext i
  idx_vars i
  pointwise [val_main_v39, val_main_cst_9, val_main_v36, val_main_v35, val_main_cst_8, val_main_v34, val_main_v30, val_main_v23, val_main_v22]
  simp only [ref_v15, ref_v18, Finset.univ_unique, Finset.sum_singleton]
  exact Finset.sum_congr rfl fun r _ => mul_comm (G := EReal) _ _

theorem ref_db : val_main_v33 (F := Ideal) x4 = dbV x4 := by
  funext i
  idx_vars i
  pointwise [val_main_v33, val_main_cst_7, val_main_v32, val_main_v31, val_main_cst_6]
  simp only [Finset.univ_unique, Finset.sum_singleton]
  rfl

end

variable (m : (ℓ : Loc nD τ sig) → Buf (Elt Ideal) ℓ) (c : Dev nD)

/-- The call's gradients. -/
abbrev dxK := dxV (m ((c.tc : Thread nD τ).loc main_arg0)) (m ((c.tc : Thread nD τ).loc main_arg1)) (m ((c.tc : Thread nD τ).loc main_arg2)) (m ((c.tc : Thread nD τ).loc main_arg4))
abbrev dhK := dhV (m ((c.tc : Thread nD τ).loc main_arg0)) (m ((c.tc : Thread nD τ).loc main_arg1)) (m ((c.tc : Thread nD τ).loc main_arg2)) (m ((c.tc : Thread nD τ).loc main_arg4))
abbrev dgK := dgV (m ((c.tc : Thread nD τ).loc main_arg0)) (m ((c.tc : Thread nD τ).loc main_arg1)) (m ((c.tc : Thread nD τ).loc main_arg4))
abbrev dbK := dbV (m ((c.tc : Thread nD τ).loc main_arg4))

/-- The first point writes no frames back. -/
theorem later (t : Fin cfg0.N) (h : (cfg0.win 4).flush t = true) : ¬t.val % 65 = 0 := fun e => by
  rw [flush4 t e] at h; exact absurd h (by decide)

theorem out4 : (dats m 0 c).arrAt 4 cfg0.N = dxK m c := by
  refine (dats m 0 c).arrAt_eq_of_covers 4 _ (by decide +kernel) fun t hf y => ?_
  have e := (idx t).2.2.2.2
  have ht : t.val < 65 := Nat.lt_of_lt_of_eq t.isLt N_0
  have hl := later t hf
  have h0 : (y 0).val < 128 := (y 0).isLt
  blk_simp [e]
  rw [after0_4]
  have hy : (win0_4.blk t).view.emb y = ix2 (⟨128 * (t.val - 1) + (y 0).val, by omega⟩ : Fin 8192) (y 1) := by
    blk_ext [e]
  rw [hy]
  refine Eq.trans ?_ (dx_at m c t (y 0) (y 1) (below ⟨128 * (t.val - 1) + (y 0).val, by omega⟩) (by
    show 112 + (16 + (128 * (t.val - 1) + (y 0).val)) = 128 * t.val + (y 0).val; omega))
  refine congrArg (dxAt m c t) ?_
  funext a; fin_cases a <;> rfl

/-- The head's block and the sums after the last point. -/
theorem out5 : (dats m 0 c).arrAt 5 cfg0.N = dxAt m c (pt 0) := by
  refine (dats m 0 c).arrAt_eq_of_after_last 5 (pt 64) (by decide +kernel) _ fun j => ?_
  blk_simp
  rw [after0_5]

theorem out6 : (dats m 0 c).arrAt 6 cfg0.N = accN m c 64 := by
  refine (dats m 0 c).arrAt_eq_of_after_last 6 (pt 64) (by decide +kernel) _ fun j => ?_
  blk_simp
  rw [after0_6]
  rfl

/-- The head's gradient is the last rows of its block. -/
theorem W_head (i : Fin 16) (k : Fin 1024) :
    (Pipeline.afterTail₀ cfgs (dats m) 0 (V0 m) [hostOps1] c main_v25 : Vec Ideal S16x1024 .f32) (ix2 i k)
      = (dats m 0 c).arrAt 5 cfg0.N (ix2 (⟨112 + i.val, by omega⟩ : Fin 128) k) := by
  have e := Pipeline.withArrays_arr spec0 (by decide) c (V0 m c) (fun w => (dats m 0 c).arrAt w cfg0.N) 5
  unfold Pipeline.afterTail₀
  simp only [List.flatten_cons, List.flatten_nil, List.append_nil]
  after_reads_simp
  refine (congrArg (fun A : Vec Ideal S128x1024 .f32 =>
    extractStridedSlice S16x1024 ![112, 0] A slices_S128x1024_S16x1024_112_0 (ix2 i k)) e).trans ?_
  pointwise

/-- The gain's gradient is row 0 of the sums, -/
theorem W_gain (k : Fin 1024) :
    (Pipeline.afterTail₀ cfgs (dats m) 0 (V0 m) [hostOps1] c main_v27 : Vec Ideal S1024 .f32) (ix1 k)
      = (dats m 0 c).arrAt 6 cfg0.N (ix2 (0 : Fin 8) k) := by
  have e := Pipeline.withArrays_arr spec0 (by decide) c (V0 m c) (fun w => (dats m 0 c).arrAt w cfg0.N) 6
  unfold Pipeline.afterTail₀
  simp only [List.flatten_cons, List.flatten_nil, List.append_nil]
  after_reads_simp
  refine (congrArg (fun A : Vec Ideal S8x1024 .f32 =>
    shapeCast S1024 (extractStridedSlice S1x1024 ![0, 0] A slices_S8x1024_S1x1024_0_0) shapeCasts_S1x1024_S1024 (ix1 k)) e).trans ?_
  pointwise

/-- and the bias's row 1. -/
theorem W_bias (k : Fin 1024) :
    (Pipeline.afterTail₀ cfgs (dats m) 0 (V0 m) [hostOps1] c main_v29 : Vec Ideal S1024 .f32) (ix1 k)
      = (dats m 0 c).arrAt 6 cfg0.N (ix2 (1 : Fin 8) k) := by
  have e := Pipeline.withArrays_arr spec0 (by decide) c (V0 m c) (fun w => (dats m 0 c).arrAt w cfg0.N) 6
  unfold Pipeline.afterTail₀
  simp only [List.flatten_cons, List.flatten_nil, List.append_nil]
  after_reads_simp
  refine (congrArg (fun A : Vec Ideal S8x1024 .f32 =>
    shapeCast S1024 (extractStridedSlice S1x1024 ![1, 0] A slices_S8x1024_S1x1024_1_0) shapeCasts_S1x1024_S1024 (ix1 k)) e).trans ?_
  pointwise

theorem head_is : (Pipeline.afterTail₀ cfgs (dats m) 0 (V0 m) [hostOps1] c main_v25 : Vec Ideal S16x1024 .f32) = dhK m c := by
  funext x; idx_vars x
  refine (W_head m c _ _).trans ?_
  rw [out5]
  exact dx_at m c (pt 0) _ _ (top _) (by show _ = 128 * (0 % 65) + _; simp [top])

theorem gain_is : (Pipeline.afterTail₀ cfgs (dats m) 0 (V0 m) [hostOps1] c main_v27 : Vec Ideal S1024 .f32) = dgK m c := by
  funext x; idx_vars x
  refine (W_gain m c _).trans ?_
  rw [out6]
  exact gain_sum m c _

theorem bias_is : (Pipeline.afterTail₀ cfgs (dats m) 0 (V0 m) [hostOps1] c main_v29 : Vec Ideal S1024 .f32) = dbK m c := by
  funext x; idx_vars x
  refine (W_bias m c _).trans ?_
  rw [out6]
  exact bias_sum m c _

/-- Every run ends with the four gradients. -/
theorem run_values (ρ : Dev nD → PrngReg) :
    θ_run defs (onTc (τ := τ) (main (F := Ideal))) ⟨m, fun _ => 0, ρ⟩ (fun r => ∀ c : Dev nD,
      r.2.mem ((c.tc : Thread nD τ).loc main_v24_0) = dxK m c
      ∧ r.2.mem ((c.tc : Thread nD τ).loc main_v25) = dhK m c
      ∧ r.2.mem ((c.tc : Thread nD τ).loc main_v27) = dgK m c
      ∧ r.2.mem ((c.tc : Thread nD τ).loc main_v29) = dbK m c) := by
  refine (θ_run defs _ _).mono (fun r h c => ⟨?_, ?_, ?_, ?_⟩) (run_main m ρ)
  · exact ((h c).1 4).trans (out4 m c)
  · exact ((h c).2 main_v25 (Pipeline.mem_restRefs_of main_v25 (by decide) (by decide))).trans (head_is m c)
  · exact ((h c).2 main_v27 (Pipeline.mem_restRefs_of main_v27 (by decide) (by decide))).trans (gain_is m c)
  · exact ((h c).2 main_v29 (Pipeline.mem_restRefs_of main_v29 (by decide) (by decide))).trans (bias_is m c)

end Cert.Kernel12Ideal.Inp

end
-- ==== Proof.Inp.Same.lean ====
module
public import proofs.«01_k».proof.Defs
public import proofs.«01_k».proof.Proof.Bwd.Finite
public import proofs.«01_k».proof.Proof.Inp.Vals
public import proofs.«01_k».proof.Proof.Gen.Kernel12
public import proofs.«01_k».proof.Proof.Gen.Reference12Ideal.Run
public import Idealize.ShloMosaic.Lib.StableHlo.RunRead
@[expose] public section

set_option maxRecDepth 16384

noncomputable section

namespace Cert.Kernel12Ideal.Inp

open Cert.Kernel12Ideal.Gen
open Idealize.ShloMosaic Idealize.ShloMosaic.TcCoe

/-! # The input normalisation's gradient against its reference -/

/-- The shape relations of the precondition. -/
instance preFacts : Cert.Pre_finite12.Facts where
  bcast_S_S1024 := by decide
  bcast_S_S8208x1024 := by decide

/-- The gradient behind the gain is finite. -/
theorem grad_finite (m : (ℓ : Loc nD τ sig) → Buf (Elt Ideal) ℓ) (h : Cert.Pre_Kernel12Ideal_finite12 m) (c : Dev nD)
    (r : Fin 8208) (k : Fin 1024) : ∃ y : ℝ, gradK m c r k = y := by
  obtain ⟨e0, e1⟩ := h c
  obtain ⟨g, hg⟩ := KernelIdeal.Bwd.real_of_ones _ _ _ e0 (ix1 k)
  obtain ⟨y, hy⟩ := KernelIdeal.Bwd.real_of_ones _ _ _ e1 (ix2 r k)
  have e : gradK m c r k = (y : EReal) * (g : EReal) := congrArg₂ (fun p q : EReal => p * q) hy hg
  exact ⟨y * g, e.trans (EReal.coe_mul _ _).symm⟩

theorem same : Cert.algebraic_Kernel12Ideal_Reference12Ideal_pre_finite12 := fun m ρ m' ρ' hpre hsame =>
  ⟨fun c => dxK m c, fun c => dhK m c, fun c => dgK m c, fun c => dbK m c,
    (θ_run defs _ _).mono (fun r h c => ⟨(h.1 c).1, (h.1 c).2.1, (h.1 c).2.2.1, (h.1 c).2.2.2, h.2.1 c⟩)
      (θ_run_and (run_values m ρ) (frame m ρ)),
    (θ_run Cert.Reference12Ideal.defs _ _).mono (fun r h c => by
        obtain ⟨b0, b1, b2, b3, u⟩ := h c
        obtain ⟨a0, a1, a2, a3, a4⟩ := hsame c
        refine ⟨b0.trans ?_, b1.trans ?_, b2.trans ?_, b3.trans ?_, u⟩
        · rw [Cert.Reference12Ideal.Read.val_main_v65_eq, a0, a1, a2, a4]
          exact ref_dx _ _ _ _ (grad_finite m hpre c)
        · rw [Cert.Reference12Ideal.Read.val_main_v64_eq, a0, a1, a2, a4]
          exact ref_dh _ _ _ _ (grad_finite m hpre c)
        · refine (Cert.Reference12Ideal.Read.val_main_v39_eq _ _ _).trans ?_
          rw [a0, a1, a4]
          exact ref_dg _ _ _
        · refine (Cert.Reference12Ideal.Read.val_main_v33_eq _).trans ?_
          rw [a4]
          exact ref_db _)
      (Cert.Reference12Ideal.Value.run (F := Ideal) m' ρ')⟩

/-- The frame over the reals. -/
theorem frame_ideal : Cert.quiescent_Kernel12Ideal := fun m ρ _ => frame (F := Ideal) m ρ

set_option maxHeartbeats 2000000 in
/-- The two programs have the same body table, -/
theorem defs₀_same : Cert.Kernel12.defs₀ (F := Bits) = Cert.Kernel12Ideal.defs₀ (F := Bits) := by
  unfold Cert.Kernel12.defs₀ Cert.Kernel12Ideal.defs₀
  congr 1
  funext l a
  match l with
  | 0 => rfl

/-- the same table with the pipeline's steps, -/
theorem defs_same : Cert.Kernel12.defs (F := Bits) = Cert.Kernel12Ideal.defs (F := Bits) :=
  congrArg (Pipeline.defs (Cert.Kernel12Ideal.pcfgs (F := Bits))) defs₀_same

set_option maxHeartbeats 2000000 in
/-- and the same host function. -/
theorem main_same : Cert.Kernel12.main (F := Bits) = Cert.Kernel12Ideal.main (F := Bits) := rfl

/-- The frame of the program over floats: the same text as the one over the reals. -/
theorem frame_bits : Cert.quiescent_Kernel12 := fun m ρ _ => by
  rw [show Cert.Kernel12.defs (F := Bits) = _ from defs_same, show Cert.Kernel12.main (F := Bits) = _ from main_same]
  exact frame (F := Bits) m ρ

end Cert.Kernel12Ideal.Inp

end
-- ==== Proof.lean ====
module
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Bwd.FrameKernel
public import proofs.«01_k».proof.Proof.Bwd.Finite
public import proofs.«01_k».proof.Proof.Bwd.Results
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Fwd.FrameKernel2
public import proofs.«01_k».proof.Proof.Fwd.Results
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import proofs.«01_k».proof.Proof.Dw13.FrameKernel3
public import proofs.«01_k».proof.Proof.Dw13.Results
public import proofs.«01_k».proof.Proof.Gen.Kernel4
public import proofs.«01_k».proof.Proof.Gen.Kernel4Ideal
public import proofs.«01_k».proof.Proof.Gen.Reference4Ideal
public import proofs.«01_k».proof.Proof.Gen.Reference4Ideal.Run
public import proofs.«01_k».proof.Proof.Dw2.FrameKernel4
public import proofs.«01_k».proof.Proof.Dw2.Results
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Opt.Up
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Opt.Down
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.Opt.In
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.Opt.Out
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Reference9Ideal.Run
public import proofs.«01_k».proof.Proof.Opt.Pw
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal
public import proofs.«01_k».proof.Proof.Gen.Reference10Ideal.Run
public import proofs.«01_k».proof.Proof.Opt.SmallSame
public import proofs.«01_k».proof.Proof.Gen.Kernel11
public import proofs.«01_k».proof.Proof.Gen.Kernel11Ideal
public import proofs.«01_k».proof.Proof.Gen.Reference11Ideal
public import proofs.«01_k».proof.Proof.Gen.Reference11Ideal.Run
public import proofs.«01_k».proof.Proof.Loss.Same
public import proofs.«01_k».proof.Proof.Gen.Kernel12
public import proofs.«01_k».proof.Proof.Gen.Kernel12Ideal
public import proofs.«01_k».proof.Proof.Gen.Reference12Ideal
public import proofs.«01_k».proof.Proof.Gen.Reference12Ideal.Run
public import proofs.«01_k».proof.Proof.Inp.Same
public import Idealize.ShloMosaic.Lib.Pointwise
@[expose] public section
set_option maxRecDepth 16384
noncomputable section

namespace Cert.Proof

open Idealize.ShloMosaic Idealize.ShloMosaic.TcCoe

/-- The reference runs, its arguments unchanged; it declares no semaphore. -/
theorem frame_reference : Cert.quiescent_ReferenceIdeal := fun m ρ _ =>
  (θ_run Cert.ReferenceIdeal.defs _ _).mono
    (fun r h => ⟨fun c => (h c).2.2.2, sem_eq_zero_of_no_sems (by decide) r.2⟩)
    (Cert.ReferenceIdeal.Value.run (F := Ideal) m ρ)

/-- Both programs end with the same three gradients. -/
theorem same_gradients : Cert.algebraic_KernelIdeal_ReferenceIdeal_pre_finite := fun m ρ m' ρ' hpre hsame => by
  choose H P Q G Y h0 h1 h2 h3 h5 using Cert.KernelIdeal.Bwd.exists_reals m hpre
  refine ⟨_, _, _, Cert.KernelIdeal.Bwd.run_kernel H P Q G Y m ρ h0 h1 h2 h3 h5,
    Cert.KernelIdeal.Bwd.run_reference H P Q G Y m' ρ' (fun c r k => ?_) (fun c r k => ?_) (fun c r k => ?_) (fun c k => ?_)
      (fun c r k => ?_)⟩
  · exact (congrFun (hsame c).1 _).trans (h0 c r k)
  · exact (congrFun (hsame c).2.1 _).trans (h1 c r k)
  · exact (congrFun (hsame c).2.2.1 _).trans (h2 c r k)
  · exact (congrFun (hsame c).2.2.2.1 _).trans (h3 c k)
  · exact (congrFun (hsame c).2.2.2.2.2 _).trans (h5 c r k)

/-- The forward call's reference runs, its arguments unchanged. -/
theorem frame_reference2 : Cert.quiescent_Reference2Ideal := fun m ρ _ =>
  (θ_run Cert.Reference2Ideal.defs _ _).mono
    (fun r h => ⟨fun c => (h c).2.2.2.2.2, sem_eq_zero_of_no_sems (by decide) r.2⟩)
    (Cert.Reference2Ideal.Value.run (F := Ideal) m ρ)

/-- The forward call and its reference end with the same five results. -/
theorem same_forward : Cert.algebraic_Kernel2Ideal_Reference2Ideal := fun m ρ m' ρ' _ hsame =>
  ⟨_, _, _, _, _, Cert.Kernel2Ideal.Fwd.run_kernel
      (fun c r k => (m ((c.tc : Thread Cert.Kernel2Ideal.nD Cert.Kernel2Ideal.τ).loc Cert.Kernel2Ideal.main_arg0) : Vec Ideal Cert.Kernel2Ideal.S8320x1024 .f32) (ix2 r k))
      (fun c k => (m ((c.tc : Thread Cert.Kernel2Ideal.nD Cert.Kernel2Ideal.τ).loc Cert.Kernel2Ideal.main_arg1) : Vec Ideal Cert.Kernel2Ideal.S1024 .f32) (ix1 k))
      (fun c k => (m ((c.tc : Thread Cert.Kernel2Ideal.nD Cert.Kernel2Ideal.τ).loc Cert.Kernel2Ideal.main_arg2) : Vec Ideal Cert.Kernel2Ideal.S1024 .f32) (ix1 k))
      (fun c k n => (m ((c.tc : Thread Cert.Kernel2Ideal.nD Cert.Kernel2Ideal.τ).loc Cert.Kernel2Ideal.main_arg3) : Vec Ideal Cert.Kernel2Ideal.S1024x5504 .f32) (ix2 k n))
      (fun c n k => (m ((c.tc : Thread Cert.Kernel2Ideal.nD Cert.Kernel2Ideal.τ).loc Cert.Kernel2Ideal.main_arg4) : Vec Ideal Cert.Kernel2Ideal.S2752x1024 .f32) (ix2 n k))
      m ρ (fun _ _ _ => rfl) (fun _ _ => rfl) (fun _ _ => rfl) (fun _ _ _ => rfl) (fun _ _ _ => rfl),
    Cert.Kernel2Ideal.Fwd.run_reference _ _ _ _ _ m' ρ' (fun c r k => congrFun (hsame c).1 _) (fun c k => congrFun (hsame c).2.1 _)
      (fun c k => congrFun (hsame c).2.2.1 _) (fun c k n => congrFun (hsame c).2.2.2.1 _) (fun c n k => congrFun (hsame c).2.2.2.2 _)⟩

/-- The reference of the up projection's weight gradient runs, its arguments unchanged. -/
theorem frame_reference3 : Cert.quiescent_Reference3Ideal := fun m ρ _ =>
  (θ_run Cert.Reference3Ideal.defs _ _).mono
    (fun r h => ⟨fun c => (h c).2, sem_eq_zero_of_no_sems (by decide) r.2⟩)
    (Cert.Reference3Ideal.Value.run (F := Ideal) m ρ)

/-- The call for the up projection's weight and its reference end with the same gradient. -/
theorem same_up : Cert.algebraic_Kernel3Ideal_Reference3Ideal := fun m ρ m' ρ' _ hsame =>
  ⟨_, Cert.Kernel3Ideal.Dw13.run_kernel m ρ,
    (θ_run Cert.Reference3Ideal.defs _ _).mono
      (fun r h c => ⟨(h c).1.trans (congrArg₂ Cert.Kernel3Ideal.Dw13.gradUp (hsame c).1 (hsame c).2), (h c).2⟩)
      (Cert.Kernel3Ideal.Dw13.run_reference m' ρ')⟩

/-- The reference of the down projection's weight gradient runs, its arguments unchanged. -/
theorem frame_reference4 : Cert.quiescent_Reference4Ideal := fun m ρ _ =>
  (θ_run Cert.Reference4Ideal.defs _ _).mono
    (fun r h => ⟨fun c => (h c).2, sem_eq_zero_of_no_sems (by decide) r.2⟩)
    (Cert.Reference4Ideal.Value.run (F := Ideal) m ρ)

/-- The call for the down projection's weight and its reference end with the same gradient. -/
theorem same_down : Cert.algebraic_Kernel4Ideal_Reference4Ideal := fun m ρ m' ρ' _ hsame =>
  ⟨_, Cert.Kernel4Ideal.Dw2.run_kernel m ρ,
    (θ_run Cert.Reference4Ideal.defs _ _).mono
      (fun r h c => ⟨(h c).1.trans (congrArg₂ Cert.Kernel4Ideal.Dw2.gradDown (hsame c).1 (hsame c).2), (h c).2⟩)
      (Cert.Kernel4Ideal.Dw2.run_reference m' ρ')⟩

/-- The reference of the step of the up projections runs, its arguments unchanged. -/
theorem frame_reference5 : Cert.quiescent_Reference5Ideal := fun m ρ _ =>
  (θ_run Cert.Reference5Ideal.defs _ _).mono
    (fun r h => ⟨fun c => (h c).2.2.2, sem_eq_zero_of_no_sems (by decide) r.2⟩)
    (Cert.Reference5Ideal.Value.run (F := Ideal) m ρ)

/-- The reference of the step of the down projections runs, its arguments unchanged. -/
theorem frame_reference6 : Cert.quiescent_Reference6Ideal := fun m ρ _ =>
  (θ_run Cert.Reference6Ideal.defs _ _).mono
    (fun r h => ⟨fun c => (h c).2.2.2, sem_eq_zero_of_no_sems (by decide) r.2⟩)
    (Cert.Reference6Ideal.Value.run (F := Ideal) m ρ)

/-- The reference of the step of the input projections runs, its arguments unchanged. -/
theorem frame_reference7 : Cert.quiescent_Reference7Ideal := fun m ρ _ =>
  (θ_run Cert.Reference7Ideal.defs _ _).mono
    (fun r h => ⟨fun c => (h c).2.2.2, sem_eq_zero_of_no_sems (by decide) r.2⟩)
    (Cert.Reference7Ideal.Value.run (F := Ideal) m ρ)

/-- The reference of the step of the output projections runs, its arguments unchanged. -/
theorem frame_reference8 : Cert.quiescent_Reference8Ideal := fun m ρ _ =>
  (θ_run Cert.Reference8Ideal.defs _ _).mono
    (fun r h => ⟨fun c => (h c).2.2.2, sem_eq_zero_of_no_sems (by decide) r.2⟩)
    (Cert.Reference8Ideal.Value.run (F := Ideal) m ρ)

/-- The reference of the step of the pointwise convolutions runs, its arguments unchanged. -/
theorem frame_reference9 : Cert.quiescent_Reference9Ideal := fun m ρ _ =>
  (θ_run Cert.Reference9Ideal.defs _ _).mono
    (fun r h => ⟨fun c => (h c).2.2.2, sem_eq_zero_of_no_sems (by decide) r.2⟩)
    (Cert.Reference9Ideal.Value.run (F := Ideal) m ρ)

/-- The reference of the step of the small parameters runs, its arguments unchanged. -/
theorem frame_reference10 : Cert.quiescent_Reference10Ideal := fun m ρ _ =>
  (θ_run Cert.Reference10Ideal.defs _ _).mono
    (fun r h => ⟨fun c => (h c).2.2.2.2.2.2.2.2.2.2.2.2.2.2.2.2.2.2.2.2.2.2.2.2.2.2.2.2.2.2.2.2.2.2.2.2, sem_eq_zero_of_no_sems (by decide) r.2⟩)
    (Cert.Reference10Ideal.Value.run (F := Ideal) m ρ)

/-- The loss's reference runs, its arguments unchanged. -/
theorem frame_reference11 : Cert.quiescent_Reference11Ideal := fun m ρ _ =>
  (θ_run Cert.Reference11Ideal.defs _ _).mono
    (fun r h => ⟨fun c => (h c).2.2, sem_eq_zero_of_no_sems (by decide) r.2⟩)
    (Cert.Reference11Ideal.Value.run (F := Ideal) m ρ)

/-- The reference of the input normalisation's gradient runs, its arguments unchanged. -/
theorem frame_reference12 : Cert.quiescent_Reference12Ideal := fun m ρ _ =>
  (θ_run Cert.Reference12Ideal.defs _ _).mono
    (fun r h => ⟨fun c => (h c).2.2.2.2, sem_eq_zero_of_no_sems (by decide) r.2⟩)
    (Cert.Reference12Ideal.Value.run (F := Ideal) m ρ)

/-- Everything that is claimed. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.KernelIdeal.Bwd.preFacts, Cert.Kernel11Ideal.Loss.preFacts, Cert.Kernel12Ideal.Inp.preFacts,
    frame_kernel, frame_kernelIdeal, fun m ρ _ => frame_kernelIdeal m ρ trivial,
    frame_reference, fun m ρ _ => frame_reference m ρ trivial,
    frame_kernel2, frame_kernel2Ideal, frame_reference2,
    frame_kernel3, frame_kernel3Ideal, frame_reference3,
    frame_kernel4, frame_kernel4Ideal, frame_reference4,
    fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ, frame_reference6,
    fun m ρ _ => Cert.Kernel7.Gen.frame m ρ, fun m ρ _ => Cert.Kernel7Ideal.Gen.frame m ρ, frame_reference7,
    fun m ρ _ => Cert.Kernel8.Gen.frame m ρ, fun m ρ _ => Cert.Kernel8Ideal.Gen.frame m ρ, frame_reference8,
    fun m ρ _ => Cert.Kernel9.Gen.frame m ρ, fun m ρ _ => Cert.Kernel9Ideal.Gen.frame m ρ, frame_reference9,
    fun m ρ _ => Cert.Kernel10.Gen.frame m ρ, fun m ρ _ => Cert.Kernel10Ideal.Gen.frame m ρ, frame_reference10,
    Cert.Kernel11Ideal.Loss.frame_bits, Cert.Kernel11Ideal.Loss.frame_ideal, fun m ρ _ => Cert.Kernel11Ideal.Loss.frame_ideal m ρ trivial,
    frame_reference11, fun m ρ _ => frame_reference11 m ρ trivial,
    Cert.Kernel12Ideal.Inp.frame_bits, Cert.Kernel12Ideal.Inp.frame_ideal, fun m ρ _ => Cert.Kernel12Ideal.Inp.frame_ideal m ρ trivial,
    frame_reference12, fun m ρ _ => frame_reference12 m ρ trivial,
    trivial, same_gradients, trivial, same_forward, trivial, same_up, trivial, same_down,
    trivial, Cert.Kernel5Ideal.Opt.same,
    trivial, Cert.Kernel6Ideal.Opt.same,
    trivial, Cert.Kernel7Ideal.Opt.same,
    trivial, Cert.Kernel8Ideal.Opt.same,
    trivial, Cert.Kernel9Ideal.Opt.same,
    trivial, Cert.Kernel10Ideal.Opt.same,
    trivial, Cert.Kernel11Ideal.Loss.same,
    trivial, Cert.Kernel12Ideal.Inp.same⟩

end Cert.Proof

end
